-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_pre [hPre_glu_pre : Cert.Pre_glu_pre.Facts] (m : (ℓ : Loc Cert.GluIdeal.nD Cert.GluIdeal.τ Cert.GluIdeal.sig) → Buf (Elt Ideal) ℓ) : Prop :=
  ∀ c : Dev Cert.GluIdeal.nD,
    (Cert.Pre_glu_pre.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4))) = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_pre [hPre_glu_pre : Cert.Pre_glu_pre.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_pre.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4))) = (fun _ => 1#1)

def Pre_Ffd (m : (ℓ : Loc Cert.Ffd.nD Cert.Ffd.τ Cert.Ffd.sig) → Buf (Elt Bits) ℓ) : Prop :=
  True

def Pre_FfdIdeal (m : (ℓ : Loc Cert.FfdIdeal.nD Cert.FfdIdeal.τ Cert.FfdIdeal.sig) → Buf (Elt Ideal) ℓ) : Prop :=
  True

def Pre_FfdIdeal_ffd_pre [hPre_ffd_pre : Cert.Pre_ffd_pre.Facts] (m : (ℓ : Loc Cert.FfdIdeal.nD Cert.FfdIdeal.τ Cert.FfdIdeal.sig) → Buf (Elt Ideal) ℓ) : Prop :=
  ∀ c : Dev Cert.FfdIdeal.nD,
    (Cert.Pre_ffd_pre.fn (F := Ideal) (m ((c.tc : Thread Cert.FfdIdeal.nD Cert.FfdIdeal.τ).loc Cert.FfdIdeal.main_arg0)) (m ((c.tc : Thread Cert.FfdIdeal.nD Cert.FfdIdeal.τ).loc Cert.FfdIdeal.main_arg1)) (m ((c.tc : Thread Cert.FfdIdeal.nD Cert.FfdIdeal.τ).loc Cert.FfdIdeal.main_arg2)) (m ((c.tc : Thread Cert.FfdIdeal.nD Cert.FfdIdeal.τ).loc Cert.FfdIdeal.main_arg3))) = (fun _ => 1#1)

def Pre_FfdRefIdeal (m : (ℓ : Loc Cert.FfdRefIdeal.nD Cert.FfdRefIdeal.τ Cert.FfdRefIdeal.sig) → Buf (Elt Ideal) ℓ) : Prop :=
  True

def Pre_FfdRefIdeal_ffd_pre [hPre_ffd_pre : Cert.Pre_ffd_pre.Facts] (m : (ℓ : Loc Cert.FfdRefIdeal.nD Cert.FfdRefIdeal.τ Cert.FfdRefIdeal.sig) → Buf (Elt Ideal) ℓ) : Prop :=
  ∀ c : Dev Cert.FfdRefIdeal.nD,
    (Cert.Pre_ffd_pre.fn (F := Ideal) (m ((c.tc : Thread Cert.FfdRefIdeal.nD Cert.FfdRefIdeal.τ).loc Cert.FfdRefIdeal.main_arg0)) (m ((c.tc : Thread Cert.FfdRefIdeal.nD Cert.FfdRefIdeal.τ).loc Cert.FfdRefIdeal.main_arg1)) (m ((c.tc : Thread Cert.FfdRefIdeal.nD Cert.FfdRefIdeal.τ).loc Cert.FfdRefIdeal.main_arg2)) (m ((c.tc : Thread Cert.FfdRefIdeal.nD Cert.FfdRefIdeal.τ).loc Cert.FfdRefIdeal.main_arg3))) = (fun _ => 1#1)

def Pre_Opb (m : (ℓ : Loc Cert.Opb.nD Cert.Opb.τ Cert.Opb.sig) → Buf (Elt Bits) ℓ) : Prop :=
  True

def Pre_OpbIdeal (m : (ℓ : Loc Cert.OpbIdeal.nD Cert.OpbIdeal.τ Cert.OpbIdeal.sig) → Buf (Elt Ideal) ℓ) : Prop :=
  True

def Pre_OpbRefIdeal (m : (ℓ : Loc Cert.OpbRefIdeal.nD Cert.OpbRefIdeal.τ Cert.OpbRefIdeal.sig) → Buf (Elt Ideal) ℓ) : Prop :=
  True

def Pre_Ffi (m : (ℓ : Loc Cert.Ffi.nD Cert.Ffi.τ Cert.Ffi.sig) → Buf (Elt Bits) ℓ) : Prop :=
  True

def Pre_FfiIdeal (m : (ℓ : Loc Cert.FfiIdeal.nD Cert.FfiIdeal.τ Cert.FfiIdeal.sig) → Buf (Elt Ideal) ℓ) : Prop :=
  True

def Pre_FfiIdeal_ffi_pre [hPre_ffi_pre : Cert.Pre_ffi_pre.Facts] (m : (ℓ : Loc Cert.FfiIdeal.nD Cert.FfiIdeal.τ Cert.FfiIdeal.sig) → Buf (Elt Ideal) ℓ) : Prop :=
  ∀ c : Dev Cert.FfiIdeal.nD,
    (Cert.Pre_ffi_pre.fn (F := Ideal) (m ((c.tc : Thread Cert.FfiIdeal.nD Cert.FfiIdeal.τ).loc Cert.FfiIdeal.main_arg0)) (m ((c.tc : Thread Cert.FfiIdeal.nD Cert.FfiIdeal.τ).loc Cert.FfiIdeal.main_arg1)) (m ((c.tc : Thread Cert.FfiIdeal.nD Cert.FfiIdeal.τ).loc Cert.FfiIdeal.main_arg2)) (m ((c.tc : Thread Cert.FfiIdeal.nD Cert.FfiIdeal.τ).loc Cert.FfiIdeal.main_arg3)) (m ((c.tc : Thread Cert.FfiIdeal.nD Cert.FfiIdeal.τ).loc Cert.FfiIdeal.main_arg4)) (m ((c.tc : Thread Cert.FfiIdeal.nD Cert.FfiIdeal.τ).loc Cert.FfiIdeal.main_arg5)) (m ((c.tc : Thread Cert.FfiIdeal.nD Cert.FfiIdeal.τ).loc Cert.FfiIdeal.main_arg6))) = (fun _ => 1#1)

def Pre_FfiRefIdeal (m : (ℓ : Loc Cert.FfiRefIdeal.nD Cert.FfiRefIdeal.τ Cert.FfiRefIdeal.sig) → Buf (Elt Ideal) ℓ) : Prop :=
  True

def Pre_FfiRefIdeal_ffi_pre [hPre_ffi_pre : Cert.Pre_ffi_pre.Facts] (m : (ℓ : Loc Cert.FfiRefIdeal.nD Cert.FfiRefIdeal.τ Cert.FfiRefIdeal.sig) → Buf (Elt Ideal) ℓ) : Prop :=
  ∀ c : Dev Cert.FfiRefIdeal.nD,
    (Cert.Pre_ffi_pre.fn (F := Ideal) (m ((c.tc : Thread Cert.FfiRefIdeal.nD Cert.FfiRefIdeal.τ).loc Cert.FfiRefIdeal.main_arg0)) (m ((c.tc : Thread Cert.FfiRefIdeal.nD Cert.FfiRefIdeal.τ).loc Cert.FfiRefIdeal.main_arg1)) (m ((c.tc : Thread Cert.FfiRefIdeal.nD Cert.FfiRefIdeal.τ).loc Cert.FfiRefIdeal.main_arg2)) (m ((c.tc : Thread Cert.FfiRefIdeal.nD Cert.FfiRefIdeal.τ).loc Cert.FfiRefIdeal.main_arg3)) (m ((c.tc : Thread Cert.FfiRefIdeal.nD Cert.FfiRefIdeal.τ).loc Cert.FfiRefIdeal.main_arg4)) (m ((c.tc : Thread Cert.FfiRefIdeal.nD Cert.FfiRefIdeal.τ).loc Cert.FfiRefIdeal.main_arg5)) (m ((c.tc : Thread Cert.FfiRefIdeal.nD Cert.FfiRefIdeal.τ).loc Cert.FfiRefIdeal.main_arg6))) = (fun _ => 1#1)

def Pre_Ipb (m : (ℓ : Loc Cert.Ipb.nD Cert.Ipb.τ Cert.Ipb.sig) → Buf (Elt Bits) ℓ) : Prop :=
  True

def Pre_IpbIdeal (m : (ℓ : Loc Cert.IpbIdeal.nD Cert.IpbIdeal.τ Cert.IpbIdeal.sig) → Buf (Elt Ideal) ℓ) : Prop :=
  True

def Pre_IpbIdeal_ipb_pre [hPre_ipb_pre : Cert.Pre_ipb_pre.Facts] (m : (ℓ : Loc Cert.IpbIdeal.nD Cert.IpbIdeal.τ Cert.IpbIdeal.sig) → Buf (Elt Ideal) ℓ) : Prop :=
  ∀ c : Dev Cert.IpbIdeal.nD,
    (Cert.Pre_ipb_pre.fn (F := Ideal) (m ((c.tc : Thread Cert.IpbIdeal.nD Cert.IpbIdeal.τ).loc Cert.IpbIdeal.main_arg0)) (m ((c.tc : Thread Cert.IpbIdeal.nD Cert.IpbIdeal.τ).loc Cert.IpbIdeal.main_arg1)) (m ((c.tc : Thread Cert.IpbIdeal.nD Cert.IpbIdeal.τ).loc Cert.IpbIdeal.main_arg2)) (m ((c.tc : Thread Cert.IpbIdeal.nD Cert.IpbIdeal.τ).loc Cert.IpbIdeal.main_arg3)) (m ((c.tc : Thread Cert.IpbIdeal.nD Cert.IpbIdeal.τ).loc Cert.IpbIdeal.main_arg4))) = (fun _ => 1#1)

def Pre_IpbRefIdeal (m : (ℓ : Loc Cert.IpbRefIdeal.nD Cert.IpbRefIdeal.τ Cert.IpbRefIdeal.sig) → Buf (Elt Ideal) ℓ) : Prop :=
  True

def Pre_IpbRefIdeal_ipb_pre [hPre_ipb_pre : Cert.Pre_ipb_pre.Facts] (m : (ℓ : Loc Cert.IpbRefIdeal.nD Cert.IpbRefIdeal.τ Cert.IpbRefIdeal.sig) → Buf (Elt Ideal) ℓ) : Prop :=
  ∀ c : Dev Cert.IpbRefIdeal.nD,
    (Cert.Pre_ipb_pre.fn (F := Ideal) (m ((c.tc : Thread Cert.IpbRefIdeal.nD Cert.IpbRefIdeal.τ).loc Cert.IpbRefIdeal.main_arg0)) (m ((c.tc : Thread Cert.IpbRefIdeal.nD Cert.IpbRefIdeal.τ).loc Cert.IpbRefIdeal.main_arg1)) (m ((c.tc : Thread Cert.IpbRefIdeal.nD Cert.IpbRefIdeal.τ).loc Cert.IpbRefIdeal.main_arg2)) (m ((c.tc : Thread Cert.IpbRefIdeal.nD Cert.IpbRefIdeal.τ).loc Cert.IpbRefIdeal.main_arg3)) (m ((c.tc : Thread Cert.IpbRefIdeal.nD Cert.IpbRefIdeal.τ).loc Cert.IpbRefIdeal.main_arg4))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_pre [hPre_ple_pre : Cert.Pre_ple_pre.Facts] (m : (ℓ : Loc Cert.PleIdeal.nD Cert.PleIdeal.τ Cert.PleIdeal.sig) → Buf (Elt Ideal) ℓ) : Prop :=
  ∀ c : Dev Cert.PleIdeal.nD,
    (Cert.Pre_ple_pre.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_pre [hPre_ple_pre : Cert.Pre_ple_pre.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_pre.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4))) = (fun _ => 1#1)

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Spb (m : (ℓ : Loc Cert.Spb.nD Cert.Spb.τ Cert.Spb.sig) → Buf (Elt Bits) ℓ) : Prop :=
  True

def Pre_SpbIdeal (m : (ℓ : Loc Cert.SpbIdeal.nD Cert.SpbIdeal.τ Cert.SpbIdeal.sig) → Buf (Elt Ideal) ℓ) : Prop :=
  True

def Pre_SpbRefIdeal (m : (ℓ : Loc Cert.SpbRefIdeal.nD Cert.SpbRefIdeal.τ Cert.SpbRefIdeal.sig) → Buf (Elt Ideal) ℓ) : Prop :=
  True

def Pre_Att1 (m : (ℓ : Loc Cert.Att1.nD Cert.Att1.τ Cert.Att1.sig) → Buf (Elt Bits) ℓ) : Prop :=
  True

def Pre_Att1Ideal (m : (ℓ : Loc Cert.Att1Ideal.nD Cert.Att1Ideal.τ Cert.Att1Ideal.sig) → Buf (Elt Ideal) ℓ) : Prop :=
  True

def Pre_Att1Ideal_att_pre [hPre_att_pre : Cert.Pre_att_pre.Facts] (m : (ℓ : Loc Cert.Att1Ideal.nD Cert.Att1Ideal.τ Cert.Att1Ideal.sig) → Buf (Elt Ideal) ℓ) : Prop :=
  ∀ c : Dev Cert.Att1Ideal.nD,
    (Cert.Pre_att_pre.fn (F := Ideal) (m ((c.tc : Thread Cert.Att1Ideal.nD Cert.Att1Ideal.τ).loc Cert.Att1Ideal.main_arg0)) (m ((c.tc : Thread Cert.Att1Ideal.nD Cert.Att1Ideal.τ).loc Cert.Att1Ideal.main_arg1)) (m ((c.tc : Thread Cert.Att1Ideal.nD Cert.Att1Ideal.τ).loc Cert.Att1Ideal.main_arg2)) (m ((c.tc : Thread Cert.Att1Ideal.nD Cert.Att1Ideal.τ).loc Cert.Att1Ideal.main_arg3))) = (fun _ => 1#1)

def Pre_Att1RefIdeal (m : (ℓ : Loc Cert.Att1RefIdeal.nD Cert.Att1RefIdeal.τ Cert.Att1RefIdeal.sig) → Buf (Elt Ideal) ℓ) : Prop :=
  True

def Pre_Att1RefIdeal_att_pre [hPre_att_pre : Cert.Pre_att_pre.Facts] (m : (ℓ : Loc Cert.Att1RefIdeal.nD Cert.Att1RefIdeal.τ Cert.Att1RefIdeal.sig) → Buf (Elt Ideal) ℓ) : Prop :=
  ∀ c : Dev Cert.Att1RefIdeal.nD,
    (Cert.Pre_att_pre.fn (F := Ideal) (m ((c.tc : Thread Cert.Att1RefIdeal.nD Cert.Att1RefIdeal.τ).loc Cert.Att1RefIdeal.main_arg0)) (m ((c.tc : Thread Cert.Att1RefIdeal.nD Cert.Att1RefIdeal.τ).loc Cert.Att1RefIdeal.main_arg1)) (m ((c.tc : Thread Cert.Att1RefIdeal.nD Cert.Att1RefIdeal.τ).loc Cert.Att1RefIdeal.main_arg2)) (m ((c.tc : Thread Cert.Att1RefIdeal.nD Cert.Att1RefIdeal.τ).loc Cert.Att1RefIdeal.main_arg3))) = (fun _ => 1#1)

def Pre_Att4 (m : (ℓ : Loc Cert.Att4.nD Cert.Att4.τ Cert.Att4.sig) → Buf (Elt Bits) ℓ) : Prop :=
  True

def Pre_Att4Ideal (m : (ℓ : Loc Cert.Att4Ideal.nD Cert.Att4Ideal.τ Cert.Att4Ideal.sig) → Buf (Elt Ideal) ℓ) : Prop :=
  True

def Pre_Att4Ideal_att_pre [hPre_att_pre : Cert.Pre_att_pre.Facts] (m : (ℓ : Loc Cert.Att4Ideal.nD Cert.Att4Ideal.τ Cert.Att4Ideal.sig) → Buf (Elt Ideal) ℓ) : Prop :=
  ∀ c : Dev Cert.Att4Ideal.nD,
    (Cert.Pre_att_pre.fn (F := Ideal) (m ((c.tc : Thread Cert.Att4Ideal.nD Cert.Att4Ideal.τ).loc Cert.Att4Ideal.main_arg0)) (m ((c.tc : Thread Cert.Att4Ideal.nD Cert.Att4Ideal.τ).loc Cert.Att4Ideal.main_arg1)) (m ((c.tc : Thread Cert.Att4Ideal.nD Cert.Att4Ideal.τ).loc Cert.Att4Ideal.main_arg2)) (m ((c.tc : Thread Cert.Att4Ideal.nD Cert.Att4Ideal.τ).loc Cert.Att4Ideal.main_arg3))) = (fun _ => 1#1)

def Pre_Att4RefIdeal (m : (ℓ : Loc Cert.Att4RefIdeal.nD Cert.Att4RefIdeal.τ Cert.Att4RefIdeal.sig) → Buf (Elt Ideal) ℓ) : Prop :=
  True

def Pre_Att4RefIdeal_att_pre [hPre_att_pre : Cert.Pre_att_pre.Facts] (m : (ℓ : Loc Cert.Att4RefIdeal.nD Cert.Att4RefIdeal.τ Cert.Att4RefIdeal.sig) → Buf (Elt Ideal) ℓ) : Prop :=
  ∀ c : Dev Cert.Att4RefIdeal.nD,
    (Cert.Pre_att_pre.fn (F := Ideal) (m ((c.tc : Thread Cert.Att4RefIdeal.nD Cert.Att4RefIdeal.τ).loc Cert.Att4RefIdeal.main_arg0)) (m ((c.tc : Thread Cert.Att4RefIdeal.nD Cert.Att4RefIdeal.τ).loc Cert.Att4RefIdeal.main_arg1)) (m ((c.tc : Thread Cert.Att4RefIdeal.nD Cert.Att4RefIdeal.τ).loc Cert.Att4RefIdeal.main_arg2)) (m ((c.tc : Thread Cert.Att4RefIdeal.nD Cert.Att4RefIdeal.τ).loc Cert.Att4RefIdeal.main_arg3))) = (fun _ => 1#1)

def Pre_Att16 (m : (ℓ : Loc Cert.Att16.nD Cert.Att16.τ Cert.Att16.sig) → Buf (Elt Bits) ℓ) : Prop :=
  True

def Pre_Att16Ideal (m : (ℓ : Loc Cert.Att16Ideal.nD Cert.Att16Ideal.τ Cert.Att16Ideal.sig) → Buf (Elt Ideal) ℓ) : Prop :=
  True

def Pre_Att16Ideal_att_pre [hPre_att_pre : Cert.Pre_att_pre.Facts] (m : (ℓ : Loc Cert.Att16Ideal.nD Cert.Att16Ideal.τ Cert.Att16Ideal.sig) → Buf (Elt Ideal) ℓ) : Prop :=
  ∀ c : Dev Cert.Att16Ideal.nD,
    (Cert.Pre_att_pre.fn (F := Ideal) (m ((c.tc : Thread Cert.Att16Ideal.nD Cert.Att16Ideal.τ).loc Cert.Att16Ideal.main_arg0)) (m ((c.tc : Thread Cert.Att16Ideal.nD Cert.Att16Ideal.τ).loc Cert.Att16Ideal.main_arg1)) (m ((c.tc : Thread Cert.Att16Ideal.nD Cert.Att16Ideal.τ).loc Cert.Att16Ideal.main_arg2)) (m ((c.tc : Thread Cert.Att16Ideal.nD Cert.Att16Ideal.τ).loc Cert.Att16Ideal.main_arg3))) = (fun _ => 1#1)

def Pre_Att16RefIdeal (m : (ℓ : Loc Cert.Att16RefIdeal.nD Cert.Att16RefIdeal.τ Cert.Att16RefIdeal.sig) → Buf (Elt Ideal) ℓ) : Prop :=
  True

def Pre_Att16RefIdeal_att_pre [hPre_att_pre : Cert.Pre_att_pre.Facts] (m : (ℓ : Loc Cert.Att16RefIdeal.nD Cert.Att16RefIdeal.τ Cert.Att16RefIdeal.sig) → Buf (Elt Ideal) ℓ) : Prop :=
  ∀ c : Dev Cert.Att16RefIdeal.nD,
    (Cert.Pre_att_pre.fn (F := Ideal) (m ((c.tc : Thread Cert.Att16RefIdeal.nD Cert.Att16RefIdeal.τ).loc Cert.Att16RefIdeal.main_arg0)) (m ((c.tc : Thread Cert.Att16RefIdeal.nD Cert.Att16RefIdeal.τ).loc Cert.Att16RefIdeal.main_arg1)) (m ((c.tc : Thread Cert.Att16RefIdeal.nD Cert.Att16RefIdeal.τ).loc Cert.Att16RefIdeal.main_arg2)) (m ((c.tc : Thread Cert.Att16RefIdeal.nD Cert.Att16RefIdeal.τ).loc Cert.Att16RefIdeal.main_arg3))) = (fun _ => 1#1)

def Pre_Prj (m : (ℓ : Loc Cert.Prj.nD Cert.Prj.τ Cert.Prj.sig) → Buf (Elt Bits) ℓ) : Prop :=
  True

def Pre_PrjIdeal (m : (ℓ : Loc Cert.PrjIdeal.nD Cert.PrjIdeal.τ Cert.PrjIdeal.sig) → Buf (Elt Ideal) ℓ) : Prop :=
  True

def Pre_PrjRefIdeal (m : (ℓ : Loc Cert.PrjRefIdeal.nD Cert.PrjRefIdeal.τ Cert.PrjRefIdeal.sig) → Buf (Elt Ideal) ℓ) : Prop :=
  True

def Pre_Plp (m : (ℓ : Loc Cert.Plp.nD Cert.Plp.τ Cert.Plp.sig) → Buf (Elt Bits) ℓ) : Prop :=
  True

def Pre_PlpIdeal (m : (ℓ : Loc Cert.PlpIdeal.nD Cert.PlpIdeal.τ Cert.PlpIdeal.sig) → Buf (Elt Ideal) ℓ) : Prop :=
  True

def Pre_PlpRefIdeal (m : (ℓ : Loc Cert.PlpRefIdeal.nD Cert.PlpRefIdeal.τ Cert.PlpRefIdeal.sig) → Buf (Elt Ideal) ℓ) : Prop :=
  True

def Pre_Ssp (m : (ℓ : Loc Cert.Ssp.nD Cert.Ssp.τ Cert.Ssp.sig) → Buf (Elt Bits) ℓ) : Prop :=
  True

def Pre_SspIdeal (m : (ℓ : Loc Cert.SspIdeal.nD Cert.SspIdeal.τ Cert.SspIdeal.sig) → Buf (Elt Ideal) ℓ) : Prop :=
  True

def Pre_SspRefIdeal (m : (ℓ : Loc Cert.SspRefIdeal.nD Cert.SspRefIdeal.τ Cert.SspRefIdeal.sig) → Buf (Elt Ideal) ℓ) : Prop :=
  True

def Pre_Ofw (m : (ℓ : Loc Cert.Ofw.nD Cert.Ofw.τ Cert.Ofw.sig) → Buf (Elt Bits) ℓ) : Prop :=
  True

def Pre_OfwIdeal (m : (ℓ : Loc Cert.OfwIdeal.nD Cert.OfwIdeal.τ Cert.OfwIdeal.sig) → Buf (Elt Ideal) ℓ) : Prop :=
  True

def Pre_OfwRefIdeal (m : (ℓ : Loc Cert.OfwRefIdeal.nD Cert.OfwRefIdeal.τ Cert.OfwRefIdeal.sig) → Buf (Elt Ideal) ℓ) : Prop :=
  True

def Pre_Fgu (m : (ℓ : Loc Cert.Fgu.nD Cert.Fgu.τ Cert.Fgu.sig) → Buf (Elt Bits) ℓ) : Prop :=
  True

def Pre_FguIdeal (m : (ℓ : Loc Cert.FguIdeal.nD Cert.FguIdeal.τ Cert.FguIdeal.sig) → Buf (Elt Ideal) ℓ) : Prop :=
  True

def Pre_FguRefIdeal (m : (ℓ : Loc Cert.FguRefIdeal.nD Cert.FguRefIdeal.τ Cert.FguRefIdeal.sig) → Buf (Elt Ideal) ℓ) : Prop :=
  True

def Pre_Fdn (m : (ℓ : Loc Cert.Fdn.nD Cert.Fdn.τ Cert.Fdn.sig) → Buf (Elt Bits) ℓ) : Prop :=
  True

def Pre_FdnIdeal (m : (ℓ : Loc Cert.FdnIdeal.nD Cert.FdnIdeal.τ Cert.FdnIdeal.sig) → Buf (Elt Ideal) ℓ) : Prop :=
  True

def Pre_FdnRefIdeal (m : (ℓ : Loc Cert.FdnRefIdeal.nD Cert.FdnRefIdeal.τ Cert.FdnRefIdeal.sig) → Buf (Elt Ideal) ℓ) : Prop :=
  True

def Pre_Pgb (m : (ℓ : Loc Cert.Pgb.nD Cert.Pgb.τ Cert.Pgb.sig) → Buf (Elt Bits) ℓ) : Prop :=
  True

def Pre_PgbIdeal (m : (ℓ : Loc Cert.PgbIdeal.nD Cert.PgbIdeal.τ Cert.PgbIdeal.sig) → Buf (Elt Ideal) ℓ) : Prop :=
  True

def Pre_PgbRefIdeal (m : (ℓ : Loc Cert.PgbRefIdeal.nD Cert.PgbRefIdeal.τ Cert.PgbRefIdeal.sig) → Buf (Elt Ideal) ℓ) : Prop :=
  True

def Pre_Apb (m : (ℓ : Loc Cert.Apb.nD Cert.Apb.τ Cert.Apb.sig) → Buf (Elt Bits) ℓ) : Prop :=
  True

def Pre_ApbIdeal (m : (ℓ : Loc Cert.ApbIdeal.nD Cert.ApbIdeal.τ Cert.ApbIdeal.sig) → Buf (Elt Ideal) ℓ) : Prop :=
  True

def Pre_ApbRefIdeal (m : (ℓ : Loc Cert.ApbRefIdeal.nD Cert.ApbRefIdeal.τ Cert.ApbRefIdeal.sig) → Buf (Elt Ideal) ℓ) : Prop :=
  True

def Pre_Wpg (m : (ℓ : Loc Cert.Wpg.nD Cert.Wpg.τ Cert.Wpg.sig) → Buf (Elt Bits) ℓ) : Prop :=
  True

def Pre_WpgIdeal (m : (ℓ : Loc Cert.WpgIdeal.nD Cert.WpgIdeal.τ Cert.WpgIdeal.sig) → Buf (Elt Ideal) ℓ) : Prop :=
  True

def Pre_WpgRefIdeal (m : (ℓ : Loc Cert.WpgRefIdeal.nD Cert.WpgRefIdeal.τ Cert.WpgRefIdeal.sig) → Buf (Elt Ideal) ℓ) : Prop :=
  True

def Pre_Wap (m : (ℓ : Loc Cert.Wap.nD Cert.Wap.τ Cert.Wap.sig) → Buf (Elt Bits) ℓ) : Prop :=
  True

def Pre_WapIdeal (m : (ℓ : Loc Cert.WapIdeal.nD Cert.WapIdeal.τ Cert.WapIdeal.sig) → Buf (Elt Ideal) ℓ) : Prop :=
  True

def Pre_WapRefIdeal (m : (ℓ : Loc Cert.WapRefIdeal.nD Cert.WapRefIdeal.τ Cert.WapRefIdeal.sig) → Buf (Elt Ideal) ℓ) : Prop :=
  True

def Pre_Wfg (m : (ℓ : Loc Cert.Wfg.nD Cert.Wfg.τ Cert.Wfg.sig) → Buf (Elt Bits) ℓ) : Prop :=
  True

def Pre_WfgIdeal (m : (ℓ : Loc Cert.WfgIdeal.nD Cert.WfgIdeal.τ Cert.WfgIdeal.sig) → Buf (Elt Ideal) ℓ) : Prop :=
  True

def Pre_WfgRefIdeal (m : (ℓ : Loc Cert.WfgRefIdeal.nD Cert.WfgRefIdeal.τ Cert.WfgRefIdeal.sig) → Buf (Elt Ideal) ℓ) : Prop :=
  True

def Pre_Adw (m : (ℓ : Loc Cert.Adw.nD Cert.Adw.τ Cert.Adw.sig) → Buf (Elt Bits) ℓ) : Prop :=
  True

def Pre_AdwIdeal (m : (ℓ : Loc Cert.AdwIdeal.nD Cert.AdwIdeal.τ Cert.AdwIdeal.sig) → Buf (Elt Ideal) ℓ) : Prop :=
  True

def Pre_AdwRefIdeal (m : (ℓ : Loc Cert.AdwRefIdeal.nD Cert.AdwRefIdeal.τ Cert.AdwRefIdeal.sig) → Buf (Elt Ideal) ℓ) : Prop :=
  True

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluIdeal_pre_glu_pre [hGluIdeal : Cert.GluIdeal.Facts] [hPre_glu_pre : Cert.Pre_glu_pre.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_pre m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_GluRefIdeal_pre_glu_pre [hGluRefIdeal : Cert.GluRefIdeal.Facts] [hPre_glu_pre : Cert.Pre_glu_pre.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_pre m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Ffd [hFfd : Cert.Ffd.Facts] : Prop :=
  ∀ (m : (ℓ : Loc Cert.Ffd.nD Cert.Ffd.τ Cert.Ffd.sig) → Buf (Elt Bits) ℓ) (g : Dev Cert.Ffd.nD → PrngReg), Pre_Ffd m →
    θ_run (Cert.Ffd.defs (F := Bits)) (onTc (τ := Cert.Ffd.τ) (Cert.Ffd.main (F := Bits))) ⟨m, fun _ => 0, g⟩ (fun r => (∀ c : Dev Cert.Ffd.nD,
      r.2.mem ((c.tc : Thread Cert.Ffd.nD Cert.Ffd.τ).loc Cert.Ffd.main_arg0) = m ((c.tc : Thread Cert.Ffd.nD Cert.Ffd.τ).loc Cert.Ffd.main_arg0)
      ∧ r.2.mem ((c.tc : Thread Cert.Ffd.nD Cert.Ffd.τ).loc Cert.Ffd.main_arg1) = m ((c.tc : Thread Cert.Ffd.nD Cert.Ffd.τ).loc Cert.Ffd.main_arg1)
      ∧ r.2.mem ((c.tc : Thread Cert.Ffd.nD Cert.Ffd.τ).loc Cert.Ffd.main_arg2) = m ((c.tc : Thread Cert.Ffd.nD Cert.Ffd.τ).loc Cert.Ffd.main_arg2)
      ∧ r.2.mem ((c.tc : Thread Cert.Ffd.nD Cert.Ffd.τ).loc Cert.Ffd.main_arg3) = m ((c.tc : Thread Cert.Ffd.nD Cert.Ffd.τ).loc Cert.Ffd.main_arg3))
      ∧ r.2.sem = fun _ => 0)

def quiescent_FfdIdeal [hFfdIdeal : Cert.FfdIdeal.Facts] : Prop :=
  ∀ (m : (ℓ : Loc Cert.FfdIdeal.nD Cert.FfdIdeal.τ Cert.FfdIdeal.sig) → Buf (Elt Ideal) ℓ) (g : Dev Cert.FfdIdeal.nD → PrngReg), Pre_FfdIdeal m →
    θ_run (Cert.FfdIdeal.defs (F := Ideal)) (onTc (τ := Cert.FfdIdeal.τ) (Cert.FfdIdeal.main (F := Ideal))) ⟨m, fun _ => 0, g⟩ (fun r => (∀ c : Dev Cert.FfdIdeal.nD,
      r.2.mem ((c.tc : Thread Cert.FfdIdeal.nD Cert.FfdIdeal.τ).loc Cert.FfdIdeal.main_arg0) = m ((c.tc : Thread Cert.FfdIdeal.nD Cert.FfdIdeal.τ).loc Cert.FfdIdeal.main_arg0)
      ∧ r.2.mem ((c.tc : Thread Cert.FfdIdeal.nD Cert.FfdIdeal.τ).loc Cert.FfdIdeal.main_arg1) = m ((c.tc : Thread Cert.FfdIdeal.nD Cert.FfdIdeal.τ).loc Cert.FfdIdeal.main_arg1)
      ∧ r.2.mem ((c.tc : Thread Cert.FfdIdeal.nD Cert.FfdIdeal.τ).loc Cert.FfdIdeal.main_arg2) = m ((c.tc : Thread Cert.FfdIdeal.nD Cert.FfdIdeal.τ).loc Cert.FfdIdeal.main_arg2)
      ∧ r.2.mem ((c.tc : Thread Cert.FfdIdeal.nD Cert.FfdIdeal.τ).loc Cert.FfdIdeal.main_arg3) = m ((c.tc : Thread Cert.FfdIdeal.nD Cert.FfdIdeal.τ).loc Cert.FfdIdeal.main_arg3))
      ∧ r.2.sem = fun _ => 0)

def quiescent_FfdIdeal_pre_ffd_pre [hFfdIdeal : Cert.FfdIdeal.Facts] [hPre_ffd_pre : Cert.Pre_ffd_pre.Facts] : Prop :=
  ∀ (m : (ℓ : Loc Cert.FfdIdeal.nD Cert.FfdIdeal.τ Cert.FfdIdeal.sig) → Buf (Elt Ideal) ℓ) (g : Dev Cert.FfdIdeal.nD → PrngReg), Pre_FfdIdeal_ffd_pre m →
    θ_run (Cert.FfdIdeal.defs (F := Ideal)) (onTc (τ := Cert.FfdIdeal.τ) (Cert.FfdIdeal.main (F := Ideal))) ⟨m, fun _ => 0, g⟩ (fun r => (∀ c : Dev Cert.FfdIdeal.nD,
      r.2.mem ((c.tc : Thread Cert.FfdIdeal.nD Cert.FfdIdeal.τ).loc Cert.FfdIdeal.main_arg0) = m ((c.tc : Thread Cert.FfdIdeal.nD Cert.FfdIdeal.τ).loc Cert.FfdIdeal.main_arg0)
      ∧ r.2.mem ((c.tc : Thread Cert.FfdIdeal.nD Cert.FfdIdeal.τ).loc Cert.FfdIdeal.main_arg1) = m ((c.tc : Thread Cert.FfdIdeal.nD Cert.FfdIdeal.τ).loc Cert.FfdIdeal.main_arg1)
      ∧ r.2.mem ((c.tc : Thread Cert.FfdIdeal.nD Cert.FfdIdeal.τ).loc Cert.FfdIdeal.main_arg2) = m ((c.tc : Thread Cert.FfdIdeal.nD Cert.FfdIdeal.τ).loc Cert.FfdIdeal.main_arg2)
      ∧ r.2.mem ((c.tc : Thread Cert.FfdIdeal.nD Cert.FfdIdeal.τ).loc Cert.FfdIdeal.main_arg3) = m ((c.tc : Thread Cert.FfdIdeal.nD Cert.FfdIdeal.τ).loc Cert.FfdIdeal.main_arg3))
      ∧ r.2.sem = fun _ => 0)

def quiescent_FfdRefIdeal [hFfdRefIdeal : Cert.FfdRefIdeal.Facts] : Prop :=
  ∀ (m : (ℓ : Loc Cert.FfdRefIdeal.nD Cert.FfdRefIdeal.τ Cert.FfdRefIdeal.sig) → Buf (Elt Ideal) ℓ) (g : Dev Cert.FfdRefIdeal.nD → PrngReg), Pre_FfdRefIdeal m →
    θ_run (Cert.FfdRefIdeal.defs (F := Ideal)) (onTc (τ := Cert.FfdRefIdeal.τ) (Cert.FfdRefIdeal.main (F := Ideal))) ⟨m, fun _ => 0, g⟩ (fun r => (∀ c : Dev Cert.FfdRefIdeal.nD,
      r.2.mem ((c.tc : Thread Cert.FfdRefIdeal.nD Cert.FfdRefIdeal.τ).loc Cert.FfdRefIdeal.main_arg0) = m ((c.tc : Thread Cert.FfdRefIdeal.nD Cert.FfdRefIdeal.τ).loc Cert.FfdRefIdeal.main_arg0)
      ∧ r.2.mem ((c.tc : Thread Cert.FfdRefIdeal.nD Cert.FfdRefIdeal.τ).loc Cert.FfdRefIdeal.main_arg1) = m ((c.tc : Thread Cert.FfdRefIdeal.nD Cert.FfdRefIdeal.τ).loc Cert.FfdRefIdeal.main_arg1)
      ∧ r.2.mem ((c.tc : Thread Cert.FfdRefIdeal.nD Cert.FfdRefIdeal.τ).loc Cert.FfdRefIdeal.main_arg2) = m ((c.tc : Thread Cert.FfdRefIdeal.nD Cert.FfdRefIdeal.τ).loc Cert.FfdRefIdeal.main_arg2)
      ∧ r.2.mem ((c.tc : Thread Cert.FfdRefIdeal.nD Cert.FfdRefIdeal.τ).loc Cert.FfdRefIdeal.main_arg3) = m ((c.tc : Thread Cert.FfdRefIdeal.nD Cert.FfdRefIdeal.τ).loc Cert.FfdRefIdeal.main_arg3))
      ∧ r.2.sem = fun _ => 0)

def quiescent_FfdRefIdeal_pre_ffd_pre [hFfdRefIdeal : Cert.FfdRefIdeal.Facts] [hPre_ffd_pre : Cert.Pre_ffd_pre.Facts] : Prop :=
  ∀ (m : (ℓ : Loc Cert.FfdRefIdeal.nD Cert.FfdRefIdeal.τ Cert.FfdRefIdeal.sig) → Buf (Elt Ideal) ℓ) (g : Dev Cert.FfdRefIdeal.nD → PrngReg), Pre_FfdRefIdeal_ffd_pre m →
    θ_run (Cert.FfdRefIdeal.defs (F := Ideal)) (onTc (τ := Cert.FfdRefIdeal.τ) (Cert.FfdRefIdeal.main (F := Ideal))) ⟨m, fun _ => 0, g⟩ (fun r => (∀ c : Dev Cert.FfdRefIdeal.nD,
      r.2.mem ((c.tc : Thread Cert.FfdRefIdeal.nD Cert.FfdRefIdeal.τ).loc Cert.FfdRefIdeal.main_arg0) = m ((c.tc : Thread Cert.FfdRefIdeal.nD Cert.FfdRefIdeal.τ).loc Cert.FfdRefIdeal.main_arg0)
      ∧ r.2.mem ((c.tc : Thread Cert.FfdRefIdeal.nD Cert.FfdRefIdeal.τ).loc Cert.FfdRefIdeal.main_arg1) = m ((c.tc : Thread Cert.FfdRefIdeal.nD Cert.FfdRefIdeal.τ).loc Cert.FfdRefIdeal.main_arg1)
      ∧ r.2.mem ((c.tc : Thread Cert.FfdRefIdeal.nD Cert.FfdRefIdeal.τ).loc Cert.FfdRefIdeal.main_arg2) = m ((c.tc : Thread Cert.FfdRefIdeal.nD Cert.FfdRefIdeal.τ).loc Cert.FfdRefIdeal.main_arg2)
      ∧ r.2.mem ((c.tc : Thread Cert.FfdRefIdeal.nD Cert.FfdRefIdeal.τ).loc Cert.FfdRefIdeal.main_arg3) = m ((c.tc : Thread Cert.FfdRefIdeal.nD Cert.FfdRefIdeal.τ).loc Cert.FfdRefIdeal.main_arg3))
      ∧ r.2.sem = fun _ => 0)

def quiescent_Opb [hOpb : Cert.Opb.Facts] : Prop :=
  ∀ (m : (ℓ : Loc Cert.Opb.nD Cert.Opb.τ Cert.Opb.sig) → Buf (Elt Bits) ℓ) (g : Dev Cert.Opb.nD → PrngReg), Pre_Opb m →
    θ_run (Cert.Opb.defs (F := Bits)) (onTc (τ := Cert.Opb.τ) (Cert.Opb.main (F := Bits))) ⟨m, fun _ => 0, g⟩ (fun r => (∀ c : Dev Cert.Opb.nD,
      r.2.mem ((c.tc : Thread Cert.Opb.nD Cert.Opb.τ).loc Cert.Opb.main_arg0) = m ((c.tc : Thread Cert.Opb.nD Cert.Opb.τ).loc Cert.Opb.main_arg0)
      ∧ r.2.mem ((c.tc : Thread Cert.Opb.nD Cert.Opb.τ).loc Cert.Opb.main_arg1) = m ((c.tc : Thread Cert.Opb.nD Cert.Opb.τ).loc Cert.Opb.main_arg1)
      ∧ r.2.mem ((c.tc : Thread Cert.Opb.nD Cert.Opb.τ).loc Cert.Opb.main_arg2) = m ((c.tc : Thread Cert.Opb.nD Cert.Opb.τ).loc Cert.Opb.main_arg2)
      ∧ r.2.mem ((c.tc : Thread Cert.Opb.nD Cert.Opb.τ).loc Cert.Opb.main_arg3) = m ((c.tc : Thread Cert.Opb.nD Cert.Opb.τ).loc Cert.Opb.main_arg3)
      ∧ r.2.mem ((c.tc : Thread Cert.Opb.nD Cert.Opb.τ).loc Cert.Opb.main_arg4) = m ((c.tc : Thread Cert.Opb.nD Cert.Opb.τ).loc Cert.Opb.main_arg4)
      ∧ r.2.mem ((c.tc : Thread Cert.Opb.nD Cert.Opb.τ).loc Cert.Opb.main_arg5) = m ((c.tc : Thread Cert.Opb.nD Cert.Opb.τ).loc Cert.Opb.main_arg5))
      ∧ r.2.sem = fun _ => 0)

def quiescent_OpbIdeal [hOpbIdeal : Cert.OpbIdeal.Facts] : Prop :=
  ∀ (m : (ℓ : Loc Cert.OpbIdeal.nD Cert.OpbIdeal.τ Cert.OpbIdeal.sig) → Buf (Elt Ideal) ℓ) (g : Dev Cert.OpbIdeal.nD → PrngReg), Pre_OpbIdeal m →
    θ_run (Cert.OpbIdeal.defs (F := Ideal)) (onTc (τ := Cert.OpbIdeal.τ) (Cert.OpbIdeal.main (F := Ideal))) ⟨m, fun _ => 0, g⟩ (fun r => (∀ c : Dev Cert.OpbIdeal.nD,
      r.2.mem ((c.tc : Thread Cert.OpbIdeal.nD Cert.OpbIdeal.τ).loc Cert.OpbIdeal.main_arg0) = m ((c.tc : Thread Cert.OpbIdeal.nD Cert.OpbIdeal.τ).loc Cert.OpbIdeal.main_arg0)
      ∧ r.2.mem ((c.tc : Thread Cert.OpbIdeal.nD Cert.OpbIdeal.τ).loc Cert.OpbIdeal.main_arg1) = m ((c.tc : Thread Cert.OpbIdeal.nD Cert.OpbIdeal.τ).loc Cert.OpbIdeal.main_arg1)
      ∧ r.2.mem ((c.tc : Thread Cert.OpbIdeal.nD Cert.OpbIdeal.τ).loc Cert.OpbIdeal.main_arg2) = m ((c.tc : Thread Cert.OpbIdeal.nD Cert.OpbIdeal.τ).loc Cert.OpbIdeal.main_arg2)
      ∧ r.2.mem ((c.tc : Thread Cert.OpbIdeal.nD Cert.OpbIdeal.τ).loc Cert.OpbIdeal.main_arg3) = m ((c.tc : Thread Cert.OpbIdeal.nD Cert.OpbIdeal.τ).loc Cert.OpbIdeal.main_arg3)
      ∧ r.2.mem ((c.tc : Thread Cert.OpbIdeal.nD Cert.OpbIdeal.τ).loc Cert.OpbIdeal.main_arg4) = m ((c.tc : Thread Cert.OpbIdeal.nD Cert.OpbIdeal.τ).loc Cert.OpbIdeal.main_arg4)
      ∧ r.2.mem ((c.tc : Thread Cert.OpbIdeal.nD Cert.OpbIdeal.τ).loc Cert.OpbIdeal.main_arg5) = m ((c.tc : Thread Cert.OpbIdeal.nD Cert.OpbIdeal.τ).loc Cert.OpbIdeal.main_arg5))
      ∧ r.2.sem = fun _ => 0)

def quiescent_OpbRefIdeal [hOpbRefIdeal : Cert.OpbRefIdeal.Facts] : Prop :=
  ∀ (m : (ℓ : Loc Cert.OpbRefIdeal.nD Cert.OpbRefIdeal.τ Cert.OpbRefIdeal.sig) → Buf (Elt Ideal) ℓ) (g : Dev Cert.OpbRefIdeal.nD → PrngReg), Pre_OpbRefIdeal m →
    θ_run (Cert.OpbRefIdeal.defs (F := Ideal)) (onTc (τ := Cert.OpbRefIdeal.τ) (Cert.OpbRefIdeal.main (F := Ideal))) ⟨m, fun _ => 0, g⟩ (fun r => (∀ c : Dev Cert.OpbRefIdeal.nD,
      r.2.mem ((c.tc : Thread Cert.OpbRefIdeal.nD Cert.OpbRefIdeal.τ).loc Cert.OpbRefIdeal.main_arg0) = m ((c.tc : Thread Cert.OpbRefIdeal.nD Cert.OpbRefIdeal.τ).loc Cert.OpbRefIdeal.main_arg0)
      ∧ r.2.mem ((c.tc : Thread Cert.OpbRefIdeal.nD Cert.OpbRefIdeal.τ).loc Cert.OpbRefIdeal.main_arg1) = m ((c.tc : Thread Cert.OpbRefIdeal.nD Cert.OpbRefIdeal.τ).loc Cert.OpbRefIdeal.main_arg1)
      ∧ r.2.mem ((c.tc : Thread Cert.OpbRefIdeal.nD Cert.OpbRefIdeal.τ).loc Cert.OpbRefIdeal.main_arg2) = m ((c.tc : Thread Cert.OpbRefIdeal.nD Cert.OpbRefIdeal.τ).loc Cert.OpbRefIdeal.main_arg2)
      ∧ r.2.mem ((c.tc : Thread Cert.OpbRefIdeal.nD Cert.OpbRefIdeal.τ).loc Cert.OpbRefIdeal.main_arg3) = m ((c.tc : Thread Cert.OpbRefIdeal.nD Cert.OpbRefIdeal.τ).loc Cert.OpbRefIdeal.main_arg3)
      ∧ r.2.mem ((c.tc : Thread Cert.OpbRefIdeal.nD Cert.OpbRefIdeal.τ).loc Cert.OpbRefIdeal.main_arg4) = m ((c.tc : Thread Cert.OpbRefIdeal.nD Cert.OpbRefIdeal.τ).loc Cert.OpbRefIdeal.main_arg4)
      ∧ r.2.mem ((c.tc : Thread Cert.OpbRefIdeal.nD Cert.OpbRefIdeal.τ).loc Cert.OpbRefIdeal.main_arg5) = m ((c.tc : Thread Cert.OpbRefIdeal.nD Cert.OpbRefIdeal.τ).loc Cert.OpbRefIdeal.main_arg5))
      ∧ r.2.sem = fun _ => 0)

def quiescent_Ffi [hFfi : Cert.Ffi.Facts] : Prop :=
  ∀ (m : (ℓ : Loc Cert.Ffi.nD Cert.Ffi.τ Cert.Ffi.sig) → Buf (Elt Bits) ℓ) (g : Dev Cert.Ffi.nD → PrngReg), Pre_Ffi m →
    θ_run (Cert.Ffi.defs (F := Bits)) (onTc (τ := Cert.Ffi.τ) (Cert.Ffi.main (F := Bits))) ⟨m, fun _ => 0, g⟩ (fun r => (∀ c : Dev Cert.Ffi.nD,
      r.2.mem ((c.tc : Thread Cert.Ffi.nD Cert.Ffi.τ).loc Cert.Ffi.main_arg0) = m ((c.tc : Thread Cert.Ffi.nD Cert.Ffi.τ).loc Cert.Ffi.main_arg0)
      ∧ r.2.mem ((c.tc : Thread Cert.Ffi.nD Cert.Ffi.τ).loc Cert.Ffi.main_arg1) = m ((c.tc : Thread Cert.Ffi.nD Cert.Ffi.τ).loc Cert.Ffi.main_arg1)
      ∧ r.2.mem ((c.tc : Thread Cert.Ffi.nD Cert.Ffi.τ).loc Cert.Ffi.main_arg2) = m ((c.tc : Thread Cert.Ffi.nD Cert.Ffi.τ).loc Cert.Ffi.main_arg2)
      ∧ r.2.mem ((c.tc : Thread Cert.Ffi.nD Cert.Ffi.τ).loc Cert.Ffi.main_arg3) = m ((c.tc : Thread Cert.Ffi.nD Cert.Ffi.τ).loc Cert.Ffi.main_arg3)
      ∧ r.2.mem ((c.tc : Thread Cert.Ffi.nD Cert.Ffi.τ).loc Cert.Ffi.main_arg4) = m ((c.tc : Thread Cert.Ffi.nD Cert.Ffi.τ).loc Cert.Ffi.main_arg4)
      ∧ r.2.mem ((c.tc : Thread Cert.Ffi.nD Cert.Ffi.τ).loc Cert.Ffi.main_arg5) = m ((c.tc : Thread Cert.Ffi.nD Cert.Ffi.τ).loc Cert.Ffi.main_arg5)
      ∧ r.2.mem ((c.tc : Thread Cert.Ffi.nD Cert.Ffi.τ).loc Cert.Ffi.main_arg6) = m ((c.tc : Thread Cert.Ffi.nD Cert.Ffi.τ).loc Cert.Ffi.main_arg6))
      ∧ r.2.sem = fun _ => 0)

def quiescent_FfiIdeal [hFfiIdeal : Cert.FfiIdeal.Facts] : Prop :=
  ∀ (m : (ℓ : Loc Cert.FfiIdeal.nD Cert.FfiIdeal.τ Cert.FfiIdeal.sig) → Buf (Elt Ideal) ℓ) (g : Dev Cert.FfiIdeal.nD → PrngReg), Pre_FfiIdeal m →
    θ_run (Cert.FfiIdeal.defs (F := Ideal)) (onTc (τ := Cert.FfiIdeal.τ) (Cert.FfiIdeal.main (F := Ideal))) ⟨m, fun _ => 0, g⟩ (fun r => (∀ c : Dev Cert.FfiIdeal.nD,
      r.2.mem ((c.tc : Thread Cert.FfiIdeal.nD Cert.FfiIdeal.τ).loc Cert.FfiIdeal.main_arg0) = m ((c.tc : Thread Cert.FfiIdeal.nD Cert.FfiIdeal.τ).loc Cert.FfiIdeal.main_arg0)
      ∧ r.2.mem ((c.tc : Thread Cert.FfiIdeal.nD Cert.FfiIdeal.τ).loc Cert.FfiIdeal.main_arg1) = m ((c.tc : Thread Cert.FfiIdeal.nD Cert.FfiIdeal.τ).loc Cert.FfiIdeal.main_arg1)
      ∧ r.2.mem ((c.tc : Thread Cert.FfiIdeal.nD Cert.FfiIdeal.τ).loc Cert.FfiIdeal.main_arg2) = m ((c.tc : Thread Cert.FfiIdeal.nD Cert.FfiIdeal.τ).loc Cert.FfiIdeal.main_arg2)
      ∧ r.2.mem ((c.tc : Thread Cert.FfiIdeal.nD Cert.FfiIdeal.τ).loc Cert.FfiIdeal.main_arg3) = m ((c.tc : Thread Cert.FfiIdeal.nD Cert.FfiIdeal.τ).loc Cert.FfiIdeal.main_arg3)
      ∧ r.2.mem ((c.tc : Thread Cert.FfiIdeal.nD Cert.FfiIdeal.τ).loc Cert.FfiIdeal.main_arg4) = m ((c.tc : Thread Cert.FfiIdeal.nD Cert.FfiIdeal.τ).loc Cert.FfiIdeal.main_arg4)
      ∧ r.2.mem ((c.tc : Thread Cert.FfiIdeal.nD Cert.FfiIdeal.τ).loc Cert.FfiIdeal.main_arg5) = m ((c.tc : Thread Cert.FfiIdeal.nD Cert.FfiIdeal.τ).loc Cert.FfiIdeal.main_arg5)
      ∧ r.2.mem ((c.tc : Thread Cert.FfiIdeal.nD Cert.FfiIdeal.τ).loc Cert.FfiIdeal.main_arg6) = m ((c.tc : Thread Cert.FfiIdeal.nD Cert.FfiIdeal.τ).loc Cert.FfiIdeal.main_arg6))
      ∧ r.2.sem = fun _ => 0)

def quiescent_FfiIdeal_pre_ffi_pre [hFfiIdeal : Cert.FfiIdeal.Facts] [hPre_ffi_pre : Cert.Pre_ffi_pre.Facts] : Prop :=
  ∀ (m : (ℓ : Loc Cert.FfiIdeal.nD Cert.FfiIdeal.τ Cert.FfiIdeal.sig) → Buf (Elt Ideal) ℓ) (g : Dev Cert.FfiIdeal.nD → PrngReg), Pre_FfiIdeal_ffi_pre m →
    θ_run (Cert.FfiIdeal.defs (F := Ideal)) (onTc (τ := Cert.FfiIdeal.τ) (Cert.FfiIdeal.main (F := Ideal))) ⟨m, fun _ => 0, g⟩ (fun r => (∀ c : Dev Cert.FfiIdeal.nD,
      r.2.mem ((c.tc : Thread Cert.FfiIdeal.nD Cert.FfiIdeal.τ).loc Cert.FfiIdeal.main_arg0) = m ((c.tc : Thread Cert.FfiIdeal.nD Cert.FfiIdeal.τ).loc Cert.FfiIdeal.main_arg0)
      ∧ r.2.mem ((c.tc : Thread Cert.FfiIdeal.nD Cert.FfiIdeal.τ).loc Cert.FfiIdeal.main_arg1) = m ((c.tc : Thread Cert.FfiIdeal.nD Cert.FfiIdeal.τ).loc Cert.FfiIdeal.main_arg1)
      ∧ r.2.mem ((c.tc : Thread Cert.FfiIdeal.nD Cert.FfiIdeal.τ).loc Cert.FfiIdeal.main_arg2) = m ((c.tc : Thread Cert.FfiIdeal.nD Cert.FfiIdeal.τ).loc Cert.FfiIdeal.main_arg2)
      ∧ r.2.mem ((c.tc : Thread Cert.FfiIdeal.nD Cert.FfiIdeal.τ).loc Cert.FfiIdeal.main_arg3) = m ((c.tc : Thread Cert.FfiIdeal.nD Cert.FfiIdeal.τ).loc Cert.FfiIdeal.main_arg3)
      ∧ r.2.mem ((c.tc : Thread Cert.FfiIdeal.nD Cert.FfiIdeal.τ).loc Cert.FfiIdeal.main_arg4) = m ((c.tc : Thread Cert.FfiIdeal.nD Cert.FfiIdeal.τ).loc Cert.FfiIdeal.main_arg4)
      ∧ r.2.mem ((c.tc : Thread Cert.FfiIdeal.nD Cert.FfiIdeal.τ).loc Cert.FfiIdeal.main_arg5) = m ((c.tc : Thread Cert.FfiIdeal.nD Cert.FfiIdeal.τ).loc Cert.FfiIdeal.main_arg5)
      ∧ r.2.mem ((c.tc : Thread Cert.FfiIdeal.nD Cert.FfiIdeal.τ).loc Cert.FfiIdeal.main_arg6) = m ((c.tc : Thread Cert.FfiIdeal.nD Cert.FfiIdeal.τ).loc Cert.FfiIdeal.main_arg6))
      ∧ r.2.sem = fun _ => 0)

def quiescent_FfiRefIdeal [hFfiRefIdeal : Cert.FfiRefIdeal.Facts] : Prop :=
  ∀ (m : (ℓ : Loc Cert.FfiRefIdeal.nD Cert.FfiRefIdeal.τ Cert.FfiRefIdeal.sig) → Buf (Elt Ideal) ℓ) (g : Dev Cert.FfiRefIdeal.nD → PrngReg), Pre_FfiRefIdeal m →
    θ_run (Cert.FfiRefIdeal.defs (F := Ideal)) (onTc (τ := Cert.FfiRefIdeal.τ) (Cert.FfiRefIdeal.main (F := Ideal))) ⟨m, fun _ => 0, g⟩ (fun r => (∀ c : Dev Cert.FfiRefIdeal.nD,
      r.2.mem ((c.tc : Thread Cert.FfiRefIdeal.nD Cert.FfiRefIdeal.τ).loc Cert.FfiRefIdeal.main_arg0) = m ((c.tc : Thread Cert.FfiRefIdeal.nD Cert.FfiRefIdeal.τ).loc Cert.FfiRefIdeal.main_arg0)
      ∧ r.2.mem ((c.tc : Thread Cert.FfiRefIdeal.nD Cert.FfiRefIdeal.τ).loc Cert.FfiRefIdeal.main_arg1) = m ((c.tc : Thread Cert.FfiRefIdeal.nD Cert.FfiRefIdeal.τ).loc Cert.FfiRefIdeal.main_arg1)
      ∧ r.2.mem ((c.tc : Thread Cert.FfiRefIdeal.nD Cert.FfiRefIdeal.τ).loc Cert.FfiRefIdeal.main_arg2) = m ((c.tc : Thread Cert.FfiRefIdeal.nD Cert.FfiRefIdeal.τ).loc Cert.FfiRefIdeal.main_arg2)
      ∧ r.2.mem ((c.tc : Thread Cert.FfiRefIdeal.nD Cert.FfiRefIdeal.τ).loc Cert.FfiRefIdeal.main_arg3) = m ((c.tc : Thread Cert.FfiRefIdeal.nD Cert.FfiRefIdeal.τ).loc Cert.FfiRefIdeal.main_arg3)
      ∧ r.2.mem ((c.tc : Thread Cert.FfiRefIdeal.nD Cert.FfiRefIdeal.τ).loc Cert.FfiRefIdeal.main_arg4) = m ((c.tc : Thread Cert.FfiRefIdeal.nD Cert.FfiRefIdeal.τ).loc Cert.FfiRefIdeal.main_arg4)
      ∧ r.2.mem ((c.tc : Thread Cert.FfiRefIdeal.nD Cert.FfiRefIdeal.τ).loc Cert.FfiRefIdeal.main_arg5) = m ((c.tc : Thread Cert.FfiRefIdeal.nD Cert.FfiRefIdeal.τ).loc Cert.FfiRefIdeal.main_arg5)
      ∧ r.2.mem ((c.tc : Thread Cert.FfiRefIdeal.nD Cert.FfiRefIdeal.τ).loc Cert.FfiRefIdeal.main_arg6) = m ((c.tc : Thread Cert.FfiRefIdeal.nD Cert.FfiRefIdeal.τ).loc Cert.FfiRefIdeal.main_arg6))
      ∧ r.2.sem = fun _ => 0)

def quiescent_FfiRefIdeal_pre_ffi_pre [hFfiRefIdeal : Cert.FfiRefIdeal.Facts] [hPre_ffi_pre : Cert.Pre_ffi_pre.Facts] : Prop :=
  ∀ (m : (ℓ : Loc Cert.FfiRefIdeal.nD Cert.FfiRefIdeal.τ Cert.FfiRefIdeal.sig) → Buf (Elt Ideal) ℓ) (g : Dev Cert.FfiRefIdeal.nD → PrngReg), Pre_FfiRefIdeal_ffi_pre m →
    θ_run (Cert.FfiRefIdeal.defs (F := Ideal)) (onTc (τ := Cert.FfiRefIdeal.τ) (Cert.FfiRefIdeal.main (F := Ideal))) ⟨m, fun _ => 0, g⟩ (fun r => (∀ c : Dev Cert.FfiRefIdeal.nD,
      r.2.mem ((c.tc : Thread Cert.FfiRefIdeal.nD Cert.FfiRefIdeal.τ).loc Cert.FfiRefIdeal.main_arg0) = m ((c.tc : Thread Cert.FfiRefIdeal.nD Cert.FfiRefIdeal.τ).loc Cert.FfiRefIdeal.main_arg0)
      ∧ r.2.mem ((c.tc : Thread Cert.FfiRefIdeal.nD Cert.FfiRefIdeal.τ).loc Cert.FfiRefIdeal.main_arg1) = m ((c.tc : Thread Cert.FfiRefIdeal.nD Cert.FfiRefIdeal.τ).loc Cert.FfiRefIdeal.main_arg1)
      ∧ r.2.mem ((c.tc : Thread Cert.FfiRefIdeal.nD Cert.FfiRefIdeal.τ).loc Cert.FfiRefIdeal.main_arg2) = m ((c.tc : Thread Cert.FfiRefIdeal.nD Cert.FfiRefIdeal.τ).loc Cert.FfiRefIdeal.main_arg2)
      ∧ r.2.mem ((c.tc : Thread Cert.FfiRefIdeal.nD Cert.FfiRefIdeal.τ).loc Cert.FfiRefIdeal.main_arg3) = m ((c.tc : Thread Cert.FfiRefIdeal.nD Cert.FfiRefIdeal.τ).loc Cert.FfiRefIdeal.main_arg3)
      ∧ r.2.mem ((c.tc : Thread Cert.FfiRefIdeal.nD Cert.FfiRefIdeal.τ).loc Cert.FfiRefIdeal.main_arg4) = m ((c.tc : Thread Cert.FfiRefIdeal.nD Cert.FfiRefIdeal.τ).loc Cert.FfiRefIdeal.main_arg4)
      ∧ r.2.mem ((c.tc : Thread Cert.FfiRefIdeal.nD Cert.FfiRefIdeal.τ).loc Cert.FfiRefIdeal.main_arg5) = m ((c.tc : Thread Cert.FfiRefIdeal.nD Cert.FfiRefIdeal.τ).loc Cert.FfiRefIdeal.main_arg5)
      ∧ r.2.mem ((c.tc : Thread Cert.FfiRefIdeal.nD Cert.FfiRefIdeal.τ).loc Cert.FfiRefIdeal.main_arg6) = m ((c.tc : Thread Cert.FfiRefIdeal.nD Cert.FfiRefIdeal.τ).loc Cert.FfiRefIdeal.main_arg6))
      ∧ r.2.sem = fun _ => 0)

def quiescent_Ipb [hIpb : Cert.Ipb.Facts] : Prop :=
  ∀ (m : (ℓ : Loc Cert.Ipb.nD Cert.Ipb.τ Cert.Ipb.sig) → Buf (Elt Bits) ℓ) (g : Dev Cert.Ipb.nD → PrngReg), Pre_Ipb m →
    θ_run (Cert.Ipb.defs (F := Bits)) (onTc (τ := Cert.Ipb.τ) (Cert.Ipb.main (F := Bits))) ⟨m, fun _ => 0, g⟩ (fun r => (∀ c : Dev Cert.Ipb.nD,
      r.2.mem ((c.tc : Thread Cert.Ipb.nD Cert.Ipb.τ).loc Cert.Ipb.main_arg0) = m ((c.tc : Thread Cert.Ipb.nD Cert.Ipb.τ).loc Cert.Ipb.main_arg0)
      ∧ r.2.mem ((c.tc : Thread Cert.Ipb.nD Cert.Ipb.τ).loc Cert.Ipb.main_arg1) = m ((c.tc : Thread Cert.Ipb.nD Cert.Ipb.τ).loc Cert.Ipb.main_arg1)
      ∧ r.2.mem ((c.tc : Thread Cert.Ipb.nD Cert.Ipb.τ).loc Cert.Ipb.main_arg2) = m ((c.tc : Thread Cert.Ipb.nD Cert.Ipb.τ).loc Cert.Ipb.main_arg2)
      ∧ r.2.mem ((c.tc : Thread Cert.Ipb.nD Cert.Ipb.τ).loc Cert.Ipb.main_arg3) = m ((c.tc : Thread Cert.Ipb.nD Cert.Ipb.τ).loc Cert.Ipb.main_arg3)
      ∧ r.2.mem ((c.tc : Thread Cert.Ipb.nD Cert.Ipb.τ).loc Cert.Ipb.main_arg4) = m ((c.tc : Thread Cert.Ipb.nD Cert.Ipb.τ).loc Cert.Ipb.main_arg4))
      ∧ r.2.sem = fun _ => 0)

def quiescent_IpbIdeal [hIpbIdeal : Cert.IpbIdeal.Facts] : Prop :=
  ∀ (m : (ℓ : Loc Cert.IpbIdeal.nD Cert.IpbIdeal.τ Cert.IpbIdeal.sig) → Buf (Elt Ideal) ℓ) (g : Dev Cert.IpbIdeal.nD → PrngReg), Pre_IpbIdeal m →
    θ_run (Cert.IpbIdeal.defs (F := Ideal)) (onTc (τ := Cert.IpbIdeal.τ) (Cert.IpbIdeal.main (F := Ideal))) ⟨m, fun _ => 0, g⟩ (fun r => (∀ c : Dev Cert.IpbIdeal.nD,
      r.2.mem ((c.tc : Thread Cert.IpbIdeal.nD Cert.IpbIdeal.τ).loc Cert.IpbIdeal.main_arg0) = m ((c.tc : Thread Cert.IpbIdeal.nD Cert.IpbIdeal.τ).loc Cert.IpbIdeal.main_arg0)
      ∧ r.2.mem ((c.tc : Thread Cert.IpbIdeal.nD Cert.IpbIdeal.τ).loc Cert.IpbIdeal.main_arg1) = m ((c.tc : Thread Cert.IpbIdeal.nD Cert.IpbIdeal.τ).loc Cert.IpbIdeal.main_arg1)
      ∧ r.2.mem ((c.tc : Thread Cert.IpbIdeal.nD Cert.IpbIdeal.τ).loc Cert.IpbIdeal.main_arg2) = m ((c.tc : Thread Cert.IpbIdeal.nD Cert.IpbIdeal.τ).loc Cert.IpbIdeal.main_arg2)
      ∧ r.2.mem ((c.tc : Thread Cert.IpbIdeal.nD Cert.IpbIdeal.τ).loc Cert.IpbIdeal.main_arg3) = m ((c.tc : Thread Cert.IpbIdeal.nD Cert.IpbIdeal.τ).loc Cert.IpbIdeal.main_arg3)
      ∧ r.2.mem ((c.tc : Thread Cert.IpbIdeal.nD Cert.IpbIdeal.τ).loc Cert.IpbIdeal.main_arg4) = m ((c.tc : Thread Cert.IpbIdeal.nD Cert.IpbIdeal.τ).loc Cert.IpbIdeal.main_arg4))
      ∧ r.2.sem = fun _ => 0)

def quiescent_IpbIdeal_pre_ipb_pre [hIpbIdeal : Cert.IpbIdeal.Facts] [hPre_ipb_pre : Cert.Pre_ipb_pre.Facts] : Prop :=
  ∀ (m : (ℓ : Loc Cert.IpbIdeal.nD Cert.IpbIdeal.τ Cert.IpbIdeal.sig) → Buf (Elt Ideal) ℓ) (g : Dev Cert.IpbIdeal.nD → PrngReg), Pre_IpbIdeal_ipb_pre m →
    θ_run (Cert.IpbIdeal.defs (F := Ideal)) (onTc (τ := Cert.IpbIdeal.τ) (Cert.IpbIdeal.main (F := Ideal))) ⟨m, fun _ => 0, g⟩ (fun r => (∀ c : Dev Cert.IpbIdeal.nD,
      r.2.mem ((c.tc : Thread Cert.IpbIdeal.nD Cert.IpbIdeal.τ).loc Cert.IpbIdeal.main_arg0) = m ((c.tc : Thread Cert.IpbIdeal.nD Cert.IpbIdeal.τ).loc Cert.IpbIdeal.main_arg0)
      ∧ r.2.mem ((c.tc : Thread Cert.IpbIdeal.nD Cert.IpbIdeal.τ).loc Cert.IpbIdeal.main_arg1) = m ((c.tc : Thread Cert.IpbIdeal.nD Cert.IpbIdeal.τ).loc Cert.IpbIdeal.main_arg1)
      ∧ r.2.mem ((c.tc : Thread Cert.IpbIdeal.nD Cert.IpbIdeal.τ).loc Cert.IpbIdeal.main_arg2) = m ((c.tc : Thread Cert.IpbIdeal.nD Cert.IpbIdeal.τ).loc Cert.IpbIdeal.main_arg2)
      ∧ r.2.mem ((c.tc : Thread Cert.IpbIdeal.nD Cert.IpbIdeal.τ).loc Cert.IpbIdeal.main_arg3) = m ((c.tc : Thread Cert.IpbIdeal.nD Cert.IpbIdeal.τ).loc Cert.IpbIdeal.main_arg3)
      ∧ r.2.mem ((c.tc : Thread Cert.IpbIdeal.nD Cert.IpbIdeal.τ).loc Cert.IpbIdeal.main_arg4) = m ((c.tc : Thread Cert.IpbIdeal.nD Cert.IpbIdeal.τ).loc Cert.IpbIdeal.main_arg4))
      ∧ r.2.sem = fun _ => 0)

def quiescent_IpbRefIdeal [hIpbRefIdeal : Cert.IpbRefIdeal.Facts] : Prop :=
  ∀ (m : (ℓ : Loc Cert.IpbRefIdeal.nD Cert.IpbRefIdeal.τ Cert.IpbRefIdeal.sig) → Buf (Elt Ideal) ℓ) (g : Dev Cert.IpbRefIdeal.nD → PrngReg), Pre_IpbRefIdeal m →
    θ_run (Cert.IpbRefIdeal.defs (F := Ideal)) (onTc (τ := Cert.IpbRefIdeal.τ) (Cert.IpbRefIdeal.main (F := Ideal))) ⟨m, fun _ => 0, g⟩ (fun r => (∀ c : Dev Cert.IpbRefIdeal.nD,
      r.2.mem ((c.tc : Thread Cert.IpbRefIdeal.nD Cert.IpbRefIdeal.τ).loc Cert.IpbRefIdeal.main_arg0) = m ((c.tc : Thread Cert.IpbRefIdeal.nD Cert.IpbRefIdeal.τ).loc Cert.IpbRefIdeal.main_arg0)
      ∧ r.2.mem ((c.tc : Thread Cert.IpbRefIdeal.nD Cert.IpbRefIdeal.τ).loc Cert.IpbRefIdeal.main_arg1) = m ((c.tc : Thread Cert.IpbRefIdeal.nD Cert.IpbRefIdeal.τ).loc Cert.IpbRefIdeal.main_arg1)
      ∧ r.2.mem ((c.tc : Thread Cert.IpbRefIdeal.nD Cert.IpbRefIdeal.τ).loc Cert.IpbRefIdeal.main_arg2) = m ((c.tc : Thread Cert.IpbRefIdeal.nD Cert.IpbRefIdeal.τ).loc Cert.IpbRefIdeal.main_arg2)
      ∧ r.2.mem ((c.tc : Thread Cert.IpbRefIdeal.nD Cert.IpbRefIdeal.τ).loc Cert.IpbRefIdeal.main_arg3) = m ((c.tc : Thread Cert.IpbRefIdeal.nD Cert.IpbRefIdeal.τ).loc Cert.IpbRefIdeal.main_arg3)
      ∧ r.2.mem ((c.tc : Thread Cert.IpbRefIdeal.nD Cert.IpbRefIdeal.τ).loc Cert.IpbRefIdeal.main_arg4) = m ((c.tc : Thread Cert.IpbRefIdeal.nD Cert.IpbRefIdeal.τ).loc Cert.IpbRefIdeal.main_arg4))
      ∧ r.2.sem = fun _ => 0)

def quiescent_IpbRefIdeal_pre_ipb_pre [hIpbRefIdeal : Cert.IpbRefIdeal.Facts] [hPre_ipb_pre : Cert.Pre_ipb_pre.Facts] : Prop :=
  ∀ (m : (ℓ : Loc Cert.IpbRefIdeal.nD Cert.IpbRefIdeal.τ Cert.IpbRefIdeal.sig) → Buf (Elt Ideal) ℓ) (g : Dev Cert.IpbRefIdeal.nD → PrngReg), Pre_IpbRefIdeal_ipb_pre m →
    θ_run (Cert.IpbRefIdeal.defs (F := Ideal)) (onTc (τ := Cert.IpbRefIdeal.τ) (Cert.IpbRefIdeal.main (F := Ideal))) ⟨m, fun _ => 0, g⟩ (fun r => (∀ c : Dev Cert.IpbRefIdeal.nD,
      r.2.mem ((c.tc : Thread Cert.IpbRefIdeal.nD Cert.IpbRefIdeal.τ).loc Cert.IpbRefIdeal.main_arg0) = m ((c.tc : Thread Cert.IpbRefIdeal.nD Cert.IpbRefIdeal.τ).loc Cert.IpbRefIdeal.main_arg0)
      ∧ r.2.mem ((c.tc : Thread Cert.IpbRefIdeal.nD Cert.IpbRefIdeal.τ).loc Cert.IpbRefIdeal.main_arg1) = m ((c.tc : Thread Cert.IpbRefIdeal.nD Cert.IpbRefIdeal.τ).loc Cert.IpbRefIdeal.main_arg1)
      ∧ r.2.mem ((c.tc : Thread Cert.IpbRefIdeal.nD Cert.IpbRefIdeal.τ).loc Cert.IpbRefIdeal.main_arg2) = m ((c.tc : Thread Cert.IpbRefIdeal.nD Cert.IpbRefIdeal.τ).loc Cert.IpbRefIdeal.main_arg2)
      ∧ r.2.mem ((c.tc : Thread Cert.IpbRefIdeal.nD Cert.IpbRefIdeal.τ).loc Cert.IpbRefIdeal.main_arg3) = m ((c.tc : Thread Cert.IpbRefIdeal.nD Cert.IpbRefIdeal.τ).loc Cert.IpbRefIdeal.main_arg3)
      ∧ r.2.mem ((c.tc : Thread Cert.IpbRefIdeal.nD Cert.IpbRefIdeal.τ).loc Cert.IpbRefIdeal.main_arg4) = m ((c.tc : Thread Cert.IpbRefIdeal.nD Cert.IpbRefIdeal.τ).loc Cert.IpbRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleIdeal_pre_ple_pre [hPleIdeal : Cert.PleIdeal.Facts] [hPre_ple_pre : Cert.Pre_ple_pre.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_pre m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_PleRefIdeal_pre_ple_pre [hPleRefIdeal : Cert.PleRefIdeal.Facts] [hPre_ple_pre : Cert.Pre_ple_pre.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_pre m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1)
      ∧ r.2.mem ((c.tc : Thread Cert.Dz.nD Cert.Dz.τ).loc Cert.Dz.main_arg2) = m ((c.tc : Thread Cert.Dz.nD Cert.Dz.τ).loc Cert.Dz.main_arg2)
      ∧ r.2.mem ((c.tc : Thread Cert.Dz.nD Cert.Dz.τ).loc Cert.Dz.main_arg3) = m ((c.tc : Thread Cert.Dz.nD Cert.Dz.τ).loc Cert.Dz.main_arg3)
      ∧ r.2.mem ((c.tc : Thread Cert.Dz.nD Cert.Dz.τ).loc Cert.Dz.main_arg4) = m ((c.tc : Thread Cert.Dz.nD Cert.Dz.τ).loc Cert.Dz.main_arg4)
      ∧ r.2.mem ((c.tc : Thread Cert.Dz.nD Cert.Dz.τ).loc Cert.Dz.main_arg5) = m ((c.tc : Thread Cert.Dz.nD Cert.Dz.τ).loc Cert.Dz.main_arg5)
      ∧ r.2.mem ((c.tc : Thread Cert.Dz.nD Cert.Dz.τ).loc Cert.Dz.main_arg6) = m ((c.tc : Thread Cert.Dz.nD Cert.Dz.τ).loc Cert.Dz.main_arg6))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2)
      ∧ r.2.mem ((c.tc : Thread Cert.DzIdeal.nD Cert.DzIdeal.τ).loc Cert.DzIdeal.main_arg3) = m ((c.tc : Thread Cert.DzIdeal.nD Cert.DzIdeal.τ).loc Cert.DzIdeal.main_arg3)
      ∧ r.2.mem ((c.tc : Thread Cert.DzIdeal.nD Cert.DzIdeal.τ).loc Cert.DzIdeal.main_arg4) = m ((c.tc : Thread Cert.DzIdeal.nD Cert.DzIdeal.τ).loc Cert.DzIdeal.main_arg4)
      ∧ r.2.mem ((c.tc : Thread Cert.DzIdeal.nD Cert.DzIdeal.τ).loc Cert.DzIdeal.main_arg5) = m ((c.tc : Thread Cert.DzIdeal.nD Cert.DzIdeal.τ).loc Cert.DzIdeal.main_arg5)
      ∧ r.2.mem ((c.tc : Thread Cert.DzIdeal.nD Cert.DzIdeal.τ).loc Cert.DzIdeal.main_arg6) = m ((c.tc : Thread Cert.DzIdeal.nD Cert.DzIdeal.τ).loc Cert.DzIdeal.main_arg6))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1)
      ∧ r.2.mem ((c.tc : Thread Cert.DzRefIdeal.nD Cert.DzRefIdeal.τ).loc Cert.DzRefIdeal.main_arg2) = m ((c.tc : Thread Cert.DzRefIdeal.nD Cert.DzRefIdeal.τ).loc Cert.DzRefIdeal.main_arg2)
      ∧ r.2.mem ((c.tc : Thread Cert.DzRefIdeal.nD Cert.DzRefIdeal.τ).loc Cert.DzRefIdeal.main_arg3) = m ((c.tc : Thread Cert.DzRefIdeal.nD Cert.DzRefIdeal.τ).loc Cert.DzRefIdeal.main_arg3)
      ∧ r.2.mem ((c.tc : Thread Cert.DzRefIdeal.nD Cert.DzRefIdeal.τ).loc Cert.DzRefIdeal.main_arg4) = m ((c.tc : Thread Cert.DzRefIdeal.nD Cert.DzRefIdeal.τ).loc Cert.DzRefIdeal.main_arg4)
      ∧ r.2.mem ((c.tc : Thread Cert.DzRefIdeal.nD Cert.DzRefIdeal.τ).loc Cert.DzRefIdeal.main_arg5) = m ((c.tc : Thread Cert.DzRefIdeal.nD Cert.DzRefIdeal.τ).loc Cert.DzRefIdeal.main_arg5)
      ∧ r.2.mem ((c.tc : Thread Cert.DzRefIdeal.nD Cert.DzRefIdeal.τ).loc Cert.DzRefIdeal.main_arg6) = m ((c.tc : Thread Cert.DzRefIdeal.nD Cert.DzRefIdeal.τ).loc Cert.DzRefIdeal.main_arg6))
      ∧ r.2.sem = fun _ => 0)

def quiescent_Spb [hSpb : Cert.Spb.Facts] : Prop :=
  ∀ (m : (ℓ : Loc Cert.Spb.nD Cert.Spb.τ Cert.Spb.sig) → Buf (Elt Bits) ℓ) (g : Dev Cert.Spb.nD → PrngReg), Pre_Spb m →
    θ_run (Cert.Spb.defs (F := Bits)) (onTc (τ := Cert.Spb.τ) (Cert.Spb.main (F := Bits))) ⟨m, fun _ => 0, g⟩ (fun r => (∀ c : Dev Cert.Spb.nD,
      r.2.mem ((c.tc : Thread Cert.Spb.nD Cert.Spb.τ).loc Cert.Spb.main_arg0) = m ((c.tc : Thread Cert.Spb.nD Cert.Spb.τ).loc Cert.Spb.main_arg0)
      ∧ r.2.mem ((c.tc : Thread Cert.Spb.nD Cert.Spb.τ).loc Cert.Spb.main_arg1) = m ((c.tc : Thread Cert.Spb.nD Cert.Spb.τ).loc Cert.Spb.main_arg1)
      ∧ r.2.mem ((c.tc : Thread Cert.Spb.nD Cert.Spb.τ).loc Cert.Spb.main_arg2) = m ((c.tc : Thread Cert.Spb.nD Cert.Spb.τ).loc Cert.Spb.main_arg2)
      ∧ r.2.mem ((c.tc : Thread Cert.Spb.nD Cert.Spb.τ).loc Cert.Spb.main_arg3) = m ((c.tc : Thread Cert.Spb.nD Cert.Spb.τ).loc Cert.Spb.main_arg3)
      ∧ r.2.mem ((c.tc : Thread Cert.Spb.nD Cert.Spb.τ).loc Cert.Spb.main_arg4) = m ((c.tc : Thread Cert.Spb.nD Cert.Spb.τ).loc Cert.Spb.main_arg4)
      ∧ r.2.mem ((c.tc : Thread Cert.Spb.nD Cert.Spb.τ).loc Cert.Spb.main_arg5) = m ((c.tc : Thread Cert.Spb.nD Cert.Spb.τ).loc Cert.Spb.main_arg5)
      ∧ r.2.mem ((c.tc : Thread Cert.Spb.nD Cert.Spb.τ).loc Cert.Spb.main_arg6) = m ((c.tc : Thread Cert.Spb.nD Cert.Spb.τ).loc Cert.Spb.main_arg6)
      ∧ r.2.mem ((c.tc : Thread Cert.Spb.nD Cert.Spb.τ).loc Cert.Spb.main_arg7) = m ((c.tc : Thread Cert.Spb.nD Cert.Spb.τ).loc Cert.Spb.main_arg7)
      ∧ r.2.mem ((c.tc : Thread Cert.Spb.nD Cert.Spb.τ).loc Cert.Spb.main_arg8) = m ((c.tc : Thread Cert.Spb.nD Cert.Spb.τ).loc Cert.Spb.main_arg8))
      ∧ r.2.sem = fun _ => 0)

def quiescent_SpbIdeal [hSpbIdeal : Cert.SpbIdeal.Facts] : Prop :=
  ∀ (m : (ℓ : Loc Cert.SpbIdeal.nD Cert.SpbIdeal.τ Cert.SpbIdeal.sig) → Buf (Elt Ideal) ℓ) (g : Dev Cert.SpbIdeal.nD → PrngReg), Pre_SpbIdeal m →
    θ_run (Cert.SpbIdeal.defs (F := Ideal)) (onTc (τ := Cert.SpbIdeal.τ) (Cert.SpbIdeal.main (F := Ideal))) ⟨m, fun _ => 0, g⟩ (fun r => (∀ c : Dev Cert.SpbIdeal.nD,
      r.2.mem ((c.tc : Thread Cert.SpbIdeal.nD Cert.SpbIdeal.τ).loc Cert.SpbIdeal.main_arg0) = m ((c.tc : Thread Cert.SpbIdeal.nD Cert.SpbIdeal.τ).loc Cert.SpbIdeal.main_arg0)
      ∧ r.2.mem ((c.tc : Thread Cert.SpbIdeal.nD Cert.SpbIdeal.τ).loc Cert.SpbIdeal.main_arg1) = m ((c.tc : Thread Cert.SpbIdeal.nD Cert.SpbIdeal.τ).loc Cert.SpbIdeal.main_arg1)
      ∧ r.2.mem ((c.tc : Thread Cert.SpbIdeal.nD Cert.SpbIdeal.τ).loc Cert.SpbIdeal.main_arg2) = m ((c.tc : Thread Cert.SpbIdeal.nD Cert.SpbIdeal.τ).loc Cert.SpbIdeal.main_arg2)
      ∧ r.2.mem ((c.tc : Thread Cert.SpbIdeal.nD Cert.SpbIdeal.τ).loc Cert.SpbIdeal.main_arg3) = m ((c.tc : Thread Cert.SpbIdeal.nD Cert.SpbIdeal.τ).loc Cert.SpbIdeal.main_arg3)
      ∧ r.2.mem ((c.tc : Thread Cert.SpbIdeal.nD Cert.SpbIdeal.τ).loc Cert.SpbIdeal.main_arg4) = m ((c.tc : Thread Cert.SpbIdeal.nD Cert.SpbIdeal.τ).loc Cert.SpbIdeal.main_arg4)
      ∧ r.2.mem ((c.tc : Thread Cert.SpbIdeal.nD Cert.SpbIdeal.τ).loc Cert.SpbIdeal.main_arg5) = m ((c.tc : Thread Cert.SpbIdeal.nD Cert.SpbIdeal.τ).loc Cert.SpbIdeal.main_arg5)
      ∧ r.2.mem ((c.tc : Thread Cert.SpbIdeal.nD Cert.SpbIdeal.τ).loc Cert.SpbIdeal.main_arg6) = m ((c.tc : Thread Cert.SpbIdeal.nD Cert.SpbIdeal.τ).loc Cert.SpbIdeal.main_arg6)
      ∧ r.2.mem ((c.tc : Thread Cert.SpbIdeal.nD Cert.SpbIdeal.τ).loc Cert.SpbIdeal.main_arg7) = m ((c.tc : Thread Cert.SpbIdeal.nD Cert.SpbIdeal.τ).loc Cert.SpbIdeal.main_arg7)
      ∧ r.2.mem ((c.tc : Thread Cert.SpbIdeal.nD Cert.SpbIdeal.τ).loc Cert.SpbIdeal.main_arg8) = m ((c.tc : Thread Cert.SpbIdeal.nD Cert.SpbIdeal.τ).loc Cert.SpbIdeal.main_arg8))
      ∧ r.2.sem = fun _ => 0)

def quiescent_SpbRefIdeal [hSpbRefIdeal : Cert.SpbRefIdeal.Facts] : Prop :=
  ∀ (m : (ℓ : Loc Cert.SpbRefIdeal.nD Cert.SpbRefIdeal.τ Cert.SpbRefIdeal.sig) → Buf (Elt Ideal) ℓ) (g : Dev Cert.SpbRefIdeal.nD → PrngReg), Pre_SpbRefIdeal m →
    θ_run (Cert.SpbRefIdeal.defs (F := Ideal)) (onTc (τ := Cert.SpbRefIdeal.τ) (Cert.SpbRefIdeal.main (F := Ideal))) ⟨m, fun _ => 0, g⟩ (fun r => (∀ c : Dev Cert.SpbRefIdeal.nD,
      r.2.mem ((c.tc : Thread Cert.SpbRefIdeal.nD Cert.SpbRefIdeal.τ).loc Cert.SpbRefIdeal.main_arg0) = m ((c.tc : Thread Cert.SpbRefIdeal.nD Cert.SpbRefIdeal.τ).loc Cert.SpbRefIdeal.main_arg0)
      ∧ r.2.mem ((c.tc : Thread Cert.SpbRefIdeal.nD Cert.SpbRefIdeal.τ).loc Cert.SpbRefIdeal.main_arg1) = m ((c.tc : Thread Cert.SpbRefIdeal.nD Cert.SpbRefIdeal.τ).loc Cert.SpbRefIdeal.main_arg1)
      ∧ r.2.mem ((c.tc : Thread Cert.SpbRefIdeal.nD Cert.SpbRefIdeal.τ).loc Cert.SpbRefIdeal.main_arg2) = m ((c.tc : Thread Cert.SpbRefIdeal.nD Cert.SpbRefIdeal.τ).loc Cert.SpbRefIdeal.main_arg2)
      ∧ r.2.mem ((c.tc : Thread Cert.SpbRefIdeal.nD Cert.SpbRefIdeal.τ).loc Cert.SpbRefIdeal.main_arg3) = m ((c.tc : Thread Cert.SpbRefIdeal.nD Cert.SpbRefIdeal.τ).loc Cert.SpbRefIdeal.main_arg3)
      ∧ r.2.mem ((c.tc : Thread Cert.SpbRefIdeal.nD Cert.SpbRefIdeal.τ).loc Cert.SpbRefIdeal.main_arg4) = m ((c.tc : Thread Cert.SpbRefIdeal.nD Cert.SpbRefIdeal.τ).loc Cert.SpbRefIdeal.main_arg4)
      ∧ r.2.mem ((c.tc : Thread Cert.SpbRefIdeal.nD Cert.SpbRefIdeal.τ).loc Cert.SpbRefIdeal.main_arg5) = m ((c.tc : Thread Cert.SpbRefIdeal.nD Cert.SpbRefIdeal.τ).loc Cert.SpbRefIdeal.main_arg5)
      ∧ r.2.mem ((c.tc : Thread Cert.SpbRefIdeal.nD Cert.SpbRefIdeal.τ).loc Cert.SpbRefIdeal.main_arg6) = m ((c.tc : Thread Cert.SpbRefIdeal.nD Cert.SpbRefIdeal.τ).loc Cert.SpbRefIdeal.main_arg6)
      ∧ r.2.mem ((c.tc : Thread Cert.SpbRefIdeal.nD Cert.SpbRefIdeal.τ).loc Cert.SpbRefIdeal.main_arg7) = m ((c.tc : Thread Cert.SpbRefIdeal.nD Cert.SpbRefIdeal.τ).loc Cert.SpbRefIdeal.main_arg7)
      ∧ r.2.mem ((c.tc : Thread Cert.SpbRefIdeal.nD Cert.SpbRefIdeal.τ).loc Cert.SpbRefIdeal.main_arg8) = m ((c.tc : Thread Cert.SpbRefIdeal.nD Cert.SpbRefIdeal.τ).loc Cert.SpbRefIdeal.main_arg8))
      ∧ r.2.sem = fun _ => 0)

def quiescent_Att1 [hAtt1 : Cert.Att1.Facts] : Prop :=
  ∀ (m : (ℓ : Loc Cert.Att1.nD Cert.Att1.τ Cert.Att1.sig) → Buf (Elt Bits) ℓ) (g : Dev Cert.Att1.nD → PrngReg), Pre_Att1 m →
    θ_run (Cert.Att1.defs (F := Bits)) (onTc (τ := Cert.Att1.τ) (Cert.Att1.main (F := Bits))) ⟨m, fun _ => 0, g⟩ (fun r => (∀ c : Dev Cert.Att1.nD,
      r.2.mem ((c.tc : Thread Cert.Att1.nD Cert.Att1.τ).loc Cert.Att1.main_arg0) = m ((c.tc : Thread Cert.Att1.nD Cert.Att1.τ).loc Cert.Att1.main_arg0)
      ∧ r.2.mem ((c.tc : Thread Cert.Att1.nD Cert.Att1.τ).loc Cert.Att1.main_arg1) = m ((c.tc : Thread Cert.Att1.nD Cert.Att1.τ).loc Cert.Att1.main_arg1)
      ∧ r.2.mem ((c.tc : Thread Cert.Att1.nD Cert.Att1.τ).loc Cert.Att1.main_arg2) = m ((c.tc : Thread Cert.Att1.nD Cert.Att1.τ).loc Cert.Att1.main_arg2)
      ∧ r.2.mem ((c.tc : Thread Cert.Att1.nD Cert.Att1.τ).loc Cert.Att1.main_arg3) = m ((c.tc : Thread Cert.Att1.nD Cert.Att1.τ).loc Cert.Att1.main_arg3))
      ∧ r.2.sem = fun _ => 0)

def quiescent_Att1Ideal [hAtt1Ideal : Cert.Att1Ideal.Facts] : Prop :=
  ∀ (m : (ℓ : Loc Cert.Att1Ideal.nD Cert.Att1Ideal.τ Cert.Att1Ideal.sig) → Buf (Elt Ideal) ℓ) (g : Dev Cert.Att1Ideal.nD → PrngReg), Pre_Att1Ideal m →
    θ_run (Cert.Att1Ideal.defs (F := Ideal)) (onTc (τ := Cert.Att1Ideal.τ) (Cert.Att1Ideal.main (F := Ideal))) ⟨m, fun _ => 0, g⟩ (fun r => (∀ c : Dev Cert.Att1Ideal.nD,
      r.2.mem ((c.tc : Thread Cert.Att1Ideal.nD Cert.Att1Ideal.τ).loc Cert.Att1Ideal.main_arg0) = m ((c.tc : Thread Cert.Att1Ideal.nD Cert.Att1Ideal.τ).loc Cert.Att1Ideal.main_arg0)
      ∧ r.2.mem ((c.tc : Thread Cert.Att1Ideal.nD Cert.Att1Ideal.τ).loc Cert.Att1Ideal.main_arg1) = m ((c.tc : Thread Cert.Att1Ideal.nD Cert.Att1Ideal.τ).loc Cert.Att1Ideal.main_arg1)
      ∧ r.2.mem ((c.tc : Thread Cert.Att1Ideal.nD Cert.Att1Ideal.τ).loc Cert.Att1Ideal.main_arg2) = m ((c.tc : Thread Cert.Att1Ideal.nD Cert.Att1Ideal.τ).loc Cert.Att1Ideal.main_arg2)
      ∧ r.2.mem ((c.tc : Thread Cert.Att1Ideal.nD Cert.Att1Ideal.τ).loc Cert.Att1Ideal.main_arg3) = m ((c.tc : Thread Cert.Att1Ideal.nD Cert.Att1Ideal.τ).loc Cert.Att1Ideal.main_arg3))
      ∧ r.2.sem = fun _ => 0)

def quiescent_Att1Ideal_pre_att_pre [hAtt1Ideal : Cert.Att1Ideal.Facts] [hPre_att_pre : Cert.Pre_att_pre.Facts] : Prop :=
  ∀ (m : (ℓ : Loc Cert.Att1Ideal.nD Cert.Att1Ideal.τ Cert.Att1Ideal.sig) → Buf (Elt Ideal) ℓ) (g : Dev Cert.Att1Ideal.nD → PrngReg), Pre_Att1Ideal_att_pre m →
    θ_run (Cert.Att1Ideal.defs (F := Ideal)) (onTc (τ := Cert.Att1Ideal.τ) (Cert.Att1Ideal.main (F := Ideal))) ⟨m, fun _ => 0, g⟩ (fun r => (∀ c : Dev Cert.Att1Ideal.nD,
      r.2.mem ((c.tc : Thread Cert.Att1Ideal.nD Cert.Att1Ideal.τ).loc Cert.Att1Ideal.main_arg0) = m ((c.tc : Thread Cert.Att1Ideal.nD Cert.Att1Ideal.τ).loc Cert.Att1Ideal.main_arg0)
      ∧ r.2.mem ((c.tc : Thread Cert.Att1Ideal.nD Cert.Att1Ideal.τ).loc Cert.Att1Ideal.main_arg1) = m ((c.tc : Thread Cert.Att1Ideal.nD Cert.Att1Ideal.τ).loc Cert.Att1Ideal.main_arg1)
      ∧ r.2.mem ((c.tc : Thread Cert.Att1Ideal.nD Cert.Att1Ideal.τ).loc Cert.Att1Ideal.main_arg2) = m ((c.tc : Thread Cert.Att1Ideal.nD Cert.Att1Ideal.τ).loc Cert.Att1Ideal.main_arg2)
      ∧ r.2.mem ((c.tc : Thread Cert.Att1Ideal.nD Cert.Att1Ideal.τ).loc Cert.Att1Ideal.main_arg3) = m ((c.tc : Thread Cert.Att1Ideal.nD Cert.Att1Ideal.τ).loc Cert.Att1Ideal.main_arg3))
      ∧ r.2.sem = fun _ => 0)

def quiescent_Att1RefIdeal [hAtt1RefIdeal : Cert.Att1RefIdeal.Facts] : Prop :=
  ∀ (m : (ℓ : Loc Cert.Att1RefIdeal.nD Cert.Att1RefIdeal.τ Cert.Att1RefIdeal.sig) → Buf (Elt Ideal) ℓ) (g : Dev Cert.Att1RefIdeal.nD → PrngReg), Pre_Att1RefIdeal m →
    θ_run (Cert.Att1RefIdeal.defs (F := Ideal)) (onTc (τ := Cert.Att1RefIdeal.τ) (Cert.Att1RefIdeal.main (F := Ideal))) ⟨m, fun _ => 0, g⟩ (fun r => (∀ c : Dev Cert.Att1RefIdeal.nD,
      r.2.mem ((c.tc : Thread Cert.Att1RefIdeal.nD Cert.Att1RefIdeal.τ).loc Cert.Att1RefIdeal.main_arg0) = m ((c.tc : Thread Cert.Att1RefIdeal.nD Cert.Att1RefIdeal.τ).loc Cert.Att1RefIdeal.main_arg0)
      ∧ r.2.mem ((c.tc : Thread Cert.Att1RefIdeal.nD Cert.Att1RefIdeal.τ).loc Cert.Att1RefIdeal.main_arg1) = m ((c.tc : Thread Cert.Att1RefIdeal.nD Cert.Att1RefIdeal.τ).loc Cert.Att1RefIdeal.main_arg1)
      ∧ r.2.mem ((c.tc : Thread Cert.Att1RefIdeal.nD Cert.Att1RefIdeal.τ).loc Cert.Att1RefIdeal.main_arg2) = m ((c.tc : Thread Cert.Att1RefIdeal.nD Cert.Att1RefIdeal.τ).loc Cert.Att1RefIdeal.main_arg2)
      ∧ r.2.mem ((c.tc : Thread Cert.Att1RefIdeal.nD Cert.Att1RefIdeal.τ).loc Cert.Att1RefIdeal.main_arg3) = m ((c.tc : Thread Cert.Att1RefIdeal.nD Cert.Att1RefIdeal.τ).loc Cert.Att1RefIdeal.main_arg3))
      ∧ r.2.sem = fun _ => 0)

def quiescent_Att1RefIdeal_pre_att_pre [hAtt1RefIdeal : Cert.Att1RefIdeal.Facts] [hPre_att_pre : Cert.Pre_att_pre.Facts] : Prop :=
  ∀ (m : (ℓ : Loc Cert.Att1RefIdeal.nD Cert.Att1RefIdeal.τ Cert.Att1RefIdeal.sig) → Buf (Elt Ideal) ℓ) (g : Dev Cert.Att1RefIdeal.nD → PrngReg), Pre_Att1RefIdeal_att_pre m →
    θ_run (Cert.Att1RefIdeal.defs (F := Ideal)) (onTc (τ := Cert.Att1RefIdeal.τ) (Cert.Att1RefIdeal.main (F := Ideal))) ⟨m, fun _ => 0, g⟩ (fun r => (∀ c : Dev Cert.Att1RefIdeal.nD,
      r.2.mem ((c.tc : Thread Cert.Att1RefIdeal.nD Cert.Att1RefIdeal.τ).loc Cert.Att1RefIdeal.main_arg0) = m ((c.tc : Thread Cert.Att1RefIdeal.nD Cert.Att1RefIdeal.τ).loc Cert.Att1RefIdeal.main_arg0)
      ∧ r.2.mem ((c.tc : Thread Cert.Att1RefIdeal.nD Cert.Att1RefIdeal.τ).loc Cert.Att1RefIdeal.main_arg1) = m ((c.tc : Thread Cert.Att1RefIdeal.nD Cert.Att1RefIdeal.τ).loc Cert.Att1RefIdeal.main_arg1)
      ∧ r.2.mem ((c.tc : Thread Cert.Att1RefIdeal.nD Cert.Att1RefIdeal.τ).loc Cert.Att1RefIdeal.main_arg2) = m ((c.tc : Thread Cert.Att1RefIdeal.nD Cert.Att1RefIdeal.τ).loc Cert.Att1RefIdeal.main_arg2)
      ∧ r.2.mem ((c.tc : Thread Cert.Att1RefIdeal.nD Cert.Att1RefIdeal.τ).loc Cert.Att1RefIdeal.main_arg3) = m ((c.tc : Thread Cert.Att1RefIdeal.nD Cert.Att1RefIdeal.τ).loc Cert.Att1RefIdeal.main_arg3))
      ∧ r.2.sem = fun _ => 0)

def quiescent_Att4 [hAtt4 : Cert.Att4.Facts] : Prop :=
  ∀ (m : (ℓ : Loc Cert.Att4.nD Cert.Att4.τ Cert.Att4.sig) → Buf (Elt Bits) ℓ) (g : Dev Cert.Att4.nD → PrngReg), Pre_Att4 m →
    θ_run (Cert.Att4.defs (F := Bits)) (onTc (τ := Cert.Att4.τ) (Cert.Att4.main (F := Bits))) ⟨m, fun _ => 0, g⟩ (fun r => (∀ c : Dev Cert.Att4.nD,
      r.2.mem ((c.tc : Thread Cert.Att4.nD Cert.Att4.τ).loc Cert.Att4.main_arg0) = m ((c.tc : Thread Cert.Att4.nD Cert.Att4.τ).loc Cert.Att4.main_arg0)
      ∧ r.2.mem ((c.tc : Thread Cert.Att4.nD Cert.Att4.τ).loc Cert.Att4.main_arg1) = m ((c.tc : Thread Cert.Att4.nD Cert.Att4.τ).loc Cert.Att4.main_arg1)
      ∧ r.2.mem ((c.tc : Thread Cert.Att4.nD Cert.Att4.τ).loc Cert.Att4.main_arg2) = m ((c.tc : Thread Cert.Att4.nD Cert.Att4.τ).loc Cert.Att4.main_arg2)
      ∧ r.2.mem ((c.tc : Thread Cert.Att4.nD Cert.Att4.τ).loc Cert.Att4.main_arg3) = m ((c.tc : Thread Cert.Att4.nD Cert.Att4.τ).loc Cert.Att4.main_arg3))
      ∧ r.2.sem = fun _ => 0)

def quiescent_Att4Ideal [hAtt4Ideal : Cert.Att4Ideal.Facts] : Prop :=
  ∀ (m : (ℓ : Loc Cert.Att4Ideal.nD Cert.Att4Ideal.τ Cert.Att4Ideal.sig) → Buf (Elt Ideal) ℓ) (g : Dev Cert.Att4Ideal.nD → PrngReg), Pre_Att4Ideal m →
    θ_run (Cert.Att4Ideal.defs (F := Ideal)) (onTc (τ := Cert.Att4Ideal.τ) (Cert.Att4Ideal.main (F := Ideal))) ⟨m, fun _ => 0, g⟩ (fun r => (∀ c : Dev Cert.Att4Ideal.nD,
      r.2.mem ((c.tc : Thread Cert.Att4Ideal.nD Cert.Att4Ideal.τ).loc Cert.Att4Ideal.main_arg0) = m ((c.tc : Thread Cert.Att4Ideal.nD Cert.Att4Ideal.τ).loc Cert.Att4Ideal.main_arg0)
      ∧ r.2.mem ((c.tc : Thread Cert.Att4Ideal.nD Cert.Att4Ideal.τ).loc Cert.Att4Ideal.main_arg1) = m ((c.tc : Thread Cert.Att4Ideal.nD Cert.Att4Ideal.τ).loc Cert.Att4Ideal.main_arg1)
      ∧ r.2.mem ((c.tc : Thread Cert.Att4Ideal.nD Cert.Att4Ideal.τ).loc Cert.Att4Ideal.main_arg2) = m ((c.tc : Thread Cert.Att4Ideal.nD Cert.Att4Ideal.τ).loc Cert.Att4Ideal.main_arg2)
      ∧ r.2.mem ((c.tc : Thread Cert.Att4Ideal.nD Cert.Att4Ideal.τ).loc Cert.Att4Ideal.main_arg3) = m ((c.tc : Thread Cert.Att4Ideal.nD Cert.Att4Ideal.τ).loc Cert.Att4Ideal.main_arg3))
      ∧ r.2.sem = fun _ => 0)

def quiescent_Att4Ideal_pre_att_pre [hAtt4Ideal : Cert.Att4Ideal.Facts] [hPre_att_pre : Cert.Pre_att_pre.Facts] : Prop :=
  ∀ (m : (ℓ : Loc Cert.Att4Ideal.nD Cert.Att4Ideal.τ Cert.Att4Ideal.sig) → Buf (Elt Ideal) ℓ) (g : Dev Cert.Att4Ideal.nD → PrngReg), Pre_Att4Ideal_att_pre m →
    θ_run (Cert.Att4Ideal.defs (F := Ideal)) (onTc (τ := Cert.Att4Ideal.τ) (Cert.Att4Ideal.main (F := Ideal))) ⟨m, fun _ => 0, g⟩ (fun r => (∀ c : Dev Cert.Att4Ideal.nD,
      r.2.mem ((c.tc : Thread Cert.Att4Ideal.nD Cert.Att4Ideal.τ).loc Cert.Att4Ideal.main_arg0) = m ((c.tc : Thread Cert.Att4Ideal.nD Cert.Att4Ideal.τ).loc Cert.Att4Ideal.main_arg0)
      ∧ r.2.mem ((c.tc : Thread Cert.Att4Ideal.nD Cert.Att4Ideal.τ).loc Cert.Att4Ideal.main_arg1) = m ((c.tc : Thread Cert.Att4Ideal.nD Cert.Att4Ideal.τ).loc Cert.Att4Ideal.main_arg1)
      ∧ r.2.mem ((c.tc : Thread Cert.Att4Ideal.nD Cert.Att4Ideal.τ).loc Cert.Att4Ideal.main_arg2) = m ((c.tc : Thread Cert.Att4Ideal.nD Cert.Att4Ideal.τ).loc Cert.Att4Ideal.main_arg2)
      ∧ r.2.mem ((c.tc : Thread Cert.Att4Ideal.nD Cert.Att4Ideal.τ).loc Cert.Att4Ideal.main_arg3) = m ((c.tc : Thread Cert.Att4Ideal.nD Cert.Att4Ideal.τ).loc Cert.Att4Ideal.main_arg3))
      ∧ r.2.sem = fun _ => 0)

def quiescent_Att4RefIdeal [hAtt4RefIdeal : Cert.Att4RefIdeal.Facts] : Prop :=
  ∀ (m : (ℓ : Loc Cert.Att4RefIdeal.nD Cert.Att4RefIdeal.τ Cert.Att4RefIdeal.sig) → Buf (Elt Ideal) ℓ) (g : Dev Cert.Att4RefIdeal.nD → PrngReg), Pre_Att4RefIdeal m →
    θ_run (Cert.Att4RefIdeal.defs (F := Ideal)) (onTc (τ := Cert.Att4RefIdeal.τ) (Cert.Att4RefIdeal.main (F := Ideal))) ⟨m, fun _ => 0, g⟩ (fun r => (∀ c : Dev Cert.Att4RefIdeal.nD,
      r.2.mem ((c.tc : Thread Cert.Att4RefIdeal.nD Cert.Att4RefIdeal.τ).loc Cert.Att4RefIdeal.main_arg0) = m ((c.tc : Thread Cert.Att4RefIdeal.nD Cert.Att4RefIdeal.τ).loc Cert.Att4RefIdeal.main_arg0)
      ∧ r.2.mem ((c.tc : Thread Cert.Att4RefIdeal.nD Cert.Att4RefIdeal.τ).loc Cert.Att4RefIdeal.main_arg1) = m ((c.tc : Thread Cert.Att4RefIdeal.nD Cert.Att4RefIdeal.τ).loc Cert.Att4RefIdeal.main_arg1)
      ∧ r.2.mem ((c.tc : Thread Cert.Att4RefIdeal.nD Cert.Att4RefIdeal.τ).loc Cert.Att4RefIdeal.main_arg2) = m ((c.tc : Thread Cert.Att4RefIdeal.nD Cert.Att4RefIdeal.τ).loc Cert.Att4RefIdeal.main_arg2)
      ∧ r.2.mem ((c.tc : Thread Cert.Att4RefIdeal.nD Cert.Att4RefIdeal.τ).loc Cert.Att4RefIdeal.main_arg3) = m ((c.tc : Thread Cert.Att4RefIdeal.nD Cert.Att4RefIdeal.τ).loc Cert.Att4RefIdeal.main_arg3))
      ∧ r.2.sem = fun _ => 0)

def quiescent_Att4RefIdeal_pre_att_pre [hAtt4RefIdeal : Cert.Att4RefIdeal.Facts] [hPre_att_pre : Cert.Pre_att_pre.Facts] : Prop :=
  ∀ (m : (ℓ : Loc Cert.Att4RefIdeal.nD Cert.Att4RefIdeal.τ Cert.Att4RefIdeal.sig) → Buf (Elt Ideal) ℓ) (g : Dev Cert.Att4RefIdeal.nD → PrngReg), Pre_Att4RefIdeal_att_pre m →
    θ_run (Cert.Att4RefIdeal.defs (F := Ideal)) (onTc (τ := Cert.Att4RefIdeal.τ) (Cert.Att4RefIdeal.main (F := Ideal))) ⟨m, fun _ => 0, g⟩ (fun r => (∀ c : Dev Cert.Att4RefIdeal.nD,
      r.2.mem ((c.tc : Thread Cert.Att4RefIdeal.nD Cert.Att4RefIdeal.τ).loc Cert.Att4RefIdeal.main_arg0) = m ((c.tc : Thread Cert.Att4RefIdeal.nD Cert.Att4RefIdeal.τ).loc Cert.Att4RefIdeal.main_arg0)
      ∧ r.2.mem ((c.tc : Thread Cert.Att4RefIdeal.nD Cert.Att4RefIdeal.τ).loc Cert.Att4RefIdeal.main_arg1) = m ((c.tc : Thread Cert.Att4RefIdeal.nD Cert.Att4RefIdeal.τ).loc Cert.Att4RefIdeal.main_arg1)
      ∧ r.2.mem ((c.tc : Thread Cert.Att4RefIdeal.nD Cert.Att4RefIdeal.τ).loc Cert.Att4RefIdeal.main_arg2) = m ((c.tc : Thread Cert.Att4RefIdeal.nD Cert.Att4RefIdeal.τ).loc Cert.Att4RefIdeal.main_arg2)
      ∧ r.2.mem ((c.tc : Thread Cert.Att4RefIdeal.nD Cert.Att4RefIdeal.τ).loc Cert.Att4RefIdeal.main_arg3) = m ((c.tc : Thread Cert.Att4RefIdeal.nD Cert.Att4RefIdeal.τ).loc Cert.Att4RefIdeal.main_arg3))
      ∧ r.2.sem = fun _ => 0)

def quiescent_Att16 [hAtt16 : Cert.Att16.Facts] : Prop :=
  ∀ (m : (ℓ : Loc Cert.Att16.nD Cert.Att16.τ Cert.Att16.sig) → Buf (Elt Bits) ℓ) (g : Dev Cert.Att16.nD → PrngReg), Pre_Att16 m →
    θ_run (Cert.Att16.defs (F := Bits)) (onTc (τ := Cert.Att16.τ) (Cert.Att16.main (F := Bits))) ⟨m, fun _ => 0, g⟩ (fun r => (∀ c : Dev Cert.Att16.nD,
      r.2.mem ((c.tc : Thread Cert.Att16.nD Cert.Att16.τ).loc Cert.Att16.main_arg0) = m ((c.tc : Thread Cert.Att16.nD Cert.Att16.τ).loc Cert.Att16.main_arg0)
      ∧ r.2.mem ((c.tc : Thread Cert.Att16.nD Cert.Att16.τ).loc Cert.Att16.main_arg1) = m ((c.tc : Thread Cert.Att16.nD Cert.Att16.τ).loc Cert.Att16.main_arg1)
      ∧ r.2.mem ((c.tc : Thread Cert.Att16.nD Cert.Att16.τ).loc Cert.Att16.main_arg2) = m ((c.tc : Thread Cert.Att16.nD Cert.Att16.τ).loc Cert.Att16.main_arg2)
      ∧ r.2.mem ((c.tc : Thread Cert.Att16.nD Cert.Att16.τ).loc Cert.Att16.main_arg3) = m ((c.tc : Thread Cert.Att16.nD Cert.Att16.τ).loc Cert.Att16.main_arg3))
      ∧ r.2.sem = fun _ => 0)

def quiescent_Att16Ideal [hAtt16Ideal : Cert.Att16Ideal.Facts] : Prop :=
  ∀ (m : (ℓ : Loc Cert.Att16Ideal.nD Cert.Att16Ideal.τ Cert.Att16Ideal.sig) → Buf (Elt Ideal) ℓ) (g : Dev Cert.Att16Ideal.nD → PrngReg), Pre_Att16Ideal m →
    θ_run (Cert.Att16Ideal.defs (F := Ideal)) (onTc (τ := Cert.Att16Ideal.τ) (Cert.Att16Ideal.main (F := Ideal))) ⟨m, fun _ => 0, g⟩ (fun r => (∀ c : Dev Cert.Att16Ideal.nD,
      r.2.mem ((c.tc : Thread Cert.Att16Ideal.nD Cert.Att16Ideal.τ).loc Cert.Att16Ideal.main_arg0) = m ((c.tc : Thread Cert.Att16Ideal.nD Cert.Att16Ideal.τ).loc Cert.Att16Ideal.main_arg0)
      ∧ r.2.mem ((c.tc : Thread Cert.Att16Ideal.nD Cert.Att16Ideal.τ).loc Cert.Att16Ideal.main_arg1) = m ((c.tc : Thread Cert.Att16Ideal.nD Cert.Att16Ideal.τ).loc Cert.Att16Ideal.main_arg1)
      ∧ r.2.mem ((c.tc : Thread Cert.Att16Ideal.nD Cert.Att16Ideal.τ).loc Cert.Att16Ideal.main_arg2) = m ((c.tc : Thread Cert.Att16Ideal.nD Cert.Att16Ideal.τ).loc Cert.Att16Ideal.main_arg2)
      ∧ r.2.mem ((c.tc : Thread Cert.Att16Ideal.nD Cert.Att16Ideal.τ).loc Cert.Att16Ideal.main_arg3) = m ((c.tc : Thread Cert.Att16Ideal.nD Cert.Att16Ideal.τ).loc Cert.Att16Ideal.main_arg3))
      ∧ r.2.sem = fun _ => 0)

def quiescent_Att16Ideal_pre_att_pre [hAtt16Ideal : Cert.Att16Ideal.Facts] [hPre_att_pre : Cert.Pre_att_pre.Facts] : Prop :=
  ∀ (m : (ℓ : Loc Cert.Att16Ideal.nD Cert.Att16Ideal.τ Cert.Att16Ideal.sig) → Buf (Elt Ideal) ℓ) (g : Dev Cert.Att16Ideal.nD → PrngReg), Pre_Att16Ideal_att_pre m →
    θ_run (Cert.Att16Ideal.defs (F := Ideal)) (onTc (τ := Cert.Att16Ideal.τ) (Cert.Att16Ideal.main (F := Ideal))) ⟨m, fun _ => 0, g⟩ (fun r => (∀ c : Dev Cert.Att16Ideal.nD,
      r.2.mem ((c.tc : Thread Cert.Att16Ideal.nD Cert.Att16Ideal.τ).loc Cert.Att16Ideal.main_arg0) = m ((c.tc : Thread Cert.Att16Ideal.nD Cert.Att16Ideal.τ).loc Cert.Att16Ideal.main_arg0)
      ∧ r.2.mem ((c.tc : Thread Cert.Att16Ideal.nD Cert.Att16Ideal.τ).loc Cert.Att16Ideal.main_arg1) = m ((c.tc : Thread Cert.Att16Ideal.nD Cert.Att16Ideal.τ).loc Cert.Att16Ideal.main_arg1)
      ∧ r.2.mem ((c.tc : Thread Cert.Att16Ideal.nD Cert.Att16Ideal.τ).loc Cert.Att16Ideal.main_arg2) = m ((c.tc : Thread Cert.Att16Ideal.nD Cert.Att16Ideal.τ).loc Cert.Att16Ideal.main_arg2)
      ∧ r.2.mem ((c.tc : Thread Cert.Att16Ideal.nD Cert.Att16Ideal.τ).loc Cert.Att16Ideal.main_arg3) = m ((c.tc : Thread Cert.Att16Ideal.nD Cert.Att16Ideal.τ).loc Cert.Att16Ideal.main_arg3))
      ∧ r.2.sem = fun _ => 0)

def quiescent_Att16RefIdeal [hAtt16RefIdeal : Cert.Att16RefIdeal.Facts] : Prop :=
  ∀ (m : (ℓ : Loc Cert.Att16RefIdeal.nD Cert.Att16RefIdeal.τ Cert.Att16RefIdeal.sig) → Buf (Elt Ideal) ℓ) (g : Dev Cert.Att16RefIdeal.nD → PrngReg), Pre_Att16RefIdeal m →
    θ_run (Cert.Att16RefIdeal.defs (F := Ideal)) (onTc (τ := Cert.Att16RefIdeal.τ) (Cert.Att16RefIdeal.main (F := Ideal))) ⟨m, fun _ => 0, g⟩ (fun r => (∀ c : Dev Cert.Att16RefIdeal.nD,
      r.2.mem ((c.tc : Thread Cert.Att16RefIdeal.nD Cert.Att16RefIdeal.τ).loc Cert.Att16RefIdeal.main_arg0) = m ((c.tc : Thread Cert.Att16RefIdeal.nD Cert.Att16RefIdeal.τ).loc Cert.Att16RefIdeal.main_arg0)
      ∧ r.2.mem ((c.tc : Thread Cert.Att16RefIdeal.nD Cert.Att16RefIdeal.τ).loc Cert.Att16RefIdeal.main_arg1) = m ((c.tc : Thread Cert.Att16RefIdeal.nD Cert.Att16RefIdeal.τ).loc Cert.Att16RefIdeal.main_arg1)
      ∧ r.2.mem ((c.tc : Thread Cert.Att16RefIdeal.nD Cert.Att16RefIdeal.τ).loc Cert.Att16RefIdeal.main_arg2) = m ((c.tc : Thread Cert.Att16RefIdeal.nD Cert.Att16RefIdeal.τ).loc Cert.Att16RefIdeal.main_arg2)
      ∧ r.2.mem ((c.tc : Thread Cert.Att16RefIdeal.nD Cert.Att16RefIdeal.τ).loc Cert.Att16RefIdeal.main_arg3) = m ((c.tc : Thread Cert.Att16RefIdeal.nD Cert.Att16RefIdeal.τ).loc Cert.Att16RefIdeal.main_arg3))
      ∧ r.2.sem = fun _ => 0)

def quiescent_Att16RefIdeal_pre_att_pre [hAtt16RefIdeal : Cert.Att16RefIdeal.Facts] [hPre_att_pre : Cert.Pre_att_pre.Facts] : Prop :=
  ∀ (m : (ℓ : Loc Cert.Att16RefIdeal.nD Cert.Att16RefIdeal.τ Cert.Att16RefIdeal.sig) → Buf (Elt Ideal) ℓ) (g : Dev Cert.Att16RefIdeal.nD → PrngReg), Pre_Att16RefIdeal_att_pre m →
    θ_run (Cert.Att16RefIdeal.defs (F := Ideal)) (onTc (τ := Cert.Att16RefIdeal.τ) (Cert.Att16RefIdeal.main (F := Ideal))) ⟨m, fun _ => 0, g⟩ (fun r => (∀ c : Dev Cert.Att16RefIdeal.nD,
      r.2.mem ((c.tc : Thread Cert.Att16RefIdeal.nD Cert.Att16RefIdeal.τ).loc Cert.Att16RefIdeal.main_arg0) = m ((c.tc : Thread Cert.Att16RefIdeal.nD Cert.Att16RefIdeal.τ).loc Cert.Att16RefIdeal.main_arg0)
      ∧ r.2.mem ((c.tc : Thread Cert.Att16RefIdeal.nD Cert.Att16RefIdeal.τ).loc Cert.Att16RefIdeal.main_arg1) = m ((c.tc : Thread Cert.Att16RefIdeal.nD Cert.Att16RefIdeal.τ).loc Cert.Att16RefIdeal.main_arg1)
      ∧ r.2.mem ((c.tc : Thread Cert.Att16RefIdeal.nD Cert.Att16RefIdeal.τ).loc Cert.Att16RefIdeal.main_arg2) = m ((c.tc : Thread Cert.Att16RefIdeal.nD Cert.Att16RefIdeal.τ).loc Cert.Att16RefIdeal.main_arg2)
      ∧ r.2.mem ((c.tc : Thread Cert.Att16RefIdeal.nD Cert.Att16RefIdeal.τ).loc Cert.Att16RefIdeal.main_arg3) = m ((c.tc : Thread Cert.Att16RefIdeal.nD Cert.Att16RefIdeal.τ).loc Cert.Att16RefIdeal.main_arg3))
      ∧ r.2.sem = fun _ => 0)

def quiescent_Prj [hPrj : Cert.Prj.Facts] : Prop :=
  ∀ (m : (ℓ : Loc Cert.Prj.nD Cert.Prj.τ Cert.Prj.sig) → Buf (Elt Bits) ℓ) (g : Dev Cert.Prj.nD → PrngReg), Pre_Prj m →
    θ_run (Cert.Prj.defs (F := Bits)) (onTc (τ := Cert.Prj.τ) (Cert.Prj.main (F := Bits))) ⟨m, fun _ => 0, g⟩ (fun r => (∀ c : Dev Cert.Prj.nD,
      r.2.mem ((c.tc : Thread Cert.Prj.nD Cert.Prj.τ).loc Cert.Prj.main_arg0) = m ((c.tc : Thread Cert.Prj.nD Cert.Prj.τ).loc Cert.Prj.main_arg0)
      ∧ r.2.mem ((c.tc : Thread Cert.Prj.nD Cert.Prj.τ).loc Cert.Prj.main_arg1) = m ((c.tc : Thread Cert.Prj.nD Cert.Prj.τ).loc Cert.Prj.main_arg1))
      ∧ r.2.sem = fun _ => 0)

def quiescent_PrjIdeal [hPrjIdeal : Cert.PrjIdeal.Facts] : Prop :=
  ∀ (m : (ℓ : Loc Cert.PrjIdeal.nD Cert.PrjIdeal.τ Cert.PrjIdeal.sig) → Buf (Elt Ideal) ℓ) (g : Dev Cert.PrjIdeal.nD → PrngReg), Pre_PrjIdeal m →
    θ_run (Cert.PrjIdeal.defs (F := Ideal)) (onTc (τ := Cert.PrjIdeal.τ) (Cert.PrjIdeal.main (F := Ideal))) ⟨m, fun _ => 0, g⟩ (fun r => (∀ c : Dev Cert.PrjIdeal.nD,
      r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
      ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1))
      ∧ r.2.sem = fun _ => 0)

def quiescent_PrjRefIdeal [hPrjRefIdeal : Cert.PrjRefIdeal.Facts] : Prop :=
  ∀ (m : (ℓ : Loc Cert.PrjRefIdeal.nD Cert.PrjRefIdeal.τ Cert.PrjRefIdeal.sig) → Buf (Elt Ideal) ℓ) (g : Dev Cert.PrjRefIdeal.nD → PrngReg), Pre_PrjRefIdeal m →
    θ_run (Cert.PrjRefIdeal.defs (F := Ideal)) (onTc (τ := Cert.PrjRefIdeal.τ) (Cert.PrjRefIdeal.main (F := Ideal))) ⟨m, fun _ => 0, g⟩ (fun r => (∀ c : Dev Cert.PrjRefIdeal.nD,
      r.2.mem ((c.tc : Thread Cert.PrjRefIdeal.nD Cert.PrjRefIdeal.τ).loc Cert.PrjRefIdeal.main_arg0) = m ((c.tc : Thread Cert.PrjRefIdeal.nD Cert.PrjRefIdeal.τ).loc Cert.PrjRefIdeal.main_arg0)
      ∧ r.2.mem ((c.tc : Thread Cert.PrjRefIdeal.nD Cert.PrjRefIdeal.τ).loc Cert.PrjRefIdeal.main_arg1) = m ((c.tc : Thread Cert.PrjRefIdeal.nD Cert.PrjRefIdeal.τ).loc Cert.PrjRefIdeal.main_arg1))
      ∧ r.2.sem = fun _ => 0)

def quiescent_Plp [hPlp : Cert.Plp.Facts] : Prop :=
  ∀ (m : (ℓ : Loc Cert.Plp.nD Cert.Plp.τ Cert.Plp.sig) → Buf (Elt Bits) ℓ) (g : Dev Cert.Plp.nD → PrngReg), Pre_Plp m →
    θ_run (Cert.Plp.defs (F := Bits)) (onTc (τ := Cert.Plp.τ) (Cert.Plp.main (F := Bits))) ⟨m, fun _ => 0, g⟩ (fun r => (∀ c : Dev Cert.Plp.nD,
      r.2.mem ((c.tc : Thread Cert.Plp.nD Cert.Plp.τ).loc Cert.Plp.main_arg0) = m ((c.tc : Thread Cert.Plp.nD Cert.Plp.τ).loc Cert.Plp.main_arg0)
      ∧ r.2.mem ((c.tc : Thread Cert.Plp.nD Cert.Plp.τ).loc Cert.Plp.main_arg1) = m ((c.tc : Thread Cert.Plp.nD Cert.Plp.τ).loc Cert.Plp.main_arg1))
      ∧ r.2.sem = fun _ => 0)

def quiescent_PlpIdeal [hPlpIdeal : Cert.PlpIdeal.Facts] : Prop :=
  ∀ (m : (ℓ : Loc Cert.PlpIdeal.nD Cert.PlpIdeal.τ Cert.PlpIdeal.sig) → Buf (Elt Ideal) ℓ) (g : Dev Cert.PlpIdeal.nD → PrngReg), Pre_PlpIdeal m →
    θ_run (Cert.PlpIdeal.defs (F := Ideal)) (onTc (τ := Cert.PlpIdeal.τ) (Cert.PlpIdeal.main (F := Ideal))) ⟨m, fun _ => 0, g⟩ (fun r => (∀ c : Dev Cert.PlpIdeal.nD,
      r.2.mem ((c.tc : Thread Cert.PlpIdeal.nD Cert.PlpIdeal.τ).loc Cert.PlpIdeal.main_arg0) = m ((c.tc : Thread Cert.PlpIdeal.nD Cert.PlpIdeal.τ).loc Cert.PlpIdeal.main_arg0)
      ∧ r.2.mem ((c.tc : Thread Cert.PlpIdeal.nD Cert.PlpIdeal.τ).loc Cert.PlpIdeal.main_arg1) = m ((c.tc : Thread Cert.PlpIdeal.nD Cert.PlpIdeal.τ).loc Cert.PlpIdeal.main_arg1))
      ∧ r.2.sem = fun _ => 0)

def quiescent_PlpRefIdeal [hPlpRefIdeal : Cert.PlpRefIdeal.Facts] : Prop :=
  ∀ (m : (ℓ : Loc Cert.PlpRefIdeal.nD Cert.PlpRefIdeal.τ Cert.PlpRefIdeal.sig) → Buf (Elt Ideal) ℓ) (g : Dev Cert.PlpRefIdeal.nD → PrngReg), Pre_PlpRefIdeal m →
    θ_run (Cert.PlpRefIdeal.defs (F := Ideal)) (onTc (τ := Cert.PlpRefIdeal.τ) (Cert.PlpRefIdeal.main (F := Ideal))) ⟨m, fun _ => 0, g⟩ (fun r => (∀ c : Dev Cert.PlpRefIdeal.nD,
      r.2.mem ((c.tc : Thread Cert.PlpRefIdeal.nD Cert.PlpRefIdeal.τ).loc Cert.PlpRefIdeal.main_arg0) = m ((c.tc : Thread Cert.PlpRefIdeal.nD Cert.PlpRefIdeal.τ).loc Cert.PlpRefIdeal.main_arg0)
      ∧ r.2.mem ((c.tc : Thread Cert.PlpRefIdeal.nD Cert.PlpRefIdeal.τ).loc Cert.PlpRefIdeal.main_arg1) = m ((c.tc : Thread Cert.PlpRefIdeal.nD Cert.PlpRefIdeal.τ).loc Cert.PlpRefIdeal.main_arg1))
      ∧ r.2.sem = fun _ => 0)

def quiescent_Ssp [hSsp : Cert.Ssp.Facts] : Prop :=
  ∀ (m : (ℓ : Loc Cert.Ssp.nD Cert.Ssp.τ Cert.Ssp.sig) → Buf (Elt Bits) ℓ) (g : Dev Cert.Ssp.nD → PrngReg), Pre_Ssp m →
    θ_run (Cert.Ssp.defs (F := Bits)) (onTc (τ := Cert.Ssp.τ) (Cert.Ssp.main (F := Bits))) ⟨m, fun _ => 0, g⟩ (fun r => (∀ c : Dev Cert.Ssp.nD,
      r.2.mem ((c.tc : Thread Cert.Ssp.nD Cert.Ssp.τ).loc Cert.Ssp.main_arg0) = m ((c.tc : Thread Cert.Ssp.nD Cert.Ssp.τ).loc Cert.Ssp.main_arg0)
      ∧ r.2.mem ((c.tc : Thread Cert.Ssp.nD Cert.Ssp.τ).loc Cert.Ssp.main_arg1) = m ((c.tc : Thread Cert.Ssp.nD Cert.Ssp.τ).loc Cert.Ssp.main_arg1)
      ∧ r.2.mem ((c.tc : Thread Cert.Ssp.nD Cert.Ssp.τ).loc Cert.Ssp.main_arg2) = m ((c.tc : Thread Cert.Ssp.nD Cert.Ssp.τ).loc Cert.Ssp.main_arg2)
      ∧ r.2.mem ((c.tc : Thread Cert.Ssp.nD Cert.Ssp.τ).loc Cert.Ssp.main_arg3) = m ((c.tc : Thread Cert.Ssp.nD Cert.Ssp.τ).loc Cert.Ssp.main_arg3)
      ∧ r.2.mem ((c.tc : Thread Cert.Ssp.nD Cert.Ssp.τ).loc Cert.Ssp.main_arg4) = m ((c.tc : Thread Cert.Ssp.nD Cert.Ssp.τ).loc Cert.Ssp.main_arg4))
      ∧ r.2.sem = fun _ => 0)

def quiescent_SspIdeal [hSspIdeal : Cert.SspIdeal.Facts] : Prop :=
  ∀ (m : (ℓ : Loc Cert.SspIdeal.nD Cert.SspIdeal.τ Cert.SspIdeal.sig) → Buf (Elt Ideal) ℓ) (g : Dev Cert.SspIdeal.nD → PrngReg), Pre_SspIdeal m →
    θ_run (Cert.SspIdeal.defs (F := Ideal)) (onTc (τ := Cert.SspIdeal.τ) (Cert.SspIdeal.main (F := Ideal))) ⟨m, fun _ => 0, g⟩ (fun r => (∀ c : Dev Cert.SspIdeal.nD,
      r.2.mem ((c.tc : Thread Cert.SspIdeal.nD Cert.SspIdeal.τ).loc Cert.SspIdeal.main_arg0) = m ((c.tc : Thread Cert.SspIdeal.nD Cert.SspIdeal.τ).loc Cert.SspIdeal.main_arg0)
      ∧ r.2.mem ((c.tc : Thread Cert.SspIdeal.nD Cert.SspIdeal.τ).loc Cert.SspIdeal.main_arg1) = m ((c.tc : Thread Cert.SspIdeal.nD Cert.SspIdeal.τ).loc Cert.SspIdeal.main_arg1)
      ∧ r.2.mem ((c.tc : Thread Cert.SspIdeal.nD Cert.SspIdeal.τ).loc Cert.SspIdeal.main_arg2) = m ((c.tc : Thread Cert.SspIdeal.nD Cert.SspIdeal.τ).loc Cert.SspIdeal.main_arg2)
      ∧ r.2.mem ((c.tc : Thread Cert.SspIdeal.nD Cert.SspIdeal.τ).loc Cert.SspIdeal.main_arg3) = m ((c.tc : Thread Cert.SspIdeal.nD Cert.SspIdeal.τ).loc Cert.SspIdeal.main_arg3)
      ∧ r.2.mem ((c.tc : Thread Cert.SspIdeal.nD Cert.SspIdeal.τ).loc Cert.SspIdeal.main_arg4) = m ((c.tc : Thread Cert.SspIdeal.nD Cert.SspIdeal.τ).loc Cert.SspIdeal.main_arg4))
      ∧ r.2.sem = fun _ => 0)

def quiescent_SspRefIdeal [hSspRefIdeal : Cert.SspRefIdeal.Facts] : Prop :=
  ∀ (m : (ℓ : Loc Cert.SspRefIdeal.nD Cert.SspRefIdeal.τ Cert.SspRefIdeal.sig) → Buf (Elt Ideal) ℓ) (g : Dev Cert.SspRefIdeal.nD → PrngReg), Pre_SspRefIdeal m →
    θ_run (Cert.SspRefIdeal.defs (F := Ideal)) (onTc (τ := Cert.SspRefIdeal.τ) (Cert.SspRefIdeal.main (F := Ideal))) ⟨m, fun _ => 0, g⟩ (fun r => (∀ c : Dev Cert.SspRefIdeal.nD,
      r.2.mem ((c.tc : Thread Cert.SspRefIdeal.nD Cert.SspRefIdeal.τ).loc Cert.SspRefIdeal.main_arg0) = m ((c.tc : Thread Cert.SspRefIdeal.nD Cert.SspRefIdeal.τ).loc Cert.SspRefIdeal.main_arg0)
      ∧ r.2.mem ((c.tc : Thread Cert.SspRefIdeal.nD Cert.SspRefIdeal.τ).loc Cert.SspRefIdeal.main_arg1) = m ((c.tc : Thread Cert.SspRefIdeal.nD Cert.SspRefIdeal.τ).loc Cert.SspRefIdeal.main_arg1)
      ∧ r.2.mem ((c.tc : Thread Cert.SspRefIdeal.nD Cert.SspRefIdeal.τ).loc Cert.SspRefIdeal.main_arg2) = m ((c.tc : Thread Cert.SspRefIdeal.nD Cert.SspRefIdeal.τ).loc Cert.SspRefIdeal.main_arg2)
      ∧ r.2.mem ((c.tc : Thread Cert.SspRefIdeal.nD Cert.SspRefIdeal.τ).loc Cert.SspRefIdeal.main_arg3) = m ((c.tc : Thread Cert.SspRefIdeal.nD Cert.SspRefIdeal.τ).loc Cert.SspRefIdeal.main_arg3)
      ∧ r.2.mem ((c.tc : Thread Cert.SspRefIdeal.nD Cert.SspRefIdeal.τ).loc Cert.SspRefIdeal.main_arg4) = m ((c.tc : Thread Cert.SspRefIdeal.nD Cert.SspRefIdeal.τ).loc Cert.SspRefIdeal.main_arg4))
      ∧ r.2.sem = fun _ => 0)

def quiescent_Ofw [hOfw : Cert.Ofw.Facts] : Prop :=
  ∀ (m : (ℓ : Loc Cert.Ofw.nD Cert.Ofw.τ Cert.Ofw.sig) → Buf (Elt Bits) ℓ) (g : Dev Cert.Ofw.nD → PrngReg), Pre_Ofw m →
    θ_run (Cert.Ofw.defs (F := Bits)) (onTc (τ := Cert.Ofw.τ) (Cert.Ofw.main (F := Bits))) ⟨m, fun _ => 0, g⟩ (fun r => (∀ c : Dev Cert.Ofw.nD,
      r.2.mem ((c.tc : Thread Cert.Ofw.nD Cert.Ofw.τ).loc Cert.Ofw.main_arg0) = m ((c.tc : Thread Cert.Ofw.nD Cert.Ofw.τ).loc Cert.Ofw.main_arg0)
      ∧ r.2.mem ((c.tc : Thread Cert.Ofw.nD Cert.Ofw.τ).loc Cert.Ofw.main_arg1) = m ((c.tc : Thread Cert.Ofw.nD Cert.Ofw.τ).loc Cert.Ofw.main_arg1)
      ∧ r.2.mem ((c.tc : Thread Cert.Ofw.nD Cert.Ofw.τ).loc Cert.Ofw.main_arg2) = m ((c.tc : Thread Cert.Ofw.nD Cert.Ofw.τ).loc Cert.Ofw.main_arg2)
      ∧ r.2.mem ((c.tc : Thread Cert.Ofw.nD Cert.Ofw.τ).loc Cert.Ofw.main_arg3) = m ((c.tc : Thread Cert.Ofw.nD Cert.Ofw.τ).loc Cert.Ofw.main_arg3)
      ∧ r.2.mem ((c.tc : Thread Cert.Ofw.nD Cert.Ofw.τ).loc Cert.Ofw.main_arg4) = m ((c.tc : Thread Cert.Ofw.nD Cert.Ofw.τ).loc Cert.Ofw.main_arg4)
      ∧ r.2.mem ((c.tc : Thread Cert.Ofw.nD Cert.Ofw.τ).loc Cert.Ofw.main_arg5) = m ((c.tc : Thread Cert.Ofw.nD Cert.Ofw.τ).loc Cert.Ofw.main_arg5)
      ∧ r.2.mem ((c.tc : Thread Cert.Ofw.nD Cert.Ofw.τ).loc Cert.Ofw.main_arg6) = m ((c.tc : Thread Cert.Ofw.nD Cert.Ofw.τ).loc Cert.Ofw.main_arg6))
      ∧ r.2.sem = fun _ => 0)

def quiescent_OfwIdeal [hOfwIdeal : Cert.OfwIdeal.Facts] : Prop :=
  ∀ (m : (ℓ : Loc Cert.OfwIdeal.nD Cert.OfwIdeal.τ Cert.OfwIdeal.sig) → Buf (Elt Ideal) ℓ) (g : Dev Cert.OfwIdeal.nD → PrngReg), Pre_OfwIdeal m →
    θ_run (Cert.OfwIdeal.defs (F := Ideal)) (onTc (τ := Cert.OfwIdeal.τ) (Cert.OfwIdeal.main (F := Ideal))) ⟨m, fun _ => 0, g⟩ (fun r => (∀ c : Dev Cert.OfwIdeal.nD,
      r.2.mem ((c.tc : Thread Cert.OfwIdeal.nD Cert.OfwIdeal.τ).loc Cert.OfwIdeal.main_arg0) = m ((c.tc : Thread Cert.OfwIdeal.nD Cert.OfwIdeal.τ).loc Cert.OfwIdeal.main_arg0)
      ∧ r.2.mem ((c.tc : Thread Cert.OfwIdeal.nD Cert.OfwIdeal.τ).loc Cert.OfwIdeal.main_arg1) = m ((c.tc : Thread Cert.OfwIdeal.nD Cert.OfwIdeal.τ).loc Cert.OfwIdeal.main_arg1)
      ∧ r.2.mem ((c.tc : Thread Cert.OfwIdeal.nD Cert.OfwIdeal.τ).loc Cert.OfwIdeal.main_arg2) = m ((c.tc : Thread Cert.OfwIdeal.nD Cert.OfwIdeal.τ).loc Cert.OfwIdeal.main_arg2)
      ∧ r.2.mem ((c.tc : Thread Cert.OfwIdeal.nD Cert.OfwIdeal.τ).loc Cert.OfwIdeal.main_arg3) = m ((c.tc : Thread Cert.OfwIdeal.nD Cert.OfwIdeal.τ).loc Cert.OfwIdeal.main_arg3)
      ∧ r.2.mem ((c.tc : Thread Cert.OfwIdeal.nD Cert.OfwIdeal.τ).loc Cert.OfwIdeal.main_arg4) = m ((c.tc : Thread Cert.OfwIdeal.nD Cert.OfwIdeal.τ).loc Cert.OfwIdeal.main_arg4)
      ∧ r.2.mem ((c.tc : Thread Cert.OfwIdeal.nD Cert.OfwIdeal.τ).loc Cert.OfwIdeal.main_arg5) = m ((c.tc : Thread Cert.OfwIdeal.nD Cert.OfwIdeal.τ).loc Cert.OfwIdeal.main_arg5)
      ∧ r.2.mem ((c.tc : Thread Cert.OfwIdeal.nD Cert.OfwIdeal.τ).loc Cert.OfwIdeal.main_arg6) = m ((c.tc : Thread Cert.OfwIdeal.nD Cert.OfwIdeal.τ).loc Cert.OfwIdeal.main_arg6))
      ∧ r.2.sem = fun _ => 0)

def quiescent_OfwRefIdeal [hOfwRefIdeal : Cert.OfwRefIdeal.Facts] : Prop :=
  ∀ (m : (ℓ : Loc Cert.OfwRefIdeal.nD Cert.OfwRefIdeal.τ Cert.OfwRefIdeal.sig) → Buf (Elt Ideal) ℓ) (g : Dev Cert.OfwRefIdeal.nD → PrngReg), Pre_OfwRefIdeal m →
    θ_run (Cert.OfwRefIdeal.defs (F := Ideal)) (onTc (τ := Cert.OfwRefIdeal.τ) (Cert.OfwRefIdeal.main (F := Ideal))) ⟨m, fun _ => 0, g⟩ (fun r => (∀ c : Dev Cert.OfwRefIdeal.nD,
      r.2.mem ((c.tc : Thread Cert.OfwRefIdeal.nD Cert.OfwRefIdeal.τ).loc Cert.OfwRefIdeal.main_arg0) = m ((c.tc : Thread Cert.OfwRefIdeal.nD Cert.OfwRefIdeal.τ).loc Cert.OfwRefIdeal.main_arg0)
      ∧ r.2.mem ((c.tc : Thread Cert.OfwRefIdeal.nD Cert.OfwRefIdeal.τ).loc Cert.OfwRefIdeal.main_arg1) = m ((c.tc : Thread Cert.OfwRefIdeal.nD Cert.OfwRefIdeal.τ).loc Cert.OfwRefIdeal.main_arg1)
      ∧ r.2.mem ((c.tc : Thread Cert.OfwRefIdeal.nD Cert.OfwRefIdeal.τ).loc Cert.OfwRefIdeal.main_arg2) = m ((c.tc : Thread Cert.OfwRefIdeal.nD Cert.OfwRefIdeal.τ).loc Cert.OfwRefIdeal.main_arg2)
      ∧ r.2.mem ((c.tc : Thread Cert.OfwRefIdeal.nD Cert.OfwRefIdeal.τ).loc Cert.OfwRefIdeal.main_arg3) = m ((c.tc : Thread Cert.OfwRefIdeal.nD Cert.OfwRefIdeal.τ).loc Cert.OfwRefIdeal.main_arg3)
      ∧ r.2.mem ((c.tc : Thread Cert.OfwRefIdeal.nD Cert.OfwRefIdeal.τ).loc Cert.OfwRefIdeal.main_arg4) = m ((c.tc : Thread Cert.OfwRefIdeal.nD Cert.OfwRefIdeal.τ).loc Cert.OfwRefIdeal.main_arg4)
      ∧ r.2.mem ((c.tc : Thread Cert.OfwRefIdeal.nD Cert.OfwRefIdeal.τ).loc Cert.OfwRefIdeal.main_arg5) = m ((c.tc : Thread Cert.OfwRefIdeal.nD Cert.OfwRefIdeal.τ).loc Cert.OfwRefIdeal.main_arg5)
      ∧ r.2.mem ((c.tc : Thread Cert.OfwRefIdeal.nD Cert.OfwRefIdeal.τ).loc Cert.OfwRefIdeal.main_arg6) = m ((c.tc : Thread Cert.OfwRefIdeal.nD Cert.OfwRefIdeal.τ).loc Cert.OfwRefIdeal.main_arg6))
      ∧ r.2.sem = fun _ => 0)

def quiescent_Fgu [hFgu : Cert.Fgu.Facts] : Prop :=
  ∀ (m : (ℓ : Loc Cert.Fgu.nD Cert.Fgu.τ Cert.Fgu.sig) → Buf (Elt Bits) ℓ) (g : Dev Cert.Fgu.nD → PrngReg), Pre_Fgu m →
    θ_run (Cert.Fgu.defs (F := Bits)) (onTc (τ := Cert.Fgu.τ) (Cert.Fgu.main (F := Bits))) ⟨m, fun _ => 0, g⟩ (fun r => (∀ c : Dev Cert.Fgu.nD,
      r.2.mem ((c.tc : Thread Cert.Fgu.nD Cert.Fgu.τ).loc Cert.Fgu.main_arg0) = m ((c.tc : Thread Cert.Fgu.nD Cert.Fgu.τ).loc Cert.Fgu.main_arg0)
      ∧ r.2.mem ((c.tc : Thread Cert.Fgu.nD Cert.Fgu.τ).loc Cert.Fgu.main_arg1) = m ((c.tc : Thread Cert.Fgu.nD Cert.Fgu.τ).loc Cert.Fgu.main_arg1)
      ∧ r.2.mem ((c.tc : Thread Cert.Fgu.nD Cert.Fgu.τ).loc Cert.Fgu.main_arg2) = m ((c.tc : Thread Cert.Fgu.nD Cert.Fgu.τ).loc Cert.Fgu.main_arg2))
      ∧ r.2.sem = fun _ => 0)

def quiescent_FguIdeal [hFguIdeal : Cert.FguIdeal.Facts] : Prop :=
  ∀ (m : (ℓ : Loc Cert.FguIdeal.nD Cert.FguIdeal.τ Cert.FguIdeal.sig) → Buf (Elt Ideal) ℓ) (g : Dev Cert.FguIdeal.nD → PrngReg), Pre_FguIdeal m →
    θ_run (Cert.FguIdeal.defs (F := Ideal)) (onTc (τ := Cert.FguIdeal.τ) (Cert.FguIdeal.main (F := Ideal))) ⟨m, fun _ => 0, g⟩ (fun r => (∀ c : Dev Cert.FguIdeal.nD,
      r.2.mem ((c.tc : Thread Cert.FguIdeal.nD Cert.FguIdeal.τ).loc Cert.FguIdeal.main_arg0) = m ((c.tc : Thread Cert.FguIdeal.nD Cert.FguIdeal.τ).loc Cert.FguIdeal.main_arg0)
      ∧ r.2.mem ((c.tc : Thread Cert.FguIdeal.nD Cert.FguIdeal.τ).loc Cert.FguIdeal.main_arg1) = m ((c.tc : Thread Cert.FguIdeal.nD Cert.FguIdeal.τ).loc Cert.FguIdeal.main_arg1)
      ∧ r.2.mem ((c.tc : Thread Cert.FguIdeal.nD Cert.FguIdeal.τ).loc Cert.FguIdeal.main_arg2) = m ((c.tc : Thread Cert.FguIdeal.nD Cert.FguIdeal.τ).loc Cert.FguIdeal.main_arg2))
      ∧ r.2.sem = fun _ => 0)

def quiescent_FguRefIdeal [hFguRefIdeal : Cert.FguRefIdeal.Facts] : Prop :=
  ∀ (m : (ℓ : Loc Cert.FguRefIdeal.nD Cert.FguRefIdeal.τ Cert.FguRefIdeal.sig) → Buf (Elt Ideal) ℓ) (g : Dev Cert.FguRefIdeal.nD → PrngReg), Pre_FguRefIdeal m →
    θ_run (Cert.FguRefIdeal.defs (F := Ideal)) (onTc (τ := Cert.FguRefIdeal.τ) (Cert.FguRefIdeal.main (F := Ideal))) ⟨m, fun _ => 0, g⟩ (fun r => (∀ c : Dev Cert.FguRefIdeal.nD,
      r.2.mem ((c.tc : Thread Cert.FguRefIdeal.nD Cert.FguRefIdeal.τ).loc Cert.FguRefIdeal.main_arg0) = m ((c.tc : Thread Cert.FguRefIdeal.nD Cert.FguRefIdeal.τ).loc Cert.FguRefIdeal.main_arg0)
      ∧ r.2.mem ((c.tc : Thread Cert.FguRefIdeal.nD Cert.FguRefIdeal.τ).loc Cert.FguRefIdeal.main_arg1) = m ((c.tc : Thread Cert.FguRefIdeal.nD Cert.FguRefIdeal.τ).loc Cert.FguRefIdeal.main_arg1)
      ∧ r.2.mem ((c.tc : Thread Cert.FguRefIdeal.nD Cert.FguRefIdeal.τ).loc Cert.FguRefIdeal.main_arg2) = m ((c.tc : Thread Cert.FguRefIdeal.nD Cert.FguRefIdeal.τ).loc Cert.FguRefIdeal.main_arg2))
      ∧ r.2.sem = fun _ => 0)

def quiescent_Fdn [hFdn : Cert.Fdn.Facts] : Prop :=
  ∀ (m : (ℓ : Loc Cert.Fdn.nD Cert.Fdn.τ Cert.Fdn.sig) → Buf (Elt Bits) ℓ) (g : Dev Cert.Fdn.nD → PrngReg), Pre_Fdn m →
    θ_run (Cert.Fdn.defs (F := Bits)) (onTc (τ := Cert.Fdn.τ) (Cert.Fdn.main (F := Bits))) ⟨m, fun _ => 0, g⟩ (fun r => (∀ c : Dev Cert.Fdn.nD,
      r.2.mem ((c.tc : Thread Cert.Fdn.nD Cert.Fdn.τ).loc Cert.Fdn.main_arg0) = m ((c.tc : Thread Cert.Fdn.nD Cert.Fdn.τ).loc Cert.Fdn.main_arg0)
      ∧ r.2.mem ((c.tc : Thread Cert.Fdn.nD Cert.Fdn.τ).loc Cert.Fdn.main_arg1) = m ((c.tc : Thread Cert.Fdn.nD Cert.Fdn.τ).loc Cert.Fdn.main_arg1)
      ∧ r.2.mem ((c.tc : Thread Cert.Fdn.nD Cert.Fdn.τ).loc Cert.Fdn.main_arg2) = m ((c.tc : Thread Cert.Fdn.nD Cert.Fdn.τ).loc Cert.Fdn.main_arg2))
      ∧ r.2.sem = fun _ => 0)

def quiescent_FdnIdeal [hFdnIdeal : Cert.FdnIdeal.Facts] : Prop :=
  ∀ (m : (ℓ : Loc Cert.FdnIdeal.nD Cert.FdnIdeal.τ Cert.FdnIdeal.sig) → Buf (Elt Ideal) ℓ) (g : Dev Cert.FdnIdeal.nD → PrngReg), Pre_FdnIdeal m →
    θ_run (Cert.FdnIdeal.defs (F := Ideal)) (onTc (τ := Cert.FdnIdeal.τ) (Cert.FdnIdeal.main (F := Ideal))) ⟨m, fun _ => 0, g⟩ (fun r => (∀ c : Dev Cert.FdnIdeal.nD,
      r.2.mem ((c.tc : Thread Cert.FdnIdeal.nD Cert.FdnIdeal.τ).loc Cert.FdnIdeal.main_arg0) = m ((c.tc : Thread Cert.FdnIdeal.nD Cert.FdnIdeal.τ).loc Cert.FdnIdeal.main_arg0)
      ∧ r.2.mem ((c.tc : Thread Cert.FdnIdeal.nD Cert.FdnIdeal.τ).loc Cert.FdnIdeal.main_arg1) = m ((c.tc : Thread Cert.FdnIdeal.nD Cert.FdnIdeal.τ).loc Cert.FdnIdeal.main_arg1)
      ∧ r.2.mem ((c.tc : Thread Cert.FdnIdeal.nD Cert.FdnIdeal.τ).loc Cert.FdnIdeal.main_arg2) = m ((c.tc : Thread Cert.FdnIdeal.nD Cert.FdnIdeal.τ).loc Cert.FdnIdeal.main_arg2))
      ∧ r.2.sem = fun _ => 0)

def quiescent_FdnRefIdeal [hFdnRefIdeal : Cert.FdnRefIdeal.Facts] : Prop :=
  ∀ (m : (ℓ : Loc Cert.FdnRefIdeal.nD Cert.FdnRefIdeal.τ Cert.FdnRefIdeal.sig) → Buf (Elt Ideal) ℓ) (g : Dev Cert.FdnRefIdeal.nD → PrngReg), Pre_FdnRefIdeal m →
    θ_run (Cert.FdnRefIdeal.defs (F := Ideal)) (onTc (τ := Cert.FdnRefIdeal.τ) (Cert.FdnRefIdeal.main (F := Ideal))) ⟨m, fun _ => 0, g⟩ (fun r => (∀ c : Dev Cert.FdnRefIdeal.nD,
      r.2.mem ((c.tc : Thread Cert.FdnRefIdeal.nD Cert.FdnRefIdeal.τ).loc Cert.FdnRefIdeal.main_arg0) = m ((c.tc : Thread Cert.FdnRefIdeal.nD Cert.FdnRefIdeal.τ).loc Cert.FdnRefIdeal.main_arg0)
      ∧ r.2.mem ((c.tc : Thread Cert.FdnRefIdeal.nD Cert.FdnRefIdeal.τ).loc Cert.FdnRefIdeal.main_arg1) = m ((c.tc : Thread Cert.FdnRefIdeal.nD Cert.FdnRefIdeal.τ).loc Cert.FdnRefIdeal.main_arg1)
      ∧ r.2.mem ((c.tc : Thread Cert.FdnRefIdeal.nD Cert.FdnRefIdeal.τ).loc Cert.FdnRefIdeal.main_arg2) = m ((c.tc : Thread Cert.FdnRefIdeal.nD Cert.FdnRefIdeal.τ).loc Cert.FdnRefIdeal.main_arg2))
      ∧ r.2.sem = fun _ => 0)

def quiescent_Pgb [hPgb : Cert.Pgb.Facts] : Prop :=
  ∀ (m : (ℓ : Loc Cert.Pgb.nD Cert.Pgb.τ Cert.Pgb.sig) → Buf (Elt Bits) ℓ) (g : Dev Cert.Pgb.nD → PrngReg), Pre_Pgb m →
    θ_run (Cert.Pgb.defs (F := Bits)) (onTc (τ := Cert.Pgb.τ) (Cert.Pgb.main (F := Bits))) ⟨m, fun _ => 0, g⟩ (fun r => (∀ c : Dev Cert.Pgb.nD,
      r.2.mem ((c.tc : Thread Cert.Pgb.nD Cert.Pgb.τ).loc Cert.Pgb.main_arg0) = m ((c.tc : Thread Cert.Pgb.nD Cert.Pgb.τ).loc Cert.Pgb.main_arg0)
      ∧ r.2.mem ((c.tc : Thread Cert.Pgb.nD Cert.Pgb.τ).loc Cert.Pgb.main_arg1) = m ((c.tc : Thread Cert.Pgb.nD Cert.Pgb.τ).loc Cert.Pgb.main_arg1)
      ∧ r.2.mem ((c.tc : Thread Cert.Pgb.nD Cert.Pgb.τ).loc Cert.Pgb.main_arg2) = m ((c.tc : Thread Cert.Pgb.nD Cert.Pgb.τ).loc Cert.Pgb.main_arg2))
      ∧ r.2.sem = fun _ => 0)

def quiescent_PgbIdeal [hPgbIdeal : Cert.PgbIdeal.Facts] : Prop :=
  ∀ (m : (ℓ : Loc Cert.PgbIdeal.nD Cert.PgbIdeal.τ Cert.PgbIdeal.sig) → Buf (Elt Ideal) ℓ) (g : Dev Cert.PgbIdeal.nD → PrngReg), Pre_PgbIdeal m →
    θ_run (Cert.PgbIdeal.defs (F := Ideal)) (onTc (τ := Cert.PgbIdeal.τ) (Cert.PgbIdeal.main (F := Ideal))) ⟨m, fun _ => 0, g⟩ (fun r => (∀ c : Dev Cert.PgbIdeal.nD,
      r.2.mem ((c.tc : Thread Cert.PgbIdeal.nD Cert.PgbIdeal.τ).loc Cert.PgbIdeal.main_arg0) = m ((c.tc : Thread Cert.PgbIdeal.nD Cert.PgbIdeal.τ).loc Cert.PgbIdeal.main_arg0)
      ∧ r.2.mem ((c.tc : Thread Cert.PgbIdeal.nD Cert.PgbIdeal.τ).loc Cert.PgbIdeal.main_arg1) = m ((c.tc : Thread Cert.PgbIdeal.nD Cert.PgbIdeal.τ).loc Cert.PgbIdeal.main_arg1)
      ∧ r.2.mem ((c.tc : Thread Cert.PgbIdeal.nD Cert.PgbIdeal.τ).loc Cert.PgbIdeal.main_arg2) = m ((c.tc : Thread Cert.PgbIdeal.nD Cert.PgbIdeal.τ).loc Cert.PgbIdeal.main_arg2))
      ∧ r.2.sem = fun _ => 0)

def quiescent_PgbRefIdeal [hPgbRefIdeal : Cert.PgbRefIdeal.Facts] : Prop :=
  ∀ (m : (ℓ : Loc Cert.PgbRefIdeal.nD Cert.PgbRefIdeal.τ Cert.PgbRefIdeal.sig) → Buf (Elt Ideal) ℓ) (g : Dev Cert.PgbRefIdeal.nD → PrngReg), Pre_PgbRefIdeal m →
    θ_run (Cert.PgbRefIdeal.defs (F := Ideal)) (onTc (τ := Cert.PgbRefIdeal.τ) (Cert.PgbRefIdeal.main (F := Ideal))) ⟨m, fun _ => 0, g⟩ (fun r => (∀ c : Dev Cert.PgbRefIdeal.nD,
      r.2.mem ((c.tc : Thread Cert.PgbRefIdeal.nD Cert.PgbRefIdeal.τ).loc Cert.PgbRefIdeal.main_arg0) = m ((c.tc : Thread Cert.PgbRefIdeal.nD Cert.PgbRefIdeal.τ).loc Cert.PgbRefIdeal.main_arg0)
      ∧ r.2.mem ((c.tc : Thread Cert.PgbRefIdeal.nD Cert.PgbRefIdeal.τ).loc Cert.PgbRefIdeal.main_arg1) = m ((c.tc : Thread Cert.PgbRefIdeal.nD Cert.PgbRefIdeal.τ).loc Cert.PgbRefIdeal.main_arg1)
      ∧ r.2.mem ((c.tc : Thread Cert.PgbRefIdeal.nD Cert.PgbRefIdeal.τ).loc Cert.PgbRefIdeal.main_arg2) = m ((c.tc : Thread Cert.PgbRefIdeal.nD Cert.PgbRefIdeal.τ).loc Cert.PgbRefIdeal.main_arg2))
      ∧ r.2.sem = fun _ => 0)

def quiescent_Apb [hApb : Cert.Apb.Facts] : Prop :=
  ∀ (m : (ℓ : Loc Cert.Apb.nD Cert.Apb.τ Cert.Apb.sig) → Buf (Elt Bits) ℓ) (g : Dev Cert.Apb.nD → PrngReg), Pre_Apb m →
    θ_run (Cert.Apb.defs (F := Bits)) (onTc (τ := Cert.Apb.τ) (Cert.Apb.main (F := Bits))) ⟨m, fun _ => 0, g⟩ (fun r => (∀ c : Dev Cert.Apb.nD,
      r.2.mem ((c.tc : Thread Cert.Apb.nD Cert.Apb.τ).loc Cert.Apb.main_arg0) = m ((c.tc : Thread Cert.Apb.nD Cert.Apb.τ).loc Cert.Apb.main_arg0)
      ∧ r.2.mem ((c.tc : Thread Cert.Apb.nD Cert.Apb.τ).loc Cert.Apb.main_arg1) = m ((c.tc : Thread Cert.Apb.nD Cert.Apb.τ).loc Cert.Apb.main_arg1))
      ∧ r.2.sem = fun _ => 0)

def quiescent_ApbIdeal [hApbIdeal : Cert.ApbIdeal.Facts] : Prop :=
  ∀ (m : (ℓ : Loc Cert.ApbIdeal.nD Cert.ApbIdeal.τ Cert.ApbIdeal.sig) → Buf (Elt Ideal) ℓ) (g : Dev Cert.ApbIdeal.nD → PrngReg), Pre_ApbIdeal m →
    θ_run (Cert.ApbIdeal.defs (F := Ideal)) (onTc (τ := Cert.ApbIdeal.τ) (Cert.ApbIdeal.main (F := Ideal))) ⟨m, fun _ => 0, g⟩ (fun r => (∀ c : Dev Cert.ApbIdeal.nD,
      r.2.mem ((c.tc : Thread Cert.ApbIdeal.nD Cert.ApbIdeal.τ).loc Cert.ApbIdeal.main_arg0) = m ((c.tc : Thread Cert.ApbIdeal.nD Cert.ApbIdeal.τ).loc Cert.ApbIdeal.main_arg0)
      ∧ r.2.mem ((c.tc : Thread Cert.ApbIdeal.nD Cert.ApbIdeal.τ).loc Cert.ApbIdeal.main_arg1) = m ((c.tc : Thread Cert.ApbIdeal.nD Cert.ApbIdeal.τ).loc Cert.ApbIdeal.main_arg1))
      ∧ r.2.sem = fun _ => 0)

def quiescent_ApbRefIdeal [hApbRefIdeal : Cert.ApbRefIdeal.Facts] : Prop :=
  ∀ (m : (ℓ : Loc Cert.ApbRefIdeal.nD Cert.ApbRefIdeal.τ Cert.ApbRefIdeal.sig) → Buf (Elt Ideal) ℓ) (g : Dev Cert.ApbRefIdeal.nD → PrngReg), Pre_ApbRefIdeal m →
    θ_run (Cert.ApbRefIdeal.defs (F := Ideal)) (onTc (τ := Cert.ApbRefIdeal.τ) (Cert.ApbRefIdeal.main (F := Ideal))) ⟨m, fun _ => 0, g⟩ (fun r => (∀ c : Dev Cert.ApbRefIdeal.nD,
      r.2.mem ((c.tc : Thread Cert.ApbRefIdeal.nD Cert.ApbRefIdeal.τ).loc Cert.ApbRefIdeal.main_arg0) = m ((c.tc : Thread Cert.ApbRefIdeal.nD Cert.ApbRefIdeal.τ).loc Cert.ApbRefIdeal.main_arg0)
      ∧ r.2.mem ((c.tc : Thread Cert.ApbRefIdeal.nD Cert.ApbRefIdeal.τ).loc Cert.ApbRefIdeal.main_arg1) = m ((c.tc : Thread Cert.ApbRefIdeal.nD Cert.ApbRefIdeal.τ).loc Cert.ApbRefIdeal.main_arg1))
      ∧ r.2.sem = fun _ => 0)

def quiescent_Wpg [hWpg : Cert.Wpg.Facts] : Prop :=
  ∀ (m : (ℓ : Loc Cert.Wpg.nD Cert.Wpg.τ Cert.Wpg.sig) → Buf (Elt Bits) ℓ) (g : Dev Cert.Wpg.nD → PrngReg), Pre_Wpg m →
    θ_run (Cert.Wpg.defs (F := Bits)) (onTc (τ := Cert.Wpg.τ) (Cert.Wpg.main (F := Bits))) ⟨m, fun _ => 0, g⟩ (fun r => (∀ c : Dev Cert.Wpg.nD,
      r.2.mem ((c.tc : Thread Cert.Wpg.nD Cert.Wpg.τ).loc Cert.Wpg.main_arg0) = m ((c.tc : Thread Cert.Wpg.nD Cert.Wpg.τ).loc Cert.Wpg.main_arg0)
      ∧ r.2.mem ((c.tc : Thread Cert.Wpg.nD Cert.Wpg.τ).loc Cert.Wpg.main_arg1) = m ((c.tc : Thread Cert.Wpg.nD Cert.Wpg.τ).loc Cert.Wpg.main_arg1))
      ∧ r.2.sem = fun _ => 0)

def quiescent_WpgIdeal [hWpgIdeal : Cert.WpgIdeal.Facts] : Prop :=
  ∀ (m : (ℓ : Loc Cert.WpgIdeal.nD Cert.WpgIdeal.τ Cert.WpgIdeal.sig) → Buf (Elt Ideal) ℓ) (g : Dev Cert.WpgIdeal.nD → PrngReg), Pre_WpgIdeal m →
    θ_run (Cert.WpgIdeal.defs (F := Ideal)) (onTc (τ := Cert.WpgIdeal.τ) (Cert.WpgIdeal.main (F := Ideal))) ⟨m, fun _ => 0, g⟩ (fun r => (∀ c : Dev Cert.WpgIdeal.nD,
      r.2.mem ((c.tc : Thread Cert.WpgIdeal.nD Cert.WpgIdeal.τ).loc Cert.WpgIdeal.main_arg0) = m ((c.tc : Thread Cert.WpgIdeal.nD Cert.WpgIdeal.τ).loc Cert.WpgIdeal.main_arg0)
      ∧ r.2.mem ((c.tc : Thread Cert.WpgIdeal.nD Cert.WpgIdeal.τ).loc Cert.WpgIdeal.main_arg1) = m ((c.tc : Thread Cert.WpgIdeal.nD Cert.WpgIdeal.τ).loc Cert.WpgIdeal.main_arg1))
      ∧ r.2.sem = fun _ => 0)

def quiescent_WpgRefIdeal [hWpgRefIdeal : Cert.WpgRefIdeal.Facts] : Prop :=
  ∀ (m : (ℓ : Loc Cert.WpgRefIdeal.nD Cert.WpgRefIdeal.τ Cert.WpgRefIdeal.sig) → Buf (Elt Ideal) ℓ) (g : Dev Cert.WpgRefIdeal.nD → PrngReg), Pre_WpgRefIdeal m →
    θ_run (Cert.WpgRefIdeal.defs (F := Ideal)) (onTc (τ := Cert.WpgRefIdeal.τ) (Cert.WpgRefIdeal.main (F := Ideal))) ⟨m, fun _ => 0, g⟩ (fun r => (∀ c : Dev Cert.WpgRefIdeal.nD,
      r.2.mem ((c.tc : Thread Cert.WpgRefIdeal.nD Cert.WpgRefIdeal.τ).loc Cert.WpgRefIdeal.main_arg0) = m ((c.tc : Thread Cert.WpgRefIdeal.nD Cert.WpgRefIdeal.τ).loc Cert.WpgRefIdeal.main_arg0)
      ∧ r.2.mem ((c.tc : Thread Cert.WpgRefIdeal.nD Cert.WpgRefIdeal.τ).loc Cert.WpgRefIdeal.main_arg1) = m ((c.tc : Thread Cert.WpgRefIdeal.nD Cert.WpgRefIdeal.τ).loc Cert.WpgRefIdeal.main_arg1))
      ∧ r.2.sem = fun _ => 0)

def quiescent_Wap [hWap : Cert.Wap.Facts] : Prop :=
  ∀ (m : (ℓ : Loc Cert.Wap.nD Cert.Wap.τ Cert.Wap.sig) → Buf (Elt Bits) ℓ) (g : Dev Cert.Wap.nD → PrngReg), Pre_Wap m →
    θ_run (Cert.Wap.defs (F := Bits)) (onTc (τ := Cert.Wap.τ) (Cert.Wap.main (F := Bits))) ⟨m, fun _ => 0, g⟩ (fun r => (∀ c : Dev Cert.Wap.nD,
      r.2.mem ((c.tc : Thread Cert.Wap.nD Cert.Wap.τ).loc Cert.Wap.main_arg0) = m ((c.tc : Thread Cert.Wap.nD Cert.Wap.τ).loc Cert.Wap.main_arg0)
      ∧ r.2.mem ((c.tc : Thread Cert.Wap.nD Cert.Wap.τ).loc Cert.Wap.main_arg1) = m ((c.tc : Thread Cert.Wap.nD Cert.Wap.τ).loc Cert.Wap.main_arg1))
      ∧ r.2.sem = fun _ => 0)

def quiescent_WapIdeal [hWapIdeal : Cert.WapIdeal.Facts] : Prop :=
  ∀ (m : (ℓ : Loc Cert.WapIdeal.nD Cert.WapIdeal.τ Cert.WapIdeal.sig) → Buf (Elt Ideal) ℓ) (g : Dev Cert.WapIdeal.nD → PrngReg), Pre_WapIdeal m →
    θ_run (Cert.WapIdeal.defs (F := Ideal)) (onTc (τ := Cert.WapIdeal.τ) (Cert.WapIdeal.main (F := Ideal))) ⟨m, fun _ => 0, g⟩ (fun r => (∀ c : Dev Cert.WapIdeal.nD,
      r.2.mem ((c.tc : Thread Cert.WapIdeal.nD Cert.WapIdeal.τ).loc Cert.WapIdeal.main_arg0) = m ((c.tc : Thread Cert.WapIdeal.nD Cert.WapIdeal.τ).loc Cert.WapIdeal.main_arg0)
      ∧ r.2.mem ((c.tc : Thread Cert.WapIdeal.nD Cert.WapIdeal.τ).loc Cert.WapIdeal.main_arg1) = m ((c.tc : Thread Cert.WapIdeal.nD Cert.WapIdeal.τ).loc Cert.WapIdeal.main_arg1))
      ∧ r.2.sem = fun _ => 0)

def quiescent_WapRefIdeal [hWapRefIdeal : Cert.WapRefIdeal.Facts] : Prop :=
  ∀ (m : (ℓ : Loc Cert.WapRefIdeal.nD Cert.WapRefIdeal.τ Cert.WapRefIdeal.sig) → Buf (Elt Ideal) ℓ) (g : Dev Cert.WapRefIdeal.nD → PrngReg), Pre_WapRefIdeal m →
    θ_run (Cert.WapRefIdeal.defs (F := Ideal)) (onTc (τ := Cert.WapRefIdeal.τ) (Cert.WapRefIdeal.main (F := Ideal))) ⟨m, fun _ => 0, g⟩ (fun r => (∀ c : Dev Cert.WapRefIdeal.nD,
      r.2.mem ((c.tc : Thread Cert.WapRefIdeal.nD Cert.WapRefIdeal.τ).loc Cert.WapRefIdeal.main_arg0) = m ((c.tc : Thread Cert.WapRefIdeal.nD Cert.WapRefIdeal.τ).loc Cert.WapRefIdeal.main_arg0)
      ∧ r.2.mem ((c.tc : Thread Cert.WapRefIdeal.nD Cert.WapRefIdeal.τ).loc Cert.WapRefIdeal.main_arg1) = m ((c.tc : Thread Cert.WapRefIdeal.nD Cert.WapRefIdeal.τ).loc Cert.WapRefIdeal.main_arg1))
      ∧ r.2.sem = fun _ => 0)

def quiescent_Wfg [hWfg : Cert.Wfg.Facts] : Prop :=
  ∀ (m : (ℓ : Loc Cert.Wfg.nD Cert.Wfg.τ Cert.Wfg.sig) → Buf (Elt Bits) ℓ) (g : Dev Cert.Wfg.nD → PrngReg), Pre_Wfg m →
    θ_run (Cert.Wfg.defs (F := Bits)) (onTc (τ := Cert.Wfg.τ) (Cert.Wfg.main (F := Bits))) ⟨m, fun _ => 0, g⟩ (fun r => (∀ c : Dev Cert.Wfg.nD,
      r.2.mem ((c.tc : Thread Cert.Wfg.nD Cert.Wfg.τ).loc Cert.Wfg.main_arg0) = m ((c.tc : Thread Cert.Wfg.nD Cert.Wfg.τ).loc Cert.Wfg.main_arg0)
      ∧ r.2.mem ((c.tc : Thread Cert.Wfg.nD Cert.Wfg.τ).loc Cert.Wfg.main_arg1) = m ((c.tc : Thread Cert.Wfg.nD Cert.Wfg.τ).loc Cert.Wfg.main_arg1))
      ∧ r.2.sem = fun _ => 0)

def quiescent_WfgIdeal [hWfgIdeal : Cert.WfgIdeal.Facts] : Prop :=
  ∀ (m : (ℓ : Loc Cert.WfgIdeal.nD Cert.WfgIdeal.τ Cert.WfgIdeal.sig) → Buf (Elt Ideal) ℓ) (g : Dev Cert.WfgIdeal.nD → PrngReg), Pre_WfgIdeal m →
    θ_run (Cert.WfgIdeal.defs (F := Ideal)) (onTc (τ := Cert.WfgIdeal.τ) (Cert.WfgIdeal.main (F := Ideal))) ⟨m, fun _ => 0, g⟩ (fun r => (∀ c : Dev Cert.WfgIdeal.nD,
      r.2.mem ((c.tc : Thread Cert.WfgIdeal.nD Cert.WfgIdeal.τ).loc Cert.WfgIdeal.main_arg0) = m ((c.tc : Thread Cert.WfgIdeal.nD Cert.WfgIdeal.τ).loc Cert.WfgIdeal.main_arg0)
      ∧ r.2.mem ((c.tc : Thread Cert.WfgIdeal.nD Cert.WfgIdeal.τ).loc Cert.WfgIdeal.main_arg1) = m ((c.tc : Thread Cert.WfgIdeal.nD Cert.WfgIdeal.τ).loc Cert.WfgIdeal.main_arg1))
      ∧ r.2.sem = fun _ => 0)

def quiescent_WfgRefIdeal [hWfgRefIdeal : Cert.WfgRefIdeal.Facts] : Prop :=
  ∀ (m : (ℓ : Loc Cert.WfgRefIdeal.nD Cert.WfgRefIdeal.τ Cert.WfgRefIdeal.sig) → Buf (Elt Ideal) ℓ) (g : Dev Cert.WfgRefIdeal.nD → PrngReg), Pre_WfgRefIdeal m →
    θ_run (Cert.WfgRefIdeal.defs (F := Ideal)) (onTc (τ := Cert.WfgRefIdeal.τ) (Cert.WfgRefIdeal.main (F := Ideal))) ⟨m, fun _ => 0, g⟩ (fun r => (∀ c : Dev Cert.WfgRefIdeal.nD,
      r.2.mem ((c.tc : Thread Cert.WfgRefIdeal.nD Cert.WfgRefIdeal.τ).loc Cert.WfgRefIdeal.main_arg0) = m ((c.tc : Thread Cert.WfgRefIdeal.nD Cert.WfgRefIdeal.τ).loc Cert.WfgRefIdeal.main_arg0)
      ∧ r.2.mem ((c.tc : Thread Cert.WfgRefIdeal.nD Cert.WfgRefIdeal.τ).loc Cert.WfgRefIdeal.main_arg1) = m ((c.tc : Thread Cert.WfgRefIdeal.nD Cert.WfgRefIdeal.τ).loc Cert.WfgRefIdeal.main_arg1))
      ∧ r.2.sem = fun _ => 0)

def quiescent_Adw [hAdw : Cert.Adw.Facts] : Prop :=
  ∀ (m : (ℓ : Loc Cert.Adw.nD Cert.Adw.τ Cert.Adw.sig) → Buf (Elt Bits) ℓ) (g : Dev Cert.Adw.nD → PrngReg), Pre_Adw m →
    θ_run (Cert.Adw.defs (F := Bits)) (onTc (τ := Cert.Adw.τ) (Cert.Adw.main (F := Bits))) ⟨m, fun _ => 0, g⟩ (fun r => (∀ c : Dev Cert.Adw.nD,
      r.2.mem ((c.tc : Thread Cert.Adw.nD Cert.Adw.τ).loc Cert.Adw.main_arg0) = m ((c.tc : Thread Cert.Adw.nD Cert.Adw.τ).loc Cert.Adw.main_arg0)
      ∧ r.2.mem ((c.tc : Thread Cert.Adw.nD Cert.Adw.τ).loc Cert.Adw.main_arg1) = m ((c.tc : Thread Cert.Adw.nD Cert.Adw.τ).loc Cert.Adw.main_arg1)
      ∧ r.2.mem ((c.tc : Thread Cert.Adw.nD Cert.Adw.τ).loc Cert.Adw.main_arg2) = m ((c.tc : Thread Cert.Adw.nD Cert.Adw.τ).loc Cert.Adw.main_arg2)
      ∧ r.2.mem ((c.tc : Thread Cert.Adw.nD Cert.Adw.τ).loc Cert.Adw.main_arg3) = m ((c.tc : Thread Cert.Adw.nD Cert.Adw.τ).loc Cert.Adw.main_arg3))
      ∧ r.2.sem = fun _ => 0)

def quiescent_AdwIdeal [hAdwIdeal : Cert.AdwIdeal.Facts] : Prop :=
  ∀ (m : (ℓ : Loc Cert.AdwIdeal.nD Cert.AdwIdeal.τ Cert.AdwIdeal.sig) → Buf (Elt Ideal) ℓ) (g : Dev Cert.AdwIdeal.nD → PrngReg), Pre_AdwIdeal m →
    θ_run (Cert.AdwIdeal.defs (F := Ideal)) (onTc (τ := Cert.AdwIdeal.τ) (Cert.AdwIdeal.main (F := Ideal))) ⟨m, fun _ => 0, g⟩ (fun r => (∀ c : Dev Cert.AdwIdeal.nD,
      r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
      ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
      ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
      ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ r.2.sem = fun _ => 0)

def quiescent_AdwRefIdeal [hAdwRefIdeal : Cert.AdwRefIdeal.Facts] : Prop :=
  ∀ (m : (ℓ : Loc Cert.AdwRefIdeal.nD Cert.AdwRefIdeal.τ Cert.AdwRefIdeal.sig) → Buf (Elt Ideal) ℓ) (g : Dev Cert.AdwRefIdeal.nD → PrngReg), Pre_AdwRefIdeal m →
    θ_run (Cert.AdwRefIdeal.defs (F := Ideal)) (onTc (τ := Cert.AdwRefIdeal.τ) (Cert.AdwRefIdeal.main (F := Ideal))) ⟨m, fun _ => 0, g⟩ (fun r => (∀ c : Dev Cert.AdwRefIdeal.nD,
      r.2.mem ((c.tc : Thread Cert.AdwRefIdeal.nD Cert.AdwRefIdeal.τ).loc Cert.AdwRefIdeal.main_arg0) = m ((c.tc : Thread Cert.AdwRefIdeal.nD Cert.AdwRefIdeal.τ).loc Cert.AdwRefIdeal.main_arg0)
      ∧ r.2.mem ((c.tc : Thread Cert.AdwRefIdeal.nD Cert.AdwRefIdeal.τ).loc Cert.AdwRefIdeal.main_arg1) = m ((c.tc : Thread Cert.AdwRefIdeal.nD Cert.AdwRefIdeal.τ).loc Cert.AdwRefIdeal.main_arg1)
      ∧ r.2.mem ((c.tc : Thread Cert.AdwRefIdeal.nD Cert.AdwRefIdeal.τ).loc Cert.AdwRefIdeal.main_arg2) = m ((c.tc : Thread Cert.AdwRefIdeal.nD Cert.AdwRefIdeal.τ).loc Cert.AdwRefIdeal.main_arg2)
      ∧ r.2.mem ((c.tc : Thread Cert.AdwRefIdeal.nD Cert.AdwRefIdeal.τ).loc Cert.AdwRefIdeal.main_arg3) = m ((c.tc : Thread Cert.AdwRefIdeal.nD Cert.AdwRefIdeal.τ).loc Cert.AdwRefIdeal.main_arg3))
      ∧ r.2.sem = fun _ => 0)

def preserves_Glu_GluIdeal : Prop :=
  IdealRules.named_const.Statement Cert.GluIdeal.κ "cubic" .f32 0x3D372713#32 ((8943 / 200000 : ℝ) : EReal)
  ∧ IdealRules.named_const.Statement Cert.GluIdeal.κ "cubic3" .f32 0x3E095D4F#32 ((26829 / 200000 : ℝ) : EReal)

def algebraic_GluIdeal_GluRefIdeal_pre_glu_pre [hGluIdeal : Cert.GluIdeal.Facts] [hGluRefIdeal : Cert.GluRefIdeal.Facts] [hPre_glu_pre : Cert.Pre_glu_pre.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_pre m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v6)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v40) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Ffd_FfdIdeal : Prop :=
  True

def algebraic_FfdIdeal_FfdRefIdeal_pre_ffd_pre [hFfdIdeal : Cert.FfdIdeal.Facts] [hFfdRefIdeal : Cert.FfdRefIdeal.Facts] [hPre_ffd_pre : Cert.Pre_ffd_pre.Facts] : Prop :=
  ∀ (m : (ℓ : Loc Cert.FfdIdeal.nD Cert.FfdIdeal.τ Cert.FfdIdeal.sig) → Buf (Elt Ideal) ℓ) (g : Dev Cert.FfdIdeal.nD → PrngReg)
    (m' : (ℓ : Loc Cert.FfdRefIdeal.nD Cert.FfdRefIdeal.τ Cert.FfdRefIdeal.sig) → Buf (Elt Ideal) ℓ) (g' : Dev Cert.FfdRefIdeal.nD → PrngReg), Pre_FfdIdeal_ffd_pre m →
    (∀ c : Dev Cert.FfdIdeal.nD,
      m' ((c.tc : Thread Cert.FfdRefIdeal.nD Cert.FfdRefIdeal.τ).loc Cert.FfdRefIdeal.main_arg0) = m ((c.tc : Thread Cert.FfdIdeal.nD Cert.FfdIdeal.τ).loc Cert.FfdIdeal.main_arg0)
      ∧ m' ((c.tc : Thread Cert.FfdRefIdeal.nD Cert.FfdRefIdeal.τ).loc Cert.FfdRefIdeal.main_arg1) = m ((c.tc : Thread Cert.FfdIdeal.nD Cert.FfdIdeal.τ).loc Cert.FfdIdeal.main_arg1)
      ∧ m' ((c.tc : Thread Cert.FfdRefIdeal.nD Cert.FfdRefIdeal.τ).loc Cert.FfdRefIdeal.main_arg2) = m ((c.tc : Thread Cert.FfdIdeal.nD Cert.FfdIdeal.τ).loc Cert.FfdIdeal.main_arg2)
      ∧ m' ((c.tc : Thread Cert.FfdRefIdeal.nD Cert.FfdRefIdeal.τ).loc Cert.FfdRefIdeal.main_arg3) = m ((c.tc : Thread Cert.FfdIdeal.nD Cert.FfdIdeal.τ).loc Cert.FfdIdeal.main_arg3)) →
    ∃ (v0 : (c : Dev Cert.FfdIdeal.nD) → Buf (Elt Ideal) ((c.tc : Thread Cert.FfdIdeal.nD Cert.FfdIdeal.τ).loc Cert.FfdIdeal.main_v8_0)) (v1 : (c : Dev Cert.FfdIdeal.nD) → Buf (Elt Ideal) ((c.tc : Thread Cert.FfdIdeal.nD Cert.FfdIdeal.τ).loc Cert.FfdIdeal.main_v8_1)),
      θ_run (Cert.FfdIdeal.defs (F := Ideal)) (onTc (τ := Cert.FfdIdeal.τ) (Cert.FfdIdeal.main (F := Ideal))) ⟨m, fun _ => 0, g⟩ (fun r => ∀ c : Dev Cert.FfdIdeal.nD,
          r.2.mem ((c.tc : Thread Cert.FfdIdeal.nD Cert.FfdIdeal.τ).loc Cert.FfdIdeal.main_v8_0) = v0 c
          ∧ r.2.mem ((c.tc : Thread Cert.FfdIdeal.nD Cert.FfdIdeal.τ).loc Cert.FfdIdeal.main_v8_1) = v1 c
          ∧ r.2.mem ((c.tc : Thread Cert.FfdIdeal.nD Cert.FfdIdeal.τ).loc Cert.FfdIdeal.main_arg0) = m ((c.tc : Thread Cert.FfdIdeal.nD Cert.FfdIdeal.τ).loc Cert.FfdIdeal.main_arg0)
          ∧ r.2.mem ((c.tc : Thread Cert.FfdIdeal.nD Cert.FfdIdeal.τ).loc Cert.FfdIdeal.main_arg1) = m ((c.tc : Thread Cert.FfdIdeal.nD Cert.FfdIdeal.τ).loc Cert.FfdIdeal.main_arg1)
          ∧ r.2.mem ((c.tc : Thread Cert.FfdIdeal.nD Cert.FfdIdeal.τ).loc Cert.FfdIdeal.main_arg2) = m ((c.tc : Thread Cert.FfdIdeal.nD Cert.FfdIdeal.τ).loc Cert.FfdIdeal.main_arg2)
          ∧ r.2.mem ((c.tc : Thread Cert.FfdIdeal.nD Cert.FfdIdeal.τ).loc Cert.FfdIdeal.main_arg3) = m ((c.tc : Thread Cert.FfdIdeal.nD Cert.FfdIdeal.τ).loc Cert.FfdIdeal.main_arg3))
      ∧ θ_run (Cert.FfdRefIdeal.defs (F := Ideal)) (onTc (τ := Cert.FfdRefIdeal.τ) (Cert.FfdRefIdeal.main (F := Ideal))) ⟨m', fun _ => 0, g'⟩ (fun r => ∀ c : Dev Cert.FfdRefIdeal.nD,
          r.2.mem ((c.tc : Thread Cert.FfdRefIdeal.nD Cert.FfdRefIdeal.τ).loc Cert.FfdRefIdeal.main_v9) = v0 c
          ∧ r.2.mem ((c.tc : Thread Cert.FfdRefIdeal.nD Cert.FfdRefIdeal.τ).loc Cert.FfdRefIdeal.main_v12) = v1 c
          ∧ r.2.mem ((c.tc : Thread Cert.FfdRefIdeal.nD Cert.FfdRefIdeal.τ).loc Cert.FfdRefIdeal.main_arg0) = m' ((c.tc : Thread Cert.FfdRefIdeal.nD Cert.FfdRefIdeal.τ).loc Cert.FfdRefIdeal.main_arg0)
          ∧ r.2.mem ((c.tc : Thread Cert.FfdRefIdeal.nD Cert.FfdRefIdeal.τ).loc Cert.FfdRefIdeal.main_arg1) = m' ((c.tc : Thread Cert.FfdRefIdeal.nD Cert.FfdRefIdeal.τ).loc Cert.FfdRefIdeal.main_arg1)
          ∧ r.2.mem ((c.tc : Thread Cert.FfdRefIdeal.nD Cert.FfdRefIdeal.τ).loc Cert.FfdRefIdeal.main_arg2) = m' ((c.tc : Thread Cert.FfdRefIdeal.nD Cert.FfdRefIdeal.τ).loc Cert.FfdRefIdeal.main_arg2)
          ∧ r.2.mem ((c.tc : Thread Cert.FfdRefIdeal.nD Cert.FfdRefIdeal.τ).loc Cert.FfdRefIdeal.main_arg3) = m' ((c.tc : Thread Cert.FfdRefIdeal.nD Cert.FfdRefIdeal.τ).loc Cert.FfdRefIdeal.main_arg3))

def preserves_Opb_OpbIdeal : Prop :=
  True

def algebraic_OpbIdeal_OpbRefIdeal [hOpbIdeal : Cert.OpbIdeal.Facts] [hOpbRefIdeal : Cert.OpbRefIdeal.Facts] : Prop :=
  ∀ (m : (ℓ : Loc Cert.OpbIdeal.nD Cert.OpbIdeal.τ Cert.OpbIdeal.sig) → Buf (Elt Ideal) ℓ) (g : Dev Cert.OpbIdeal.nD → PrngReg)
    (m' : (ℓ : Loc Cert.OpbRefIdeal.nD Cert.OpbRefIdeal.τ Cert.OpbRefIdeal.sig) → Buf (Elt Ideal) ℓ) (g' : Dev Cert.OpbRefIdeal.nD → PrngReg), Pre_OpbIdeal m →
    (∀ c : Dev Cert.OpbIdeal.nD,
      m' ((c.tc : Thread Cert.OpbRefIdeal.nD Cert.OpbRefIdeal.τ).loc Cert.OpbRefIdeal.main_arg0) = m ((c.tc : Thread Cert.OpbIdeal.nD Cert.OpbIdeal.τ).loc Cert.OpbIdeal.main_arg0)
      ∧ m' ((c.tc : Thread Cert.OpbRefIdeal.nD Cert.OpbRefIdeal.τ).loc Cert.OpbRefIdeal.main_arg1) = m ((c.tc : Thread Cert.OpbIdeal.nD Cert.OpbIdeal.τ).loc Cert.OpbIdeal.main_arg1)
      ∧ m' ((c.tc : Thread Cert.OpbRefIdeal.nD Cert.OpbRefIdeal.τ).loc Cert.OpbRefIdeal.main_arg2) = m ((c.tc : Thread Cert.OpbIdeal.nD Cert.OpbIdeal.τ).loc Cert.OpbIdeal.main_arg2)
      ∧ m' ((c.tc : Thread Cert.OpbRefIdeal.nD Cert.OpbRefIdeal.τ).loc Cert.OpbRefIdeal.main_arg3) = m ((c.tc : Thread Cert.OpbIdeal.nD Cert.OpbIdeal.τ).loc Cert.OpbIdeal.main_arg3)
      ∧ m' ((c.tc : Thread Cert.OpbRefIdeal.nD Cert.OpbRefIdeal.τ).loc Cert.OpbRefIdeal.main_arg4) = m ((c.tc : Thread Cert.OpbIdeal.nD Cert.OpbIdeal.τ).loc Cert.OpbIdeal.main_arg4)
      ∧ m' ((c.tc : Thread Cert.OpbRefIdeal.nD Cert.OpbRefIdeal.τ).loc Cert.OpbRefIdeal.main_arg5) = m ((c.tc : Thread Cert.OpbIdeal.nD Cert.OpbIdeal.τ).loc Cert.OpbIdeal.main_arg5)) →
    ∃ (v0 : (c : Dev Cert.OpbIdeal.nD) → Buf (Elt Ideal) ((c.tc : Thread Cert.OpbIdeal.nD Cert.OpbIdeal.τ).loc Cert.OpbIdeal.main_v1_0)) (v1 : (c : Dev Cert.OpbIdeal.nD) → Buf (Elt Ideal) ((c.tc : Thread Cert.OpbIdeal.nD Cert.OpbIdeal.τ).loc Cert.OpbIdeal.main_v1_1)) (v2 : (c : Dev Cert.OpbIdeal.nD) → Buf (Elt Ideal) ((c.tc : Thread Cert.OpbIdeal.nD Cert.OpbIdeal.τ).loc Cert.OpbIdeal.main_v1_2)) (v3 : (c : Dev Cert.OpbIdeal.nD) → Buf (Elt Ideal) ((c.tc : Thread Cert.OpbIdeal.nD Cert.OpbIdeal.τ).loc Cert.OpbIdeal.main_v1_3)) (v4 : (c : Dev Cert.OpbIdeal.nD) → Buf (Elt Ideal) ((c.tc : Thread Cert.OpbIdeal.nD Cert.OpbIdeal.τ).loc Cert.OpbIdeal.main_v1_4)),
      θ_run (Cert.OpbIdeal.defs (F := Ideal)) (onTc (τ := Cert.OpbIdeal.τ) (Cert.OpbIdeal.main (F := Ideal))) ⟨m, fun _ => 0, g⟩ (fun r => ∀ c : Dev Cert.OpbIdeal.nD,
          r.2.mem ((c.tc : Thread Cert.OpbIdeal.nD Cert.OpbIdeal.τ).loc Cert.OpbIdeal.main_v1_0) = v0 c
          ∧ r.2.mem ((c.tc : Thread Cert.OpbIdeal.nD Cert.OpbIdeal.τ).loc Cert.OpbIdeal.main_v1_1) = v1 c
          ∧ r.2.mem ((c.tc : Thread Cert.OpbIdeal.nD Cert.OpbIdeal.τ).loc Cert.OpbIdeal.main_v1_2) = v2 c
          ∧ r.2.mem ((c.tc : Thread Cert.OpbIdeal.nD Cert.OpbIdeal.τ).loc Cert.OpbIdeal.main_v1_3) = v3 c
          ∧ r.2.mem ((c.tc : Thread Cert.OpbIdeal.nD Cert.OpbIdeal.τ).loc Cert.OpbIdeal.main_v1_4) = v4 c
          ∧ r.2.mem ((c.tc : Thread Cert.OpbIdeal.nD Cert.OpbIdeal.τ).loc Cert.OpbIdeal.main_arg0) = m ((c.tc : Thread Cert.OpbIdeal.nD Cert.OpbIdeal.τ).loc Cert.OpbIdeal.main_arg0)
          ∧ r.2.mem ((c.tc : Thread Cert.OpbIdeal.nD Cert.OpbIdeal.τ).loc Cert.OpbIdeal.main_arg1) = m ((c.tc : Thread Cert.OpbIdeal.nD Cert.OpbIdeal.τ).loc Cert.OpbIdeal.main_arg1)
          ∧ r.2.mem ((c.tc : Thread Cert.OpbIdeal.nD Cert.OpbIdeal.τ).loc Cert.OpbIdeal.main_arg2) = m ((c.tc : Thread Cert.OpbIdeal.nD Cert.OpbIdeal.τ).loc Cert.OpbIdeal.main_arg2)
          ∧ r.2.mem ((c.tc : Thread Cert.OpbIdeal.nD Cert.OpbIdeal.τ).loc Cert.OpbIdeal.main_arg3) = m ((c.tc : Thread Cert.OpbIdeal.nD Cert.OpbIdeal.τ).loc Cert.OpbIdeal.main_arg3)
          ∧ r.2.mem ((c.tc : Thread Cert.OpbIdeal.nD Cert.OpbIdeal.τ).loc Cert.OpbIdeal.main_arg4) = m ((c.tc : Thread Cert.OpbIdeal.nD Cert.OpbIdeal.τ).loc Cert.OpbIdeal.main_arg4)
          ∧ r.2.mem ((c.tc : Thread Cert.OpbIdeal.nD Cert.OpbIdeal.τ).loc Cert.OpbIdeal.main_arg5) = m ((c.tc : Thread Cert.OpbIdeal.nD Cert.OpbIdeal.τ).loc Cert.OpbIdeal.main_arg5))
      ∧ θ_run (Cert.OpbRefIdeal.defs (F := Ideal)) (onTc (τ := Cert.OpbRefIdeal.τ) (Cert.OpbRefIdeal.main (F := Ideal))) ⟨m', fun _ => 0, g'⟩ (fun r => ∀ c : Dev Cert.OpbRefIdeal.nD,
          r.2.mem ((c.tc : Thread Cert.OpbRefIdeal.nD Cert.OpbRefIdeal.τ).loc Cert.OpbRefIdeal.main_v48) = v0 c
          ∧ r.2.mem ((c.tc : Thread Cert.OpbRefIdeal.nD Cert.OpbRefIdeal.τ).loc Cert.OpbRefIdeal.main_v49) = v1 c
          ∧ r.2.mem ((c.tc : Thread Cert.OpbRefIdeal.nD Cert.OpbRefIdeal.τ).loc Cert.OpbRefIdeal.main_v50) = v2 c
          ∧ r.2.mem ((c.tc : Thread Cert.OpbRefIdeal.nD Cert.OpbRefIdeal.τ).loc Cert.OpbRefIdeal.main_v51) = v3 c
          ∧ r.2.mem ((c.tc : Thread Cert.OpbRefIdeal.nD Cert.OpbRefIdeal.τ).loc Cert.OpbRefIdeal.main_v52) = v4 c
          ∧ r.2.mem ((c.tc : Thread Cert.OpbRefIdeal.nD Cert.OpbRefIdeal.τ).loc Cert.OpbRefIdeal.main_arg0) = m' ((c.tc : Thread Cert.OpbRefIdeal.nD Cert.OpbRefIdeal.τ).loc Cert.OpbRefIdeal.main_arg0)
          ∧ r.2.mem ((c.tc : Thread Cert.OpbRefIdeal.nD Cert.OpbRefIdeal.τ).loc Cert.OpbRefIdeal.main_arg1) = m' ((c.tc : Thread Cert.OpbRefIdeal.nD Cert.OpbRefIdeal.τ).loc Cert.OpbRefIdeal.main_arg1)
          ∧ r.2.mem ((c.tc : Thread Cert.OpbRefIdeal.nD Cert.OpbRefIdeal.τ).loc Cert.OpbRefIdeal.main_arg2) = m' ((c.tc : Thread Cert.OpbRefIdeal.nD Cert.OpbRefIdeal.τ).loc Cert.OpbRefIdeal.main_arg2)
          ∧ r.2.mem ((c.tc : Thread Cert.OpbRefIdeal.nD Cert.OpbRefIdeal.τ).loc Cert.OpbRefIdeal.main_arg3) = m' ((c.tc : Thread Cert.OpbRefIdeal.nD Cert.OpbRefIdeal.τ).loc Cert.OpbRefIdeal.main_arg3)
          ∧ r.2.mem ((c.tc : Thread Cert.OpbRefIdeal.nD Cert.OpbRefIdeal.τ).loc Cert.OpbRefIdeal.main_arg4) = m' ((c.tc : Thread Cert.OpbRefIdeal.nD Cert.OpbRefIdeal.τ).loc Cert.OpbRefIdeal.main_arg4)
          ∧ r.2.mem ((c.tc : Thread Cert.OpbRefIdeal.nD Cert.OpbRefIdeal.τ).loc Cert.OpbRefIdeal.main_arg5) = m' ((c.tc : Thread Cert.OpbRefIdeal.nD Cert.OpbRefIdeal.τ).loc Cert.OpbRefIdeal.main_arg5))

def preserves_Ffi_FfiIdeal : Prop :=
  True

def algebraic_FfiIdeal_FfiRefIdeal_pre_ffi_pre [hFfiIdeal : Cert.FfiIdeal.Facts] [hFfiRefIdeal : Cert.FfiRefIdeal.Facts] [hPre_ffi_pre : Cert.Pre_ffi_pre.Facts] : Prop :=
  ∀ (m : (ℓ : Loc Cert.FfiIdeal.nD Cert.FfiIdeal.τ Cert.FfiIdeal.sig) → Buf (Elt Ideal) ℓ) (g : Dev Cert.FfiIdeal.nD → PrngReg)
    (m' : (ℓ : Loc Cert.FfiRefIdeal.nD Cert.FfiRefIdeal.τ Cert.FfiRefIdeal.sig) → Buf (Elt Ideal) ℓ) (g' : Dev Cert.FfiRefIdeal.nD → PrngReg), Pre_FfiIdeal_ffi_pre m →
    (∀ c : Dev Cert.FfiIdeal.nD,
      m' ((c.tc : Thread Cert.FfiRefIdeal.nD Cert.FfiRefIdeal.τ).loc Cert.FfiRefIdeal.main_arg0) = m ((c.tc : Thread Cert.FfiIdeal.nD Cert.FfiIdeal.τ).loc Cert.FfiIdeal.main_arg0)
      ∧ m' ((c.tc : Thread Cert.FfiRefIdeal.nD Cert.FfiRefIdeal.τ).loc Cert.FfiRefIdeal.main_arg1) = m ((c.tc : Thread Cert.FfiIdeal.nD Cert.FfiIdeal.τ).loc Cert.FfiIdeal.main_arg1)
      ∧ m' ((c.tc : Thread Cert.FfiRefIdeal.nD Cert.FfiRefIdeal.τ).loc Cert.FfiRefIdeal.main_arg2) = m ((c.tc : Thread Cert.FfiIdeal.nD Cert.FfiIdeal.τ).loc Cert.FfiIdeal.main_arg2)
      ∧ m' ((c.tc : Thread Cert.FfiRefIdeal.nD Cert.FfiRefIdeal.τ).loc Cert.FfiRefIdeal.main_arg3) = m ((c.tc : Thread Cert.FfiIdeal.nD Cert.FfiIdeal.τ).loc Cert.FfiIdeal.main_arg3)
      ∧ m' ((c.tc : Thread Cert.FfiRefIdeal.nD Cert.FfiRefIdeal.τ).loc Cert.FfiRefIdeal.main_arg4) = m ((c.tc : Thread Cert.FfiIdeal.nD Cert.FfiIdeal.τ).loc Cert.FfiIdeal.main_arg4)
      ∧ m' ((c.tc : Thread Cert.FfiRefIdeal.nD Cert.FfiRefIdeal.τ).loc Cert.FfiRefIdeal.main_arg5) = m ((c.tc : Thread Cert.FfiIdeal.nD Cert.FfiIdeal.τ).loc Cert.FfiIdeal.main_arg5)
      ∧ m' ((c.tc : Thread Cert.FfiRefIdeal.nD Cert.FfiRefIdeal.τ).loc Cert.FfiRefIdeal.main_arg6) = m ((c.tc : Thread Cert.FfiIdeal.nD Cert.FfiIdeal.τ).loc Cert.FfiIdeal.main_arg6)) →
    ∃ (v0 : (c : Dev Cert.FfiIdeal.nD) → Buf (Elt Ideal) ((c.tc : Thread Cert.FfiIdeal.nD Cert.FfiIdeal.τ).loc Cert.FfiIdeal.main_v13_0)) (v1 : (c : Dev Cert.FfiIdeal.nD) → Buf (Elt Ideal) ((c.tc : Thread Cert.FfiIdeal.nD Cert.FfiIdeal.τ).loc Cert.FfiIdeal.main_v13_1)),
      θ_run (Cert.FfiIdeal.defs (F := Ideal)) (onTc (τ := Cert.FfiIdeal.τ) (Cert.FfiIdeal.main (F := Ideal))) ⟨m, fun _ => 0, g⟩ (fun r => ∀ c : Dev Cert.FfiIdeal.nD,
          r.2.mem ((c.tc : Thread Cert.FfiIdeal.nD Cert.FfiIdeal.τ).loc Cert.FfiIdeal.main_v13_0) = v0 c
          ∧ r.2.mem ((c.tc : Thread Cert.FfiIdeal.nD Cert.FfiIdeal.τ).loc Cert.FfiIdeal.main_v13_1) = v1 c
          ∧ r.2.mem ((c.tc : Thread Cert.FfiIdeal.nD Cert.FfiIdeal.τ).loc Cert.FfiIdeal.main_arg0) = m ((c.tc : Thread Cert.FfiIdeal.nD Cert.FfiIdeal.τ).loc Cert.FfiIdeal.main_arg0)
          ∧ r.2.mem ((c.tc : Thread Cert.FfiIdeal.nD Cert.FfiIdeal.τ).loc Cert.FfiIdeal.main_arg1) = m ((c.tc : Thread Cert.FfiIdeal.nD Cert.FfiIdeal.τ).loc Cert.FfiIdeal.main_arg1)
          ∧ r.2.mem ((c.tc : Thread Cert.FfiIdeal.nD Cert.FfiIdeal.τ).loc Cert.FfiIdeal.main_arg2) = m ((c.tc : Thread Cert.FfiIdeal.nD Cert.FfiIdeal.τ).loc Cert.FfiIdeal.main_arg2)
          ∧ r.2.mem ((c.tc : Thread Cert.FfiIdeal.nD Cert.FfiIdeal.τ).loc Cert.FfiIdeal.main_arg3) = m ((c.tc : Thread Cert.FfiIdeal.nD Cert.FfiIdeal.τ).loc Cert.FfiIdeal.main_arg3)
          ∧ r.2.mem ((c.tc : Thread Cert.FfiIdeal.nD Cert.FfiIdeal.τ).loc Cert.FfiIdeal.main_arg4) = m ((c.tc : Thread Cert.FfiIdeal.nD Cert.FfiIdeal.τ).loc Cert.FfiIdeal.main_arg4)
          ∧ r.2.mem ((c.tc : Thread Cert.FfiIdeal.nD Cert.FfiIdeal.τ).loc Cert.FfiIdeal.main_arg5) = m ((c.tc : Thread Cert.FfiIdeal.nD Cert.FfiIdeal.τ).loc Cert.FfiIdeal.main_arg5)
          ∧ r.2.mem ((c.tc : Thread Cert.FfiIdeal.nD Cert.FfiIdeal.τ).loc Cert.FfiIdeal.main_arg6) = m ((c.tc : Thread Cert.FfiIdeal.nD Cert.FfiIdeal.τ).loc Cert.FfiIdeal.main_arg6))
      ∧ θ_run (Cert.FfiRefIdeal.defs (F := Ideal)) (onTc (τ := Cert.FfiRefIdeal.τ) (Cert.FfiRefIdeal.main (F := Ideal))) ⟨m', fun _ => 0, g'⟩ (fun r => ∀ c : Dev Cert.FfiRefIdeal.nD,
          r.2.mem ((c.tc : Thread Cert.FfiRefIdeal.nD Cert.FfiRefIdeal.τ).loc Cert.FfiRefIdeal.main_v41) = v0 c
          ∧ r.2.mem ((c.tc : Thread Cert.FfiRefIdeal.nD Cert.FfiRefIdeal.τ).loc Cert.FfiRefIdeal.main_v42) = v1 c
          ∧ r.2.mem ((c.tc : Thread Cert.FfiRefIdeal.nD Cert.FfiRefIdeal.τ).loc Cert.FfiRefIdeal.main_arg0) = m' ((c.tc : Thread Cert.FfiRefIdeal.nD Cert.FfiRefIdeal.τ).loc Cert.FfiRefIdeal.main_arg0)
          ∧ r.2.mem ((c.tc : Thread Cert.FfiRefIdeal.nD Cert.FfiRefIdeal.τ).loc Cert.FfiRefIdeal.main_arg1) = m' ((c.tc : Thread Cert.FfiRefIdeal.nD Cert.FfiRefIdeal.τ).loc Cert.FfiRefIdeal.main_arg1)
          ∧ r.2.mem ((c.tc : Thread Cert.FfiRefIdeal.nD Cert.FfiRefIdeal.τ).loc Cert.FfiRefIdeal.main_arg2) = m' ((c.tc : Thread Cert.FfiRefIdeal.nD Cert.FfiRefIdeal.τ).loc Cert.FfiRefIdeal.main_arg2)
          ∧ r.2.mem ((c.tc : Thread Cert.FfiRefIdeal.nD Cert.FfiRefIdeal.τ).loc Cert.FfiRefIdeal.main_arg3) = m' ((c.tc : Thread Cert.FfiRefIdeal.nD Cert.FfiRefIdeal.τ).loc Cert.FfiRefIdeal.main_arg3)
          ∧ r.2.mem ((c.tc : Thread Cert.FfiRefIdeal.nD Cert.FfiRefIdeal.τ).loc Cert.FfiRefIdeal.main_arg4) = m' ((c.tc : Thread Cert.FfiRefIdeal.nD Cert.FfiRefIdeal.τ).loc Cert.FfiRefIdeal.main_arg4)
          ∧ r.2.mem ((c.tc : Thread Cert.FfiRefIdeal.nD Cert.FfiRefIdeal.τ).loc Cert.FfiRefIdeal.main_arg5) = m' ((c.tc : Thread Cert.FfiRefIdeal.nD Cert.FfiRefIdeal.τ).loc Cert.FfiRefIdeal.main_arg5)
          ∧ r.2.mem ((c.tc : Thread Cert.FfiRefIdeal.nD Cert.FfiRefIdeal.τ).loc Cert.FfiRefIdeal.main_arg6) = m' ((c.tc : Thread Cert.FfiRefIdeal.nD Cert.FfiRefIdeal.τ).loc Cert.FfiRefIdeal.main_arg6))

def preserves_Ipb_IpbIdeal : Prop :=
  True

def algebraic_IpbIdeal_IpbRefIdeal_pre_ipb_pre [hIpbIdeal : Cert.IpbIdeal.Facts] [hIpbRefIdeal : Cert.IpbRefIdeal.Facts] [hPre_ipb_pre : Cert.Pre_ipb_pre.Facts] : Prop :=
  ∀ (m : (ℓ : Loc Cert.IpbIdeal.nD Cert.IpbIdeal.τ Cert.IpbIdeal.sig) → Buf (Elt Ideal) ℓ) (g : Dev Cert.IpbIdeal.nD → PrngReg)
    (m' : (ℓ : Loc Cert.IpbRefIdeal.nD Cert.IpbRefIdeal.τ Cert.IpbRefIdeal.sig) → Buf (Elt Ideal) ℓ) (g' : Dev Cert.IpbRefIdeal.nD → PrngReg), Pre_IpbIdeal_ipb_pre m →
    (∀ c : Dev Cert.IpbIdeal.nD,
      m' ((c.tc : Thread Cert.IpbRefIdeal.nD Cert.IpbRefIdeal.τ).loc Cert.IpbRefIdeal.main_arg0) = m ((c.tc : Thread Cert.IpbIdeal.nD Cert.IpbIdeal.τ).loc Cert.IpbIdeal.main_arg0)
      ∧ m' ((c.tc : Thread Cert.IpbRefIdeal.nD Cert.IpbRefIdeal.τ).loc Cert.IpbRefIdeal.main_arg1) = m ((c.tc : Thread Cert.IpbIdeal.nD Cert.IpbIdeal.τ).loc Cert.IpbIdeal.main_arg1)
      ∧ m' ((c.tc : Thread Cert.IpbRefIdeal.nD Cert.IpbRefIdeal.τ).loc Cert.IpbRefIdeal.main_arg2) = m ((c.tc : Thread Cert.IpbIdeal.nD Cert.IpbIdeal.τ).loc Cert.IpbIdeal.main_arg2)
      ∧ m' ((c.tc : Thread Cert.IpbRefIdeal.nD Cert.IpbRefIdeal.τ).loc Cert.IpbRefIdeal.main_arg3) = m ((c.tc : Thread Cert.IpbIdeal.nD Cert.IpbIdeal.τ).loc Cert.IpbIdeal.main_arg3)
      ∧ m' ((c.tc : Thread Cert.IpbRefIdeal.nD Cert.IpbRefIdeal.τ).loc Cert.IpbRefIdeal.main_arg4) = m ((c.tc : Thread Cert.IpbIdeal.nD Cert.IpbIdeal.τ).loc Cert.IpbIdeal.main_arg4)) →
    ∃ (v0 : (c : Dev Cert.IpbIdeal.nD) → Buf (Elt Ideal) ((c.tc : Thread Cert.IpbIdeal.nD Cert.IpbIdeal.τ).loc Cert.IpbIdeal.main_v4_0)) (v1 : (c : Dev Cert.IpbIdeal.nD) → Buf (Elt Ideal) ((c.tc : Thread Cert.IpbIdeal.nD Cert.IpbIdeal.τ).loc Cert.IpbIdeal.main_v4_1)),
      θ_run (Cert.IpbIdeal.defs (F := Ideal)) (onTc (τ := Cert.IpbIdeal.τ) (Cert.IpbIdeal.main (F := Ideal))) ⟨m, fun _ => 0, g⟩ (fun r => ∀ c : Dev Cert.IpbIdeal.nD,
          r.2.mem ((c.tc : Thread Cert.IpbIdeal.nD Cert.IpbIdeal.τ).loc Cert.IpbIdeal.main_v4_0) = v0 c
          ∧ r.2.mem ((c.tc : Thread Cert.IpbIdeal.nD Cert.IpbIdeal.τ).loc Cert.IpbIdeal.main_v4_1) = v1 c
          ∧ r.2.mem ((c.tc : Thread Cert.IpbIdeal.nD Cert.IpbIdeal.τ).loc Cert.IpbIdeal.main_arg0) = m ((c.tc : Thread Cert.IpbIdeal.nD Cert.IpbIdeal.τ).loc Cert.IpbIdeal.main_arg0)
          ∧ r.2.mem ((c.tc : Thread Cert.IpbIdeal.nD Cert.IpbIdeal.τ).loc Cert.IpbIdeal.main_arg1) = m ((c.tc : Thread Cert.IpbIdeal.nD Cert.IpbIdeal.τ).loc Cert.IpbIdeal.main_arg1)
          ∧ r.2.mem ((c.tc : Thread Cert.IpbIdeal.nD Cert.IpbIdeal.τ).loc Cert.IpbIdeal.main_arg2) = m ((c.tc : Thread Cert.IpbIdeal.nD Cert.IpbIdeal.τ).loc Cert.IpbIdeal.main_arg2)
          ∧ r.2.mem ((c.tc : Thread Cert.IpbIdeal.nD Cert.IpbIdeal.τ).loc Cert.IpbIdeal.main_arg3) = m ((c.tc : Thread Cert.IpbIdeal.nD Cert.IpbIdeal.τ).loc Cert.IpbIdeal.main_arg3)
          ∧ r.2.mem ((c.tc : Thread Cert.IpbIdeal.nD Cert.IpbIdeal.τ).loc Cert.IpbIdeal.main_arg4) = m ((c.tc : Thread Cert.IpbIdeal.nD Cert.IpbIdeal.τ).loc Cert.IpbIdeal.main_arg4))
      ∧ θ_run (Cert.IpbRefIdeal.defs (F := Ideal)) (onTc (τ := Cert.IpbRefIdeal.τ) (Cert.IpbRefIdeal.main (F := Ideal))) ⟨m', fun _ => 0, g'⟩ (fun r => ∀ c : Dev Cert.IpbRefIdeal.nD,
          r.2.mem ((c.tc : Thread Cert.IpbRefIdeal.nD Cert.IpbRefIdeal.τ).loc Cert.IpbRefIdeal.main_v39) = v0 c
          ∧ r.2.mem ((c.tc : Thread Cert.IpbRefIdeal.nD Cert.IpbRefIdeal.τ).loc Cert.IpbRefIdeal.main_v40) = v1 c
          ∧ r.2.mem ((c.tc : Thread Cert.IpbRefIdeal.nD Cert.IpbRefIdeal.τ).loc Cert.IpbRefIdeal.main_arg0) = m' ((c.tc : Thread Cert.IpbRefIdeal.nD Cert.IpbRefIdeal.τ).loc Cert.IpbRefIdeal.main_arg0)
          ∧ r.2.mem ((c.tc : Thread Cert.IpbRefIdeal.nD Cert.IpbRefIdeal.τ).loc Cert.IpbRefIdeal.main_arg1) = m' ((c.tc : Thread Cert.IpbRefIdeal.nD Cert.IpbRefIdeal.τ).loc Cert.IpbRefIdeal.main_arg1)
          ∧ r.2.mem ((c.tc : Thread Cert.IpbRefIdeal.nD Cert.IpbRefIdeal.τ).loc Cert.IpbRefIdeal.main_arg2) = m' ((c.tc : Thread Cert.IpbRefIdeal.nD Cert.IpbRefIdeal.τ).loc Cert.IpbRefIdeal.main_arg2)
          ∧ r.2.mem ((c.tc : Thread Cert.IpbRefIdeal.nD Cert.IpbRefIdeal.τ).loc Cert.IpbRefIdeal.main_arg3) = m' ((c.tc : Thread Cert.IpbRefIdeal.nD Cert.IpbRefIdeal.τ).loc Cert.IpbRefIdeal.main_arg3)
          ∧ r.2.mem ((c.tc : Thread Cert.IpbRefIdeal.nD Cert.IpbRefIdeal.τ).loc Cert.IpbRefIdeal.main_arg4) = m' ((c.tc : Thread Cert.IpbRefIdeal.nD Cert.IpbRefIdeal.τ).loc Cert.IpbRefIdeal.main_arg4))

def preserves_Ple_PleIdeal : Prop :=
  True

def algebraic_PleIdeal_PleRefIdeal_pre_ple_pre [hPleIdeal : Cert.PleIdeal.Facts] [hPleRefIdeal : Cert.PleRefIdeal.Facts] [hPre_ple_pre : Cert.Pre_ple_pre.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_pre m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)) (v4 : (c : Dev Cert.PleIdeal.nD) → Buf (Elt Ideal) ((c.tc : Thread Cert.PleIdeal.nD Cert.PleIdeal.τ).loc Cert.PleIdeal.main_v2_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_v2_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v63) = v0 c
          ∧ r.2.mem ((c.tc : Thread Cert.PleRefIdeal.nD Cert.PleRefIdeal.τ).loc Cert.PleRefIdeal.main_v67) = v1 c
          ∧ r.2.mem ((c.tc : Thread Cert.PleRefIdeal.nD Cert.PleRefIdeal.τ).loc Cert.PleRefIdeal.main_v68) = v2 c
          ∧ r.2.mem ((c.tc : Thread Cert.PleRefIdeal.nD Cert.PleRefIdeal.τ).loc Cert.PleRefIdeal.main_v69) = v3 c
          ∧ r.2.mem ((c.tc : Thread Cert.PleRefIdeal.nD Cert.PleRefIdeal.τ).loc Cert.PleRefIdeal.main_v70) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)
      ∧ m' ((c.tc : Thread Cert.DzRefIdeal.nD Cert.DzRefIdeal.τ).loc Cert.DzRefIdeal.main_arg2) = m ((c.tc : Thread Cert.DzIdeal.nD Cert.DzIdeal.τ).loc Cert.DzIdeal.main_arg2)
      ∧ m' ((c.tc : Thread Cert.DzRefIdeal.nD Cert.DzRefIdeal.τ).loc Cert.DzRefIdeal.main_arg3) = m ((c.tc : Thread Cert.DzIdeal.nD Cert.DzIdeal.τ).loc Cert.DzIdeal.main_arg3)
      ∧ m' ((c.tc : Thread Cert.DzRefIdeal.nD Cert.DzRefIdeal.τ).loc Cert.DzRefIdeal.main_arg4) = m ((c.tc : Thread Cert.DzIdeal.nD Cert.DzIdeal.τ).loc Cert.DzIdeal.main_arg4)
      ∧ m' ((c.tc : Thread Cert.DzRefIdeal.nD Cert.DzRefIdeal.τ).loc Cert.DzRefIdeal.main_arg5) = m ((c.tc : Thread Cert.DzIdeal.nD Cert.DzIdeal.τ).loc Cert.DzIdeal.main_arg5)
      ∧ m' ((c.tc : Thread Cert.DzRefIdeal.nD Cert.DzRefIdeal.τ).loc Cert.DzRefIdeal.main_arg6) = m ((c.tc : Thread Cert.DzIdeal.nD Cert.DzIdeal.τ).loc Cert.DzIdeal.main_arg6)) →
    ∃ (v0 : (c : Dev Cert.DzIdeal.nD) → Buf (Elt Ideal) ((c.tc : Thread Cert.DzIdeal.nD Cert.DzIdeal.τ).loc Cert.DzIdeal.main_v29)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v29) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
          ∧ r.2.mem ((c.tc : Thread Cert.DzIdeal.nD Cert.DzIdeal.τ).loc Cert.DzIdeal.main_arg2) = m ((c.tc : Thread Cert.DzIdeal.nD Cert.DzIdeal.τ).loc Cert.DzIdeal.main_arg2)
          ∧ r.2.mem ((c.tc : Thread Cert.DzIdeal.nD Cert.DzIdeal.τ).loc Cert.DzIdeal.main_arg3) = m ((c.tc : Thread Cert.DzIdeal.nD Cert.DzIdeal.τ).loc Cert.DzIdeal.main_arg3)
          ∧ r.2.mem ((c.tc : Thread Cert.DzIdeal.nD Cert.DzIdeal.τ).loc Cert.DzIdeal.main_arg4) = m ((c.tc : Thread Cert.DzIdeal.nD Cert.DzIdeal.τ).loc Cert.DzIdeal.main_arg4)
          ∧ r.2.mem ((c.tc : Thread Cert.DzIdeal.nD Cert.DzIdeal.τ).loc Cert.DzIdeal.main_arg5) = m ((c.tc : Thread Cert.DzIdeal.nD Cert.DzIdeal.τ).loc Cert.DzIdeal.main_arg5)
          ∧ r.2.mem ((c.tc : Thread Cert.DzIdeal.nD Cert.DzIdeal.τ).loc Cert.DzIdeal.main_arg6) = m ((c.tc : Thread Cert.DzIdeal.nD Cert.DzIdeal.τ).loc Cert.DzIdeal.main_arg6))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v146) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1)
          ∧ r.2.mem ((c.tc : Thread Cert.DzRefIdeal.nD Cert.DzRefIdeal.τ).loc Cert.DzRefIdeal.main_arg2) = m' ((c.tc : Thread Cert.DzRefIdeal.nD Cert.DzRefIdeal.τ).loc Cert.DzRefIdeal.main_arg2)
          ∧ r.2.mem ((c.tc : Thread Cert.DzRefIdeal.nD Cert.DzRefIdeal.τ).loc Cert.DzRefIdeal.main_arg3) = m' ((c.tc : Thread Cert.DzRefIdeal.nD Cert.DzRefIdeal.τ).loc Cert.DzRefIdeal.main_arg3)
          ∧ r.2.mem ((c.tc : Thread Cert.DzRefIdeal.nD Cert.DzRefIdeal.τ).loc Cert.DzRefIdeal.main_arg4) = m' ((c.tc : Thread Cert.DzRefIdeal.nD Cert.DzRefIdeal.τ).loc Cert.DzRefIdeal.main_arg4)
          ∧ r.2.mem ((c.tc : Thread Cert.DzRefIdeal.nD Cert.DzRefIdeal.τ).loc Cert.DzRefIdeal.main_arg5) = m' ((c.tc : Thread Cert.DzRefIdeal.nD Cert.DzRefIdeal.τ).loc Cert.DzRefIdeal.main_arg5)
          ∧ r.2.mem ((c.tc : Thread Cert.DzRefIdeal.nD Cert.DzRefIdeal.τ).loc Cert.DzRefIdeal.main_arg6) = m' ((c.tc : Thread Cert.DzRefIdeal.nD Cert.DzRefIdeal.τ).loc Cert.DzRefIdeal.main_arg6))

def preserves_Spb_SpbIdeal : Prop :=
  True

def algebraic_SpbIdeal_SpbRefIdeal [hSpbIdeal : Cert.SpbIdeal.Facts] [hSpbRefIdeal : Cert.SpbRefIdeal.Facts] : Prop :=
  ∀ (m : (ℓ : Loc Cert.SpbIdeal.nD Cert.SpbIdeal.τ Cert.SpbIdeal.sig) → Buf (Elt Ideal) ℓ) (g : Dev Cert.SpbIdeal.nD → PrngReg)
    (m' : (ℓ : Loc Cert.SpbRefIdeal.nD Cert.SpbRefIdeal.τ Cert.SpbRefIdeal.sig) → Buf (Elt Ideal) ℓ) (g' : Dev Cert.SpbRefIdeal.nD → PrngReg), Pre_SpbIdeal m →
    (∀ c : Dev Cert.SpbIdeal.nD,
      m' ((c.tc : Thread Cert.SpbRefIdeal.nD Cert.SpbRefIdeal.τ).loc Cert.SpbRefIdeal.main_arg0) = m ((c.tc : Thread Cert.SpbIdeal.nD Cert.SpbIdeal.τ).loc Cert.SpbIdeal.main_arg0)
      ∧ m' ((c.tc : Thread Cert.SpbRefIdeal.nD Cert.SpbRefIdeal.τ).loc Cert.SpbRefIdeal.main_arg1) = m ((c.tc : Thread Cert.SpbIdeal.nD Cert.SpbIdeal.τ).loc Cert.SpbIdeal.main_arg1)
      ∧ m' ((c.tc : Thread Cert.SpbRefIdeal.nD Cert.SpbRefIdeal.τ).loc Cert.SpbRefIdeal.main_arg2) = m ((c.tc : Thread Cert.SpbIdeal.nD Cert.SpbIdeal.τ).loc Cert.SpbIdeal.main_arg2)
      ∧ m' ((c.tc : Thread Cert.SpbRefIdeal.nD Cert.SpbRefIdeal.τ).loc Cert.SpbRefIdeal.main_arg3) = m ((c.tc : Thread Cert.SpbIdeal.nD Cert.SpbIdeal.τ).loc Cert.SpbIdeal.main_arg3)
      ∧ m' ((c.tc : Thread Cert.SpbRefIdeal.nD Cert.SpbRefIdeal.τ).loc Cert.SpbRefIdeal.main_arg4) = m ((c.tc : Thread Cert.SpbIdeal.nD Cert.SpbIdeal.τ).loc Cert.SpbIdeal.main_arg4)
      ∧ m' ((c.tc : Thread Cert.SpbRefIdeal.nD Cert.SpbRefIdeal.τ).loc Cert.SpbRefIdeal.main_arg5) = m ((c.tc : Thread Cert.SpbIdeal.nD Cert.SpbIdeal.τ).loc Cert.SpbIdeal.main_arg5)
      ∧ m' ((c.tc : Thread Cert.SpbRefIdeal.nD Cert.SpbRefIdeal.τ).loc Cert.SpbRefIdeal.main_arg6) = m ((c.tc : Thread Cert.SpbIdeal.nD Cert.SpbIdeal.τ).loc Cert.SpbIdeal.main_arg6)
      ∧ m' ((c.tc : Thread Cert.SpbRefIdeal.nD Cert.SpbRefIdeal.τ).loc Cert.SpbRefIdeal.main_arg7) = m ((c.tc : Thread Cert.SpbIdeal.nD Cert.SpbIdeal.τ).loc Cert.SpbIdeal.main_arg7)
      ∧ m' ((c.tc : Thread Cert.SpbRefIdeal.nD Cert.SpbRefIdeal.τ).loc Cert.SpbRefIdeal.main_arg8) = m ((c.tc : Thread Cert.SpbIdeal.nD Cert.SpbIdeal.τ).loc Cert.SpbIdeal.main_arg8)) →
    ∃ (v0 : (c : Dev Cert.SpbIdeal.nD) → Buf (Elt Ideal) ((c.tc : Thread Cert.SpbIdeal.nD Cert.SpbIdeal.τ).loc Cert.SpbIdeal.main_v5_0)) (v1 : (c : Dev Cert.SpbIdeal.nD) → Buf (Elt Ideal) ((c.tc : Thread Cert.SpbIdeal.nD Cert.SpbIdeal.τ).loc Cert.SpbIdeal.main_v5_1)) (v2 : (c : Dev Cert.SpbIdeal.nD) → Buf (Elt Ideal) ((c.tc : Thread Cert.SpbIdeal.nD Cert.SpbIdeal.τ).loc Cert.SpbIdeal.main_v5_2)) (v3 : (c : Dev Cert.SpbIdeal.nD) → Buf (Elt Ideal) ((c.tc : Thread Cert.SpbIdeal.nD Cert.SpbIdeal.τ).loc Cert.SpbIdeal.main_v5_3)) (v4 : (c : Dev Cert.SpbIdeal.nD) → Buf (Elt Ideal) ((c.tc : Thread Cert.SpbIdeal.nD Cert.SpbIdeal.τ).loc Cert.SpbIdeal.main_v5_4)),
      θ_run (Cert.SpbIdeal.defs (F := Ideal)) (onTc (τ := Cert.SpbIdeal.τ) (Cert.SpbIdeal.main (F := Ideal))) ⟨m, fun _ => 0, g⟩ (fun r => ∀ c : Dev Cert.SpbIdeal.nD,
          r.2.mem ((c.tc : Thread Cert.SpbIdeal.nD Cert.SpbIdeal.τ).loc Cert.SpbIdeal.main_v5_0) = v0 c
          ∧ r.2.mem ((c.tc : Thread Cert.SpbIdeal.nD Cert.SpbIdeal.τ).loc Cert.SpbIdeal.main_v5_1) = v1 c
          ∧ r.2.mem ((c.tc : Thread Cert.SpbIdeal.nD Cert.SpbIdeal.τ).loc Cert.SpbIdeal.main_v5_2) = v2 c
          ∧ r.2.mem ((c.tc : Thread Cert.SpbIdeal.nD Cert.SpbIdeal.τ).loc Cert.SpbIdeal.main_v5_3) = v3 c
          ∧ r.2.mem ((c.tc : Thread Cert.SpbIdeal.nD Cert.SpbIdeal.τ).loc Cert.SpbIdeal.main_v5_4) = v4 c
          ∧ r.2.mem ((c.tc : Thread Cert.SpbIdeal.nD Cert.SpbIdeal.τ).loc Cert.SpbIdeal.main_arg0) = m ((c.tc : Thread Cert.SpbIdeal.nD Cert.SpbIdeal.τ).loc Cert.SpbIdeal.main_arg0)
          ∧ r.2.mem ((c.tc : Thread Cert.SpbIdeal.nD Cert.SpbIdeal.τ).loc Cert.SpbIdeal.main_arg1) = m ((c.tc : Thread Cert.SpbIdeal.nD Cert.SpbIdeal.τ).loc Cert.SpbIdeal.main_arg1)
          ∧ r.2.mem ((c.tc : Thread Cert.SpbIdeal.nD Cert.SpbIdeal.τ).loc Cert.SpbIdeal.main_arg2) = m ((c.tc : Thread Cert.SpbIdeal.nD Cert.SpbIdeal.τ).loc Cert.SpbIdeal.main_arg2)
          ∧ r.2.mem ((c.tc : Thread Cert.SpbIdeal.nD Cert.SpbIdeal.τ).loc Cert.SpbIdeal.main_arg3) = m ((c.tc : Thread Cert.SpbIdeal.nD Cert.SpbIdeal.τ).loc Cert.SpbIdeal.main_arg3)
          ∧ r.2.mem ((c.tc : Thread Cert.SpbIdeal.nD Cert.SpbIdeal.τ).loc Cert.SpbIdeal.main_arg4) = m ((c.tc : Thread Cert.SpbIdeal.nD Cert.SpbIdeal.τ).loc Cert.SpbIdeal.main_arg4)
          ∧ r.2.mem ((c.tc : Thread Cert.SpbIdeal.nD Cert.SpbIdeal.τ).loc Cert.SpbIdeal.main_arg5) = m ((c.tc : Thread Cert.SpbIdeal.nD Cert.SpbIdeal.τ).loc Cert.SpbIdeal.main_arg5)
          ∧ r.2.mem ((c.tc : Thread Cert.SpbIdeal.nD Cert.SpbIdeal.τ).loc Cert.SpbIdeal.main_arg6) = m ((c.tc : Thread Cert.SpbIdeal.nD Cert.SpbIdeal.τ).loc Cert.SpbIdeal.main_arg6)
          ∧ r.2.mem ((c.tc : Thread Cert.SpbIdeal.nD Cert.SpbIdeal.τ).loc Cert.SpbIdeal.main_arg7) = m ((c.tc : Thread Cert.SpbIdeal.nD Cert.SpbIdeal.τ).loc Cert.SpbIdeal.main_arg7)
          ∧ r.2.mem ((c.tc : Thread Cert.SpbIdeal.nD Cert.SpbIdeal.τ).loc Cert.SpbIdeal.main_arg8) = m ((c.tc : Thread Cert.SpbIdeal.nD Cert.SpbIdeal.τ).loc Cert.SpbIdeal.main_arg8))
      ∧ θ_run (Cert.SpbRefIdeal.defs (F := Ideal)) (onTc (τ := Cert.SpbRefIdeal.τ) (Cert.SpbRefIdeal.main (F := Ideal))) ⟨m', fun _ => 0, g'⟩ (fun r => ∀ c : Dev Cert.SpbRefIdeal.nD,
          r.2.mem ((c.tc : Thread Cert.SpbRefIdeal.nD Cert.SpbRefIdeal.τ).loc Cert.SpbRefIdeal.main_v140) = v0 c
          ∧ r.2.mem ((c.tc : Thread Cert.SpbRefIdeal.nD Cert.SpbRefIdeal.τ).loc Cert.SpbRefIdeal.main_v132) = v1 c
          ∧ r.2.mem ((c.tc : Thread Cert.SpbRefIdeal.nD Cert.SpbRefIdeal.τ).loc Cert.SpbRefIdeal.main_v143) = v2 c
          ∧ r.2.mem ((c.tc : Thread Cert.SpbRefIdeal.nD Cert.SpbRefIdeal.τ).loc Cert.SpbRefIdeal.main_v144) = v3 c
          ∧ r.2.mem ((c.tc : Thread Cert.SpbRefIdeal.nD Cert.SpbRefIdeal.τ).loc Cert.SpbRefIdeal.main_v145) = v4 c
          ∧ r.2.mem ((c.tc : Thread Cert.SpbRefIdeal.nD Cert.SpbRefIdeal.τ).loc Cert.SpbRefIdeal.main_arg0) = m' ((c.tc : Thread Cert.SpbRefIdeal.nD Cert.SpbRefIdeal.τ).loc Cert.SpbRefIdeal.main_arg0)
          ∧ r.2.mem ((c.tc : Thread Cert.SpbRefIdeal.nD Cert.SpbRefIdeal.τ).loc Cert.SpbRefIdeal.main_arg1) = m' ((c.tc : Thread Cert.SpbRefIdeal.nD Cert.SpbRefIdeal.τ).loc Cert.SpbRefIdeal.main_arg1)
          ∧ r.2.mem ((c.tc : Thread Cert.SpbRefIdeal.nD Cert.SpbRefIdeal.τ).loc Cert.SpbRefIdeal.main_arg2) = m' ((c.tc : Thread Cert.SpbRefIdeal.nD Cert.SpbRefIdeal.τ).loc Cert.SpbRefIdeal.main_arg2)
          ∧ r.2.mem ((c.tc : Thread Cert.SpbRefIdeal.nD Cert.SpbRefIdeal.τ).loc Cert.SpbRefIdeal.main_arg3) = m' ((c.tc : Thread Cert.SpbRefIdeal.nD Cert.SpbRefIdeal.τ).loc Cert.SpbRefIdeal.main_arg3)
          ∧ r.2.mem ((c.tc : Thread Cert.SpbRefIdeal.nD Cert.SpbRefIdeal.τ).loc Cert.SpbRefIdeal.main_arg4) = m' ((c.tc : Thread Cert.SpbRefIdeal.nD Cert.SpbRefIdeal.τ).loc Cert.SpbRefIdeal.main_arg4)
          ∧ r.2.mem ((c.tc : Thread Cert.SpbRefIdeal.nD Cert.SpbRefIdeal.τ).loc Cert.SpbRefIdeal.main_arg5) = m' ((c.tc : Thread Cert.SpbRefIdeal.nD Cert.SpbRefIdeal.τ).loc Cert.SpbRefIdeal.main_arg5)
          ∧ r.2.mem ((c.tc : Thread Cert.SpbRefIdeal.nD Cert.SpbRefIdeal.τ).loc Cert.SpbRefIdeal.main_arg6) = m' ((c.tc : Thread Cert.SpbRefIdeal.nD Cert.SpbRefIdeal.τ).loc Cert.SpbRefIdeal.main_arg6)
          ∧ r.2.mem ((c.tc : Thread Cert.SpbRefIdeal.nD Cert.SpbRefIdeal.τ).loc Cert.SpbRefIdeal.main_arg7) = m' ((c.tc : Thread Cert.SpbRefIdeal.nD Cert.SpbRefIdeal.τ).loc Cert.SpbRefIdeal.main_arg7)
          ∧ r.2.mem ((c.tc : Thread Cert.SpbRefIdeal.nD Cert.SpbRefIdeal.τ).loc Cert.SpbRefIdeal.main_arg8) = m' ((c.tc : Thread Cert.SpbRefIdeal.nD Cert.SpbRefIdeal.τ).loc Cert.SpbRefIdeal.main_arg8))

def preserves_Att1_Att1Ideal : Prop :=
  IdealRules.named_const.Statement Cert.Att1Ideal.κ "mask" .f32 0xF149F2CA#32 ⊥

def algebraic_Att1Ideal_Att1RefIdeal_pre_att_pre [hAtt1Ideal : Cert.Att1Ideal.Facts] [hAtt1RefIdeal : Cert.Att1RefIdeal.Facts] [hPre_att_pre : Cert.Pre_att_pre.Facts] : Prop :=
  ∀ (m : (ℓ : Loc Cert.Att1Ideal.nD Cert.Att1Ideal.τ Cert.Att1Ideal.sig) → Buf (Elt Ideal) ℓ) (g : Dev Cert.Att1Ideal.nD → PrngReg)
    (m' : (ℓ : Loc Cert.Att1RefIdeal.nD Cert.Att1RefIdeal.τ Cert.Att1RefIdeal.sig) → Buf (Elt Ideal) ℓ) (g' : Dev Cert.Att1RefIdeal.nD → PrngReg), Pre_Att1Ideal_att_pre m →
    (∀ c : Dev Cert.Att1Ideal.nD,
      m' ((c.tc : Thread Cert.Att1RefIdeal.nD Cert.Att1RefIdeal.τ).loc Cert.Att1RefIdeal.main_arg0) = m ((c.tc : Thread Cert.Att1Ideal.nD Cert.Att1Ideal.τ).loc Cert.Att1Ideal.main_arg0)
      ∧ m' ((c.tc : Thread Cert.Att1RefIdeal.nD Cert.Att1RefIdeal.τ).loc Cert.Att1RefIdeal.main_arg1) = m ((c.tc : Thread Cert.Att1Ideal.nD Cert.Att1Ideal.τ).loc Cert.Att1Ideal.main_arg1)
      ∧ m' ((c.tc : Thread Cert.Att1RefIdeal.nD Cert.Att1RefIdeal.τ).loc Cert.Att1RefIdeal.main_arg2) = m ((c.tc : Thread Cert.Att1Ideal.nD Cert.Att1Ideal.τ).loc Cert.Att1Ideal.main_arg2)
      ∧ m' ((c.tc : Thread Cert.Att1RefIdeal.nD Cert.Att1RefIdeal.τ).loc Cert.Att1RefIdeal.main_arg3) = m ((c.tc : Thread Cert.Att1Ideal.nD Cert.Att1Ideal.τ).loc Cert.Att1Ideal.main_arg3)) →
    ∃ (v0 : (c : Dev Cert.Att1Ideal.nD) → Buf (Elt Ideal) ((c.tc : Thread Cert.Att1Ideal.nD Cert.Att1Ideal.τ).loc Cert.Att1Ideal.main_v0_0)) (v1 : (c : Dev Cert.Att1Ideal.nD) → Buf (Elt Ideal) ((c.tc : Thread Cert.Att1Ideal.nD Cert.Att1Ideal.τ).loc Cert.Att1Ideal.main_v0_1)) (v2 : (c : Dev Cert.Att1Ideal.nD) → Buf (Elt Ideal) ((c.tc : Thread Cert.Att1Ideal.nD Cert.Att1Ideal.τ).loc Cert.Att1Ideal.main_v1_0)) (v3 : (c : Dev Cert.Att1Ideal.nD) → Buf (Elt Ideal) ((c.tc : Thread Cert.Att1Ideal.nD Cert.Att1Ideal.τ).loc Cert.Att1Ideal.main_v1_1)) (v4 : (c : Dev Cert.Att1Ideal.nD) → Buf (Elt Ideal) ((c.tc : Thread Cert.Att1Ideal.nD Cert.Att1Ideal.τ).loc Cert.Att1Ideal.main_v1_2)),
      θ_run (Cert.Att1Ideal.defs (F := Ideal)) (onTc (τ := Cert.Att1Ideal.τ) (Cert.Att1Ideal.main (F := Ideal))) ⟨m, fun _ => 0, g⟩ (fun r => ∀ c : Dev Cert.Att1Ideal.nD,
          r.2.mem ((c.tc : Thread Cert.Att1Ideal.nD Cert.Att1Ideal.τ).loc Cert.Att1Ideal.main_v0_0) = v0 c
          ∧ r.2.mem ((c.tc : Thread Cert.Att1Ideal.nD Cert.Att1Ideal.τ).loc Cert.Att1Ideal.main_v0_1) = v1 c
          ∧ r.2.mem ((c.tc : Thread Cert.Att1Ideal.nD Cert.Att1Ideal.τ).loc Cert.Att1Ideal.main_v1_0) = v2 c
          ∧ r.2.mem ((c.tc : Thread Cert.Att1Ideal.nD Cert.Att1Ideal.τ).loc Cert.Att1Ideal.main_v1_1) = v3 c
          ∧ r.2.mem ((c.tc : Thread Cert.Att1Ideal.nD Cert.Att1Ideal.τ).loc Cert.Att1Ideal.main_v1_2) = v4 c
          ∧ r.2.mem ((c.tc : Thread Cert.Att1Ideal.nD Cert.Att1Ideal.τ).loc Cert.Att1Ideal.main_arg0) = m ((c.tc : Thread Cert.Att1Ideal.nD Cert.Att1Ideal.τ).loc Cert.Att1Ideal.main_arg0)
          ∧ r.2.mem ((c.tc : Thread Cert.Att1Ideal.nD Cert.Att1Ideal.τ).loc Cert.Att1Ideal.main_arg1) = m ((c.tc : Thread Cert.Att1Ideal.nD Cert.Att1Ideal.τ).loc Cert.Att1Ideal.main_arg1)
          ∧ r.2.mem ((c.tc : Thread Cert.Att1Ideal.nD Cert.Att1Ideal.τ).loc Cert.Att1Ideal.main_arg2) = m ((c.tc : Thread Cert.Att1Ideal.nD Cert.Att1Ideal.τ).loc Cert.Att1Ideal.main_arg2)
          ∧ r.2.mem ((c.tc : Thread Cert.Att1Ideal.nD Cert.Att1Ideal.τ).loc Cert.Att1Ideal.main_arg3) = m ((c.tc : Thread Cert.Att1Ideal.nD Cert.Att1Ideal.τ).loc Cert.Att1Ideal.main_arg3))
      ∧ θ_run (Cert.Att1RefIdeal.defs (F := Ideal)) (onTc (τ := Cert.Att1RefIdeal.τ) (Cert.Att1RefIdeal.main (F := Ideal))) ⟨m', fun _ => 0, g'⟩ (fun r => ∀ c : Dev Cert.Att1RefIdeal.nD,
          r.2.mem ((c.tc : Thread Cert.Att1RefIdeal.nD Cert.Att1RefIdeal.τ).loc Cert.Att1RefIdeal.main_v95) = v0 c
          ∧ r.2.mem ((c.tc : Thread Cert.Att1RefIdeal.nD Cert.Att1RefIdeal.τ).loc Cert.Att1RefIdeal.main_v93) = v1 c
          ∧ r.2.mem ((c.tc : Thread Cert.Att1RefIdeal.nD Cert.Att1RefIdeal.τ).loc Cert.Att1RefIdeal.main_v168) = v2 c
          ∧ r.2.mem ((c.tc : Thread Cert.Att1RefIdeal.nD Cert.Att1RefIdeal.τ).loc Cert.Att1RefIdeal.main_v170) = v3 c
          ∧ r.2.mem ((c.tc : Thread Cert.Att1RefIdeal.nD Cert.Att1RefIdeal.τ).loc Cert.Att1RefIdeal.main_v172) = v4 c
          ∧ r.2.mem ((c.tc : Thread Cert.Att1RefIdeal.nD Cert.Att1RefIdeal.τ).loc Cert.Att1RefIdeal.main_arg0) = m' ((c.tc : Thread Cert.Att1RefIdeal.nD Cert.Att1RefIdeal.τ).loc Cert.Att1RefIdeal.main_arg0)
          ∧ r.2.mem ((c.tc : Thread Cert.Att1RefIdeal.nD Cert.Att1RefIdeal.τ).loc Cert.Att1RefIdeal.main_arg1) = m' ((c.tc : Thread Cert.Att1RefIdeal.nD Cert.Att1RefIdeal.τ).loc Cert.Att1RefIdeal.main_arg1)
          ∧ r.2.mem ((c.tc : Thread Cert.Att1RefIdeal.nD Cert.Att1RefIdeal.τ).loc Cert.Att1RefIdeal.main_arg2) = m' ((c.tc : Thread Cert.Att1RefIdeal.nD Cert.Att1RefIdeal.τ).loc Cert.Att1RefIdeal.main_arg2)
          ∧ r.2.mem ((c.tc : Thread Cert.Att1RefIdeal.nD Cert.Att1RefIdeal.τ).loc Cert.Att1RefIdeal.main_arg3) = m' ((c.tc : Thread Cert.Att1RefIdeal.nD Cert.Att1RefIdeal.τ).loc Cert.Att1RefIdeal.main_arg3))

def preserves_Att4_Att4Ideal : Prop :=
  IdealRules.named_const.Statement Cert.Att4Ideal.κ "mask" .f32 0xF149F2CA#32 ⊥

def algebraic_Att4Ideal_Att4RefIdeal_pre_att_pre [hAtt4Ideal : Cert.Att4Ideal.Facts] [hAtt4RefIdeal : Cert.Att4RefIdeal.Facts] [hPre_att_pre : Cert.Pre_att_pre.Facts] : Prop :=
  ∀ (m : (ℓ : Loc Cert.Att4Ideal.nD Cert.Att4Ideal.τ Cert.Att4Ideal.sig) → Buf (Elt Ideal) ℓ) (g : Dev Cert.Att4Ideal.nD → PrngReg)
    (m' : (ℓ : Loc Cert.Att4RefIdeal.nD Cert.Att4RefIdeal.τ Cert.Att4RefIdeal.sig) → Buf (Elt Ideal) ℓ) (g' : Dev Cert.Att4RefIdeal.nD → PrngReg), Pre_Att4Ideal_att_pre m →
    (∀ c : Dev Cert.Att4Ideal.nD,
      m' ((c.tc : Thread Cert.Att4RefIdeal.nD Cert.Att4RefIdeal.τ).loc Cert.Att4RefIdeal.main_arg0) = m ((c.tc : Thread Cert.Att4Ideal.nD Cert.Att4Ideal.τ).loc Cert.Att4Ideal.main_arg0)
      ∧ m' ((c.tc : Thread Cert.Att4RefIdeal.nD Cert.Att4RefIdeal.τ).loc Cert.Att4RefIdeal.main_arg1) = m ((c.tc : Thread Cert.Att4Ideal.nD Cert.Att4Ideal.τ).loc Cert.Att4Ideal.main_arg1)
      ∧ m' ((c.tc : Thread Cert.Att4RefIdeal.nD Cert.Att4RefIdeal.τ).loc Cert.Att4RefIdeal.main_arg2) = m ((c.tc : Thread Cert.Att4Ideal.nD Cert.Att4Ideal.τ).loc Cert.Att4Ideal.main_arg2)
      ∧ m' ((c.tc : Thread Cert.Att4RefIdeal.nD Cert.Att4RefIdeal.τ).loc Cert.Att4RefIdeal.main_arg3) = m ((c.tc : Thread Cert.Att4Ideal.nD Cert.Att4Ideal.τ).loc Cert.Att4Ideal.main_arg3)) →
    ∃ (v0 : (c : Dev Cert.Att4Ideal.nD) → Buf (Elt Ideal) ((c.tc : Thread Cert.Att4Ideal.nD Cert.Att4Ideal.τ).loc Cert.Att4Ideal.main_v3_0)) (v1 : (c : Dev Cert.Att4Ideal.nD) → Buf (Elt Ideal) ((c.tc : Thread Cert.Att4Ideal.nD Cert.Att4Ideal.τ).loc Cert.Att4Ideal.main_v3_1)) (v2 : (c : Dev Cert.Att4Ideal.nD) → Buf (Elt Ideal) ((c.tc : Thread Cert.Att4Ideal.nD Cert.Att4Ideal.τ).loc Cert.Att4Ideal.main_v8_0)) (v3 : (c : Dev Cert.Att4Ideal.nD) → Buf (Elt Ideal) ((c.tc : Thread Cert.Att4Ideal.nD Cert.Att4Ideal.τ).loc Cert.Att4Ideal.main_v8_1)) (v4 : (c : Dev Cert.Att4Ideal.nD) → Buf (Elt Ideal) ((c.tc : Thread Cert.Att4Ideal.nD Cert.Att4Ideal.τ).loc Cert.Att4Ideal.main_v8_2)),
      θ_run (Cert.Att4Ideal.defs (F := Ideal)) (onTc (τ := Cert.Att4Ideal.τ) (Cert.Att4Ideal.main (F := Ideal))) ⟨m, fun _ => 0, g⟩ (fun r => ∀ c : Dev Cert.Att4Ideal.nD,
          r.2.mem ((c.tc : Thread Cert.Att4Ideal.nD Cert.Att4Ideal.τ).loc Cert.Att4Ideal.main_v3_0) = v0 c
          ∧ r.2.mem ((c.tc : Thread Cert.Att4Ideal.nD Cert.Att4Ideal.τ).loc Cert.Att4Ideal.main_v3_1) = v1 c
          ∧ r.2.mem ((c.tc : Thread Cert.Att4Ideal.nD Cert.Att4Ideal.τ).loc Cert.Att4Ideal.main_v8_0) = v2 c
          ∧ r.2.mem ((c.tc : Thread Cert.Att4Ideal.nD Cert.Att4Ideal.τ).loc Cert.Att4Ideal.main_v8_1) = v3 c
          ∧ r.2.mem ((c.tc : Thread Cert.Att4Ideal.nD Cert.Att4Ideal.τ).loc Cert.Att4Ideal.main_v8_2) = v4 c
          ∧ r.2.mem ((c.tc : Thread Cert.Att4Ideal.nD Cert.Att4Ideal.τ).loc Cert.Att4Ideal.main_arg0) = m ((c.tc : Thread Cert.Att4Ideal.nD Cert.Att4Ideal.τ).loc Cert.Att4Ideal.main_arg0)
          ∧ r.2.mem ((c.tc : Thread Cert.Att4Ideal.nD Cert.Att4Ideal.τ).loc Cert.Att4Ideal.main_arg1) = m ((c.tc : Thread Cert.Att4Ideal.nD Cert.Att4Ideal.τ).loc Cert.Att4Ideal.main_arg1)
          ∧ r.2.mem ((c.tc : Thread Cert.Att4Ideal.nD Cert.Att4Ideal.τ).loc Cert.Att4Ideal.main_arg2) = m ((c.tc : Thread Cert.Att4Ideal.nD Cert.Att4Ideal.τ).loc Cert.Att4Ideal.main_arg2)
          ∧ r.2.mem ((c.tc : Thread Cert.Att4Ideal.nD Cert.Att4Ideal.τ).loc Cert.Att4Ideal.main_arg3) = m ((c.tc : Thread Cert.Att4Ideal.nD Cert.Att4Ideal.τ).loc Cert.Att4Ideal.main_arg3))
      ∧ θ_run (Cert.Att4RefIdeal.defs (F := Ideal)) (onTc (τ := Cert.Att4RefIdeal.τ) (Cert.Att4RefIdeal.main (F := Ideal))) ⟨m', fun _ => 0, g'⟩ (fun r => ∀ c : Dev Cert.Att4RefIdeal.nD,
          r.2.mem ((c.tc : Thread Cert.Att4RefIdeal.nD Cert.Att4RefIdeal.τ).loc Cert.Att4RefIdeal.main_v95) = v0 c
          ∧ r.2.mem ((c.tc : Thread Cert.Att4RefIdeal.nD Cert.Att4RefIdeal.τ).loc Cert.Att4RefIdeal.main_v93) = v1 c
          ∧ r.2.mem ((c.tc : Thread Cert.Att4RefIdeal.nD Cert.Att4RefIdeal.τ).loc Cert.Att4RefIdeal.main_v165) = v2 c
          ∧ r.2.mem ((c.tc : Thread Cert.Att4RefIdeal.nD Cert.Att4RefIdeal.τ).loc Cert.Att4RefIdeal.main_v167) = v3 c
          ∧ r.2.mem ((c.tc : Thread Cert.Att4RefIdeal.nD Cert.Att4RefIdeal.τ).loc Cert.Att4RefIdeal.main_v169) = v4 c
          ∧ r.2.mem ((c.tc : Thread Cert.Att4RefIdeal.nD Cert.Att4RefIdeal.τ).loc Cert.Att4RefIdeal.main_arg0) = m' ((c.tc : Thread Cert.Att4RefIdeal.nD Cert.Att4RefIdeal.τ).loc Cert.Att4RefIdeal.main_arg0)
          ∧ r.2.mem ((c.tc : Thread Cert.Att4RefIdeal.nD Cert.Att4RefIdeal.τ).loc Cert.Att4RefIdeal.main_arg1) = m' ((c.tc : Thread Cert.Att4RefIdeal.nD Cert.Att4RefIdeal.τ).loc Cert.Att4RefIdeal.main_arg1)
          ∧ r.2.mem ((c.tc : Thread Cert.Att4RefIdeal.nD Cert.Att4RefIdeal.τ).loc Cert.Att4RefIdeal.main_arg2) = m' ((c.tc : Thread Cert.Att4RefIdeal.nD Cert.Att4RefIdeal.τ).loc Cert.Att4RefIdeal.main_arg2)
          ∧ r.2.mem ((c.tc : Thread Cert.Att4RefIdeal.nD Cert.Att4RefIdeal.τ).loc Cert.Att4RefIdeal.main_arg3) = m' ((c.tc : Thread Cert.Att4RefIdeal.nD Cert.Att4RefIdeal.τ).loc Cert.Att4RefIdeal.main_arg3))

def preserves_Att16_Att16Ideal : Prop :=
  IdealRules.named_const.Statement Cert.Att16Ideal.κ "mask" .f32 0xF149F2CA#32 ⊥

def algebraic_Att16Ideal_Att16RefIdeal_pre_att_pre [hAtt16Ideal : Cert.Att16Ideal.Facts] [hAtt16RefIdeal : Cert.Att16RefIdeal.Facts] [hPre_att_pre : Cert.Pre_att_pre.Facts] : Prop :=
  ∀ (m : (ℓ : Loc Cert.Att16Ideal.nD Cert.Att16Ideal.τ Cert.Att16Ideal.sig) → Buf (Elt Ideal) ℓ) (g : Dev Cert.Att16Ideal.nD → PrngReg)
    (m' : (ℓ : Loc Cert.Att16RefIdeal.nD Cert.Att16RefIdeal.τ Cert.Att16RefIdeal.sig) → Buf (Elt Ideal) ℓ) (g' : Dev Cert.Att16RefIdeal.nD → PrngReg), Pre_Att16Ideal_att_pre m →
    (∀ c : Dev Cert.Att16Ideal.nD,
      m' ((c.tc : Thread Cert.Att16RefIdeal.nD Cert.Att16RefIdeal.τ).loc Cert.Att16RefIdeal.main_arg0) = m ((c.tc : Thread Cert.Att16Ideal.nD Cert.Att16Ideal.τ).loc Cert.Att16Ideal.main_arg0)
      ∧ m' ((c.tc : Thread Cert.Att16RefIdeal.nD Cert.Att16RefIdeal.τ).loc Cert.Att16RefIdeal.main_arg1) = m ((c.tc : Thread Cert.Att16Ideal.nD Cert.Att16Ideal.τ).loc Cert.Att16Ideal.main_arg1)
      ∧ m' ((c.tc : Thread Cert.Att16RefIdeal.nD Cert.Att16RefIdeal.τ).loc Cert.Att16RefIdeal.main_arg2) = m ((c.tc : Thread Cert.Att16Ideal.nD Cert.Att16Ideal.τ).loc Cert.Att16Ideal.main_arg2)
      ∧ m' ((c.tc : Thread Cert.Att16RefIdeal.nD Cert.Att16RefIdeal.τ).loc Cert.Att16RefIdeal.main_arg3) = m ((c.tc : Thread Cert.Att16Ideal.nD Cert.Att16Ideal.τ).loc Cert.Att16Ideal.main_arg3)) →
    ∃ (v0 : (c : Dev Cert.Att16Ideal.nD) → Buf (Elt Ideal) ((c.tc : Thread Cert.Att16Ideal.nD Cert.Att16Ideal.τ).loc Cert.Att16Ideal.main_v3_0)) (v1 : (c : Dev Cert.Att16Ideal.nD) → Buf (Elt Ideal) ((c.tc : Thread Cert.Att16Ideal.nD Cert.Att16Ideal.τ).loc Cert.Att16Ideal.main_v3_1)) (v2 : (c : Dev Cert.Att16Ideal.nD) → Buf (Elt Ideal) ((c.tc : Thread Cert.Att16Ideal.nD Cert.Att16Ideal.τ).loc Cert.Att16Ideal.main_v8_0)) (v3 : (c : Dev Cert.Att16Ideal.nD) → Buf (Elt Ideal) ((c.tc : Thread Cert.Att16Ideal.nD Cert.Att16Ideal.τ).loc Cert.Att16Ideal.main_v8_1)) (v4 : (c : Dev Cert.Att16Ideal.nD) → Buf (Elt Ideal) ((c.tc : Thread Cert.Att16Ideal.nD Cert.Att16Ideal.τ).loc Cert.Att16Ideal.main_v8_2)),
      θ_run (Cert.Att16Ideal.defs (F := Ideal)) (onTc (τ := Cert.Att16Ideal.τ) (Cert.Att16Ideal.main (F := Ideal))) ⟨m, fun _ => 0, g⟩ (fun r => ∀ c : Dev Cert.Att16Ideal.nD,
          r.2.mem ((c.tc : Thread Cert.Att16Ideal.nD Cert.Att16Ideal.τ).loc Cert.Att16Ideal.main_v3_0) = v0 c
          ∧ r.2.mem ((c.tc : Thread Cert.Att16Ideal.nD Cert.Att16Ideal.τ).loc Cert.Att16Ideal.main_v3_1) = v1 c
          ∧ r.2.mem ((c.tc : Thread Cert.Att16Ideal.nD Cert.Att16Ideal.τ).loc Cert.Att16Ideal.main_v8_0) = v2 c
          ∧ r.2.mem ((c.tc : Thread Cert.Att16Ideal.nD Cert.Att16Ideal.τ).loc Cert.Att16Ideal.main_v8_1) = v3 c
          ∧ r.2.mem ((c.tc : Thread Cert.Att16Ideal.nD Cert.Att16Ideal.τ).loc Cert.Att16Ideal.main_v8_2) = v4 c
          ∧ r.2.mem ((c.tc : Thread Cert.Att16Ideal.nD Cert.Att16Ideal.τ).loc Cert.Att16Ideal.main_arg0) = m ((c.tc : Thread Cert.Att16Ideal.nD Cert.Att16Ideal.τ).loc Cert.Att16Ideal.main_arg0)
          ∧ r.2.mem ((c.tc : Thread Cert.Att16Ideal.nD Cert.Att16Ideal.τ).loc Cert.Att16Ideal.main_arg1) = m ((c.tc : Thread Cert.Att16Ideal.nD Cert.Att16Ideal.τ).loc Cert.Att16Ideal.main_arg1)
          ∧ r.2.mem ((c.tc : Thread Cert.Att16Ideal.nD Cert.Att16Ideal.τ).loc Cert.Att16Ideal.main_arg2) = m ((c.tc : Thread Cert.Att16Ideal.nD Cert.Att16Ideal.τ).loc Cert.Att16Ideal.main_arg2)
          ∧ r.2.mem ((c.tc : Thread Cert.Att16Ideal.nD Cert.Att16Ideal.τ).loc Cert.Att16Ideal.main_arg3) = m ((c.tc : Thread Cert.Att16Ideal.nD Cert.Att16Ideal.τ).loc Cert.Att16Ideal.main_arg3))
      ∧ θ_run (Cert.Att16RefIdeal.defs (F := Ideal)) (onTc (τ := Cert.Att16RefIdeal.τ) (Cert.Att16RefIdeal.main (F := Ideal))) ⟨m', fun _ => 0, g'⟩ (fun r => ∀ c : Dev Cert.Att16RefIdeal.nD,
          r.2.mem ((c.tc : Thread Cert.Att16RefIdeal.nD Cert.Att16RefIdeal.τ).loc Cert.Att16RefIdeal.main_v95) = v0 c
          ∧ r.2.mem ((c.tc : Thread Cert.Att16RefIdeal.nD Cert.Att16RefIdeal.τ).loc Cert.Att16RefIdeal.main_v93) = v1 c
          ∧ r.2.mem ((c.tc : Thread Cert.Att16RefIdeal.nD Cert.Att16RefIdeal.τ).loc Cert.Att16RefIdeal.main_v165) = v2 c
          ∧ r.2.mem ((c.tc : Thread Cert.Att16RefIdeal.nD Cert.Att16RefIdeal.τ).loc Cert.Att16RefIdeal.main_v167) = v3 c
          ∧ r.2.mem ((c.tc : Thread Cert.Att16RefIdeal.nD Cert.Att16RefIdeal.τ).loc Cert.Att16RefIdeal.main_v169) = v4 c
          ∧ r.2.mem ((c.tc : Thread Cert.Att16RefIdeal.nD Cert.Att16RefIdeal.τ).loc Cert.Att16RefIdeal.main_arg0) = m' ((c.tc : Thread Cert.Att16RefIdeal.nD Cert.Att16RefIdeal.τ).loc Cert.Att16RefIdeal.main_arg0)
          ∧ r.2.mem ((c.tc : Thread Cert.Att16RefIdeal.nD Cert.Att16RefIdeal.τ).loc Cert.Att16RefIdeal.main_arg1) = m' ((c.tc : Thread Cert.Att16RefIdeal.nD Cert.Att16RefIdeal.τ).loc Cert.Att16RefIdeal.main_arg1)
          ∧ r.2.mem ((c.tc : Thread Cert.Att16RefIdeal.nD Cert.Att16RefIdeal.τ).loc Cert.Att16RefIdeal.main_arg2) = m' ((c.tc : Thread Cert.Att16RefIdeal.nD Cert.Att16RefIdeal.τ).loc Cert.Att16RefIdeal.main_arg2)
          ∧ r.2.mem ((c.tc : Thread Cert.Att16RefIdeal.nD Cert.Att16RefIdeal.τ).loc Cert.Att16RefIdeal.main_arg3) = m' ((c.tc : Thread Cert.Att16RefIdeal.nD Cert.Att16RefIdeal.τ).loc Cert.Att16RefIdeal.main_arg3))

def preserves_Prj_PrjIdeal : Prop :=
  True

def algebraic_PrjIdeal_PrjRefIdeal [hPrjIdeal : Cert.PrjIdeal.Facts] [hPrjRefIdeal : Cert.PrjRefIdeal.Facts] : Prop :=
  ∀ (m : (ℓ : Loc Cert.PrjIdeal.nD Cert.PrjIdeal.τ Cert.PrjIdeal.sig) → Buf (Elt Ideal) ℓ) (g : Dev Cert.PrjIdeal.nD → PrngReg)
    (m' : (ℓ : Loc Cert.PrjRefIdeal.nD Cert.PrjRefIdeal.τ Cert.PrjRefIdeal.sig) → Buf (Elt Ideal) ℓ) (g' : Dev Cert.PrjRefIdeal.nD → PrngReg), Pre_PrjIdeal m →
    (∀ c : Dev Cert.PrjIdeal.nD,
      m' ((c.tc : Thread Cert.PrjRefIdeal.nD Cert.PrjRefIdeal.τ).loc Cert.PrjRefIdeal.main_arg0) = m ((c.tc : Thread Cert.PrjIdeal.nD Cert.PrjIdeal.τ).loc Cert.PrjIdeal.main_arg0)
      ∧ m' ((c.tc : Thread Cert.PrjRefIdeal.nD Cert.PrjRefIdeal.τ).loc Cert.PrjRefIdeal.main_arg1) = m ((c.tc : Thread Cert.PrjIdeal.nD Cert.PrjIdeal.τ).loc Cert.PrjIdeal.main_arg1)) →
    ∃ (v0 : (c : Dev Cert.PrjIdeal.nD) → Buf (Elt Ideal) ((c.tc : Thread Cert.PrjIdeal.nD Cert.PrjIdeal.τ).loc Cert.PrjIdeal.main_v3)),
      θ_run (Cert.PrjIdeal.defs (F := Ideal)) (onTc (τ := Cert.PrjIdeal.τ) (Cert.PrjIdeal.main (F := Ideal))) ⟨m, fun _ => 0, g⟩ (fun r => ∀ c : Dev Cert.PrjIdeal.nD,
          r.2.mem ((c.tc : Thread Cert.PrjIdeal.nD Cert.PrjIdeal.τ).loc Cert.PrjIdeal.main_v3) = v0 c
          ∧ r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
          ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1))
      ∧ θ_run (Cert.PrjRefIdeal.defs (F := Ideal)) (onTc (τ := Cert.PrjRefIdeal.τ) (Cert.PrjRefIdeal.main (F := Ideal))) ⟨m', fun _ => 0, g'⟩ (fun r => ∀ c : Dev Cert.PrjRefIdeal.nD,
          r.2.mem ((c.tc : Thread Cert.PrjRefIdeal.nD Cert.PrjRefIdeal.τ).loc Cert.PrjRefIdeal.main_v2) = v0 c
          ∧ r.2.mem ((c.tc : Thread Cert.PrjRefIdeal.nD Cert.PrjRefIdeal.τ).loc Cert.PrjRefIdeal.main_arg0) = m' ((c.tc : Thread Cert.PrjRefIdeal.nD Cert.PrjRefIdeal.τ).loc Cert.PrjRefIdeal.main_arg0)
          ∧ r.2.mem ((c.tc : Thread Cert.PrjRefIdeal.nD Cert.PrjRefIdeal.τ).loc Cert.PrjRefIdeal.main_arg1) = m' ((c.tc : Thread Cert.PrjRefIdeal.nD Cert.PrjRefIdeal.τ).loc Cert.PrjRefIdeal.main_arg1))

def preserves_Plp_PlpIdeal : Prop :=
  True

def algebraic_PlpIdeal_PlpRefIdeal [hPlpIdeal : Cert.PlpIdeal.Facts] [hPlpRefIdeal : Cert.PlpRefIdeal.Facts] : Prop :=
  ∀ (m : (ℓ : Loc Cert.PlpIdeal.nD Cert.PlpIdeal.τ Cert.PlpIdeal.sig) → Buf (Elt Ideal) ℓ) (g : Dev Cert.PlpIdeal.nD → PrngReg)
    (m' : (ℓ : Loc Cert.PlpRefIdeal.nD Cert.PlpRefIdeal.τ Cert.PlpRefIdeal.sig) → Buf (Elt Ideal) ℓ) (g' : Dev Cert.PlpRefIdeal.nD → PrngReg), Pre_PlpIdeal m →
    (∀ c : Dev Cert.PlpIdeal.nD,
      m' ((c.tc : Thread Cert.PlpRefIdeal.nD Cert.PlpRefIdeal.τ).loc Cert.PlpRefIdeal.main_arg0) = m ((c.tc : Thread Cert.PlpIdeal.nD Cert.PlpIdeal.τ).loc Cert.PlpIdeal.main_arg0)
      ∧ m' ((c.tc : Thread Cert.PlpRefIdeal.nD Cert.PlpRefIdeal.τ).loc Cert.PlpRefIdeal.main_arg1) = m ((c.tc : Thread Cert.PlpIdeal.nD Cert.PlpIdeal.τ).loc Cert.PlpIdeal.main_arg1)) →
    ∃ (v0 : (c : Dev Cert.PlpIdeal.nD) → Buf (Elt Ideal) ((c.tc : Thread Cert.PlpIdeal.nD Cert.PlpIdeal.τ).loc Cert.PlpIdeal.main_v3)),
      θ_run (Cert.PlpIdeal.defs (F := Ideal)) (onTc (τ := Cert.PlpIdeal.τ) (Cert.PlpIdeal.main (F := Ideal))) ⟨m, fun _ => 0, g⟩ (fun r => ∀ c : Dev Cert.PlpIdeal.nD,
          r.2.mem ((c.tc : Thread Cert.PlpIdeal.nD Cert.PlpIdeal.τ).loc Cert.PlpIdeal.main_v3) = v0 c
          ∧ r.2.mem ((c.tc : Thread Cert.PlpIdeal.nD Cert.PlpIdeal.τ).loc Cert.PlpIdeal.main_arg0) = m ((c.tc : Thread Cert.PlpIdeal.nD Cert.PlpIdeal.τ).loc Cert.PlpIdeal.main_arg0)
          ∧ r.2.mem ((c.tc : Thread Cert.PlpIdeal.nD Cert.PlpIdeal.τ).loc Cert.PlpIdeal.main_arg1) = m ((c.tc : Thread Cert.PlpIdeal.nD Cert.PlpIdeal.τ).loc Cert.PlpIdeal.main_arg1))
      ∧ θ_run (Cert.PlpRefIdeal.defs (F := Ideal)) (onTc (τ := Cert.PlpRefIdeal.τ) (Cert.PlpRefIdeal.main (F := Ideal))) ⟨m', fun _ => 0, g'⟩ (fun r => ∀ c : Dev Cert.PlpRefIdeal.nD,
          r.2.mem ((c.tc : Thread Cert.PlpRefIdeal.nD Cert.PlpRefIdeal.τ).loc Cert.PlpRefIdeal.main_v1) = v0 c
          ∧ r.2.mem ((c.tc : Thread Cert.PlpRefIdeal.nD Cert.PlpRefIdeal.τ).loc Cert.PlpRefIdeal.main_arg0) = m' ((c.tc : Thread Cert.PlpRefIdeal.nD Cert.PlpRefIdeal.τ).loc Cert.PlpRefIdeal.main_arg0)
          ∧ r.2.mem ((c.tc : Thread Cert.PlpRefIdeal.nD Cert.PlpRefIdeal.τ).loc Cert.PlpRefIdeal.main_arg1) = m' ((c.tc : Thread Cert.PlpRefIdeal.nD Cert.PlpRefIdeal.τ).loc Cert.PlpRefIdeal.main_arg1))

def preserves_Ssp_SspIdeal : Prop :=
  True

def algebraic_SspIdeal_SspRefIdeal [hSspIdeal : Cert.SspIdeal.Facts] [hSspRefIdeal : Cert.SspRefIdeal.Facts] : Prop :=
  ∀ (m : (ℓ : Loc Cert.SspIdeal.nD Cert.SspIdeal.τ Cert.SspIdeal.sig) → Buf (Elt Ideal) ℓ) (g : Dev Cert.SspIdeal.nD → PrngReg)
    (m' : (ℓ : Loc Cert.SspRefIdeal.nD Cert.SspRefIdeal.τ Cert.SspRefIdeal.sig) → Buf (Elt Ideal) ℓ) (g' : Dev Cert.SspRefIdeal.nD → PrngReg), Pre_SspIdeal m →
    (∀ c : Dev Cert.SspIdeal.nD,
      m' ((c.tc : Thread Cert.SspRefIdeal.nD Cert.SspRefIdeal.τ).loc Cert.SspRefIdeal.main_arg0) = m ((c.tc : Thread Cert.SspIdeal.nD Cert.SspIdeal.τ).loc Cert.SspIdeal.main_arg0)
      ∧ m' ((c.tc : Thread Cert.SspRefIdeal.nD Cert.SspRefIdeal.τ).loc Cert.SspRefIdeal.main_arg1) = m ((c.tc : Thread Cert.SspIdeal.nD Cert.SspIdeal.τ).loc Cert.SspIdeal.main_arg1)
      ∧ m' ((c.tc : Thread Cert.SspRefIdeal.nD Cert.SspRefIdeal.τ).loc Cert.SspRefIdeal.main_arg2) = m ((c.tc : Thread Cert.SspIdeal.nD Cert.SspIdeal.τ).loc Cert.SspIdeal.main_arg2)
      ∧ m' ((c.tc : Thread Cert.SspRefIdeal.nD Cert.SspRefIdeal.τ).loc Cert.SspRefIdeal.main_arg3) = m ((c.tc : Thread Cert.SspIdeal.nD Cert.SspIdeal.τ).loc Cert.SspIdeal.main_arg3)
      ∧ m' ((c.tc : Thread Cert.SspRefIdeal.nD Cert.SspRefIdeal.τ).loc Cert.SspRefIdeal.main_arg4) = m ((c.tc : Thread Cert.SspIdeal.nD Cert.SspIdeal.τ).loc Cert.SspIdeal.main_arg4)) →
    ∃ (v0 : (c : Dev Cert.SspIdeal.nD) → Buf (Elt Ideal) ((c.tc : Thread Cert.SspIdeal.nD Cert.SspIdeal.τ).loc Cert.SspIdeal.main_v3_0)) (v1 : (c : Dev Cert.SspIdeal.nD) → Buf (Elt Ideal) ((c.tc : Thread Cert.SspIdeal.nD Cert.SspIdeal.τ).loc Cert.SspIdeal.main_v3_1)) (v2 : (c : Dev Cert.SspIdeal.nD) → Buf (Elt Ideal) ((c.tc : Thread Cert.SspIdeal.nD Cert.SspIdeal.τ).loc Cert.SspIdeal.main_v3_2)) (v3 : (c : Dev Cert.SspIdeal.nD) → Buf (Elt Ideal) ((c.tc : Thread Cert.SspIdeal.nD Cert.SspIdeal.τ).loc Cert.SspIdeal.main_v3_3)),
      θ_run (Cert.SspIdeal.defs (F := Ideal)) (onTc (τ := Cert.SspIdeal.τ) (Cert.SspIdeal.main (F := Ideal))) ⟨m, fun _ => 0, g⟩ (fun r => ∀ c : Dev Cert.SspIdeal.nD,
          r.2.mem ((c.tc : Thread Cert.SspIdeal.nD Cert.SspIdeal.τ).loc Cert.SspIdeal.main_v3_0) = v0 c
          ∧ r.2.mem ((c.tc : Thread Cert.SspIdeal.nD Cert.SspIdeal.τ).loc Cert.SspIdeal.main_v3_1) = v1 c
          ∧ r.2.mem ((c.tc : Thread Cert.SspIdeal.nD Cert.SspIdeal.τ).loc Cert.SspIdeal.main_v3_2) = v2 c
          ∧ r.2.mem ((c.tc : Thread Cert.SspIdeal.nD Cert.SspIdeal.τ).loc Cert.SspIdeal.main_v3_3) = v3 c
          ∧ r.2.mem ((c.tc : Thread Cert.SspIdeal.nD Cert.SspIdeal.τ).loc Cert.SspIdeal.main_arg0) = m ((c.tc : Thread Cert.SspIdeal.nD Cert.SspIdeal.τ).loc Cert.SspIdeal.main_arg0)
          ∧ r.2.mem ((c.tc : Thread Cert.SspIdeal.nD Cert.SspIdeal.τ).loc Cert.SspIdeal.main_arg1) = m ((c.tc : Thread Cert.SspIdeal.nD Cert.SspIdeal.τ).loc Cert.SspIdeal.main_arg1)
          ∧ r.2.mem ((c.tc : Thread Cert.SspIdeal.nD Cert.SspIdeal.τ).loc Cert.SspIdeal.main_arg2) = m ((c.tc : Thread Cert.SspIdeal.nD Cert.SspIdeal.τ).loc Cert.SspIdeal.main_arg2)
          ∧ r.2.mem ((c.tc : Thread Cert.SspIdeal.nD Cert.SspIdeal.τ).loc Cert.SspIdeal.main_arg3) = m ((c.tc : Thread Cert.SspIdeal.nD Cert.SspIdeal.τ).loc Cert.SspIdeal.main_arg3)
          ∧ r.2.mem ((c.tc : Thread Cert.SspIdeal.nD Cert.SspIdeal.τ).loc Cert.SspIdeal.main_arg4) = m ((c.tc : Thread Cert.SspIdeal.nD Cert.SspIdeal.τ).loc Cert.SspIdeal.main_arg4))
      ∧ θ_run (Cert.SspRefIdeal.defs (F := Ideal)) (onTc (τ := Cert.SspRefIdeal.τ) (Cert.SspRefIdeal.main (F := Ideal))) ⟨m', fun _ => 0, g'⟩ (fun r => ∀ c : Dev Cert.SspRefIdeal.nD,
          r.2.mem ((c.tc : Thread Cert.SspRefIdeal.nD Cert.SspRefIdeal.τ).loc Cert.SspRefIdeal.main_v8) = v0 c
          ∧ r.2.mem ((c.tc : Thread Cert.SspRefIdeal.nD Cert.SspRefIdeal.τ).loc Cert.SspRefIdeal.main_v12) = v1 c
          ∧ r.2.mem ((c.tc : Thread Cert.SspRefIdeal.nD Cert.SspRefIdeal.τ).loc Cert.SspRefIdeal.main_v40) = v2 c
          ∧ r.2.mem ((c.tc : Thread Cert.SspRefIdeal.nD Cert.SspRefIdeal.τ).loc Cert.SspRefIdeal.main_v41) = v3 c
          ∧ r.2.mem ((c.tc : Thread Cert.SspRefIdeal.nD Cert.SspRefIdeal.τ).loc Cert.SspRefIdeal.main_arg0) = m' ((c.tc : Thread Cert.SspRefIdeal.nD Cert.SspRefIdeal.τ).loc Cert.SspRefIdeal.main_arg0)
          ∧ r.2.mem ((c.tc : Thread Cert.SspRefIdeal.nD Cert.SspRefIdeal.τ).loc Cert.SspRefIdeal.main_arg1) = m' ((c.tc : Thread Cert.SspRefIdeal.nD Cert.SspRefIdeal.τ).loc Cert.SspRefIdeal.main_arg1)
          ∧ r.2.mem ((c.tc : Thread Cert.SspRefIdeal.nD Cert.SspRefIdeal.τ).loc Cert.SspRefIdeal.main_arg2) = m' ((c.tc : Thread Cert.SspRefIdeal.nD Cert.SspRefIdeal.τ).loc Cert.SspRefIdeal.main_arg2)
          ∧ r.2.mem ((c.tc : Thread Cert.SspRefIdeal.nD Cert.SspRefIdeal.τ).loc Cert.SspRefIdeal.main_arg3) = m' ((c.tc : Thread Cert.SspRefIdeal.nD Cert.SspRefIdeal.τ).loc Cert.SspRefIdeal.main_arg3)
          ∧ r.2.mem ((c.tc : Thread Cert.SspRefIdeal.nD Cert.SspRefIdeal.τ).loc Cert.SspRefIdeal.main_arg4) = m' ((c.tc : Thread Cert.SspRefIdeal.nD Cert.SspRefIdeal.τ).loc Cert.SspRefIdeal.main_arg4))

def preserves_Ofw_OfwIdeal : Prop :=
  True

def algebraic_OfwIdeal_OfwRefIdeal [hOfwIdeal : Cert.OfwIdeal.Facts] [hOfwRefIdeal : Cert.OfwRefIdeal.Facts] : Prop :=
  ∀ (m : (ℓ : Loc Cert.OfwIdeal.nD Cert.OfwIdeal.τ Cert.OfwIdeal.sig) → Buf (Elt Ideal) ℓ) (g : Dev Cert.OfwIdeal.nD → PrngReg)
    (m' : (ℓ : Loc Cert.OfwRefIdeal.nD Cert.OfwRefIdeal.τ Cert.OfwRefIdeal.sig) → Buf (Elt Ideal) ℓ) (g' : Dev Cert.OfwRefIdeal.nD → PrngReg), Pre_OfwIdeal m →
    (∀ c : Dev Cert.OfwIdeal.nD,
      m' ((c.tc : Thread Cert.OfwRefIdeal.nD Cert.OfwRefIdeal.τ).loc Cert.OfwRefIdeal.main_arg0) = m ((c.tc : Thread Cert.OfwIdeal.nD Cert.OfwIdeal.τ).loc Cert.OfwIdeal.main_arg0)
      ∧ m' ((c.tc : Thread Cert.OfwRefIdeal.nD Cert.OfwRefIdeal.τ).loc Cert.OfwRefIdeal.main_arg1) = m ((c.tc : Thread Cert.OfwIdeal.nD Cert.OfwIdeal.τ).loc Cert.OfwIdeal.main_arg1)
      ∧ m' ((c.tc : Thread Cert.OfwRefIdeal.nD Cert.OfwRefIdeal.τ).loc Cert.OfwRefIdeal.main_arg2) = m ((c.tc : Thread Cert.OfwIdeal.nD Cert.OfwIdeal.τ).loc Cert.OfwIdeal.main_arg2)
      ∧ m' ((c.tc : Thread Cert.OfwRefIdeal.nD Cert.OfwRefIdeal.τ).loc Cert.OfwRefIdeal.main_arg3) = m ((c.tc : Thread Cert.OfwIdeal.nD Cert.OfwIdeal.τ).loc Cert.OfwIdeal.main_arg3)
      ∧ m' ((c.tc : Thread Cert.OfwRefIdeal.nD Cert.OfwRefIdeal.τ).loc Cert.OfwRefIdeal.main_arg4) = m ((c.tc : Thread Cert.OfwIdeal.nD Cert.OfwIdeal.τ).loc Cert.OfwIdeal.main_arg4)
      ∧ m' ((c.tc : Thread Cert.OfwRefIdeal.nD Cert.OfwRefIdeal.τ).loc Cert.OfwRefIdeal.main_arg5) = m ((c.tc : Thread Cert.OfwIdeal.nD Cert.OfwIdeal.τ).loc Cert.OfwIdeal.main_arg5)
      ∧ m' ((c.tc : Thread Cert.OfwRefIdeal.nD Cert.OfwRefIdeal.τ).loc Cert.OfwRefIdeal.main_arg6) = m ((c.tc : Thread Cert.OfwIdeal.nD Cert.OfwIdeal.τ).loc Cert.OfwIdeal.main_arg6)) →
    ∃ (v0 : (c : Dev Cert.OfwIdeal.nD) → Buf (Elt Ideal) ((c.tc : Thread Cert.OfwIdeal.nD Cert.OfwIdeal.τ).loc Cert.OfwIdeal.main_v2_0)) (v1 : (c : Dev Cert.OfwIdeal.nD) → Buf (Elt Ideal) ((c.tc : Thread Cert.OfwIdeal.nD Cert.OfwIdeal.τ).loc Cert.OfwIdeal.main_v2_1)) (v2 : (c : Dev Cert.OfwIdeal.nD) → Buf (Elt Ideal) ((c.tc : Thread Cert.OfwIdeal.nD Cert.OfwIdeal.τ).loc Cert.OfwIdeal.main_v2_2)),
      θ_run (Cert.OfwIdeal.defs (F := Ideal)) (onTc (τ := Cert.OfwIdeal.τ) (Cert.OfwIdeal.main (F := Ideal))) ⟨m, fun _ => 0, g⟩ (fun r => ∀ c : Dev Cert.OfwIdeal.nD,
          r.2.mem ((c.tc : Thread Cert.OfwIdeal.nD Cert.OfwIdeal.τ).loc Cert.OfwIdeal.main_v2_0) = v0 c
          ∧ r.2.mem ((c.tc : Thread Cert.OfwIdeal.nD Cert.OfwIdeal.τ).loc Cert.OfwIdeal.main_v2_1) = v1 c
          ∧ r.2.mem ((c.tc : Thread Cert.OfwIdeal.nD Cert.OfwIdeal.τ).loc Cert.OfwIdeal.main_v2_2) = v2 c
          ∧ r.2.mem ((c.tc : Thread Cert.OfwIdeal.nD Cert.OfwIdeal.τ).loc Cert.OfwIdeal.main_arg0) = m ((c.tc : Thread Cert.OfwIdeal.nD Cert.OfwIdeal.τ).loc Cert.OfwIdeal.main_arg0)
          ∧ r.2.mem ((c.tc : Thread Cert.OfwIdeal.nD Cert.OfwIdeal.τ).loc Cert.OfwIdeal.main_arg1) = m ((c.tc : Thread Cert.OfwIdeal.nD Cert.OfwIdeal.τ).loc Cert.OfwIdeal.main_arg1)
          ∧ r.2.mem ((c.tc : Thread Cert.OfwIdeal.nD Cert.OfwIdeal.τ).loc Cert.OfwIdeal.main_arg2) = m ((c.tc : Thread Cert.OfwIdeal.nD Cert.OfwIdeal.τ).loc Cert.OfwIdeal.main_arg2)
          ∧ r.2.mem ((c.tc : Thread Cert.OfwIdeal.nD Cert.OfwIdeal.τ).loc Cert.OfwIdeal.main_arg3) = m ((c.tc : Thread Cert.OfwIdeal.nD Cert.OfwIdeal.τ).loc Cert.OfwIdeal.main_arg3)
          ∧ r.2.mem ((c.tc : Thread Cert.OfwIdeal.nD Cert.OfwIdeal.τ).loc Cert.OfwIdeal.main_arg4) = m ((c.tc : Thread Cert.OfwIdeal.nD Cert.OfwIdeal.τ).loc Cert.OfwIdeal.main_arg4)
          ∧ r.2.mem ((c.tc : Thread Cert.OfwIdeal.nD Cert.OfwIdeal.τ).loc Cert.OfwIdeal.main_arg5) = m ((c.tc : Thread Cert.OfwIdeal.nD Cert.OfwIdeal.τ).loc Cert.OfwIdeal.main_arg5)
          ∧ r.2.mem ((c.tc : Thread Cert.OfwIdeal.nD Cert.OfwIdeal.τ).loc Cert.OfwIdeal.main_arg6) = m ((c.tc : Thread Cert.OfwIdeal.nD Cert.OfwIdeal.τ).loc Cert.OfwIdeal.main_arg6))
      ∧ θ_run (Cert.OfwRefIdeal.defs (F := Ideal)) (onTc (τ := Cert.OfwRefIdeal.τ) (Cert.OfwRefIdeal.main (F := Ideal))) ⟨m', fun _ => 0, g'⟩ (fun r => ∀ c : Dev Cert.OfwRefIdeal.nD,
          r.2.mem ((c.tc : Thread Cert.OfwRefIdeal.nD Cert.OfwRefIdeal.τ).loc Cert.OfwRefIdeal.main_v29) = v0 c
          ∧ r.2.mem ((c.tc : Thread Cert.OfwRefIdeal.nD Cert.OfwRefIdeal.τ).loc Cert.OfwRefIdeal.main_v43) = v1 c
          ∧ r.2.mem ((c.tc : Thread Cert.OfwRefIdeal.nD Cert.OfwRefIdeal.τ).loc Cert.OfwRefIdeal.main_v44) = v2 c
          ∧ r.2.mem ((c.tc : Thread Cert.OfwRefIdeal.nD Cert.OfwRefIdeal.τ).loc Cert.OfwRefIdeal.main_arg0) = m' ((c.tc : Thread Cert.OfwRefIdeal.nD Cert.OfwRefIdeal.τ).loc Cert.OfwRefIdeal.main_arg0)
          ∧ r.2.mem ((c.tc : Thread Cert.OfwRefIdeal.nD Cert.OfwRefIdeal.τ).loc Cert.OfwRefIdeal.main_arg1) = m' ((c.tc : Thread Cert.OfwRefIdeal.nD Cert.OfwRefIdeal.τ).loc Cert.OfwRefIdeal.main_arg1)
          ∧ r.2.mem ((c.tc : Thread Cert.OfwRefIdeal.nD Cert.OfwRefIdeal.τ).loc Cert.OfwRefIdeal.main_arg2) = m' ((c.tc : Thread Cert.OfwRefIdeal.nD Cert.OfwRefIdeal.τ).loc Cert.OfwRefIdeal.main_arg2)
          ∧ r.2.mem ((c.tc : Thread Cert.OfwRefIdeal.nD Cert.OfwRefIdeal.τ).loc Cert.OfwRefIdeal.main_arg3) = m' ((c.tc : Thread Cert.OfwRefIdeal.nD Cert.OfwRefIdeal.τ).loc Cert.OfwRefIdeal.main_arg3)
          ∧ r.2.mem ((c.tc : Thread Cert.OfwRefIdeal.nD Cert.OfwRefIdeal.τ).loc Cert.OfwRefIdeal.main_arg4) = m' ((c.tc : Thread Cert.OfwRefIdeal.nD Cert.OfwRefIdeal.τ).loc Cert.OfwRefIdeal.main_arg4)
          ∧ r.2.mem ((c.tc : Thread Cert.OfwRefIdeal.nD Cert.OfwRefIdeal.τ).loc Cert.OfwRefIdeal.main_arg5) = m' ((c.tc : Thread Cert.OfwRefIdeal.nD Cert.OfwRefIdeal.τ).loc Cert.OfwRefIdeal.main_arg5)
          ∧ r.2.mem ((c.tc : Thread Cert.OfwRefIdeal.nD Cert.OfwRefIdeal.τ).loc Cert.OfwRefIdeal.main_arg6) = m' ((c.tc : Thread Cert.OfwRefIdeal.nD Cert.OfwRefIdeal.τ).loc Cert.OfwRefIdeal.main_arg6))

def preserves_Fgu_FguIdeal : Prop :=
  True

def algebraic_FguIdeal_FguRefIdeal [hFguIdeal : Cert.FguIdeal.Facts] [hFguRefIdeal : Cert.FguRefIdeal.Facts] : Prop :=
  ∀ (m : (ℓ : Loc Cert.FguIdeal.nD Cert.FguIdeal.τ Cert.FguIdeal.sig) → Buf (Elt Ideal) ℓ) (g : Dev Cert.FguIdeal.nD → PrngReg)
    (m' : (ℓ : Loc Cert.FguRefIdeal.nD Cert.FguRefIdeal.τ Cert.FguRefIdeal.sig) → Buf (Elt Ideal) ℓ) (g' : Dev Cert.FguRefIdeal.nD → PrngReg), Pre_FguIdeal m →
    (∀ c : Dev Cert.FguIdeal.nD,
      m' ((c.tc : Thread Cert.FguRefIdeal.nD Cert.FguRefIdeal.τ).loc Cert.FguRefIdeal.main_arg0) = m ((c.tc : Thread Cert.FguIdeal.nD Cert.FguIdeal.τ).loc Cert.FguIdeal.main_arg0)
      ∧ m' ((c.tc : Thread Cert.FguRefIdeal.nD Cert.FguRefIdeal.τ).loc Cert.FguRefIdeal.main_arg1) = m ((c.tc : Thread Cert.FguIdeal.nD Cert.FguIdeal.τ).loc Cert.FguIdeal.main_arg1)
      ∧ m' ((c.tc : Thread Cert.FguRefIdeal.nD Cert.FguRefIdeal.τ).loc Cert.FguRefIdeal.main_arg2) = m ((c.tc : Thread Cert.FguIdeal.nD Cert.FguIdeal.τ).loc Cert.FguIdeal.main_arg2)) →
    ∃ (v0 : (c : Dev Cert.FguIdeal.nD) → Buf (Elt Ideal) ((c.tc : Thread Cert.FguIdeal.nD Cert.FguIdeal.τ).loc Cert.FguIdeal.main_v6_0)) (v1 : (c : Dev Cert.FguIdeal.nD) → Buf (Elt Ideal) ((c.tc : Thread Cert.FguIdeal.nD Cert.FguIdeal.τ).loc Cert.FguIdeal.main_v6_1)) (v2 : (c : Dev Cert.FguIdeal.nD) → Buf (Elt Ideal) ((c.tc : Thread Cert.FguIdeal.nD Cert.FguIdeal.τ).loc Cert.FguIdeal.main_v6_2)),
      θ_run (Cert.FguIdeal.defs (F := Ideal)) (onTc (τ := Cert.FguIdeal.τ) (Cert.FguIdeal.main (F := Ideal))) ⟨m, fun _ => 0, g⟩ (fun r => ∀ c : Dev Cert.FguIdeal.nD,
          r.2.mem ((c.tc : Thread Cert.FguIdeal.nD Cert.FguIdeal.τ).loc Cert.FguIdeal.main_v6_0) = v0 c
          ∧ r.2.mem ((c.tc : Thread Cert.FguIdeal.nD Cert.FguIdeal.τ).loc Cert.FguIdeal.main_v6_1) = v1 c
          ∧ r.2.mem ((c.tc : Thread Cert.FguIdeal.nD Cert.FguIdeal.τ).loc Cert.FguIdeal.main_v6_2) = v2 c
          ∧ r.2.mem ((c.tc : Thread Cert.FguIdeal.nD Cert.FguIdeal.τ).loc Cert.FguIdeal.main_arg0) = m ((c.tc : Thread Cert.FguIdeal.nD Cert.FguIdeal.τ).loc Cert.FguIdeal.main_arg0)
          ∧ r.2.mem ((c.tc : Thread Cert.FguIdeal.nD Cert.FguIdeal.τ).loc Cert.FguIdeal.main_arg1) = m ((c.tc : Thread Cert.FguIdeal.nD Cert.FguIdeal.τ).loc Cert.FguIdeal.main_arg1)
          ∧ r.2.mem ((c.tc : Thread Cert.FguIdeal.nD Cert.FguIdeal.τ).loc Cert.FguIdeal.main_arg2) = m ((c.tc : Thread Cert.FguIdeal.nD Cert.FguIdeal.τ).loc Cert.FguIdeal.main_arg2))
      ∧ θ_run (Cert.FguRefIdeal.defs (F := Ideal)) (onTc (τ := Cert.FguRefIdeal.τ) (Cert.FguRefIdeal.main (F := Ideal))) ⟨m', fun _ => 0, g'⟩ (fun r => ∀ c : Dev Cert.FguRefIdeal.nD,
          r.2.mem ((c.tc : Thread Cert.FguRefIdeal.nD Cert.FguRefIdeal.τ).loc Cert.FguRefIdeal.main_v5) = v0 c
          ∧ r.2.mem ((c.tc : Thread Cert.FguRefIdeal.nD Cert.FguRefIdeal.τ).loc Cert.FguRefIdeal.main_v8) = v1 c
          ∧ r.2.mem ((c.tc : Thread Cert.FguRefIdeal.nD Cert.FguRefIdeal.τ).loc Cert.FguRefIdeal.main_v13) = v2 c
          ∧ r.2.mem ((c.tc : Thread Cert.FguRefIdeal.nD Cert.FguRefIdeal.τ).loc Cert.FguRefIdeal.main_arg0) = m' ((c.tc : Thread Cert.FguRefIdeal.nD Cert.FguRefIdeal.τ).loc Cert.FguRefIdeal.main_arg0)
          ∧ r.2.mem ((c.tc : Thread Cert.FguRefIdeal.nD Cert.FguRefIdeal.τ).loc Cert.FguRefIdeal.main_arg1) = m' ((c.tc : Thread Cert.FguRefIdeal.nD Cert.FguRefIdeal.τ).loc Cert.FguRefIdeal.main_arg1)
          ∧ r.2.mem ((c.tc : Thread Cert.FguRefIdeal.nD Cert.FguRefIdeal.τ).loc Cert.FguRefIdeal.main_arg2) = m' ((c.tc : Thread Cert.FguRefIdeal.nD Cert.FguRefIdeal.τ).loc Cert.FguRefIdeal.main_arg2))

def preserves_Fdn_FdnIdeal : Prop :=
  True

def algebraic_FdnIdeal_FdnRefIdeal [hFdnIdeal : Cert.FdnIdeal.Facts] [hFdnRefIdeal : Cert.FdnRefIdeal.Facts] : Prop :=
  ∀ (m : (ℓ : Loc Cert.FdnIdeal.nD Cert.FdnIdeal.τ Cert.FdnIdeal.sig) → Buf (Elt Ideal) ℓ) (g : Dev Cert.FdnIdeal.nD → PrngReg)
    (m' : (ℓ : Loc Cert.FdnRefIdeal.nD Cert.FdnRefIdeal.τ Cert.FdnRefIdeal.sig) → Buf (Elt Ideal) ℓ) (g' : Dev Cert.FdnRefIdeal.nD → PrngReg), Pre_FdnIdeal m →
    (∀ c : Dev Cert.FdnIdeal.nD,
      m' ((c.tc : Thread Cert.FdnRefIdeal.nD Cert.FdnRefIdeal.τ).loc Cert.FdnRefIdeal.main_arg0) = m ((c.tc : Thread Cert.FdnIdeal.nD Cert.FdnIdeal.τ).loc Cert.FdnIdeal.main_arg0)
      ∧ m' ((c.tc : Thread Cert.FdnRefIdeal.nD Cert.FdnRefIdeal.τ).loc Cert.FdnRefIdeal.main_arg1) = m ((c.tc : Thread Cert.FdnIdeal.nD Cert.FdnIdeal.τ).loc Cert.FdnIdeal.main_arg1)
      ∧ m' ((c.tc : Thread Cert.FdnRefIdeal.nD Cert.FdnRefIdeal.τ).loc Cert.FdnRefIdeal.main_arg2) = m ((c.tc : Thread Cert.FdnIdeal.nD Cert.FdnIdeal.τ).loc Cert.FdnIdeal.main_arg2)) →
    ∃ (v0 : (c : Dev Cert.FdnIdeal.nD) → Buf (Elt Ideal) ((c.tc : Thread Cert.FdnIdeal.nD Cert.FdnIdeal.τ).loc Cert.FdnIdeal.main_v5)),
      θ_run (Cert.FdnIdeal.defs (F := Ideal)) (onTc (τ := Cert.FdnIdeal.τ) (Cert.FdnIdeal.main (F := Ideal))) ⟨m, fun _ => 0, g⟩ (fun r => ∀ c : Dev Cert.FdnIdeal.nD,
          r.2.mem ((c.tc : Thread Cert.FdnIdeal.nD Cert.FdnIdeal.τ).loc Cert.FdnIdeal.main_v5) = v0 c
          ∧ r.2.mem ((c.tc : Thread Cert.FdnIdeal.nD Cert.FdnIdeal.τ).loc Cert.FdnIdeal.main_arg0) = m ((c.tc : Thread Cert.FdnIdeal.nD Cert.FdnIdeal.τ).loc Cert.FdnIdeal.main_arg0)
          ∧ r.2.mem ((c.tc : Thread Cert.FdnIdeal.nD Cert.FdnIdeal.τ).loc Cert.FdnIdeal.main_arg1) = m ((c.tc : Thread Cert.FdnIdeal.nD Cert.FdnIdeal.τ).loc Cert.FdnIdeal.main_arg1)
          ∧ r.2.mem ((c.tc : Thread Cert.FdnIdeal.nD Cert.FdnIdeal.τ).loc Cert.FdnIdeal.main_arg2) = m ((c.tc : Thread Cert.FdnIdeal.nD Cert.FdnIdeal.τ).loc Cert.FdnIdeal.main_arg2))
      ∧ θ_run (Cert.FdnRefIdeal.defs (F := Ideal)) (onTc (τ := Cert.FdnRefIdeal.τ) (Cert.FdnRefIdeal.main (F := Ideal))) ⟨m', fun _ => 0, g'⟩ (fun r => ∀ c : Dev Cert.FdnRefIdeal.nD,
          r.2.mem ((c.tc : Thread Cert.FdnRefIdeal.nD Cert.FdnRefIdeal.τ).loc Cert.FdnRefIdeal.main_v1) = v0 c
          ∧ r.2.mem ((c.tc : Thread Cert.FdnRefIdeal.nD Cert.FdnRefIdeal.τ).loc Cert.FdnRefIdeal.main_arg0) = m' ((c.tc : Thread Cert.FdnRefIdeal.nD Cert.FdnRefIdeal.τ).loc Cert.FdnRefIdeal.main_arg0)
          ∧ r.2.mem ((c.tc : Thread Cert.FdnRefIdeal.nD Cert.FdnRefIdeal.τ).loc Cert.FdnRefIdeal.main_arg1) = m' ((c.tc : Thread Cert.FdnRefIdeal.nD Cert.FdnRefIdeal.τ).loc Cert.FdnRefIdeal.main_arg1)
          ∧ r.2.mem ((c.tc : Thread Cert.FdnRefIdeal.nD Cert.FdnRefIdeal.τ).loc Cert.FdnRefIdeal.main_arg2) = m' ((c.tc : Thread Cert.FdnRefIdeal.nD Cert.FdnRefIdeal.τ).loc Cert.FdnRefIdeal.main_arg2))

def preserves_Pgb_PgbIdeal : Prop :=
  True

def algebraic_PgbIdeal_PgbRefIdeal [hPgbIdeal : Cert.PgbIdeal.Facts] [hPgbRefIdeal : Cert.PgbRefIdeal.Facts] : Prop :=
  ∀ (m : (ℓ : Loc Cert.PgbIdeal.nD Cert.PgbIdeal.τ Cert.PgbIdeal.sig) → Buf (Elt Ideal) ℓ) (g : Dev Cert.PgbIdeal.nD → PrngReg)
    (m' : (ℓ : Loc Cert.PgbRefIdeal.nD Cert.PgbRefIdeal.τ Cert.PgbRefIdeal.sig) → Buf (Elt Ideal) ℓ) (g' : Dev Cert.PgbRefIdeal.nD → PrngReg), Pre_PgbIdeal m →
    (∀ c : Dev Cert.PgbIdeal.nD,
      m' ((c.tc : Thread Cert.PgbRefIdeal.nD Cert.PgbRefIdeal.τ).loc Cert.PgbRefIdeal.main_arg0) = m ((c.tc : Thread Cert.PgbIdeal.nD Cert.PgbIdeal.τ).loc Cert.PgbIdeal.main_arg0)
      ∧ m' ((c.tc : Thread Cert.PgbRefIdeal.nD Cert.PgbRefIdeal.τ).loc Cert.PgbRefIdeal.main_arg1) = m ((c.tc : Thread Cert.PgbIdeal.nD Cert.PgbIdeal.τ).loc Cert.PgbIdeal.main_arg1)
      ∧ m' ((c.tc : Thread Cert.PgbRefIdeal.nD Cert.PgbRefIdeal.τ).loc Cert.PgbRefIdeal.main_arg2) = m ((c.tc : Thread Cert.PgbIdeal.nD Cert.PgbIdeal.τ).loc Cert.PgbIdeal.main_arg2)) →
    ∃ (v0 : (c : Dev Cert.PgbIdeal.nD) → Buf (Elt Ideal) ((c.tc : Thread Cert.PgbIdeal.nD Cert.PgbIdeal.τ).loc Cert.PgbIdeal.main_v1)),
      θ_run (Cert.PgbIdeal.defs (F := Ideal)) (onTc (τ := Cert.PgbIdeal.τ) (Cert.PgbIdeal.main (F := Ideal))) ⟨m, fun _ => 0, g⟩ (fun r => ∀ c : Dev Cert.PgbIdeal.nD,
          r.2.mem ((c.tc : Thread Cert.PgbIdeal.nD Cert.PgbIdeal.τ).loc Cert.PgbIdeal.main_v1) = v0 c
          ∧ r.2.mem ((c.tc : Thread Cert.PgbIdeal.nD Cert.PgbIdeal.τ).loc Cert.PgbIdeal.main_arg0) = m ((c.tc : Thread Cert.PgbIdeal.nD Cert.PgbIdeal.τ).loc Cert.PgbIdeal.main_arg0)
          ∧ r.2.mem ((c.tc : Thread Cert.PgbIdeal.nD Cert.PgbIdeal.τ).loc Cert.PgbIdeal.main_arg1) = m ((c.tc : Thread Cert.PgbIdeal.nD Cert.PgbIdeal.τ).loc Cert.PgbIdeal.main_arg1)
          ∧ r.2.mem ((c.tc : Thread Cert.PgbIdeal.nD Cert.PgbIdeal.τ).loc Cert.PgbIdeal.main_arg2) = m ((c.tc : Thread Cert.PgbIdeal.nD Cert.PgbIdeal.τ).loc Cert.PgbIdeal.main_arg2))
      ∧ θ_run (Cert.PgbRefIdeal.defs (F := Ideal)) (onTc (τ := Cert.PgbRefIdeal.τ) (Cert.PgbRefIdeal.main (F := Ideal))) ⟨m', fun _ => 0, g'⟩ (fun r => ∀ c : Dev Cert.PgbRefIdeal.nD,
          r.2.mem ((c.tc : Thread Cert.PgbRefIdeal.nD Cert.PgbRefIdeal.τ).loc Cert.PgbRefIdeal.main_v4) = v0 c
          ∧ r.2.mem ((c.tc : Thread Cert.PgbRefIdeal.nD Cert.PgbRefIdeal.τ).loc Cert.PgbRefIdeal.main_arg0) = m' ((c.tc : Thread Cert.PgbRefIdeal.nD Cert.PgbRefIdeal.τ).loc Cert.PgbRefIdeal.main_arg0)
          ∧ r.2.mem ((c.tc : Thread Cert.PgbRefIdeal.nD Cert.PgbRefIdeal.τ).loc Cert.PgbRefIdeal.main_arg1) = m' ((c.tc : Thread Cert.PgbRefIdeal.nD Cert.PgbRefIdeal.τ).loc Cert.PgbRefIdeal.main_arg1)
          ∧ r.2.mem ((c.tc : Thread Cert.PgbRefIdeal.nD Cert.PgbRefIdeal.τ).loc Cert.PgbRefIdeal.main_arg2) = m' ((c.tc : Thread Cert.PgbRefIdeal.nD Cert.PgbRefIdeal.τ).loc Cert.PgbRefIdeal.main_arg2))

def preserves_Apb_ApbIdeal : Prop :=
  True

def algebraic_ApbIdeal_ApbRefIdeal [hApbIdeal : Cert.ApbIdeal.Facts] [hApbRefIdeal : Cert.ApbRefIdeal.Facts] : Prop :=
  ∀ (m : (ℓ : Loc Cert.ApbIdeal.nD Cert.ApbIdeal.τ Cert.ApbIdeal.sig) → Buf (Elt Ideal) ℓ) (g : Dev Cert.ApbIdeal.nD → PrngReg)
    (m' : (ℓ : Loc Cert.ApbRefIdeal.nD Cert.ApbRefIdeal.τ Cert.ApbRefIdeal.sig) → Buf (Elt Ideal) ℓ) (g' : Dev Cert.ApbRefIdeal.nD → PrngReg), Pre_ApbIdeal m →
    (∀ c : Dev Cert.ApbIdeal.nD,
      m' ((c.tc : Thread Cert.ApbRefIdeal.nD Cert.ApbRefIdeal.τ).loc Cert.ApbRefIdeal.main_arg0) = m ((c.tc : Thread Cert.ApbIdeal.nD Cert.ApbIdeal.τ).loc Cert.ApbIdeal.main_arg0)
      ∧ m' ((c.tc : Thread Cert.ApbRefIdeal.nD Cert.ApbRefIdeal.τ).loc Cert.ApbRefIdeal.main_arg1) = m ((c.tc : Thread Cert.ApbIdeal.nD Cert.ApbIdeal.τ).loc Cert.ApbIdeal.main_arg1)) →
    ∃ (v0 : (c : Dev Cert.ApbIdeal.nD) → Buf (Elt Ideal) ((c.tc : Thread Cert.ApbIdeal.nD Cert.ApbIdeal.τ).loc Cert.ApbIdeal.main_v3)),
      θ_run (Cert.ApbIdeal.defs (F := Ideal)) (onTc (τ := Cert.ApbIdeal.τ) (Cert.ApbIdeal.main (F := Ideal))) ⟨m, fun _ => 0, g⟩ (fun r => ∀ c : Dev Cert.ApbIdeal.nD,
          r.2.mem ((c.tc : Thread Cert.ApbIdeal.nD Cert.ApbIdeal.τ).loc Cert.ApbIdeal.main_v3) = v0 c
          ∧ r.2.mem ((c.tc : Thread Cert.ApbIdeal.nD Cert.ApbIdeal.τ).loc Cert.ApbIdeal.main_arg0) = m ((c.tc : Thread Cert.ApbIdeal.nD Cert.ApbIdeal.τ).loc Cert.ApbIdeal.main_arg0)
          ∧ r.2.mem ((c.tc : Thread Cert.ApbIdeal.nD Cert.ApbIdeal.τ).loc Cert.ApbIdeal.main_arg1) = m ((c.tc : Thread Cert.ApbIdeal.nD Cert.ApbIdeal.τ).loc Cert.ApbIdeal.main_arg1))
      ∧ θ_run (Cert.ApbRefIdeal.defs (F := Ideal)) (onTc (τ := Cert.ApbRefIdeal.τ) (Cert.ApbRefIdeal.main (F := Ideal))) ⟨m', fun _ => 0, g'⟩ (fun r => ∀ c : Dev Cert.ApbRefIdeal.nD,
          r.2.mem ((c.tc : Thread Cert.ApbRefIdeal.nD Cert.ApbRefIdeal.τ).loc Cert.ApbRefIdeal.main_v4) = v0 c
          ∧ r.2.mem ((c.tc : Thread Cert.ApbRefIdeal.nD Cert.ApbRefIdeal.τ).loc Cert.ApbRefIdeal.main_arg0) = m' ((c.tc : Thread Cert.ApbRefIdeal.nD Cert.ApbRefIdeal.τ).loc Cert.ApbRefIdeal.main_arg0)
          ∧ r.2.mem ((c.tc : Thread Cert.ApbRefIdeal.nD Cert.ApbRefIdeal.τ).loc Cert.ApbRefIdeal.main_arg1) = m' ((c.tc : Thread Cert.ApbRefIdeal.nD Cert.ApbRefIdeal.τ).loc Cert.ApbRefIdeal.main_arg1))

def preserves_Wpg_WpgIdeal : Prop :=
  True

def algebraic_WpgIdeal_WpgRefIdeal [hWpgIdeal : Cert.WpgIdeal.Facts] [hWpgRefIdeal : Cert.WpgRefIdeal.Facts] : Prop :=
  ∀ (m : (ℓ : Loc Cert.WpgIdeal.nD Cert.WpgIdeal.τ Cert.WpgIdeal.sig) → Buf (Elt Ideal) ℓ) (g : Dev Cert.WpgIdeal.nD → PrngReg)
    (m' : (ℓ : Loc Cert.WpgRefIdeal.nD Cert.WpgRefIdeal.τ Cert.WpgRefIdeal.sig) → Buf (Elt Ideal) ℓ) (g' : Dev Cert.WpgRefIdeal.nD → PrngReg), Pre_WpgIdeal m →
    (∀ c : Dev Cert.WpgIdeal.nD,
      m' ((c.tc : Thread Cert.WpgRefIdeal.nD Cert.WpgRefIdeal.τ).loc Cert.WpgRefIdeal.main_arg0) = m ((c.tc : Thread Cert.WpgIdeal.nD Cert.WpgIdeal.τ).loc Cert.WpgIdeal.main_arg0)
      ∧ m' ((c.tc : Thread Cert.WpgRefIdeal.nD Cert.WpgRefIdeal.τ).loc Cert.WpgRefIdeal.main_arg1) = m ((c.tc : Thread Cert.WpgIdeal.nD Cert.WpgIdeal.τ).loc Cert.WpgIdeal.main_arg1)) →
    ∃ (v0 : (c : Dev Cert.WpgIdeal.nD) → Buf (Elt Ideal) ((c.tc : Thread Cert.WpgIdeal.nD Cert.WpgIdeal.τ).loc Cert.WpgIdeal.main_v0)),
      θ_run (Cert.WpgIdeal.defs (F := Ideal)) (onTc (τ := Cert.WpgIdeal.τ) (Cert.WpgIdeal.main (F := Ideal))) ⟨m, fun _ => 0, g⟩ (fun r => ∀ c : Dev Cert.WpgIdeal.nD,
          r.2.mem ((c.tc : Thread Cert.WpgIdeal.nD Cert.WpgIdeal.τ).loc Cert.WpgIdeal.main_v0) = v0 c
          ∧ r.2.mem ((c.tc : Thread Cert.WpgIdeal.nD Cert.WpgIdeal.τ).loc Cert.WpgIdeal.main_arg0) = m ((c.tc : Thread Cert.WpgIdeal.nD Cert.WpgIdeal.τ).loc Cert.WpgIdeal.main_arg0)
          ∧ r.2.mem ((c.tc : Thread Cert.WpgIdeal.nD Cert.WpgIdeal.τ).loc Cert.WpgIdeal.main_arg1) = m ((c.tc : Thread Cert.WpgIdeal.nD Cert.WpgIdeal.τ).loc Cert.WpgIdeal.main_arg1))
      ∧ θ_run (Cert.WpgRefIdeal.defs (F := Ideal)) (onTc (τ := Cert.WpgRefIdeal.τ) (Cert.WpgRefIdeal.main (F := Ideal))) ⟨m', fun _ => 0, g'⟩ (fun r => ∀ c : Dev Cert.WpgRefIdeal.nD,
          r.2.mem ((c.tc : Thread Cert.WpgRefIdeal.nD Cert.WpgRefIdeal.τ).loc Cert.WpgRefIdeal.main_v4) = v0 c
          ∧ r.2.mem ((c.tc : Thread Cert.WpgRefIdeal.nD Cert.WpgRefIdeal.τ).loc Cert.WpgRefIdeal.main_arg0) = m' ((c.tc : Thread Cert.WpgRefIdeal.nD Cert.WpgRefIdeal.τ).loc Cert.WpgRefIdeal.main_arg0)
          ∧ r.2.mem ((c.tc : Thread Cert.WpgRefIdeal.nD Cert.WpgRefIdeal.τ).loc Cert.WpgRefIdeal.main_arg1) = m' ((c.tc : Thread Cert.WpgRefIdeal.nD Cert.WpgRefIdeal.τ).loc Cert.WpgRefIdeal.main_arg1))

def preserves_Wap_WapIdeal : Prop :=
  True

def algebraic_WapIdeal_WapRefIdeal [hWapIdeal : Cert.WapIdeal.Facts] [hWapRefIdeal : Cert.WapRefIdeal.Facts] : Prop :=
  ∀ (m : (ℓ : Loc Cert.WapIdeal.nD Cert.WapIdeal.τ Cert.WapIdeal.sig) → Buf (Elt Ideal) ℓ) (g : Dev Cert.WapIdeal.nD → PrngReg)
    (m' : (ℓ : Loc Cert.WapRefIdeal.nD Cert.WapRefIdeal.τ Cert.WapRefIdeal.sig) → Buf (Elt Ideal) ℓ) (g' : Dev Cert.WapRefIdeal.nD → PrngReg), Pre_WapIdeal m →
    (∀ c : Dev Cert.WapIdeal.nD,
      m' ((c.tc : Thread Cert.WapRefIdeal.nD Cert.WapRefIdeal.τ).loc Cert.WapRefIdeal.main_arg0) = m ((c.tc : Thread Cert.WapIdeal.nD Cert.WapIdeal.τ).loc Cert.WapIdeal.main_arg0)
      ∧ m' ((c.tc : Thread Cert.WapRefIdeal.nD Cert.WapRefIdeal.τ).loc Cert.WapRefIdeal.main_arg1) = m ((c.tc : Thread Cert.WapIdeal.nD Cert.WapIdeal.τ).loc Cert.WapIdeal.main_arg1)) →
    ∃ (v0 : (c : Dev Cert.WapIdeal.nD) → Buf (Elt Ideal) ((c.tc : Thread Cert.WapIdeal.nD Cert.WapIdeal.τ).loc Cert.WapIdeal.main_v0)),
      θ_run (Cert.WapIdeal.defs (F := Ideal)) (onTc (τ := Cert.WapIdeal.τ) (Cert.WapIdeal.main (F := Ideal))) ⟨m, fun _ => 0, g⟩ (fun r => ∀ c : Dev Cert.WapIdeal.nD,
          r.2.mem ((c.tc : Thread Cert.WapIdeal.nD Cert.WapIdeal.τ).loc Cert.WapIdeal.main_v0) = v0 c
          ∧ r.2.mem ((c.tc : Thread Cert.WapIdeal.nD Cert.WapIdeal.τ).loc Cert.WapIdeal.main_arg0) = m ((c.tc : Thread Cert.WapIdeal.nD Cert.WapIdeal.τ).loc Cert.WapIdeal.main_arg0)
          ∧ r.2.mem ((c.tc : Thread Cert.WapIdeal.nD Cert.WapIdeal.τ).loc Cert.WapIdeal.main_arg1) = m ((c.tc : Thread Cert.WapIdeal.nD Cert.WapIdeal.τ).loc Cert.WapIdeal.main_arg1))
      ∧ θ_run (Cert.WapRefIdeal.defs (F := Ideal)) (onTc (τ := Cert.WapRefIdeal.τ) (Cert.WapRefIdeal.main (F := Ideal))) ⟨m', fun _ => 0, g'⟩ (fun r => ∀ c : Dev Cert.WapRefIdeal.nD,
          r.2.mem ((c.tc : Thread Cert.WapRefIdeal.nD Cert.WapRefIdeal.τ).loc Cert.WapRefIdeal.main_v7) = v0 c
          ∧ r.2.mem ((c.tc : Thread Cert.WapRefIdeal.nD Cert.WapRefIdeal.τ).loc Cert.WapRefIdeal.main_arg0) = m' ((c.tc : Thread Cert.WapRefIdeal.nD Cert.WapRefIdeal.τ).loc Cert.WapRefIdeal.main_arg0)
          ∧ r.2.mem ((c.tc : Thread Cert.WapRefIdeal.nD Cert.WapRefIdeal.τ).loc Cert.WapRefIdeal.main_arg1) = m' ((c.tc : Thread Cert.WapRefIdeal.nD Cert.WapRefIdeal.τ).loc Cert.WapRefIdeal.main_arg1))

def preserves_Wfg_WfgIdeal : Prop :=
  True

def algebraic_WfgIdeal_WfgRefIdeal [hWfgIdeal : Cert.WfgIdeal.Facts] [hWfgRefIdeal : Cert.WfgRefIdeal.Facts] : Prop :=
  ∀ (m : (ℓ : Loc Cert.WfgIdeal.nD Cert.WfgIdeal.τ Cert.WfgIdeal.sig) → Buf (Elt Ideal) ℓ) (g : Dev Cert.WfgIdeal.nD → PrngReg)
    (m' : (ℓ : Loc Cert.WfgRefIdeal.nD Cert.WfgRefIdeal.τ Cert.WfgRefIdeal.sig) → Buf (Elt Ideal) ℓ) (g' : Dev Cert.WfgRefIdeal.nD → PrngReg), Pre_WfgIdeal m →
    (∀ c : Dev Cert.WfgIdeal.nD,
      m' ((c.tc : Thread Cert.WfgRefIdeal.nD Cert.WfgRefIdeal.τ).loc Cert.WfgRefIdeal.main_arg0) = m ((c.tc : Thread Cert.WfgIdeal.nD Cert.WfgIdeal.τ).loc Cert.WfgIdeal.main_arg0)
      ∧ m' ((c.tc : Thread Cert.WfgRefIdeal.nD Cert.WfgRefIdeal.τ).loc Cert.WfgRefIdeal.main_arg1) = m ((c.tc : Thread Cert.WfgIdeal.nD Cert.WfgIdeal.τ).loc Cert.WfgIdeal.main_arg1)) →
    ∃ (v0 : (c : Dev Cert.WfgIdeal.nD) → Buf (Elt Ideal) ((c.tc : Thread Cert.WfgIdeal.nD Cert.WfgIdeal.τ).loc Cert.WfgIdeal.main_v2)),
      θ_run (Cert.WfgIdeal.defs (F := Ideal)) (onTc (τ := Cert.WfgIdeal.τ) (Cert.WfgIdeal.main (F := Ideal))) ⟨m, fun _ => 0, g⟩ (fun r => ∀ c : Dev Cert.WfgIdeal.nD,
          r.2.mem ((c.tc : Thread Cert.WfgIdeal.nD Cert.WfgIdeal.τ).loc Cert.WfgIdeal.main_v2) = v0 c
          ∧ r.2.mem ((c.tc : Thread Cert.WfgIdeal.nD Cert.WfgIdeal.τ).loc Cert.WfgIdeal.main_arg0) = m ((c.tc : Thread Cert.WfgIdeal.nD Cert.WfgIdeal.τ).loc Cert.WfgIdeal.main_arg0)
          ∧ r.2.mem ((c.tc : Thread Cert.WfgIdeal.nD Cert.WfgIdeal.τ).loc Cert.WfgIdeal.main_arg1) = m ((c.tc : Thread Cert.WfgIdeal.nD Cert.WfgIdeal.τ).loc Cert.WfgIdeal.main_arg1))
      ∧ θ_run (Cert.WfgRefIdeal.defs (F := Ideal)) (onTc (τ := Cert.WfgRefIdeal.τ) (Cert.WfgRefIdeal.main (F := Ideal))) ⟨m', fun _ => 0, g'⟩ (fun r => ∀ c : Dev Cert.WfgRefIdeal.nD,
          r.2.mem ((c.tc : Thread Cert.WfgRefIdeal.nD Cert.WfgRefIdeal.τ).loc Cert.WfgRefIdeal.main_v7) = v0 c
          ∧ r.2.mem ((c.tc : Thread Cert.WfgRefIdeal.nD Cert.WfgRefIdeal.τ).loc Cert.WfgRefIdeal.main_arg0) = m' ((c.tc : Thread Cert.WfgRefIdeal.nD Cert.WfgRefIdeal.τ).loc Cert.WfgRefIdeal.main_arg0)
          ∧ r.2.mem ((c.tc : Thread Cert.WfgRefIdeal.nD Cert.WfgRefIdeal.τ).loc Cert.WfgRefIdeal.main_arg1) = m' ((c.tc : Thread Cert.WfgRefIdeal.nD Cert.WfgRefIdeal.τ).loc Cert.WfgRefIdeal.main_arg1))

def preserves_Adw_AdwIdeal : Prop :=
  True

def algebraic_AdwIdeal_AdwRefIdeal [hAdwIdeal : Cert.AdwIdeal.Facts] [hAdwRefIdeal : Cert.AdwRefIdeal.Facts] : Prop :=
  ∀ (m : (ℓ : Loc Cert.AdwIdeal.nD Cert.AdwIdeal.τ Cert.AdwIdeal.sig) → Buf (Elt Ideal) ℓ) (g : Dev Cert.AdwIdeal.nD → PrngReg)
    (m' : (ℓ : Loc Cert.AdwRefIdeal.nD Cert.AdwRefIdeal.τ Cert.AdwRefIdeal.sig) → Buf (Elt Ideal) ℓ) (g' : Dev Cert.AdwRefIdeal.nD → PrngReg), Pre_AdwIdeal m →
    (∀ c : Dev Cert.AdwIdeal.nD,
      m' ((c.tc : Thread Cert.AdwRefIdeal.nD Cert.AdwRefIdeal.τ).loc Cert.AdwRefIdeal.main_arg0) = m ((c.tc : Thread Cert.AdwIdeal.nD Cert.AdwIdeal.τ).loc Cert.AdwIdeal.main_arg0)
      ∧ m' ((c.tc : Thread Cert.AdwRefIdeal.nD Cert.AdwRefIdeal.τ).loc Cert.AdwRefIdeal.main_arg1) = m ((c.tc : Thread Cert.AdwIdeal.nD Cert.AdwIdeal.τ).loc Cert.AdwIdeal.main_arg1)
      ∧ m' ((c.tc : Thread Cert.AdwRefIdeal.nD Cert.AdwRefIdeal.τ).loc Cert.AdwRefIdeal.main_arg2) = m ((c.tc : Thread Cert.AdwIdeal.nD Cert.AdwIdeal.τ).loc Cert.AdwIdeal.main_arg2)
      ∧ m' ((c.tc : Thread Cert.AdwRefIdeal.nD Cert.AdwRefIdeal.τ).loc Cert.AdwRefIdeal.main_arg3) = m ((c.tc : Thread Cert.AdwIdeal.nD Cert.AdwIdeal.τ).loc Cert.AdwIdeal.main_arg3)) →
    ∃ (v0 : (c : Dev Cert.AdwIdeal.nD) → Buf (Elt Ideal) ((c.tc : Thread Cert.AdwIdeal.nD Cert.AdwIdeal.τ).loc Cert.AdwIdeal.main_v0_0)) (v1 : (c : Dev Cert.AdwIdeal.nD) → Buf (Elt Ideal) ((c.tc : Thread Cert.AdwIdeal.nD Cert.AdwIdeal.τ).loc Cert.AdwIdeal.main_v0_1)) (v2 : (c : Dev Cert.AdwIdeal.nD) → Buf (Elt Ideal) ((c.tc : Thread Cert.AdwIdeal.nD Cert.AdwIdeal.τ).loc Cert.AdwIdeal.main_v0_2)) (v3 : (c : Dev Cert.AdwIdeal.nD) → Buf (Elt Ideal) ((c.tc : Thread Cert.AdwIdeal.nD Cert.AdwIdeal.τ).loc Cert.AdwIdeal.main_v0_3)),
      θ_run (Cert.AdwIdeal.defs (F := Ideal)) (onTc (τ := Cert.AdwIdeal.τ) (Cert.AdwIdeal.main (F := Ideal))) ⟨m, fun _ => 0, g⟩ (fun r => ∀ c : Dev Cert.AdwIdeal.nD,
          r.2.mem ((c.tc : Thread Cert.AdwIdeal.nD Cert.AdwIdeal.τ).loc Cert.AdwIdeal.main_v0_0) = v0 c
          ∧ r.2.mem ((c.tc : Thread Cert.AdwIdeal.nD Cert.AdwIdeal.τ).loc Cert.AdwIdeal.main_v0_1) = v1 c
          ∧ r.2.mem ((c.tc : Thread Cert.AdwIdeal.nD Cert.AdwIdeal.τ).loc Cert.AdwIdeal.main_v0_2) = v2 c
          ∧ r.2.mem ((c.tc : Thread Cert.AdwIdeal.nD Cert.AdwIdeal.τ).loc Cert.AdwIdeal.main_v0_3) = v3 c
          ∧ r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
          ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
          ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
          ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ θ_run (Cert.AdwRefIdeal.defs (F := Ideal)) (onTc (τ := Cert.AdwRefIdeal.τ) (Cert.AdwRefIdeal.main (F := Ideal))) ⟨m', fun _ => 0, g'⟩ (fun r => ∀ c : Dev Cert.AdwRefIdeal.nD,
          r.2.mem ((c.tc : Thread Cert.AdwRefIdeal.nD Cert.AdwRefIdeal.τ).loc Cert.AdwRefIdeal.main_arg0) = v0 c
          ∧ r.2.mem ((c.tc : Thread Cert.AdwRefIdeal.nD Cert.AdwRefIdeal.τ).loc Cert.AdwRefIdeal.main_v23) = v1 c
          ∧ r.2.mem ((c.tc : Thread Cert.AdwRefIdeal.nD Cert.AdwRefIdeal.τ).loc Cert.AdwRefIdeal.main_v4) = v2 c
          ∧ r.2.mem ((c.tc : Thread Cert.AdwRefIdeal.nD Cert.AdwRefIdeal.τ).loc Cert.AdwRefIdeal.main_v10) = v3 c
          ∧ r.2.mem ((c.tc : Thread Cert.AdwRefIdeal.nD Cert.AdwRefIdeal.τ).loc Cert.AdwRefIdeal.main_arg0) = m' ((c.tc : Thread Cert.AdwRefIdeal.nD Cert.AdwRefIdeal.τ).loc Cert.AdwRefIdeal.main_arg0)
          ∧ r.2.mem ((c.tc : Thread Cert.AdwRefIdeal.nD Cert.AdwRefIdeal.τ).loc Cert.AdwRefIdeal.main_arg1) = m' ((c.tc : Thread Cert.AdwRefIdeal.nD Cert.AdwRefIdeal.τ).loc Cert.AdwRefIdeal.main_arg1)
          ∧ r.2.mem ((c.tc : Thread Cert.AdwRefIdeal.nD Cert.AdwRefIdeal.τ).loc Cert.AdwRefIdeal.main_arg2) = m' ((c.tc : Thread Cert.AdwRefIdeal.nD Cert.AdwRefIdeal.τ).loc Cert.AdwRefIdeal.main_arg2)
          ∧ r.2.mem ((c.tc : Thread Cert.AdwRefIdeal.nD Cert.AdwRefIdeal.τ).loc Cert.AdwRefIdeal.main_arg3) = m' ((c.tc : Thread Cert.AdwRefIdeal.nD Cert.AdwRefIdeal.τ).loc Cert.AdwRefIdeal.main_arg3))

def Claim : Prop :=
  ∃ (hGlu : Cert.Glu.Facts) (hGluIdeal : Cert.GluIdeal.Facts) (hGluRefIdeal : Cert.GluRefIdeal.Facts) (hFfd : Cert.Ffd.Facts) (hFfdIdeal : Cert.FfdIdeal.Facts) (hFfdRefIdeal : Cert.FfdRefIdeal.Facts) (hOpb : Cert.Opb.Facts) (hOpbIdeal : Cert.OpbIdeal.Facts) (hOpbRefIdeal : Cert.OpbRefIdeal.Facts) (hFfi : Cert.Ffi.Facts) (hFfiIdeal : Cert.FfiIdeal.Facts) (hFfiRefIdeal : Cert.FfiRefIdeal.Facts) (hIpb : Cert.Ipb.Facts) (hIpbIdeal : Cert.IpbIdeal.Facts) (hIpbRefIdeal : Cert.IpbRefIdeal.Facts) (hPle : Cert.Ple.Facts) (hPleIdeal : Cert.PleIdeal.Facts) (hPleRefIdeal : Cert.PleRefIdeal.Facts) (hDz : Cert.Dz.Facts) (hDzIdeal : Cert.DzIdeal.Facts) (hDzRefIdeal : Cert.DzRefIdeal.Facts) (hSpb : Cert.Spb.Facts) (hSpbIdeal : Cert.SpbIdeal.Facts) (hSpbRefIdeal : Cert.SpbRefIdeal.Facts) (hAtt1 : Cert.Att1.Facts) (hAtt1Ideal : Cert.Att1Ideal.Facts) (hAtt1RefIdeal : Cert.Att1RefIdeal.Facts) (hAtt4 : Cert.Att4.Facts) (hAtt4Ideal : Cert.Att4Ideal.Facts) (hAtt4RefIdeal : Cert.Att4RefIdeal.Facts) (hAtt16 : Cert.Att16.Facts) (hAtt16Ideal : Cert.Att16Ideal.Facts) (hAtt16RefIdeal : Cert.Att16RefIdeal.Facts) (hPrj : Cert.Prj.Facts) (hPrjIdeal : Cert.PrjIdeal.Facts) (hPrjRefIdeal : Cert.PrjRefIdeal.Facts) (hPlp : Cert.Plp.Facts) (hPlpIdeal : Cert.PlpIdeal.Facts) (hPlpRefIdeal : Cert.PlpRefIdeal.Facts) (hSsp : Cert.Ssp.Facts) (hSspIdeal : Cert.SspIdeal.Facts) (hSspRefIdeal : Cert.SspRefIdeal.Facts) (hOfw : Cert.Ofw.Facts) (hOfwIdeal : Cert.OfwIdeal.Facts) (hOfwRefIdeal : Cert.OfwRefIdeal.Facts) (hFgu : Cert.Fgu.Facts) (hFguIdeal : Cert.FguIdeal.Facts) (hFguRefIdeal : Cert.FguRefIdeal.Facts) (hFdn : Cert.Fdn.Facts) (hFdnIdeal : Cert.FdnIdeal.Facts) (hFdnRefIdeal : Cert.FdnRefIdeal.Facts) (hPgb : Cert.Pgb.Facts) (hPgbIdeal : Cert.PgbIdeal.Facts) (hPgbRefIdeal : Cert.PgbRefIdeal.Facts) (hApb : Cert.Apb.Facts) (hApbIdeal : Cert.ApbIdeal.Facts) (hApbRefIdeal : Cert.ApbRefIdeal.Facts) (hWpg : Cert.Wpg.Facts) (hWpgIdeal : Cert.WpgIdeal.Facts) (hWpgRefIdeal : Cert.WpgRefIdeal.Facts) (hWap : Cert.Wap.Facts) (hWapIdeal : Cert.WapIdeal.Facts) (hWapRefIdeal : Cert.WapRefIdeal.Facts) (hWfg : Cert.Wfg.Facts) (hWfgIdeal : Cert.WfgIdeal.Facts) (hWfgRefIdeal : Cert.WfgRefIdeal.Facts) (hAdw : Cert.Adw.Facts) (hAdwIdeal : Cert.AdwIdeal.Facts) (hAdwRefIdeal : Cert.AdwRefIdeal.Facts) (hPre_glu_pre : Cert.Pre_glu_pre.Facts) (hPre_ffd_pre : Cert.Pre_ffd_pre.Facts) (hPre_ffi_pre : Cert.Pre_ffi_pre.Facts) (hPre_ipb_pre : Cert.Pre_ipb_pre.Facts) (hPre_ple_pre : Cert.Pre_ple_pre.Facts) (hPre_att_pre : Cert.Pre_att_pre.Facts),
    quiescent_Glu (hGlu := hGlu)
    ∧ quiescent_GluIdeal (hGluIdeal := hGluIdeal)
    ∧ quiescent_GluIdeal_pre_glu_pre (hGluIdeal := hGluIdeal) (hPre_glu_pre := hPre_glu_pre)
    ∧ quiescent_GluRefIdeal (hGluRefIdeal := hGluRefIdeal)
    ∧ quiescent_GluRefIdeal_pre_glu_pre (hGluRefIdeal := hGluRefIdeal) (hPre_glu_pre := hPre_glu_pre)
    ∧ quiescent_Ffd (hFfd := hFfd)
    ∧ quiescent_FfdIdeal (hFfdIdeal := hFfdIdeal)
    ∧ quiescent_FfdIdeal_pre_ffd_pre (hFfdIdeal := hFfdIdeal) (hPre_ffd_pre := hPre_ffd_pre)
    ∧ quiescent_FfdRefIdeal (hFfdRefIdeal := hFfdRefIdeal)
    ∧ quiescent_FfdRefIdeal_pre_ffd_pre (hFfdRefIdeal := hFfdRefIdeal) (hPre_ffd_pre := hPre_ffd_pre)
    ∧ quiescent_Opb (hOpb := hOpb)
    ∧ quiescent_OpbIdeal (hOpbIdeal := hOpbIdeal)
    ∧ quiescent_OpbRefIdeal (hOpbRefIdeal := hOpbRefIdeal)
    ∧ quiescent_Ffi (hFfi := hFfi)
    ∧ quiescent_FfiIdeal (hFfiIdeal := hFfiIdeal)
    ∧ quiescent_FfiIdeal_pre_ffi_pre (hFfiIdeal := hFfiIdeal) (hPre_ffi_pre := hPre_ffi_pre)
    ∧ quiescent_FfiRefIdeal (hFfiRefIdeal := hFfiRefIdeal)
    ∧ quiescent_FfiRefIdeal_pre_ffi_pre (hFfiRefIdeal := hFfiRefIdeal) (hPre_ffi_pre := hPre_ffi_pre)
    ∧ quiescent_Ipb (hIpb := hIpb)
    ∧ quiescent_IpbIdeal (hIpbIdeal := hIpbIdeal)
    ∧ quiescent_IpbIdeal_pre_ipb_pre (hIpbIdeal := hIpbIdeal) (hPre_ipb_pre := hPre_ipb_pre)
    ∧ quiescent_IpbRefIdeal (hIpbRefIdeal := hIpbRefIdeal)
    ∧ quiescent_IpbRefIdeal_pre_ipb_pre (hIpbRefIdeal := hIpbRefIdeal) (hPre_ipb_pre := hPre_ipb_pre)
    ∧ quiescent_Ple (hPle := hPle)
    ∧ quiescent_PleIdeal (hPleIdeal := hPleIdeal)
    ∧ quiescent_PleIdeal_pre_ple_pre (hPleIdeal := hPleIdeal) (hPre_ple_pre := hPre_ple_pre)
    ∧ quiescent_PleRefIdeal (hPleRefIdeal := hPleRefIdeal)
    ∧ quiescent_PleRefIdeal_pre_ple_pre (hPleRefIdeal := hPleRefIdeal) (hPre_ple_pre := hPre_ple_pre)
    ∧ quiescent_Dz (hDz := hDz)
    ∧ quiescent_DzIdeal (hDzIdeal := hDzIdeal)
    ∧ quiescent_DzRefIdeal (hDzRefIdeal := hDzRefIdeal)
    ∧ quiescent_Spb (hSpb := hSpb)
    ∧ quiescent_SpbIdeal (hSpbIdeal := hSpbIdeal)
    ∧ quiescent_SpbRefIdeal (hSpbRefIdeal := hSpbRefIdeal)
    ∧ quiescent_Att1 (hAtt1 := hAtt1)
    ∧ quiescent_Att1Ideal (hAtt1Ideal := hAtt1Ideal)
    ∧ quiescent_Att1Ideal_pre_att_pre (hAtt1Ideal := hAtt1Ideal) (hPre_att_pre := hPre_att_pre)
    ∧ quiescent_Att1RefIdeal (hAtt1RefIdeal := hAtt1RefIdeal)
    ∧ quiescent_Att1RefIdeal_pre_att_pre (hAtt1RefIdeal := hAtt1RefIdeal) (hPre_att_pre := hPre_att_pre)
    ∧ quiescent_Att4 (hAtt4 := hAtt4)
    ∧ quiescent_Att4Ideal (hAtt4Ideal := hAtt4Ideal)
    ∧ quiescent_Att4Ideal_pre_att_pre (hAtt4Ideal := hAtt4Ideal) (hPre_att_pre := hPre_att_pre)
    ∧ quiescent_Att4RefIdeal (hAtt4RefIdeal := hAtt4RefIdeal)
    ∧ quiescent_Att4RefIdeal_pre_att_pre (hAtt4RefIdeal := hAtt4RefIdeal) (hPre_att_pre := hPre_att_pre)
    ∧ quiescent_Att16 (hAtt16 := hAtt16)
    ∧ quiescent_Att16Ideal (hAtt16Ideal := hAtt16Ideal)
    ∧ quiescent_Att16Ideal_pre_att_pre (hAtt16Ideal := hAtt16Ideal) (hPre_att_pre := hPre_att_pre)
    ∧ quiescent_Att16RefIdeal (hAtt16RefIdeal := hAtt16RefIdeal)
    ∧ quiescent_Att16RefIdeal_pre_att_pre (hAtt16RefIdeal := hAtt16RefIdeal) (hPre_att_pre := hPre_att_pre)
    ∧ quiescent_Prj (hPrj := hPrj)
    ∧ quiescent_PrjIdeal (hPrjIdeal := hPrjIdeal)
    ∧ quiescent_PrjRefIdeal (hPrjRefIdeal := hPrjRefIdeal)
    ∧ quiescent_Plp (hPlp := hPlp)
    ∧ quiescent_PlpIdeal (hPlpIdeal := hPlpIdeal)
    ∧ quiescent_PlpRefIdeal (hPlpRefIdeal := hPlpRefIdeal)
    ∧ quiescent_Ssp (hSsp := hSsp)
    ∧ quiescent_SspIdeal (hSspIdeal := hSspIdeal)
    ∧ quiescent_SspRefIdeal (hSspRefIdeal := hSspRefIdeal)
    ∧ quiescent_Ofw (hOfw := hOfw)
    ∧ quiescent_OfwIdeal (hOfwIdeal := hOfwIdeal)
    ∧ quiescent_OfwRefIdeal (hOfwRefIdeal := hOfwRefIdeal)
    ∧ quiescent_Fgu (hFgu := hFgu)
    ∧ quiescent_FguIdeal (hFguIdeal := hFguIdeal)
    ∧ quiescent_FguRefIdeal (hFguRefIdeal := hFguRefIdeal)
    ∧ quiescent_Fdn (hFdn := hFdn)
    ∧ quiescent_FdnIdeal (hFdnIdeal := hFdnIdeal)
    ∧ quiescent_FdnRefIdeal (hFdnRefIdeal := hFdnRefIdeal)
    ∧ quiescent_Pgb (hPgb := hPgb)
    ∧ quiescent_PgbIdeal (hPgbIdeal := hPgbIdeal)
    ∧ quiescent_PgbRefIdeal (hPgbRefIdeal := hPgbRefIdeal)
    ∧ quiescent_Apb (hApb := hApb)
    ∧ quiescent_ApbIdeal (hApbIdeal := hApbIdeal)
    ∧ quiescent_ApbRefIdeal (hApbRefIdeal := hApbRefIdeal)
    ∧ quiescent_Wpg (hWpg := hWpg)
    ∧ quiescent_WpgIdeal (hWpgIdeal := hWpgIdeal)
    ∧ quiescent_WpgRefIdeal (hWpgRefIdeal := hWpgRefIdeal)
    ∧ quiescent_Wap (hWap := hWap)
    ∧ quiescent_WapIdeal (hWapIdeal := hWapIdeal)
    ∧ quiescent_WapRefIdeal (hWapRefIdeal := hWapRefIdeal)
    ∧ quiescent_Wfg (hWfg := hWfg)
    ∧ quiescent_WfgIdeal (hWfgIdeal := hWfgIdeal)
    ∧ quiescent_WfgRefIdeal (hWfgRefIdeal := hWfgRefIdeal)
    ∧ quiescent_Adw (hAdw := hAdw)
    ∧ quiescent_AdwIdeal (hAdwIdeal := hAdwIdeal)
    ∧ quiescent_AdwRefIdeal (hAdwRefIdeal := hAdwRefIdeal)
    ∧ preserves_Glu_GluIdeal
    ∧ algebraic_GluIdeal_GluRefIdeal_pre_glu_pre (hGluIdeal := hGluIdeal) (hGluRefIdeal := hGluRefIdeal) (hPre_glu_pre := hPre_glu_pre)
    ∧ preserves_Ffd_FfdIdeal
    ∧ algebraic_FfdIdeal_FfdRefIdeal_pre_ffd_pre (hFfdIdeal := hFfdIdeal) (hFfdRefIdeal := hFfdRefIdeal) (hPre_ffd_pre := hPre_ffd_pre)
    ∧ preserves_Opb_OpbIdeal
    ∧ algebraic_OpbIdeal_OpbRefIdeal (hOpbIdeal := hOpbIdeal) (hOpbRefIdeal := hOpbRefIdeal)
    ∧ preserves_Ffi_FfiIdeal
    ∧ algebraic_FfiIdeal_FfiRefIdeal_pre_ffi_pre (hFfiIdeal := hFfiIdeal) (hFfiRefIdeal := hFfiRefIdeal) (hPre_ffi_pre := hPre_ffi_pre)
    ∧ preserves_Ipb_IpbIdeal
    ∧ algebraic_IpbIdeal_IpbRefIdeal_pre_ipb_pre (hIpbIdeal := hIpbIdeal) (hIpbRefIdeal := hIpbRefIdeal) (hPre_ipb_pre := hPre_ipb_pre)
    ∧ preserves_Ple_PleIdeal
    ∧ algebraic_PleIdeal_PleRefIdeal_pre_ple_pre (hPleIdeal := hPleIdeal) (hPleRefIdeal := hPleRefIdeal) (hPre_ple_pre := hPre_ple_pre)
    ∧ preserves_Dz_DzIdeal
    ∧ algebraic_DzIdeal_DzRefIdeal (hDzIdeal := hDzIdeal) (hDzRefIdeal := hDzRefIdeal)
    ∧ preserves_Spb_SpbIdeal
    ∧ algebraic_SpbIdeal_SpbRefIdeal (hSpbIdeal := hSpbIdeal) (hSpbRefIdeal := hSpbRefIdeal)
    ∧ preserves_Att1_Att1Ideal
    ∧ algebraic_Att1Ideal_Att1RefIdeal_pre_att_pre (hAtt1Ideal := hAtt1Ideal) (hAtt1RefIdeal := hAtt1RefIdeal) (hPre_att_pre := hPre_att_pre)
    ∧ preserves_Att4_Att4Ideal
    ∧ algebraic_Att4Ideal_Att4RefIdeal_pre_att_pre (hAtt4Ideal := hAtt4Ideal) (hAtt4RefIdeal := hAtt4RefIdeal) (hPre_att_pre := hPre_att_pre)
    ∧ preserves_Att16_Att16Ideal
    ∧ algebraic_Att16Ideal_Att16RefIdeal_pre_att_pre (hAtt16Ideal := hAtt16Ideal) (hAtt16RefIdeal := hAtt16RefIdeal) (hPre_att_pre := hPre_att_pre)
    ∧ preserves_Prj_PrjIdeal
    ∧ algebraic_PrjIdeal_PrjRefIdeal (hPrjIdeal := hPrjIdeal) (hPrjRefIdeal := hPrjRefIdeal)
    ∧ preserves_Plp_PlpIdeal
    ∧ algebraic_PlpIdeal_PlpRefIdeal (hPlpIdeal := hPlpIdeal) (hPlpRefIdeal := hPlpRefIdeal)
    ∧ preserves_Ssp_SspIdeal
    ∧ algebraic_SspIdeal_SspRefIdeal (hSspIdeal := hSspIdeal) (hSspRefIdeal := hSspRefIdeal)
    ∧ preserves_Ofw_OfwIdeal
    ∧ algebraic_OfwIdeal_OfwRefIdeal (hOfwIdeal := hOfwIdeal) (hOfwRefIdeal := hOfwRefIdeal)
    ∧ preserves_Fgu_FguIdeal
    ∧ algebraic_FguIdeal_FguRefIdeal (hFguIdeal := hFguIdeal) (hFguRefIdeal := hFguRefIdeal)
    ∧ preserves_Fdn_FdnIdeal
    ∧ algebraic_FdnIdeal_FdnRefIdeal (hFdnIdeal := hFdnIdeal) (hFdnRefIdeal := hFdnRefIdeal)
    ∧ preserves_Pgb_PgbIdeal
    ∧ algebraic_PgbIdeal_PgbRefIdeal (hPgbIdeal := hPgbIdeal) (hPgbRefIdeal := hPgbRefIdeal)
    ∧ preserves_Apb_ApbIdeal
    ∧ algebraic_ApbIdeal_ApbRefIdeal (hApbIdeal := hApbIdeal) (hApbRefIdeal := hApbRefIdeal)
    ∧ preserves_Wpg_WpgIdeal
    ∧ algebraic_WpgIdeal_WpgRefIdeal (hWpgIdeal := hWpgIdeal) (hWpgRefIdeal := hWpgRefIdeal)
    ∧ preserves_Wap_WapIdeal
    ∧ algebraic_WapIdeal_WapRefIdeal (hWapIdeal := hWapIdeal) (hWapRefIdeal := hWapRefIdeal)
    ∧ preserves_Wfg_WfgIdeal
    ∧ algebraic_WfgIdeal_WfgRefIdeal (hWfgIdeal := hWfgIdeal) (hWfgRefIdeal := hWfgRefIdeal)
    ∧ preserves_Adw_AdwIdeal
    ∧ algebraic_AdwIdeal_AdwRefIdeal (hAdwIdeal := hAdwIdeal) (hAdwRefIdeal := hAdwRefIdeal)
-- ==== Pre_att_pre.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x512 .bf16) (main_arg1 : FVec F S16384x512 .bf16) (main_arg2 : FVec F S16384x512 .bf16) (main_arg3 : FVec F S16384x512 .bf16) : IVec S_ 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .bf16 := Host.absf main_arg1
  let main_cst_0 : FVec F S_ .bf16 := constant S_ .bf16 0x7F80#16
  let main_v5 : FVec F S16384x512 .bf16 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : FVec F S16384x512 .bf16 := Host.absf main_arg2
  let main_cst_2 : FVec F S_ .bf16 := constant S_ .bf16 0x7F80#16
  let main_v9 : FVec F S16384x512 .bf16 := broadcastInDim S16384x512 ![] bcast_S_S16384x512 main_cst_2
  let main_v10 : IVec S16384x512 1 := cmpf .olt main_v8 main_v9
  let main_c_3 : IVec S_ 1 := constantI S_ 1 1#1
  let main_v11 : IVec S_ 1 := (fun x v => Host.reduce IntOp.andi x v reducesTo_S16384x512_S_d0_1 h_S_) main_v10 main_c_3
  let main_v12 : FVec F S16384x512 .bf16 := Host.absf main_arg3
  let main_cst_4 : FVec F S_ .bf16 := constant S_ .bf16 0x7F80#16
  let main_v13 : FVec F S16384x512 .bf16 := broadcastInDim S16384x512 ![] bcast_S_S16384x512 main_cst_4
  let main_v14 : IVec S16384x512 1 := cmpf .olt main_v12 main_v13
  let main_c_5 : IVec S_ 1 := constantI S_ 1 1#1
  let main_v15 : IVec S_ 1 := (fun x v => Host.reduce IntOp.andi x v reducesTo_S16384x512_S_d0_1 h_S_) main_v14 main_c_5
  fn_part1 (F := F) main_v3 main_v7 main_v11 main_v15
-- ==== Pre_ffd_pre.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x2816 .f32) (main_arg1 : FVec F S16384x2816 .f32) (main_arg2 : FVec F S2816x1024 .f32) (main_arg3 : FVec F S16384x1024 .f32) : IVec S_ 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_c : IVec S_ 1 := constantI S_ 1 1#1
  let main_v3 : IVec S_ 1 := (fun x v => Host.reduce IntOp.andi x v reducesTo_S16384x2816_S_d0_1 h_S_) main_v2 main_c
  let main_v4 : FVec F S16384x2816 .f32 := Host.absf main_arg1
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_c_1 : IVec S_ 1 := constantI S_ 1 1#1
  let main_v7 : IVec S_ 1 := (fun x v => Host.reduce IntOp.andi x v reducesTo_S16384x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_v3 main_v7 main_v11 main_v15
-- ==== Pre_ffi_pre.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_arg4 : FVec F S16384x2816 .f32) (main_arg5 : FVec F S16384x2816 .f32) (main_v3 : IVec S_ 1) (main_v7 : IVec S_ 1) (main_v11 : IVec S_ 1) (main_v15 : IVec S_ 1) : IVec S_ 1 :=
  let main_v16 : FVec F S16384x2816 .f32 := Host.absf main_arg4
  let main_cst_6 : FVec F S_ .f32 := constant S_ .f32 0x7F800000#32
  let main_v17 : FVec F S16384x2816 .f32 := broadcastInDim S16384x2816 ![] bcast_S_S16384x2816 main_cst_6
  let main_v18 : IVec S16384x2816 1 := cmpf .olt main_v16 main_v17
  let main_c_7 : IVec S_ 1 := constantI S_ 1 1#1
  let main_v19 : IVec S_ 1 := (fun x v => Host.reduce IntOp.andi x v reducesTo_S16384x2816_S_d0_1 h_S_) main_v18 main_c_7
  let main_v20 : FVec F S16384x2816 .f32 := Host.absf main_arg5
  let main_cst_8 : FVec F S_ .f32 := constant S_ .f32 0x7F800000#32
  let main_v21 : FVec F S16384x2816 .f32 := broadcastInDim S16384x2816 ![] bcast_S_S16384x2816 main_cst_8
  let main_v22 : IVec S16384x2816 1 := cmpf .olt main_v20 main_v21
  let main_c_9 : IVec S_ 1 := constantI S_ 1 1#1
  let main_v23 : IVec S_ 1 := (fun x v => Host.reduce IntOp.andi x v reducesTo_S16384x2816_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S16384x1024 .f32) (main_arg1 : FVec F S1024 .f32) (main_arg2 : FVec F S1024x2816 .f32) (main_arg3 : FVec F S1024x2816 .f32) (main_arg4 : FVec F S16384x2816 .f32) (main_arg5 : FVec F S16384x2816 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_glu_pre.lean ====
abbrev S16384x512 : Shape := ⟨2, ![16384, 512]⟩
abbrev S512x1024 : Shape := ⟨2, ![512, 1024]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg4 : FVec F S16384x1024 .bf16) (main_v3 : IVec S_ 1) (main_v7 : IVec S_ 1) (main_v11 : IVec S_ 1) (main_v15 : IVec S_ 1) : IVec S_ 1 :=
  let main_v16 : FVec F S16384x1024 .bf16 := Host.absf main_arg4
  let main_cst_6 : FVec F S_ .bf16 := constant S_ .bf16 0x7F80#16
  let main_v17 : FVec F S16384x1024 .bf16 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x512 .f32) (main_arg1 : FVec F S512x1024 .f32) (main_arg2 : FVec F S512x1024 .f32) (main_arg3 : FVec F S16384x1024 .bf16) (main_arg4 : FVec F S16384x1024 .bf16) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : FVec F S512x1024 .f32 := Host.absf main_arg2
  let main_cst_2 : FVec F S_ .f32 := constant S_ .f32 0x7F800000#32
  let main_v9 : FVec F S512x1024 .f32 := broadcastInDim S512x1024 ![] bcast_S_S512x1024 main_cst_2
  let main_v10 : IVec S512x1024 1 := cmpf .olt main_v8 main_v9
  let main_c_3 : IVec S_ 1 := constantI S_ 1 1#1
  let main_v11 : IVec S_ 1 := (fun x v => Host.reduce IntOp.andi x v reducesTo_S512x1024_S_d0_1 h_S_) main_v10 main_c_3
  let main_v12 : FVec F S16384x1024 .bf16 := Host.absf main_arg3
  let main_cst_4 : FVec F S_ .bf16 := constant S_ .bf16 0x7F80#16
  let main_v13 : FVec F S16384x1024 .bf16 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_v3 main_v7 main_v11 main_v15
-- ==== Pre_ipb_pre.lean ====
abbrev S16384x1024 : Shape := ⟨2, ![16384, 1024]⟩
abbrev S1024 : Shape := ⟨1, ![1024]⟩
abbrev S1024x7168 : Shape := ⟨2, ![1024, 7168]⟩
abbrev S16384x7168 : Shape := ⟨2, ![16384, 7168]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S16384x7168 : S_.BroadcastsInDim S16384x7168 (![] : Fin 0 → Fin S16384x7168.rank)
  reducesTo_S16384x7168_S_d0_1 : S16384x7168.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S1024 .f32) (main_arg2 : FVec F S1024x7168 .f32) (main_arg3 : FVec F S16384x7168 .bf16) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x7168 .f32 := Host.absf main_arg2
  let main_cst_2 : FVec F S_ .f32 := constant S_ .f32 0x7F800000#32
  let main_v9 : FVec F S1024x7168 .f32 := broadcastInDim S1024x7168 ![] bcast_S_S1024x7168 main_cst_2
  let main_v10 : IVec S1024x7168 1 := cmpf .olt main_v8 main_v9
  let main_c_3 : IVec S_ 1 := constantI S_ 1 1#1
  let main_v11 : IVec S_ 1 := (fun x v => Host.reduce IntOp.andi x v reducesTo_S1024x7168_S_d0_1 h_S_) main_v10 main_c_3
  let main_v12 : FVec F S16384x7168 .bf16 := Host.absf main_arg3
  let main_cst_4 : FVec F S_ .bf16 := constant S_ .bf16 0x7F80#16
  let main_v13 : FVec F S16384x7168 .bf16 := broadcastInDim S16384x7168 ![] bcast_S_S16384x7168 main_cst_4
  let main_v14 : IVec S16384x7168 1 := cmpf .olt main_v12 main_v13
  let main_c_5 : IVec S_ 1 := constantI S_ 1 1#1
  let main_v15 : IVec S_ 1 := (fun x v => Host.reduce IntOp.andi x v reducesTo_S16384x7168_S_d0_1 h_S_) main_v14 main_c_5
  fn_part1 (F := F) main_v3 main_v7 main_v11 main_v15
-- ==== Pre_ple_pre.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_v3 : IVec S_ 1) (main_v7 : IVec S_ 1) (main_v11 : IVec S_ 1) (main_v15 : IVec S_ 1) : IVec S_ 1 :=
  let main_v16 : FVec F S16384x1024 .f32 := Host.absf main_arg4
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S16384x1024 .bf16) (main_arg2 : FVec F S1024x1024 .f32) (main_arg3 : FVec F S1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .bf16 := Host.absf main_arg1
  let main_cst_0 : FVec F S_ .bf16 := constant S_ .bf16 0x7F80#16
  let main_v5 : FVec F S16384x1024 .bf16 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Glu.lean ====
abbrev S16384x512 : Shape := ⟨2, ![16384, 512]⟩
abbrev S512x1024 : Shape := ⟨2, ![512, 1024]⟩
abbrev S16384x1024 : Shape := ⟨2, ![16384, 1024]⟩
abbrev S512x4x256 : Shape := ⟨3, ![512, 4, 256]⟩
abbrev S4x512x256 : Shape := ⟨3, ![4, 512, 256]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 12
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S512x1024, .f32⟩
  | .hbm, ⟨3, _⟩ => ⟨S16384x1024, .bf16⟩
  | .hbm, ⟨4, _⟩ => ⟨S16384x1024, .bf16⟩
  | .hbm, ⟨5, _⟩ => ⟨S512x4x256, .f32⟩
  | .hbm, ⟨6, _⟩ => ⟨S4x512x256, .f32⟩
  | .hbm, ⟨7, _⟩ => ⟨S4x512x256, .bf16⟩
  | .hbm, ⟨8, _⟩ => ⟨S512x4x256, .f32⟩
  | .hbm, ⟨9, _⟩ => ⟨S4x512x256, .f32⟩
  | .hbm, ⟨10, _⟩ => ⟨S4x512x256, .bf16⟩
  | .hbm, ⟨11, _⟩ => ⟨S16384x512, .f32⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1024x256, .bf16⟩
  | .local _ .vmem, ⟨4, _⟩ => ⟨S1024x256, .bf16⟩
  | .local _ .vmem, ⟨5, _⟩ => ⟨S1x512x256, .bf16⟩
  | .local _ .vmem, ⟨6, _⟩ => ⟨S1024x256, .bf16⟩
  | .local _ .vmem, ⟨7, _⟩ => ⟨S1024x256, .bf16⟩
  | .local _ .vmem, ⟨8, _⟩ => ⟨S1x512x256, .bf16⟩
  | .local _ .vmem, ⟨9, _⟩ => ⟨S1024x256, .bf16⟩
  | .local _ .vmem, ⟨10, _⟩ => ⟨S1024x256, .bf16⟩
  | .local _ .vmem, ⟨11, _⟩ => ⟨S1x512x256, .bf16⟩
  | .local _ .vmem, ⟨12, _⟩ => ⟨S1024x256, .bf16⟩
  | .local _ .vmem, ⟨13, _⟩ => ⟨S1024x256, .bf16⟩
  | .local _ .vmem, ⟨14, _⟩ => ⟨S1x512x256, .bf16⟩
  | .local _ .vmem, ⟨15, _⟩ => ⟨S1024x256, .bf16⟩
  | .local _ .vmem, ⟨16, _⟩ => ⟨S1024x256, .bf16⟩
  | .local _ .vmem, ⟨17, _⟩ => ⟨S1x512x256, .bf16⟩
  | .local _ .vmem, ⟨18, _⟩ => ⟨S1024x256, .bf16⟩
  | .local _ .vmem, ⟨19, _⟩ => ⟨S1024x256, .bf16⟩
  | .local _ .vmem, ⟨20, _⟩ => ⟨S1x512x256, .bf16⟩
  | .local _ .vmem, ⟨21, _⟩ => ⟨S1024x256, .bf16⟩
  | .local _ .vmem, ⟨22, _⟩ => ⟨S1024x256, .bf16⟩
  | .local _ .vmem, ⟨23, _⟩ => ⟨S1x512x256, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 1 → Memref sig .tc .vmem S1x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 1 → Memref sig .tc .vmem S1x512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, false]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]
-- ==== GluIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== GluRefIdeal.lean ====
abbrev S16384x512 : Shape := ⟨2, ![16384, 512]⟩
abbrev S512x1024 : Shape := ⟨2, ![512, 1024]⟩
abbrev S16384x1024 : Shape := ⟨2, ![16384, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S512x1024, .f32⟩
  | .hbm, ⟨3, _⟩ => ⟨S16384x1024, .bf16⟩
  | .hbm, ⟨4, _⟩ => ⟨S16384x1024, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Ffd.lean ====
abbrev S16384x2816 : Shape := ⟨2, ![16384, 2816]⟩
abbrev S2816x1024 : Shape := ⟨2, ![2816, 1024]⟩
abbrev S16384x1024 : Shape := ⟨2, ![16384, 1024]⟩
abbrev S4x704x1024 : Shape := ⟨3, ![4, 704, 1024]⟩
abbrev S16384x4x704 : Shape := ⟨3, ![16384, 4, 704]⟩
abbrev S4x16384x704 : Shape := ⟨3, ![4, 16384, 704]⟩
abbrev S512x1024 : Shape := ⟨2, ![512, 1024]⟩
abbrev S1x704x1024 : Shape := ⟨3, ![1, 704, 1024]⟩
abbrev S4x512x704 : Shape := ⟨3, ![4, 512, 704]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 14
  | .vmem => 14
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S4x704x1024, .f32⟩
  | .hbm, ⟨5, _⟩ => ⟨S4x704x1024, .bf16⟩
  | .hbm, ⟨6, _⟩ => ⟨S16384x4x704, .f32⟩
  | .hbm, ⟨7, _⟩ => ⟨S4x16384x704, .f32⟩
  | .hbm, ⟨8, _⟩ => ⟨S4x16384x704, .bf16⟩
  | .hbm, ⟨9, _⟩ => ⟨S16384x4x704, .f32⟩
  | .hbm, ⟨10, _⟩ => ⟨S4x16384x704, .f32⟩
  | .hbm, ⟨11, _⟩ => ⟨S4x16384x704, .bf16⟩
  | .hbm, ⟨12, _⟩ => ⟨S4x16384x704, .bf16⟩
  | .hbm, ⟨13, _⟩ => ⟨S4x16384x704, .bf16⟩
  | .local _ .vmem, ⟨0, _⟩ => ⟨S512x1024, .f32⟩
  | .local _ .vmem, ⟨1, _⟩ => ⟨S512x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== FfdRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S16384x4x704 : Shape := ⟨3, ![16384, 4, 704]⟩
abbrev S4x16384x704 : Shape := ⟨3, ![4, 16384, 704]⟩

abbrev nBuf : Space → Nat
  | .hbm => 32
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x4x704, .f32⟩
  | .hbm, ⟨27, _⟩ => ⟨S4x16384x704, .f32⟩
  | .hbm, ⟨28, _⟩ => ⟨S4x16384x704, .bf16⟩
  | .hbm, ⟨29, _⟩ => ⟨S16384x4x704, .f32⟩
  | .hbm, ⟨30, _⟩ => ⟨S4x16384x704, .f32⟩
  | .hbm, ⟨31, _⟩ => ⟨S4x16384x704, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Opb.lean ====
abbrev S16384x7168 : Shape := ⟨2, ![16384, 7168]⟩
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 12
  | .vmem => 23
  | .smem => 0
  | _ => 0

abbrev bufTy : (tb : Table) → Fin (tcTables nBuf tb) → BufTy
  | .hbm, ⟨0, _⟩ => ⟨S16384x7168, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S16384x1024, .f32⟩
  | .hbm, ⟨6, _⟩ => ⟨S1024x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== OpbRefIdeal.lean ====
abbrev S16384x7168 : Shape := ⟨2, ![16384, 7168]⟩
abbrev S16384x1024 : Shape := ⟨2, ![16384, 1024]⟩
abbrev S1024x1024 : Shape := ⟨2, ![1024, 1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S16384x7168, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x1024, .f32⟩
  | .hbm, ⟨5, _⟩ => ⟨S16384x1024, .f32⟩
  | .hbm, ⟨6, _⟩ => ⟨S16384x7168, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .bf16⟩
  | .hbm, ⟨64, _⟩ => ⟨S16384x1024, .bf16⟩
  | .hbm, ⟨65, _⟩ => ⟨S16384x1024, .bf16⟩
  | .hbm, ⟨66, _⟩ => ⟨S16384x1024, .bf16⟩
  | .hbm, ⟨67, _⟩ => ⟨S16384x1024, .bf16⟩
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Ffi.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S1024x4x704 : Shape := ⟨3, ![1024, 4, 704]⟩
abbrev S4x1024x704 : Shape := ⟨3, ![4, 1024, 704]⟩
abbrev S16384x4x704 : Shape := ⟨3, ![16384, 4, 704]⟩
abbrev S4x16384x704 : Shape := ⟨3, ![4, 16384, 704]⟩
abbrev S1x1024 : Shape := ⟨2, ![1, 1024]⟩
abbrev S1x512x704 : Shape := ⟨3, ![1, 512, 704]⟩
abbrev S1x1024x704 : Shape := ⟨3, ![1, 1024, 704]⟩
abbrev S512x1024 : Shape := ⟨2, ![512, 1024]⟩
abbrev S512x704 : Shape := ⟨2, ![512, 704]⟩
abbrev S1024x704 : Shape := ⟨2, ![1024, 704]⟩
abbrev S512 : Shape := ⟨1, ![512]⟩
abbrev S512x1 : Shape := ⟨2, ![512, 1]⟩

abbrev nBuf : Space → Nat
  | .hbm => 22
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S1024x4x704, .f32⟩
  | .hbm, ⟨8, _⟩ => ⟨S4x1024x704, .f32⟩
  | .hbm, ⟨9, _⟩ => ⟨S4x1024x704, .bf16⟩
  | .hbm, ⟨10, _⟩ => ⟨S1024x4x704, .f32⟩
  | .hbm, ⟨11, _⟩ => ⟨S4x1024x704, .f32⟩
  | .hbm, ⟨12, _⟩ => ⟨S4x1024x704, .bf16⟩
  | .hbm, ⟨13, _⟩ => ⟨S16384x4x704, .f32⟩
  | .hbm, ⟨14, _⟩ => ⟨S4x16384x704, .f32⟩
  | .hbm, ⟨15, _⟩ => ⟨S4x16384x704, .bf16⟩
  | .hbm, ⟨16, _⟩ => ⟨S16384x4x704, .f32⟩
  | .hbm, ⟨17, _⟩ => ⟨S4x16384x704, .f32⟩
  | .hbm, ⟨18, _⟩ => ⟨S4x16384x704, .bf16⟩
  | .hbm, ⟨19, _⟩ => ⟨S1x1024, .f32⟩
  | .hbm, ⟨20, _⟩ => ⟨S16384x1024, .f32⟩
  | .hbm, ⟨21, _⟩ => ⟨S1x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x1024x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x1024x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x1024x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x1024x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x1024x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x1024x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x1024x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem19_1 : DmaSem sig := 30
abbrev cc0_sem20_0 : DmaSem sig := 31

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 1 → Memref sig .tc .vmem S1x1024x704 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 1 → Memref sig .tc .vmem S1x1024x704 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]
-- ==== FfiRefIdeal.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Ipb.lean ====
abbrev S16384x1024 : Shape := ⟨2, ![16384, 1024]⟩
abbrev S1024 : Shape := ⟨1, ![1024]⟩
abbrev S1024x7168 : Shape := ⟨2, ![1024, 7168]⟩
abbrev S16384x7168 : Shape := ⟨2, ![16384, 7168]⟩
abbrev S1024x4x1792 : Shape := ⟨3, ![1024, 4, 1792]⟩
abbrev S4x1024x1792 : Shape := ⟨3, ![4, 1024, 1792]⟩
abbrev S1x1024 : Shape := ⟨2, ![1, 1024]⟩
abbrev S512x1792 : Shape := ⟨2, ![512, 1792]⟩
abbrev S1x1024x1792 : Shape := ⟨3, ![1, 1024, 1792]⟩
abbrev S512x1024 : Shape := ⟨2, ![512, 1024]⟩
abbrev S1024x1792 : Shape := ⟨2, ![1024, 1792]⟩
abbrev S512 : Shape := ⟨1, ![512]⟩
abbrev S512x1 : Shape := ⟨2, ![512, 1]⟩

abbrev nBuf : Space → Nat
  | .hbm => 11
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S16384x7168, .bf16⟩
  | .hbm, ⟨4, _⟩ => ⟨S16384x1024, .f32⟩
  | .hbm, ⟨5, _⟩ => ⟨S1024x4x1792, .f32⟩
  | .hbm, ⟨6, _⟩ => ⟨S4x1024x1792, .f32⟩
  | .hbm, ⟨7, _⟩ => ⟨S4x1024x1792, .bf16⟩
  | .hbm, ⟨8, _⟩ => ⟨S1x1024, .f32⟩
  | .hbm, ⟨9, _⟩ => ⟨S16384x1024, .f32⟩
  | .hbm, ⟨10, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1x1024x1792, .bf16⟩
  | .local _ .vmem, ⟨3, _⟩ => ⟨S512x1792, .bf16⟩
  | .local _ .vmem, ⟨4, _⟩ => ⟨S512x1792, .bf16⟩
  | .local _ .vmem, ⟨5, _⟩ => ⟨S1x1024x1792, .bf16⟩
  | .local _ .vmem, ⟨6, _⟩ => ⟨S512x1792, .bf16⟩
  | .local _ .vmem, ⟨7, _⟩ => ⟨S512x1792, .bf16⟩
  | .local _ .vmem, ⟨8, _⟩ => ⟨S1x1024x1792, .bf16⟩
  | .local _ .vmem, ⟨9, _⟩ => ⟨S512x1792, .bf16⟩
  | .local _ .vmem, ⟨10, _⟩ => ⟨S512x1792, .bf16⟩
  | .local _ .vmem, ⟨11, _⟩ => ⟨S1x1024x1792, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== IpbRefIdeal.lean ====
abbrev S16384x1024 : Shape := ⟨2, ![16384, 1024]⟩
abbrev S1024 : Shape := ⟨1, ![1024]⟩
abbrev S1024x7168 : Shape := ⟨2, ![1024, 7168]⟩
abbrev S16384x7168 : Shape := ⟨2, ![16384, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S16384x7168, .bf16⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x7168, .f32⟩
  | .hbm, ⟨26, _⟩ => ⟨S16384x7168, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Ple.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .hbm, ⟨9, _⟩ => ⟨S16384x1024, .bf16⟩
  | .hbm, ⟨10, _⟩ => ⟨S8x128, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x128, .f32⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== PleRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x128 : Shape := ⟨2, ![8, 128]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .bf16⟩
  | .hbm, ⟨93, _⟩ => ⟨S16384x1024, .bf16⟩
  | .hbm, ⟨94, _⟩ => ⟨S8x128, .f32⟩
  | .hbm, ⟨95, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_cst_18 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Dz.lean ====
abbrev S16384 : Shape := ⟨1, ![16384]⟩
abbrev S16384x1536 : Shape := ⟨2, ![16384, 1536]⟩
abbrev S16384x512 : Shape := ⟨2, ![16384, 512]⟩
abbrev S16384x1024 : Shape := ⟨2, ![16384, 1024]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S512x1 : Shape := ⟨2, ![512, 1]⟩
abbrev S512x128 : Shape := ⟨2, ![512, 128]⟩
abbrev S4096x2048 : Shape := ⟨2, ![4096, 2048]⟩
abbrev S1024x8192 : Shape := ⟨2, ![1024, 8192]⟩
abbrev S16384x7168 : Shape := ⟨2, ![16384, 7168]⟩
abbrev S512x512 : Shape := ⟨2, ![512, 512]⟩
abbrev S128x2048 : Shape := ⟨2, ![128, 2048]⟩
abbrev S32x8192 : Shape := ⟨2, ![32, 8192]⟩
abbrev S512x1024 : Shape := ⟨2, ![512, 1024]⟩
abbrev S512x7168 : Shape := ⟨2, ![512, 7168]⟩
abbrev S4x512x128 : Shape := ⟨3, ![4, 512, 128]⟩
abbrev S128x128 : Shape := ⟨2, ![128, 128]⟩
abbrev S1x512x128 : Shape := ⟨3, ![1, 512, 128]⟩
abbrev S32x128 : Shape := ⟨2, ![32, 128]⟩

abbrev nBuf : Space → Nat
  | .hbm => 43
  | .vmem => 42
  | .smem => 0
  | _ => 0

abbrev bufTy : (tb : Table) → Fin (tcTables nBuf tb) → BufTy
  | .hbm, ⟨0, _⟩ => ⟨S16384, .i32⟩
  | .hbm, ⟨1, _⟩ => ⟨S16384x1536, .bf16⟩
  | .hbm, ⟨2, _⟩ => ⟨S16384x1536, .bf16⟩
  | .hbm, ⟨3, _⟩ => ⟨S16384x1536, .bf16⟩
  | .hbm, ⟨4, _⟩ => ⟨S16384x512, .bf16⟩
  | .hbm, ⟨5, _⟩ => ⟨S16384x1024, .bf16⟩
  | .hbm, ⟨6, _⟩ => ⟨S16384x1024, .bf16⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S96, .f32⟩
  | .hbm, ⟨20, _⟩ => ⟨S128, .f32⟩
  | .hbm, ⟨21, _⟩ => ⟨S1x128, .f32⟩
  | .hbm, ⟨22, _⟩ => ⟨S16384, .f32⟩
  | .hbm, ⟨23, _⟩ => ⟨S16384x1, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S16384x512, .bf16⟩
  | .hbm, ⟨31, _⟩ => ⟨S4096x2048, .bf16⟩
  | .hbm, ⟨32, _⟩ => ⟨S16384x512, .bf16⟩
  | .hbm, ⟨33, _⟩ => ⟨S4096x2048, .bf16⟩
  | .hbm, ⟨34, _⟩ => ⟨S16384x512, .bf16⟩
  | .hbm, ⟨35, _⟩ => ⟨S4096x2048, .bf16⟩
  | .hbm, ⟨36, _⟩ => ⟨S16384x512, .bf16⟩
  | .hbm, ⟨37, _⟩ => ⟨S1024x8192, .bf16⟩
  | .hbm, ⟨38, _⟩ => ⟨S16384x512, .bf16⟩
  | .hbm, ⟨39, _⟩ => ⟨S1024x8192, .bf16⟩
  | .hbm, ⟨40, _⟩ => ⟨S16384x512, .bf16⟩
  | .hbm, ⟨41, _⟩ => ⟨S1024x8192, .bf16⟩
  | .hbm, ⟨42, _⟩ => ⟨S16384x7168, .bf16⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S32x8192, .bf16⟩
  | .local _ .vmem, ⟨22, _⟩ => ⟨S32x8192, .bf16⟩
  | .local _ .vmem, ⟨23, _⟩ => ⟨S32x8192, .bf16⟩
  | .local _ .vmem, ⟨24, _⟩ => ⟨S32x8192, .bf16⟩
  | .local _ .vmem, ⟨25, _⟩ => ⟨S32x8192, .bf16⟩
  | .local _ .vmem, ⟨26, _⟩ => ⟨S32x8192, .bf16⟩
  | .local _ .vmem, ⟨27, _⟩ => ⟨S512x512, .bf16⟩
  | .local _ .vmem, ⟨28, _⟩ => ⟨S512x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x7168, .bf16⟩
  | .local _ .vmem, ⟨40, _⟩ => ⟨S512x7168, .bf16⟩
  | .local _ .vmem, ⟨41, _⟩ => ⟨S4x512x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_stg12_1 : Ref sig .tc := ⟨.vmem, 34, rfl⟩
abbrev cc1_stg13_0 : Ref sig .tc := ⟨.vmem, 35, rfl⟩
abbrev cc1_stg13_1 : Ref sig .tc := ⟨.vmem, 36, rfl⟩
abbrev cc1_stg14_0 : Ref sig .tc := ⟨.vmem, 37, rfl⟩
abbrev cc1_stg14_1 : Ref sig .tc := ⟨.vmem, 38, rfl⟩
abbrev cc1_stg15_0 : Ref sig .tc := ⟨.vmem, 39, rfl⟩
abbrev cc1_stg15_1 : Ref sig .tc := ⟨.vmem, 40, rfl⟩
abbrev cc1_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc1_sem12_0 : DmaSem sig := 33
abbrev cc1_sem12_1 : DmaSem sig := 34
abbrev cc1_sem13_0 : DmaSem sig := 35
abbrev cc1_sem13_1 : DmaSem sig := 36
abbrev cc1_sem14_0 : DmaSem sig := 37
abbrev cc1_sem14_1 : DmaSem sig := 38
abbrev cc1_sem15_0 : DmaSem sig := 39
abbrev cc1_sem15_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x8192 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x8192 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S32x8192 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x7168 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== DzRefIdeal.lean ====
abbrev S16384 : Shape := ⟨1, ![16384]⟩
abbrev S16384x1536 : Shape := ⟨2, ![16384, 1536]⟩
abbrev S16384x512 : Shape := ⟨2, ![16384, 512]⟩
abbrev S16384x1024 : Shape := ⟨2, ![16384, 1024]⟩
abbrev S_ : Shape := ⟨0, ![]⟩
abbrev S16384x7168 : Shape := ⟨2, ![16384, 7168]⟩
abbrev S16384x12x128 : Shape := ⟨3, ![16384, 12, 128]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x12x32 : Shape := ⟨3, ![16384, 12, 32]⟩
abbrev S16384x12x16 : Shape := ⟨3, ![16384, 12, 16]⟩
abbrev S16384x12x96 : Shape := ⟨3, ![16384, 12, 96]⟩

abbrev nBuf : Space → Nat
  | .hbm => 177
  | .vmem => 0
  | .smem => 0
  | _ => 0

abbrev hbmTy0_0 (i : Nat) : BufTy := match i % 128 with
  | 0 => ⟨S16384, .i32⟩
  | 1 => ⟨S16384x1536, .bf16⟩
  | 2 => ⟨S16384x1536, .bf16⟩
  | 3 => ⟨S16384x1536, .bf16⟩
  | 4 => ⟨S16384x512, .bf16⟩
  | 5 => ⟨S16384x1024, .bf16⟩
  | 6 => ⟨S16384x1024, .bf16⟩
  | 7 => ⟨S16384x1536, .f32⟩
  | 8 => ⟨S16384x1536, .f32⟩
  | 9 => ⟨S16384x1536, .f32⟩
  | 10 => ⟨S16384x512, .f32⟩
  | 11 => ⟨S16384x1024, .f32⟩
  | 12 => ⟨S16384x1024, .f32⟩
  | 13 => ⟨S_, .f32⟩
  | 14 => ⟨S16384x7168, .f32⟩
  | 15 => ⟨S16384x1536, .f32⟩
  | 16 => ⟨S16384x12x128, .f32⟩
  | 17 => ⟨S16384x1536, .f32⟩
  | 18 => ⟨S16384x12x128, .f32⟩
  | 19 => ⟨S16384x1536, .f32⟩
  | 20 => ⟨S16384x512, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16384, .f32⟩
  | 33 => ⟨S16384x1, .f32⟩
  | 34 => ⟨S1x16, .f32⟩
  | 35 => ⟨S16384x16, .f32⟩
  | 36 => ⟨S16384x16, .f32⟩
  | 37 => ⟨S16384x16, .f32⟩
  | 38 => ⟨S16384x16, .f32⟩
  | 39 => ⟨S16384x1x16, .f32⟩
  | 40 => ⟨S16384x16, .f32⟩
  | 41 => ⟨S16384x1x16, .f32⟩
  | 42 => ⟨S16384x12x32, .f32⟩
  | 43 => ⟨S16384x12x16, .f32⟩
  | 44 => ⟨S16384x12x16, .f32⟩
  | 45 => ⟨S16384x12x16, .f32⟩
  | 46 => ⟨S16384x12x16, .f32⟩
  | 47 => ⟨S16384x12x16, .f32⟩
  | 48 => ⟨S16384x12x16, .f32⟩
  | 49 => ⟨S16384x12x16, .f32⟩
  | 50 => ⟨S16384x12x16, .f32⟩
  | 51 => ⟨S16384x12x16, .f32⟩
  | 52 => ⟨S16384x12x16, .f32⟩
  | 53 => ⟨S16384x12x16, .f32⟩
  | 54 => ⟨S16384x12x16, .f32⟩
  | 55 => ⟨S16384x12x32, .f32⟩
  | 56 => ⟨S16384x12x96, .f32⟩
  | 57 => ⟨S16384x12x128, .f32⟩
  | 58 => ⟨S_, .f32⟩
  | 59 => ⟨S16384x12x128, .f32⟩
  | 60 => ⟨S16384x12x128, .f32⟩
  | 61 => ⟨S16384x1536, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16384, .f32⟩
  | 74 => ⟨S16384x1, .f32⟩
  | 75 => ⟨S1x16, .f32⟩
  | 76 => ⟨S16384x16, .f32⟩
  | 77 => ⟨S16384x16, .f32⟩
  | 78 => ⟨S16384x16, .f32⟩
  | 79 => ⟨S16384x16, .f32⟩
  | 80 => ⟨S16384x1x16, .f32⟩
  | 81 => ⟨S16384x16, .f32⟩
  | 82 => ⟨S16384x1x16, .f32⟩
  | 83 => ⟨S16384x12x32, .f32⟩
  | 84 => ⟨S16384x12x16, .f32⟩
  | 85 => ⟨S16384x12x16, .f32⟩
  | 86 => ⟨S16384x12x16, .f32⟩
  | 87 => ⟨S16384x12x16, .f32⟩
  | 88 => ⟨S16384x12x16, .f32⟩
  | 89 => ⟨S16384x12x16, .f32⟩
  | 90 => ⟨S16384x12x16, .f32⟩
  | 91 => ⟨S16384x12x16, .f32⟩
  | 92 => ⟨S16384x12x16, .f32⟩
  | 93 => ⟨S16384x12x16, .f32⟩
  | 94 => ⟨S16384x12x16, .f32⟩
  | 95 => ⟨S16384x12x16, .f32⟩
  | 96 => ⟨S16384x12x32, .f32⟩
  | 97 => ⟨S16384x12x96, .f32⟩
  | 98 => ⟨S16384x12x128, .f32⟩
  | 99 => ⟨S16384x1536, .f32⟩
  | 100 => ⟨S16384x1024, .f32⟩
  | 101 => ⟨S16384x1024, .f32⟩
  | 102 => ⟨S_, .f32⟩
  | 103 => ⟨S16384x7168, .f32⟩
  | 104 => ⟨S_, .f32⟩
  | 105 => ⟨S16384x7168, .f32⟩
  | 106 => ⟨S16384x7168, .f32⟩
  | 107 => ⟨S16384x12x128, .f32⟩
  | 108 => ⟨S16384x12x32, .f32⟩
  | 109 => ⟨S16384x12x96, .f32⟩
  | 110 => ⟨S_, .f32⟩
  | 111 => ⟨S16384x12x128, .f32⟩
  | 112 => ⟨S16384x12x16, .f32⟩
  | 113 => ⟨S16384x12x16, .f32⟩
  | 114 => ⟨S16384x12x16, .f32⟩
  | 115 => ⟨S16384x12x16, .f32⟩
  | 116 => ⟨S16384x12x16, .f32⟩
  | 117 => ⟨S16384x12x16, .f32⟩
  | 118 => ⟨S16384x12x16, .f32⟩
  | 119 => ⟨S16384x12x16, .f32⟩
  | 120 => ⟨S16384x12x16, .f32⟩
  | 121 => ⟨S16384x12x16, .f32⟩
  | 122 => ⟨S16384x12x16, .f32⟩
  | 123 => ⟨S16384x12x16, .f32⟩
  | 124 => ⟨S16384x12x16, .f32⟩
  | 125 => ⟨S_, .f32⟩
  | 126 => ⟨S16384x12x32, .f32⟩
  | 127 => ⟨S_, .f32⟩
  | _ => ⟨S16384, .i32⟩

abbrev hbmTy0_1 (i : Nat) : BufTy := match i % 128 with
  | 0 => ⟨S16384x12x32, .f32⟩
  | 1 => ⟨S16384x12x32, .f32⟩
  | 2 => ⟨S_, .f32⟩
  | 3 => ⟨S16384x12x128, .f32⟩
  | 4 => ⟨S16384x12x128, .f32⟩
  | 5 => ⟨S16384x12x128, .f32⟩
  | 6 => ⟨S_, .f32⟩
  | 7 => ⟨S16384x12x128, .f32⟩
  | 8 => ⟨S16384x12x128, .f32⟩
  | 9 => ⟨S16384x12x32, .f32⟩
  | 10 => ⟨S16384x12x96, .f32⟩
  | 11 => ⟨S_, .f32⟩
  | 12 => ⟨S16384x12x128, .f32⟩
  | 13 => ⟨S16384x12x16, .f32⟩
  | 14 => ⟨S16384x12x16, .f32⟩
  | 15 => ⟨S16384x12x16, .f32⟩
  | 16 => ⟨S16384x12x16, .f32⟩
  | 17 => ⟨S16384x12x16, .f32⟩
  | 18 => ⟨S16384x12x16, .f32⟩
  | 19 => ⟨S16384x12x16, .f32⟩
  | 20 => ⟨S16384x12x16, .f32⟩
  | 21 => ⟨S16384x12x16, .f32⟩
  | 22 => ⟨S16384x12x16, .f32⟩
  | 23 => ⟨S16384x12x16, .f32⟩
  | 24 => ⟨S16384x12x16, .f32⟩
  | 25 => ⟨S16384x12x16, .f32⟩
  | 26 => ⟨S_, .f32⟩
  | 27 => ⟨S16384x12x32, .f32⟩
  | 28 => ⟨S_, .f32⟩
  | 29 => ⟨S16384x12x32, .f32⟩
  | 30 => ⟨S16384x12x32, .f32⟩
  | 31 => ⟨S_, .f32⟩
  | 32 => ⟨S16384x12x128, .f32⟩
  | 33 => ⟨S16384x12x128, .f32⟩
  | 34 => ⟨S_, .f32⟩
  | 35 => ⟨S16384x7168, .f32⟩
  | 36 => ⟨S16384x7168, .f32⟩
  | 37 => ⟨S_, .f32⟩
  | 38 => ⟨S16384x7168, .f32⟩
  | 39 => ⟨S16384x7168, .f32⟩
  | 40 => ⟨S16384x1536, .f32⟩
  | 41 => ⟨S_, .f32⟩
  | 42 => ⟨S16384x7168, .f32⟩
  | 43 => ⟨S16384x7168, .f32⟩
  | 44 => ⟨S16384x1536, .f32⟩
  | 45 => ⟨S_, .f32⟩
  | 46 => ⟨S16384x7168, .f32⟩
  | 47 => ⟨S16384x7168, .f32⟩
  | 48 => ⟨S16384x7168, .bf16⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_9 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_10 : Ref sig .tc := ⟨.hbm, 125, rfl⟩
abbrev main_v107 : Ref sig .tc := ⟨.hbm, 126, rfl⟩
abbrev main_cst_11 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_13 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_14 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_15 : Ref sig .tc := ⟨.hbm, 154, rfl⟩
abbrev main_v131 : Ref sig .tc := ⟨.hbm, 155, rfl⟩
abbrev main_cst_16 : Ref sig .tc := ⟨.hbm, 156, rfl⟩
abbrev main_v132 : Ref sig .tc := ⟨.hbm, 157, rfl⟩
abbrev main_v133 : Ref sig .tc := ⟨.hbm, 158, rfl⟩
abbrev main_cst_17 : Ref sig .tc := ⟨.hbm, 159, rfl⟩
abbrev main_v134 : Ref sig .tc := ⟨.hbm, 160, rfl⟩
abbrev main_v135 : Ref sig .tc := ⟨.hbm, 161, rfl⟩
abbrev main_cst_18 : Ref sig .tc := ⟨.hbm, 162, rfl⟩
abbrev main_v136 : Ref sig .tc := ⟨.hbm, 163, rfl⟩
abbrev main_v137 : Ref sig .tc := ⟨.hbm, 164, rfl⟩
abbrev main_cst_19 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_20 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_21 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩

abbrev nD : Nat := 1
abbrev τ : Topo := Topo.v7x

variable {F : FTy → Type} [FloatOps F]
-- ==== Spb.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S32x1x64 : Shape := ⟨3, ![32, 1, 64]⟩

abbrev nBuf : Space → Nat
  | .hbm => 19
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x16x64, .f32⟩
  | .hbm, ⟨10, _⟩ => ⟨S32x16x64, .f32⟩
  | .hbm, ⟨11, _⟩ => ⟨S32x1, .f32⟩
  | .hbm, ⟨12, _⟩ => ⟨S32x16x64, .f32⟩
  | .hbm, ⟨13, _⟩ => ⟨S32x16x64, .f32⟩
  | .hbm, ⟨14, _⟩ => ⟨S32x64, .f32⟩
  | .hbm, ⟨15, _⟩ => ⟨S32x64, .f32⟩
  | .hbm, ⟨16, _⟩ => ⟨S32x1, .f32⟩
  | .hbm, ⟨17, _⟩ => ⟨S32x16x64, .f32⟩
  | .hbm, ⟨18, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== SpbRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 170
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64x1, .f32⟩
  | 47 => ⟨S32x64x16, .f32⟩
  | 48 => ⟨S32x64x16, .f32⟩
  | 49 => ⟨S32x64x1, .f32⟩
  | 50 => ⟨S32x64x16, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S_, .f32⟩
  | 66 => ⟨S32x64, .f32⟩
  | 67 => ⟨S32x64x1, .f32⟩
  | 68 => ⟨S_, .f32⟩
  | 69 => ⟨S32x64, .f32⟩
  | 70 => ⟨S32x64x16, .f32⟩
  | 71 => ⟨S32x64x16, .f32⟩
  | 72 => ⟨S32x64x16, .f32⟩
  | 73 => ⟨S_, .f32⟩
  | 74 => ⟨S32x64, .f32⟩
  | 75 => ⟨S32x64x1, .f32⟩
  | 76 => ⟨S_, .f32⟩
  | 77 => ⟨S32x64, .f32⟩
  | 78 => ⟨S32x64x16, .f32⟩
  | 79 => ⟨S32x64x16, .f32⟩
  | 80 => ⟨S32x64x16, .f32⟩
  | 81 => ⟨S32x64x16, .f32⟩
  | 82 => ⟨S32x64x16, .f32⟩
  | 83 => ⟨S32x64x16, .f32⟩
  | 84 => ⟨S_, .f32⟩
  | 85 => ⟨S32x64, .f32⟩
  | 86 => ⟨S32x64x1, .f32⟩
  | 87 => ⟨S_, .f32⟩
  | 88 => ⟨S32x64, .f32⟩
  | 89 => ⟨S32x64, .f32⟩
  | 90 => ⟨S32x64x16, .f32⟩
  | 91 => ⟨S32x64x16, .f32⟩
  | 92 => ⟨S32x64x16, .f32⟩
  | 93 => ⟨S32x64x16, .f32⟩
  | 94 => ⟨S_, .f32⟩
  | 95 => ⟨S32x64, .f32⟩
  | 96 => ⟨S32x64x1, .f32⟩
  | 97 => ⟨S_, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S_, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S_, .f32⟩
  | 21 => ⟨S32, .f32⟩
  | 22 => ⟨S32x1, .f32⟩
  | 23 => ⟨S32x1, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32, .f32⟩
  | 31 => ⟨S32x1, .f32⟩
  | 32 => ⟨S32x1, .f32⟩
  | 33 => ⟨S32x64, .f32⟩
  | 34 => ⟨S32x64, .f32⟩
  | 35 => ⟨S32x64, .f32⟩
  | 36 => ⟨S_, .f32⟩
  | 37 => ⟨S32, .f32⟩
  | 38 => ⟨S32, .f32⟩
  | 39 => ⟨S32x1, .f32⟩
  | 40 => ⟨S32x16x64, .f32⟩
  | 41 => ⟨S32x16x64, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_10 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩

abbrev nD : Nat := 1
abbrev τ : Topo := Topo.v7x

variable {F : FTy → Type} [FloatOps F]
-- ==== Att1.lean ====
abbrev S16384x512 : Shape := ⟨2, ![16384, 512]⟩
abbrev S16384x128 : Shape := ⟨2, ![16384, 128]⟩
abbrev S1024x512 : Shape := ⟨2, ![1024, 512]⟩
abbrev S128x512 : Shape := ⟨2, ![128, 512]⟩
abbrev S1024x128 : Shape := ⟨2, ![1024, 128]⟩
abbrev S128x256 : Shape := ⟨2, ![128, 256]⟩
abbrev S128x128 : Shape := ⟨2, ![128, 128]⟩
abbrev S1152x128 : Shape := ⟨2, ![1152, 128]⟩
abbrev S256x128 : Shape := ⟨2, ![256, 128]⟩
abbrev S128 : Shape := ⟨1, ![128]⟩
abbrev S128x1 : Shape := ⟨2, ![128, 1]⟩
abbrev S128x32 : Shape := ⟨2, ![128, 32]⟩
abbrev S1024x1 : Shape := ⟨2, ![1024, 1]⟩
abbrev S1024 : Shape := ⟨1, ![1024]⟩

abbrev nBuf : Space → Nat
  | .hbm => 9
  | .vmem => 44
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x128, .f32⟩
  | .hbm, ⟨6, _⟩ => ⟨S16384x512, .bf16⟩
  | .hbm, ⟨7, _⟩ => ⟨S16384x512, .bf16⟩
  | .hbm, ⟨8, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .bf16⟩
  | .local _ .vmem, ⟨9, _⟩ => ⟨S128x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S128x512, .bf16⟩
  | .local _ .vmem, ⟨17, _⟩ => ⟨S128x512, .bf16⟩
  | .local _ .vmem, ⟨18, _⟩ => ⟨S1024x512, .bf16⟩
  | .local _ .vmem, ⟨19, _⟩ => ⟨S1024x512, .bf16⟩
  | .local _ .vmem, ⟨20, _⟩ => ⟨S128x512, .bf16⟩
  | .local _ .vmem, ⟨21, _⟩ => ⟨S128x512, .bf16⟩
  | .local _ .vmem, ⟨22, _⟩ => ⟨S1024x512, .bf16⟩
  | .local _ .vmem, ⟨23, _⟩ => ⟨S1024x512, .bf16⟩
  | .local _ .vmem, ⟨24, _⟩ => ⟨S128x512, .bf16⟩
  | .local _ .vmem, ⟨25, _⟩ => ⟨S128x512, .bf16⟩
  | .local _ .vmem, ⟨26, _⟩ => ⟨S1024x512, .bf16⟩
  | .local _ .vmem, ⟨27, _⟩ => ⟨S1024x512, .bf16⟩
  | .local _ .vmem, ⟨28, _⟩ => ⟨S128x512, .bf16⟩
  | .local _ .vmem, ⟨29, _⟩ => ⟨S128x512, .bf16⟩
  | .local _ .vmem, ⟨30, _⟩ => ⟨S1024x512, .bf16⟩
  | .local _ .vmem, ⟨31, _⟩ => ⟨S1024x512, .bf16⟩
  | .local _ .vmem, ⟨32, _⟩ => ⟨S128x512, .bf16⟩
  | .local _ .vmem, ⟨33, _⟩ => ⟨S128x512, .bf16⟩
  | .local _ .vmem, ⟨34, _⟩ => ⟨S1024x128, .f32⟩
  | .local _ .vmem, ⟨35, _⟩ => ⟨S1024x128, .f32⟩
  | .local _ .vmem, ⟨36, _⟩ => ⟨S128x128, .f32⟩
  | .local _ .vmem, ⟨37, _⟩ => ⟨S128x128, .f32⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi arg0 c0_i32
  let c0_i32_0 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi arg0 c0_i32
  let c0_i32_0 : BitVec 32 := 0#32
  ![v2.toNat, v3.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi arg0 c0_i32
  let c0_i32_0 : BitVec 32 := 0#32
  ![v2.toNat, v3.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1024x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1024x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1024x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== Att1Ideal.lean ====
variable {F : FTy → Type} [FloatOps F] [Named F]
def κ : String → Option EReal := fun
  | "mask" => some ⊥
  | _ => none
-- ==== Att1RefIdeal.lean ====
abbrev S16384x512 : Shape := ⟨2, ![16384, 512]⟩
abbrev S16384x4x128 : Shape := ⟨3, ![16384, 4, 128]⟩
abbrev S16384x1x4x128 : Shape := ⟨4, ![16384, 1, 4, 128]⟩
abbrev S1x16384x4x128 : Shape := ⟨4, ![1, 16384, 4, 128]⟩
abbrev S1x128x128x4x128 : Shape := ⟨5, ![1, 128, 128, 4, 128]⟩
abbrev S1x1x128x4x128 : Shape := ⟨5, ![1, 1, 128, 4, 128]⟩
abbrev S_ : Shape := ⟨0, ![]⟩
abbrev S1x127x128x4x128 : Shape := ⟨5, ![1, 127, 128, 4, 128]⟩
abbrev S1x128x256x4x128 : Shape := ⟨5, ![1, 128, 256, 4, 128]⟩
abbrev S1x128x4x128x256 : Shape := ⟨5, ![1, 128, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x128x256 : Shape := ⟨5, ![1, 128, 1, 128, 256]⟩
abbrev S1x128x4x128 : Shape := ⟨4, ![1, 128, 4, 128]⟩
abbrev S1x128x4x128x1 : Shape := ⟨5, ![1, 128, 4, 128, 1]⟩
abbrev S1x128x4x128x128 : Shape := ⟨5, ![1, 128, 4, 128, 128]⟩
abbrev S1x128x128x4 : Shape := ⟨4, ![1, 128, 128, 4]⟩
abbrev S1x128x128x4x1 : Shape := ⟨5, ![1, 128, 128, 4, 1]⟩
abbrev S1x16384x4 : Shape := ⟨3, ![1, 16384, 4]⟩
abbrev S16384x1x4 : Shape := ⟨3, ![16384, 1, 4]⟩
abbrev S16384x4 : Shape := ⟨2, ![16384, 4]⟩
abbrev S16384x4x1 : Shape := ⟨3, ![16384, 4, 1]⟩
abbrev S16384x4x32 : Shape := ⟨3, ![16384, 4, 32]⟩
abbrev S16384x128 : Shape := ⟨2, ![16384, 128]⟩
abbrev S128x128x4 : Shape := ⟨3, ![128, 128, 4]⟩
abbrev S128x4x128 : Shape := ⟨3, ![128, 4, 128]⟩
abbrev S1x128x4x256x128 : Shape := ⟨5, ![1, 128, 4, 256, 128]⟩

abbrev nBuf : Space → Nat
  | .hbm => 206
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S16384x512, .f32⟩
  | 5 => ⟨S16384x4x128, .f32⟩
  | 6 => ⟨S16384x512, .f32⟩
  | 7 => ⟨S16384x4x128, .f32⟩
  | 8 => ⟨S16384x512, .f32⟩
  | 9 => ⟨S16384x4x128, .f32⟩
  | 10 => ⟨S16384x1x4x128, .f32⟩
  | 11 => ⟨S1x16384x4x128, .f32⟩
  | 12 => ⟨S1x128x128x4x128, .f32⟩
  | 13 => ⟨S16384x1x4x128, .f32⟩
  | 14 => ⟨S1x16384x4x128, .f32⟩
  | 15 => ⟨S1x128x128x4x128, .f32⟩
  | 16 => ⟨S1x1x128x4x128, .f32⟩
  | 17 => ⟨S_, .f32⟩
  | 18 => ⟨S1x1x128x4x128, .f32⟩
  | 19 => ⟨S1x127x128x4x128, .f32⟩
  | 20 => ⟨S1x128x128x4x128, .f32⟩
  | 21 => ⟨S_, .f32⟩
  | 22 => ⟨S1x1x128x4x128, .f32⟩
  | 23 => ⟨S1x128x256x4x128, .f32⟩
  | 24 => ⟨S16384x1x4x128, .f32⟩
  | 25 => ⟨S1x16384x4x128, .f32⟩
  | 26 => ⟨S1x128x128x4x128, .f32⟩
  | 27 => ⟨S1x1x128x4x128, .f32⟩
  | 28 => ⟨S_, .f32⟩
  | 29 => ⟨S1x1x128x4x128, .f32⟩
  | 30 => ⟨S1x127x128x4x128, .f32⟩
  | 31 => ⟨S1x128x128x4x128, .f32⟩
  | 32 => ⟨S_, .f32⟩
  | 33 => ⟨S1x1x128x4x128, .f32⟩
  | 34 => ⟨S1x128x256x4x128, .f32⟩
  | 35 => ⟨S1x128x4x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S128, .i32⟩
  | 54 => ⟨S_, .i32⟩
  | 55 => ⟨S128, .i32⟩
  | 56 => ⟨S128, .i1⟩
  | 57 => ⟨S128x1x1, .i1⟩
  | 58 => ⟨S1x128x256, .i1⟩
  | 59 => ⟨S_, .i32⟩
  | 60 => ⟨S1x256, .i32⟩
  | 61 => ⟨S1x256, .i1⟩
  | 62 => ⟨S1x1x256, .i1⟩
  | 63 => ⟨S128x1x256, .i1⟩
  | 64 => ⟨S128x1x256, .i1⟩
  | 65 => ⟨S128x1x256, .i1⟩
  | 66 => ⟨S128x128x256, .i1⟩
  | 67 => ⟨S128x128x256, .i1⟩
  | 68 => ⟨S128x128x256, .i1⟩
  | 69 => ⟨S1x128x1x128x256, .i1⟩
  | 70 => ⟨S_, .f32⟩
  | 71 => ⟨S_, .f32⟩
  | 72 => ⟨S1x128x4x128x256, .i1⟩
  | 73 => ⟨S1x128x4x128x256, .f32⟩
  | 74 => ⟨S1x128x4x128x256, .f32⟩
  | 75 => ⟨S_, .f32⟩
  | 76 => ⟨S1x128x4x128x256, .f32⟩
  | 77 => ⟨S_, .f32⟩
  | 78 => ⟨S1x128x4x128, .f32⟩
  | 79 => ⟨S1x128x4x128x1, .f32⟩
  | 80 => ⟨S1x128x4x128x256, .f32⟩
  | 81 => ⟨S1x128x4x128x256, .i1⟩
  | 82 => ⟨S1x128x4x128x256, .f32⟩
  | 83 => ⟨S_, .f32⟩
  | 84 => ⟨S1x128x4x128, .f32⟩
  | 85 => ⟨S1x128x4x128x1, .f32⟩
  | 86 => ⟨S1x128x4x128x256, .f32⟩
  | 87 => ⟨S1x128x4x128x256, .f32⟩
  | 88 => ⟨S1x128x4x128x256, .f32⟩
  | 89 => ⟨S_, .f32⟩
  | 90 => ⟨S1x128x4x128, .f32⟩
  | 91 => ⟨S1x128x4x128x1, .f32⟩
  | 92 => ⟨S1x128x4x128x128, .f32⟩
  | 93 => ⟨S1x128x128x4x128, .f32⟩
  | 94 => ⟨S1x128x4x128, .f32⟩
  | 95 => ⟨S1x128x128x4, .f32⟩
  | 96 => ⟨S1x128x128x4x1, .f32⟩
  | 97 => ⟨S1x128x128x4x128, .f32⟩
  | 98 => ⟨S1x128x128x4x128, .f32⟩
  | 99 => ⟨S1x128x128x4x1, .f32⟩
  | 100 => ⟨S_, .f32⟩
  | 101 => ⟨S1x128x128x4x1, .f32⟩
  | 102 => ⟨S1x128x128x4x1, .f32⟩
  | 103 => ⟨S1x128x4x128, .f32⟩
  | 104 => ⟨S1x128x4x128, .f32⟩
  | 105 => ⟨S1x128x4x128, .f32⟩
  | 106 => ⟨S1x128x4x128, .f32⟩
  | 107 => ⟨S1x128x128x4, .f32⟩
  | 108 => ⟨S1x16384x4x128, .f32⟩
  | 109 => ⟨S16384x1x4x128, .f32⟩
  | 110 => ⟨S16384x4x128, .f32⟩
  | 111 => ⟨S1x16384x4, .f32⟩
  | 112 => ⟨S16384x1x4, .f32⟩
  | 113 => ⟨S16384x4, .f32⟩
  | 114 => ⟨S16384x4x1, .f32⟩
  | 115 => ⟨S16384x4x32, .f32⟩
  | 116 => ⟨S16384x128, .f32⟩
  | 117 => ⟨S16384x512, .f32⟩
  | 118 => ⟨S16384x512, .bf16⟩
  | 119 => ⟨S16384x512, .f32⟩
  | 120 => ⟨S16384x4x128, .f32⟩
  | 121 => ⟨S_, .f32⟩
  | 122 => ⟨S16384x4, .f32⟩
  | 123 => ⟨S16384x1x4, .f32⟩
  | 124 => ⟨S1x16384x4, .f32⟩
  | 125 => ⟨S1x128x128x4, .f32⟩
  | 126 => ⟨S16384x1x4x128, .f32⟩
  | 127 => ⟨S1x16384x4x128, .f32⟩
  | _ => ⟨S16384x512, .bf16⟩

abbrev hbmTy0_1 (i : Nat) : BufTy := match i % 128 with
  | 0 => ⟨S1x128x128x4x128, .f32⟩
  | 1 => ⟨S1x128x4x128, .f32⟩
  | 2 => ⟨S1x128x4x128, .f32⟩
  | 3 => ⟨S1x128x4x128x1, .f32⟩
  | 4 => ⟨S1x128x4x128x1, .f32⟩
  | 5 => ⟨S1x128x128x4x128, .f32⟩
  | 6 => ⟨S1x128x128x4x128, .f32⟩
  | 7 => ⟨S1x128x128x4x128, .f32⟩
  | 8 => ⟨S_, .f32⟩
  | 9 => ⟨S1x128x128x4, .f32⟩
  | 10 => ⟨S1x128x128x4x1, .f32⟩
  | 11 => ⟨S1x128x128x4x1, .f32⟩
  | 12 => ⟨S1x128x128x4x128, .f32⟩
  | 13 => ⟨S1x128x128x4x128, .f32⟩
  | 14 => ⟨S_, .f32⟩
  | 15 => ⟨S128x128x4, .f32⟩
  | 16 => ⟨S1x128x128x4, .f32⟩
  | 17 => ⟨S1x128x4x128, .f32⟩
  | 18 => ⟨S1x128x4x128x1, .f32⟩
  | 19 => ⟨S1x128x4x128x1, .f32⟩
  | 20 => ⟨S1x128x4x128x128, .f32⟩
  | 21 => ⟨S1x128x4x128x256, .f32⟩
  | 22 => ⟨S1x128x4x128x256, .f32⟩
  | 23 => ⟨S1x128x256x4x128, .f32⟩
  | 24 => ⟨S_, .f32⟩
  | 25 => ⟨S128x4x128, .f32⟩
  | 26 => ⟨S1x128x4x128, .f32⟩
  | 27 => ⟨S1x128x4x128x256, .f32⟩
  | 28 => ⟨S1x128x4x128x256, .f32⟩
  | 29 => ⟨S1x128x4x128x256, .f32⟩
  | 30 => ⟨S1x128x4x128x256, .f32⟩
  | 31 => ⟨S_, .f32⟩
  | 32 => ⟨S1x128x4x128, .f32⟩
  | 33 => ⟨S1x128x4x128x1, .f32⟩
  | 34 => ⟨S1x128x4x128x1, .f32⟩
  | 35 => ⟨S_, .f32⟩
  | 36 => ⟨S128x4x128, .f32⟩
  | 37 => ⟨S1x128x4x128, .f32⟩
  | 38 => ⟨S1x128x4x128, .f32⟩
  | 39 => ⟨S1x128x4x128x256, .f32⟩
  | 40 => ⟨S1x128x4x128x256, .f32⟩
  | 41 => ⟨S1x128x4x128x256, .f32⟩
  | 42 => ⟨S_, .f32⟩
  | 43 => ⟨S1x128x4x128x256, .f32⟩
  | 44 => ⟨S1x128x4x128x256, .f32⟩
  | 45 => ⟨S1x128x4x256x128, .f32⟩
  | 46 => ⟨S1x128x256x4x128, .f32⟩
  | 47 => ⟨S1x128x4x128x128, .f32⟩
  | 48 => ⟨S1x128x128x4x128, .f32⟩
  | 49 => ⟨S1x128x128x4x128, .f32⟩
  | 50 => ⟨S1x128x128x4x128, .f32⟩
  | 51 => ⟨S1x1x128x4x128, .f32⟩
  | 52 => ⟨S1x127x128x4x128, .f32⟩
  | 53 => ⟨S_, .f32⟩
  | 54 => ⟨S1x128x128x4x128, .f32⟩
  | 55 => ⟨S1x128x128x4x128, .f32⟩
  | 56 => ⟨S1x16384x4x128, .f32⟩
  | 57 => ⟨S16384x1x4x128, .f32⟩
  | 58 => ⟨S16384x4x128, .f32⟩
  | 59 => ⟨S1x128x128x4x128, .f32⟩
  | 60 => ⟨S1x128x128x4x128, .f32⟩
  | 61 => ⟨S1x1x128x4x128, .f32⟩
  | 62 => ⟨S1x127x128x4x128, .f32⟩
  | 63 => ⟨S_, .f32⟩
  | 64 => ⟨S1x128x128x4x128, .f32⟩
  | 65 => ⟨S1x128x128x4x128, .f32⟩
  | 66 => ⟨S1x16384x4x128, .f32⟩
  | 67 => ⟨S16384x1x4x128, .f32⟩
  | 68 => ⟨S16384x4x128, .f32⟩
  | 69 => ⟨S1x16384x4x128, .f32⟩
  | 70 => ⟨S16384x1x4x128, .f32⟩
  | 71 => ⟨S16384x4x128, .f32⟩
  | 72 => ⟨S16384x512, .f32⟩
  | 73 => ⟨S16384x512, .bf16⟩
  | 74 => ⟨S16384x512, .f32⟩
  | 75 => ⟨S16384x512, .bf16⟩
  | 76 => ⟨S16384x512, .f32⟩
  | 77 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call0_v0 : Ref sig .tc := ⟨.hbm, 71, rfl⟩
abbrev main_v57_1 : Ref sig .tc := ⟨.hbm, 72, rfl⟩
abbrev main_call0_v2 : Ref sig .tc := ⟨.hbm, 73, rfl⟩
abbrev main_v57_0 : Ref sig .tc := ⟨.hbm, 74, rfl⟩
abbrev main_call0_cst : Ref sig .tc := ⟨.hbm, 75, rfl⟩
abbrev main_v57_2 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_13 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_14 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_15 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_17 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_call1_cst : Ref sig .tc := ⟨.hbm, 170, rfl⟩
abbrev main_call1_v0 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_cst_18 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_19 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩

abbrev nD : Nat := 1
abbrev τ : Topo := Topo.v7x

variable {F : FTy → Type} [FloatOps F]
-- ==== Att4.lean ====
abbrev S16384x512 : Shape := ⟨2, ![16384, 512]⟩
abbrev S4096x2048 : Shape := ⟨2, ![4096, 2048]⟩
abbrev S4096x512 : Shape := ⟨2, ![4096, 512]⟩
abbrev S1024x512 : Shape := ⟨2, ![1024, 512]⟩
abbrev S128x512 : Shape := ⟨2, ![128, 512]⟩
abbrev S1024x128 : Shape := ⟨2, ![1024, 128]⟩
abbrev S128x256 : Shape := ⟨2, ![128, 256]⟩
abbrev S128x128 : Shape := ⟨2, ![128, 128]⟩
abbrev S1152x128 : Shape := ⟨2, ![1152, 128]⟩
abbrev S256x128 : Shape := ⟨2, ![256, 128]⟩
abbrev S128 : Shape := ⟨1, ![128]⟩
abbrev S128x1 : Shape := ⟨2, ![128, 1]⟩
abbrev S128x32 : Shape := ⟨2, ![128, 32]⟩
abbrev S1024x1 : Shape := ⟨2, ![1024, 1]⟩
abbrev S1024 : Shape := ⟨1, ![1024]⟩

abbrev nBuf : Space → Nat
  | .hbm => 16
  | .vmem => 44
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x512, .f32⟩
  | .hbm, ⟨9, _⟩ => ⟨S4096x2048, .bf16⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .bf16⟩
  | .local _ .vmem, ⟨9, _⟩ => ⟨S128x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S128x512, .bf16⟩
  | .local _ .vmem, ⟨17, _⟩ => ⟨S128x512, .bf16⟩
  | .local _ .vmem, ⟨18, _⟩ => ⟨S1024x512, .bf16⟩
  | .local _ .vmem, ⟨19, _⟩ => ⟨S1024x512, .bf16⟩
  | .local _ .vmem, ⟨20, _⟩ => ⟨S128x512, .bf16⟩
  | .local _ .vmem, ⟨21, _⟩ => ⟨S128x512, .bf16⟩
  | .local _ .vmem, ⟨22, _⟩ => ⟨S1024x512, .bf16⟩
  | .local _ .vmem, ⟨23, _⟩ => ⟨S1024x512, .bf16⟩
  | .local _ .vmem, ⟨24, _⟩ => ⟨S128x512, .bf16⟩
  | .local _ .vmem, ⟨25, _⟩ => ⟨S128x512, .bf16⟩
  | .local _ .vmem, ⟨26, _⟩ => ⟨S1024x512, .bf16⟩
  | .local _ .vmem, ⟨27, _⟩ => ⟨S1024x512, .bf16⟩
  | .local _ .vmem, ⟨28, _⟩ => ⟨S128x512, .bf16⟩
  | .local _ .vmem, ⟨29, _⟩ => ⟨S128x512, .bf16⟩
  | .local _ .vmem, ⟨30, _⟩ => ⟨S1024x512, .bf16⟩
  | .local _ .vmem, ⟨31, _⟩ => ⟨S1024x512, .bf16⟩
  | .local _ .vmem, ⟨32, _⟩ => ⟨S128x512, .bf16⟩
  | .local _ .vmem, ⟨33, _⟩ => ⟨S128x512, .bf16⟩
  | .local _ .vmem, ⟨34, _⟩ => ⟨S1024x128, .f32⟩
  | .local _ .vmem, ⟨35, _⟩ => ⟨S1024x128, .f32⟩
  | .local _ .vmem, ⟨36, _⟩ => ⟨S128x128, .f32⟩
  | .local _ .vmem, ⟨37, _⟩ => ⟨S128x128, .f32⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi arg0 c0_i32
  let c0_i32_0 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi arg0 c0_i32
  let c0_i32_0 : BitVec 32 := 0#32
  ![v2.toNat, v3.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi arg0 c0_i32
  let c0_i32_0 : BitVec 32 := 0#32
  ![v2.toNat, v3.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1024x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1024x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1024x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== Att4Ideal.lean ====
variable {F : FTy → Type} [FloatOps F] [Named F]
def κ : String → Option EReal := fun
  | "mask" => some ⊥
  | _ => none
-- ==== Att4RefIdeal.lean ====
abbrev S16384x512 : Shape := ⟨2, ![16384, 512]⟩
abbrev S16384x4x128 : Shape := ⟨3, ![16384, 4, 128]⟩
abbrev S4096x4x4x128 : Shape := ⟨4, ![4096, 4, 4, 128]⟩
abbrev S4x4096x4x128 : Shape := ⟨4, ![4, 4096, 4, 128]⟩
abbrev S4x32x128x4x128 : Shape := ⟨5, ![4, 32, 128, 4, 128]⟩
abbrev S4x1x128x4x128 : Shape := ⟨5, ![4, 1, 128, 4, 128]⟩
abbrev S_ : Shape := ⟨0, ![]⟩
abbrev S4x31x128x4x128 : Shape := ⟨5, ![4, 31, 128, 4, 128]⟩
abbrev S4x32x256x4x128 : Shape := ⟨5, ![4, 32, 256, 4, 128]⟩
abbrev S4x32x4x128x256 : Shape := ⟨5, ![4, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x128x256 : Shape := ⟨5, ![1, 32, 1, 128, 256]⟩
abbrev S4x32x4x128 : Shape := ⟨4, ![4, 32, 4, 128]⟩
abbrev S4x32x4x128x1 : Shape := ⟨5, ![4, 32, 4, 128, 1]⟩
abbrev S4x32x4x128x128 : Shape := ⟨5, ![4, 32, 4, 128, 128]⟩
abbrev S4x32x128x4 : Shape := ⟨4, ![4, 32, 128, 4]⟩
abbrev S4x32x128x4x1 : Shape := ⟨5, ![4, 32, 128, 4, 1]⟩
abbrev S4x4096x4 : Shape := ⟨3, ![4, 4096, 4]⟩
abbrev S4096x4x4 : Shape := ⟨3, ![4096, 4, 4]⟩
abbrev S16384x4 : Shape := ⟨2, ![16384, 4]⟩
abbrev S16384x4x1 : Shape := ⟨3, ![16384, 4, 1]⟩
abbrev S16384x4x32 : Shape := ⟨3, ![16384, 4, 32]⟩
abbrev S4096x512 : Shape := ⟨2, ![4096, 512]⟩
abbrev S4096x2048 : Shape := ⟨2, ![4096, 2048]⟩
abbrev S4x32x4x256x128 : Shape := ⟨5, ![4, 32, 4, 256, 128]⟩

abbrev nBuf : Space → Nat
  | .hbm => 203
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S16384x512, .f32⟩
  | 5 => ⟨S16384x4x128, .f32⟩
  | 6 => ⟨S16384x512, .f32⟩
  | 7 => ⟨S16384x4x128, .f32⟩
  | 8 => ⟨S16384x512, .f32⟩
  | 9 => ⟨S16384x4x128, .f32⟩
  | 10 => ⟨S4096x4x4x128, .f32⟩
  | 11 => ⟨S4x4096x4x128, .f32⟩
  | 12 => ⟨S4x32x128x4x128, .f32⟩
  | 13 => ⟨S4096x4x4x128, .f32⟩
  | 14 => ⟨S4x4096x4x128, .f32⟩
  | 15 => ⟨S4x32x128x4x128, .f32⟩
  | 16 => ⟨S4x1x128x4x128, .f32⟩
  | 17 => ⟨S_, .f32⟩
  | 18 => ⟨S4x1x128x4x128, .f32⟩
  | 19 => ⟨S4x31x128x4x128, .f32⟩
  | 20 => ⟨S4x32x128x4x128, .f32⟩
  | 21 => ⟨S_, .f32⟩
  | 22 => ⟨S4x1x128x4x128, .f32⟩
  | 23 => ⟨S4x32x256x4x128, .f32⟩
  | 24 => ⟨S4096x4x4x128, .f32⟩
  | 25 => ⟨S4x4096x4x128, .f32⟩
  | 26 => ⟨S4x32x128x4x128, .f32⟩
  | 27 => ⟨S4x1x128x4x128, .f32⟩
  | 28 => ⟨S_, .f32⟩
  | 29 => ⟨S4x1x128x4x128, .f32⟩
  | 30 => ⟨S4x31x128x4x128, .f32⟩
  | 31 => ⟨S4x32x128x4x128, .f32⟩
  | 32 => ⟨S_, .f32⟩
  | 33 => ⟨S4x1x128x4x128, .f32⟩
  | 34 => ⟨S4x32x256x4x128, .f32⟩
  | 35 => ⟨S4x32x4x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S32, .i32⟩
  | 54 => ⟨S_, .i32⟩
  | 55 => ⟨S32, .i32⟩
  | 56 => ⟨S32, .i1⟩
  | 57 => ⟨S32x1x1, .i1⟩
  | 58 => ⟨S1x128x256, .i1⟩
  | 59 => ⟨S_, .i32⟩
  | 60 => ⟨S1x256, .i32⟩
  | 61 => ⟨S1x256, .i1⟩
  | 62 => ⟨S1x1x256, .i1⟩
  | 63 => ⟨S32x1x256, .i1⟩
  | 64 => ⟨S32x1x256, .i1⟩
  | 65 => ⟨S32x1x256, .i1⟩
  | 66 => ⟨S32x128x256, .i1⟩
  | 67 => ⟨S32x128x256, .i1⟩
  | 68 => ⟨S32x128x256, .i1⟩
  | 69 => ⟨S1x32x1x128x256, .i1⟩
  | 70 => ⟨S_, .f32⟩
  | 71 => ⟨S_, .f32⟩
  | 72 => ⟨S4x32x4x128x256, .i1⟩
  | 73 => ⟨S4x32x4x128x256, .f32⟩
  | 74 => ⟨S4x32x4x128x256, .f32⟩
  | 75 => ⟨S_, .f32⟩
  | 76 => ⟨S4x32x4x128x256, .f32⟩
  | 77 => ⟨S_, .f32⟩
  | 78 => ⟨S4x32x4x128, .f32⟩
  | 79 => ⟨S4x32x4x128x1, .f32⟩
  | 80 => ⟨S4x32x4x128x256, .f32⟩
  | 81 => ⟨S4x32x4x128x256, .i1⟩
  | 82 => ⟨S4x32x4x128x256, .f32⟩
  | 83 => ⟨S_, .f32⟩
  | 84 => ⟨S4x32x4x128, .f32⟩
  | 85 => ⟨S4x32x4x128x1, .f32⟩
  | 86 => ⟨S4x32x4x128x256, .f32⟩
  | 87 => ⟨S4x32x4x128x256, .f32⟩
  | 88 => ⟨S4x32x4x128x256, .f32⟩
  | 89 => ⟨S_, .f32⟩
  | 90 => ⟨S4x32x4x128, .f32⟩
  | 91 => ⟨S4x32x4x128x1, .f32⟩
  | 92 => ⟨S4x32x4x128x128, .f32⟩
  | 93 => ⟨S4x32x128x4x128, .f32⟩
  | 94 => ⟨S4x32x4x128, .f32⟩
  | 95 => ⟨S4x32x128x4, .f32⟩
  | 96 => ⟨S4x32x128x4x1, .f32⟩
  | 97 => ⟨S4x32x128x4x128, .f32⟩
  | 98 => ⟨S4x32x128x4x128, .f32⟩
  | 99 => ⟨S4x32x128x4x1, .f32⟩
  | 100 => ⟨S_, .f32⟩
  | 101 => ⟨S4x32x128x4x1, .f32⟩
  | 102 => ⟨S4x32x128x4x1, .f32⟩
  | 103 => ⟨S4x32x4x128, .f32⟩
  | 104 => ⟨S4x32x4x128, .f32⟩
  | 105 => ⟨S4x32x4x128, .f32⟩
  | 106 => ⟨S4x32x4x128, .f32⟩
  | 107 => ⟨S4x32x128x4, .f32⟩
  | 108 => ⟨S4x4096x4x128, .f32⟩
  | 109 => ⟨S4096x4x4x128, .f32⟩
  | 110 => ⟨S16384x4x128, .f32⟩
  | 111 => ⟨S4x4096x4, .f32⟩
  | 112 => ⟨S4096x4x4, .f32⟩
  | 113 => ⟨S16384x4, .f32⟩
  | 114 => ⟨S16384x4x1, .f32⟩
  | 115 => ⟨S16384x4x32, .f32⟩
  | 116 => ⟨S4096x512, .f32⟩
  | 117 => ⟨S4096x2048, .f32⟩
  | 118 => ⟨S4096x2048, .bf16⟩
  | 119 => ⟨S16384x512, .f32⟩
  | 120 => ⟨S16384x4x128, .f32⟩
  | 121 => ⟨S_, .f32⟩
  | 122 => ⟨S16384x4, .f32⟩
  | 123 => ⟨S4096x4x4, .f32⟩
  | 124 => ⟨S4x4096x4, .f32⟩
  | 125 => ⟨S4x32x128x4, .f32⟩
  | 126 => ⟨S4096x4x4x128, .f32⟩
  | 127 => ⟨S4x4096x4x128, .f32⟩
  | _ => ⟨S16384x512, .bf16⟩

abbrev hbmTy0_1 (i : Nat) : BufTy := match i % 128 with
  | 0 => ⟨S4x32x128x4x128, .f32⟩
  | 1 => ⟨S4x32x4x128, .f32⟩
  | 2 => ⟨S4x32x4x128, .f32⟩
  | 3 => ⟨S4x32x4x128x1, .f32⟩
  | 4 => ⟨S4x32x4x128x1, .f32⟩
  | 5 => ⟨S4x32x128x4x128, .f32⟩
  | 6 => ⟨S4x32x128x4x128, .f32⟩
  | 7 => ⟨S4x32x128x4x128, .f32⟩
  | 8 => ⟨S_, .f32⟩
  | 9 => ⟨S4x32x128x4, .f32⟩
  | 10 => ⟨S4x32x128x4x1, .f32⟩
  | 11 => ⟨S4x32x128x4x1, .f32⟩
  | 12 => ⟨S4x32x128x4x128, .f32⟩
  | 13 => ⟨S4x32x128x4x128, .f32⟩
  | 14 => ⟨S_, .f32⟩
  | 15 => ⟨S4x32x128x4, .f32⟩
  | 16 => ⟨S4x32x4x128, .f32⟩
  | 17 => ⟨S4x32x4x128x1, .f32⟩
  | 18 => ⟨S4x32x4x128x1, .f32⟩
  | 19 => ⟨S4x32x4x128x128, .f32⟩
  | 20 => ⟨S4x32x4x128x256, .f32⟩
  | 21 => ⟨S4x32x4x128x256, .f32⟩
  | 22 => ⟨S4x32x256x4x128, .f32⟩
  | 23 => ⟨S_, .f32⟩
  | 24 => ⟨S4x32x4x128, .f32⟩
  | 25 => ⟨S4x32x4x128x256, .f32⟩
  | 26 => ⟨S4x32x4x128x256, .f32⟩
  | 27 => ⟨S4x32x4x128x256, .f32⟩
  | 28 => ⟨S4x32x4x128x256, .f32⟩
  | 29 => ⟨S_, .f32⟩
  | 30 => ⟨S4x32x4x128, .f32⟩
  | 31 => ⟨S4x32x4x128x1, .f32⟩
  | 32 => ⟨S4x32x4x128x1, .f32⟩
  | 33 => ⟨S_, .f32⟩
  | 34 => ⟨S4x32x4x128, .f32⟩
  | 35 => ⟨S4x32x4x128, .f32⟩
  | 36 => ⟨S4x32x4x128x256, .f32⟩
  | 37 => ⟨S4x32x4x128x256, .f32⟩
  | 38 => ⟨S4x32x4x128x256, .f32⟩
  | 39 => ⟨S_, .f32⟩
  | 40 => ⟨S4x32x4x128x256, .f32⟩
  | 41 => ⟨S4x32x4x128x256, .f32⟩
  | 42 => ⟨S4x32x4x256x128, .f32⟩
  | 43 => ⟨S4x32x256x4x128, .f32⟩
  | 44 => ⟨S4x32x4x128x128, .f32⟩
  | 45 => ⟨S4x32x128x4x128, .f32⟩
  | 46 => ⟨S4x32x128x4x128, .f32⟩
  | 47 => ⟨S4x32x128x4x128, .f32⟩
  | 48 => ⟨S4x1x128x4x128, .f32⟩
  | 49 => ⟨S4x31x128x4x128, .f32⟩
  | 50 => ⟨S_, .f32⟩
  | 51 => ⟨S4x32x128x4x128, .f32⟩
  | 52 => ⟨S4x32x128x4x128, .f32⟩
  | 53 => ⟨S4x4096x4x128, .f32⟩
  | 54 => ⟨S4096x4x4x128, .f32⟩
  | 55 => ⟨S16384x4x128, .f32⟩
  | 56 => ⟨S4x32x128x4x128, .f32⟩
  | 57 => ⟨S4x32x128x4x128, .f32⟩
  | 58 => ⟨S4x1x128x4x128, .f32⟩
  | 59 => ⟨S4x31x128x4x128, .f32⟩
  | 60 => ⟨S_, .f32⟩
  | 61 => ⟨S4x32x128x4x128, .f32⟩
  | 62 => ⟨S4x32x128x4x128, .f32⟩
  | 63 => ⟨S4x4096x4x128, .f32⟩
  | 64 => ⟨S4096x4x4x128, .f32⟩
  | 65 => ⟨S16384x4x128, .f32⟩
  | 66 => ⟨S4x4096x4x128, .f32⟩
  | 67 => ⟨S4096x4x4x128, .f32⟩
  | 68 => ⟨S16384x4x128, .f32⟩
  | 69 => ⟨S4096x2048, .f32⟩
  | 70 => ⟨S4096x2048, .bf16⟩
  | 71 => ⟨S4096x2048, .f32⟩
  | 72 => ⟨S4096x2048, .bf16⟩
  | 73 => ⟨S4096x2048, .f32⟩
  | 74 => ⟨S4096x2048, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call0_v0 : Ref sig .tc := ⟨.hbm, 71, rfl⟩
abbrev main_v57_1 : Ref sig .tc := ⟨.hbm, 72, rfl⟩
abbrev main_call0_v2 : Ref sig .tc := ⟨.hbm, 73, rfl⟩
abbrev main_v57_0 : Ref sig .tc := ⟨.hbm, 74, rfl⟩
abbrev main_call0_cst : Ref sig .tc := ⟨.hbm, 75, rfl⟩
abbrev main_v57_2 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_13 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_14 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_15 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_16 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_17 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_call1_cst : Ref sig .tc := ⟨.hbm, 167, rfl⟩
abbrev main_call1_v0 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_18 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_19 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩

abbrev nD : Nat := 1
abbrev τ : Topo := Topo.v7x

variable {F : FTy → Type} [FloatOps F]
-- ==== Att16.lean ====
abbrev S16384x512 : Shape := ⟨2, ![16384, 512]⟩
abbrev S1024x8192 : Shape := ⟨2, ![1024, 8192]⟩
abbrev S1024x2048 : Shape := ⟨2, ![1024, 2048]⟩
abbrev S1024x512 : Shape := ⟨2, ![1024, 512]⟩
abbrev S128x512 : Shape := ⟨2, ![128, 512]⟩
abbrev S1024x128 : Shape := ⟨2, ![1024, 128]⟩
abbrev S128x256 : Shape := ⟨2, ![128, 256]⟩
abbrev S128x128 : Shape := ⟨2, ![128, 128]⟩
abbrev S1152x128 : Shape := ⟨2, ![1152, 128]⟩
abbrev S256x128 : Shape := ⟨2, ![256, 128]⟩
abbrev S128 : Shape := ⟨1, ![128]⟩
abbrev S128x1 : Shape := ⟨2, ![128, 1]⟩
abbrev S128x32 : Shape := ⟨2, ![128, 32]⟩
abbrev S1024x1 : Shape := ⟨2, ![1024, 1]⟩
abbrev S1024 : Shape := ⟨1, ![1024]⟩

abbrev nBuf : Space → Nat
  | .hbm => 16
  | .vmem => 44
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024x8192, .bf16⟩
  | .hbm, ⟨5, _⟩ => ⟨S1024x8192, .bf16⟩
  | .hbm, ⟨6, _⟩ => ⟨S1024x8192, .bf16⟩
  | .hbm, ⟨7, _⟩ => ⟨S1024x8192, .bf16⟩
  | .hbm, ⟨8, _⟩ => ⟨S1024x2048, .f32⟩
  | .hbm, ⟨9, _⟩ => ⟨S1024x8192, .bf16⟩
  | .hbm, ⟨10, _⟩ => ⟨S1024x8192, .bf16⟩
  | .hbm, ⟨11, _⟩ => ⟨S1024x8192, .bf16⟩
  | .hbm, ⟨12, _⟩ => ⟨S1024x8192, .bf16⟩
  | .hbm, ⟨13, _⟩ => ⟨S1024x8192, .bf16⟩
  | .hbm, ⟨14, _⟩ => ⟨S1024x8192, .bf16⟩
  | .hbm, ⟨15, _⟩ => ⟨S1024x8192, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .bf16⟩
  | .local _ .vmem, ⟨9, _⟩ => ⟨S128x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S128x512, .bf16⟩
  | .local _ .vmem, ⟨17, _⟩ => ⟨S128x512, .bf16⟩
  | .local _ .vmem, ⟨18, _⟩ => ⟨S1024x512, .bf16⟩
  | .local _ .vmem, ⟨19, _⟩ => ⟨S1024x512, .bf16⟩
  | .local _ .vmem, ⟨20, _⟩ => ⟨S128x512, .bf16⟩
  | .local _ .vmem, ⟨21, _⟩ => ⟨S128x512, .bf16⟩
  | .local _ .vmem, ⟨22, _⟩ => ⟨S1024x512, .bf16⟩
  | .local _ .vmem, ⟨23, _⟩ => ⟨S1024x512, .bf16⟩
  | .local _ .vmem, ⟨24, _⟩ => ⟨S128x512, .bf16⟩
  | .local _ .vmem, ⟨25, _⟩ => ⟨S128x512, .bf16⟩
  | .local _ .vmem, ⟨26, _⟩ => ⟨S1024x512, .bf16⟩
  | .local _ .vmem, ⟨27, _⟩ => ⟨S1024x512, .bf16⟩
  | .local _ .vmem, ⟨28, _⟩ => ⟨S128x512, .bf16⟩
  | .local _ .vmem, ⟨29, _⟩ => ⟨S128x512, .bf16⟩
  | .local _ .vmem, ⟨30, _⟩ => ⟨S1024x512, .bf16⟩
  | .local _ .vmem, ⟨31, _⟩ => ⟨S1024x512, .bf16⟩
  | .local _ .vmem, ⟨32, _⟩ => ⟨S128x512, .bf16⟩
  | .local _ .vmem, ⟨33, _⟩ => ⟨S128x512, .bf16⟩
  | .local _ .vmem, ⟨34, _⟩ => ⟨S1024x128, .f32⟩
  | .local _ .vmem, ⟨35, _⟩ => ⟨S1024x128, .f32⟩
  | .local _ .vmem, ⟨36, _⟩ => ⟨S128x128, .f32⟩
  | .local _ .vmem, ⟨37, _⟩ => ⟨S128x128, .f32⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  let v3 : BitVec 32 := Scalar.addi arg0 c0_i32
  let c0_i32_0 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  let v3 : BitVec 32 := Scalar.addi arg0 c0_i32
  let c0_i32_0 : BitVec 32 := 0#32
  ![v2.toNat, v3.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  let v3 : BitVec 32 := Scalar.addi arg0 c0_i32
  let c0_i32_0 : BitVec 32 := 0#32
  ![v2.toNat, v3.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c7_i32 : BitVec 32 := 7#32
  let v2 : BitVec 32 := Scalar.minsi v1 c7_i32
  let c0_i32 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1024x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1024x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1024x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== Att16Ideal.lean ====
variable {F : FTy → Type} [FloatOps F] [Named F]
def κ : String → Option EReal := fun
  | "mask" => some ⊥
  | _ => none
-- ==== Att16RefIdeal.lean ====
abbrev S16384x512 : Shape := ⟨2, ![16384, 512]⟩
abbrev S16384x4x128 : Shape := ⟨3, ![16384, 4, 128]⟩
abbrev S1024x16x4x128 : Shape := ⟨4, ![1024, 16, 4, 128]⟩
abbrev S16x1024x4x128 : Shape := ⟨4, ![16, 1024, 4, 128]⟩
abbrev S16x8x128x4x128 : Shape := ⟨5, ![16, 8, 128, 4, 128]⟩
abbrev S16x1x128x4x128 : Shape := ⟨5, ![16, 1, 128, 4, 128]⟩
abbrev S_ : Shape := ⟨0, ![]⟩
abbrev S16x7x128x4x128 : Shape := ⟨5, ![16, 7, 128, 4, 128]⟩
abbrev S16x8x256x4x128 : Shape := ⟨5, ![16, 8, 256, 4, 128]⟩
abbrev S16x8x4x128x256 : Shape := ⟨5, ![16, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x128x256 : Shape := ⟨3, ![1, 128, 256]⟩
abbrev S1x1x256 : Shape := ⟨3, ![1, 1, 256]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S16x8x4x128 : Shape := ⟨4, ![16, 8, 4, 128]⟩
abbrev S16x8x4x128x1 : Shape := ⟨5, ![16, 8, 4, 128, 1]⟩
abbrev S16x8x4x128x128 : Shape := ⟨5, ![16, 8, 4, 128, 128]⟩
abbrev S16x8x128x4 : Shape := ⟨4, ![16, 8, 128, 4]⟩
abbrev S16x8x128x4x1 : Shape := ⟨5, ![16, 8, 128, 4, 1]⟩
abbrev S16x1024x4 : Shape := ⟨3, ![16, 1024, 4]⟩
abbrev S1024x16x4 : Shape := ⟨3, ![1024, 16, 4]⟩
abbrev S16384x4 : Shape := ⟨2, ![16384, 4]⟩
abbrev S16384x4x1 : Shape := ⟨3, ![16384, 4, 1]⟩
abbrev S16384x4x32 : Shape := ⟨3, ![16384, 4, 32]⟩
abbrev S1024x2048 : Shape := ⟨2, ![1024, 2048]⟩
abbrev S1024x8192 : Shape := ⟨2, ![1024, 8192]⟩
abbrev S16x8x4x256x128 : Shape := ⟨5, ![16, 8, 4, 256, 128]⟩

abbrev nBuf : Space → Nat
  | .hbm => 203
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S16384x512, .f32⟩
  | 5 => ⟨S16384x4x128, .f32⟩
  | 6 => ⟨S16384x512, .f32⟩
  | 7 => ⟨S16384x4x128, .f32⟩
  | 8 => ⟨S16384x512, .f32⟩
  | 9 => ⟨S16384x4x128, .f32⟩
  | 10 => ⟨S1024x16x4x128, .f32⟩
  | 11 => ⟨S16x1024x4x128, .f32⟩
  | 12 => ⟨S16x8x128x4x128, .f32⟩
  | 13 => ⟨S1024x16x4x128, .f32⟩
  | 14 => ⟨S16x1024x4x128, .f32⟩
  | 15 => ⟨S16x8x128x4x128, .f32⟩
  | 16 => ⟨S16x1x128x4x128, .f32⟩
  | 17 => ⟨S_, .f32⟩
  | 18 => ⟨S16x1x128x4x128, .f32⟩
  | 19 => ⟨S16x7x128x4x128, .f32⟩
  | 20 => ⟨S16x8x128x4x128, .f32⟩
  | 21 => ⟨S_, .f32⟩
  | 22 => ⟨S16x1x128x4x128, .f32⟩
  | 23 => ⟨S16x8x256x4x128, .f32⟩
  | 24 => ⟨S1024x16x4x128, .f32⟩
  | 25 => ⟨S16x1024x4x128, .f32⟩
  | 26 => ⟨S16x8x128x4x128, .f32⟩
  | 27 => ⟨S16x1x128x4x128, .f32⟩
  | 28 => ⟨S_, .f32⟩
  | 29 => ⟨S16x1x128x4x128, .f32⟩
  | 30 => ⟨S16x7x128x4x128, .f32⟩
  | 31 => ⟨S16x8x128x4x128, .f32⟩
  | 32 => ⟨S_, .f32⟩
  | 33 => ⟨S16x1x128x4x128, .f32⟩
  | 34 => ⟨S16x8x256x4x128, .f32⟩
  | 35 => ⟨S16x8x4x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S8, .i32⟩
  | 54 => ⟨S_, .i32⟩
  | 55 => ⟨S8, .i32⟩
  | 56 => ⟨S8, .i1⟩
  | 57 => ⟨S8x1x1, .i1⟩
  | 58 => ⟨S1x128x256, .i1⟩
  | 59 => ⟨S_, .i32⟩
  | 60 => ⟨S1x256, .i32⟩
  | 61 => ⟨S1x256, .i1⟩
  | 62 => ⟨S1x1x256, .i1⟩
  | 63 => ⟨S8x1x256, .i1⟩
  | 64 => ⟨S8x1x256, .i1⟩
  | 65 => ⟨S8x1x256, .i1⟩
  | 66 => ⟨S8x128x256, .i1⟩
  | 67 => ⟨S8x128x256, .i1⟩
  | 68 => ⟨S8x128x256, .i1⟩
  | 69 => ⟨S1x8x1x128x256, .i1⟩
  | 70 => ⟨S_, .f32⟩
  | 71 => ⟨S_, .f32⟩
  | 72 => ⟨S16x8x4x128x256, .i1⟩
  | 73 => ⟨S16x8x4x128x256, .f32⟩
  | 74 => ⟨S16x8x4x128x256, .f32⟩
  | 75 => ⟨S_, .f32⟩
  | 76 => ⟨S16x8x4x128x256, .f32⟩
  | 77 => ⟨S_, .f32⟩
  | 78 => ⟨S16x8x4x128, .f32⟩
  | 79 => ⟨S16x8x4x128x1, .f32⟩
  | 80 => ⟨S16x8x4x128x256, .f32⟩
  | 81 => ⟨S16x8x4x128x256, .i1⟩
  | 82 => ⟨S16x8x4x128x256, .f32⟩
  | 83 => ⟨S_, .f32⟩
  | 84 => ⟨S16x8x4x128, .f32⟩
  | 85 => ⟨S16x8x4x128x1, .f32⟩
  | 86 => ⟨S16x8x4x128x256, .f32⟩
  | 87 => ⟨S16x8x4x128x256, .f32⟩
  | 88 => ⟨S16x8x4x128x256, .f32⟩
  | 89 => ⟨S_, .f32⟩
  | 90 => ⟨S16x8x4x128, .f32⟩
  | 91 => ⟨S16x8x4x128x1, .f32⟩
  | 92 => ⟨S16x8x4x128x128, .f32⟩
  | 93 => ⟨S16x8x128x4x128, .f32⟩
  | 94 => ⟨S16x8x4x128, .f32⟩
  | 95 => ⟨S16x8x128x4, .f32⟩
  | 96 => ⟨S16x8x128x4x1, .f32⟩
  | 97 => ⟨S16x8x128x4x128, .f32⟩
  | 98 => ⟨S16x8x128x4x128, .f32⟩
  | 99 => ⟨S16x8x128x4x1, .f32⟩
  | 100 => ⟨S_, .f32⟩
  | 101 => ⟨S16x8x128x4x1, .f32⟩
  | 102 => ⟨S16x8x128x4x1, .f32⟩
  | 103 => ⟨S16x8x4x128, .f32⟩
  | 104 => ⟨S16x8x4x128, .f32⟩
  | 105 => ⟨S16x8x4x128, .f32⟩
  | 106 => ⟨S16x8x4x128, .f32⟩
  | 107 => ⟨S16x8x128x4, .f32⟩
  | 108 => ⟨S16x1024x4x128, .f32⟩
  | 109 => ⟨S1024x16x4x128, .f32⟩
  | 110 => ⟨S16384x4x128, .f32⟩
  | 111 => ⟨S16x1024x4, .f32⟩
  | 112 => ⟨S1024x16x4, .f32⟩
  | 113 => ⟨S16384x4, .f32⟩
  | 114 => ⟨S16384x4x1, .f32⟩
  | 115 => ⟨S16384x4x32, .f32⟩
  | 116 => ⟨S1024x2048, .f32⟩
  | 117 => ⟨S1024x8192, .f32⟩
  | 118 => ⟨S1024x8192, .bf16⟩
  | 119 => ⟨S16384x512, .f32⟩
  | 120 => ⟨S16384x4x128, .f32⟩
  | 121 => ⟨S_, .f32⟩
  | 122 => ⟨S16384x4, .f32⟩
  | 123 => ⟨S1024x16x4, .f32⟩
  | 124 => ⟨S16x1024x4, .f32⟩
  | 125 => ⟨S16x8x128x4, .f32⟩
  | 126 => ⟨S1024x16x4x128, .f32⟩
  | 127 => ⟨S16x1024x4x128, .f32⟩
  | _ => ⟨S16384x512, .bf16⟩

abbrev hbmTy0_1 (i : Nat) : BufTy := match i % 128 with
  | 0 => ⟨S16x8x128x4x128, .f32⟩
  | 1 => ⟨S16x8x4x128, .f32⟩
  | 2 => ⟨S16x8x4x128, .f32⟩
  | 3 => ⟨S16x8x4x128x1, .f32⟩
  | 4 => ⟨S16x8x4x128x1, .f32⟩
  | 5 => ⟨S16x8x128x4x128, .f32⟩
  | 6 => ⟨S16x8x128x4x128, .f32⟩
  | 7 => ⟨S16x8x128x4x128, .f32⟩
  | 8 => ⟨S_, .f32⟩
  | 9 => ⟨S16x8x128x4, .f32⟩
  | 10 => ⟨S16x8x128x4x1, .f32⟩
  | 11 => ⟨S16x8x128x4x1, .f32⟩
  | 12 => ⟨S16x8x128x4x128, .f32⟩
  | 13 => ⟨S16x8x128x4x128, .f32⟩
  | 14 => ⟨S_, .f32⟩
  | 15 => ⟨S16x8x128x4, .f32⟩
  | 16 => ⟨S16x8x4x128, .f32⟩
  | 17 => ⟨S16x8x4x128x1, .f32⟩
  | 18 => ⟨S16x8x4x128x1, .f32⟩
  | 19 => ⟨S16x8x4x128x128, .f32⟩
  | 20 => ⟨S16x8x4x128x256, .f32⟩
  | 21 => ⟨S16x8x4x128x256, .f32⟩
  | 22 => ⟨S16x8x256x4x128, .f32⟩
  | 23 => ⟨S_, .f32⟩
  | 24 => ⟨S16x8x4x128, .f32⟩
  | 25 => ⟨S16x8x4x128x256, .f32⟩
  | 26 => ⟨S16x8x4x128x256, .f32⟩
  | 27 => ⟨S16x8x4x128x256, .f32⟩
  | 28 => ⟨S16x8x4x128x256, .f32⟩
  | 29 => ⟨S_, .f32⟩
  | 30 => ⟨S16x8x4x128, .f32⟩
  | 31 => ⟨S16x8x4x128x1, .f32⟩
  | 32 => ⟨S16x8x4x128x1, .f32⟩
  | 33 => ⟨S_, .f32⟩
  | 34 => ⟨S16x8x4x128, .f32⟩
  | 35 => ⟨S16x8x4x128, .f32⟩
  | 36 => ⟨S16x8x4x128x256, .f32⟩
  | 37 => ⟨S16x8x4x128x256, .f32⟩
  | 38 => ⟨S16x8x4x128x256, .f32⟩
  | 39 => ⟨S_, .f32⟩
  | 40 => ⟨S16x8x4x128x256, .f32⟩
  | 41 => ⟨S16x8x4x128x256, .f32⟩
  | 42 => ⟨S16x8x4x256x128, .f32⟩
  | 43 => ⟨S16x8x256x4x128, .f32⟩
  | 44 => ⟨S16x8x4x128x128, .f32⟩
  | 45 => ⟨S16x8x128x4x128, .f32⟩
  | 46 => ⟨S16x8x128x4x128, .f32⟩
  | 47 => ⟨S16x8x128x4x128, .f32⟩
  | 48 => ⟨S16x1x128x4x128, .f32⟩
  | 49 => ⟨S16x7x128x4x128, .f32⟩
  | 50 => ⟨S_, .f32⟩
  | 51 => ⟨S16x8x128x4x128, .f32⟩
  | 52 => ⟨S16x8x128x4x128, .f32⟩
  | 53 => ⟨S16x1024x4x128, .f32⟩
  | 54 => ⟨S1024x16x4x128, .f32⟩
  | 55 => ⟨S16384x4x128, .f32⟩
  | 56 => ⟨S16x8x128x4x128, .f32⟩
  | 57 => ⟨S16x8x128x4x128, .f32⟩
  | 58 => ⟨S16x1x128x4x128, .f32⟩
  | 59 => ⟨S16x7x128x4x128, .f32⟩
  | 60 => ⟨S_, .f32⟩
  | 61 => ⟨S16x8x128x4x128, .f32⟩
  | 62 => ⟨S16x8x128x4x128, .f32⟩
  | 63 => ⟨S16x1024x4x128, .f32⟩
  | 64 => ⟨S1024x16x4x128, .f32⟩
  | 65 => ⟨S16384x4x128, .f32⟩
  | 66 => ⟨S16x1024x4x128, .f32⟩
  | 67 => ⟨S1024x16x4x128, .f32⟩
  | 68 => ⟨S16384x4x128, .f32⟩
  | 69 => ⟨S1024x8192, .f32⟩
  | 70 => ⟨S1024x8192, .bf16⟩
  | 71 => ⟨S1024x8192, .f32⟩
  | 72 => ⟨S1024x8192, .bf16⟩
  | 73 => ⟨S1024x8192, .f32⟩
  | 74 => ⟨S1024x8192, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call0_v0 : Ref sig .tc := ⟨.hbm, 71, rfl⟩
abbrev main_v57_1 : Ref sig .tc := ⟨.hbm, 72, rfl⟩
abbrev main_call0_v2 : Ref sig .tc := ⟨.hbm, 73, rfl⟩
abbrev main_v57_0 : Ref sig .tc := ⟨.hbm, 74, rfl⟩
abbrev main_call0_cst : Ref sig .tc := ⟨.hbm, 75, rfl⟩
abbrev main_v57_2 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_13 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_14 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_15 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_16 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_17 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_call1_cst : Ref sig .tc := ⟨.hbm, 167, rfl⟩
abbrev main_call1_v0 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_18 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_19 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩

abbrev nD : Nat := 1
abbrev τ : Topo := Topo.v7x

variable {F : FTy → Type} [FloatOps F]
-- ==== Prj.lean ====
abbrev S16384x512 : Shape := ⟨2, ![16384, 512]⟩
abbrev S512x1024 : Shape := ⟨2, ![512, 1024]⟩
abbrev S512x4x256 : Shape := ⟨3, ![512, 4, 256]⟩
abbrev S4x512x256 : Shape := ⟨3, ![4, 512, 256]⟩
abbrev S16384x1024 : Shape := ⟨2, ![16384, 1024]⟩
abbrev S1024x512 : Shape := ⟨2, ![1024, 512]⟩
abbrev S1x512x256 : Shape := ⟨3, ![1, 512, 256]⟩
abbrev S1024x1024 : Shape := ⟨2, ![1024, 1024]⟩
abbrev S512x256 : Shape := ⟨2, ![512, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S512x4x256, .f32⟩
  | .hbm, ⟨3, _⟩ => ⟨S4x512x256, .f32⟩
  | .hbm, ⟨4, _⟩ => ⟨S4x512x256, .bf16⟩
  | .hbm, ⟨5, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1024x1024, .bf16⟩
  | .local _ .vmem, ⟨7, _⟩ => ⟨S1024x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== PrjRefIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x512, .f32⟩
  | .hbm, ⟨3, _⟩ => ⟨S16384x1024, .f32⟩
  | .hbm, ⟨4, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Plp.lean ====
abbrev S16384x256 : Shape := ⟨2, ![16384, 256]⟩
abbrev S256x1024 : Shape := ⟨2, ![256, 1024]⟩
abbrev S256x4x256 : Shape := ⟨3, ![256, 4, 256]⟩
abbrev S4x256x256 : Shape := ⟨3, ![4, 256, 256]⟩
abbrev S16384x1024 : Shape := ⟨2, ![16384, 1024]⟩
abbrev S1024x256 : Shape := ⟨2, ![1024, 256]⟩
abbrev S1x256x256 : Shape := ⟨3, ![1, 256, 256]⟩
abbrev S1024x1024 : Shape := ⟨2, ![1024, 1024]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S256x4x256, .f32⟩
  | .hbm, ⟨3, _⟩ => ⟨S4x256x256, .f32⟩
  | .hbm, ⟨4, _⟩ => ⟨S4x256x256, .bf16⟩
  | .hbm, ⟨5, _⟩ => ⟨S16384x1024, .bf16⟩
  | .local _ .vmem, ⟨0, _⟩ => ⟨S1024x256, .f32⟩
  | .local _ .vmem, ⟨1, _⟩ => ⟨S1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1024x1024, .bf16⟩
  | .local _ .vmem, ⟨7, _⟩ => ⟨S1024x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== PlpRefIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | .hbm, ⟨3, _⟩ => ⟨S16384x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ssp.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x16x64, .f32⟩
  | .hbm, ⟨7, _⟩ => ⟨S32x16x64, .f32⟩
  | .hbm, ⟨8, _⟩ => ⟨S32x64, .f32⟩
  | .hbm, ⟨9, _⟩ => ⟨S32x64, .f32⟩
  | .hbm, ⟨10, _⟩ => ⟨S32x16x64, .f32⟩
  | .hbm, ⟨11, _⟩ => ⟨S32x16x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SspRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩

abbrev nBuf : Space → Nat
  | .hbm => 48
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S_, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64x1, .f32⟩
  | .hbm, ⟨33, _⟩ => ⟨S32x64x16, .f32⟩
  | .hbm, ⟨34, _⟩ => ⟨S32x64x16, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x16x64, .f32⟩
  | .hbm, ⟨47, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Ofw.lean ====
abbrev S16384x1024 : Shape := ⟨2, ![16384, 1024]⟩
abbrev S16384x7168 : Shape := ⟨2, ![16384, 7168]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x7168, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S16384x1024, .bf16⟩
  | .hbm, ⟨11, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== OfwRefIdeal.lean ====
abbrev S16384x1024 : Shape := ⟨2, ![16384, 1024]⟩
abbrev S16384x7168 : Shape := ⟨2, ![16384, 7168]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x7168, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x1024, .f32⟩
  | .hbm, ⟨6, _⟩ => ⟨S1024, .f32⟩
  | .hbm, ⟨7, _⟩ => ⟨S16384x7168, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | .hbm, ⟨60, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Fgu.lean ====
abbrev S16384x1024 : Shape := ⟨2, ![16384, 1024]⟩
abbrev S1024x2816 : Shape := ⟨2, ![1024, 2816]⟩
abbrev S1024x4x704 : Shape := ⟨3, ![1024, 4, 704]⟩
abbrev S4x1024x704 : Shape := ⟨3, ![4, 1024, 704]⟩
abbrev S4x16384x704 : Shape := ⟨3, ![4, 16384, 704]⟩
abbrev S512x1024 : Shape := ⟨2, ![512, 1024]⟩
abbrev S1x1024x704 : Shape := ⟨3, ![1, 1024, 704]⟩
abbrev S4x512x704 : Shape := ⟨3, ![4, 512, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S1024x4x704, .f32⟩
  | .hbm, ⟨4, _⟩ => ⟨S4x1024x704, .f32⟩
  | .hbm, ⟨5, _⟩ => ⟨S4x1024x704, .bf16⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S4x16384x704, .bf16⟩
  | .hbm, ⟨10, _⟩ => ⟨S4x16384x704, .bf16⟩
  | .hbm, ⟨11, _⟩ => ⟨S4x16384x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S4x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== FguRefIdeal.lean ====
abbrev S16384x1024 : Shape := ⟨2, ![16384, 1024]⟩
abbrev S1024x2816 : Shape := ⟨2, ![1024, 2816]⟩
abbrev S16384x2816 : Shape := ⟨2, ![16384, 2816]⟩
abbrev S16384x4x704 : Shape := ⟨3, ![16384, 4, 704]⟩
abbrev S4x16384x704 : Shape := ⟨3, ![4, 16384, 704]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x4x704, .f32⟩
  | .hbm, ⟨7, _⟩ => ⟨S4x16384x704, .f32⟩
  | .hbm, ⟨8, _⟩ => ⟨S4x16384x704, .bf16⟩
  | .hbm, ⟨9, _⟩ => ⟨S16384x4x704, .f32⟩
  | .hbm, ⟨10, _⟩ => ⟨S4x16384x704, .f32⟩
  | .hbm, ⟨11, _⟩ => ⟨S4x16384x704, .bf16⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x4x704, .f32⟩
  | .hbm, ⟨23, _⟩ => ⟨S4x16384x704, .f32⟩
  | .hbm, ⟨24, _⟩ => ⟨S4x16384x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Fdn.lean ====
abbrev S16384x2816 : Shape := ⟨2, ![16384, 2816]⟩
abbrev S2816x1024 : Shape := ⟨2, ![2816, 1024]⟩
abbrev S16384x1024 : Shape := ⟨2, ![16384, 1024]⟩
abbrev S16384x4x704 : Shape := ⟨3, ![16384, 4, 704]⟩
abbrev S4x16384x704 : Shape := ⟨3, ![4, 16384, 704]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 9
  | .vmem => 16
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x4x704, .f32⟩
  | .hbm, ⟨4, _⟩ => ⟨S4x16384x704, .f32⟩
  | .hbm, ⟨5, _⟩ => ⟨S4x16384x704, .bf16⟩
  | .hbm, ⟨6, _⟩ => ⟨S4x704x1024, .f32⟩
  | .hbm, ⟨7, _⟩ => ⟨S4x704x1024, .bf16⟩
  | .hbm, ⟨8, _⟩ => ⟨S16384x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x704x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== FdnRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Pgb.lean ====
abbrev S16384x1024 : Shape := ⟨2, ![16384, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== PgbRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Apb.lean ====
abbrev S16384x1024 : Shape := ⟨2, ![16384, 1024]⟩
abbrev S512x1024 : Shape := ⟨2, ![512, 1024]⟩
abbrev S512x4x256 : Shape := ⟨3, ![512, 4, 256]⟩
abbrev S4x512x256 : Shape := ⟨3, ![4, 512, 256]⟩
abbrev S16384x512 : Shape := ⟨2, ![16384, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S512x1024, .f32⟩
  | .hbm, ⟨2, _⟩ => ⟨S512x4x256, .f32⟩
  | .hbm, ⟨3, _⟩ => ⟨S4x512x256, .f32⟩
  | .hbm, ⟨4, _⟩ => ⟨S4x512x256, .bf16⟩
  | .hbm, ⟨5, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1024x256, .bf16⟩
  | .local _ .vmem, ⟨4, _⟩ => ⟨S1024x256, .bf16⟩
  | .local _ .vmem, ⟨5, _⟩ => ⟨S1x512x256, .bf16⟩
  | .local _ .vmem, ⟨6, _⟩ => ⟨S1024x256, .bf16⟩
  | .local _ .vmem, ⟨7, _⟩ => ⟨S1024x256, .bf16⟩
  | .local _ .vmem, ⟨8, _⟩ => ⟨S1x512x256, .bf16⟩
  | .local _ .vmem, ⟨9, _⟩ => ⟨S1024x256, .bf16⟩
  | .local _ .vmem, ⟨10, _⟩ => ⟨S1024x256, .bf16⟩
  | .local _ .vmem, ⟨11, _⟩ => ⟨S1x512x256, .bf16⟩
  | .local _ .vmem, ⟨12, _⟩ => ⟨S1024x512, .bf16⟩
  | .local _ .vmem, ⟨13, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ApbRefIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S16384x512, .f32⟩
  | .hbm, ⟨7, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wpg.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== WpgRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wap.lean ====
abbrev S16384x512 : Shape := ⟨2, ![16384, 512]⟩
abbrev S16384x1024 : Shape := ⟨2, ![16384, 1024]⟩
abbrev S4x512x256 : Shape := ⟨3, ![4, 512, 256]⟩
abbrev S2048x512 : Shape := ⟨2, ![2048, 512]⟩
abbrev S2048x1024 : Shape := ⟨2, ![2048, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S4x512x256, .f32⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== WapRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Wfg.lean ====
abbrev S16384x1024 : Shape := ⟨2, ![16384, 1024]⟩
abbrev S16384x2816 : Shape := ⟨2, ![16384, 2816]⟩
abbrev S16384x4x704 : Shape := ⟨3, ![16384, 4, 704]⟩
abbrev S4x16384x704 : Shape := ⟨3, ![4, 16384, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x4x704, .bf16⟩
  | .hbm, ⟨3, _⟩ => ⟨S4x16384x704, .bf16⟩
  | .hbm, ⟨4, _⟩ => ⟨S4x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== WfgRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S1024x4x704, .f32⟩
  | .hbm, ⟨10, _⟩ => ⟨S4x1024x704, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Adw.lean ====
abbrev S1088x128 : Shape := ⟨2, ![1088, 128]⟩
abbrev S64x128 : Shape := ⟨2, ![64, 128]⟩

abbrev nBuf : Space → Nat
  | .hbm => 8
  | .vmem => 16
  | .smem => 0
  | _ => 0

abbrev bufTy : (tb : Table) → Fin (tcTables nBuf tb) → BufTy
  | .hbm, ⟨0, _⟩ => ⟨S1088x128, .f32⟩
  | .hbm, ⟨1, _⟩ => ⟨S1088x128, .f32⟩
  | .hbm, ⟨2, _⟩ => ⟨S1088x128, .f32⟩
  | .hbm, ⟨3, _⟩ => ⟨S1088x128, .f32⟩
  | .hbm, ⟨4, _⟩ => ⟨S1088x128, .f32⟩
  | .hbm, ⟨5, _⟩ => ⟨S1088x128, .f32⟩
  | .hbm, ⟨6, _⟩ => ⟨S1088x128, .f32⟩
  | .hbm, ⟨7, _⟩ => ⟨S1088x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | _, _ => ⟨S1088x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwRefIdeal.lean ====
abbrev S1088x128 : Shape := ⟨2, ![1088, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1088x128, .f32⟩
  | .hbm, ⟨1, _⟩ => ⟨S1088x128, .f32⟩
  | .hbm, ⟨2, _⟩ => ⟨S1088x128, .f32⟩
  | .hbm, ⟨3, _⟩ => ⟨S1088x128, .f32⟩
  | .hbm, ⟨4, _⟩ => ⟨S_, .f32⟩
  | .hbm, ⟨5, _⟩ => ⟨S1088x128, .f32⟩
  | .hbm, ⟨6, _⟩ => ⟨S1088x128, .f32⟩
  | .hbm, ⟨7, _⟩ => ⟨S_, .f32⟩
  | .hbm, ⟨8, _⟩ => ⟨S1088x128, .f32⟩
  | .hbm, ⟨9, _⟩ => ⟨S1088x128, .f32⟩
  | .hbm, ⟨10, _⟩ => ⟨S1088x128, .f32⟩
  | .hbm, ⟨11, _⟩ => ⟨S_, .f32⟩
  | .hbm, ⟨12, _⟩ => ⟨S1088x128, .f32⟩
  | .hbm, ⟨13, _⟩ => ⟨S1088x128, .f32⟩
  | .hbm, ⟨14, _⟩ => ⟨S1088x128, .f32⟩
  | .hbm, ⟨15, _⟩ => ⟨S_, .f32⟩
  | .hbm, ⟨16, _⟩ => ⟨S1088x128, .f32⟩
  | .hbm, ⟨17, _⟩ => ⟨S1088x128, .f32⟩
  | .hbm, ⟨18, _⟩ => ⟨S1088x128, .f32⟩
  | .hbm, ⟨19, _⟩ => ⟨S_, .f32⟩
  | .hbm, ⟨20, _⟩ => ⟨S1088x128, .f32⟩
  | .hbm, ⟨21, _⟩ => ⟨S1088x128, .f32⟩
  | .hbm, ⟨22, _⟩ => ⟨S_, .f32⟩
  | .hbm, ⟨23, _⟩ => ⟨S1088x128, .f32⟩
  | .hbm, ⟨24, _⟩ => ⟨S1088x128, .f32⟩
  | .hbm, ⟨25, _⟩ => ⟨S1088x128, .f32⟩
  | .hbm, ⟨26, _⟩ => ⟨S_, .f32⟩
  | .hbm, ⟨27, _⟩ => ⟨S1088x128, .f32⟩
  | .hbm, ⟨28, _⟩ => ⟨S1088x128, .f32⟩
  | .hbm, ⟨29, _⟩ => ⟨S1088x128, .f32⟩
  | .hbm, ⟨30, _⟩ => ⟨S_, .f32⟩
  | .hbm, ⟨31, _⟩ => ⟨S1088x128, .f32⟩
  | .hbm, ⟨32, _⟩ => ⟨S1088x128, .f32⟩
  | .hbm, ⟨33, _⟩ => ⟨S1088x128, .f32⟩
  | .hbm, ⟨34, _⟩ => ⟨S_, .f32⟩
  | .hbm, ⟨35, _⟩ => ⟨S1088x128, .f32⟩
  | .hbm, ⟨36, _⟩ => ⟨S1088x128, .f32⟩
  | _, _ => ⟨S1088x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RealValues.lean ====
/-
  Finite extended reals, for the claims of this certificate whose arguments are finite.

  A gradient uses that products distribute over sums, which fails at infinite extended reals. So each value claim here
  assumes its arguments finite (`jnp.abs(a) < jnp.inf` everywhere), both programs' results are written as casts of real
  expressions, and the equation is proved over the reals. This module holds what every call needs for that:
    * `real_of_all`: the printed precondition of one array gives a real-valued array with the same contents;
    * the casts of sums, quotients and literals.
-/
module

public import Idealize.ShloMosaic.Lib.Pointwise
public import Idealize.ShloMosaic.Lib.ReduceAll

@[expose] public section

noncomputable section

namespace Cert.Proof.RealValues

open Idealize.ShloMosaic

/-- A value whose absolute value is below `+∞` is a real number. -/
theorem exists_real {x : EReal} (h : max x (-x) < ⊤) : ∃ r : ℝ, x = (r : EReal) := by
  rw [max_lt_iff] at h
  refine ⟨x.toReal, (EReal.coe_toReal h.1.ne ?_).symm⟩
  rintro rfl
  simp at h

/-- The word of `+∞`, at the two formats of the arguments. -/
theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- The printed `jnp.all(jnp.abs(x) < jnp.inf)` holds of an array exactly if it is an array of real numbers: there is
    a real-valued array whose casts it holds. -/
theorem real_of_all {s u : Shape} {φ : FTy} (w : BitVec φ.bits) (hw : Ideal.ofBits φ w = ⊤) (x : FVec Ideal s φ)
    (hb : (⟨0, ![]⟩ : Shape).BroadcastsInDim s ![]) (init : IVec u 1) {axes : List (Fin s.rank)}
    (h : s.ReducesTo axes (⟨0, ![]⟩ : Shape)) (hu : 0 < u.numel) (j : (⟨0, ![]⟩ : Shape).Idx)
    (e : Host.reduce IntOp.andi
      (cmpf .olt (Host.absf x) (broadcastInDim s ![] hb (constant (⟨0, ![]⟩ : Shape) φ w))) init h hu j = 1#1) :
    ∃ f : s.Idx → ℝ, x = fun i => ((f i : ℝ) : EReal) := by
  have key : ∀ i, ∃ r : ℝ, (x i : EReal) = (r : EReal) := by
    intro i
    have e' := Host.reduce_andi_all _ init h hu j e i
    apply exists_real
    have e'' : Ideal.cmp .olt (max (x i : EReal) (-(x i : EReal))) (Ideal.ofBits φ w) = 1#1 := e'
    rw [hw] at e''
    unfold Ideal.cmp at e''
    by_contra hn
    simp [hn] at e''
  choose f hf using key
  exact ⟨f, funext hf⟩

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_real (a : ℝ) {b : ℝ} (h : b ≠ 0) : Ideal.div (a : EReal) (b : EReal) = (a / b : ℝ) := by
  rw [Ideal.div_coe h, ← EReal.coe_mul, mul_one_div]

/-! ## A window's block at an index

  A window at block index `ix` reads its array at `ix a * size a + x a`; these name that array index by its coordinates. -/

theorem blk2 {A B : ℕ} (ix : Fin 2 → ℕ) (s0 s1 x0 x1 : ℕ) {I : (⟨2, ![A, B]⟩ : Shape).Idx} {p : Fin A} {q : Fin B}
    (e0 : (I 0).val = ix 0 * s0 + 1 * x0) (e1 : (I 1).val = ix 1 * s1 + 1 * x1)
    (h0 : ix 0 * s0 + x0 = p.val) (h1 : ix 1 * s1 + x1 = q.val) : I = ix2 p q := by
  funext a
  apply Fin.ext
  match a with
  | ⟨0, _⟩ => show (I 0).val = p.val; omega
  | ⟨1, _⟩ => show (I 1).val = q.val; omega

theorem blk3 {A B C : ℕ} (ix : Fin 3 → ℕ) (s0 s1 s2 x0 x1 x2 : ℕ) {I : (⟨3, ![A, B, C]⟩ : Shape).Idx}
    {p : Fin A} {q : Fin B} {r : Fin C}
    (e0 : (I 0).val = ix 0 * s0 + 1 * x0) (e1 : (I 1).val = ix 1 * s1 + 1 * x1) (e2 : (I 2).val = ix 2 * s2 + 1 * x2)
    (h0 : ix 0 * s0 + x0 = p.val) (h1 : ix 1 * s1 + x1 = q.val) (h2 : ix 2 * s2 + x2 = r.val) : I = ix3 p q r := by
  funext a
  apply Fin.ext
  match a with
  | ⟨0, _⟩ => show (I 0).val = p.val; omega
  | ⟨1, _⟩ => show (I 1).val = q.val; omega
  | ⟨2, _⟩ => show (I 2).val = r.val; omega

/-! ## The programs' float literals -/

theorem lit_half : Ideal.ofBits .f32 0x3F000000#32 = (1 / 2 : ℝ) := by
  simp [Ideal.ofBits, Ideal.ieee, -EReal.coe_mul]; norm_num
theorem lit_one : Ideal.ofBits .f32 0x3F800000#32 = (1 : ℝ) := by
  rw [Ideal.ofBits_one_f32]; rfl
theorem lit_three : Ideal.ofBits .f32 0x40400000#32 = (3 : ℝ) := by
  simp [Ideal.ofBits, Ideal.ieee, -EReal.coe_mul]; norm_num
theorem lit_44715 : Ideal.ofBits .f32 0x472EAB00#32 = (44715 : ℝ) := by
  simp [Ideal.ofBits, Ideal.ieee, -EReal.coe_mul]; norm_num
theorem lit_million : Ideal.ofBits .f32 0x49742400#32 = (1000000 : ℝ) := by
  simp [Ideal.ofBits, Ideal.ieee, -EReal.coe_mul]; norm_num
theorem lit_zero : Ideal.ofBits .f32 0x00000000#32 = (0 : ℝ) := by
  rw [Ideal.ofBits_zero_f32]; rfl
/-- `√(2/π)` as a float32. -/
theorem lit_gelu : Ideal.ofBits .f32 0x3F4C422A#32 = (13386282 / 16777216 : ℝ) := by
  simp [Ideal.ofBits, Ideal.ieee, -EReal.coe_mul]; norm_num

/-- The sigmoid written with the hyperbolic tangent is the logistic function, at every extended real. -/
theorem sig_eq (v : EReal) :
    Ideal.ofBits .f32 0x3F000000#32 * Ideal.tanh (Ideal.ofBits .f32 0x3F000000#32 * v) + Ideal.ofBits .f32 0x3F000000#32
      = Ideal.logistic v := by
  rw [lit_half]
  induction v using EReal.rec with
  | bot =>
    rw [EReal.coe_mul_bot_of_pos (by norm_num)]
    show ((1 / 2 : ℝ) : EReal) * (-1) + _ = _
    rw [Ideal.logistic_bot, mul_neg, mul_one]
    norm_cast; norm_num
  | top =>
    rw [EReal.coe_mul_top_of_pos (by norm_num)]
    show ((1 / 2 : ℝ) : EReal) * 1 + _ = _
    rw [Ideal.logistic_top, mul_one]
    norm_cast; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-(1 / 2 * r)) = Real.exp (1 / 2 * r) * Real.exp (-r) := by rw [← Real.exp_add]; ring_nf
    have p : 0 < Real.exp (1 / 2 * r) := Real.exp_pos _
    have q : 0 < Real.exp (-r) := Real.exp_pos _
    rw [e]
    field_simp
    ring

/-- An index is the index of its coordinates. -/
theorem ex2 {a b : ℕ} (i : (⟨2, ![a, b]⟩ : Shape).Idx) : ∃ (r : Fin a) (j : Fin b), i = ix2 r j := ⟨i 0, i 1, eq_ix2 i⟩
theorem ex3 {a b c : ℕ} (i : (⟨3, ![a, b, c]⟩ : Shape).Idx) : ∃ (q : Fin a) (r : Fin b) (j : Fin c), i = ix3 q r j := ⟨i 0, i 1, i 2, eq_ix3 i⟩

/-- An index lies in a block of the array when each of its coordinates does. -/
theorem in_block {sig : RefSig} {κ : Kind} {b : Ref sig κ} {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole, Rect.mem_set_unit]
  exact h

/-- Blocks of `tm` rows, all columns: the one at row `i 0 / tm` holds the index `i`. -/
theorem rows_cover {R W : ℕ} (i : (⟨2, ![R, W]⟩ : Shape).Idx) {tm : ℕ} (h : 0 < tm) {ix : Fin 2 → ℕ}
    (e : ix = ![(i 0 : ℕ) / tm, 0]) : ∀ a : Fin 2, ix a * ![tm, W] a ≤ (i a : ℕ) ∧ (i a : ℕ) < ix a * ![tm, W] a + ![tm, W] a := by
  have h1 : (i 1 : ℕ) < W := (i 1).isLt
  have h2 := Nat.div_add_mod (i 0 : ℕ) tm
  have h3 := Nat.mod_lt (i 0 : ℕ) h
  rw [Nat.mul_comm] at h2
  subst e
  intro a
  match a with
  | ⟨0, _⟩ =>
    show (i 0 : ℕ) / tm * tm ≤ (i 0 : ℕ) ∧ (i 0 : ℕ) < (i 0 : ℕ) / tm * tm + tm
    omega
  | ⟨1, _⟩ =>
    show 0 * W ≤ (i 1 : ℕ) ∧ (i 1 : ℕ) < 0 * W + W
    omega

/-- One block covers an array. -/
theorem one_cover {a b : ℕ} (i : (⟨2, ![a, b]⟩ : Shape).Idx) {ix : Fin 2 → ℕ} (e : ix = ![0, 0]) :
    ∀ k : Fin 2, ix k * ![a, b] k ≤ (i k : ℕ) ∧ (i k : ℕ) < ix k * ![a, b] k + ![a, b] k := by
  have h0 : (i 0 : ℕ) < a := (i 0).isLt
  have h1 : (i 1 : ℕ) < b := (i 1).isLt
  subst e
  intro k
  match k with
  | ⟨0, _⟩ => show 0 * a ≤ (i 0 : ℕ) ∧ (i 0 : ℕ) < 0 * a + a; omega
  | ⟨1, _⟩ => show 0 * b ≤ (i 1 : ℕ) ∧ (i 1 : ℕ) < 0 * b + b; omega

/-! ## Columns cut in four blocks -/

/-- Column `k` of block `q`, of four blocks of `w` columns. -/
def chipOf (w : ℕ) {W : ℕ} (hW : W = 4 * w) (q : Fin 4) (k : Fin w) : Fin W :=
  ⟨q.val * w + k.val, by
    have h1 : q.val * w ≤ 3 * w := Nat.mul_le_mul_right w (by omega)
    have h2 := k.isLt
    omega⟩

/-- The blocks of columns, put in front. -/
theorem cols_split {α : Type} {n w W : ℕ} (hW : W = 4 * w) (y : (⟨2, ![n, W]⟩ : Shape).Idx → α)
    (h : (⟨2, ![n, W]⟩ : Shape).ShapeCasts ⟨3, ![n, 4, w]⟩)
    (h' : (⟨3, ![n, 4, w]⟩ : Shape).Transposes [1, 0, 2] ⟨3, ![4, n, w]⟩) (q : Fin 4) (R : Fin n) (k : Fin w) :
    transpose ⟨3, ![4, n, w]⟩ [1, 0, 2] (shapeCast ⟨3, ![n, 4, w]⟩ y h) h' (ix3 q R k) = y (ix2 R (chipOf w hW q k)) :=
  (transpose_apply [1, 0, 2] _ h' (ix3 q R k) (ix3 R q k) fun b => match b with | 0 => rfl | 1 => rfl | 2 => rfl).trans
    (shapeCast_apply y h _ _ (by
      rewrite [Shape.rowMajor_val_two, Shape.rowMajor_val_three]
      show R.val * W + (q.val * w + k.val) = (R.val * 4 + q.val) * w + k.val
      subst hW
      ring))

/-- A sum over all columns, block by block. -/
theorem sum_chips {w W : ℕ} (hW : W = 4 * w) (f : Fin W → ℝ) : ∑ K, f K = ∑ q, ∑ k, f (chipOf w hW q k) := by
  subst hW
  rw [← Fintype.sum_prod_type']
  refine (Fintype.sum_equiv (finProdFinEquiv (m := 4) (n := w)) (fun p => f (chipOf w rfl p.1 p.2)) f
    fun p => congrArg f (Fin.ext ?_)).symm
  show p.1.val * w + p.2.val = p.2.val + w * p.1.val
  ring

/-- A sum of products of real numbers. -/
theorem pair {ι : Type} [Fintype ι] (A W : ι → EReal) (a w : ι → ℝ) (hA : ∀ k, A k = ((a k : ℝ) : EReal))
    (hW : ∀ k, W k = ((w k : ℝ) : EReal)) : ∑ k, A k * W k = ((∑ k, a k * w k : ℝ) : EReal) := by
  rw [coe_sum]
  exact Finset.sum_congr rfl fun k _ => by rw [hA, hW, ← EReal.coe_mul]

end Cert.Proof.RealValues

end
-- ==== Proof.Products.lean ====
/- Products of arrays over the extended reals, whole and cut in four blocks, for the calls that multiply with a weight. -/
module

public import proofs.«01_k».proof.Proof.RealValues

@[expose] public section

noncomputable section

namespace Cert.Proof.Products

open Idealize.ShloMosaic
open Cert.Proof.RealValues

theorem hz : (![0, 0] : Fin 2 → Nat) = fun _ => 0 := funext fun a => by fin_cases a <;> rfl
theorem hz3 : (![0, 0, 0] : Fin 3 → Nat) = fun _ => 0 := funext fun a => by fin_cases a <;> rfl

/-- A row of one array times a column of another, and times a row of another. -/
def nn {S K N : ℕ} (x : (⟨2, ![S, K]⟩ : Shape).Idx → EReal) (w : (⟨2, ![K, N]⟩ : Shape).Idx → EReal) (R : Fin S) (j : Fin N) : EReal :=
  ∑ k : Fin K, x (ix2 R k) * w (ix2 k j)
def nt {S K N : ℕ} (x : (⟨2, ![S, K]⟩ : Shape).Idx → EReal) (w : (⟨2, ![N, K]⟩ : Shape).Idx → EReal) (R : Fin S) (j : Fin N) : EReal :=
  ∑ k : Fin K, x (ix2 R k) * w (ix2 j k)

/-- An array of which `f` gives the entry at a row and a column. -/
def arr {S N : ℕ} (f : Fin S → Fin N → EReal) : (⟨2, ![S, N]⟩ : Shape).Idx → EReal := fun i => f (i 0) (i 1)

/-- An array is known by its entries. -/
theorem eq_arr {S N : ℕ} {v : (⟨2, ![S, N]⟩ : Shape).Idx → EReal} {f : Fin S → Fin N → EReal} (h : ∀ R j, v (ix2 R j) = f R j) :
    v = arr f := funext fun i => by rw [eq_ix2 i]; exact h _ _

/-- Such an array read at an index with known coordinates. -/
theorem arr_at {S N : ℕ} (f : Fin S → Fin N → EReal) {R : Fin S} {j : Fin N} {I : (⟨2, ![S, N]⟩ : Shape).Idx}
    (e : I = ix2 R j) : f R j = arr f I := by subst e; rfl

/-- Row `r` of block `t`, of blocks of `b` rows. -/
def rowOf {S : ℕ} (b n : ℕ) (h : S = n * b) (t : ℕ) (ht : t < n) (r : Fin b) : Fin S :=
  ⟨t * b + r.val, by
    have h1 : t * b ≤ (n - 1) * b := Nat.mul_le_mul_right b (by omega)
    have h2 : (n - 1) * b + b = n * b := by rw [← Nat.succ_mul]; congr 1; omega
    have := r.isLt
    omega⟩

/-- The array index of a block of `b` rows, all columns. -/
theorem at_rows {S N : ℕ} {b n : ℕ} (h : S = n * b) {t : ℕ} (ht : t < n) {r : Fin b} {j : Fin N} {ix : Fin 2 → ℕ} (hx : ix = ![t, 0])
    {I : (⟨2, ![S, N]⟩ : Shape).Idx} (e0 : (I 0).val = ix 0 * b + 1 * r.val) (e1 : (I 1).val = ix 1 * N + 1 * j.val) :
    I = ix2 (rowOf b n h t ht r) j :=
  blk2 ix b N r.val j.val e0 e1 (by subst hx; rfl) (by subst hx; simp)

/-- The array index of a block that is the whole array. -/
theorem at_whole {S N : ℕ} {r : Fin S} {j : Fin N} {ix : Fin 2 → ℕ} (hx : ix = ![0, 0])
    {I : (⟨2, ![S, N]⟩ : Shape).Idx} (e0 : (I 0).val = ix 0 * S + 1 * r.val) (e1 : (I 1).val = ix 1 * N + 1 * j.val) : I = ix2 r j :=
  blk2 ix S N r.val j.val e0 e1 (by subst hx; simp) (by subst hx; simp)

/-- The array index of one of four blocks. -/
theorem at_chip {S N : ℕ} {r : Fin S} {j : Fin N} (q : Fin 4) {ix : Fin 3 → ℕ} (hx : ix = ![q.val, 0, 0])
    {I : (⟨3, ![4, S, N]⟩ : Shape).Idx} (e0 : (I 0).val = ix 0 * 1 + 1 * 0) (e1 : (I 1).val = ix 1 * S + 1 * r.val)
    (e2 : (I 2).val = ix 2 * N + 1 * j.val) : I = ix3 q r j :=
  blk3 ix 1 S N 0 r.val j.val e0 e1 e2 (by subst hx; simp) (by subst hx; simp) (by subst hx; simp)

/-- The array index of a block of `b` rows of one of four blocks in front. -/
theorem at_chip_rows {S N : ℕ} {b n : ℕ} (h : S = n * b) {t : ℕ} (ht : t < n) {r : Fin b} {j : Fin N} (q : Fin 4) {ix : Fin 3 → ℕ}
    (hx : ix = ![q.val, t, 0]) {I : (⟨3, ![4, S, N]⟩ : Shape).Idx} (e0 : (I 0).val = ix 0 * 1 + 1 * 0)
    (e1 : (I 1).val = ix 1 * b + 1 * r.val) (e2 : (I 2).val = ix 2 * N + 1 * j.val) : I = ix3 q (rowOf b n h t ht r) j :=
  blk3 ix 1 b N 0 r.val j.val e0 e1 e2 (by subst hx; simp) (by subst hx; rfl) (by subst hx; simp)

/-- The array index of a block of `b` rows and a quarter of the columns. -/
theorem at_rows_cols {S N w : ℕ} {b n : ℕ} (h : S = n * b) (hN : N = 4 * w) {t : ℕ} (ht : t < n) {r : Fin b} {k : Fin w} (q : Fin 4)
    {ix : Fin 2 → ℕ} (hx : ix = ![t, q.val]) {I : (⟨2, ![S, N]⟩ : Shape).Idx} (e0 : (I 0).val = ix 0 * b + 1 * r.val)
    (e1 : (I 1).val = ix 1 * w + 1 * k.val) : I = ix2 (rowOf b n h t ht r) (chipOf w hN q k) :=
  blk2 ix b w r.val k.val e0 e1 (by subst hx; rfl) (by subst hx; rfl)

/-- The column's block among four is found by counting down. -/
theorem pick4 {α : Type} (w : ℕ) {W : ℕ} (hW : W = 4 * w) (f : Fin 4 → Fin w → α) (q : Fin 4) (k : Fin w)
    (h3 : ∀ _ : ¬ ((chipOf w hW q k).val < w), ∀ _ : ¬ ((chipOf w hW q k).val - w < w), ∀ _ : ¬ ((chipOf w hW q k).val - w - w < w),
      (chipOf w hW q k).val - w - w - w < w) :
    (if h : (chipOf w hW q k).val < w then f 0 ⟨_, h⟩
      else if h' : (chipOf w hW q k).val - w < w then f 1 ⟨_, h'⟩
      else if h'' : (chipOf w hW q k).val - w - w < w then f 2 ⟨_, h''⟩
      else f 3 ⟨_, h3 h h' h''⟩) = f q k := by
  have hk := k.isLt
  match q with
  | 0 =>
    have e : (chipOf w hW 0 k).val = k.val := by rw [show (chipOf w hW 0 k).val = 0 * w + k.val from rfl]; omega
    rw [dif_pos (by omega)]; exact congrArg _ (Fin.ext e)
  | 1 =>
    have e : (chipOf w hW 1 k).val = w + k.val := by rw [show (chipOf w hW 1 k).val = 1 * w + k.val from rfl]; omega
    rw [dif_neg (by omega), dif_pos (by omega)]; exact congrArg _ (Fin.ext (by show _ - _ = _; omega))
  | 2 =>
    have e : (chipOf w hW 2 k).val = 2 * w + k.val := rfl
    rw [dif_neg (by omega), dif_neg (by omega), dif_pos (by omega)]; exact congrArg _ (Fin.ext (by show _ - _ - _ = _; omega))
  | 3 =>
    have e : (chipOf w hW 3 k).val = 3 * w + k.val := rfl
    rw [dif_neg (by omega), dif_neg (by omega), dif_neg (by omega)]
    exact congrArg _ (Fin.ext (by show _ - _ - _ - _ = _; omega))

/-- A sum over all columns, block by block, of four blocks. -/
theorem sum_blocks {w W : ℕ} (hW : W = 4 * w) (f : Fin W → EReal) : ∑ K, f K = ∑ q, ∑ k, f (chipOf w hW q k) := by
  subst hW
  rw [← Fintype.sum_prod_type']
  refine (Fintype.sum_equiv (finProdFinEquiv (m := 4) (n := w)) (fun p => f (chipOf w rfl p.1 p.2)) f
    fun p => congrArg f (Fin.ext ?_)).symm
  show p.1.val * w + p.2.val = p.2.val + w * p.1.val
  ring

/-- Products of blocks add up to the product. -/
theorem nn_blocks {S K N k : ℕ} (hK : K = 4 * k) {x : (⟨2, ![S, K]⟩ : Shape).Idx → EReal} {w : (⟨2, ![K, N]⟩ : Shape).Idx → EReal}
    {R : Fin S} {j : Fin N} {a b : Fin 4 → Fin k → EReal} (ha : ∀ q e, a q e = x (ix2 R (chipOf k hK q e)))
    (hb : ∀ q e, b q e = w (ix2 (chipOf k hK q e) j)) : ∑ q, ∑ e, a q e * b q e = nn x w R j := by
  unfold nn
  rw [sum_blocks hK]
  exact Finset.sum_congr rfl fun q _ => Finset.sum_congr rfl fun e _ => by rw [ha, hb]
theorem nt_blocks {S K N k : ℕ} (hK : K = 4 * k) {x : (⟨2, ![S, K]⟩ : Shape).Idx → EReal} {w : (⟨2, ![N, K]⟩ : Shape).Idx → EReal}
    {R : Fin S} {j : Fin N} {a b : Fin 4 → Fin k → EReal} (ha : ∀ q e, a q e = x (ix2 R (chipOf k hK q e)))
    (hb : ∀ q e, b q e = w (ix2 j (chipOf k hK q e))) : ∑ q, ∑ e, a q e * b q e = nt x w R j := by
  unfold nt
  rw [sum_blocks hK]
  exact Finset.sum_congr rfl fun q _ => Finset.sum_congr rfl fun e _ => by rw [ha, hb]

/-- Every column is in one of the four blocks. -/
theorem chip_of (w : ℕ) {W : ℕ} (hW : W = 4 * w) (j : Fin W) : ∃ (q : Fin 4) (k : Fin w), j = chipOf w hW q k := by
  have hj := j.isLt
  have hw : 0 < w := by omega
  refine ⟨⟨j.val / w, (Nat.div_lt_iff_lt_mul hw).2 (by omega)⟩, ⟨j.val % w, Nat.mod_lt _ hw⟩, Fin.ext ?_⟩
  show j.val = j.val / w * w + j.val % w
  rw [Nat.mul_comm]
  exact (Nat.div_add_mod _ _).symm

/-- The blocks of rows, put in front. -/
theorem rows_blocks {α : Type} {n w W : ℕ} (hW : W = 4 * w) (y : (⟨2, ![W, n]⟩ : Shape).Idx → α)
    (h : (⟨2, ![W, n]⟩ : Shape).ShapeCasts ⟨3, ![4, w, n]⟩) (q : Fin 4) (k : Fin w) (j : Fin n) :
    shapeCast ⟨3, ![4, w, n]⟩ y h (ix3 q k j) = y (ix2 (chipOf w hW q k) j) :=
  shapeCast_apply y h _ _ (by
    rewrite [Shape.rowMajor_val_two, Shape.rowMajor_val_three]
    rfl)

end Cert.Proof.Products
end
-- ==== Proof.GluTarget.lean ====
/-
  The gradient of the per-head gate `(gelu(y) Wa) ⊙ …` with respect to `y`, as a real number: both programs of the pair
  compute it, the kernel block by block and the reference by the chain rule.
-/
module

public import proofs.«01_k».proof.Proof.RealValues

@[expose] public section

noncomputable section

namespace Cert.Proof.Glu

open Idealize.ShloMosaic

/-- The float32 nearest `√(2/π)`, as the programs have it. -/
def root : ℝ := 13386282 / 16777216

/-- The hyperbolic tangent inside GELU, at `x`. -/
def th (x : ℝ) : ℝ := Real.tanh (root * (x + 44715 / 1000000 * x * x * x))

/-- The derivative of GELU at `x`. -/
def dgelu (x : ℝ) : ℝ :=
  1 / 2 * (1 + th x) + 1 / 2 * x * (1 - th x * th x) * root * (1 + 3 * (44715 / 1000000) * x * x)

/-- The gradient at token `R`, channel `j`: the two cotangents' products with the two weights, times GELU's derivative. -/
def grad (y : (⟨2, ![16384, 512]⟩ : Shape).Idx → ℝ) (wa wb : (⟨2, ![512, 1024]⟩ : Shape).Idx → ℝ)
    (da db : (⟨2, ![16384, 1024]⟩ : Shape).Idx → ℝ) (R : Fin 16384) (j : Fin 512) : ℝ :=
  ((∑ k : Fin 1024, da (ix2 R k) * wa (ix2 j k)) + ∑ k : Fin 1024, db (ix2 R k) * wb (ix2 j k)) * dgelu (y (ix2 R j))

/-- Column `k` of quarter `q` of 1024 columns. -/
def qcol (q : ℕ) (hq : q < 4) (k : Fin 256) : Fin 1024 := ⟨q * 256 + k.val, by omega⟩

/-- A sum over 1024 columns is the sum of the sums over its quarters, first to last. -/
theorem sum_quarters (f : Fin 1024 → ℝ) :
    ∑ k : Fin 1024, f k = (∑ k, f (qcol 0 (by omega) k)) + (∑ k, f (qcol 1 (by omega) k)) + (∑ k, f (qcol 2 (by omega) k))
      + ∑ k, f (qcol 3 (by omega) k) := by
  have h := Fintype.sum_equiv (finProdFinEquiv (m := 4) (n := 256)) (fun p => f ⟨p.1.val * 256 + p.2.val, by omega⟩) f
    (fun p => congrArg f (Fin.ext (by simp [finProdFinEquiv]; omega)))
  rw [← h, Fintype.sum_prod_type, Fin.sum_univ_four]
  rfl

end Cert.Proof.Glu

end
-- ==== Proof.GluKernel.lean ====
/-
  What `glu_bwd` leaves in its result array: the real gradient `Glu.grad`, for finite arguments. Block by block: the
  body's result at an index is `out_apply`; the windows' blocks read at an index are rows of the token arrays
  (`blk_da`, `blk_db`, `blk_y`) and quarters of the weights, which the host has cut and transposed (`blk_wa`, `blk_wb`).
-/
module

public import proofs.«01_k».proof.Proof.Products
public import proofs.«01_k».proof.Proof.GluTarget
public import proofs.«01_k».proof.Proof.Gen.GluIdeal.Value
public import Idealize.ShloMosaic.Lib.StableHlo.RunRead

@[expose] public section

set_option maxRecDepth 16384

noncomputable section

namespace Cert.Proof.Glu

open Cert.GluIdeal Cert.GluIdeal.Gen Idealize.ShloMosaic TcCoe Idealize.SL.Sem
open Cert.Proof.RealValues
open Cert.Proof.Products (hz hz3)

/-- GELU's derivative as the body writes it, over the extended reals. -/
def bodyGelu (x : EReal) : EReal :=
  let t := Ideal.tanh (Ideal.ofBits .f32 0x3F4C422A#32 *
    (x + Named.named (F := Ideal) (φ := .f32) κ "cubic" 0x3D372713#32 * x * x * x))
  Ideal.ofBits .f32 0x3F000000#32 * (1 + t)
    + Ideal.ofBits .f32 0x3F000000#32 * x * (1 - t * t) * Ideal.ofBits .f32 0x3F4C422A#32
      * (1 + Named.named (F := Ideal) (φ := .f32) κ "cubic3" 0x3E095D4F#32 * x * x)

/-- At a real number it is the cast of the real derivative: the named constants are the decimal fractions they stand for. -/
theorem bodyGelu_coe (x : ℝ) : bodyGelu (x : EReal) = (dgelu x : ℝ) := by
  have h1 : (Named.named (F := Ideal) (φ := .f32) κ "cubic" 0x3D372713#32 : EReal) = ((8943 / 200000 : ℝ) : EReal) :=
    IdealRules.named_const.ideal_named_scalar _ _ _ _ rfl
  have h3 : (Named.named (F := Ideal) (φ := .f32) κ "cubic3" 0x3E095D4F#32 : EReal) = ((26829 / 200000 : ℝ) : EReal) :=
    IdealRules.named_const.ideal_named_scalar _ _ _ _ rfl
  unfold bodyGelu
  rw [h1, h3, lit_half, lit_gelu, ← EReal.coe_one]
  simp only [← EReal.coe_mul, ← EReal.coe_add, ← EReal.coe_sub, Ideal.tanh_coe]
  congr 1
  unfold dgelu th root
  norm_num

/-- The product of a block of 256 columns of a cotangent with a quarter of a weight, at an index. -/
def part (x : Vec Ideal S1024x256 .bf16) (w : Vec Ideal S1x512x256 .bf16) (r : Fin 1024) (j : Fin 512) : EReal :=
  ∑ k : Fin 256, (x (ix2 r k) : EReal) * w (ix3 0 j k)

/-- The body's result at an index: the eight partial products, first to last, times GELU's derivative. -/
theorem out_apply (a0 a1 a2 a3 b0 b1 b2 b3 : Vec Ideal S1024x256 .bf16) (u0 u1 u2 u3 v0 v1 v2 v3 : Vec Ideal S1x512x256 .bf16)
    (y : Vec Ideal S1024x512 .f32) (r : Fin 1024) (j : Fin 512) :
    out0_17 a0 u0 a1 u1 a2 u2 a3 u3 b0 v0 b1 v1 b2 v2 b3 v3 y (ix2 r j)
      = (part a0 u0 r j + part a1 u1 r j + part a2 u2 r j + part a3 u3 r j + part b0 v0 r j + part b1 v1 r j
          + part b2 v2 r j + part b3 v3 r j) * bodyGelu (y (ix2 r j)) := by
  unfold out0_17
  rw [View.canon_unit_zero hz]
  simp only [View.ld_unit_zero (S := S1024x256) hz, View.ld_unit_zero (S := S1x512x256) hz3,
    View.ld_unit_zero (S := S1024x512) hz]
  unfold_payloads
  pointwise
  rfl

variable (m : (ℓ : Loc nD τ sig) → Buf (Elt Ideal) ℓ)

/-- The two weights as the windows find them: cut into quarters of their columns. -/
theorem V_wa (c : Dev nD) (q : Fin 4) (j : Fin 512) (k : Fin 256) :
    V m c main_v2 (ix3 q j k) = m ((c : Thread nD τ).loc main_arg1) (ix2 j (qcol q.val q.isLt k)) := by
  have : V m c main_v2 = (truncf (F := Ideal) .bf16 (transpose S4x512x256 [1, 0, 2]
      (shapeCast S512x4x256 (m ((c : Thread nD τ).loc main_arg1) : FVec Ideal S512x1024 .f32) shapeCasts_S512x1024_S512x4x256)
      transposes_S512x4x256_S4x512x256_1_0_2) bitsLt_bf16_f32 : FVec Ideal S4x512x256 .bf16) := by
    unfold V hostOps0
    after_reads_simp
    rfl
  rw [this]
  pointwise
  rfl

theorem V_wb (c : Dev nD) (q : Fin 4) (j : Fin 512) (k : Fin 256) :
    V m c main_v5 (ix3 q j k) = m ((c : Thread nD τ).loc main_arg2) (ix2 j (qcol q.val q.isLt k)) := by
  have : V m c main_v5 = (truncf (F := Ideal) .bf16 (transpose S4x512x256 [1, 0, 2]
      (shapeCast S512x4x256 (m ((c : Thread nD τ).loc main_arg2) : FVec Ideal S512x1024 .f32) shapeCasts_S512x1024_S512x4x256)
      transposes_S512x4x256_S4x512x256_1_0_2) bitsLt_bf16_f32 : FVec Ideal S4x512x256 .bf16) := by
    unfold V hostOps0
    after_reads_simp
    rfl
  rw [this]
  pointwise
  rfl

/-- Row `r` of the block of 1024 tokens at grid point `t`. -/
def row (t : Fin cfg0.N) (r : Fin 1024) : Fin 16384 :=
  ⟨t.val * 1024 + r.val, by have : t.val < 16 := lt_of_lt_of_eq t.isLt N_0; omega⟩

/-- The block indices of the windows: the token windows' rows move with the point, their columns and the weights' blocks
    are the window's quarter. -/
theorem idx_da : ∀ t : Fin cfg0.N, win0_0.index t = ![t.val, 0] ∧ win0_2.index t = ![t.val, 1]
    ∧ win0_4.index t = ![t.val, 2] ∧ win0_6.index t = ![t.val, 3] := by decide +kernel
theorem idx_db : ∀ t : Fin cfg0.N, win0_8.index t = ![t.val, 0] ∧ win0_10.index t = ![t.val, 1]
    ∧ win0_12.index t = ![t.val, 2] ∧ win0_14.index t = ![t.val, 3] := by decide +kernel
theorem idx_wa : ∀ t : Fin cfg0.N, win0_1.index t = ![0, 0, 0] ∧ win0_3.index t = ![1, 0, 0]
    ∧ win0_5.index t = ![2, 0, 0] ∧ win0_7.index t = ![3, 0, 0] := by decide +kernel
theorem idx_wb : ∀ t : Fin cfg0.N, win0_9.index t = ![0, 0, 0] ∧ win0_11.index t = ![1, 0, 0]
    ∧ win0_13.index t = ![2, 0, 0] ∧ win0_15.index t = ![3, 0, 0] := by decide +kernel
theorem idx_y : ∀ t : Fin cfg0.N, win0_16.index t = ![t.val, 0] ∧ win0_17.index t = ![t.val, 0] := by decide +kernel

/-- The array index of a block of a cotangent whose window stands at point `t`'s rows and quarter `q` of the columns. -/
theorem at_tok {t : Fin cfg0.N} {r : Fin 1024} {k : Fin 256} {q : ℕ} (hq : q < 4) {ix : Fin 2 → ℕ} (h : ix = ![t.val, q])
    {I : S16384x1024.Idx} (e0 : (I 0).val = ix 0 * 1024 + 1 * r.val) (e1 : (I 1).val = ix 1 * 256 + 1 * k.val) :
    I = ix2 (row t r) (qcol q hq k) :=
  blk2 ix 1024 256 r.val k.val e0 e1 (by subst h; rfl) (by subst h; rfl)

/-- The same of a block of a weight. -/
theorem at_weight {j : Fin 512} {k : Fin 256} (q : Fin 4) {ix : Fin 3 → ℕ} (h : ix = ![q.val, 0, 0]) {I : S4x512x256.Idx}
    (e0 : (I 0).val = ix 0 * 1 + 1 * 0) (e1 : (I 1).val = ix 1 * 512 + 1 * j.val) (e2 : (I 2).val = ix 2 * 256 + 1 * k.val) :
    I = ix3 q j k :=
  blk3 ix 1 512 256 0 j.val k.val e0 e1 e2 (by subst h; simp) (by subst h; simp) (by subst h; simp)

/-- The blocks read at an index: rows of the cotangents, quarters of the weights. -/
theorem blk_da (c : Dev nD) (t : Fin cfg0.N) (r : Fin 1024) (k : Fin 256) :
    iblk m c 0 t (ix2 r k) = m ((c : Thread nD τ).loc main_arg3) (ix2 (row t r) (qcol 0 (by omega) k))
    ∧ iblk m c 2 t (ix2 r k) = m ((c : Thread nD τ).loc main_arg3) (ix2 (row t r) (qcol 1 (by omega) k))
    ∧ iblk m c 4 t (ix2 r k) = m ((c : Thread nD τ).loc main_arg3) (ix2 (row t r) (qcol 2 (by omega) k))
    ∧ iblk m c 6 t (ix2 r k) = m ((c : Thread nD τ).loc main_arg3) (ix2 (row t r) (qcol 3 (by omega) k)) := by
  obtain ⟨a0, a1, a2, a3⟩ := idx_da t
  exact ⟨(congrFun (V_main_arg3 m c) _).trans (congrArg _ (at_tok _ a0 rfl rfl)),
    (congrFun (V_main_arg3 m c) _).trans (congrArg _ (at_tok _ a1 rfl rfl)),
    (congrFun (V_main_arg3 m c) _).trans (congrArg _ (at_tok _ a2 rfl rfl)),
    (congrFun (V_main_arg3 m c) _).trans (congrArg _ (at_tok _ a3 rfl rfl))⟩
theorem blk_db (c : Dev nD) (t : Fin cfg0.N) (r : Fin 1024) (k : Fin 256) :
    iblk m c 8 t (ix2 r k) = m ((c : Thread nD τ).loc main_arg4) (ix2 (row t r) (qcol 0 (by omega) k))
    ∧ iblk m c 10 t (ix2 r k) = m ((c : Thread nD τ).loc main_arg4) (ix2 (row t r) (qcol 1 (by omega) k))
    ∧ iblk m c 12 t (ix2 r k) = m ((c : Thread nD τ).loc main_arg4) (ix2 (row t r) (qcol 2 (by omega) k))
    ∧ iblk m c 14 t (ix2 r k) = m ((c : Thread nD τ).loc main_arg4) (ix2 (row t r) (qcol 3 (by omega) k)) := by
  obtain ⟨a0, a1, a2, a3⟩ := idx_db t
  exact ⟨(congrFun (V_main_arg4 m c) _).trans (congrArg _ (at_tok _ a0 rfl rfl)),
    (congrFun (V_main_arg4 m c) _).trans (congrArg _ (at_tok _ a1 rfl rfl)),
    (congrFun (V_main_arg4 m c) _).trans (congrArg _ (at_tok _ a2 rfl rfl)),
    (congrFun (V_main_arg4 m c) _).trans (congrArg _ (at_tok _ a3 rfl rfl))⟩
theorem blk_wa (c : Dev nD) (t : Fin cfg0.N) (j : Fin 512) (k : Fin 256) :
    iblk m c 1 t (ix3 0 j k) = m ((c : Thread nD τ).loc main_arg1) (ix2 j (qcol 0 (by omega) k))
    ∧ iblk m c 3 t (ix3 0 j k) = m ((c : Thread nD τ).loc main_arg1) (ix2 j (qcol 1 (by omega) k))
    ∧ iblk m c 5 t (ix3 0 j k) = m ((c : Thread nD τ).loc main_arg1) (ix2 j (qcol 2 (by omega) k))
    ∧ iblk m c 7 t (ix3 0 j k) = m ((c : Thread nD τ).loc main_arg1) (ix2 j (qcol 3 (by omega) k)) := by
  obtain ⟨a0, a1, a2, a3⟩ := idx_wa t
  exact ⟨(congrArg (V m c main_v2) (at_weight 0 a0 rfl rfl rfl)).trans (V_wa m c 0 j k),
    (congrArg (V m c main_v2) (at_weight 1 a1 rfl rfl rfl)).trans (V_wa m c 1 j k),
    (congrArg (V m c main_v2) (at_weight 2 a2 rfl rfl rfl)).trans (V_wa m c 2 j k),
    (congrArg (V m c main_v2) (at_weight 3 a3 rfl rfl rfl)).trans (V_wa m c 3 j k)⟩
theorem blk_wb (c : Dev nD) (t : Fin cfg0.N) (j : Fin 512) (k : Fin 256) :
    iblk m c 9 t (ix3 0 j k) = m ((c : Thread nD τ).loc main_arg2) (ix2 j (qcol 0 (by omega) k))
    ∧ iblk m c 11 t (ix3 0 j k) = m ((c : Thread nD τ).loc main_arg2) (ix2 j (qcol 1 (by omega) k))
    ∧ iblk m c 13 t (ix3 0 j k) = m ((c : Thread nD τ).loc main_arg2) (ix2 j (qcol 2 (by omega) k))
    ∧ iblk m c 15 t (ix3 0 j k) = m ((c : Thread nD τ).loc main_arg2) (ix2 j (qcol 3 (by omega) k)) := by
  obtain ⟨a0, a1, a2, a3⟩ := idx_wb t
  exact ⟨(congrArg (V m c main_v5) (at_weight 0 a0 rfl rfl rfl)).trans (V_wb m c 0 j k),
    (congrArg (V m c main_v5) (at_weight 1 a1 rfl rfl rfl)).trans (V_wb m c 1 j k),
    (congrArg (V m c main_v5) (at_weight 2 a2 rfl rfl rfl)).trans (V_wb m c 2 j k),
    (congrArg (V m c main_v5) (at_weight 3 a3 rfl rfl rfl)).trans (V_wb m c 3 j k)⟩
theorem blk_y (c : Dev nD) (t : Fin cfg0.N) (r : Fin 1024) (j : Fin 512) :
    iblk m c 16 t (ix2 r j) = m ((c : Thread nD τ).loc main_arg0) (ix2 (row t r) j) :=
  (congrFun (V_main_arg0 m c) _).trans (congrArg _
    (blk2 (win0_16.index t) 1024 512 r.val j.val rfl rfl (by rw [(idx_y t).1]; rfl) (by rw [(idx_y t).1]; simp)))

variable {y : S16384x512.Idx → ℝ} {wa wb : S512x1024.Idx → ℝ} {da db : S16384x1024.Idx → ℝ}

/-- A partial product of blocks of real arrays, as a real number. -/
theorem part_coe {x : Vec Ideal S1024x256 .bf16} {w : Vec Ideal S1x512x256 .bf16} {r : Fin 1024} {j : Fin 512}
    (d : S16384x1024.Idx → ℝ) (v : S512x1024.Idx → ℝ) (R : Fin 16384) {q : ℕ} (hq : q < 4)
    (hx : ∀ k, x (ix2 r k) = ((d (ix2 R (qcol q hq k)) : ℝ) : EReal))
    (hw : ∀ k, w (ix3 0 j k) = ((v (ix2 j (qcol q hq k)) : ℝ) : EReal)) :
    part x w r j = (∑ k : Fin 256, d (ix2 R (qcol q hq k)) * v (ix2 j (qcol q hq k)) : ℝ) := by
  rw [coe_sum]
  exact Finset.sum_congr rfl fun k _ => by rw [hx, hw, ← EReal.coe_mul]

/-- The result array: the real gradient, index by index. -/
def result (y : S16384x512.Idx → ℝ) (wa wb : S512x1024.Idx → ℝ) (da db : S16384x1024.Idx → ℝ) :
    S16384x512.Idx → EReal := fun i => ((grad y wa wb da db (i 0) (i 1) : ℝ) : EReal)

/-- What grid point `t` leaves in its block of the result: the gradient at the block's rows. -/
theorem block_eq (c : Dev nD) (t : Fin cfg0.N) (hy : m ((c : Thread nD τ).loc main_arg0) = fun i => ((y i : ℝ) : EReal))
    (ha : m ((c : Thread nD τ).loc main_arg1) = fun i => ((wa i : ℝ) : EReal))
    (hb : m ((c : Thread nD τ).loc main_arg2) = fun i => ((wb i : ℝ) : EReal))
    (hda : m ((c : Thread nD τ).loc main_arg3) = fun i => ((da i : ℝ) : EReal))
    (hdb : m ((c : Thread nD τ).loc main_arg4) = fun i => ((db i : ℝ) : EReal)) (r : Fin 1024) (j : Fin 512) :
    out0_17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (ix2 r j) = (grad y wa wb da db (row t r) j : ℝ) := by
  have A := blk_da m c t r
  have B := blk_db m c t r
  have U := blk_wa m c t j
  have W := blk_wb m c t j
  simp only [hda, hdb, ha, hb] at A B U W
  rw [out_apply, blk_y m c t r j, hy, bodyGelu_coe,
    part_coe da wa (row t r) _ (fun k => (A k).1) (fun k => (U k).1),
    part_coe da wa (row t r) _ (fun k => (A k).2.1) (fun k => (U k).2.1),
    part_coe da wa (row t r) _ (fun k => (A k).2.2.1) (fun k => (U k).2.2.1),
    part_coe da wa (row t r) _ (fun k => (A k).2.2.2) (fun k => (U k).2.2.2),
    part_coe db wb (row t r) _ (fun k => (B k).1) (fun k => (W k).1),
    part_coe db wb (row t r) _ (fun k => (B k).2.1) (fun k => (W k).2.1),
    part_coe db wb (row t r) _ (fun k => (B k).2.2.1) (fun k => (W k).2.2.1),
    part_coe db wb (row t r) _ (fun k => (B k).2.2.2) (fun k => (W k).2.2.2)]
  simp only [← EReal.coe_mul, ← EReal.coe_add]
  congr 1
  unfold grad
  rw [sum_quarters (fun k => da (ix2 (row t r) k) * wa (ix2 j k)), sum_quarters (fun k => db (ix2 (row t r) k) * wb (ix2 j k))]
  ring

/-- The points' blocks cover the result. -/
theorem cover (i : S16384x512.Idx) : ∃ t : Fin cfg0.N, (cfg0.win 17).flush t = true ∧ i ∈ ((cfg0.win 17).blk t).view.set := by
  have h0 : (i 0 : Nat) < 16384 := (i 0).isLt
  have h1 : (i 1 : Nat) < 512 := (i 1).isLt
  let t : Fin cfg0.N := ⟨(i 0 : Nat) / 1024, by rw [show cfg0.N = 16 from N_0]; omega⟩
  refine ⟨t, flush0_17 t, ?_⟩
  refine in_block ?_
  have e := (idx_y t).2
  intro a
  match a with
  | ⟨0, _⟩ =>
    show win0_17.index t 0 * 1024 ≤ (i 0 : Nat) ∧ (i 0 : Nat) < win0_17.index t 0 * 1024 + 1024
    rw [e]; show (i 0 : Nat) / 1024 * 1024 ≤ _ ∧ _ < (i 0 : Nat) / 1024 * 1024 + 1024; omega
  | ⟨1, _⟩ =>
    show win0_17.index t 1 * 512 ≤ (i 1 : Nat) ∧ (i 1 : Nat) < win0_17.index t 1 * 512 + 512
    rw [e]; show 0 * 512 ≤ _ ∧ _ < 0 * 512 + 512; omega

/-- The result array after the run is the real gradient. -/
theorem final (c : Dev nD) (hy : m ((c : Thread nD τ).loc main_arg0) = fun i => ((y i : ℝ) : EReal))
    (ha : m ((c : Thread nD τ).loc main_arg1) = fun i => ((wa i : ℝ) : EReal))
    (hb : m ((c : Thread nD τ).loc main_arg2) = fun i => ((wb i : ℝ) : EReal))
    (hda : m ((c : Thread nD τ).loc main_arg3) = fun i => ((da i : ℝ) : EReal))
    (hdb : m ((c : Thread nD τ).loc main_arg4) = fun i => ((db i : ℝ) : EReal)) :
    (dats m 0 c).arrAt 17 cfg0.N = result y wa wb da db := by
  refine (dats m 0 c).arrAt_eq_of_cover 17 _ (fun t _ => ?_) cover
  rw [Cert.GluIdeal.Value.flushed17]
  refine funext fun (jj : S1024x512.Idx) => ?_
  obtain ⟨r, j, rfl⟩ := ex2 jj
  have e : (((cfg0.win 17).blk t).view.emb (ix2 r j : S1024x512.Idx) : S16384x512.Idx) = ix2 (row t r) j :=
    blk2 (win0_17.index t) 1024 512 r.val j.val rfl rfl (by rw [(idx_y t).2]; rfl) (by rw [(idx_y t).2]; simp)
  exact (block_eq m c t hy ha hb hda hdb r j).trans (congrArg (result y wa wb da db) e).symm

end Cert.Proof.Glu
end
-- ==== Proof.GluRef.lean ====
/- What the reference of the pair leaves in its result: the same real gradient `Glu.grad`. -/
module

public import proofs.«01_k».proof.Proof.GluTarget
public import proofs.«01_k».proof.Proof.Gen.GluRefIdeal.Read

@[expose] public section

set_option maxRecDepth 16384

noncomputable section

namespace Cert.Proof.Glu

open Cert.GluRefIdeal Cert.GluRefIdeal.Read Idealize.ShloMosaic TcCoe Idealize.SL.Sem
open Cert.Proof.RealValues

variable {y : S16384x512.Idx → ℝ} {wa wb : S512x1024.Idx → ℝ} {da db : S16384x1024.Idx → ℝ}

/-- The products of the two cotangents with the weights, summed, at an index. -/
theorem ref_products (r : Fin 16384) (j : Fin 512) :
    val_main_v28 (F := Ideal) (fun i => ((wa i : ℝ) : EReal)) (fun i => ((wb i : ℝ) : EReal))
      (fun i => ((da i : ℝ) : EReal)) (fun i => ((db i : ℝ) : EReal)) (ix2 r j)
      = ((∑ k : Fin 1024, db (ix2 r k) * wb (ix2 j k)) + ∑ k : Fin 1024, da (ix2 r k) * wa (ix2 j k) : ℝ) := by
  unfold val_main_v28 val_main_v26 val_main_v27 val_main_v25 val_main_v24
  pointwise
  simp only [← EReal.coe_mul, ← coe_sum, ← EReal.coe_add]

/-- The reference's result, for finite arguments, is the real gradient. -/
theorem ref_final (x0 : FVec Ideal S16384x512 .f32) (x1 x2 : FVec Ideal S512x1024 .f32) (x3 x4 : FVec Ideal S16384x1024 .bf16)
    (h0 : x0 = fun i => ((y i : ℝ) : EReal)) (h1 : x1 = fun i => ((wa i : ℝ) : EReal)) (h2 : x2 = fun i => ((wb i : ℝ) : EReal))
    (h3 : x3 = fun i => ((da i : ℝ) : EReal)) (h4 : x4 = fun i => ((db i : ℝ) : EReal)) :
    val_main_v40 (F := Ideal) x0 x1 x2 x3 x4 = fun i => ((grad y wa wb da db (i 0) (i 1) : ℝ) : EReal) := by
  subst h0 h1 h2 h3 h4
  funext i
  obtain ⟨r, j, rfl⟩ := ex2 i
  have hp := ref_products (wa := wa) (wb := wb) (da := da) (db := db) r j
  have hm : (1000000 : ℝ) ≠ 0 := by norm_num
  simp only [val_main_v40, val_main_v39, val_main_v38, val_main_v37, val_main_v36, val_main_v35, val_main_v34, val_main_v33,
    val_main_v32, val_main_v31, val_main_v30, val_main_v29, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5,
    val_main_cst_6, val_main_cst_7, val_main_cst_8]
  pointwise
  rw [hp]
  simp only [lit_half, lit_one, lit_three, lit_44715, lit_million, lit_gelu, div_real _ hm, ← EReal.coe_one, ← EReal.coe_mul,
    ← EReal.coe_add, ← EReal.coe_sub, Ideal.tanh_coe]
  congr 1
  show _ = grad y wa wb da db r j
  unfold grad dgelu th root
  ring_nf

end Cert.Proof.Glu
end
-- ==== Proof.GluClaims.lean ====
/- The claims of the pair Glu: the frames, and that both programs leave the real gradient `Glu.grad`. -/
module

public import proofs.«01_k».proof.Defs
public import proofs.«01_k».proof.Proof.GluKernel
public import proofs.«01_k».proof.Proof.GluRef
public import proofs.«01_k».proof.Proof.Gen.Glu.Frame
public import proofs.«01_k».proof.Proof.Gen.Pre_glu_pre

@[expose] public section

set_option maxRecDepth 16384

noncomputable section

namespace Cert.Proof.Glu

open Idealize.ShloMosaic TcCoe Idealize.SL.Sem Cert.Proof.RealValues
open Cert.GluIdeal (S16384x512 S512x1024 S16384x1024)

/-- Arguments that meet the precondition are casts of real arrays. -/
theorem reals_of_pre {x0 : FVec Ideal S16384x512 .f32} {x1 x2 : FVec Ideal S512x1024 .f32} {x3 x4 : FVec Ideal S16384x1024 .bf16}
    (h : Cert.Pre_glu_pre.fn x0 x1 x2 x3 x4 = fun _ => 1#1) :
    (∃ y : S16384x512.Idx → ℝ, x0 = fun i => ((y i : ℝ) : EReal)) ∧ (∃ a : S512x1024.Idx → ℝ, x1 = fun i => ((a i : ℝ) : EReal))
      ∧ (∃ b : S512x1024.Idx → ℝ, x2 = fun i => ((b i : ℝ) : EReal))
      ∧ (∃ a : S16384x1024.Idx → ℝ, x3 = fun i => ((a i : ℝ) : EReal))
      ∧ ∃ b : S16384x1024.Idx → ℝ, x4 = fun i => ((b i : ℝ) : EReal) := by
  have h4 := congrFun h (fun a => a.elim0)
  dsimp only [Cert.Pre_glu_pre.fn, Cert.Pre_glu_pre.fn_part1] at h4
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨real_of_all _ top_f32 _ _ _ _ _ _ e0, real_of_all _ top_f32 _ _ _ _ _ _ e1, real_of_all _ top_f32 _ _ _ _ _ _ e2,
    real_of_all _ top_bf16 _ _ _ _ _ _ e3, real_of_all _ top_bf16 _ _ _ _ _ _ e4⟩

/-- Kernel and reference compute the same function of finite arguments over the extended reals. -/
theorem algebraic : Cert.algebraic_GluIdeal_GluRefIdeal_pre_glu_pre := by
  intro m g m' g' hpre hargs
  refine ⟨fun c => Cert.GluRefIdeal.Value.res_main_v40 m' c, (θ_run Cert.GluIdeal.defs _ _).mono ?_ (Cert.GluIdeal.Value.run_blocks m g),
    Cert.GluRefIdeal.Value.run m' g'⟩
  refine fun r h c => ⟨(h c).1.trans ?_, (h c).2⟩
  obtain ⟨⟨y, h0⟩, ⟨wa, h1⟩, ⟨wb, h2⟩, ⟨da, h3⟩, ⟨db, h4⟩⟩ := reals_of_pre (hpre c)
  obtain ⟨k0, k1, k2, k3, k4⟩ := hargs c
  exact (final m c h0 h1 h2 h3 h4).trans ((Cert.GluRefIdeal.Read.val_main_v40_eq m' c).trans
    (ref_final _ _ _ _ _ (k0.trans h0) (k1.trans h1) (k2.trans h2) (k3.trans h3) (k4.trans h4))).symm

/-- The reference terminates, leaves its arguments and every counter at zero. -/
theorem frame_ref : Cert.quiescent_GluRefIdeal := fun m g _ =>
  (θ_run Cert.GluRefIdeal.defs _ _).mono (fun r h => ⟨fun c => (h c).2, Idealize.ShloMosaic.sem_eq_zero_of_no_sems (by decide) r.2⟩)
    (Cert.GluRefIdeal.Value.run m g)

theorem frame_kernel : Cert.quiescent_Glu := fun m g _ => Cert.Glu.Gen.frame m g
theorem frame_ideal : Cert.quiescent_GluIdeal := fun m g _ => Cert.GluIdeal.Gen.frame m g

/-- The two named constants are what their floats round. -/
theorem preserves : Cert.preserves_Glu_GluIdeal :=
  ⟨IdealRules.named_const.statement Cert.GluIdeal.κ "cubic" .f32 0x3D372713#32 ((8943 / 200000 : ℝ) : EReal) rfl,
    IdealRules.named_const.statement Cert.GluIdeal.κ "cubic3" .f32 0x3E095D4F#32 ((26829 / 200000 : ℝ) : EReal) rfl⟩

end Cert.Proof.Glu
end
-- ==== Proof.FfdTarget.lean ====
/-
  The gradients of SwiGLU with respect to its two factors, at a token `R` and a column `K`, as real functions of the factors
  `gt`, `up`, the weight `w` of the product after it and the cotangent `g` of that product.
-/
module

public import proofs.«01_k».proof.Proof.RealValues

@[expose] public section

noncomputable section

namespace Cert.Proof.Ffd

open Idealize.ShloMosaic
open Cert.Proof.RealValues

/-- The logistic function. -/
def lgt (v : ℝ) : ℝ := (1 + Real.exp (-v))⁻¹

/-- The four arrays. -/
structure Args where
  (gt up : (⟨2, ![16384, 2816]⟩ : Shape).Idx → ℝ) (w : (⟨2, ![2816, 1024]⟩ : Shape).Idx → ℝ) (g : (⟨2, ![16384, 1024]⟩ : Shape).Idx → ℝ)

/-- The cotangent of the product of the two factors. -/
def Args.dact (x : Args) (R : Fin 16384) (K : Fin 2816) : ℝ := ∑ j : Fin 1024, x.g (ix2 R j) * x.w (ix2 K j)

/-- The gradient of `silu gt * up` with respect to `gt`, and with respect to `up`. -/
def Args.dgate (x : Args) (R : Fin 16384) (K : Fin 2816) : ℝ :=
  x.dact R K * x.up (ix2 R K) * (lgt (x.gt (ix2 R K)) * (1 + x.gt (ix2 R K) * (1 - lgt (x.gt (ix2 R K)))))
def Args.dup (x : Args) (R : Fin 16384) (K : Fin 2816) : ℝ := x.dact R K * x.gt (ix2 R K) * lgt (x.gt (ix2 R K))

/-- Column `k` of chip `q`'s block of 704 columns. -/
abbrev chip (q : Fin 4) (k : Fin 704) : Fin 2816 := chipOf 704 rfl q k

/-- The array that holds `f` in four blocks of columns. -/
def arr (f : Fin 16384 → Fin 2816 → ℝ) : (⟨3, ![4, 16384, 704]⟩ : Shape).Idx → EReal := fun i => ((f (i 1) (chip (i 0) (i 2)) : ℝ) : EReal)

/-- Rows cut in four. -/
theorem rows_split {α : Type} (y : (⟨2, ![2816, 1024]⟩ : Shape).Idx → α)
    (h : (⟨2, ![2816, 1024]⟩ : Shape).ShapeCasts ⟨3, ![4, 704, 1024]⟩) (q : Fin 4) (k : Fin 704) (j : Fin 1024) :
    shapeCast ⟨3, ![4, 704, 1024]⟩ y h (ix3 q k j) = y (ix2 (chip q k) j) :=
  shapeCast_apply y h _ _ (by
    rewrite [Shape.rowMajor_val_two, Shape.rowMajor_val_three]
    show (q.val * 704 + k.val) * 1024 + j.val = (q.val * 704 + k.val) * 1024 + j.val
    rfl)

end Cert.Proof.Ffd
end
-- ==== Proof.FfdKernel.lean ====
/-
  What `ffn_down_bwd` leaves in its two result arrays, for finite arguments: SwiGLU's two gradients.
-/
module

public import proofs.«01_k».proof.Proof.Products
public import proofs.«01_k».proof.Proof.FfdTarget
public import proofs.«01_k».proof.Proof.Gen.FfdIdeal.Value
public import Idealize.ShloMosaic.Lib.StableHlo.RunRead

@[expose] public section

set_option maxRecDepth 16384

noncomputable section

namespace Cert.Proof.Ffd

open Cert.FfdIdeal Cert.FfdIdeal.Gen Idealize.ShloMosaic TcCoe Idealize.SL.Sem
open Cert.Proof.RealValues
open Cert.Proof.Products (hz hz3)

section body
variable (g : Vec Ideal S512x1024 .f32) (w : Fin 4 → Vec Ideal S1x704x1024 .bf16) (gt up : Vec Ideal S4x512x704 .bf16)

/-- The body's first result at an index: chip `q`'s block of the weight gives block `q` of the result. -/
theorem out_dgate (q : Fin 4) (r : Fin 512) (k : Fin 704) :
    out0_7 g (w 0) (w 1) (w 2) (w 3) gt up (ix3 q r k)
      = (∑ x, g (ix2 r x) * w q (ix3 0 k x)) * up (ix3 q r k) *
        (Ideal.logistic (gt (ix3 q r k)) * (1 + gt (ix3 q r k) * (1 - Ideal.logistic (gt (ix3 q r k))))) := by
  unfold out0_7
  rw [View.canon_unit_zero hz3]
  unfold_payloads
  simp only [View.ld_unit_zero (S := S512x1024) hz, View.ld_unit_zero (S := S1x704x1024) hz3,
    View.ld_unit_zero (S := S4x512x704) hz3]
  match q with
  | 0 | 1 | 2 | 3 => pointwise; simp only [sig_eq]; try rfl

/-- The body's second result at an index. -/
theorem out_dup (q : Fin 4) (r : Fin 512) (k : Fin 704) :
    out0_8 g (w 0) (w 1) (w 2) (w 3) gt up (ix3 q r k)
      = (∑ x, g (ix2 r x) * w q (ix3 0 k x)) * gt (ix3 q r k) * Ideal.logistic (gt (ix3 q r k)) := by
  unfold out0_8
  rw [View.canon_unit_zero hz3]
  unfold_payloads
  simp only [View.ld_unit_zero (S := S512x1024) hz, View.ld_unit_zero (S := S1x704x1024) hz3,
    View.ld_unit_zero (S := S4x512x704) hz3]
  match q with
  | 0 | 1 | 2 | 3 => pointwise; simp only [sig_eq]; try rfl

end body

variable (m : (ℓ : Loc nD τ sig) → Buf (Elt Ideal) ℓ)

/-- Row `r` of the block of 512 tokens at grid point `t`. -/
def row (t : Fin cfg0.N) (r : Fin 512) : Fin 16384 :=
  ⟨t.val * 512 + r.val, by have : t.val < 32 := lt_of_lt_of_eq t.isLt N_0; omega⟩

/-- The block indices of the windows. -/
theorem idx_w : ∀ t : Fin cfg0.N, win0_0.index t = ![t.val, 0] ∧ win0_1.index t = ![0, 0, 0] ∧ win0_2.index t = ![1, 0, 0]
    ∧ win0_3.index t = ![2, 0, 0] ∧ win0_4.index t = ![3, 0, 0] := by decide +kernel
theorem idx_t : ∀ t : Fin cfg0.N, win0_5.index t = ![0, t.val, 0] ∧ win0_6.index t = ![0, t.val, 0]
    ∧ win0_7.index t = ![0, t.val, 0] ∧ win0_8.index t = ![0, t.val, 0] := by decide +kernel

/-- The weight as the windows find it: four blocks of rows. -/
theorem V_w (c : Dev nD) (q : Fin 4) (k : Fin 704) (j : Fin 1024) :
    V m c main_v1 (ix3 q k j) = m ((c : Thread nD τ).loc main_arg2) (ix2 (chip q k) j) := by
  have : V m c main_v1 = (truncf (F := Ideal) .bf16
      (shapeCast S4x704x1024 (m ((c : Thread nD τ).loc main_arg2) : FVec Ideal S2816x1024 .f32) shapeCasts_S2816x1024_S4x704x1024)
      bitsLt_bf16_f32 : FVec Ideal S4x704x1024 .bf16) := by
    unfold V hostOps0
    after_reads_simp
    rfl
  rw [this]
  exact rows_split _ _ q k j

/-- The two factors as the windows find them: four blocks of columns. -/
theorem V_gt (c : Dev nD) (q : Fin 4) (R : Fin 16384) (k : Fin 704) :
    V m c main_v4 (ix3 q R k) = m ((c : Thread nD τ).loc main_arg0) (ix2 R (chip q k)) := by
  have : V m c main_v4 = (truncf (F := Ideal) .bf16 (transpose S4x16384x704 [1, 0, 2]
      (shapeCast S16384x4x704 (m ((c : Thread nD τ).loc main_arg0) : FVec Ideal S16384x2816 .f32) shapeCasts_S16384x2816_S16384x4x704)
      transposes_S16384x4x704_S4x16384x704_1_0_2) bitsLt_bf16_f32 : FVec Ideal S4x16384x704 .bf16) := by
    unfold V hostOps0
    after_reads_simp
    rfl
  rw [this]
  exact cols_split rfl _ _ _ q R k
theorem V_up (c : Dev nD) (q : Fin 4) (R : Fin 16384) (k : Fin 704) :
    V m c main_v7 (ix3 q R k) = m ((c : Thread nD τ).loc main_arg1) (ix2 R (chip q k)) := by
  have : V m c main_v7 = (truncf (F := Ideal) .bf16 (transpose S4x16384x704 [1, 0, 2]
      (shapeCast S16384x4x704 (m ((c : Thread nD τ).loc main_arg1) : FVec Ideal S16384x2816 .f32) shapeCasts_S16384x2816_S16384x4x704)
      transposes_S16384x4x704_S4x16384x704_1_0_2) bitsLt_bf16_f32 : FVec Ideal S4x16384x704 .bf16) := by
    unfold V hostOps0
    after_reads_simp
    rfl
  rw [this]
  exact cols_split rfl _ _ _ q R k

/-- The array index of a block of 512 tokens, all four blocks of columns. -/
theorem at_rows {t : Fin cfg0.N} {q : Fin 4} {r : Fin 512} {k : Fin 704} {ix : Fin 3 → ℕ} (h : ix = ![0, t.val, 0])
    {I : S4x16384x704.Idx} (e0 : (I 0).val = ix 0 * 4 + 1 * q.val) (e1 : (I 1).val = ix 1 * 512 + 1 * r.val)
    (e2 : (I 2).val = ix 2 * 704 + 1 * k.val) : I = ix3 q (row t r) k :=
  blk3 ix 4 512 704 q.val r.val k.val e0 e1 e2 (by subst h; simp) (by subst h; rfl) (by subst h; simp)

/-- The array index of a block of the weight. -/
theorem at_weight {k : Fin 704} {j : Fin 1024} (q : Fin 4) {ix : Fin 3 → ℕ} (h : ix = ![q.val, 0, 0]) {I : S4x704x1024.Idx}
    (e0 : (I 0).val = ix 0 * 1 + 1 * 0) (e1 : (I 1).val = ix 1 * 704 + 1 * k.val) (e2 : (I 2).val = ix 2 * 1024 + 1 * j.val) :
    I = ix3 q k j :=
  blk3 ix 1 704 1024 0 k.val j.val e0 e1 e2 (by subst h; simp) (by subst h; simp) (by subst h; simp)

section blocks
variable (c : Dev nD) (t : Fin cfg0.N) (r : Fin 512)

/-- The weight's four windows. -/
def wblk : Fin 4 → Vec Ideal S1x704x1024 .bf16 := fun q => match q with
  | 0 => iblk m c 1 t | 1 => iblk m c 2 t | 2 => iblk m c 3 t | 3 => iblk m c 4 t

/-- The windows' blocks at an index. -/
theorem blk_g (j : Fin 1024) : iblk m c 0 t (ix2 r j) = m ((c : Thread nD τ).loc main_arg3) (ix2 (row t r) j) :=
  (congrFun (V_main_arg3 m c) _).trans (congrArg _ (blk2 (win0_0.index t) 512 1024 r.val j.val rfl rfl
    (by rw [(idx_w t).1]; rfl) (by rw [(idx_w t).1]; simp)))
theorem blk_w (q : Fin 4) (k : Fin 704) (j : Fin 1024) :
    wblk m c t q (ix3 0 k j) = m ((c : Thread nD τ).loc main_arg2) (ix2 (chip q k) j) := by
  obtain ⟨-, a0, a1, a2, a3⟩ := idx_w t
  match q with
  | 0 => exact (congrArg (V m c main_v1) (at_weight 0 a0 rfl rfl rfl)).trans (V_w m c 0 k j)
  | 1 => exact (congrArg (V m c main_v1) (at_weight 1 a1 rfl rfl rfl)).trans (V_w m c 1 k j)
  | 2 => exact (congrArg (V m c main_v1) (at_weight 2 a2 rfl rfl rfl)).trans (V_w m c 2 k j)
  | 3 => exact (congrArg (V m c main_v1) (at_weight 3 a3 rfl rfl rfl)).trans (V_w m c 3 k j)
theorem blk_gt (q : Fin 4) (k : Fin 704) :
    iblk m c 5 t (ix3 q r k) = m ((c : Thread nD τ).loc main_arg0) (ix2 (row t r) (chip q k)) :=
  (congrArg (V m c main_v4) (at_rows (idx_t t).1 rfl rfl rfl)).trans (V_gt m c q (row t r) k)
theorem blk_up (q : Fin 4) (k : Fin 704) :
    iblk m c 6 t (ix3 q r k) = m ((c : Thread nD τ).loc main_arg1) (ix2 (row t r) (chip q k)) :=
  (congrArg (V m c main_v7) (at_rows (idx_t t).2.1 rfl rfl rfl)).trans (V_up m c q (row t r) k)
end blocks

/-- The memory holds the real arrays `x`. -/
structure Holds (c : Dev nD) (x : Args) : Prop where
  gt : m ((c : Thread nD τ).loc main_arg0) = fun i => ((x.gt i : ℝ) : EReal)
  up : m ((c : Thread nD τ).loc main_arg1) = fun i => ((x.up i : ℝ) : EReal)
  w : m ((c : Thread nD τ).loc main_arg2) = fun i => ((x.w i : ℝ) : EReal)
  g : m ((c : Thread nD τ).loc main_arg3) = fun i => ((x.g i : ℝ) : EReal)

variable {m} {c : Dev nD} {x : Args}

/-- What grid point `t` leaves in its two blocks. -/
theorem block_eq (h : Holds m c x) (t : Fin cfg0.N) (q : Fin 4) (r : Fin 512) (k : Fin 704) :
    out0_7 (iblk m c 0 t) (iblk m c 1 t) (iblk m c 2 t) (iblk m c 3 t) (iblk m c 4 t) (iblk m c 5 t) (iblk m c 6 t) (ix3 q r k)
      = ((x.dgate (row t r) (chip q k) : ℝ) : EReal)
    ∧ out0_8 (iblk m c 0 t) (iblk m c 1 t) (iblk m c 2 t) (iblk m c 3 t) (iblk m c 4 t) (iblk m c 5 t) (iblk m c 6 t) (ix3 q r k)
      = (x.dup (row t r) (chip q k) : ℝ) := by
  have e : _ ∧ _ := ⟨out_dgate (iblk m c 0 t) (wblk m c t) (iblk m c 5 t) (iblk m c 6 t) q r k,
    out_dup (iblk m c 0 t) (wblk m c t) (iblk m c 5 t) (iblk m c 6 t) q r k⟩
  let gb : Vec Ideal S512x1024 .f32 := iblk m c 0 t
  have es : (∑ j, gb (ix2 r j) * wblk m c t q (ix3 0 k j) : EReal) = (x.dact (row t r) (chip q k) : ℝ) := by
    unfold Args.dact
    rw [coe_sum]
    exact Finset.sum_congr rfl fun j _ => by rw [show gb (ix2 r j) = _ from blk_g m c t r j, blk_w, h.g, h.w, ← EReal.coe_mul]
  rw [es, blk_gt, blk_up, h.gt, h.up, Ideal.logistic_coe, ← EReal.coe_one] at e
  simp only [← EReal.coe_mul, ← EReal.coe_add, ← EReal.coe_sub] at e
  exact e

/-- A window's block of a result array, read at an index. -/
theorem arr_blk (f : Fin 16384 → Fin 2816 → ℝ) {t : Fin cfg0.N} {q : Fin 4} {r : Fin 512} {k : Fin 704} {I : S4x16384x704.Idx}
    (e : I = ix3 q (row t r) k) : ((f (row t r) (chip q k) : ℝ) : EReal) = arr f I := by subst e; rfl

/-- The point whose blocks hold row `i 1`. -/
def pt (i : S4x16384x704.Idx) : Fin cfg0.N :=
  ⟨(i 1 : Nat) / 512, by have h0 : (i 1 : Nat) < 16384 := (i 1).isLt; rw [show cfg0.N = 32 from N_0]; omega⟩

/-- Blocks of 512 tokens cover a result array. -/
theorem covers (i : S4x16384x704.Idx) {ix : Fin 3 → ℕ} (e : ix = ![0, (i 1 : ℕ) / 512, 0]) :
    ∀ a : Fin 3, ix a * ![4, 512, 704] a ≤ (i a : ℕ) ∧ (i a : ℕ) < ix a * ![4, 512, 704] a + ![4, 512, 704] a := by
  have h0 : (i 0 : ℕ) < 4 := (i 0).isLt
  have h2 : (i 2 : ℕ) < 704 := (i 2).isLt
  subst e
  intro a
  match a with
  | ⟨0, _⟩ => show 0 * 4 ≤ (i 0 : ℕ) ∧ (i 0 : ℕ) < 0 * 4 + 4; omega
  | ⟨1, _⟩ => show (i 1 : ℕ) / 512 * 512 ≤ (i 1 : ℕ) ∧ (i 1 : ℕ) < (i 1 : ℕ) / 512 * 512 + 512; omega
  | ⟨2, _⟩ => show 0 * 704 ≤ (i 2 : ℕ) ∧ (i 2 : ℕ) < 0 * 704 + 704; omega

/-- The two result arrays after the run. -/
theorem final_dgate (h : Holds m c x) : (dats m 0 c).arrAt 7 cfg0.N = arr x.dgate := by
  refine (dats m 0 c).arrAt_eq_of_cover 7 _ (fun t _ => ?_) (fun i => ⟨pt i, flush0_7 _, ?_⟩)
  · rw [Cert.FfdIdeal.Value.flushed7]
    refine funext fun (jj : S4x512x704.Idx) => ?_
    obtain ⟨q, r, k, rfl⟩ := ex3 jj
    exact (block_eq h t q r k).1.trans (arr_blk x.dgate (at_rows (idx_t t).2.2.1 rfl rfl rfl))
  · refine in_block ?_
    exact covers i (idx_t (pt i)).2.2.1
theorem final_dup (h : Holds m c x) : (dats m 0 c).arrAt 8 cfg0.N = arr x.dup := by
  refine (dats m 0 c).arrAt_eq_of_cover 8 _ (fun t _ => ?_) (fun i => ⟨pt i, flush0_8 _, ?_⟩)
  · rw [Cert.FfdIdeal.Value.flushed8]
    refine funext fun (jj : S4x512x704.Idx) => ?_
    obtain ⟨q, r, k, rfl⟩ := ex3 jj
    exact (block_eq h t q r k).2.trans (arr_blk x.dup (at_rows (idx_t t).2.2.2 rfl rfl rfl))
  · refine in_block ?_
    exact covers i (idx_t (pt i)).2.2.2

end Cert.Proof.Ffd
end
-- ==== Proof.FfdClaims.lean ====
/-
  `ffn_down_bwd` against the `jax.vjp` of SwiGLU and the product after it: the two claims, and the reference's frame.
-/
module

public import proofs.«01_k».proof.Proof.FfdKernel
public import proofs.«01_k».proof.Proof.Gen.FfdRefIdeal.Read
public import proofs.«01_k».proof.Proof.Gen.Pre_ffd_pre
public import proofs.«01_k».proof.Proof.Gen.Ffd.Frame
public import proofs.«01_k».proof.Defs

@[expose] public section

set_option maxRecDepth 16384

noncomputable section

namespace Cert.Proof.Ffd

open Idealize.ShloMosaic TcCoe Idealize.SL.Sem
open Cert.Proof.RealValues

section reference
open Cert.FfdRefIdeal Cert.FfdRefIdeal.Read

/-- The reference's two results on real arguments. -/
theorem ref_all (x : Args) (x0 x1 : Vec Ideal S16384x2816 .f32) (x2 : Vec Ideal S2816x1024 .f32) (x3 : Vec Ideal S16384x1024 .f32)
    (h0 : x0 = fun i => ((x.gt i : ℝ) : EReal)) (h1 : x1 = fun i => ((x.up i : ℝ) : EReal))
    (h2 : x2 = fun i => ((x.w i : ℝ) : EReal)) (h3 : x3 = fun i => ((x.g i : ℝ) : EReal)) :
    val_main_v9 x0 x1 x2 x3 = arr x.dgate ∧ val_main_v12 x0 x2 x3 = arr x.dup := by
  have hd : ∀ R K, val_main_v3 x2 x3 (ix2 R K) = ((x.dact R K : ℝ) : EReal) := fun R K => by
    unfold val_main_v3
    pointwise
    rw [Args.dact, coe_sum]
    exact Finset.sum_congr rfl fun j _ => by rw [h3, h2, ← EReal.coe_mul]
  have hs : ∀ R K, val_main_v0_2 x0 (ix2 R K) = ((lgt (x.gt (ix2 R K)) : ℝ) : EReal) := fun R K => by
    unfold val_main_v0_2 val_main_call0_v4 val_main_call0_v3 val_main_call0_v2 val_main_call0_v1 val_main_call0_v0
      val_main_call0_cst val_main_call0_cst_0
    pointwise
    rw [h0]
    exact Ideal.logistic_coe _
  refine ⟨funext fun i => ?_, funext fun i => ?_⟩
  · obtain ⟨q, R, k, rfl⟩ := ex3 i
    refine (cols_split (n := 16384) (w := 704) (W := 2816) rfl (val_main_v6 x0 x1 x2 x3) _ _ q R k).trans ?_
    unfold val_main_v6 val_main_call1_v1 val_main_call1_v2 val_main_call1_v0 val_main_v5
      val_main_v0_1 val_main_call0_v7 val_main_call0_v6 val_main_call0_cst_1
    pointwise
    rw [hd, hs, h0, h1, ← EReal.coe_one]
    simp only [← EReal.coe_mul, ← EReal.coe_add, ← EReal.coe_sub]
    refine congrArg _ ?_
    show _ = x.dgate R (chip q k)
    unfold Args.dgate
    ring
  · obtain ⟨q, R, k, rfl⟩ := ex3 i
    refine (cols_split (n := 16384) (w := 704) (W := 2816) rfl (val_main_v4 x0 x2 x3) _ _ q R k).trans ?_
    unfold val_main_v4 val_main_v0_0
    pointwise
    rw [hd, hs, h0]
    simp only [← EReal.coe_mul]
    refine congrArg _ ?_
    show _ = x.dup R (chip q k)
    unfold Args.dup
    ring
end reference

open Cert.FfdIdeal (S16384x1024 S16384x2816 S2816x1024)

/-- Arguments that meet the precondition are casts of real arrays. -/
theorem reals_of_pre {x0 x1 : FVec Ideal S16384x2816 .f32} {x2 : FVec Ideal S2816x1024 .f32} {x3 : FVec Ideal S16384x1024 .f32}
    (h : Cert.Pre_ffd_pre.fn x0 x1 x2 x3 = fun _ => 1#1) :
    ∃ x : Args, (x0 = fun i => ((x.gt i : ℝ) : EReal)) ∧ (x1 = fun i => ((x.up i : ℝ) : EReal))
      ∧ (x2 = fun i => ((x.w i : ℝ) : EReal)) ∧ x3 = fun i => ((x.g i : ℝ) : EReal) := by
  have h3 := congrFun h (fun a => a.elim0)
  dsimp only [Cert.Pre_ffd_pre.fn, Cert.Pre_ffd_pre.fn_part1] at h3
  obtain ⟨h2, e3⟩ := IntOp.andi_eq_one.1 h3
  obtain ⟨h1, e2⟩ := IntOp.andi_eq_one.1 h2
  obtain ⟨e0, e1⟩ := IntOp.andi_eq_one.1 h1
  obtain ⟨a0, k0⟩ := real_of_all _ top_f32 _ _ _ _ _ _ e0
  obtain ⟨a1, k1⟩ := real_of_all _ top_f32 _ _ _ _ _ _ e1
  obtain ⟨a2, k2⟩ := real_of_all _ top_f32 _ _ _ _ _ _ e2
  obtain ⟨a3, k3⟩ := real_of_all _ top_f32 _ _ _ _ _ _ e3
  exact ⟨⟨a0, a1, a2, a3⟩, k0, k1, k2, k3⟩

/-- Kernel and reference compute the same two functions of finite arguments over the extended reals. -/
theorem algebraic : Cert.algebraic_FfdIdeal_FfdRefIdeal_pre_ffd_pre := by
  intro m g m' g' hpre hargs
  choose x h0 h1 h2 h3 using fun c => reals_of_pre (hpre c)
  refine ⟨fun c => arr (x c).dgate, fun c => arr (x c).dup,
    (θ_run Cert.FfdIdeal.defs _ _).mono (fun r h c => ?_) (Cert.FfdIdeal.Value.run_blocks m g),
    (θ_run Cert.FfdRefIdeal.defs _ _).mono (fun r h c => ?_) (Cert.FfdRefIdeal.Value.run m' g')⟩
  · obtain ⟨e0, e1, hr⟩ := h c
    have hh : Holds m c (x c) := ⟨h0 c, h1 c, h2 c, h3 c⟩
    exact ⟨e0.trans (final_dgate hh), e1.trans (final_dup hh), hr⟩
  · obtain ⟨e0, e1, hr⟩ := h c
    obtain ⟨k0, k1, k2, k3⟩ := hargs c
    have hh := ref_all (x c) _ _ _ _ (k0.trans (h0 c)) (k1.trans (h1 c)) (k2.trans (h2 c)) (k3.trans (h3 c))
    exact ⟨e0.trans hh.1, e1.trans hh.2, hr⟩

/-- The reference terminates, leaves its arguments and every counter at zero. -/
theorem frame_ref : Cert.quiescent_FfdRefIdeal := fun m g _ =>
  (θ_run Cert.FfdRefIdeal.defs _ _).mono (fun r h => ⟨fun c => (h c).2.2, Idealize.ShloMosaic.sem_eq_zero_of_no_sems (by decide) r.2⟩)
    (Cert.FfdRefIdeal.Value.run m g)
theorem frame_kernel : Cert.quiescent_Ffd := fun m g _ => Cert.Ffd.Gen.frame m g
theorem frame_ideal : Cert.quiescent_FfdIdeal := fun m g _ => Cert.FfdIdeal.Gen.frame m g

end Cert.Proof.Ffd
end
-- ==== Proof.OpbTarget.lean ====
/-
  The gradients of the gated merge: of the two gates' arguments, of the attention's projection and of the two factors of the
  state-space branch, at a token and a column, as functions of the gates' arguments, the branches and the cotangent.
-/
module

public import proofs.«01_k».proof.Proof.RealValues

@[expose] public section

noncomputable section

namespace Cert.Proof.Opb

open Idealize.ShloMosaic

/-- A gate's slope. -/
def slope (v : EReal) : EReal := Ideal.logistic v * (1 - Ideal.logistic v)

/-- Of a gate's argument `v`, with the branch `x` that it multiplies. -/
def dgate (dm x v : EReal) : EReal := dm * x * slope v

/-- Of the state-space branch's second factor's argument. -/
def dpb (dm s a b : EReal) : EReal := dm * Ideal.logistic s * a * slope b

/-- The cotangent of the merged branches: a row of the cotangent times a row of the weight. -/
def dmix {S K N : ℕ} (g : (⟨2, ![S, K]⟩ : Shape).Idx → EReal) (w : (⟨2, ![N, K]⟩ : Shape).Idx → EReal) (R : Fin S) (j : Fin N) : EReal :=
  ∑ k : Fin K, g (ix2 R k) * w (ix2 j k)

end Cert.Proof.Opb
end
-- ==== Proof.OpbKernel.lean ====
/-
  What `out_proj_bwd` leaves in its five result arrays: the gradients of the gated merge, at every index, for any arguments.
-/
module

public import proofs.«01_k».proof.Proof.Products
public import proofs.«01_k».proof.Proof.OpbTarget
public import proofs.«01_k».proof.Proof.Gen.OpbIdeal.Value
public import Idealize.ShloMosaic.Lib.StableHlo.RunRead

@[expose] public section

set_option maxRecDepth 16384

noncomputable section

namespace Cert.Proof.Opb

open Cert.OpbIdeal Cert.OpbIdeal.Gen Idealize.ShloMosaic TcCoe Idealize.SL.Sem
open Cert.Proof.RealValues
open Cert.Proof.Products (hz)

section body
variable (g : Vec Ideal S512x1024 .f32) (w : Vec Ideal S1024x1024 .bf16) (za zs ad a b : Vec Ideal S512x1024 .bf16)
  (r : Fin 512) (j : Fin 1024)

/-- The body's five results at an index. -/
theorem out_all : out0_7 g w za zs ad a b (ix2 r j) = dgate (dmix g w r j) (ad (ix2 r j)) (za (ix2 r j))
    ∧ out0_8 g w za zs ad a b (ix2 r j) = dgate (dmix g w r j) (a (ix2 r j) * Ideal.logistic (b (ix2 r j))) (zs (ix2 r j))
    ∧ out0_9 g w za zs ad a b (ix2 r j) = dmix g w r j * Ideal.logistic (za (ix2 r j))
    ∧ out0_10 g w za zs ad a b (ix2 r j) = dmix g w r j * Ideal.logistic (zs (ix2 r j)) * Ideal.logistic (b (ix2 r j))
    ∧ out0_11 g w za zs ad a b (ix2 r j) = dpb (dmix g w r j) (zs (ix2 r j)) (a (ix2 r j)) (b (ix2 r j)) := by
  unfold out0_7 out0_8 out0_9 out0_10 out0_11
  refine ⟨?_, ?_, ?_, ?_, ?_⟩ <;> rw [View.canon_unit_zero hz] <;> unfold_payloads <;>
    simp only [View.ld_unit_zero (S := S512x1024) hz, View.ld_unit_zero (S := S1024x1024) hz] <;> pointwise <;>
    simp only [sig_eq] <;> first | rfl | exact mul_assoc _ _ _
end body

variable (m : (ℓ : Loc nD τ sig) → Buf (Elt Ideal) ℓ)

/-- Row `r` of the block of 512 tokens at grid point `t`. -/
def row (t : Fin cfg0.N) (r : Fin 512) : Fin 16384 :=
  ⟨t.val * 512 + r.val, by have : t.val < 32 := lt_of_lt_of_eq t.isLt N_0; omega⟩

/-- A column of the two gates' arguments inside the combined projection. -/
def colA (j : Fin 1024) : Fin 7168 := ⟨5120 + j.val, by omega⟩
def colS (j : Fin 1024) : Fin 7168 := ⟨6144 + j.val, by omega⟩

/-- The block indices of the windows. -/
theorem idx_in : ∀ t : Fin cfg0.N, win0_0.index t = ![t.val, 0] ∧ win0_1.index t = ![0, 0] ∧ win0_2.index t = ![t.val, 5]
    ∧ win0_3.index t = ![t.val, 6] ∧ win0_4.index t = ![t.val, 0] ∧ win0_5.index t = ![t.val, 0]
    ∧ win0_6.index t = ![t.val, 0] := by decide +kernel
theorem idx_out : ∀ t : Fin cfg0.N, win0_7.index t = ![t.val, 0] ∧ win0_8.index t = ![t.val, 0] ∧ win0_9.index t = ![t.val, 0]
    ∧ win0_10.index t = ![t.val, 0] ∧ win0_11.index t = ![t.val, 0] := by decide +kernel

/-- The array index of a block of 512 tokens, all columns. -/
theorem at_rows {t : Fin cfg0.N} {r : Fin 512} {j : Fin 1024} {ix : Fin 2 → ℕ} (h : ix = ![t.val, 0])
    {I : S16384x1024.Idx} (e0 : (I 0).val = ix 0 * 512 + 1 * r.val) (e1 : (I 1).val = ix 1 * 1024 + 1 * j.val) :
    I = ix2 (row t r) j :=
  blk2 ix 512 1024 r.val j.val e0 e1 (by subst h; rfl) (by subst h; simp)

/-- The weight's bf16 copy is the weight. -/
theorem V_w (c : Dev nD) : V m c main_v0 = m ((c : Thread nD τ).loc main_arg4) := by
  unfold V hostOps0
  after_reads_simp
  rfl

section blocks
variable (c : Dev nD) (t : Fin cfg0.N) (r : Fin 512) (j : Fin 1024)

/-- The windows' blocks at an index. -/
theorem blk_g : iblk m c 0 t (ix2 r j) = m ((c : Thread nD τ).loc main_arg5) (ix2 (row t r) j) :=
  (congrFun (V_main_arg5 m c) _).trans (congrArg _ (at_rows (idx_in t).1 rfl rfl))
theorem blk_w (k j : Fin 1024) : iblk m c 1 t (ix2 k j) = m ((c : Thread nD τ).loc main_arg4) (ix2 k j) :=
  (congrFun (V_w m c) _).trans (congrArg _ (blk2 (win0_1.index t) 1024 1024 k.val j.val rfl rfl
    (by rw [(idx_in t).2.1]; simp) (by rw [(idx_in t).2.1]; simp)))
theorem blk_za : iblk m c 2 t (ix2 r j) = m ((c : Thread nD τ).loc main_arg0) (ix2 (row t r) (colA j)) :=
  (congrFun (V_main_arg0 m c) _).trans (congrArg _ (blk2 (win0_2.index t) 512 1024 r.val j.val rfl rfl
    (by rw [(idx_in t).2.2.1]; rfl) (by rw [(idx_in t).2.2.1]; rfl)))
theorem blk_zs : iblk m c 3 t (ix2 r j) = m ((c : Thread nD τ).loc main_arg0) (ix2 (row t r) (colS j)) :=
  (congrFun (V_main_arg0 m c) _).trans (congrArg _ (blk2 (win0_3.index t) 512 1024 r.val j.val rfl rfl
    (by rw [(idx_in t).2.2.2.1]; rfl) (by rw [(idx_in t).2.2.2.1]; rfl)))
theorem blk_ad : iblk m c 4 t (ix2 r j) = m ((c : Thread nD τ).loc main_arg1) (ix2 (row t r) j) :=
  (congrFun (V_main_arg1 m c) _).trans (congrArg _ (at_rows (idx_in t).2.2.2.2.1 rfl rfl))
theorem blk_a : iblk m c 5 t (ix2 r j) = m ((c : Thread nD τ).loc main_arg2) (ix2 (row t r) j) :=
  (congrFun (V_main_arg2 m c) _).trans (congrArg _ (at_rows (idx_in t).2.2.2.2.2.1 rfl rfl))
theorem blk_b : iblk m c 6 t (ix2 r j) = m ((c : Thread nD τ).loc main_arg3) (ix2 (row t r) j) :=
  (congrFun (V_main_arg3 m c) _).trans (congrArg _ (at_rows (idx_in t).2.2.2.2.2.2 rfl rfl))
theorem blk_mix : dmix (iblk m c 0 t) (iblk m c 1 t) r j
    = dmix (m ((c : Thread nD τ).loc main_arg5)) (m ((c : Thread nD τ).loc main_arg4)) (row t r) j :=
  Finset.sum_congr rfl fun k _ => by rw [blk_g, blk_w]
end blocks

/-- The arguments, by name. -/
structure Args where
  (z : S16384x7168.Idx → EReal) (ad a b g : S16384x1024.Idx → EReal) (w : S1024x1024.Idx → EReal)

/-- The arguments that the memory holds. -/
def args (c : Dev nD) : Args where
  z := m ((c : Thread nD τ).loc main_arg0)
  ad := m ((c : Thread nD τ).loc main_arg1)
  a := m ((c : Thread nD τ).loc main_arg2)
  b := m ((c : Thread nD τ).loc main_arg3)
  w := m ((c : Thread nD τ).loc main_arg4)
  g := m ((c : Thread nD τ).loc main_arg5)

/-- The five results at token `R` and column `j`. -/
def Args.dga (x : Args) (R : Fin 16384) (j : Fin 1024) : EReal := dgate (dmix x.g x.w R j) (x.ad (ix2 R j)) (x.z (ix2 R (colA j)))
def Args.dgs (x : Args) (R : Fin 16384) (j : Fin 1024) : EReal :=
  dgate (dmix x.g x.w R j) (x.a (ix2 R j) * Ideal.logistic (x.b (ix2 R j))) (x.z (ix2 R (colS j)))
def Args.dad (x : Args) (R : Fin 16384) (j : Fin 1024) : EReal := dmix x.g x.w R j * Ideal.logistic (x.z (ix2 R (colA j)))
def Args.dpa (x : Args) (R : Fin 16384) (j : Fin 1024) : EReal :=
  dmix x.g x.w R j * Ideal.logistic (x.z (ix2 R (colS j))) * Ideal.logistic (x.b (ix2 R j))
def Args.dpb (x : Args) (R : Fin 16384) (j : Fin 1024) : EReal :=
  Opb.dpb (dmix x.g x.w R j) (x.z (ix2 R (colS j))) (x.a (ix2 R j)) (x.b (ix2 R j))

/-- An array of which `f` gives the entry at a row and a column. -/
def arr (f : Fin 16384 → Fin 1024 → EReal) : S16384x1024.Idx → EReal := fun i => f (i 0) (i 1)

/-- A window's block of such an array, read at an index. -/
theorem arr_blk (f : Fin 16384 → Fin 1024 → EReal) {t : Fin cfg0.N} {r : Fin 512} {j : Fin 1024} {I : S16384x1024.Idx}
    (e : I = ix2 (row t r) j) : f (row t r) j = arr f I := by subst e; rfl

/-- The point whose blocks hold row `i 0`. -/
def pt (i : S16384x1024.Idx) : Fin cfg0.N :=
  ⟨(i 0 : Nat) / 512, by have h0 : (i 0 : Nat) < 16384 := (i 0).isLt; rw [show cfg0.N = 32 from N_0]; omega⟩

/-- The five result arrays after the run. -/
theorem final_dga (c : Dev nD) : (dats m 0 c).arrAt 7 cfg0.N = arr (args m c).dga := by
  refine (dats m 0 c).arrAt_eq_of_cover 7 _ (fun t _ => ?_) (fun i => ⟨pt i, flush0_7 _, ?_⟩)
  · rw [Cert.OpbIdeal.Value.flushed7]
    refine funext fun (jj : S512x1024.Idx) => ?_
    obtain ⟨r, j, rfl⟩ := ex2 jj
    exact ((out_all _ _ _ _ _ _ _ r j).1.trans (by rw [blk_mix, blk_ad, blk_za]; rfl)).trans
      (arr_blk (args m c).dga (at_rows (idx_out t).1 rfl rfl))
  · refine in_block ?_
    exact rows_cover i (by norm_num) (idx_out (pt i)).1
theorem final_dgs (c : Dev nD) : (dats m 0 c).arrAt 8 cfg0.N = arr (args m c).dgs := by
  refine (dats m 0 c).arrAt_eq_of_cover 8 _ (fun t _ => ?_) (fun i => ⟨pt i, flush0_8 _, ?_⟩)
  · rw [Cert.OpbIdeal.Value.flushed8]
    refine funext fun (jj : S512x1024.Idx) => ?_
    obtain ⟨r, j, rfl⟩ := ex2 jj
    exact ((out_all _ _ _ _ _ _ _ r j).2.1.trans (by rw [blk_mix, blk_a, blk_b, blk_zs]; rfl)).trans
      (arr_blk (args m c).dgs (at_rows (idx_out t).2.1 rfl rfl))
  · refine in_block ?_
    exact rows_cover i (by norm_num) (idx_out (pt i)).2.1
theorem final_dad (c : Dev nD) : (dats m 0 c).arrAt 9 cfg0.N = arr (args m c).dad := by
  refine (dats m 0 c).arrAt_eq_of_cover 9 _ (fun t _ => ?_) (fun i => ⟨pt i, flush0_9 _, ?_⟩)
  · rw [Cert.OpbIdeal.Value.flushed9]
    refine funext fun (jj : S512x1024.Idx) => ?_
    obtain ⟨r, j, rfl⟩ := ex2 jj
    exact ((out_all _ _ _ _ _ _ _ r j).2.2.1.trans (by rw [blk_mix, blk_za]; rfl)).trans
      (arr_blk (args m c).dad (at_rows (idx_out t).2.2.1 rfl rfl))
  · refine in_block ?_
    exact rows_cover i (by norm_num) (idx_out (pt i)).2.2.1
theorem final_dpa (c : Dev nD) : (dats m 0 c).arrAt 10 cfg0.N = arr (args m c).dpa := by
  refine (dats m 0 c).arrAt_eq_of_cover 10 _ (fun t _ => ?_) (fun i => ⟨pt i, flush0_10 _, ?_⟩)
  · rw [Cert.OpbIdeal.Value.flushed10]
    refine funext fun (jj : S512x1024.Idx) => ?_
    obtain ⟨r, j, rfl⟩ := ex2 jj
    exact ((out_all _ _ _ _ _ _ _ r j).2.2.2.1.trans (by rw [blk_mix, blk_zs, blk_b]; rfl)).trans
      (arr_blk (args m c).dpa (at_rows (idx_out t).2.2.2.1 rfl rfl))
  · refine in_block ?_
    exact rows_cover i (by norm_num) (idx_out (pt i)).2.2.2.1
theorem final_dpb (c : Dev nD) : (dats m 0 c).arrAt 11 cfg0.N = arr (args m c).dpb := by
  refine (dats m 0 c).arrAt_eq_of_cover 11 _ (fun t _ => ?_) (fun i => ⟨pt i, flush0_11 _, ?_⟩)
  · rw [Cert.OpbIdeal.Value.flushed11]
    refine funext fun (jj : S512x1024.Idx) => ?_
    obtain ⟨r, j, rfl⟩ := ex2 jj
    exact ((out_all _ _ _ _ _ _ _ r j).2.2.2.2.trans (by rw [blk_mix, blk_zs, blk_a, blk_b]; rfl)).trans
      (arr_blk (args m c).dpb (at_rows (idx_out t).2.2.2.2 rfl rfl))
  · refine in_block ?_
    exact rows_cover i (by norm_num) (idx_out (pt i)).2.2.2.2

end Cert.Proof.Opb
end
-- ==== Proof.OpbClaims.lean ====
/- What the reference of the gated merge's gradients computes, and the claims of the pair Opb. -/
module

public import proofs.«01_k».proof.Defs
public import proofs.«01_k».proof.Proof.OpbKernel
public import proofs.«01_k».proof.Proof.Gen.OpbRefIdeal.Read
public import proofs.«01_k».proof.Proof.Gen.Opb.Frame

@[expose] public section

set_option maxRecDepth 16384

noncomputable section

namespace Cert.Proof.Opb

open Idealize.ShloMosaic TcCoe Idealize.SL.Sem Cert.Proof.RealValues
open Cert.OpbRefIdeal Cert.OpbRefIdeal.Read

section ref
variable (x : Args)

/-- The reference's product of the cotangent with the transposed weight. -/
theorem ref_mix (R : Fin 16384) (j : Fin 1024) : val_main_v38 (F := Ideal) x.w x.g (ix2 R j) = dmix x.g x.w R j := by
  unfold val_main_v38
  pointwise
  rfl

/-- The reference's three sigmoids. -/
theorem ref_sigA (R : Fin 16384) (j : Fin 1024) : val_main_v11 (F := Ideal) x.z (ix2 R j) = Ideal.logistic (x.z (ix2 R (colA j))) := by
  unfold val_main_v11 val_main_v10 val_main_v9 val_main_v8 val_main_v7 val_main_v6 val_main_v4 val_main_v0 val_main_cst val_main_cst_0
  pointwise
  rfl
theorem ref_sigS (R : Fin 16384) (j : Fin 1024) : val_main_v20 (F := Ideal) x.z (ix2 R j) = Ideal.logistic (x.z (ix2 R (colS j))) := by
  unfold val_main_v20 val_main_v19 val_main_v18 val_main_v17 val_main_v16 val_main_v15 val_main_v5 val_main_v0 val_main_cst_2 val_main_cst_3
  pointwise
  rfl
theorem ref_sigB (R : Fin 16384) (j : Fin 1024) : val_main_v29 (F := Ideal) x.b (ix2 R j) = Ideal.logistic (x.b (ix2 R j)) := by
  unfold val_main_v29 val_main_v28 val_main_v27 val_main_v26 val_main_v25 val_main_v24 val_main_v3 val_main_cst_5 val_main_cst_6
  pointwise
  rfl

/-- The reference's five results are the gradients, factor for factor. -/
theorem ref_all (R : Fin 16384) (j : Fin 1024) :
    val_main_v48 (F := Ideal) x.z x.ad x.w x.g (ix2 R j) = x.dga R j
    ∧ val_main_v49 (F := Ideal) x.z x.a x.b x.w x.g (ix2 R j) = x.dgs R j
    ∧ val_main_v50 (F := Ideal) x.z x.w x.g (ix2 R j) = x.dad R j
    ∧ val_main_v51 (F := Ideal) x.z x.b x.w x.g (ix2 R j) = x.dpa R j
    ∧ val_main_v52 (F := Ideal) x.z x.a x.b x.w x.g (ix2 R j) = x.dpb R j := by
  have hm := ref_mix x R j
  have hA := ref_sigA x R j
  have hS := ref_sigS x R j
  have hB := ref_sigB x R j
  refine ⟨?_, ?_, ?_, ?_, ?_⟩
  · unfold val_main_v48 val_main_v47 val_main_v42 val_main_v14 val_main_v13 val_main_v12 val_main_v1 val_main_cst_1
    pointwise
    rw [hm, hA]
    rfl
  · unfold val_main_v49 val_main_v46 val_main_v40 val_main_v33 val_main_v23 val_main_v22 val_main_v21 val_main_v2 val_main_cst_4
    pointwise
    rw [hm, hS, hB]
    rfl
  · unfold val_main_v50 val_main_v41
    pointwise
    rw [hm, hA]
    exact mul_comm _ _
  · unfold val_main_v51 val_main_v44 val_main_v39
    pointwise
    rw [hm, hS, hB]
    exact congrArg (· * _) (mul_comm _ _)
  · unfold val_main_v52 val_main_v45 val_main_v43 val_main_v39 val_main_v32 val_main_v31 val_main_v30 val_main_v2 val_main_cst_7
    pointwise
    rw [hm, hS, hB]
    show _ = dmix x.g x.w R j * Ideal.logistic (x.z (ix2 R (colS j))) * x.a (ix2 R j) * _
    rw [mul_comm (x.a (ix2 R j)), mul_comm (Ideal.logistic (x.z (ix2 R (colS j))))]
    rfl

/-- An array is known by its entries. -/
theorem eq_arr (v : S16384x1024.Idx → EReal) (f : Fin 16384 → Fin 1024 → EReal) (h : ∀ R j, v (ix2 R j) = f R j) : v = arr f :=
  funext fun i => by rw [eq_ix2 i]; exact h _ _
end ref

/-- Kernel and reference compute the same five functions of any arguments over the extended reals. -/
theorem algebraic : Cert.algebraic_OpbIdeal_OpbRefIdeal := by
  intro m g m' g' hpre hargs
  refine ⟨fun c => arr (args m c).dga, fun c => arr (args m c).dgs, fun c => arr (args m c).dad, fun c => arr (args m c).dpa,
    fun c => arr (args m c).dpb,
    (θ_run Cert.OpbIdeal.defs _ _).mono (fun r h c => ?_) (Cert.OpbIdeal.Value.run_blocks m g),
    (θ_run Cert.OpbRefIdeal.defs _ _).mono (fun r h c => ?_) (Cert.OpbRefIdeal.Value.run m' g')⟩
  · obtain ⟨h0, h1, h2, h3, h4, hr⟩ := h c
    exact ⟨h0.trans (final_dga m c), h1.trans (final_dgs m c), h2.trans (final_dad m c), h3.trans (final_dpa m c),
      h4.trans (final_dpb m c), hr⟩
  · obtain ⟨h0, h1, h2, h3, h4, hr⟩ := h c
    obtain ⟨k0, k1, k2, k3, k4, k5⟩ := hargs c
    rw [k0, k1, k4, k5] at h0
    rw [k0, k2, k3, k4, k5] at h1
    rw [k0, k4, k5] at h2
    rw [k0, k3, k4, k5] at h3
    rw [k0, k2, k3, k4, k5] at h4
    exact ⟨h0.trans (eq_arr _ _ fun R j => (ref_all (args m c) R j).1), h1.trans (eq_arr _ _ fun R j => (ref_all (args m c) R j).2.1),
      h2.trans (eq_arr _ _ fun R j => (ref_all (args m c) R j).2.2.1), h3.trans (eq_arr _ _ fun R j => (ref_all (args m c) R j).2.2.2.1),
      h4.trans (eq_arr _ _ fun R j => (ref_all (args m c) R j).2.2.2.2), hr⟩

/-- The reference terminates, leaves its arguments and every counter at zero. -/
theorem frame_ref : Cert.quiescent_OpbRefIdeal := fun m g _ =>
  (θ_run Cert.OpbRefIdeal.defs _ _).mono (fun r h => ⟨fun c => (h c).2.2.2.2.2, Idealize.ShloMosaic.sem_eq_zero_of_no_sems (by decide) r.2⟩)
    (Cert.OpbRefIdeal.Value.run m g)

theorem frame_kernel : Cert.quiescent_Opb := fun m g _ => Cert.Opb.Gen.frame m g
theorem frame_ideal : Cert.quiescent_OpbIdeal := fun m g _ => Cert.OpbIdeal.Gen.frame m g

end Cert.Proof.Opb
end
-- ==== Proof.NormTarget.lean ====
/-
  The gradient of `rmsnorm` over rows of 1024 numbers, as real functions, and the two ways in which it is computed: from the
  normalised row, and by `jax.vjp` through the reciprocal square root. All arguments are real numbers.
-/
module

public import proofs.«01_k».proof.Proof.RealValues

@[expose] public section

noncomputable section

namespace Cert.Proof.Norm

open Idealize.ShloMosaic
open Cert.Proof.RealValues

/-- The number that `rmsnorm` adds to the mean square: the float32 next to `1e-6`. -/
def eps : ℝ := 8796093 / 8796093022208

theorem lit_eps : Ideal.ofBits .f32 897988541#32 = (eps : ℝ) := by
  simp [Ideal.ofBits, Ideal.ieee, -EReal.coe_mul, eps]; norm_num
theorem lit_width : Ideal.ofBits .f32 1149239296#32 = (1024 : ℝ) := by
  simp [Ideal.ofBits, Ideal.ieee, -EReal.coe_mul]; norm_num
theorem lit_neg_half : Ideal.ofBits .f32 3204448256#32 = (-1 / 2 : ℝ) := by
  simp [Ideal.ofBits, Ideal.ieee, -EReal.coe_mul]; norm_num

/-- What stands under the square root, and the reciprocal root. -/
def ms (h : Fin 1024 → ℝ) : ℝ := (∑ k, h k * h k) / 1024 + eps
def rr (h : Fin 1024 → ℝ) : ℝ := (Real.sqrt (ms h))⁻¹

theorem ms_pos (h : Fin 1024 → ℝ) : 0 < ms h := by
  have : 0 ≤ ∑ k, h k * h k := Finset.sum_nonneg fun k _ => mul_self_nonneg (h k)
  have h2 : 0 ≤ (∑ k, h k * h k) / 1024 := by positivity
  have h3 : (0 : ℝ) < eps := by unfold eps; norm_num
  unfold ms
  linarith

/-- `r / (mean square + eps)` is `r³`. -/
theorem rr_div (h : Fin 1024 → ℝ) : rr h / ms h = rr h * rr h * rr h := by
  have e : rr h * rr h = (ms h)⁻¹ := by
    unfold rr
    rw [← mul_inv, Real.mul_self_sqrt (ms_pos h).le]
  rw [e, div_eq_mul_inv, mul_comm]

/-- The gradient with respect to the row. -/
def dh (h dn gam : Fin 1024 → ℝ) (j : Fin 1024) : ℝ :=
  rr h * (dn j * gam j - h j * rr h * ((∑ k, dn k * gam k * (h k * rr h)) / 1024))

section ereal
variable (h dn gam : Fin 1024 → ℝ)

theorem ms_coe : Ideal.div (∑ k, (h k : EReal) * (h k : EReal)) (Ideal.ofBits .f32 1149239296#32) + Ideal.ofBits .f32 897988541#32
    = (ms h : ℝ) := by
  simp only [lit_width, lit_eps, ← EReal.coe_mul, ← coe_sum, div_real _ (show (1024 : ℝ) ≠ 0 by norm_num), ← EReal.coe_add]
  rfl

theorem rr_coe : Ideal.rsqrt ((ms h : ℝ) : EReal) = (rr h : ℝ) := by
  rw [Ideal.rsqrt_coe, if_neg (ms_pos h).le.not_gt, if_neg (ms_pos h).ne']
  rfl

/-- The gradient as the kernel writes it. -/
theorem kernel_form (j : Fin 1024) :
    ((rr h : ℝ) : EReal) * ((dn j : EReal) * (gam j : EReal) - (h j : EReal) * ((rr h : ℝ) : EReal)
      * Ideal.div (∑ k, (dn k : EReal) * (gam k : EReal) * ((h k : EReal) * ((rr h : ℝ) : EReal))) (Ideal.ofBits .f32 1149239296#32))
    = (dh h dn gam j : ℝ) := by
  simp only [lit_width, ← EReal.coe_mul, ← coe_sum, div_real _ (show (1024 : ℝ) ≠ 0 by norm_num), ← EReal.coe_sub]
  rfl

/-- The share of the row that the reciprocal root's derivative gives, as `jax.vjp` writes it. -/
def slope : EReal :=
  Ideal.div ((∑ k, (h k : EReal) * ((dn k : EReal) * (gam k : EReal)))
    * (Ideal.ofBits .f32 3204448256#32 * Ideal.div ((rr h : ℝ) : EReal) ((ms h : ℝ) : EReal))) (Ideal.ofBits .f32 1149239296#32)

/-- The gradient as `jax.vjp` writes it, added to a residual's share. -/
theorem vjp_form (res : EReal) (j : Fin 1024) :
    res + (dn j : EReal) * (gam j : EReal) * ((rr h : ℝ) : EReal) + (h j : EReal) * slope h dn gam
      + slope h dn gam * (h j : EReal) = res + ((dh h dn gam j : ℝ) : EReal) := by
  have es : slope h dn gam = (-1 / 2 * (rr h * rr h) * (∑ k, dn k * gam k * (h k * rr h)) / 1024 : ℝ) := by
    unfold slope
    simp only [lit_width, lit_neg_half, ← EReal.coe_mul, ← coe_sum, div_real _ (show (1024 : ℝ) ≠ 0 by norm_num),
      div_real _ (ms_pos h).ne', rr_div]
    refine congrArg _ (congrArg (· / 1024) ?_)
    rw [show ∑ k, dn k * gam k * (h k * rr h) = (∑ k, h k * (dn k * gam k)) * rr h from by
      rw [Finset.sum_mul]; exact Finset.sum_congr rfl fun k _ => by ring]
    ring
  rw [es, add_assoc, add_assoc]
  simp only [← EReal.coe_mul, ← EReal.coe_add]
  refine congrArg (fun v : ℝ => res + (v : EReal)) ?_
  unfold dh
  ring
end ereal

/-- What the kernel computes of a row from the cotangent `dn` of the normalised row, at extended reals. -/
def formK (h res dn gam : Fin 1024 → EReal) (j : Fin 1024) : EReal :=
  res j + Ideal.rsqrt (Ideal.div (∑ k, h k * h k) (Ideal.ofBits .f32 1149239296#32) + Ideal.ofBits .f32 897988541#32)
    * (dn j * gam j - h j * Ideal.rsqrt (Ideal.div (∑ k, h k * h k) (Ideal.ofBits .f32 1149239296#32) + Ideal.ofBits .f32 897988541#32)
      * Ideal.div (∑ k, dn k * gam k * (h k
          * Ideal.rsqrt (Ideal.div (∑ k, h k * h k) (Ideal.ofBits .f32 1149239296#32) + Ideal.ofBits .f32 897988541#32)))
          (Ideal.ofBits .f32 1149239296#32))

/-- What the kernel adds to the gain's gradient for a row, at extended reals. -/
def gainK (h dn : Fin 1024 → EReal) (j : Fin 1024) : EReal :=
  dn j * (h j * Ideal.rsqrt (Ideal.div (∑ k, h k * h k) (Ideal.ofBits .f32 1149239296#32) + Ideal.ofBits .f32 897988541#32))

section coe
variable {h dn gam : Fin 1024 → EReal} {h' dn' gam' : Fin 1024 → ℝ}

theorem formK_coe (e0 : ∀ k, h k = ((h' k : ℝ) : EReal)) (res : Fin 1024 → EReal)
    (e2 : ∀ k, dn k = ((dn' k : ℝ) : EReal)) (e3 : ∀ k, gam k = ((gam' k : ℝ) : EReal)) (j : Fin 1024) :
    formK h res dn gam j = res j + ((dh h' dn' gam' j : ℝ) : EReal) := by
  obtain rfl : h = fun k => ((h' k : ℝ) : EReal) := funext e0
  obtain rfl : dn = fun k => ((dn' k : ℝ) : EReal) := funext e2
  obtain rfl : gam = fun k => ((gam' k : ℝ) : EReal) := funext e3
  unfold formK
  rw [ms_coe, rr_coe]
  exact congrArg _ (kernel_form h' dn' gam' j)

theorem gainK_coe (e0 : ∀ k, h k = ((h' k : ℝ) : EReal)) (e2 : ∀ k, dn k = ((dn' k : ℝ) : EReal)) (j : Fin 1024) :
    gainK h dn j = (dn' j * (h' j * rr h') : ℝ) := by
  obtain rfl : h = fun k => ((h' k : ℝ) : EReal) := funext e0
  obtain rfl : dn = fun k => ((dn' k : ℝ) : EReal) := funext e2
  unfold gainK
  rw [ms_coe, rr_coe, ← EReal.coe_mul, ← EReal.coe_mul]
end coe

/-- Row `r` of block `t` of 512 rows. -/
def row (t : Fin 32) (r : Fin 512) : Fin 16384 := ⟨t.val * 512 + r.val, by omega⟩

/-- A sum over all rows, block by block. -/
theorem sum_rows (f : Fin 16384 → ℝ) : ∑ R, f R = ∑ t : Fin 32, ∑ r : Fin 512, f (row t r) := by
  rw [← Fintype.sum_prod_type']
  refine (Fintype.sum_equiv (finProdFinEquiv (m := 32) (n := 512)) (fun p => f (row p.1 p.2)) f fun p => congrArg f (Fin.ext ?_)).symm
  show p.1.val * 512 + p.2.val = p.2.val + 512 * p.1.val
  ring

/-- A buffer that starts at zero and to which block after block adds its sum holds, after all 32 blocks, the sum over all rows. -/
theorem acc_all (f : Fin 16384 → ℝ) (a : (n : ℕ) → n < 32 → EReal)
    (h0 : a 0 (by norm_num) = ((∑ r, f (row 0 r) : ℝ) : EReal))
    (hs : ∀ n (hn : n + 1 < 32), a (n + 1) hn = a n (by omega) + ((∑ r, f (row ⟨n + 1, hn⟩ r) : ℝ) : EReal)) :
    ∀ n (hn : n < 32), n = 31 → a n hn = (∑ R, f R : ℝ) := by
  have key : ∀ n (hn : n < 32), a n hn
      = (∑ t ∈ Finset.range (n + 1), if h : t < 32 then ∑ r, f (row ⟨t, h⟩ r) else 0 : ℝ) := by
    intro n
    induction n with
    | zero => intro hn; rw [h0]; simp
    | succ n ih =>
      intro hn
      rw [hs, ih, ← EReal.coe_add, Finset.sum_range_succ _ (n + 1), dif_pos hn]
  intro n hn e
  rw [key, sum_rows, e, ← Fin.sum_univ_eq_sum_range (fun t => if h : t < 32 then ∑ r, f (row ⟨t, h⟩ r) else 0) 32]
  refine congrArg _ (Finset.sum_congr rfl fun t _ => ?_)
  rw [dif_pos t.isLt]

end Cert.Proof.Norm
end
-- ==== Proof.FfiTarget.lean ====
/-
  The gradient of the two products `rmsnorm h @ w_ffn_gate` and `rmsnorm h @ w_ffn_up`, as real functions; the residual's cotangent is any array of extended reals.
-/
module

public import proofs.«01_k».proof.Proof.NormTarget

@[expose] public section

noncomputable section

namespace Cert.Proof.Ffi

open Idealize.ShloMosaic
open Cert.Proof.RealValues

/-- The arrays: the rows, the gain, the two weights, the two products' cotangents, and the residual's. -/
structure Args where
  (h : (⟨2, ![16384, 1024]⟩ : Shape).Idx → ℝ) (dh2 : (⟨2, ![16384, 1024]⟩ : Shape).Idx → EReal) (gam : (⟨1, ![1024]⟩ : Shape).Idx → ℝ)
  (wg wu : (⟨2, ![1024, 2816]⟩ : Shape).Idx → ℝ) (dg du : (⟨2, ![16384, 2816]⟩ : Shape).Idx → ℝ)

variable (x : Args)

/-- The cotangent of the normalised row `R`. -/
def Args.dn (R : Fin 16384) (j : Fin 1024) : ℝ :=
  (∑ K : Fin 2816, x.dg (ix2 R K) * x.wg (ix2 j K)) + ∑ K : Fin 2816, x.du (ix2 R K) * x.wu (ix2 j K)

/-- Row `R` of `h`, of the residual's cotangent, and the gain. -/
def Args.hr (R : Fin 16384) (j : Fin 1024) : ℝ := x.h (ix2 R j)
def Args.res (R : Fin 16384) (j : Fin 1024) : EReal := x.dh2 (ix2 R j)
def Args.gain (j : Fin 1024) : ℝ := x.gam (ix1 j)

/-- The two results. -/
def Args.dh1 (R : Fin 16384) (j : Fin 1024) : EReal := x.res R j + ((Norm.dh (x.hr R) (x.dn R) x.gain j : ℝ) : EReal)
def Args.term (R : Fin 16384) (j : Fin 1024) : ℝ := x.dn R j * (x.hr R j * Norm.rr (x.hr R))
def Args.dgam (j : Fin 1024) : ℝ := ∑ R, x.term R j

/-- The arrays that hold them. -/
def arr (f : Fin 16384 → Fin 1024 → EReal) : (⟨2, ![16384, 1024]⟩ : Shape).Idx → EReal := fun i => f (i 0) (i 1)
def arr1 (f : Fin 1024 → ℝ) : (⟨2, ![1, 1024]⟩ : Shape).Idx → EReal := fun i => ((f (i 1) : ℝ) : EReal)

/-- Column `k` of chip `q`'s block of 704 columns. -/
abbrev chip (q : Fin 4) (k : Fin 704) : Fin 2816 := chipOf 704 rfl q k

/-- The eight partial products in the order in which they are added. -/
def sums (a b : Fin 4 → Fin 704 → EReal) (w u : Fin 4 → Fin 1024 → Fin 704 → EReal) (j : Fin 1024) : EReal :=
  ∑ k, a 0 k * w 0 j k + ∑ k, b 0 k * u 0 j k + ∑ k, a 1 k * w 1 j k + ∑ k, b 1 k * u 1 j k
    + ∑ k, a 2 k * w 2 j k + ∑ k, b 2 k * u 2 j k + ∑ k, a 3 k * w 3 j k + ∑ k, b 3 k * u 3 j k

theorem sums_coe {a b : Fin 4 → Fin 704 → EReal} {w u : Fin 4 → Fin 1024 → Fin 704 → EReal} {R : Fin 16384}
    (ea : ∀ q k, a q k = ((x.dg (ix2 R (chip q k)) : ℝ) : EReal)) (eb : ∀ q k, b q k = ((x.du (ix2 R (chip q k)) : ℝ) : EReal))
    (ew : ∀ q j k, w q j k = ((x.wg (ix2 j (chip q k)) : ℝ) : EReal)) (eu : ∀ q j k, u q j k = ((x.wu (ix2 j (chip q k)) : ℝ) : EReal))
    (j : Fin 1024) : sums a b w u j = (x.dn R j : ℝ) := by
  have pa : ∀ q, ∑ k, a q k * w q j k = _ := fun q => pair _ _ _ _ (ea q) (ew q j)
  have pb : ∀ q, ∑ k, b q k * u q j k = _ := fun q => pair _ _ _ _ (eb q) (eu q j)
  unfold sums Args.dn
  simp only [pa, pb, ← EReal.coe_add]
  rw [sum_chips (w := 704) rfl, sum_chips (w := 704) rfl, Fin.sum_univ_four, Fin.sum_univ_four]
  refine congrArg _ ?_
  ring

end Cert.Proof.Ffi
end
-- ==== Proof.FfiKernel.lean ====
/-
  What `ffn_in_bwd` leaves in its two result arrays, for finite arguments.
-/
module

public import proofs.«01_k».proof.Proof.FfiTarget
public import proofs.«01_k».proof.Proof.Gen.FfiIdeal.Value
public import Idealize.ShloMosaic.Lib.StableHlo.RunRead
public import Idealize.ShloMosaic.Lib.Pipeline.ValueKit.Acc

@[expose] public section

set_option maxRecDepth 16384

noncomputable section

namespace Cert.Proof.Ffi

open Cert.FfiIdeal Cert.FfiIdeal.Gen Idealize.ShloMosaic TcCoe Idealize.SL.Sem
open Cert.Proof.RealValues

variable (m : (ℓ : Loc nD τ sig) → Buf (Elt Ideal) ℓ)

section blocks
variable (c : Dev nD) (t : Fin cfg0.N) (r : Fin 512)

/-- The blocks of the two cotangents and of the two weights, chip by chip. -/
def dgB (q : Fin 4) (k : Fin 704) : EReal := match q with
  | 0 => iblk m c 0 t (ix3 0 r k) | 1 => iblk m c 4 t (ix3 0 r k) | 2 => iblk m c 8 t (ix3 0 r k) | 3 => iblk m c 12 t (ix3 0 r k)
def duB (q : Fin 4) (k : Fin 704) : EReal := match q with
  | 0 => iblk m c 2 t (ix3 0 r k) | 1 => iblk m c 6 t (ix3 0 r k) | 2 => iblk m c 10 t (ix3 0 r k) | 3 => iblk m c 14 t (ix3 0 r k)
def wgB (q : Fin 4) (j : Fin 1024) (k : Fin 704) : EReal := match q with
  | 0 => iblk m c 1 t (ix3 0 j k) | 1 => iblk m c 5 t (ix3 0 j k) | 2 => iblk m c 9 t (ix3 0 j k) | 3 => iblk m c 13 t (ix3 0 j k)
def wuB (q : Fin 4) (j : Fin 1024) (k : Fin 704) : EReal := match q with
  | 0 => iblk m c 3 t (ix3 0 j k) | 1 => iblk m c 7 t (ix3 0 j k) | 2 => iblk m c 11 t (ix3 0 j k) | 3 => iblk m c 15 t (ix3 0 j k)

/-- The cotangent of the normalised row, from the blocks; the row, the residual's cotangent, and the gain. -/
def dnB : Fin 1024 → EReal := sums (dgB m c t r) (duB m c t r) (wgB m c t) (wuB m c t)
def hB (j : Fin 1024) : EReal := iblk m c 16 t (ix2 r j)
def resB (j : Fin 1024) : EReal := iblk m c 17 t (ix2 r j)
def gainB (j : Fin 1024) : EReal := iblk m c 18 t (ix2 0 j)
end blocks

/-- The first result's block after point `t`. -/
theorem out19 (c : Dev nD) (t : Fin cfg0.N) (r : Fin 512) (j : Fin 1024) :
    (outsAt0 m c t.val t.isLt).1 (ix2 r j) = Norm.formK (hB m c t r) (resB m c t r) (dnB m c t r) (gainB m c t) j := by
  by_cases h0 : t.val % 32 = 0
  · rw [outsAt0_A m c t h0]
    dsimp only
    frame_out
    unfold_payloads
    pointwise
    rfl
  · rw [outsAt0_B m c t h0]
    dsimp only
    frame_out
    unfold_payloads
    pointwise
    rfl

/-- The second result's buffer after the first point, and after each later one. -/
theorem out20_first (c : Dev nD) (t : Fin cfg0.N) (h0 : t.val % 32 = 0) (j : Fin 1024) :
    (outsAt0 m c t.val t.isLt).2 (ix2 0 j) = ∑ r : Fin 512, Norm.gainK (hB m c t r) (dnB m c t r) j := by
  rw [outsAt0_A m c t h0]
  dsimp only
  frame_out
  unfold_payloads
  pointwise
  rfl
theorem out20_next (c : Dev nD) (t : Fin cfg0.N) (h0 : ¬t.val % 32 = 0) (j : Fin 1024) :
    (outsAt0 m c t.val t.isLt).2 (ix2 0 j) = (outsAt0 m c (t.val - 1) (by have := t.isLt; omega)).2 (ix2 0 j)
      + ∑ r : Fin 512, Norm.gainK (hB m c t r) (dnB m c t r) j := by
  rw [outsAt0_B m c t h0]
  dsimp only
  frame_out
  unfold_payloads
  pointwise
  rfl

/-- The weights and the cotangents as the windows find them: four blocks of columns. -/
theorem V_wg (c : Dev nD) (q : Fin 4) (R : Fin 1024) (k : Fin 704) :
    V m c main_v2 (ix3 q R k) = m ((c : Thread nD τ).loc main_arg2) (ix2 R (chip q k)) := by
  have : V m c main_v2 = (truncf (F := Ideal) .bf16 (transpose S4x1024x704 [1, 0, 2]
      (shapeCast S1024x4x704 (m ((c : Thread nD τ).loc main_arg2) : FVec Ideal S1024x2816 .f32) shapeCasts_S1024x2816_S1024x4x704)
      transposes_S1024x4x704_S4x1024x704_1_0_2) bitsLt_bf16_f32 : FVec Ideal S4x1024x704 .bf16) := by
    unfold V hostOps0
    after_reads_simp
    rfl
  rw [this]
  exact cols_split rfl _ _ _ q R k
theorem V_wu (c : Dev nD) (q : Fin 4) (R : Fin 1024) (k : Fin 704) :
    V m c main_v5 (ix3 q R k) = m ((c : Thread nD τ).loc main_arg3) (ix2 R (chip q k)) := by
  have : V m c main_v5 = (truncf (F := Ideal) .bf16 (transpose S4x1024x704 [1, 0, 2]
      (shapeCast S1024x4x704 (m ((c : Thread nD τ).loc main_arg3) : FVec Ideal S1024x2816 .f32) shapeCasts_S1024x2816_S1024x4x704)
      transposes_S1024x4x704_S4x1024x704_1_0_2) bitsLt_bf16_f32 : FVec Ideal S4x1024x704 .bf16) := by
    unfold V hostOps0
    after_reads_simp
    rfl
  rw [this]
  exact cols_split rfl _ _ _ q R k
theorem V_dg (c : Dev nD) (q : Fin 4) (R : Fin 16384) (k : Fin 704) :
    V m c main_v8 (ix3 q R k) = m ((c : Thread nD τ).loc main_arg4) (ix2 R (chip q k)) := by
  have : V m c main_v8 = (truncf (F := Ideal) .bf16 (transpose S4x16384x704 [1, 0, 2]
      (shapeCast S16384x4x704 (m ((c : Thread nD τ).loc main_arg4) : FVec Ideal S16384x2816 .f32) shapeCasts_S16384x2816_S16384x4x704)
      transposes_S16384x4x704_S4x16384x704_1_0_2) bitsLt_bf16_f32 : FVec Ideal S4x16384x704 .bf16) := by
    unfold V hostOps0
    after_reads_simp
    rfl
  rw [this]
  exact cols_split rfl _ _ _ q R k
theorem V_du (c : Dev nD) (q : Fin 4) (R : Fin 16384) (k : Fin 704) :
    V m c main_v11 (ix3 q R k) = m ((c : Thread nD τ).loc main_arg5) (ix2 R (chip q k)) := by
  have : V m c main_v11 = (truncf (F := Ideal) .bf16 (transpose S4x16384x704 [1, 0, 2]
      (shapeCast S16384x4x704 (m ((c : Thread nD τ).loc main_arg5) : FVec Ideal S16384x2816 .f32) shapeCasts_S16384x2816_S16384x4x704)
      transposes_S16384x4x704_S4x16384x704_1_0_2) bitsLt_bf16_f32 : FVec Ideal S4x16384x704 .bf16) := by
    unfold V hostOps0
    after_reads_simp
    rfl
  rw [this]
  exact cols_split rfl _ _ _ q R k
/-- The gain as the window finds it: one row. -/
theorem V_gain (c : Dev nD) (j : Fin 1024) : V m c main_v12 (ix2 0 j) = m ((c : Thread nD τ).loc main_arg1) (ix1 j) := by
  have : V m c main_v12 = (shapeCast S1x1024 (m ((c : Thread nD τ).loc main_arg1) : FVec Ideal S1024 .f32) shapeCasts_S1024_S1x1024
      : FVec Ideal S1x1024 .f32) := by
    unfold V hostOps0
    after_reads_simp
    rfl
  rw [this]
  pointwise

/-- The block indices of the windows. -/
theorem idx_tok : ∀ t : Fin cfg0.N, win0_0.index t = ![0, t.val, 0]
    ∧ win0_4.index t = ![1, t.val, 0]
    ∧ win0_8.index t = ![2, t.val, 0]
    ∧ win0_12.index t = ![3, t.val, 0]
    ∧ win0_2.index t = ![0, t.val, 0]
    ∧ win0_6.index t = ![1, t.val, 0]
    ∧ win0_10.index t = ![2, t.val, 0]
    ∧ win0_14.index t = ![3, t.val, 0] := by decide +kernel
theorem idx_wt : ∀ t : Fin cfg0.N, win0_1.index t = ![0, 0, 0]
    ∧ win0_5.index t = ![1, 0, 0]
    ∧ win0_9.index t = ![2, 0, 0]
    ∧ win0_13.index t = ![3, 0, 0]
    ∧ win0_3.index t = ![0, 0, 0]
    ∧ win0_7.index t = ![1, 0, 0]
    ∧ win0_11.index t = ![2, 0, 0]
    ∧ win0_15.index t = ![3, 0, 0] := by decide +kernel
theorem idx_row : ∀ t : Fin cfg0.N, win0_16.index t = ![t.val, 0] ∧ win0_17.index t = ![t.val, 0] ∧ win0_18.index t = ![0, 0]
    ∧ win0_19.index t = ![t.val, 0] ∧ win0_20.index t = ![0, 0] := by decide +kernel

/-- Row `r` of the block of 512 tokens at grid point `t`. -/
abbrev row (t : Fin cfg0.N) (r : Fin 512) : Fin 16384 := Norm.row (t.cast N_0) r

/-- The array index of a block of tokens of chip `q`'s columns, of a block of a weight, and of a block of rows. -/
theorem at_tok {t : Fin cfg0.N} {r : Fin 512} {k : Fin 704} (q : Fin 4) {ix : Fin 3 → ℕ} (h : ix = ![q.val, t.val, 0])
    {I : S4x16384x704.Idx} (e0 : (I 0).val = ix 0 * 1 + 1 * 0) (e1 : (I 1).val = ix 1 * 512 + 1 * r.val)
    (e2 : (I 2).val = ix 2 * 704 + 1 * k.val) : I = ix3 q (row t r) k :=
  blk3 ix 1 512 704 0 r.val k.val e0 e1 e2 (by subst h; simp) (by subst h; rfl) (by subst h; simp)
theorem at_wt {j : Fin 1024} {k : Fin 704} (q : Fin 4) {ix : Fin 3 → ℕ} (h : ix = ![q.val, 0, 0])
    {I : S4x1024x704.Idx} (e0 : (I 0).val = ix 0 * 1 + 1 * 0) (e1 : (I 1).val = ix 1 * 1024 + 1 * j.val)
    (e2 : (I 2).val = ix 2 * 704 + 1 * k.val) : I = ix3 q j k :=
  blk3 ix 1 1024 704 0 j.val k.val e0 e1 e2 (by subst h; simp) (by subst h; simp) (by subst h; simp)
theorem at_row {t : Fin cfg0.N} {r : Fin 512} {j : Fin 1024} {ix : Fin 2 → ℕ} (h : ix = ![t.val, 0]) {I : S16384x1024.Idx}
    (e0 : (I 0).val = ix 0 * 512 + 1 * r.val) (e1 : (I 1).val = ix 1 * 1024 + 1 * j.val) : I = ix2 (row t r) j :=
  blk2 ix 512 1024 r.val j.val e0 e1 (by subst h; rfl) (by subst h; simp)
theorem at_one {j : Fin 1024} {ix : Fin 2 → ℕ} (h : ix = ![0, 0]) {I : S1x1024.Idx}
    (e0 : (I 0).val = ix 0 * 1 + 1 * 0) (e1 : (I 1).val = ix 1 * 1024 + 1 * j.val) : I = ix2 0 j :=
  blk2 ix 1 1024 0 j.val e0 e1 (by subst h; simp) (by subst h; simp)

/-- The memory holds the real arrays `x`. -/
structure Holds (c : Dev nD) (x : Args) : Prop where
  h : m ((c : Thread nD τ).loc main_arg0) = fun i => ((x.h i : ℝ) : EReal)
  gam : m ((c : Thread nD τ).loc main_arg1) = fun i => ((x.gam i : ℝ) : EReal)
  wg : m ((c : Thread nD τ).loc main_arg2) = fun i => ((x.wg i : ℝ) : EReal)
  wu : m ((c : Thread nD τ).loc main_arg3) = fun i => ((x.wu i : ℝ) : EReal)
  dg : m ((c : Thread nD τ).loc main_arg4) = fun i => ((x.dg i : ℝ) : EReal)
  du : m ((c : Thread nD τ).loc main_arg5) = fun i => ((x.du i : ℝ) : EReal)
  dh2 : m ((c : Thread nD τ).loc main_arg6) = x.dh2

variable {m} {c : Dev nD} {x : Args}

section blocks
variable (hx : Holds m c x) (t : Fin cfg0.N) (r : Fin 512)
include hx

/-- The blocks at an index. -/
theorem dgB_eq (q : Fin 4) (k : Fin 704) : dgB m c t r q k = (x.dg (ix2 (row t r) (chip q k)) : ℝ) := by
  obtain ⟨a0, a1, a2, a3, -⟩ := idx_tok t
  refine Eq.trans ?_ ((V_dg m c q (row t r) k).trans (congrFun hx.dg _))
  match q with
  | 0 => exact congrArg (V m c main_v8) (at_tok 0 a0 rfl rfl rfl)
  | 1 => exact congrArg (V m c main_v8) (at_tok 1 a1 rfl rfl rfl)
  | 2 => exact congrArg (V m c main_v8) (at_tok 2 a2 rfl rfl rfl)
  | 3 => exact congrArg (V m c main_v8) (at_tok 3 a3 rfl rfl rfl)
theorem duB_eq (q : Fin 4) (k : Fin 704) : duB m c t r q k = (x.du (ix2 (row t r) (chip q k)) : ℝ) := by
  obtain ⟨-, -, -, -, a0, a1, a2, a3⟩ := idx_tok t
  refine Eq.trans ?_ ((V_du m c q (row t r) k).trans (congrFun hx.du _))
  match q with
  | 0 => exact congrArg (V m c main_v11) (at_tok 0 a0 rfl rfl rfl)
  | 1 => exact congrArg (V m c main_v11) (at_tok 1 a1 rfl rfl rfl)
  | 2 => exact congrArg (V m c main_v11) (at_tok 2 a2 rfl rfl rfl)
  | 3 => exact congrArg (V m c main_v11) (at_tok 3 a3 rfl rfl rfl)
theorem wgB_eq (q : Fin 4) (j : Fin 1024) (k : Fin 704) : wgB m c t q j k = (x.wg (ix2 j (chip q k)) : ℝ) := by
  obtain ⟨a0, a1, a2, a3, -⟩ := idx_wt t
  refine Eq.trans ?_ ((V_wg m c q j k).trans (congrFun hx.wg _))
  match q with
  | 0 => exact congrArg (V m c main_v2) (at_wt 0 a0 rfl rfl rfl)
  | 1 => exact congrArg (V m c main_v2) (at_wt 1 a1 rfl rfl rfl)
  | 2 => exact congrArg (V m c main_v2) (at_wt 2 a2 rfl rfl rfl)
  | 3 => exact congrArg (V m c main_v2) (at_wt 3 a3 rfl rfl rfl)
theorem wuB_eq (q : Fin 4) (j : Fin 1024) (k : Fin 704) : wuB m c t q j k = (x.wu (ix2 j (chip q k)) : ℝ) := by
  obtain ⟨-, -, -, -, a0, a1, a2, a3⟩ := idx_wt t
  refine Eq.trans ?_ ((V_wu m c q j k).trans (congrFun hx.wu _))
  match q with
  | 0 => exact congrArg (V m c main_v5) (at_wt 0 a0 rfl rfl rfl)
  | 1 => exact congrArg (V m c main_v5) (at_wt 1 a1 rfl rfl rfl)
  | 2 => exact congrArg (V m c main_v5) (at_wt 2 a2 rfl rfl rfl)
  | 3 => exact congrArg (V m c main_v5) (at_wt 3 a3 rfl rfl rfl)

theorem dnB_eq (j : Fin 1024) : dnB m c t r j = ((x.dn (row t r) j : ℝ) : EReal) :=
  sums_coe x (dgB_eq hx t r) (duB_eq hx t r) (wgB_eq hx t) (wuB_eq hx t) j
theorem hB_eq (j : Fin 1024) : hB m c t r j = ((x.hr (row t r) j : ℝ) : EReal) :=
  (congrFun (V_main_arg0 m c) _).trans ((congrArg _ (at_row (idx_row t).1 rfl rfl)).trans (congrFun hx.h (ix2 (row t r) j)))
theorem resB_eq (j : Fin 1024) : resB m c t r j = x.res (row t r) j :=
  (congrFun (V_main_arg6 m c) _).trans ((congrArg _ (at_row (idx_row t).2.1 rfl rfl)).trans (congrFun hx.dh2 (ix2 (row t r) j)))
theorem gainB_eq (j : Fin 1024) : gainB m c t j = ((x.gain j : ℝ) : EReal) :=
  (congrArg (V m c main_v12) (at_one (idx_row t).2.2.1 rfl rfl)).trans ((V_gain m c j).trans (congrFun hx.gam (ix1 j)))

/-- The first result's block, and what a point adds to the second. -/
theorem block_dh (j : Fin 1024) : (outsAt0 m c t.val t.isLt).1 (ix2 r j) = x.dh1 (row t r) j :=
  (out19 m c t r j).trans ((Norm.formK_coe (hB_eq hx t r) (resB m c t r) (dnB_eq hx t r) (gainB_eq hx t) j).trans
    (congrArg (· + _) (resB_eq hx t r j)))
omit r in
theorem block_gain (j : Fin 1024) : (∑ r : Fin 512, Norm.gainK (hB m c t r) (dnB m c t r) j : EReal)
    = (∑ r : Fin 512, x.term (row t r) j : ℝ) := by
  rw [coe_sum]
  exact Finset.sum_congr rfl fun r _ => Norm.gainK_coe (hB_eq hx t r) (dnB_eq hx t r) j
end blocks

/-- The second result's buffer after the last point. -/
theorem gain_all (hx : Holds m c x) (j : Fin 1024) : ∀ t : Fin cfg0.N, t.val = 31 →
    (outsAt0 m c t.val t.isLt).2 (ix2 0 j) = ((x.dgam j : ℝ) : EReal) := fun t ht =>
  Norm.acc_all (fun R => x.term R j) (fun n hn => (outsAt0 m c n (lt_of_lt_of_eq hn N_0.symm)).2 (ix2 0 j))
    ((out20_first m c ⟨0, lt_of_lt_of_eq (by norm_num) N_0.symm⟩ rfl j).trans (block_gain hx _ j))
    (fun n hn => (out20_next m c ⟨n + 1, lt_of_lt_of_eq hn N_0.symm⟩ (by show ¬(n + 1) % 32 = 0; omega) j).trans
      (congrArg _ (block_gain hx _ j))) t.val (lt_of_lt_of_eq t.isLt N_0) ht

/-- The point whose block holds row `i 0`. -/
def pt (i : S16384x1024.Idx) : Fin cfg0.N :=
  ⟨(i 0 : Nat) / 512, by have h0 : (i 0 : Nat) < 16384 := (i 0).isLt; rw [show cfg0.N = 32 from N_0]; omega⟩
def last : Fin cfg0.N := ⟨31, lt_of_lt_of_eq (by norm_num) N_0.symm⟩

/-- The two result arrays after the run. -/
theorem final_dh (hx : Holds m c x) : (dats m 0 c).arrAt 19 cfg0.N = arr x.dh1 := by
  refine (dats m 0 c).arrAt_eq_of_cover 19 _ (fun t _ => ?_) (fun i => ⟨pt i, flush0_19 _, ?_⟩)
  · rw [Cert.FfiIdeal.Value.flushed19]
    refine funext fun (jj : S512x1024.Idx) => ?_
    obtain ⟨r, j, rfl⟩ := ex2 jj
    refine (block_dh hx t r j).trans ?_
    exact (congrArg (arr x.dh1) (at_row (idx_row t).2.2.2.1 rfl rfl)).symm
  · refine in_block ?_
    exact rows_cover i (by norm_num) (idx_row (pt i)).2.2.2.1
theorem final_gain (hx : Holds m c x) : (dats m 0 c).arrAt 20 cfg0.N = arr1 x.dgam := by
  refine (dats m 0 c).arrAt_eq_of_cover 20 _ (fun t ht => ?_)
    (fun i => ⟨last, (flush0_20 _).mpr rfl, ?_⟩)
  · rw [Cert.FfiIdeal.Value.flushed20]
    have h31 : t.val = 31 := by
      have h1 := (flush0_20 t).mp ht
      have h2 : t.val < 32 := lt_of_lt_of_eq t.isLt N_0
      omega
    refine funext fun (jj : S1x1024.Idx) => ?_
    obtain ⟨r, j, rfl⟩ := ex2 jj
    obtain rfl : r = 0 := Subsingleton.elim _ _
    refine (gain_all hx j t h31).trans ?_
    exact (congrArg (arr1 x.dgam) (at_one (idx_row t).2.2.2.2 rfl rfl)).symm
  · refine in_block ?_
    exact one_cover i (idx_row last).2.2.2.2

end Cert.Proof.Ffi
end
-- ==== Proof.FfiRef.lean ====
/-
  What the `jax.vjp` reference of `ffn_in_bwd` computes, for finite arguments.
-/
module

public import proofs.«01_k».proof.Proof.FfiTarget
public import proofs.«01_k».proof.Proof.Gen.FfiRefIdeal.Read

@[expose] public section

set_option maxRecDepth 16384

noncomputable section

namespace Cert.Proof.Ffi

open Idealize.ShloMosaic
open Cert.FfiRefIdeal Cert.FfiRefIdeal.Read
open Cert.Proof.RealValues

variable (x : Args) (x0 x6 : Vec Ideal S16384x1024 .f32) (x1 : Vec Ideal S1024 .f32) (x2 x3 : Vec Ideal S1024x2816 .f32)
  (x4 x5 : Vec Ideal S16384x2816 .f32)

/-- The mean square and the reciprocal root of row `R`. -/
theorem ref_ms (h0 : x0 = fun i => ((x.h i : ℝ) : EReal)) (R : Fin 16384) :
    val_main_v6 x0 (ix2 R 0) = (Norm.ms (x.hr R) : ℝ) := by
  unfold val_main_v6 val_main_v5 val_main_v4 val_main_v3 val_main_v2 val_main_v1 val_main_v0 val_main_cst val_main_cst_0 val_main_cst_1
  pointwise
  rw [h0]
  exact Norm.ms_coe (x.hr R)
theorem ref_rr (h0 : x0 = fun i => ((x.h i : ℝ) : EReal)) (R : Fin 16384) :
    val_main_v7 x0 (ix2 R 0) = (Norm.rr (x.hr R) : ℝ) := by
  unfold val_main_v7
  pointwise
  rw [ref_ms x x0 h0]
  exact Norm.rr_coe (x.hr R)

/-- The cotangent of the normalised row. -/
theorem ref_dn (h2 : x2 = fun i => ((x.wg i : ℝ) : EReal)) (h3 : x3 = fun i => ((x.wu i : ℝ) : EReal))
    (h4 : x4 = fun i => ((x.dg i : ℝ) : EReal)) (h5 : x5 = fun i => ((x.du i : ℝ) : EReal)) (R : Fin 16384) (j : Fin 1024) :
    val_main_v20 x2 x3 x4 x5 (ix2 R j) = (x.dn R j : ℝ) := by
  unfold val_main_v20 val_main_v19 val_main_v18
  pointwise
  rw [h2, h3, h4, h5]
  simp only [← EReal.coe_mul, ← coe_sum, ← EReal.coe_add]
  exact congrArg _ (add_comm _ _)

/-- The two results. -/
theorem ref_dh (h0 : x0 = fun i => ((x.h i : ℝ) : EReal)) (h1 : x1 = fun i => ((x.gam i : ℝ) : EReal))
    (h2 : x2 = fun i => ((x.wg i : ℝ) : EReal)) (h3 : x3 = fun i => ((x.wu i : ℝ) : EReal))
    (h4 : x4 = fun i => ((x.dg i : ℝ) : EReal)) (h5 : x5 = fun i => ((x.du i : ℝ) : EReal))
    (h6 : x6 = x.dh2) : val_main_v41 x0 x1 x2 x3 x4 x5 x6 = arr x.dh1 := by
  refine funext fun i => ?_
  obtain ⟨R, j, rfl⟩ := ex2 i
  unfold val_main_v41 val_main_v40 val_main_v39 val_main_v38 val_main_v37 val_main_v36 val_main_v35 val_main_v34 val_main_v33
    val_main_v32 val_main_v31 val_main_v30 val_main_v29 val_main_v28 val_main_v27 val_main_v25 val_main_v24 val_main_v13
    val_main_v10 val_main_v9 val_main_v8 val_main_cst_7 val_main_cst_6 val_main_cst_5 val_main_cst_2
  pointwise
  simp only [Fin.sum_univ_one, ref_ms x x0 h0, ref_rr x x0 h0, ref_dn x x2 x3 x4 x5 h2 h3 h4 h5]
  rw [h0, h1, h6]
  exact Norm.vjp_form (x.hr R) (x.dn R) x.gain (x.res R j) j
theorem ref_gain (h0 : x0 = fun i => ((x.h i : ℝ) : EReal))
    (h2 : x2 = fun i => ((x.wg i : ℝ) : EReal)) (h3 : x3 = fun i => ((x.wu i : ℝ) : EReal))
    (h4 : x4 = fun i => ((x.dg i : ℝ) : EReal)) (h5 : x5 = fun i => ((x.du i : ℝ) : EReal)) :
    val_main_v42 x0 x2 x3 x4 x5 = arr1 x.dgam := by
  refine funext fun i => ?_
  obtain ⟨R, j, rfl⟩ := ex2 i
  obtain rfl : R = 0 := Subsingleton.elim _ _
  unfold val_main_v42 val_main_v26 val_main_v23 val_main_v22 val_main_v21 val_main_v12 val_main_v11 val_main_cst_4 val_main_cst_3
  pointwise
  simp only [Fin.sum_univ_one, ref_rr x x0 h0, ref_dn x x2 x3 x4 x5 h2 h3 h4 h5]
  rw [h0]
  simp only [← EReal.coe_mul, ← coe_sum]
  show _ = ((x.dgam j : ℝ) : EReal)
  unfold Args.dgam Args.term Args.hr
  refine congrArg _ (Finset.sum_congr rfl fun R _ => ?_)
  ring

end Cert.Proof.Ffi
end
-- ==== Proof.FfiClaims.lean ====
/-
  `ffn_in_bwd` against the `jax.vjp` of `rmsnorm` and the two products after it: the two claims, and the frames.
-/
module

public import proofs.«01_k».proof.Proof.FfiKernel
public import proofs.«01_k».proof.Proof.FfiRef
public import proofs.«01_k».proof.Proof.Gen.Pre_ffi_pre
public import proofs.«01_k».proof.Proof.Gen.Ffi.Frame
public import proofs.«01_k».proof.Defs

@[expose] public section

set_option maxRecDepth 16384

noncomputable section

namespace Cert.Proof.Ffi

open Idealize.ShloMosaic TcCoe Idealize.SL.Sem
open Cert.FfiIdeal (S16384x1024 S16384x2816 S1024x2816 S1024)
open Cert.Proof.RealValues

/-- Arguments that meet the precondition are casts of real arrays, the residual's cotangent apart. -/
theorem reals_of_pre {x0 x6 : FVec Ideal S16384x1024 .f32} {x1 : FVec Ideal S1024 .f32} {x2 x3 : FVec Ideal S1024x2816 .f32}
    {x4 x5 : FVec Ideal S16384x2816 .f32} (h : Cert.Pre_ffi_pre.fn x0 x1 x2 x3 x4 x5 x6 = fun _ => 1#1) :
    ∃ x : Args, (x0 = fun i => ((x.h i : ℝ) : EReal)) ∧ (x1 = fun i => ((x.gam i : ℝ) : EReal))
      ∧ (x2 = fun i => ((x.wg i : ℝ) : EReal)) ∧ (x3 = fun i => ((x.wu i : ℝ) : EReal)) ∧ (x4 = fun i => ((x.dg i : ℝ) : EReal))
      ∧ (x5 = fun i => ((x.du i : ℝ) : EReal)) ∧ x6 = x.dh2 := by
  have h5 := congrFun h (fun a => a.elim0)
  dsimp only [Cert.Pre_ffi_pre.fn, Cert.Pre_ffi_pre.fn_part1] at h5
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  obtain ⟨a0, k0⟩ := real_of_all _ top_f32 _ _ _ _ _ _ e0
  obtain ⟨a1, k1⟩ := real_of_all _ top_f32 _ _ _ _ _ _ e1
  obtain ⟨a2, k2⟩ := real_of_all _ top_f32 _ _ _ _ _ _ e2
  obtain ⟨a3, k3⟩ := real_of_all _ top_f32 _ _ _ _ _ _ e3
  obtain ⟨a4, k4⟩ := real_of_all _ top_f32 _ _ _ _ _ _ e4
  obtain ⟨a5, k5⟩ := real_of_all _ top_f32 _ _ _ _ _ _ e5
  exact ⟨⟨a0, x6, a1, a2, a3, a4, a5⟩, k0, k1, k2, k3, k4, k5, rfl⟩

/-- Kernel and reference compute the same two functions of finite arguments over the extended reals. -/
theorem algebraic : Cert.algebraic_FfiIdeal_FfiRefIdeal_pre_ffi_pre := by
  intro m g m' g' hpre hargs
  choose x h0 h1 h2 h3 h4 h5 h6 using fun c => reals_of_pre (hpre c)
  refine ⟨fun c => arr (x c).dh1, fun c => arr1 (x c).dgam,
    (θ_run Cert.FfiIdeal.defs _ _).mono (fun r h c => ?_) (Cert.FfiIdeal.Value.run_blocks m g),
    (θ_run Cert.FfiRefIdeal.defs _ _).mono (fun r h c => ?_) (Cert.FfiRefIdeal.Value.run m' g')⟩
  · obtain ⟨e0, e1, hr⟩ := h c
    have hh : Holds m c (x c) := ⟨h0 c, h1 c, h2 c, h3 c, h4 c, h5 c, h6 c⟩
    exact ⟨e0.trans (final_dh hh), e1.trans (final_gain hh), hr⟩
  · obtain ⟨e0, e1, hr⟩ := h c
    obtain ⟨k0, k1, k2, k3, k4, k5, k6⟩ := hargs c
    exact ⟨e0.trans (ref_dh (x c) _ _ _ _ _ _ _ (k0.trans (h0 c)) (k1.trans (h1 c)) (k2.trans (h2 c)) (k3.trans (h3 c))
        (k4.trans (h4 c)) (k5.trans (h5 c)) (k6.trans (h6 c))),
      e1.trans (ref_gain (x c) _ _ _ _ _ (k0.trans (h0 c)) (k2.trans (h2 c)) (k3.trans (h3 c)) (k4.trans (h4 c)) (k5.trans (h5 c))), hr⟩

/-- The reference terminates, leaves its arguments and every counter at zero. -/
theorem frame_ref : Cert.quiescent_FfiRefIdeal := fun m g _ =>
  (θ_run Cert.FfiRefIdeal.defs _ _).mono (fun r h => ⟨fun c => (h c).2.2, Idealize.ShloMosaic.sem_eq_zero_of_no_sems (by decide) r.2⟩)
    (Cert.FfiRefIdeal.Value.run m g)
theorem frame_kernel : Cert.quiescent_Ffi := fun m g _ => Cert.Ffi.Gen.frame m g
theorem frame_ideal : Cert.quiescent_FfiIdeal := fun m g _ => Cert.FfiIdeal.Gen.frame m g

end Cert.Proof.Ffi
end
-- ==== Proof.IpbTarget.lean ====
/-
  The gradient of the product `rmsnorm x @ w_in`, as real functions; the residual's cotangent is any array of extended reals.
-/
module

public import proofs.«01_k».proof.Proof.NormTarget

@[expose] public section

noncomputable section

namespace Cert.Proof.Ipb

open Idealize.ShloMosaic
open Cert.Proof.RealValues

/-- The arrays: the rows, the gain, the weight, the product's cotangent, and the residual's. -/
structure Args where
  (h : (⟨2, ![16384, 1024]⟩ : Shape).Idx → ℝ) (gam : (⟨1, ![1024]⟩ : Shape).Idx → ℝ)
  (w : (⟨2, ![1024, 7168]⟩ : Shape).Idx → ℝ) (dz : (⟨2, ![16384, 7168]⟩ : Shape).Idx → ℝ)
  (dh1 : (⟨2, ![16384, 1024]⟩ : Shape).Idx → EReal)

variable (x : Args)

/-- The cotangent of the normalised row `R`. -/
def Args.dn (R : Fin 16384) (j : Fin 1024) : ℝ := ∑ K : Fin 7168, x.dz (ix2 R K) * x.w (ix2 j K)

/-- Row `R` of `x`, of the residual's cotangent, and the gain. -/
def Args.hr (R : Fin 16384) (j : Fin 1024) : ℝ := x.h (ix2 R j)
def Args.res (R : Fin 16384) (j : Fin 1024) : EReal := x.dh1 (ix2 R j)
def Args.gain (j : Fin 1024) : ℝ := x.gam (ix1 j)

/-- The two results. -/
def Args.dx (R : Fin 16384) (j : Fin 1024) : EReal := x.res R j + ((Norm.dh (x.hr R) (x.dn R) x.gain j : ℝ) : EReal)
def Args.term (R : Fin 16384) (j : Fin 1024) : ℝ := x.dn R j * (x.hr R j * Norm.rr (x.hr R))
def Args.dgam (j : Fin 1024) : ℝ := ∑ R, x.term R j

/-- The arrays that hold them. -/
def arr (f : Fin 16384 → Fin 1024 → EReal) : (⟨2, ![16384, 1024]⟩ : Shape).Idx → EReal := fun i => f (i 0) (i 1)
def arr1 (f : Fin 1024 → ℝ) : (⟨2, ![1, 1024]⟩ : Shape).Idx → EReal := fun i => ((f (i 1) : ℝ) : EReal)

/-- Column `k` of chip `q`'s block of 1792 columns. -/
abbrev chip (q : Fin 4) (k : Fin 1792) : Fin 7168 := chipOf 1792 rfl q k

/-- The four partial products in the order in which they are added. -/
def sums (a : Fin 4 → Fin 1792 → EReal) (w : Fin 4 → Fin 1024 → Fin 1792 → EReal) (j : Fin 1024) : EReal :=
  ∑ k, a 0 k * w 0 j k + ∑ k, a 1 k * w 1 j k + ∑ k, a 2 k * w 2 j k + ∑ k, a 3 k * w 3 j k

theorem sums_coe {a : Fin 4 → Fin 1792 → EReal} {w : Fin 4 → Fin 1024 → Fin 1792 → EReal} {R : Fin 16384}
    (ea : ∀ q k, a q k = ((x.dz (ix2 R (chip q k)) : ℝ) : EReal)) (ew : ∀ q j k, w q j k = ((x.w (ix2 j (chip q k)) : ℝ) : EReal))
    (j : Fin 1024) : sums a w j = (x.dn R j : ℝ) := by
  have pa : ∀ q, ∑ k, a q k * w q j k = _ := fun q => pair _ _ _ _ (ea q) (ew q j)
  unfold sums Args.dn
  simp only [pa, ← EReal.coe_add]
  rw [sum_chips (w := 1792) rfl, Fin.sum_univ_four]

end Cert.Proof.Ipb
end
-- ==== Proof.IpbKernel.lean ====
/-
  What `in_proj_bwd` leaves in its two result arrays, for finite arguments.
-/
module

public import proofs.«01_k».proof.Proof.IpbTarget
public import proofs.«01_k».proof.Proof.Gen.IpbIdeal.Value
public import Idealize.ShloMosaic.Lib.StableHlo.RunRead
public import Idealize.ShloMosaic.Lib.Pipeline.ValueKit.Acc

@[expose] public section

set_option maxRecDepth 16384

noncomputable section

namespace Cert.Proof.Ipb

open Cert.IpbIdeal Cert.IpbIdeal.Gen Idealize.ShloMosaic TcCoe Idealize.SL.Sem
open Cert.Proof.RealValues

variable (m : (ℓ : Loc nD τ sig) → Buf (Elt Ideal) ℓ)

section blocks
variable (c : Dev nD) (t : Fin cfg0.N) (r : Fin 512)

/-- The blocks of the cotangent and of the weight, chip by chip. -/
def dzB (q : Fin 4) (k : Fin 1792) : EReal := match q with
  | 0 => iblk m c 0 t (ix2 r k) | 1 => iblk m c 2 t (ix2 r k) | 2 => iblk m c 4 t (ix2 r k) | 3 => iblk m c 6 t (ix2 r k)
def wB (q : Fin 4) (j : Fin 1024) (k : Fin 1792) : EReal := match q with
  | 0 => iblk m c 1 t (ix3 0 j k) | 1 => iblk m c 3 t (ix3 0 j k) | 2 => iblk m c 5 t (ix3 0 j k) | 3 => iblk m c 7 t (ix3 0 j k)

/-- The cotangent of the normalised row, from the blocks; the row, the residual's cotangent, and the gain. -/
def dnB : Fin 1024 → EReal := sums (dzB m c t r) (wB m c t)
def hB (j : Fin 1024) : EReal := iblk m c 8 t (ix2 r j)
def resB (j : Fin 1024) : EReal := iblk m c 9 t (ix2 r j)
def gainB (j : Fin 1024) : EReal := iblk m c 10 t (ix2 0 j)
end blocks

/-- The first result's block after point `t`. -/
theorem out11 (c : Dev nD) (t : Fin cfg0.N) (r : Fin 512) (j : Fin 1024) :
    (outsAt0 m c t.val t.isLt).1 (ix2 r j) = Norm.formK (hB m c t r) (resB m c t r) (dnB m c t r) (gainB m c t) j := by
  by_cases h0 : t.val % 32 = 0
  · rw [outsAt0_A m c t h0]
    dsimp only
    frame_out
    unfold_payloads
    pointwise
    rfl
  · rw [outsAt0_B m c t h0]
    dsimp only
    frame_out
    unfold_payloads
    pointwise
    rfl

/-- The second result's buffer after the first point, and after each later one. -/
theorem out12_first (c : Dev nD) (t : Fin cfg0.N) (h0 : t.val % 32 = 0) (j : Fin 1024) :
    (outsAt0 m c t.val t.isLt).2 (ix2 0 j) = ∑ r : Fin 512, Norm.gainK (hB m c t r) (dnB m c t r) j := by
  rw [outsAt0_A m c t h0]
  dsimp only
  frame_out
  unfold_payloads
  pointwise
  rfl
theorem out12_next (c : Dev nD) (t : Fin cfg0.N) (h0 : ¬t.val % 32 = 0) (j : Fin 1024) :
    (outsAt0 m c t.val t.isLt).2 (ix2 0 j) = (outsAt0 m c (t.val - 1) (by have := t.isLt; omega)).2 (ix2 0 j)
      + ∑ r : Fin 512, Norm.gainK (hB m c t r) (dnB m c t r) j := by
  rw [outsAt0_B m c t h0]
  dsimp only
  frame_out
  unfold_payloads
  pointwise
  rfl

/-- The weight as the windows find it: four blocks of columns. -/
theorem V_w (c : Dev nD) (q : Fin 4) (R : Fin 1024) (k : Fin 1792) :
    V m c main_v2 (ix3 q R k) = m ((c : Thread nD τ).loc main_arg2) (ix2 R (chip q k)) := by
  have : V m c main_v2 = (truncf (F := Ideal) .bf16 (transpose S4x1024x1792 [1, 0, 2]
      (shapeCast S1024x4x1792 (m ((c : Thread nD τ).loc main_arg2) : FVec Ideal S1024x7168 .f32) shapeCasts_S1024x7168_S1024x4x1792)
      transposes_S1024x4x1792_S4x1024x1792_1_0_2) bitsLt_bf16_f32 : FVec Ideal S4x1024x1792 .bf16) := by
    unfold V hostOps0
    after_reads_simp
    rfl
  rw [this]
  exact cols_split rfl _ _ _ q R k
/-- The gain as the window finds it: one row. -/
theorem V_gain (c : Dev nD) (j : Fin 1024) : V m c main_v3 (ix2 0 j) = m ((c : Thread nD τ).loc main_arg1) (ix1 j) := by
  have : V m c main_v3 = (shapeCast S1x1024 (m ((c : Thread nD τ).loc main_arg1) : FVec Ideal S1024 .f32) shapeCasts_S1024_S1x1024
      : FVec Ideal S1x1024 .f32) := by
    unfold V hostOps0
    after_reads_simp
    rfl
  rw [this]
  pointwise

/-- The block indices of the windows. -/
theorem idx_tok : ∀ t : Fin cfg0.N, win0_0.index t = ![t.val, 0]
    ∧ win0_2.index t = ![t.val, 1]
    ∧ win0_4.index t = ![t.val, 2]
    ∧ win0_6.index t = ![t.val, 3] := by decide +kernel
theorem idx_wt : ∀ t : Fin cfg0.N, win0_1.index t = ![0, 0, 0]
    ∧ win0_3.index t = ![1, 0, 0]
    ∧ win0_5.index t = ![2, 0, 0]
    ∧ win0_7.index t = ![3, 0, 0] := by decide +kernel
theorem idx_row : ∀ t : Fin cfg0.N, win0_8.index t = ![t.val, 0] ∧ win0_9.index t = ![t.val, 0] ∧ win0_10.index t = ![0, 0]
    ∧ win0_11.index t = ![t.val, 0] ∧ win0_12.index t = ![0, 0] := by decide +kernel

/-- Row `r` of the block of 512 tokens at grid point `t`. -/
abbrev row (t : Fin cfg0.N) (r : Fin 512) : Fin 16384 := Norm.row (t.cast N_0) r

/-- The array index of a block of tokens of chip `q`'s columns, of a block of a weight, and of a block of rows. -/
theorem at_tok {t : Fin cfg0.N} {r : Fin 512} {k : Fin 1792} (q : Fin 4) {ix : Fin 2 → ℕ} (h : ix = ![t.val, q.val])
    {I : S16384x7168.Idx} (e0 : (I 0).val = ix 0 * 512 + 1 * r.val) (e1 : (I 1).val = ix 1 * 1792 + 1 * k.val) :
    I = ix2 (row t r) (chip q k) :=
  blk2 ix 512 1792 r.val k.val e0 e1 (by subst h; rfl) (by subst h; rfl)
theorem at_wt {j : Fin 1024} {k : Fin 1792} (q : Fin 4) {ix : Fin 3 → ℕ} (h : ix = ![q.val, 0, 0])
    {I : S4x1024x1792.Idx} (e0 : (I 0).val = ix 0 * 1 + 1 * 0) (e1 : (I 1).val = ix 1 * 1024 + 1 * j.val)
    (e2 : (I 2).val = ix 2 * 1792 + 1 * k.val) : I = ix3 q j k :=
  blk3 ix 1 1024 1792 0 j.val k.val e0 e1 e2 (by subst h; simp) (by subst h; simp) (by subst h; simp)
theorem at_row {t : Fin cfg0.N} {r : Fin 512} {j : Fin 1024} {ix : Fin 2 → ℕ} (h : ix = ![t.val, 0]) {I : S16384x1024.Idx}
    (e0 : (I 0).val = ix 0 * 512 + 1 * r.val) (e1 : (I 1).val = ix 1 * 1024 + 1 * j.val) : I = ix2 (row t r) j :=
  blk2 ix 512 1024 r.val j.val e0 e1 (by subst h; rfl) (by subst h; simp)
theorem at_one {j : Fin 1024} {ix : Fin 2 → ℕ} (h : ix = ![0, 0]) {I : S1x1024.Idx}
    (e0 : (I 0).val = ix 0 * 1 + 1 * 0) (e1 : (I 1).val = ix 1 * 1024 + 1 * j.val) : I = ix2 0 j :=
  blk2 ix 1 1024 0 j.val e0 e1 (by subst h; simp) (by subst h; simp)

/-- The memory holds the real arrays `x`. -/
structure Holds (c : Dev nD) (x : Args) : Prop where
  h : m ((c : Thread nD τ).loc main_arg0) = fun i => ((x.h i : ℝ) : EReal)
  gam : m ((c : Thread nD τ).loc main_arg1) = fun i => ((x.gam i : ℝ) : EReal)
  w : m ((c : Thread nD τ).loc main_arg2) = fun i => ((x.w i : ℝ) : EReal)
  dz : m ((c : Thread nD τ).loc main_arg3) = fun i => ((x.dz i : ℝ) : EReal)
  dh1 : m ((c : Thread nD τ).loc main_arg4) = x.dh1

variable {m} {c : Dev nD} {x : Args}

section blocks
variable (hx : Holds m c x) (t : Fin cfg0.N) (r : Fin 512)
include hx

/-- The blocks at an index. -/
theorem dzB_eq (q : Fin 4) (k : Fin 1792) : dzB m c t r q k = (x.dz (ix2 (row t r) (chip q k)) : ℝ) := by
  obtain ⟨a0, a1, a2, a3⟩ := idx_tok t
  refine Eq.trans ?_ ((congrFun (V_main_arg3 m c) _).trans (congrFun hx.dz _))
  match q with
  | 0 => exact congrArg (V m c main_arg3) (at_tok 0 a0 rfl rfl)
  | 1 => exact congrArg (V m c main_arg3) (at_tok 1 a1 rfl rfl)
  | 2 => exact congrArg (V m c main_arg3) (at_tok 2 a2 rfl rfl)
  | 3 => exact congrArg (V m c main_arg3) (at_tok 3 a3 rfl rfl)
theorem wB_eq (q : Fin 4) (j : Fin 1024) (k : Fin 1792) : wB m c t q j k = (x.w (ix2 j (chip q k)) : ℝ) := by
  obtain ⟨a0, a1, a2, a3⟩ := idx_wt t
  refine Eq.trans ?_ ((V_w m c q j k).trans (congrFun hx.w _))
  match q with
  | 0 => exact congrArg (V m c main_v2) (at_wt 0 a0 rfl rfl rfl)
  | 1 => exact congrArg (V m c main_v2) (at_wt 1 a1 rfl rfl rfl)
  | 2 => exact congrArg (V m c main_v2) (at_wt 2 a2 rfl rfl rfl)
  | 3 => exact congrArg (V m c main_v2) (at_wt 3 a3 rfl rfl rfl)

theorem dnB_eq (j : Fin 1024) : dnB m c t r j = ((x.dn (row t r) j : ℝ) : EReal) :=
  sums_coe x (dzB_eq hx t r) (wB_eq hx t) j
theorem hB_eq (j : Fin 1024) : hB m c t r j = ((x.hr (row t r) j : ℝ) : EReal) :=
  (congrFun (V_main_arg0 m c) _).trans ((congrArg _ (at_row (idx_row t).1 rfl rfl)).trans (congrFun hx.h (ix2 (row t r) j)))
theorem resB_eq (j : Fin 1024) : resB m c t r j = x.res (row t r) j :=
  (congrFun (V_main_arg4 m c) _).trans ((congrArg _ (at_row (idx_row t).2.1 rfl rfl)).trans (congrFun hx.dh1 (ix2 (row t r) j)))
theorem gainB_eq (j : Fin 1024) : gainB m c t j = ((x.gain j : ℝ) : EReal) :=
  (congrArg (V m c main_v3) (at_one (idx_row t).2.2.1 rfl rfl)).trans ((V_gain m c j).trans (congrFun hx.gam (ix1 j)))

/-- The first result's block, and what a point adds to the second. -/
theorem block_dh (j : Fin 1024) : (outsAt0 m c t.val t.isLt).1 (ix2 r j) = x.dx (row t r) j :=
  (out11 m c t r j).trans ((Norm.formK_coe (hB_eq hx t r) (resB m c t r) (dnB_eq hx t r) (gainB_eq hx t) j).trans
    (congrArg (· + _) (resB_eq hx t r j)))
omit r in
theorem block_gain (j : Fin 1024) : (∑ r : Fin 512, Norm.gainK (hB m c t r) (dnB m c t r) j : EReal)
    = (∑ r : Fin 512, x.term (row t r) j : ℝ) := by
  rw [coe_sum]
  exact Finset.sum_congr rfl fun r _ => Norm.gainK_coe (hB_eq hx t r) (dnB_eq hx t r) j
end blocks

/-- The second result's buffer after the last point. -/
theorem gain_all (hx : Holds m c x) (j : Fin 1024) : ∀ t : Fin cfg0.N, t.val = 31 →
    (outsAt0 m c t.val t.isLt).2 (ix2 0 j) = ((x.dgam j : ℝ) : EReal) := fun t ht =>
  Norm.acc_all (fun R => x.term R j) (fun n hn => (outsAt0 m c n (lt_of_lt_of_eq hn N_0.symm)).2 (ix2 0 j))
    ((out12_first m c ⟨0, lt_of_lt_of_eq (by norm_num) N_0.symm⟩ rfl j).trans (block_gain hx _ j))
    (fun n hn => (out12_next m c ⟨n + 1, lt_of_lt_of_eq hn N_0.symm⟩ (by show ¬(n + 1) % 32 = 0; omega) j).trans
      (congrArg _ (block_gain hx _ j))) t.val (lt_of_lt_of_eq t.isLt N_0) ht

/-- The point whose block holds row `i 0`. -/
def pt (i : S16384x1024.Idx) : Fin cfg0.N :=
  ⟨(i 0 : Nat) / 512, by have h0 : (i 0 : Nat) < 16384 := (i 0).isLt; rw [show cfg0.N = 32 from N_0]; omega⟩
def last : Fin cfg0.N := ⟨31, lt_of_lt_of_eq (by norm_num) N_0.symm⟩

/-- The two result arrays after the run. -/
theorem final_dh (hx : Holds m c x) : (dats m 0 c).arrAt 11 cfg0.N = arr x.dx := by
  refine (dats m 0 c).arrAt_eq_of_cover 11 _ (fun t _ => ?_) (fun i => ⟨pt i, flush0_11 _, ?_⟩)
  · rw [Cert.IpbIdeal.Value.flushed11]
    refine funext fun (jj : S512x1024.Idx) => ?_
    obtain ⟨r, j, rfl⟩ := ex2 jj
    refine (block_dh hx t r j).trans ?_
    exact (congrArg (arr x.dx) (at_row (idx_row t).2.2.2.1 rfl rfl)).symm
  · refine in_block ?_
    exact rows_cover i (by norm_num) (idx_row (pt i)).2.2.2.1
theorem final_gain (hx : Holds m c x) : (dats m 0 c).arrAt 12 cfg0.N = arr1 x.dgam := by
  refine (dats m 0 c).arrAt_eq_of_cover 12 _ (fun t ht => ?_)
    (fun i => ⟨last, (flush0_12 _).mpr rfl, ?_⟩)
  · rw [Cert.IpbIdeal.Value.flushed12]
    have h31 : t.val = 31 := by
      have h1 := (flush0_12 t).mp ht
      have h2 : t.val < 32 := lt_of_lt_of_eq t.isLt N_0
      omega
    refine funext fun (jj : S1x1024.Idx) => ?_
    obtain ⟨r, j, rfl⟩ := ex2 jj
    obtain rfl : r = 0 := Subsingleton.elim _ _
    refine (gain_all hx j t h31).trans ?_
    exact (congrArg (arr1 x.dgam) (at_one (idx_row t).2.2.2.2 rfl rfl)).symm
  · refine in_block ?_
    exact one_cover i (idx_row last).2.2.2.2

end Cert.Proof.Ipb
end
-- ==== Proof.IpbRef.lean ====
/-
  What the `jax.vjp` reference of `in_proj_bwd` computes, for finite arguments.
-/
module

public import proofs.«01_k».proof.Proof.IpbTarget
public import proofs.«01_k».proof.Proof.Gen.IpbRefIdeal.Read

@[expose] public section

set_option maxRecDepth 16384

noncomputable section

namespace Cert.Proof.Ipb

open Idealize.ShloMosaic
open Cert.IpbRefIdeal Cert.IpbRefIdeal.Read
open Cert.Proof.RealValues

variable (x : Args) (x0 x4 : Vec Ideal S16384x1024 .f32) (x1 : Vec Ideal S1024 .f32) (x2 : Vec Ideal S1024x7168 .f32)
  (x3 : Vec Ideal S16384x7168 .bf16)

/-- The mean square and the reciprocal root of row `R`. -/
theorem ref_ms (h0 : x0 = fun i => ((x.h i : ℝ) : EReal)) (R : Fin 16384) :
    val_main_v6 x0 (ix2 R 0) = (Norm.ms (x.hr R) : ℝ) := by
  unfold val_main_v6 val_main_v5 val_main_v4 val_main_v3 val_main_v2 val_main_v1 val_main_v0 val_main_cst val_main_cst_0 val_main_cst_1
  pointwise
  rw [h0]
  exact Norm.ms_coe (x.hr R)
theorem ref_rr (h0 : x0 = fun i => ((x.h i : ℝ) : EReal)) (R : Fin 16384) :
    val_main_v7 x0 (ix2 R 0) = (Norm.rr (x.hr R) : ℝ) := by
  unfold val_main_v7
  pointwise
  rw [ref_ms x x0 h0]
  exact Norm.rr_coe (x.hr R)

/-- The cotangent of the normalised row. -/
theorem ref_dn (h2 : x2 = fun i => ((x.w i : ℝ) : EReal)) (h3 : x3 = fun i => ((x.dz i : ℝ) : EReal)) (R : Fin 16384)
    (j : Fin 1024) : val_main_v18 x2 x3 (ix2 R j) = (x.dn R j : ℝ) := by
  unfold val_main_v18 val_main_v17
  pointwise
  rw [h2, h3]
  exact pair _ _ _ _ (fun _ => rfl) fun _ => rfl

/-- The two results. -/
theorem ref_dh (h0 : x0 = fun i => ((x.h i : ℝ) : EReal)) (h1 : x1 = fun i => ((x.gam i : ℝ) : EReal))
    (h2 : x2 = fun i => ((x.w i : ℝ) : EReal)) (h3 : x3 = fun i => ((x.dz i : ℝ) : EReal)) (h4 : x4 = x.dh1) : val_main_v39 x0 x1 x2 x3 x4 = arr x.dx := by
  refine funext fun i => ?_
  obtain ⟨R, j, rfl⟩ := ex2 i
  unfold val_main_v39 val_main_v38 val_main_v37 val_main_v36 val_main_v35 val_main_v34 val_main_v33 val_main_v32 val_main_v31
    val_main_v30 val_main_v29 val_main_v28 val_main_v27 val_main_v26 val_main_v25 val_main_v23 val_main_v22 val_main_v13
    val_main_v10 val_main_v9 val_main_v8 val_main_cst_7 val_main_cst_6 val_main_cst_5 val_main_cst_2
  pointwise
  simp only [Fin.sum_univ_one, ref_ms x x0 h0, ref_rr x x0 h0, ref_dn x x2 x3 h2 h3]
  rw [h0, h1, h4]
  exact Norm.vjp_form (x.hr R) (x.dn R) x.gain (x.res R j) j
theorem ref_gain (h0 : x0 = fun i => ((x.h i : ℝ) : EReal))
    (h2 : x2 = fun i => ((x.w i : ℝ) : EReal)) (h3 : x3 = fun i => ((x.dz i : ℝ) : EReal)) :
    val_main_v40 x0 x2 x3 = arr1 x.dgam := by
  refine funext fun i => ?_
  obtain ⟨R, j, rfl⟩ := ex2 i
  obtain rfl : R = 0 := Subsingleton.elim _ _
  unfold val_main_v40 val_main_v24 val_main_v21 val_main_v20 val_main_v19 val_main_v12 val_main_v11 val_main_cst_4 val_main_cst_3
  pointwise
  simp only [Fin.sum_univ_one, ref_rr x x0 h0, ref_dn x x2 x3 h2 h3]
  rw [h0]
  simp only [← EReal.coe_mul, ← coe_sum]
  show _ = ((x.dgam j : ℝ) : EReal)
  unfold Args.dgam Args.term Args.hr
  refine congrArg _ (Finset.sum_congr rfl fun R _ => ?_)
  ring

end Cert.Proof.Ipb
end
-- ==== Proof.IpbClaims.lean ====
/-
  `in_proj_bwd` against the `jax.vjp` of `rmsnorm` and the product after it: the two claims, and the frames.
-/
module

public import proofs.«01_k».proof.Proof.IpbKernel
public import proofs.«01_k».proof.Proof.IpbRef
public import proofs.«01_k».proof.Proof.Gen.Pre_ipb_pre
public import proofs.«01_k».proof.Proof.Gen.Ipb.Frame
public import proofs.«01_k».proof.Defs

@[expose] public section

set_option maxRecDepth 16384

noncomputable section

namespace Cert.Proof.Ipb

open Idealize.ShloMosaic TcCoe Idealize.SL.Sem
open Cert.IpbIdeal (S16384x1024 S16384x7168 S1024x7168 S1024)
open Cert.Proof.RealValues

/-- Arguments that meet the precondition are casts of real arrays, the residual's cotangent apart. -/
theorem reals_of_pre {x0 x4 : FVec Ideal S16384x1024 .f32} {x1 : FVec Ideal S1024 .f32} {x2 : FVec Ideal S1024x7168 .f32}
    {x3 : FVec Ideal S16384x7168 .bf16} (h : Cert.Pre_ipb_pre.fn x0 x1 x2 x3 x4 = fun _ => 1#1) :
    ∃ x : Args, (x0 = fun i => ((x.h i : ℝ) : EReal)) ∧ (x1 = fun i => ((x.gam i : ℝ) : EReal))
      ∧ (x2 = fun i => ((x.w i : ℝ) : EReal)) ∧ (x3 = fun i => ((x.dz i : ℝ) : EReal)) ∧ x4 = x.dh1 := by
  have h3 := congrFun h (fun a => a.elim0)
  dsimp only [Cert.Pre_ipb_pre.fn, Cert.Pre_ipb_pre.fn_part1] at h3
  obtain ⟨h2, e3⟩ := IntOp.andi_eq_one.1 h3
  obtain ⟨h1, e2⟩ := IntOp.andi_eq_one.1 h2
  obtain ⟨e0, e1⟩ := IntOp.andi_eq_one.1 h1
  obtain ⟨a0, k0⟩ := real_of_all _ top_f32 _ _ _ _ _ _ e0
  obtain ⟨a1, k1⟩ := real_of_all _ top_f32 _ _ _ _ _ _ e1
  obtain ⟨a2, k2⟩ := real_of_all _ top_f32 _ _ _ _ _ _ e2
  obtain ⟨a3, k3⟩ := real_of_all _ top_bf16 _ _ _ _ _ _ e3
  exact ⟨⟨a0, a1, a2, a3, x4⟩, k0, k1, k2, k3, rfl⟩

/-- Kernel and reference compute the same two functions of finite arguments over the extended reals. -/
theorem algebraic : Cert.algebraic_IpbIdeal_IpbRefIdeal_pre_ipb_pre := by
  intro m g m' g' hpre hargs
  choose x h0 h1 h2 h3 h4 using fun c => reals_of_pre (hpre c)
  refine ⟨fun c => arr (x c).dx, fun c => arr1 (x c).dgam,
    (θ_run Cert.IpbIdeal.defs _ _).mono (fun r h c => ?_) (Cert.IpbIdeal.Value.run_blocks m g),
    (θ_run Cert.IpbRefIdeal.defs _ _).mono (fun r h c => ?_) (Cert.IpbRefIdeal.Value.run m' g')⟩
  · obtain ⟨e0, e1, hr⟩ := h c
    have hh : Holds m c (x c) := ⟨h0 c, h1 c, h2 c, h3 c, h4 c⟩
    exact ⟨e0.trans (final_dh hh), e1.trans (final_gain hh), hr⟩
  · obtain ⟨e0, e1, hr⟩ := h c
    obtain ⟨k0, k1, k2, k3, k4⟩ := hargs c
    exact ⟨e0.trans (ref_dh (x c) _ _ _ _ _ (k0.trans (h0 c)) (k1.trans (h1 c)) (k2.trans (h2 c)) (k3.trans (h3 c))
        (k4.trans (h4 c))),
      e1.trans (ref_gain (x c) _ _ _ (k0.trans (h0 c)) (k2.trans (h2 c)) (k3.trans (h3 c))), hr⟩

/-- The reference terminates, leaves its arguments and every counter at zero. -/
theorem frame_ref : Cert.quiescent_IpbRefIdeal := fun m g _ =>
  (θ_run Cert.IpbRefIdeal.defs _ _).mono (fun r h => ⟨fun c => (h c).2.2, Idealize.ShloMosaic.sem_eq_zero_of_no_sems (by decide) r.2⟩)
    (Cert.IpbRefIdeal.Value.run m g)
theorem frame_kernel : Cert.quiescent_Ipb := fun m g _ => Cert.Ipb.Gen.frame m g
theorem frame_ideal : Cert.quiescent_IpbIdeal := fun m g _ => Cert.IpbIdeal.Gen.frame m g

end Cert.Proof.Ipb
end
-- ==== Proof.PleTarget.lean ====
/-
  The last gate, the last `rmsnorm`, the loss and their gradients, as real functions; and the kernel's expressions for a row, at
  extended reals, with the real numbers they are at finite arguments.
-/
module

public import proofs.«01_k».proof.Proof.NormTarget

@[expose] public section

noncomputable section

namespace Cert.Proof.Ple

open Idealize.ShloMosaic
open Cert.Proof.RealValues

theorem lit_two : Ideal.ofBits .f32 0x40000000#32 = (2 : ℝ) := by
  simp [Ideal.ofBits, Ideal.ieee, -EReal.coe_mul]; norm_num
theorem lit_inv : Ideal.ofBits .f32 0x3A800000#32 = (1 / 1024 : ℝ) := by
  simp [Ideal.ofBits, Ideal.ieee, -EReal.coe_mul]; norm_num

/-- The logistic function. -/
def lgt (v : ℝ) : ℝ := (1 + Real.exp (-v))⁻¹

/-- The arrays: the rows, the embedding's product, the gate's weight, the gain, and the target. -/
structure Args where
  (h2 pp : (⟨2, ![16384, 1024]⟩ : Shape).Idx → ℝ) (w : (⟨2, ![1024, 1024]⟩ : Shape).Idx → ℝ)
  (gam : (⟨1, ![1024]⟩ : Shape).Idx → ℝ) (tgt : (⟨2, ![16384, 1024]⟩ : Shape).Idx → ℝ)

variable (x : Args)

/-- The gate, the row after it, the error, and the cotangent of the normalised row times the gain. -/
def Args.gl (R : Fin 16384) (j : Fin 1024) : ℝ := ∑ k : Fin 1024, x.h2 (ix2 R k) * x.w (ix2 k j)
def Args.sg (R : Fin 16384) (j : Fin 1024) : ℝ := lgt (x.gl R j)
def Args.h (R : Fin 16384) (j : Fin 1024) : ℝ := x.h2 (ix2 R j) + x.sg R j * x.pp (ix2 R j)
def Args.gain (j : Fin 1024) : ℝ := x.gam (ix1 j)
def Args.err (R : Fin 16384) (j : Fin 1024) : ℝ := x.h R j * Norm.rr (x.h R) * x.gain j - x.tgt (ix2 R j)
def Args.dy (R : Fin 16384) (j : Fin 1024) : ℝ := x.err R j * (1 / 1024)

/-- The five results: the gradients of the row, of the gate's product and of the embedding's; the loss; the gain's gradient. -/
def Args.dh (R : Fin 16384) (j : Fin 1024) : ℝ := Norm.dh (x.h R) (x.dy R) x.gain j
def Args.dgl (R : Fin 16384) (j : Fin 1024) : ℝ := x.dh R j * x.pp (ix2 R j) * x.sg R j * (1 - x.sg R j)
def Args.dpp (R : Fin 16384) (j : Fin 1024) : ℝ := x.dh R j * x.sg R j
def Args.lossRow (R : Fin 16384) : ℝ := 1 / 2 * ((∑ j, x.err R j * x.err R j) / 1024)
def Args.loss : ℝ := ∑ R, x.lossRow R
def Args.term (R : Fin 16384) (j : Fin 1024) : ℝ := x.dy R j * (x.h R j * Norm.rr (x.h R))
def Args.dgam (j : Fin 1024) : ℝ := ∑ R, x.term R j

/-- The arrays that hold them. -/
def arr (f : Fin 16384 → Fin 1024 → ℝ) : (⟨2, ![16384, 1024]⟩ : Shape).Idx → EReal := fun i => ((f (i 0) (i 1) : ℝ) : EReal)
def arr1 (f : Fin 1024 → ℝ) : (⟨2, ![1, 1024]⟩ : Shape).Idx → EReal := fun i => ((f (i 1) : ℝ) : EReal)
def arrC (v : ℝ) : (⟨2, ![8, 128]⟩ : Shape).Idx → EReal := fun _ => ((v : ℝ) : EReal)

/-- The kernel's expressions for a row: the reciprocal root, the error, its share of the cotangent, the row's gradient. -/
def rrK (h : Fin 1024 → EReal) : EReal :=
  Ideal.rsqrt (Ideal.div (∑ k, h k * h k) (Ideal.ofBits .f32 1149239296#32) + Ideal.ofBits .f32 897988541#32)
def errK (h gam t : Fin 1024 → EReal) (j : Fin 1024) : EReal := h j * rrK h * gam j - t j
def dyK (h gam t : Fin 1024 → EReal) (j : Fin 1024) : EReal := errK h gam t j * Ideal.ofBits .f32 0x3A800000#32
def dhK (h gam t : Fin 1024 → EReal) (j : Fin 1024) : EReal :=
  rrK h * (dyK h gam t j * gam j - h j * rrK h * Ideal.div (∑ k, dyK h gam t k * gam k * (h k * rrK h)) (Ideal.ofBits .f32 1149239296#32))
def lossK (h gam t : Fin 1024 → EReal) : EReal :=
  Ideal.div (∑ k, errK h gam t k * errK h gam t k) (Ideal.ofBits .f32 1149239296#32)

/-- The gate with the logistic function. -/
theorem logistic_lgt (v : ℝ) : Ideal.logistic (v : EReal) = ((lgt v : ℝ) : EReal) := Ideal.logistic_coe v

section coe
variable {x} {h gam t : Fin 1024 → EReal} {R : Fin 16384} (e0 : ∀ k, h k = ((x.h R k : ℝ) : EReal))
  (e1 : ∀ k, gam k = ((x.gain k : ℝ) : EReal)) (e2 : ∀ k, t k = ((x.tgt (ix2 R k) : ℝ) : EReal))
include e0

theorem rrK_coe : rrK h = (Norm.rr (x.h R) : ℝ) := by
  obtain rfl : h = fun k => ((x.h R k : ℝ) : EReal) := funext e0
  unfold rrK
  rw [Norm.ms_coe, Norm.rr_coe]
include e1 e2
theorem errK_coe (j : Fin 1024) : errK h gam t j = (x.err R j : ℝ) := by
  unfold errK
  rw [rrK_coe e0, e0, e1, e2, ← EReal.coe_mul, ← EReal.coe_mul, ← EReal.coe_sub]
  rfl
theorem dyK_coe (j : Fin 1024) : dyK h gam t j = (x.dy R j : ℝ) := by
  unfold dyK
  rw [errK_coe e0 e1 e2, lit_inv, ← EReal.coe_mul]
  rfl
theorem dhK_coe (j : Fin 1024) : dhK h gam t j = (x.dh R j : ℝ) := by
  unfold dhK
  simp only [rrK_coe e0, dyK_coe e0 e1 e2, e0, e1]
  exact Norm.kernel_form (x.h R) (x.dy R) x.gain j
theorem lossK_coe : Ideal.ofBits .f32 0x3F000000#32 * lossK h gam t = (x.lossRow R : ℝ) := by
  unfold lossK
  simp only [errK_coe e0 e1 e2, lit_half, Norm.lit_width, ← EReal.coe_mul, ← coe_sum,
    div_real _ (show (1024 : ℝ) ≠ 0 by norm_num)]
  rfl
theorem lossK_real : lossK h gam t = ((∑ j, x.err R j * x.err R j) / 1024 : ℝ) := by
  unfold lossK
  simp only [errK_coe e0 e1 e2, Norm.lit_width, ← EReal.coe_mul, ← coe_sum, div_real _ (show (1024 : ℝ) ≠ 0 by norm_num)]
end coe

/-- Half the sum of the rows' mean squares. -/
theorem half_sum {ι : Type} (s : Finset ι) (R : ι → Fin 16384) (v : ι → EReal)
    (e : ∀ i, v i = (((∑ j, x.err (R i) j * x.err (R i) j) / 1024 : ℝ) : EReal)) :
    Ideal.ofBits .f32 0x3F000000#32 * (∑ i ∈ s, v i) = (∑ i ∈ s, x.lossRow (R i) : ℝ) := by
  simp only [e, ← coe_sum, lit_half, ← EReal.coe_mul, Finset.mul_sum]
  rfl

end Cert.Proof.Ple
end
-- ==== Proof.PleKernel.lean ====
/-
  What `ple_gate_head` leaves in its five result arrays, for finite arguments.
-/
module

public import proofs.«01_k».proof.Proof.PleTarget
public import proofs.«01_k».proof.Proof.Gen.PleIdeal.Value
public import Idealize.ShloMosaic.Lib.StableHlo.RunRead
public import Idealize.ShloMosaic.Lib.Pipeline.ValueKit.Acc

@[expose] public section

set_option maxRecDepth 16384

noncomputable section

namespace Cert.Proof.Ple

open Cert.PleIdeal Cert.PleIdeal.Gen Idealize.ShloMosaic TcCoe Idealize.SL.Sem
open Cert.Proof.RealValues

variable (m : (ℓ : Loc nD τ sig) → Buf (Elt Ideal) ℓ)

section blocks
variable (c : Dev nD) (t : Fin cfg0.N) (r : Fin 512)

/-- The blocks: the gate's two factors, the row, the embedding's product, the target and the gain. -/
def aB (k : Fin 1024) : EReal := iblk m c 0 t (ix2 r k)
def wB (k j : Fin 1024) : EReal := iblk m c 1 t (ix2 k j)
def h2B (j : Fin 1024) : EReal := iblk m c 2 t (ix2 r j)
def ppB (j : Fin 1024) : EReal := iblk m c 3 t (ix2 r j)
def tgtB (j : Fin 1024) : EReal := iblk m c 4 t (ix2 r j)
def gainB (j : Fin 1024) : EReal := iblk m c 5 t (ix2 0 j)
/-- The gate, and the row after it. -/
def sgB (j : Fin 1024) : EReal := Ideal.logistic (∑ k, aB m c t r k * wB m c t k j)
def hB (j : Fin 1024) : EReal := h2B m c t r j + sgB m c t r j * ppB m c t r j
end blocks

/-- The blocks of the three row results after point `t`. -/
theorem out6 (c : Dev nD) (t : Fin cfg0.N) (r : Fin 512) (j : Fin 1024) :
    (outsAt0 m c t.val t.isLt).1 (ix2 r j) = dhK (hB m c t r) (gainB m c t) (tgtB m c t r) j := by
  by_cases h0 : t.val % 32 = 0
  · rw [outsAt0_A m c t h0]
    dsimp only
    frame_out
    unfold_payloads
    pointwise
    simp only [sig_eq]
    rfl
  · rw [outsAt0_B m c t h0]
    dsimp only
    frame_out
    unfold_payloads
    pointwise
    simp only [sig_eq]
    rfl
theorem out7 (c : Dev nD) (t : Fin cfg0.N) (r : Fin 512) (j : Fin 1024) :
    (outsAt0 m c t.val t.isLt).2.1 (ix2 r j) = dhK (hB m c t r) (gainB m c t) (tgtB m c t r) j * ppB m c t r j * sgB m c t r j
      * (Ideal.ofBits .f32 0x3F800000#32 - sgB m c t r j) := by
  by_cases h0 : t.val % 32 = 0
  · rw [outsAt0_A m c t h0]
    dsimp only
    frame_out
    unfold_payloads
    pointwise
    simp only [sig_eq]
    rfl
  · rw [outsAt0_B m c t h0]
    dsimp only
    frame_out
    unfold_payloads
    pointwise
    simp only [sig_eq]
    rfl
theorem out8 (c : Dev nD) (t : Fin cfg0.N) (r : Fin 512) (j : Fin 1024) :
    (outsAt0 m c t.val t.isLt).2.2.1 (ix2 r j) = dhK (hB m c t r) (gainB m c t) (tgtB m c t r) j * sgB m c t r j := by
  by_cases h0 : t.val % 32 = 0
  · rw [outsAt0_A m c t h0]
    dsimp only
    frame_out
    unfold_payloads
    pointwise
    simp only [sig_eq]
    rfl
  · rw [outsAt0_B m c t h0]
    dsimp only
    frame_out
    unfold_payloads
    pointwise
    simp only [sig_eq]
    rfl

/-- The loss's buffer after the first point, and after each later one. -/
theorem out9_first (c : Dev nD) (t : Fin cfg0.N) (h0 : t.val % 32 = 0) (a : Fin 8) (b : Fin 128) :
    (outsAt0 m c t.val t.isLt).2.2.2.1 (ix2 a b) = Ideal.ofBits .f32 0x3F000000#32
      * ∑ r : Fin 512, lossK (hB m c t r) (gainB m c t) (tgtB m c t r) := by
  rw [outsAt0_A m c t h0]
  dsimp only
  frame_out
  unfold_payloads
  pointwise
  simp only [sig_eq, Fin.sum_univ_one]
  rfl
theorem out9_next (c : Dev nD) (t : Fin cfg0.N) (h0 : ¬t.val % 32 = 0) (a : Fin 8) (b : Fin 128) :
    (outsAt0 m c t.val t.isLt).2.2.2.1 (ix2 a b) = (outsAt0 m c (t.val - 1) (by have := t.isLt; omega)).2.2.2.1 (ix2 a b)
      + Ideal.ofBits .f32 0x3F000000#32 * ∑ r : Fin 512, lossK (hB m c t r) (gainB m c t) (tgtB m c t r) := by
  rw [outsAt0_B m c t h0]
  dsimp only
  frame_out
  unfold_payloads
  pointwise
  simp only [sig_eq, Fin.sum_univ_one]
  rfl

/-- The gain's buffer after the first point, and after each later one. -/
theorem out10_first (c : Dev nD) (t : Fin cfg0.N) (h0 : t.val % 32 = 0) (j : Fin 1024) :
    (outsAt0 m c t.val t.isLt).2.2.2.2 (ix2 0 j) = ∑ r : Fin 512, dyK (hB m c t r) (gainB m c t) (tgtB m c t r) j
      * (hB m c t r j * rrK (hB m c t r)) := by
  rw [outsAt0_A m c t h0]
  dsimp only
  frame_out
  unfold_payloads
  pointwise
  simp only [sig_eq]
  rfl
theorem out10_next (c : Dev nD) (t : Fin cfg0.N) (h0 : ¬t.val % 32 = 0) (j : Fin 1024) :
    (outsAt0 m c t.val t.isLt).2.2.2.2 (ix2 0 j) = (outsAt0 m c (t.val - 1) (by have := t.isLt; omega)).2.2.2.2 (ix2 0 j)
      + ∑ r : Fin 512, dyK (hB m c t r) (gainB m c t) (tgtB m c t r) j * (hB m c t r j * rrK (hB m c t r)) := by
  rw [outsAt0_B m c t h0]
  dsimp only
  frame_out
  unfold_payloads
  pointwise
  simp only [sig_eq]
  rfl

/-- The weight and the gain as the windows find them. -/
theorem V_w (c : Dev nD) (k j : Fin 1024) : V m c main_v0 (ix2 k j) = m ((c : Thread nD τ).loc main_arg2) (ix2 k j) := by
  have : V m c main_v0 = (truncf (F := Ideal) .bf16 (m ((c : Thread nD τ).loc main_arg2) : FVec Ideal S1024x1024 .f32) bitsLt_bf16_f32
      : FVec Ideal S1024x1024 .bf16) := by
    unfold V hostOps0
    after_reads_simp
  rw [this]
  pointwise
theorem V_gain (c : Dev nD) (j : Fin 1024) : V m c main_v1 (ix2 0 j) = m ((c : Thread nD τ).loc main_arg3) (ix1 j) := by
  have : V m c main_v1 = (shapeCast S1x1024 (m ((c : Thread nD τ).loc main_arg3) : FVec Ideal S1024 .f32) shapeCasts_S1024_S1x1024
      : FVec Ideal S1x1024 .f32) := by
    unfold V hostOps0
    after_reads_simp
    rfl
  rw [this]
  pointwise

/-- The block indices of the windows. -/
theorem idx_in : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by decide +kernel
theorem idx_out : ∀ t : Fin cfg0.N, win0_6.index t = ![t.val, 0] ∧ win0_7.index t = ![t.val, 0] ∧ win0_8.index t = ![t.val, 0]
    ∧ win0_9.index t = ![0, 0] ∧ win0_10.index t = ![0, 0] := by decide +kernel

/-- Row `r` of the block of 512 tokens at grid point `t`. -/
abbrev row (t : Fin cfg0.N) (r : Fin 512) : Fin 16384 := Norm.row (t.cast N_0) r

/-- The array index of a block of rows, and of an array that is one block. -/
theorem at_row {t : Fin cfg0.N} {r : Fin 512} {j : Fin 1024} {ix : Fin 2 → ℕ} (h : ix = ![t.val, 0]) {I : S16384x1024.Idx}
    (e0 : (I 0).val = ix 0 * 512 + 1 * r.val) (e1 : (I 1).val = ix 1 * 1024 + 1 * j.val) : I = ix2 (row t r) j :=
  blk2 ix 512 1024 r.val j.val e0 e1 (by subst h; rfl) (by subst h; simp)
theorem at_all {a b : ℕ} {r : Fin a} {j : Fin b} {ix : Fin 2 → ℕ} (h : ix = ![0, 0]) {I : (⟨2, ![a, b]⟩ : Shape).Idx}
    (e0 : (I 0).val = ix 0 * a + 1 * r.val) (e1 : (I 1).val = ix 1 * b + 1 * j.val) : I = ix2 r j :=
  blk2 ix a b r.val j.val e0 e1 (by subst h; simp) (by subst h; simp)

/-- The memory holds the real arrays `x`. -/
structure Holds (c : Dev nD) (x : Args) : Prop where
  h2 : m ((c : Thread nD τ).loc main_arg0) = fun i => ((x.h2 i : ℝ) : EReal)
  pp : m ((c : Thread nD τ).loc main_arg1) = fun i => ((x.pp i : ℝ) : EReal)
  w : m ((c : Thread nD τ).loc main_arg2) = fun i => ((x.w i : ℝ) : EReal)
  gam : m ((c : Thread nD τ).loc main_arg3) = fun i => ((x.gam i : ℝ) : EReal)
  tgt : m ((c : Thread nD τ).loc main_arg4) = fun i => ((x.tgt i : ℝ) : EReal)

variable {m} {c : Dev nD} {x : Args}

section blocks
variable (hx : Holds m c x) (t : Fin cfg0.N) (r : Fin 512)
include hx

/-- The blocks at an index. -/
theorem aB_eq (j : Fin 1024) : aB m c t r j = ((x.h2 (ix2 (row t r) j) : ℝ) : EReal) :=
  (congrFun (V_main_arg0 m c) _).trans ((congrArg _ (at_row (idx_in t).1 rfl rfl)).trans (congrFun hx.h2 (ix2 (row t r) j)))
theorem wB_eq (k j : Fin 1024) : wB m c t k j = ((x.w (ix2 k j) : ℝ) : EReal) :=
  (congrArg (V m c main_v0) (at_all (idx_in t).2.1 rfl rfl)).trans ((V_w m c k j).trans (congrFun hx.w (ix2 k j)))
theorem h2B_eq (j : Fin 1024) : h2B m c t r j = ((x.h2 (ix2 (row t r) j) : ℝ) : EReal) :=
  (congrFun (V_main_arg0 m c) _).trans ((congrArg _ (at_row (idx_in t).2.2.1 rfl rfl)).trans (congrFun hx.h2 (ix2 (row t r) j)))
theorem ppB_eq (j : Fin 1024) : ppB m c t r j = ((x.pp (ix2 (row t r) j) : ℝ) : EReal) :=
  (congrFun (V_main_arg1 m c) _).trans ((congrArg _ (at_row (idx_in t).2.2.2.1 rfl rfl)).trans (congrFun hx.pp (ix2 (row t r) j)))
theorem tgtB_eq (j : Fin 1024) : tgtB m c t r j = ((x.tgt (ix2 (row t r) j) : ℝ) : EReal) :=
  (congrFun (V_main_arg4 m c) _).trans ((congrArg _ (at_row (idx_in t).2.2.2.2.1 rfl rfl)).trans (congrFun hx.tgt (ix2 (row t r) j)))
omit r in
theorem gainB_eq (j : Fin 1024) : gainB m c t j = ((x.gain j : ℝ) : EReal) :=
  (congrArg (V m c main_v1) (at_all (idx_in t).2.2.2.2.2 rfl rfl)).trans ((V_gain m c j).trans (congrFun hx.gam (ix1 j)))

theorem sgB_eq (j : Fin 1024) : sgB m c t r j = (x.sg (row t r) j : ℝ) := by
  unfold sgB
  simp only [aB_eq hx t r, wB_eq hx t, ← EReal.coe_mul, ← coe_sum]
  exact logistic_lgt _
theorem hB_eq (j : Fin 1024) : hB m c t r j = (x.h (row t r) j : ℝ) := by
  unfold hB
  rw [h2B_eq hx t r, ppB_eq hx t r, sgB_eq hx t r, ← EReal.coe_mul, ← EReal.coe_add]
  rfl

/-- The blocks of the row results, and what a point adds to the two sums. -/
theorem block_dh (j : Fin 1024) : (outsAt0 m c t.val t.isLt).1 (ix2 r j) = ((x.dh (row t r) j : ℝ) : EReal) :=
  (out6 m c t r j).trans (dhK_coe (hB_eq hx t r) (gainB_eq hx t) (tgtB_eq hx t r) j)
theorem block_dgl (j : Fin 1024) : (outsAt0 m c t.val t.isLt).2.1 (ix2 r j) = (x.dgl (row t r) j : ℝ) := by
  rw [out7, dhK_coe (hB_eq hx t r) (gainB_eq hx t) (tgtB_eq hx t r), ppB_eq hx t r, sgB_eq hx t r, lit_one]
  simp only [← EReal.coe_mul, ← EReal.coe_sub]
  rfl
theorem block_dpp (j : Fin 1024) : (outsAt0 m c t.val t.isLt).2.2.1 (ix2 r j) = (x.dpp (row t r) j : ℝ) := by
  rw [out8, dhK_coe (hB_eq hx t r) (gainB_eq hx t) (tgtB_eq hx t r), sgB_eq hx t r, ← EReal.coe_mul]
  rfl
omit r in
theorem block_loss : Ideal.ofBits .f32 0x3F000000#32 * (∑ r : Fin 512, lossK (hB m c t r) (gainB m c t) (tgtB m c t r))
    = ((∑ r : Fin 512, x.lossRow (row t r) : ℝ) : EReal) :=
  half_sum x Finset.univ (row t) _ fun r => lossK_real (hB_eq hx t r) (gainB_eq hx t) (tgtB_eq hx t r)
omit r in
theorem block_gain (j : Fin 1024) : (∑ r : Fin 512, dyK (hB m c t r) (gainB m c t) (tgtB m c t r) j
    * (hB m c t r j * rrK (hB m c t r)) : EReal) = (∑ r : Fin 512, x.term (row t r) j : ℝ) := by
  rw [coe_sum]
  refine Finset.sum_congr rfl fun r _ => ?_
  rw [dyK_coe (hB_eq hx t r) (gainB_eq hx t) (tgtB_eq hx t r), rrK_coe (hB_eq hx t r), hB_eq hx t r, ← EReal.coe_mul, ← EReal.coe_mul]
  rfl
end blocks

/-- The two sums after the last point. -/
theorem loss_all (hx : Holds m c x) (a : Fin 8) (b : Fin 128) : ∀ t : Fin cfg0.N, t.val = 31 →
    (outsAt0 m c t.val t.isLt).2.2.2.1 (ix2 a b) = ((x.loss : ℝ) : EReal) := fun t ht =>
  Norm.acc_all x.lossRow (fun n hn => (outsAt0 m c n (lt_of_lt_of_eq hn N_0.symm)).2.2.2.1 (ix2 a b))
    ((out9_first m c ⟨0, lt_of_lt_of_eq (by norm_num) N_0.symm⟩ rfl a b).trans (block_loss hx _))
    (fun n hn => (out9_next m c ⟨n + 1, lt_of_lt_of_eq hn N_0.symm⟩ (by show ¬(n + 1) % 32 = 0; omega) a b).trans
      (congrArg _ (block_loss hx _))) t.val (lt_of_lt_of_eq t.isLt N_0) ht
theorem gain_all (hx : Holds m c x) (j : Fin 1024) : ∀ t : Fin cfg0.N, t.val = 31 →
    (outsAt0 m c t.val t.isLt).2.2.2.2 (ix2 0 j) = ((x.dgam j : ℝ) : EReal) := fun t ht =>
  Norm.acc_all (fun R => x.term R j) (fun n hn => (outsAt0 m c n (lt_of_lt_of_eq hn N_0.symm)).2.2.2.2 (ix2 0 j))
    ((out10_first m c ⟨0, lt_of_lt_of_eq (by norm_num) N_0.symm⟩ rfl j).trans (block_gain hx _ j))
    (fun n hn => (out10_next m c ⟨n + 1, lt_of_lt_of_eq hn N_0.symm⟩ (by show ¬(n + 1) % 32 = 0; omega) j).trans
      (congrArg _ (block_gain hx _ j))) t.val (lt_of_lt_of_eq t.isLt N_0) ht

/-- The point whose block holds row `i 0`, and the last point. -/
def pt (i : S16384x1024.Idx) : Fin cfg0.N :=
  ⟨(i 0 : Nat) / 512, by have h0 : (i 0 : Nat) < 16384 := (i 0).isLt; rw [show cfg0.N = 32 from N_0]; omega⟩
def last : Fin cfg0.N := ⟨31, lt_of_lt_of_eq (by norm_num) N_0.symm⟩

/-- The result arrays after the run. -/
theorem final_dh (hx : Holds m c x) : (dats m 0 c).arrAt 6 cfg0.N = arr x.dh := by
  refine (dats m 0 c).arrAt_eq_of_cover 6 _ (fun t _ => ?_) (fun i => ⟨pt i, flush0_6 _, ?_⟩)
  · rw [Cert.PleIdeal.Value.flushed6]
    refine funext fun (jj : S512x1024.Idx) => ?_
    obtain ⟨r, j, rfl⟩ := ex2 jj
    exact (block_dh hx t r j).trans (congrArg (arr x.dh) (at_row (idx_out t).1 rfl rfl)).symm
  · refine in_block ?_
    exact rows_cover i (by norm_num) (idx_out (pt i)).1
theorem final_dgl (hx : Holds m c x) : (dats m 0 c).arrAt 7 cfg0.N = arr x.dgl := by
  refine (dats m 0 c).arrAt_eq_of_cover 7 _ (fun t _ => ?_) (fun i => ⟨pt i, flush0_7 _, ?_⟩)
  · rw [Cert.PleIdeal.Value.flushed7]
    refine funext fun (jj : S512x1024.Idx) => ?_
    obtain ⟨r, j, rfl⟩ := ex2 jj
    exact (block_dgl hx t r j).trans (congrArg (arr x.dgl) (at_row (idx_out t).2.1 rfl rfl)).symm
  · refine in_block ?_
    exact rows_cover i (by norm_num) (idx_out (pt i)).2.1
theorem final_dpp (hx : Holds m c x) : (dats m 0 c).arrAt 8 cfg0.N = arr x.dpp := by
  refine (dats m 0 c).arrAt_eq_of_cover 8 _ (fun t _ => ?_) (fun i => ⟨pt i, flush0_8 _, ?_⟩)
  · rw [Cert.PleIdeal.Value.flushed8]
    refine funext fun (jj : S512x1024.Idx) => ?_
    obtain ⟨r, j, rfl⟩ := ex2 jj
    exact (block_dpp hx t r j).trans (congrArg (arr x.dpp) (at_row (idx_out t).2.2.1 rfl rfl)).symm
  · refine in_block ?_
    exact rows_cover i (by norm_num) (idx_out (pt i)).2.2.1
theorem final_loss (hx : Holds m c x) : (dats m 0 c).arrAt 9 cfg0.N = arrC x.loss := by
  refine (dats m 0 c).arrAt_eq_of_cover 9 _ (fun t ht => ?_) (fun i => ⟨last, (flush0_9 _).mpr rfl, ?_⟩)
  · rw [Cert.PleIdeal.Value.flushed9]
    have h31 : t.val = 31 := by
      have h1 := (flush0_9 t).mp ht
      have h2 : t.val < 32 := lt_of_lt_of_eq t.isLt N_0
      omega
    refine funext fun (jj : S8x128.Idx) => ?_
    obtain ⟨a, b, rfl⟩ := ex2 jj
    exact loss_all hx a b t h31
  · refine in_block ?_
    exact one_cover i (idx_out last).2.2.2.1
theorem final_gain (hx : Holds m c x) : (dats m 0 c).arrAt 10 cfg0.N = arr1 x.dgam := by
  refine (dats m 0 c).arrAt_eq_of_cover 10 _ (fun t ht => ?_) (fun i => ⟨last, (flush0_10 _).mpr rfl, ?_⟩)
  · rw [Cert.PleIdeal.Value.flushed10]
    have h31 : t.val = 31 := by
      have h1 := (flush0_10 t).mp ht
      have h2 : t.val < 32 := lt_of_lt_of_eq t.isLt N_0
      omega
    refine funext fun (jj : S1x1024.Idx) => ?_
    obtain ⟨r, j, rfl⟩ := ex2 jj
    obtain rfl : r = 0 := Subsingleton.elim _ _
    exact (gain_all hx j t h31).trans (congrArg (arr1 x.dgam) (at_all (idx_out t).2.2.2.2 rfl rfl)).symm
  · refine in_block ?_
    exact one_cover i (idx_out last).2.2.2.2

end Cert.Proof.Ple
end
-- ==== Proof.PleRef.lean ====
/-
  What the `jax.vjp` reference of `ple_gate_head` computes, for finite arguments.
-/
module

public import proofs.«01_k».proof.Proof.PleTarget
public import proofs.«01_k».proof.Proof.Gen.PleRefIdeal.Read

@[expose] public section

set_option maxRecDepth 16384

noncomputable section

namespace Cert.Proof.Ple

open Idealize.ShloMosaic
open Cert.PleRefIdeal Cert.PleRefIdeal.Read
open Cert.Proof.RealValues

/-- The reference's arguments are the real arrays `x`. -/
structure Are (x : Args) (x0 : Vec Ideal S16384x1024 .f32) (x1 : Vec Ideal S16384x1024 .bf16) (x2 : Vec Ideal S1024x1024 .f32)
    (x3 : Vec Ideal S1024 .f32) (x4 : Vec Ideal S16384x1024 .f32) : Prop where
  h2 : x0 = fun i => ((x.h2 i : ℝ) : EReal)
  pp : x1 = fun i => ((x.pp i : ℝ) : EReal)
  w : x2 = fun i => ((x.w i : ℝ) : EReal)
  gam : x3 = fun i => ((x.gam i : ℝ) : EReal)
  tgt : x4 = fun i => ((x.tgt i : ℝ) : EReal)

variable {x : Args} {x0 : Vec Ideal S16384x1024 .f32} {x1 : Vec Ideal S16384x1024 .bf16} {x2 : Vec Ideal S1024x1024 .f32}
  {x3 : Vec Ideal S1024 .f32} {x4 : Vec Ideal S16384x1024 .f32} (a : Are x x0 x1 x2 x3 x4)
include a

/-- The gate, the row after it, the mean square, the reciprocal root. -/
theorem ref_sg (R : Fin 16384) (j : Fin 1024) : val_main_v7 x0 x2 (ix2 R j) = (x.sg R j : ℝ) := by
  unfold val_main_v7 val_main_v6 val_main_v5 val_main_v4 val_main_v3 val_main_v2 val_main_v0 val_main_cst val_main_cst_0
  pointwise
  rw [a.h2, a.w]
  refine Eq.trans ?_ (logistic_lgt (x.gl R j))
  simp only [← EReal.coe_mul, ← coe_sum]
  rfl
theorem ref_h (R : Fin 16384) (j : Fin 1024) : val_main_v12 x0 x1 x2 (ix2 R j) = (x.h R j : ℝ) := by
  unfold val_main_v12 val_main_v11 val_main_v1
  pointwise
  rw [ref_sg a, a.h2, a.pp, ← EReal.coe_mul, ← EReal.coe_add]
  rfl
theorem ref_ms (R : Fin 16384) : val_main_v19 x0 x1 x2 (ix2 R 0) = (Norm.ms (x.h R) : ℝ) := by
  unfold val_main_v19 val_main_v18 val_main_v17 val_main_v16 val_main_v15 val_main_v14 val_main_v13 val_main_cst_2 val_main_cst_3
    val_main_cst_4
  pointwise
  simp only [ref_h a]
  exact Norm.ms_coe (x.h R)
theorem ref_rr (R : Fin 16384) : val_main_v20 x0 x1 x2 (ix2 R 0) = (Norm.rr (x.h R) : ℝ) := by
  unfold val_main_v20
  pointwise
  rw [ref_ms a]
  exact Norm.rr_coe (x.h R)

/-- The normalised row, the error, and the cotangent. -/
theorem ref_hat (R : Fin 16384) (j : Fin 1024) :
    val_main_v25 x0 x1 x2 (ix2 R j) = (x.h R j * Norm.rr (x.h R) : ℝ) := by
  unfold val_main_v25 val_main_v24
  pointwise
  rw [ref_h a, ref_rr a, ← EReal.coe_mul]
theorem ref_err (R : Fin 16384) (j : Fin 1024) : val_main_v29 x0 x1 x2 x3 x4 (ix2 R j) = (x.err R j : ℝ) := by
  unfold val_main_v29 val_main_v28 val_main_v27 val_main_v26
  pointwise
  rw [ref_hat a, a.gam, a.tgt, ← EReal.coe_mul, ← EReal.coe_sub]
  rfl
theorem ref_dy (R : Fin 16384) (j : Fin 1024) : val_main_v43 x0 x1 x2 x3 x4 (ix2 R j) = (x.dy R j : ℝ) := by
  unfold val_main_v43 val_main_v42 val_main_v41 val_main_v40 val_main_v39 val_main_v38 val_main_v32 val_main_v31 val_main_cst_6
    val_main_cst_11 val_main_cst_12 val_main_cst_13
  pointwise
  rw [ref_err a, lit_half, lit_two, Norm.lit_width, div_real _ (show (1024 : ℝ) ≠ 0 by norm_num),
    ← EReal.coe_mul, ← EReal.coe_mul]
  refine congrArg _ ?_
  unfold Args.dy
  ring

/-- The row's gradient. -/
theorem ref_dh_at (R : Fin 16384) (j : Fin 1024) : val_main_v63 x0 x1 x2 x3 x4 (ix2 R j) = (x.dh R j : ℝ) := by
  unfold val_main_v63 val_main_v62 val_main_v61 val_main_v60 val_main_v59 val_main_v58 val_main_v57 val_main_v56 val_main_v55
    val_main_v54 val_main_v53 val_main_v52 val_main_v51 val_main_v50 val_main_v48 val_main_v47 val_main_v26 val_main_v23
    val_main_v22 val_main_v21 val_main_cst_5 val_main_cst_16 val_main_cst_17 val_main_cst_18
  pointwise
  simp only [Fin.sum_univ_one, ref_ms a, ref_rr a, ref_dy a, ref_h a]
  rw [a.gam]
  have h := Norm.vjp_form (x.h R) (x.dy R) x.gain 0 j
  rw [zero_add, zero_add] at h
  exact h

/-- The five results. -/
theorem ref_dh : val_main_v63 x0 x1 x2 x3 x4 = arr x.dh := by
  refine funext fun i => ?_
  obtain ⟨R, j, rfl⟩ := ex2 i
  exact ref_dh_at a R j
theorem ref_dgl : val_main_v67 x0 x1 x2 x3 x4 = arr x.dgl := by
  refine funext fun i => ?_
  obtain ⟨R, j, rfl⟩ := ex2 i
  unfold val_main_v67 val_main_v66 val_main_v65 val_main_v10 val_main_v9 val_main_v8 val_main_v1 val_main_cst_1
  pointwise
  rw [ref_dh_at a, ref_sg a, a.pp, ← EReal.coe_one, ← EReal.coe_sub, ← EReal.coe_mul, ← EReal.coe_mul, ← EReal.coe_mul]
  refine congrArg _ ?_
  show _ = x.dh R j * x.pp (ix2 R j) * x.sg R j * (1 - x.sg R j)
  ring
theorem ref_dpp : val_main_v68 x0 x1 x2 x3 x4 = arr x.dpp := by
  refine funext fun i => ?_
  obtain ⟨R, j, rfl⟩ := ex2 i
  unfold val_main_v68 val_main_v64
  pointwise
  rw [ref_dh_at a, ref_sg a, ← EReal.coe_mul]
  exact congrArg _ (mul_comm _ _)
theorem ref_loss : val_main_v69 x0 x1 x2 x3 x4 = arrC x.loss := by
  refine funext fun i => ?_
  obtain ⟨p, q, rfl⟩ := ex2 i
  unfold val_main_v69 val_main_v37 val_main_v36 val_main_v35 val_main_v34 val_main_v33 val_main_v30 val_main_cst_7 val_main_cst_8
    val_main_cst_9 val_main_cst_10
  pointwise
  simp only [ref_err a]
  refine half_sum x Finset.univ (fun R => R) _ fun R => ?_
  simp only [Norm.lit_width, ← EReal.coe_mul, ← coe_sum, div_real _ (show (1024 : ℝ) ≠ 0 by norm_num)]
theorem ref_gain : val_main_v70 x0 x1 x2 x3 x4 = arr1 x.dgam := by
  refine funext fun i => ?_
  obtain ⟨R, j, rfl⟩ := ex2 i
  obtain rfl : R = 0 := Subsingleton.elim _ _
  unfold val_main_v70 val_main_v49 val_main_v46 val_main_v45 val_main_v44 val_main_cst_14 val_main_cst_15
  pointwise
  simp only [Fin.sum_univ_one, ref_hat a, ref_dy a, ← EReal.coe_mul, ← coe_sum]
  refine congrArg _ (Finset.sum_congr rfl fun R _ => ?_)
  show _ = x.dy R j * (x.h R j * Norm.rr (x.h R))
  ring

end Cert.Proof.Ple
end
-- ==== Proof.PleClaims.lean ====
/-
  `ple_gate_head` against the loss and the `jax.vjp` of the gate, the last `rmsnorm` and the loss: the two claims, and the frames.
-/
module

public import proofs.«01_k».proof.Proof.PleKernel
public import proofs.«01_k».proof.Proof.PleRef
public import proofs.«01_k».proof.Proof.Gen.Pre_ple_pre
public import proofs.«01_k».proof.Proof.Gen.Ple.Frame
public import proofs.«01_k».proof.Defs

@[expose] public section

set_option maxRecDepth 16384

noncomputable section

namespace Cert.Proof.Ple

open Idealize.ShloMosaic TcCoe Idealize.SL.Sem
open Cert.PleIdeal (S16384x1024 S1024x1024 S1024)
open Cert.Proof.RealValues

/-- Arguments that meet the precondition are casts of real arrays. -/
theorem reals_of_pre {x0 x4 : FVec Ideal S16384x1024 .f32} {x1 : FVec Ideal S16384x1024 .bf16} {x2 : FVec Ideal S1024x1024 .f32}
    {x3 : FVec Ideal S1024 .f32} (h : Cert.Pre_ple_pre.fn x0 x1 x2 x3 x4 = fun _ => 1#1) :
    ∃ x : Args, (x0 = fun i => ((x.h2 i : ℝ) : EReal)) ∧ (x1 = fun i => ((x.pp i : ℝ) : EReal))
      ∧ (x2 = fun i => ((x.w i : ℝ) : EReal)) ∧ (x3 = fun i => ((x.gam i : ℝ) : EReal)) ∧ (x4 = fun i => ((x.tgt i : ℝ) : EReal)) := by
  have h4 := congrFun h (fun a => a.elim0)
  dsimp only [Cert.Pre_ple_pre.fn, Cert.Pre_ple_pre.fn_part1] at h4
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  obtain ⟨a0, k0⟩ := real_of_all _ top_f32 _ _ _ _ _ _ e0
  obtain ⟨a1, k1⟩ := real_of_all _ top_bf16 _ _ _ _ _ _ e1
  obtain ⟨a2, k2⟩ := real_of_all _ top_f32 _ _ _ _ _ _ e2
  obtain ⟨a3, k3⟩ := real_of_all _ top_f32 _ _ _ _ _ _ e3
  obtain ⟨a4, k4⟩ := real_of_all _ top_f32 _ _ _ _ _ _ e4
  exact ⟨⟨a0, a1, a2, a3, a4⟩, k0, k1, k2, k3, k4⟩

/-- Kernel and reference compute the same five functions of finite arguments over the extended reals. -/
theorem algebraic : Cert.algebraic_PleIdeal_PleRefIdeal_pre_ple_pre := by
  intro m g m' g' hpre hargs
  choose x h0 h1 h2 h3 h4 using fun c => reals_of_pre (hpre c)
  refine ⟨fun c => arr (x c).dh, fun c => arr (x c).dgl, fun c => arr (x c).dpp, fun c => arrC (x c).loss,
    fun c => arr1 (x c).dgam,
    (θ_run Cert.PleIdeal.defs _ _).mono (fun r h c => ?_) (Cert.PleIdeal.Value.run_blocks m g),
    (θ_run Cert.PleRefIdeal.defs _ _).mono (fun r h c => ?_) (Cert.PleRefIdeal.Value.run m' g')⟩
  · obtain ⟨e0, e1, e2, e3, e4, hr⟩ := h c
    have hh : Holds m c (x c) := ⟨h0 c, h1 c, h2 c, h3 c, h4 c⟩
    exact ⟨e0.trans (final_dh hh), e1.trans (final_dgl hh), e2.trans (final_dpp hh), e3.trans (final_loss hh),
      e4.trans (final_gain hh), hr⟩
  · obtain ⟨e0, e1, e2, e3, e4, hr⟩ := h c
    obtain ⟨k0, k1, k2, k3, k4⟩ := hargs c
    have a : Are (x c) _ _ _ _ _ :=
      ⟨k0.trans (h0 c), k1.trans (h1 c), k2.trans (h2 c), k3.trans (h3 c), k4.trans (h4 c)⟩
    exact ⟨e0.trans (ref_dh a), e1.trans (ref_dgl a), e2.trans (ref_dpp a), e3.trans (ref_loss a), e4.trans (ref_gain a), hr⟩

/-- The reference terminates, leaves its arguments and every counter at zero. -/
theorem frame_ref : Cert.quiescent_PleRefIdeal := fun m g _ =>
  (θ_run Cert.PleRefIdeal.defs _ _).mono (fun r h => ⟨fun c => (h c).2.2.2.2.2, Idealize.ShloMosaic.sem_eq_zero_of_no_sems (by decide) r.2⟩)
    (Cert.PleRefIdeal.Value.run m g)
theorem frame_kernel : Cert.quiescent_Ple := fun m g _ => Cert.Ple.Gen.frame m g
theorem frame_ideal : Cert.quiescent_PleIdeal := fun m g _ => Cert.PleIdeal.Gen.frame m g

end Cert.Proof.Ple
end
-- ==== Proof.DzRun.lean ====
/-
  The run of the program around `dz_layout`: it ends with the result array at what the last call leaves in it, its arguments
  unchanged and every counter at zero.
-/
module

public import proofs.«01_k».proof.Proof.Gen.DzIdeal.Frame

@[expose] public section

set_option maxRecDepth 16384

noncomputable section

namespace Cert.Proof.Dz

open Cert.DzIdeal Cert.DzIdeal.Gen Idealize.ShloMosaic TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

/-- The run's resources. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array's contents. -/
theorem run : θ_run defs (onTc (τ := τ) (main (F := F))) ⟨m, fun _ => 0, ρ⟩ (fun r => (∀ c : Dev nD,
      r.2.mem ((c.tc : Thread nD τ).loc main_v29) = W4 m ρ c (Proc.devRef .tc main_v29)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.Proof.Dz

end
-- ==== Proof.Strips.lean ====
/-
  A scratch array filled one strip of rows at a time, at a stride, and read back whole: what stands at an entry of it.
-/
module

public import proofs.«01_k».proof.Proof.RealValues
public import Idealize.ShloMosaic.Lib.Pipeline.ValueKit.Acc
public import Idealize.ShloMosaic.Lib.Pipeline.ReadBack
public import Idealize.ShloMosaic.Lib.StableHlo.RunRead

@[expose] public section

set_option maxRecDepth 16384

noncomputable section

namespace Cert.Proof.Strips

open Idealize.ShloMosaic

/-- Rows `n, n + d, n + 2 d, …` of a matrix. -/
abbrev strip {R C : ℕ} (n nr d : ℕ) (i2 : ∀ a : Fin (⟨2, ![R, C]⟩ : Shape).rank, (![nr, C] : Fin 2 → ℕ) a = 0
    ∨ (![n, 0] : Fin 2 → ℕ) a + (![d, 1] : Fin 2 → ℕ) a * ((![nr, C] : Fin 2 → ℕ) a - 1) < (⟨2, ![R, C]⟩ : Shape).size a)
    (i3 : ∀ a, 0 < (![d, 1] : Fin 2 → ℕ) a) : Rect ⟨2, ![R, C]⟩ :=
  ⟨⟨![n, 0], ![nr, C], ![d, 1], i2⟩, i3⟩

/-- An entry of an array under its last store, or beside it. -/
theorem canon_piece {e : EltTy} {s : Shape} (ρ : Rect s) (W : ρ.shape.Idx → Elt Ideal e) (L : List (View.Piece (Elt Ideal) s e))
    (y : s.Idx) {v : Elt Ideal e} (P : Prop) (hin : P → ∃ x, ρ.emb x = y ∧ W x = v)
    (hout : ¬ P → (∀ x, ρ.emb x ≠ y) ∧ View.canon L y = v) : View.canon (⟨ρ, W⟩ :: L) y = v := by
  by_cases h : P
  · obtain ⟨x, rfl, e⟩ := hin h
    rw [View.canon_cons_emb, e]
  · refine (View.canon_cons_of_not_mem _ _ fun hm => ?_).trans (hout h).2
    obtain ⟨x, hx⟩ := ρ.toLoadRect.exists_idx_of_mem hm
    exact (hout h).1 x hx

/-- The rows `n, n + d, n + 2 d, …` of plane `h`, written last: an entry of the plane in one of these rows is the strip's, any
    other entry is what stood there before. -/
theorem canon_strip {e : EltTy} {S R C d nr n h : ℕ} {v : Elt Ideal e} (hS : h < S) (hd : nr * d = R) (hn : n < d)
    {i1} {i2} {i3} {h0} {hs} {h₀}
    {hR : ((strip (R := R) (C := C) n nr d i2 i3).consLift ![1, R, C] h0 hs).shape.numel = (strip (R := R) (C := C) n nr d i2 i3).shape.numel}
    (w : (⟨2, ![nr, C]⟩ : Shape).Idx → Elt Ideal e) (L : List (View.Piece (Elt Ideal) ⟨3, ![S, R, C]⟩ e)) (r : Fin R) (j : Fin C)
    (hw : ∀ i : Fin nr, n + d * i.val = r.val → w (ix2 i j) = v)
    (hL : r.val % d ≠ n → View.canon L (ix3 (⟨h, hS⟩ : Fin S) r j) = v) :
    View.canon ((⟨(Rect.unit (s := (⟨3, ![S, R, C]⟩ : Shape)) ![h, 0, 0] ![1, R, C] i1).within
      ((strip n nr d i2 i3).consLift ![1, R, C] h0 hs) h₀,
      Rect.payAlong hR w⟩ : View.Piece (Elt Ideal) ⟨3, ![S, R, C]⟩ e) :: L) (ix3 (⟨h, hS⟩ : Fin S) r j) = v := by
  refine canon_piece _ _ L _ (r.val % d = n) (fun hr => ?_) (fun hr => ⟨fun x hx => hr ?_, hL hr⟩)
  · obtain ⟨i, hi⟩ : ∃ i : Fin nr, n + d * i.val = r.val := by
      refine ⟨⟨r.val / d, ?_⟩, ?_⟩
      · rw [Nat.div_lt_iff_lt_mul (by omega), hd]; exact r.isLt
      · show n + d * (r.val / d) = _
        have := Nat.mod_add_div r.val d
        omega
    refine ⟨fun a => match a with | ⟨0, _⟩ => (⟨0, Nat.one_pos⟩ : Fin 1) | ⟨1, _⟩ => i | ⟨2, _⟩ => j, ?_, ?_⟩
    · refine (Rect.emb_within _ _ _ _).trans (funext fun a => Fin.ext ?_)
      match a with
      | ⟨0, _⟩ => show h + 1 * (0 + 1 * 0) = h; omega
      | ⟨1, _⟩ => show 0 + 1 * (n + d * i.val) = r.val; omega
      | ⟨2, _⟩ => show 0 + 1 * (0 + 1 * j.val) = j.val; omega
    · refine (Rect.payAlong_consLift _ _ _ _ w hR _ (ix2 i j) fun a => ?_).trans (hw i hi)
      match a with
      | ⟨0, _⟩ => rfl
      | ⟨1, _⟩ => rfl
  · have h1 : 0 + 1 * (n + d * (x 1).val) = r.val := congrArg (fun z => (z 1 : Fin R).val) ((Rect.emb_within _ _ _ _).symm.trans hx)
    have h2 : r.val = n + d * (x 1).val := by omega
    rw [h2, Nat.add_mul_mod_self_left]
    exact Nat.mod_eq_of_lt hn

/-- A plane of the array read back whole. -/
theorem read_plane {e : EltTy} {S R C h : ℕ} {sig : RefSig} {κ : Kind} {sp : Space} (hS : h < S)
    (b : View sig κ sp ⟨3, ![S, R, C]⟩ e) (L : List (View.Piece (Elt Ideal) ⟨3, ![S, R, C]⟩ e)) {i1} (r : Fin R) (j : Fin C) :
    b.readCov L (Rect.unit (s := (⟨3, ![S, R, C]⟩ : Shape)) ![h, 0, 0] ![1, R, C] i1).toLoadRect (ix3 (0 : Fin 1) r j)
      = View.canon L (ix3 (⟨h, hS⟩ : Fin S) r j) := by
  rw [View.readCov_eq_canon']
  refine congrArg (View.canon L) (funext fun a => Fin.ext ?_)
  match a with
  | ⟨0, _⟩ => show h + 1 * 0 = h; omega
  | ⟨1, _⟩ => show 0 + 1 * r.val = r.val; omega
  | ⟨2, _⟩ => show 0 + 1 * j.val = j.val; omega

/-- A strip's payload: a block of columns of an array, its casts the identity. -/
theorem strip_pay {n C W o : ℕ} (X : (⟨2, ![n, W]⟩ : Shape).Idx → EReal) {i} {h1 : (⟨2, ![n, C]⟩ : Shape).ShapeCasts ⟨2, ![n, C]⟩}
    (a : Fin n) (j : Fin C) {k : Fin n} {q : Fin W} (ha : a.val = k.val) (hq : o + j.val = q.val) :
    shapeCast (⟨2, ![n, C]⟩ : Shape) (shapeCast (⟨2, ![n, C]⟩ : Shape)
      (View.ld (Val := Elt Ideal) (e' := .bf16) X (Rect.unit (s := (⟨2, ![n, W]⟩ : Shape)) ![0, o] ![n, C] i)) h1) h1 (ix2 a j) = X (ix2 k q) := by
  refine (shapeCast_apply _ _ _ (ix2 a j) rfl).trans ((shapeCast_apply _ _ _ (ix2 a j) rfl).trans ?_)
  refine congrArg X (funext fun b => Fin.ext ?_)
  match b with
  | ⟨0, _⟩ => show 0 + 1 * a.val = k.val; omega
  | ⟨1, _⟩ => show o + 1 * j.val = q.val; omega

end Cert.Proof.Strips

end
-- ==== Proof.DzHeads.lean ====
/-
  What `dz_layout` stores at one grid point: the heads' gradients with the rotation undone, gathered from the three groups'
  layouts, and the columns that are copied.
-/
module

public import proofs.«01_k».proof.Proof.Strips
public import proofs.«01_k».proof.Proof.Gen.DzIdeal.Frame

@[expose] public section

set_option maxRecDepth 16384

noncomputable section

namespace Cert.Proof.Dz

open Cert.DzIdeal Cert.DzIdeal.Gen Idealize.ShloMosaic TcCoe Idealize.SL.Sem
open Cert.Proof.RealValues Cert.Proof.Strips

variable (V : (c : Dev nD) → (b : Ref sig .tc) → Buf (Elt Ideal) ((c : Thread nD τ).loc b)) (c : Dev nD) (t : Fin cfg1.N)

/-- The three tables at a row and lane. -/
def csB (r : Fin 512) (j : Fin 128) : EReal := iblk1 V c 12 t (ix2 r j)
def loB (r : Fin 512) (j : Fin 128) : EReal := iblk1 V c 13 t (ix2 r j)
def hiB (r : Fin 512) (j : Fin 128) : EReal := iblk1 V c 14 t (ix2 r j)
/-- The columns that are copied. -/
def duB (r k : Fin 512) : EReal := iblk1 V c 9 t (ix2 r k)
def gaB (r : Fin 512) (k : Fin 1024) : EReal := iblk1 V c 10 t (ix2 r k)
def gsB (r : Fin 512) (k : Fin 1024) : EReal := iblk1 V c 11 t (ix2 r k)

/-- The gradient of part `p` (of q, k, v) in group `g`, at token `r` of the block and column `k` of the group. A group of dilation
    `d` keeps `d` tokens side by side in a row. -/
def src (p g : Fin 3) (r k : Fin 512) : EReal :=
  match p, g with
  | 0, 0 => iblk1 V c 0 t (ix2 r k)
  | 1, 0 => iblk1 V c 1 t (ix2 r k)
  | 2, 0 => iblk1 V c 2 t (ix2 r k)
  | 0, 1 => iblk1 V c 3 t (ix2 (⟨r.val / 4, by omega⟩ : Fin 128) (⟨r.val % 4 * 512 + k.val, by omega⟩ : Fin 2048))
  | 1, 1 => iblk1 V c 4 t (ix2 (⟨r.val / 4, by omega⟩ : Fin 128) (⟨r.val % 4 * 512 + k.val, by omega⟩ : Fin 2048))
  | 2, 1 => iblk1 V c 5 t (ix2 (⟨r.val / 4, by omega⟩ : Fin 128) (⟨r.val % 4 * 512 + k.val, by omega⟩ : Fin 2048))
  | 0, 2 => iblk1 V c 6 t (ix2 (⟨r.val / 16, by omega⟩ : Fin 32) (⟨r.val % 16 * 512 + k.val, by omega⟩ : Fin 8192))
  | 1, 2 => iblk1 V c 7 t (ix2 (⟨r.val / 16, by omega⟩ : Fin 32) (⟨r.val % 16 * 512 + k.val, by omega⟩ : Fin 8192))
  | 2, 2 => iblk1 V c 8 t (ix2 (⟨r.val / 16, by omega⟩ : Fin 32) (⟨r.val % 16 * 512 + k.val, by omega⟩ : Fin 8192))

/-- Lane `j` of head `h` of a group. -/
abbrev lane (h : Fin 4) (j : Fin 128) : Fin 512 := ⟨h.val * 128 + j.val, by omega⟩
/-- The lanes a rotation by 16 and by 112 brings to lane `j`. -/
abbrev lo (j : Fin 128) : Fin 128 := ⟨(j.val + 128 - 16) % 128, Nat.mod_lt _ (by norm_num)⟩
abbrev hi (j : Fin 128) : Fin 128 := ⟨(j.val + 128 - 112) % 128, Nat.mod_lt _ (by norm_num)⟩

/-- The rotation undone. -/
def unrot (p g : Fin 3) (r : Fin 512) (h : Fin 4) (j : Fin 128) : EReal :=
  src V c t p g r (lane h j) * csB V c t r j + src V c t p g r (lane h (lo j)) * loB V c t r (lo j)
    + src V c t p g r (lane h (hi j)) * hiB V c t r (hi j)

/-- What is stored of a head. -/
def headB (p g : Fin 3) (r : Fin 512) (h : Fin 4) (j : Fin 128) : EReal :=
  match p with
  | 0 => unrot V c t 0 g r h j * Ideal.ofBits .f32 1035273459#32
  | 1 => unrot V c t 1 g r h j
  | 2 => src V c t 2 g r (lane h j)

/-- What is stored at row `r` and column `k`. -/
def outB (r : Fin 512) (k : Fin 7168) : EReal :=
  if h : k.val < 4608 then
    headB V c t ⟨k.val / 1536, by omega⟩ ⟨k.val % 1536 / 512, by omega⟩ r ⟨k.val % 512 / 128, by omega⟩ ⟨k.val % 128, by omega⟩
  else if h2 : k.val < 5120 then duB V c t r ⟨k.val - 4608, by omega⟩
  else if h3 : k.val < 6144 then gaB V c t r ⟨k.val - 5120, by omega⟩
  else gsB V c t r ⟨k.val - 6144, by omega⟩

theorem within_row {off : ℕ} (h : off + 128 ≤ 4608) : ∀ a, (![0, off] : Fin 2 → ℕ) a + (![512, 128] : Fin 2 → ℕ) a ≤ S512x7168.size a
  | ⟨0, _⟩ => by show 0 + 512 ≤ 512; omega
  | ⟨1, _⟩ => by show off + 128 ≤ 7168; omega

theorem outB_head {off : ℕ} (hoff : off + 128 ≤ 4608) (hm : off % 128 = 0) (r : Fin 512) (j : Fin 128) :
    (fun y : S512x7168.Idx => outB V c t (y 0) (y 1)) ((Rect.unit (s := S512x7168) ![0, off] ![512, 128] (within_row hoff)).emb (ix2 r j))
      = headB V c t ⟨off / 1536, by omega⟩ ⟨off % 1536 / 512, by omega⟩ r ⟨off % 512 / 128, by omega⟩ j := by
  obtain ⟨I, hI, h0, h1⟩ : ∃ I : S512x7168.Idx, (Rect.unit (s := S512x7168) ![0, off] ![512, 128] (within_row hoff)).emb (ix2 r j) = I
      ∧ (I 0).val = 0 + 1 * r.val ∧ (I 1).val = off + 1 * j.val := ⟨_, rfl, rfl, rfl⟩
  rw [hI]
  show outB V c t (I 0) (I 1) = _
  have e : (I 1).val < 4608 := by omega
  have e0 : (I 0 : Fin 512) = r := Fin.ext (by omega)
  unfold outB
  rw [dif_pos e]
  have a1 : (⟨(I 1).val / 1536, by omega⟩ : Fin 3) = ⟨off / 1536, by omega⟩ := Fin.ext (by show (I 1).val / 1536 = off / 1536; omega)
  have a2 : (⟨(I 1).val % 1536 / 512, by omega⟩ : Fin 3) = ⟨off % 1536 / 512, by omega⟩ :=
    Fin.ext (by show (I 1).val % 1536 / 512 = off % 1536 / 512; omega)
  have a3 : (⟨(I 1).val % 512 / 128, by omega⟩ : Fin 4) = ⟨off % 512 / 128, by omega⟩ :=
    Fin.ext (by show (I 1).val % 512 / 128 = off % 512 / 128; omega)
  have a4 : (⟨(I 1).val % 128, by omega⟩ : Fin 128) = j := Fin.ext (by show (I 1).val % 128 = _; omega)
  show headB V c t _ _ (I 0) _ _ = _
  rw [a1, a2, e0, a3, a4]

theorem outB_du (r k : Fin 512) (I : S512x7168.Idx) (h0 : (I 0).val = 0 + 1 * r.val) (h1 : (I 1).val = 4608 + 1 * k.val) :
    outB V c t (I 0) (I 1) = duB V c t r k := by
  have e0 : (I 0 : Fin 512) = r := Fin.ext (by omega)
  unfold outB
  rw [dif_neg (by omega), dif_pos (by omega), e0]
  exact congrArg _ (Fin.ext (by show (I 1).val - 4608 = _; omega))

theorem outB_ga (r : Fin 512) (k : Fin 1024) (I : S512x7168.Idx) (h0 : (I 0).val = 0 + 1 * r.val) (h1 : (I 1).val = 5120 + 1 * k.val) :
    outB V c t (I 0) (I 1) = gaB V c t r k := by
  have e0 : (I 0 : Fin 512) = r := Fin.ext (by omega)
  unfold outB
  rw [dif_neg (by omega), dif_neg (by omega), dif_pos (by omega), e0]
  exact congrArg _ (Fin.ext (by show (I 1).val - 5120 = _; omega))

theorem outB_gs (r : Fin 512) (k : Fin 1024) (I : S512x7168.Idx) (h0 : (I 0).val = 0 + 1 * r.val) (h1 : (I 1).val = 6144 + 1 * k.val) :
    outB V c t (I 0) (I 1) = gsB V c t r k := by
  have e0 : (I 0 : Fin 512) = r := Fin.ext (by omega)
  unfold outB
  rw [dif_neg (by omega), dif_neg (by omega), dif_neg (by omega), e0]
  exact congrArg _ (Fin.ext (by show (I 1).val - 6144 = _; omega))

/-- The first group's first head: its lanes are the columns themselves. -/
theorem lane_zero (j : Fin 128) : lane 0 j = (⟨j.val, by omega⟩ : Fin 512) := Fin.ext (by show 0 * 128 + j.val = j.val; omega)
theorem head_v (r : Fin 512) (j : Fin 128) : headB V c t 2 0 r 0 j = iblk1 V c 2 t (ix2 r (⟨j.val, by omega⟩ : Fin 512)) := by
  show src V c t 2 0 r (lane 0 j) = _
  rw [lane_zero]
  rfl
theorem head_k (r : Fin 512) (j : Fin 128) : headB V c t 1 0 r 0 j
    = src V c t 1 0 r ⟨j.val, by omega⟩ * csB V c t r j
      + src V c t 1 0 r ⟨(j.val + 128 - 16) % 128, by omega⟩ * loB V c t r (lo j)
      + src V c t 1 0 r ⟨(j.val + 128 - 112) % 128, by omega⟩ * hiB V c t r (hi j) := by
  show unrot V c t 1 0 r 0 j = _
  unfold unrot
  rw [lane_zero, lane_zero, lane_zero]
theorem head_q (r : Fin 512) (j : Fin 128) : headB V c t 0 0 r 0 j
    = (src V c t 0 0 r ⟨j.val, by omega⟩ * csB V c t r j
      + src V c t 0 0 r ⟨(j.val + 128 - 16) % 128, by omega⟩ * loB V c t r (lo j)
      + src V c t 0 0 r ⟨(j.val + 128 - 112) % 128, by omega⟩ * hiB V c t r (hi j))
      * Ideal.ofBits .f32 1035273459#32 := by
  show unrot V c t 0 0 r 0 j * _ = _
  unfold unrot
  rw [lane_zero, lane_zero, lane_zero]

end Cert.Proof.Dz
-- ==== Proof.DzBlock.lean ====
/-
  What `dz_layout`'s body leaves in its result's block: the heads and the copied columns.
-/
module

public import proofs.«01_k».proof.Proof.DzHeads

@[expose] public section

set_option maxRecDepth 16384

noncomputable section

namespace Cert.Proof.Dz

open Cert.DzIdeal Cert.DzIdeal.Gen Idealize.ShloMosaic TcCoe Idealize.SL.Sem
open Cert.Proof.RealValues Cert.Proof.Strips

variable (V : (c : Dev nD) → (b : Ref sig .tc) → Buf (Elt Ideal) ((c : Thread nD τ).loc b)) (c : Dev nD) (t : Fin cfg1.N)

set_option maxHeartbeats 40000000 in
/-- What the body leaves in its result's block. -/
theorem outs (y : S512x7168.Idx) : outsAt1 V c t y = outB V c t (y 0) (y 1) := by
  unfold outsAt1
  frame_open
  simp (disch := decide) only [↓ View.readCov_skip, ↓ View.readCov_cons_toLoadRect, ↓ View.readCov_fill]
  frame_out
  refine View.canon_apply_of_pieces (Val := Elt Ideal) (e := .bf16) (fun y : S512x7168.Idx => outB V c t (y 0) (y 1)) _ ?_ y
    (View.cover_of_tiledBy _ ![512, 128] (by sl_kernel_rfl) y)
  refine List.forall_mem_cons.2 ⟨fun x => ?_, List.forall_mem_cons.2 ⟨fun x => ?_, List.forall_mem_cons.2 ⟨fun x => ?_, ?_⟩⟩⟩
  · obtain ⟨r, k, rfl⟩ := ex2 x
    refine Eq.trans ?_ (outB_gs V c t r k _ rfl rfl).symm
    dsimp only
    unfold_payloads
    pointwise
    rfl
  · obtain ⟨r, k, rfl⟩ := ex2 x
    refine Eq.trans ?_ (outB_ga V c t r k _ rfl rfl).symm
    dsimp only
    unfold_payloads
    pointwise
    rfl
  · obtain ⟨r, k, rfl⟩ := ex2 x
    refine Eq.trans ?_ (outB_du V c t r k _ rfl rfl).symm
    dsimp only
    unfold_payloads
    pointwise
    rfl
  iterate 4
    refine List.forall_mem_cons.2 ⟨fun x => ?_, ?_⟩
    · obtain ⟨r, j, rfl⟩ := ex2 x
      refine Eq.trans ?_ (outB_head V c t (by norm_num) (by norm_num) r j).symm
      dsimp only
      generalize hh : (⟨_ % 512 / 128, _⟩ : Fin 4) = h
      have hv := congrArg Fin.val hh
      dsimp only at hv
      generalize hB : View.readCov (Val := Elt Ideal) (s := S4x512x128) (e := .f32) _ _ _ = B
      have hB' : ∀ (r : Fin 512) (j : Fin 128), B (ix3 (0 : Fin 1) r j) = src V c t 2 2 r (lane h j) := fun r j => by
        subst hB
        refine (read_plane (by norm_num) _ _ r j).trans ?_
        iterate 16 refine canon_strip (by norm_num) (by norm_num) (by norm_num) _ _ r j (fun i hi => strip_pay (n := 32) (C := 128)
          (W := 8192) (iblk1 V c 8 t) i j (k := ⟨r.val / 16, by omega⟩) (by dsimp only; omega) (by dsimp only; omega)) (fun _ => ?_)
        omega
      clear hB
      unfold_payloads
      pointwise
      simp only [hB']
      rfl
  iterate 4
    refine List.forall_mem_cons.2 ⟨fun x => ?_, ?_⟩
    · obtain ⟨r, j, rfl⟩ := ex2 x
      refine Eq.trans ?_ (outB_head V c t (by norm_num) (by norm_num) r j).symm
      dsimp only
      generalize hh : (⟨_ % 512 / 128, _⟩ : Fin 4) = h
      have hv := congrArg Fin.val hh
      dsimp only at hv
      generalize hB : View.readCov (Val := Elt Ideal) (s := S4x512x128) (e := .f32) _ _ _ = B
      have hB' : ∀ (r : Fin 512) (j : Fin 128), B (ix3 (0 : Fin 1) r j) = src V c t 2 1 r (lane h j) := fun r j => by
        subst hB
        refine (read_plane (by norm_num) _ _ r j).trans ?_
        iterate 4 refine canon_strip (by norm_num) (by norm_num) (by norm_num) _ _ r j (fun i hi => strip_pay (n := 128) (C := 128)
          (W := 2048) (iblk1 V c 5 t) i j (k := ⟨r.val / 4, by omega⟩) (by dsimp only; omega) (by dsimp only; omega)) (fun _ => ?_)
        omega
      clear hB
      unfold_payloads
      pointwise
      simp only [hB']
      rfl
  iterate 4
    refine List.forall_mem_cons.2 ⟨fun x => ?_, ?_⟩
    · obtain ⟨r, j, rfl⟩ := ex2 x
      refine Eq.trans ?_ (outB_head V c t (by norm_num) (by norm_num) r j).symm
      dsimp only
      unfold_payloads
      pointwise
      first | rfl | exact (head_v V c t r j).symm
  iterate 4
    refine List.forall_mem_cons.2 ⟨fun x => ?_, ?_⟩
    · obtain ⟨r, j, rfl⟩ := ex2 x
      refine Eq.trans ?_ (outB_head V c t (by norm_num) (by norm_num) r j).symm
      dsimp only
      generalize hh : (⟨_ % 512 / 128, _⟩ : Fin 4) = h
      have hv := congrArg Fin.val hh
      dsimp only at hv
      generalize hB : View.readCov (Val := Elt Ideal) (s := S4x512x128) (e := .f32) _ _ _ = B
      have hB' : ∀ (r : Fin 512) (j : Fin 128), B (ix3 (0 : Fin 1) r j) = src V c t 1 2 r (lane h j) := fun r j => by
        subst hB
        refine (read_plane (by norm_num) _ _ r j).trans ?_
        iterate 16 refine canon_strip (by norm_num) (by norm_num) (by norm_num) _ _ r j (fun i hi => strip_pay (n := 32) (C := 128)
          (W := 8192) (iblk1 V c 7 t) i j (k := ⟨r.val / 16, by omega⟩) (by dsimp only; omega) (by dsimp only; omega)) (fun _ => ?_)
        omega
      clear hB
      unfold_payloads
      pointwise
      simp only [hB']
      rfl
  iterate 4
    refine List.forall_mem_cons.2 ⟨fun x => ?_, ?_⟩
    · obtain ⟨r, j, rfl⟩ := ex2 x
      refine Eq.trans ?_ (outB_head V c t (by norm_num) (by norm_num) r j).symm
      dsimp only
      generalize hh : (⟨_ % 512 / 128, _⟩ : Fin 4) = h
      have hv := congrArg Fin.val hh
      dsimp only at hv
      generalize hB : View.readCov (Val := Elt Ideal) (s := S4x512x128) (e := .f32) _ _ _ = B
      have hB' : ∀ (r : Fin 512) (j : Fin 128), B (ix3 (0 : Fin 1) r j) = src V c t 1 1 r (lane h j) := fun r j => by
        subst hB
        refine (read_plane (by norm_num) _ _ r j).trans ?_
        iterate 4 refine canon_strip (by norm_num) (by norm_num) (by norm_num) _ _ r j (fun i hi => strip_pay (n := 128) (C := 128)
          (W := 2048) (iblk1 V c 4 t) i j (k := ⟨r.val / 4, by omega⟩) (by dsimp only; omega) (by dsimp only; omega)) (fun _ => ?_)
        omega
      clear hB
      unfold_payloads
      pointwise
      simp only [hB']
      rfl
  iterate 4
    refine List.forall_mem_cons.2 ⟨fun x => ?_, ?_⟩
    · obtain ⟨r, j, rfl⟩ := ex2 x
      refine Eq.trans ?_ (outB_head V c t (by norm_num) (by norm_num) r j).symm
      dsimp only
      unfold_payloads
      pointwise
      first | rfl | exact (head_k V c t r j).symm
  iterate 4
    refine List.forall_mem_cons.2 ⟨fun x => ?_, ?_⟩
    · obtain ⟨r, j, rfl⟩ := ex2 x
      refine Eq.trans ?_ (outB_head V c t (by norm_num) (by norm_num) r j).symm
      dsimp only
      generalize hh : (⟨_ % 512 / 128, _⟩ : Fin 4) = h
      have hv := congrArg Fin.val hh
      dsimp only at hv
      generalize hB : View.readCov (Val := Elt Ideal) (s := S4x512x128) (e := .f32) _ _ _ = B
      have hB' : ∀ (r : Fin 512) (j : Fin 128), B (ix3 (0 : Fin 1) r j) = src V c t 0 2 r (lane h j) := fun r j => by
        subst hB
        refine (read_plane (by norm_num) _ _ r j).trans ?_
        iterate 16 refine canon_strip (by norm_num) (by norm_num) (by norm_num) _ _ r j (fun i hi => strip_pay (n := 32) (C := 128)
          (W := 8192) (iblk1 V c 6 t) i j (k := ⟨r.val / 16, by omega⟩) (by dsimp only; omega) (by dsimp only; omega)) (fun _ => ?_)
        omega
      clear hB
      unfold_payloads
      pointwise
      simp only [hB']
      rfl
  iterate 4
    refine List.forall_mem_cons.2 ⟨fun x => ?_, ?_⟩
    · obtain ⟨r, j, rfl⟩ := ex2 x
      refine Eq.trans ?_ (outB_head V c t (by norm_num) (by norm_num) r j).symm
      dsimp only
      generalize hh : (⟨_ % 512 / 128, _⟩ : Fin 4) = h
      have hv := congrArg Fin.val hh
      dsimp only at hv
      generalize hB : View.readCov (Val := Elt Ideal) (s := S4x512x128) (e := .f32) _ _ _ = B
      have hB' : ∀ (r : Fin 512) (j : Fin 128), B (ix3 (0 : Fin 1) r j) = src V c t 0 1 r (lane h j) := fun r j => by
        subst hB
        refine (read_plane (by norm_num) _ _ r j).trans ?_
        iterate 4 refine canon_strip (by norm_num) (by norm_num) (by norm_num) _ _ r j (fun i hi => strip_pay (n := 128) (C := 128)
          (W := 2048) (iblk1 V c 3 t) i j (k := ⟨r.val / 4, by omega⟩) (by dsimp only; omega) (by dsimp only; omega)) (fun _ => ?_)
        omega
      clear hB
      unfold_payloads
      pointwise
      simp only [hB']
      rfl
  iterate 4
    refine List.forall_mem_cons.2 ⟨fun x => ?_, ?_⟩
    · obtain ⟨r, j, rfl⟩ := ex2 x
      refine Eq.trans ?_ (outB_head V c t (by norm_num) (by norm_num) r j).symm
      dsimp only
      unfold_payloads
      pointwise
      first | rfl | exact (head_q V c t r j).symm
  exact fun p h => absurd h List.not_mem_nil

end Cert.Proof.Dz

end
-- ==== Proof.DzTables.lean ====
/-
  What `rope_tables` leaves in its three tables: the cosines, and the sines with the signs that undo a rotation.
-/
module

public import proofs.«01_k».proof.Proof.DzHeads
public import proofs.«01_k».proof.Proof.NormTarget

@[expose] public section

set_option maxRecDepth 16384

noncomputable section

namespace Cert.Proof.Dz

open Cert.DzIdeal Cert.DzIdeal.Gen Idealize.ShloMosaic TcCoe Idealize.SL.Sem
open Cert.Proof.RealValues Cert.Proof.Strips

/-- The frequencies as the host computes them. -/
def freqVec : FVec Ideal S16 .f32 :=
  Host.powf (broadcastInDim S16 ![] bcast_S_S16 (constant S_ .f32 0x48F42400#32))
    (Host.divf (mulf (Host.negf (sitofp .f32 (iotaInDim S16 32 0))) (broadcastInDim S16 ![] bcast_S_S16 (constant S_ .f32 0x40000000#32)))
      (broadcastInDim S16 ![] bcast_S_S16 (constant S_ .f32 0x42000000#32)))
/-- The row of frequencies over a head's 128 lanes. -/
def freqs (j : Fin 128) : EReal :=
  if h : j.val < 16 then freqVec (ix1 ⟨j.val, h⟩) else if h : j.val - 16 < 16 then freqVec (ix1 ⟨j.val - 16, h⟩) else 0

variable (m : (ℓ : Loc nD τ sig) → Buf (Elt Ideal) ℓ) (ρ : Dev nD → PrngReg) (c : Dev nD)

/-- A token's position. -/
def pos (R : Fin 16384) : EReal := FloatOps.sitofp (F := Ideal) .f32 ((m ((c : Thread nD τ).loc main_arg0) : IVec S16384 32) (ix1 R))

theorem V_freqs (j : Fin 128) : V1 m ρ c main_v10 (ix2 0 j) = freqs j := by
  have : V1 m ρ c main_v10 = (shapeCast S1x128 (concatenate S128 0 [⟨S16, freqVec⟩, ⟨S16, freqVec⟩,
      ⟨S96, (broadcastInDim S96 ![] bcast_S_S96 (constant S_ .f32 0x00000000#32) : FVec Ideal S96 .f32)⟩]
      concatenates_S16_S16_S96_S128_d0) shapeCasts_S128_S1x128 : FVec Ideal S1x128 .f32) := by
    show StableHlo.after hostOps0 (W0 m ρ c) main_v10 = _
    unfold hostOps0
    after_reads_simp
    rfl
  rw [this]
  pointwise
  rfl

theorem V_pos (R : Fin 16384) : V1 m ρ c main_v12 (ix2 R 0) = pos m c R := by
  have : V1 m ρ c main_v12 = (shapeCast S16384x1 (sitofp .f32 (m ((c : Thread nD τ).loc main_arg0) : IVec S16384 32) : FVec Ideal S16384 .f32)
      shapeCasts_S16384_S16384x1 : FVec Ideal S16384x1 .f32) := by
    show StableHlo.after hostOps0 (W0 m ρ c) main_v12 = _
    unfold hostOps0
    after_reads_simp
    rfl
  rw [this]
  pointwise
  rfl

theorem hz : (![0, 0] : Fin 2 → Nat) = fun _ => 0 := funext fun a => by fin_cases a <;> rfl

/-- The comparisons of a lane's number with 16 and 32. -/
theorem lt_32 : ∀ j : Fin 128, IntOp.cmpi CmpIPredicate.slt (BitVec.ofNat 32 j.val) 32#32 = if j.val < 32 then 1#1 else 0#1 := by decide +kernel
theorem lt_16 : ∀ j : Fin 128, IntOp.cmpi CmpIPredicate.slt (BitVec.ofNat 32 j.val) 16#32 = if j.val < 16 then 1#1 else 0#1 := by decide +kernel
theorem in_16_32 : ∀ j : Fin 128, IntOp.andi (IntOp.cmpi CmpIPredicate.sge (BitVec.ofNat 32 j.val) 16#32)
    (IntOp.cmpi CmpIPredicate.slt (BitVec.ofNat 32 j.val) 32#32) = if 16 ≤ j.val ∧ j.val < 32 then 1#1 else 0#1 := by decide +kernel
theorem select_ite {P : Prop} [Decidable P] (a b : EReal) : Scalar.select (if P then 1#1 else 0#1) a b = if P then a else b := by
  by_cases h : P
  · rw [if_pos h, if_pos h]; rfl
  · rw [if_neg h, if_neg h]; rfl

/-- The tables' entries at a token and a lane. -/
def cosA (R : Fin 16384) (j : Fin 128) : EReal := if j.val < 32 then Ideal.cos (pos m c R * freqs j) else 1
def loA (R : Fin 16384) (j : Fin 128) : EReal := if j.val < 16 then 0 - Ideal.sin (pos m c R * freqs j) else 0
def hiA (R : Fin 16384) (j : Fin 128) : EReal := if 16 ≤ j.val ∧ j.val < 32 then Ideal.sin (pos m c R * freqs j) else 0

/-- The block indices of the windows. -/
theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] := by decide +kernel

/-- Row `r` of the block of 512 tokens at grid point `t`. -/
abbrev row0 (t : Fin cfg0.N) (r : Fin 512) : Fin 16384 := Norm.row (t.cast N_0) r

theorem at_row0 {W : ℕ} {t : Fin cfg0.N} {r : Fin 512} {j : Fin W} {ix : Fin 2 → ℕ} (h : ix = ![t.val, 0]) {I : (⟨2, ![16384, W]⟩ : Shape).Idx}
    (e0 : (I 0).val = ix 0 * 512 + 1 * r.val) (e1 : (I 1).val = ix 1 * W + 1 * j.val) : I = ix2 (row0 t r) j :=
  blk2 ix 512 W r.val j.val e0 e1 (by subst h; rfl) (by subst h; simp)
theorem at_all0 {a b : ℕ} {r : Fin a} {j : Fin b} {ix : Fin 2 → ℕ} (h : ix = ![0, 0]) {I : (⟨2, ![a, b]⟩ : Shape).Idx}
    (e0 : (I 0).val = ix 0 * a + 1 * r.val) (e1 : (I 1).val = ix 1 * b + 1 * j.val) : I = ix2 r j :=
  blk2 ix a b r.val j.val e0 e1 (by subst h; simp) (by subst h; simp)

section blocks
variable (t : Fin cfg0.N) (r : Fin 512) (j : Fin 128)

/-- The angle's two factors at a row and lane of a block. -/
theorem angle_pos : (iblk0 (V1 m ρ) c 0 t (ix2 r 0) : EReal) = pos m c (row0 t r) :=
  (congrArg (V1 m ρ c main_v12) (at_row0 (r := r) (j := (0 : Fin 1)) (idx0 t).1 rfl rfl)).trans (V_pos m ρ c (row0 t r))
theorem angle_freq : (iblk0 (V1 m ρ) c 1 t (ix2 0 j) : EReal) = freqs j :=
  (congrArg (V1 m ρ c main_v10) (at_all0 (r := (0 : Fin 1)) (j := j) (idx0 t).2.1 rfl rfl)).trans (V_freqs m ρ c j)

/-- The blocks of the three tables. -/
theorem tab_cos : out0_2 (iblk0 (V1 m ρ) c 0 t) (iblk0 (V1 m ρ) c 1 t) (ix2 r j) = cosA m c (row0 t r) j := by
  unfold out0_2
  rw [View.canon_unit_zero hz]
  unfold_payloads
  simp only [View.ld_unit_zero (S := S512x1) hz, View.ld_unit_zero (S := S1x128) hz]
  pointwise
  rw [lt_32, select_ite, angle_pos m ρ c, angle_freq m ρ c]
  rfl
theorem tab_lo : out0_3 (iblk0 (V1 m ρ) c 0 t) (iblk0 (V1 m ρ) c 1 t) (ix2 r j) = loA m c (row0 t r) j := by
  unfold out0_3
  rw [View.canon_unit_zero hz]
  unfold_payloads
  simp only [View.ld_unit_zero (S := S512x1) hz, View.ld_unit_zero (S := S1x128) hz]
  pointwise
  rw [lt_16, select_ite, angle_pos m ρ c, angle_freq m ρ c]
  rfl
theorem tab_hi : out0_4 (iblk0 (V1 m ρ) c 0 t) (iblk0 (V1 m ρ) c 1 t) (ix2 r j) = hiA m c (row0 t r) j := by
  unfold out0_4
  rw [View.canon_unit_zero hz]
  unfold_payloads
  simp only [View.ld_unit_zero (S := S512x1) hz, View.ld_unit_zero (S := S1x128) hz]
  pointwise
  rw [in_16_32, select_ite, angle_pos m ρ c, angle_freq m ρ c]
  rfl
end blocks

/-- A table as an array. -/
def tabArr (f : Fin 16384 → Fin 128 → EReal) : S16384x128.Idx → EReal := fun i => f (i 0) (i 1)

/-- The point whose block holds row `i 0`. -/
def pt0 (i : S16384x128.Idx) : Fin cfg0.N :=
  ⟨(i 0 : Nat) / 512, by have h0 : (i 0 : Nat) < 16384 := (i 0).isLt; rw [show cfg0.N = 32 from N_0]; omega⟩

/-- The tables after the call. -/
theorem W2_cos : W2 m ρ c (Proc.devRef .tc main_v13_0) = tabArr (cosA m c) := by
  refine (W2_arr m ρ c 2).trans ((dat0 (V1 m ρ) c).arrAt_eq_of_cover 2 _ (fun t _ => ?_) (fun i => ⟨pt0 i, flush0_2 _, ?_⟩))
  · show (cfg0.win 2).cut (grid0.coords t) ((dat0 (V1 m ρ) c).after 2 t) = _
    rw [after0_2]
    refine funext fun (jj : S512x128.Idx) => ?_
    obtain ⟨r, j, rfl⟩ := ex2 jj
    exact (tab_cos m ρ c t r j).trans (congrArg (tabArr (cosA m c)) (at_row0 (idx0 t).2.2.1 rfl rfl)).symm
  · refine in_block ?_
    exact rows_cover i (by norm_num) (idx0 (pt0 i)).2.2.1
theorem W2_lo : W2 m ρ c (Proc.devRef .tc main_v13_1) = tabArr (loA m c) := by
  refine (W2_arr m ρ c 3).trans ((dat0 (V1 m ρ) c).arrAt_eq_of_cover 3 _ (fun t _ => ?_) (fun i => ⟨pt0 i, flush0_3 _, ?_⟩))
  · show (cfg0.win 3).cut (grid0.coords t) ((dat0 (V1 m ρ) c).after 3 t) = _
    rw [after0_3]
    refine funext fun (jj : S512x128.Idx) => ?_
    obtain ⟨r, j, rfl⟩ := ex2 jj
    exact (tab_lo m ρ c t r j).trans (congrArg (tabArr (loA m c)) (at_row0 (idx0 t).2.2.2.1 rfl rfl)).symm
  · refine in_block ?_
    exact rows_cover i (by norm_num) (idx0 (pt0 i)).2.2.2.1
theorem W2_hi : W2 m ρ c (Proc.devRef .tc main_v13_2) = tabArr (hiA m c) := by
  refine (W2_arr m ρ c 4).trans ((dat0 (V1 m ρ) c).arrAt_eq_of_cover 4 _ (fun t _ => ?_) (fun i => ⟨pt0 i, flush0_4 _, ?_⟩))
  · show (cfg0.win 4).cut (grid0.coords t) ((dat0 (V1 m ρ) c).after 4 t) = _
    rw [after0_4]
    refine funext fun (jj : S512x128.Idx) => ?_
    obtain ⟨r, j, rfl⟩ := ex2 jj
    exact (tab_hi m ρ c t r j).trans (congrArg (tabArr (hiA m c)) (at_row0 (idx0 t).2.2.2.2 rfl rfl)).symm
  · refine in_block ?_
    exact rows_cover i (by norm_num) (idx0 (pt0 i)).2.2.2.2

end Cert.Proof.Dz

end
-- ==== Proof.DzTarget.lean ====
/-
  The gradient of the in-projection's result, row by row: each head of the queries and keys with its rotation undone, the
  queries scaled, and the columns that pass unchanged.
-/
module

public import proofs.«01_k».proof.Proof.DzTables

@[expose] public section

set_option maxRecDepth 16384

noncomputable section

namespace Cert.Proof.Dz

open Cert.DzIdeal Cert.DzIdeal.Gen Idealize.ShloMosaic TcCoe Idealize.SL.Sem
open Cert.Proof.RealValues Cert.Proof.Strips

/-- A head's gradient with the rotation by the angles' cosines `C` and sines `S` undone. -/
def rotBack (f : Fin 128 → EReal) (C S : Fin 16 → EReal) (j : Fin 128) : EReal :=
  if h : j.val < 16 then f j * C ⟨j.val, h⟩ + f ⟨j.val + 16, by omega⟩ * S ⟨j.val, h⟩
  else if h2 : j.val < 32 then f j * C ⟨j.val - 16, by omega⟩ + -f ⟨j.val - 16, by omega⟩ * S ⟨j.val - 16, by omega⟩
  else f j

/-- The same from the three tables. -/
theorem rotBack_tables (f : Fin 128 → EReal) (P : EReal) (j : Fin 128) :
    f j * (if j.val < 32 then Ideal.cos (P * freqs j) else 1)
      + f (lo j) * (if (lo j).val < 16 then 0 - Ideal.sin (P * freqs (lo j)) else 0)
      + f (hi j) * (if 16 ≤ (hi j).val ∧ (hi j).val < 32 then Ideal.sin (P * freqs (hi j)) else 0)
    = rotBack f (fun a => Ideal.cos (P * freqVec (ix1 a))) (fun a => Ideal.sin (P * freqVec (ix1 a))) j := by
  have hlo : (lo j).val = (j.val + 128 - 16) % 128 := rfl
  have hhi : (hi j).val = (j.val + 128 - 112) % 128 := rfl
  have hj := j.isLt
  unfold rotBack
  by_cases h : j.val < 16
  · have e : hi j = ⟨j.val + 16, by omega⟩ := Fin.ext (by rw [hhi]; show _ = j.val + 16; omega)
    have e1 : freqs j = freqVec (ix1 ⟨j.val, h⟩) := by unfold freqs; rw [dif_pos h]
    have e2 : freqs ⟨j.val + 16, by omega⟩ = freqVec (ix1 ⟨j.val, h⟩) := by
      unfold freqs
      rw [dif_neg (by show ¬j.val + 16 < 16; omega), dif_pos (by show j.val + 16 - 16 < 16; omega)]
      exact congrArg freqVec (congrArg ix1 (Fin.ext (by show j.val + 16 - 16 = j.val; omega)))
    rw [dif_pos h, if_pos (by omega), if_neg (by omega), if_pos (by omega), e, e1, e2, mul_zero, add_zero]
  · rw [dif_neg h]
    by_cases h2 : j.val < 32
    · have e : lo j = ⟨j.val - 16, by omega⟩ := Fin.ext (by rw [hlo]; show _ = j.val - 16; omega)
      have e1 : freqs j = freqVec (ix1 ⟨j.val - 16, by omega⟩) := by unfold freqs; rw [dif_neg h, dif_pos (by omega)]
      have e2 : freqs ⟨j.val - 16, by omega⟩ = freqVec (ix1 ⟨j.val - 16, by omega⟩) := by
        unfold freqs
        rw [dif_pos (by show j.val - 16 < 16; omega)]
      rw [dif_pos h2, if_pos h2, if_pos (by omega), if_neg (by omega), e, e1, e2, mul_zero, add_zero, zero_sub, mul_neg, neg_mul]
    · rw [dif_neg h2, if_neg h2, if_neg (by omega), if_neg (by omega), mul_one, mul_zero, mul_zero, add_zero, add_zero]

/-- A real factor that is not negative can be applied before or after. -/
theorem rotBack_scale (f : Fin 128 → EReal) (C S : Fin 16 → EReal) {s : ℝ} (hs : 0 ≤ s) (j : Fin 128) :
    rotBack f C S j * (s : EReal) = rotBack (fun j => f j * (s : EReal)) C S j := by
  have d : ∀ a b : EReal, (a + b) * (s : EReal) = a * s + b * s := fun a b => by
    exact EReal.right_distrib_of_nonneg_of_ne_top (EReal.coe_nonneg.2 hs) (EReal.coe_ne_top s) a b
  unfold rotBack
  by_cases h : j.val < 16
  · rw [dif_pos h, dif_pos h, d, mul_right_comm, mul_right_comm (f _) (S _)]
  · rw [dif_neg h, dif_neg h]
    by_cases h2 : j.val < 32
    · rw [dif_pos h2, dif_pos h2, d, mul_right_comm, mul_right_comm (-f _) (S _), neg_mul (f _) (s : EReal)]
    · rw [dif_neg h2, dif_neg h2]

/-- The queries' scale. -/
def scale : EReal := Ideal.ofBits .f32 1035273459#32
theorem scale_real : ∃ s : ℝ, 0 ≤ s ∧ scale = (s : EReal) := by
  refine ⟨11863283 / 134217728, by norm_num, ?_⟩
  unfold scale
  simp [Ideal.ofBits, Ideal.ieee, -EReal.coe_mul]
  norm_num

section target
variable (x0 : IVec S16384 32) (x1 x2 x3 : S16384x1536.Idx → EReal) (x4 : S16384x512.Idx → EReal) (x5 x6 : S16384x1024.Idx → EReal)

/-- The angle of a token and a pair of lanes. -/
def theta (R : Fin 16384) (a : Fin 16) : EReal := FloatOps.sitofp (F := Ideal) .f32 (x0 (ix1 R)) * freqVec (ix1 a)
/-- A head of a gradient, its rotation undone. -/
def headT (x : S16384x1536.Idx → EReal) (R : Fin 16384) (k : Fin 1536) : EReal :=
  rotBack (fun j => x (ix2 R ⟨k.val / 128 * 128 + j.val, by omega⟩)) (fun a => Ideal.cos (theta x0 R a)) (fun a => Ideal.sin (theta x0 R a))
    ⟨k.val % 128, by omega⟩
/-- The gradient at a token and a column. -/
def outT (R : Fin 16384) (k : Fin 7168) : EReal :=
  if h : k.val < 1536 then headT x0 x1 R ⟨k.val, h⟩ * scale
  else if h : k.val < 3072 then headT x0 x2 R ⟨k.val - 1536, by omega⟩
  else if h : k.val < 4608 then x3 (ix2 R ⟨k.val - 3072, by omega⟩)
  else if h : k.val < 5120 then x4 (ix2 R ⟨k.val - 4608, by omega⟩)
  else if h : k.val < 6144 then x5 (ix2 R ⟨k.val - 5120, by omega⟩)
  else x6 (ix2 R ⟨k.val - 6144, by omega⟩)
end target

end Cert.Proof.Dz

end
-- ==== Proof.DzCols.lean ====
/-
  What `dz_layout`'s windows find in their arrays, from the program's arguments: the gradients' columns by group, in the group's
  layout, the columns that are copied, and the tables.
-/
module

public import proofs.«01_k».proof.Proof.DzTables

@[expose] public section

set_option maxRecDepth 16384

noncomputable section

namespace Cert.Proof.Dz

open Cert.DzIdeal Cert.DzIdeal.Gen Idealize.ShloMosaic TcCoe Idealize.SL.Sem
open Cert.Proof.RealValues Cert.Proof.Strips

variable (m : (ℓ : Loc nD τ sig) → Buf (Elt Ideal) ℓ) (ρ : Dev nD → PrngReg) (c : Dev nD)

/-- The gradients of the queries, keys and values. -/
def grad (p : Fin 3) : S16384x1536.Idx → EReal :=
  match p with
  | 0 => m ((c : Thread nD τ).loc main_arg1)
  | 1 => m ((c : Thread nD τ).loc main_arg2)
  | 2 => m ((c : Thread nD τ).loc main_arg3)

/-- A block of 512 columns, its rows `d` side by side. -/
theorem cols_grouped {q w d o : ℕ} (hq : q * d = 16384) (hw : w = d * 512) (ho : o + 512 ≤ 1536) (y : S16384x1536.Idx → EReal)
    (h : S16384x1536.Slices ![0, o] S16384x512) (h' : S16384x512.ShapeCasts ⟨2, ![q, w]⟩) (R : Fin 16384) (k : Fin 512) (I : (⟨2, ![q, w]⟩ : Shape).Idx)
    (h0 : (I 0).val = R.val / d) (h1 : (I 1).val = R.val % d * 512 + k.val) :
    shapeCast ⟨2, ![q, w]⟩ (extractStridedSlice S16384x512 ![0, o] y h) h' I = y (ix2 R (⟨o + k.val, by omega⟩ : Fin 1536)) := by
  refine (shapeCast_apply _ h' _ (ix2 R k) ?_).trans ?_
  · rw [Shape.rowMajor_val_two, Shape.rowMajor_val_two]
    show R.val * 512 + k.val = (I 0).val * w + (I 1).val
    rw [h0, h1, hw]
    have e := Nat.div_add_mod R.val d
    calc R.val * 512 + k.val = (d * (R.val / d) + R.val % d) * 512 + k.val := by rw [e]
      _ = _ := by ring
  · refine congrArg y (funext fun a => Fin.ext ?_)
    match a with
    | ⟨0, _⟩ => show 0 + R.val = R.val; omega
    | ⟨1, _⟩ => rfl

/-! The nine arrays of gradients, as the host's slices and reshapes of the arguments. -/

theorem V_v14 : V3 m ρ c main_v14 = (extractStridedSlice S16384x512 ![0, 0] (grad m c 0) slices_S16384x1536_S16384x512_0_0 : FVec Ideal S16384x512 .bf16) := by
  show StableHlo.after hostOps1 (W2 m ρ c) main_v14 = _
  unfold hostOps1
  after_reads_simp
  rw [W2_args m ρ c main_arg1 (by decide)]
  rfl
theorem V_v15 : V3 m ρ c main_v15 = (extractStridedSlice S16384x512 ![0, 0] (grad m c 1) slices_S16384x1536_S16384x512_0_0 : FVec Ideal S16384x512 .bf16) := by
  show StableHlo.after hostOps1 (W2 m ρ c) main_v15 = _
  unfold hostOps1
  after_reads_simp
  rw [W2_args m ρ c main_arg2 (by decide)]
  rfl
theorem V_v16 : V3 m ρ c main_v16 = (extractStridedSlice S16384x512 ![0, 0] (grad m c 2) slices_S16384x1536_S16384x512_0_0 : FVec Ideal S16384x512 .bf16) := by
  show StableHlo.after hostOps1 (W2 m ρ c) main_v16 = _
  unfold hostOps1
  after_reads_simp
  rw [W2_args m ρ c main_arg3 (by decide)]
  rfl
theorem V_v18 : V3 m ρ c main_v18 = (shapeCast S4096x2048 (extractStridedSlice S16384x512 ![0, 512] (grad m c 0) slices_S16384x1536_S16384x512_0_512) shapeCasts_S16384x512_S4096x2048 : FVec Ideal S4096x2048 .bf16) := by
  show StableHlo.after hostOps1 (W2 m ρ c) main_v18 = _
  unfold hostOps1
  after_reads_simp
  rw [W2_args m ρ c main_arg1 (by decide)]
  rfl
theorem V_v20 : V3 m ρ c main_v20 = (shapeCast S4096x2048 (extractStridedSlice S16384x512 ![0, 512] (grad m c 1) slices_S16384x1536_S16384x512_0_512) shapeCasts_S16384x512_S4096x2048 : FVec Ideal S4096x2048 .bf16) := by
  show StableHlo.after hostOps1 (W2 m ρ c) main_v20 = _
  unfold hostOps1
  after_reads_simp
  rw [W2_args m ρ c main_arg2 (by decide)]
  rfl
theorem V_v22 : V3 m ρ c main_v22 = (shapeCast S4096x2048 (extractStridedSlice S16384x512 ![0, 512] (grad m c 2) slices_S16384x1536_S16384x512_0_512) shapeCasts_S16384x512_S4096x2048 : FVec Ideal S4096x2048 .bf16) := by
  show StableHlo.after hostOps1 (W2 m ρ c) main_v22 = _
  unfold hostOps1
  after_reads_simp
  rw [W2_args m ρ c main_arg3 (by decide)]
  rfl
theorem V_v24 : V3 m ρ c main_v24 = (shapeCast S1024x8192 (extractStridedSlice S16384x512 ![0, 1024] (grad m c 0) slices_S16384x1536_S16384x512_0_1024) shapeCasts_S16384x512_S1024x8192 : FVec Ideal S1024x8192 .bf16) := by
  show StableHlo.after hostOps1 (W2 m ρ c) main_v24 = _
  unfold hostOps1
  after_reads_simp
  rw [W2_args m ρ c main_arg1 (by decide)]
  rfl
theorem V_v26 : V3 m ρ c main_v26 = (shapeCast S1024x8192 (extractStridedSlice S16384x512 ![0, 1024] (grad m c 1) slices_S16384x1536_S16384x512_0_1024) shapeCasts_S16384x512_S1024x8192 : FVec Ideal S1024x8192 .bf16) := by
  show StableHlo.after hostOps1 (W2 m ρ c) main_v26 = _
  unfold hostOps1
  after_reads_simp
  rw [W2_args m ρ c main_arg2 (by decide)]
  rfl
theorem V_v28 : V3 m ρ c main_v28 = (shapeCast S1024x8192 (extractStridedSlice S16384x512 ![0, 1024] (grad m c 2) slices_S16384x1536_S16384x512_0_1024) shapeCasts_S16384x512_S1024x8192 : FVec Ideal S1024x8192 .bf16) := by
  show StableHlo.after hostOps1 (W2 m ρ c) main_v28 = _
  unfold hostOps1
  after_reads_simp
  rw [W2_args m ρ c main_arg3 (by decide)]
  rfl

/-- The block indices of the windows. -/
theorem idx1 : ∀ t : Fin cfg1.N, (win1_0.index t = ![t.val, 0] ∧ win1_1.index t = ![t.val, 0] ∧ win1_2.index t = ![t.val, 0])
    ∧ (win1_3.index t = ![t.val, 0] ∧ win1_4.index t = ![t.val, 0] ∧ win1_5.index t = ![t.val, 0])
    ∧ (win1_6.index t = ![t.val, 0] ∧ win1_7.index t = ![t.val, 0] ∧ win1_8.index t = ![t.val, 0]) := by decide +kernel
theorem idx1' : ∀ t : Fin cfg1.N, win1_9.index t = ![t.val, 0] ∧ win1_10.index t = ![t.val, 0] ∧ win1_11.index t = ![t.val, 0]
    ∧ win1_12.index t = ![t.val, 0] ∧ win1_13.index t = ![t.val, 0] ∧ win1_14.index t = ![t.val, 0] ∧ win1_15.index t = ![t.val, 0] := by
  decide +kernel

/-- Row `r` of the block of 512 tokens at grid point `t`. -/
abbrev row1 (t : Fin cfg1.N) (r : Fin 512) : Fin 16384 := Norm.row (t.cast N_1) r

theorem at_row1 {W : ℕ} {t : Fin cfg1.N} {r : Fin 512} {j : Fin W} {ix : Fin 2 → ℕ} (h : ix = ![t.val, 0]) {I : (⟨2, ![16384, W]⟩ : Shape).Idx}
    (e0 : (I 0).val = ix 0 * 512 + 1 * r.val) (e1 : (I 1).val = ix 1 * W + 1 * j.val) : I = ix2 (row1 t r) j :=
  blk2 ix 512 W r.val j.val e0 e1 (by subst h; rfl) (by subst h; simp)

section blocks
variable (t : Fin cfg1.N) (r : Fin 512)

theorem cs_eq (j : Fin 128) : csB (V3 m ρ) c t r j = cosA m c (row1 t r) j :=
  (congrArg (V3 m ρ c main_v13_0) (at_row1 (r := r) (j := j) (idx1' t).2.2.2.1 rfl rfl)).trans
    ((congrFun (W3_of m ρ c main_v13_0 (by decide)) _).trans (congrFun (W2_cos m ρ c) (ix2 (row1 t r) j)))
theorem lo_eq (j : Fin 128) : loB (V3 m ρ) c t r j = loA m c (row1 t r) j :=
  (congrArg (V3 m ρ c main_v13_1) (at_row1 (r := r) (j := j) (idx1' t).2.2.2.2.1 rfl rfl)).trans
    ((congrFun (W3_of m ρ c main_v13_1 (by decide)) _).trans (congrFun (W2_lo m ρ c) (ix2 (row1 t r) j)))
theorem hi_eq (j : Fin 128) : hiB (V3 m ρ) c t r j = hiA m c (row1 t r) j :=
  (congrArg (V3 m ρ c main_v13_2) (at_row1 (r := r) (j := j) (idx1' t).2.2.2.2.2.1 rfl rfl)).trans
    ((congrFun (W3_of m ρ c main_v13_2 (by decide)) _).trans (congrFun (W2_hi m ρ c) (ix2 (row1 t r) j)))
theorem du_eq (k : Fin 512) : duB (V3 m ρ) c t r k = (m ((c : Thread nD τ).loc main_arg4) : S16384x512.Idx → EReal) (ix2 (row1 t r) k) :=
  (congrArg (V3 m ρ c main_arg4) (at_row1 (r := r) (j := k) (idx1' t).1 rfl rfl)).trans
    (congrFun (W3_args m ρ c main_arg4 (by decide)) (ix2 (row1 t r) k))
theorem ga_eq (k : Fin 1024) : gaB (V3 m ρ) c t r k = (m ((c : Thread nD τ).loc main_arg5) : S16384x1024.Idx → EReal) (ix2 (row1 t r) k) :=
  (congrArg (V3 m ρ c main_arg5) (at_row1 (r := r) (j := k) (idx1' t).2.1 rfl rfl)).trans
    (congrFun (W3_args m ρ c main_arg5 (by decide)) (ix2 (row1 t r) k))
theorem gs_eq (k : Fin 1024) : gsB (V3 m ρ) c t r k = (m ((c : Thread nD τ).loc main_arg6) : S16384x1024.Idx → EReal) (ix2 (row1 t r) k) :=
  (congrArg (V3 m ρ c main_arg6) (at_row1 (r := r) (j := k) (idx1' t).2.2.1 rfl rfl)).trans
    (congrFun (W3_args m ρ c main_arg6 (by decide)) (ix2 (row1 t r) k))

/-- A window of the first group at an index, from its array's slice. -/
theorem first {y : S16384x1536.Idx → EReal} {a : S16384x512.Idx → EReal} (ha : a = extractStridedSlice S16384x512 ![0, 0] y slices_S16384x1536_S16384x512_0_0)
    (k : Fin 512) {ix : Fin 2 → ℕ} (h : ix = ![t.val, 0]) {I : S16384x512.Idx}
    (e0 : (I 0).val = ix 0 * 512 + 1 * r.val) (e1 : (I 1).val = ix 1 * 512 + 1 * k.val) :
    a I = y (ix2 (row1 t r) (⟨0 * 512 + k.val, by omega⟩ : Fin 1536)) := by
  subst ha
  rw [at_row1 h e0 e1]
  refine congrArg y (funext fun a => Fin.ext ?_)
  match a with
  | ⟨0, _⟩ => exact Nat.zero_add _
  | ⟨1, _⟩ => show 0 + k.val = 0 * 512 + k.val; omega
/-- A window of a later group. -/
theorem later {q w d o b : ℕ} (hq : q * d = 16384) (hw : w = d * 512) (ho : o + 512 ≤ 1536) (hb : b * d = 512) {y : S16384x1536.Idx → EReal}
    {a : (⟨2, ![q, w]⟩ : Shape).Idx → EReal} {h : S16384x1536.Slices ![0, o] S16384x512} {h' : S16384x512.ShapeCasts ⟨2, ![q, w]⟩}
    (ha : a = shapeCast ⟨2, ![q, w]⟩ (extractStridedSlice S16384x512 ![0, o] y h) h')
    (k : Fin 512) {ix : Fin 2 → ℕ} (hix : ix = ![t.val, 0]) {I : (⟨2, ![q, w]⟩ : Shape).Idx}
    (e0 : (I 0).val = ix 0 * b + 1 * (r.val / d)) (e1 : (I 1).val = ix 1 * w + 1 * (r.val % d * 512 + k.val)) :
    a I = y (ix2 (row1 t r) (⟨o + k.val, by omega⟩ : Fin 1536)) := by
  subst ha hix
  have hd : 0 < d := Nat.pos_of_ne_zero fun h => by subst h; omega
  have ht : t.val * 512 = t.val * b * d := by rw [mul_assoc, hb]
  refine cols_grouped hq hw ho y h h' (row1 t r) k I ?_ ?_
  · rw [e0]
    show t.val * b + 1 * (r.val / d) = (t.val * 512 + r.val) / d
    rw [ht, Nat.add_comm (t.val * b * d), Nat.add_mul_div_right _ _ hd]
    omega
  · rw [e1]
    show 0 * w + 1 * (r.val % d * 512 + k.val) = (t.val * 512 + r.val) % d * 512 + k.val
    rw [ht, Nat.add_comm (t.val * b * d), Nat.add_mul_mod_self_right]
    omega

/-- The gradients as the body reads them. -/
theorem src_eq (p g : Fin 3) (k : Fin 512) : src (V3 m ρ) c t p g r k = grad m c p (ix2 (row1 t r) (⟨g.val * 512 + k.val, by omega⟩ : Fin 1536)) := by
  match p, g with
  | 0, 0 => exact first t r (V_v14 m ρ c) k (idx1 t).1.1 rfl rfl
  | 1, 0 => exact first t r (V_v15 m ρ c) k (idx1 t).1.2.1 rfl rfl
  | 2, 0 => exact first t r (V_v16 m ρ c) k (idx1 t).1.2.2 rfl rfl
  | 0, 1 => exact later (q := 4096) (d := 4) (b := 128) t r (by norm_num) (by norm_num) (by norm_num) (by norm_num) (V_v18 m ρ c) k (idx1 t).2.1.1 rfl rfl
  | 1, 1 => exact later (q := 4096) (d := 4) (b := 128) t r (by norm_num) (by norm_num) (by norm_num) (by norm_num) (V_v20 m ρ c) k (idx1 t).2.1.2.1 rfl rfl
  | 2, 1 => exact later (q := 4096) (d := 4) (b := 128) t r (by norm_num) (by norm_num) (by norm_num) (by norm_num) (V_v22 m ρ c) k (idx1 t).2.1.2.2 rfl rfl
  | 0, 2 => exact later (q := 1024) (d := 16) (b := 32) t r (by norm_num) (by norm_num) (by norm_num) (by norm_num) (V_v24 m ρ c) k (idx1 t).2.2.1 rfl rfl
  | 1, 2 => exact later (q := 1024) (d := 16) (b := 32) t r (by norm_num) (by norm_num) (by norm_num) (by norm_num) (V_v26 m ρ c) k (idx1 t).2.2.2.1 rfl rfl
  | 2, 2 => exact later (q := 1024) (d := 16) (b := 32) t r (by norm_num) (by norm_num) (by norm_num) (by norm_num) (V_v28 m ρ c) k (idx1 t).2.2.2.2 rfl rfl
end blocks

end Cert.Proof.Dz

end
-- ==== Proof.DzKernel.lean ====
/-
  What `dz_layout` leaves in its result array.
-/
module

public import proofs.«01_k».proof.Proof.DzTarget
public import proofs.«01_k».proof.Proof.DzCols

@[expose] public section

set_option maxRecDepth 16384

noncomputable section

namespace Cert.Proof.Dz

open Cert.DzIdeal Cert.DzIdeal.Gen Idealize.ShloMosaic TcCoe Idealize.SL.Sem
open Cert.Proof.RealValues Cert.Proof.Strips

variable (m : (ℓ : Loc nD τ sig) → Buf (Elt Ideal) ℓ) (ρ : Dev nD → PrngReg) (c : Dev nD)

/-- The gradient from the program's arguments. -/
abbrev result (R : Fin 16384) (k : Fin 7168) : EReal :=
  outT (m ((c : Thread nD τ).loc main_arg0)) (grad m c 0) (grad m c 1) (grad m c 2) (m ((c : Thread nD τ).loc main_arg4))
    (m ((c : Thread nD τ).loc main_arg5)) (m ((c : Thread nD τ).loc main_arg6)) R k

section blocks
variable (t : Fin cfg1.N) (r : Fin 512)

/-- A head with its rotation undone. -/
theorem unrot_eq (p : Fin 3) (k : Fin 1536) :
    unrot (V3 m ρ) c t p ⟨k.val / 512, by omega⟩ r ⟨k.val % 512 / 128, by omega⟩ ⟨k.val % 128, by omega⟩
      = headT (m ((c : Thread nD τ).loc main_arg0)) (grad m c p) (row1 t r) k := by
  have e : ∀ j : Fin 128, src (V3 m ρ) c t p ⟨k.val / 512, by omega⟩ r (lane ⟨k.val % 512 / 128, by omega⟩ j)
      = grad m c p (ix2 (row1 t r) (⟨k.val / 128 * 128 + j.val, by omega⟩ : Fin 1536)) := fun j =>
    (src_eq m ρ c t r p _ _).trans (congrArg (grad m c p) (congrArg (ix2 (row1 t r)) (Fin.ext (by
      show k.val / 512 * 512 + (k.val % 512 / 128 * 128 + j.val) = k.val / 128 * 128 + j.val
      omega))))
  unfold unrot
  rw [e, e, e, cs_eq, lo_eq, hi_eq]
  exact rotBack_tables (fun j => grad m c p (ix2 (row1 t r) (⟨k.val / 128 * 128 + j.val, by omega⟩ : Fin 1536))) (pos m c (row1 t r)) ⟨k.val % 128, by omega⟩

/-- What is stored of a head, by part. -/
theorem head_eq (p : Fin 3) (k : Fin 1536) (q : Fin 7168) (hq : q.val = p.val * 1536 + k.val) : outB (V3 m ρ) c t r q
    = headB (V3 m ρ) c t p ⟨k.val / 512, by omega⟩ r ⟨k.val % 512 / 128, by omega⟩ ⟨k.val % 128, by omega⟩ := by
  unfold outB
  rw [dif_pos (by omega)]
  have a1 : (⟨q.val / 1536, by omega⟩ : Fin 3) = p := Fin.ext (by show q.val / 1536 = p.val; omega)
  have a2 : (⟨q.val % 1536 / 512, by omega⟩ : Fin 3) = ⟨k.val / 512, by omega⟩ := Fin.ext (by show q.val % 1536 / 512 = k.val / 512; omega)
  have a3 : (⟨q.val % 512 / 128, by omega⟩ : Fin 4) = ⟨k.val % 512 / 128, by omega⟩ :=
    Fin.ext (by show q.val % 512 / 128 = k.val % 512 / 128; omega)
  have a4 : (⟨q.val % 128, by omega⟩ : Fin 128) = ⟨k.val % 128, by omega⟩ := Fin.ext (by show q.val % 128 = k.val % 128; omega)
  rw [a1, a2, a3, a4]

/-- The block the body stores. -/
theorem block (k : Fin 7168) : outB (V3 m ρ) c t r k = result m c (row1 t r) k := by
  unfold result outT
  by_cases h1 : k.val < 1536
  · rw [dif_pos h1, head_eq m ρ c t r 0 ⟨k.val, h1⟩ k (by show k.val = 0 * 1536 + k.val; omega)]
    show unrot (V3 m ρ) c t 0 _ r _ _ * scale = _
    rw [unrot_eq m ρ c t r 0 ⟨k.val, h1⟩]
  rw [dif_neg h1]
  by_cases h2 : k.val < 3072
  · rw [dif_pos h2, head_eq m ρ c t r 1 ⟨k.val - 1536, by omega⟩ k (by show k.val = 1 * 1536 + (k.val - 1536); omega)]
    show unrot (V3 m ρ) c t 1 _ r _ _ = _
    rw [unrot_eq m ρ c t r 1 ⟨k.val - 1536, by omega⟩]
  rw [dif_neg h2]
  by_cases h3 : k.val < 4608
  · rw [dif_pos h3, head_eq m ρ c t r 2 ⟨k.val - 3072, by omega⟩ k (by show k.val = 2 * 1536 + (k.val - 3072); omega)]
    show src (V3 m ρ) c t 2 _ r _ = _
    rw [src_eq]
    refine congrArg (grad m c 2) (congrArg (ix2 (row1 t r)) (Fin.ext ?_))
    show (k.val - 3072) / 512 * 512 + ((k.val - 3072) % 512 / 128 * 128 + (k.val - 3072) % 128) = k.val - 3072
    omega
  rw [dif_neg h3]
  unfold outB
  rw [dif_neg h3]
  by_cases h4 : k.val < 5120
  · rw [dif_pos h4, dif_pos h4, du_eq]
  rw [dif_neg h4, dif_neg h4]
  by_cases h5 : k.val < 6144
  · rw [dif_pos h5, dif_pos h5, ga_eq]
  rw [dif_neg h5, dif_neg h5, gs_eq]
end blocks

/-- The result as an array. -/
def resArr : S16384x7168.Idx → EReal := fun i => result m c (i 0) (i 1)

/-- The point whose block holds row `i 0`. -/
def pt1 (i : S16384x7168.Idx) : Fin cfg1.N :=
  ⟨(i 0 : Nat) / 512, by have h0 : (i 0 : Nat) < 16384 := (i 0).isLt; rw [show cfg1.N = 32 from N_1]; omega⟩

/-- The result array after the call, from what the body leaves in each block. -/
theorem W4_result (outs : ∀ (t : Fin cfg1.N) (y : S512x7168.Idx), outsAt1 (V3 m ρ) c t y = outB (V3 m ρ) c t (y 0) (y 1)) :
    W4 m ρ c (Proc.devRef .tc main_v29) = resArr m c := by
  refine (W4_arr m ρ c 15).trans ((dat1 (V3 m ρ) c).arrAt_eq_of_cover 15 _ (fun t _ => ?_) (fun i => ⟨pt1 i, flush1_15 _, ?_⟩))
  · show (cfg1.win 15).cut (grid1.coords t) ((dat1 (V3 m ρ) c).after 15 t) = _
    rw [after1_15]
    refine funext fun (jj : S512x7168.Idx) => ?_
    obtain ⟨r, k, rfl⟩ := ex2 jj
    exact (outs t (ix2 r k)).trans ((block m ρ c t r k).trans
      (congrArg (resArr m c) (at_row1 (r := r) (j := k) (idx1' t).2.2.2.2.2.2 rfl rfl)).symm)
  · refine in_block ?_
    exact rows_cover i (by norm_num) (idx1' (pt1 i)).2.2.2.2.2.2

end Cert.Proof.Dz

end
-- ==== Proof.DzRef.lean ====
/-
  What the `jax.vjp` reference of `dz_layout` computes.
-/
module

public import proofs.«01_k».proof.Proof.DzTarget
public import proofs.«01_k».proof.Proof.Gen.DzRefIdeal.Read

@[expose] public section

set_option maxRecDepth 16384

noncomputable section

namespace Cert.Proof.Dz

open Idealize.ShloMosaic
open Cert.DzRefIdeal Cert.DzRefIdeal.Read
open Cert.Proof.RealValues

variable (x0 : IVec S16384 32) (x1 x2 x3 : S16384x1536.Idx → EReal) (x4 : S16384x512.Idx → EReal) (x5 x6 : S16384x1024.Idx → EReal)

/-- The angles. -/
theorem angle (R : Fin 16384) (a : Fin 16) : val_main_v63 (F := Ideal) x0 (ix2 R a) = theta x0 R a := by
  unfold val_main_v63 val_main_v61 val_main_v59 val_main_v58 val_main_v62 val_main_v60
  pointwise
  rfl

/-- The heads' lanes. -/
theorem lanes (R : Fin 16384) (H : Fin 12) (j : Fin 128) : val_main_v90 (F := Ideal) x2 (ix3 R H j) = x2 (ix2 R (⟨H.val * 128 + j.val, by omega⟩ : Fin 1536)) := by
  unfold val_main_v90 val_main_v1
  refine shapeCast_apply _ _ _ (ix2 R (⟨H.val * 128 + j.val, by omega⟩ : Fin 1536)) ?_
  rewrite [Shape.rowMajor_val_two, Shape.rowMajor_val_three]
  show R.val * 1536 + (H.val * 128 + j.val) = (R.val * 12 + H.val) * 128 + j.val
  ring

/-- The rotated lanes of a head. -/
theorem half_low (R : Fin 16384) (H : Fin 12) (j : Fin 16) : val_main_v106 (F := Ideal) x0 x2 (ix3 R H j)
    = x2 (ix2 R (⟨H.val * 128 + (16 + j.val), by omega⟩ : Fin 1536)) * Ideal.sin (theta x0 R j)
      + x2 (ix2 R (⟨H.val * 128 + j.val, by omega⟩ : Fin 1536)) * Ideal.cos (theta x0 R j) := by
  unfold val_main_v106 val_main_v97 val_main_v105 val_main_v95 val_main_v94 val_main_v91 val_main_v96 val_main_v67 val_main_v66 val_main_v104 val_main_v65 val_main_v64
  pointwise
  exact congrArg₂ (fun a b : EReal => a + b)
    (congrArg₂ (fun a b : EReal => a * b) (lanes x2 R H _) (congrArg Ideal.sin (angle x0 R j)))
    (congrArg₂ (fun a b : EReal => a * b) (lanes x2 R H _) (congrArg Ideal.cos (angle x0 R j)))
theorem half_high (R : Fin 16384) (H : Fin 12) (j : Fin 16) : val_main_v103 (F := Ideal) x0 x2 (ix3 R H j)
    = x2 (ix2 R (⟨H.val * 128 + (16 + j.val), by omega⟩ : Fin 1536)) * Ideal.cos (theta x0 R j)
      + -x2 (ix2 R (⟨H.val * 128 + j.val, by omega⟩ : Fin 1536)) * Ideal.sin (theta x0 R j) := by
  unfold val_main_v103 val_main_v99 val_main_v102 val_main_v100 val_main_v95 val_main_v94 val_main_v91 val_main_v98 val_main_v101 val_main_v67 val_main_v66 val_main_v65
    val_main_v64
  pointwise
  exact congrArg₂ (fun a b : EReal => a + b)
    (congrArg₂ (fun a b : EReal => a * b) (lanes x2 R H _) (congrArg Ideal.cos (angle x0 R j)))
    (congrArg₂ (fun a b : EReal => -a * b) (lanes x2 R H _) (congrArg Ideal.sin (angle x0 R j)))
set_option maxHeartbeats 4000000 in
theorem heads (R : Fin 16384) (H : Fin 12) (j : Fin 128) : val_main_v111 (F := Ideal) x0 x2 (ix3 R H j)
    = rotBack (fun j => x2 (ix2 R (⟨H.val * 128 + j.val, by omega⟩ : Fin 1536))) (fun a => Ideal.cos (theta x0 R a)) (fun a => Ideal.sin (theta x0 R a)) j := by
  have hj := j.isLt
  unfold val_main_v111 val_main_v110 val_main_v93 val_main_v92 val_main_v109 val_main_v107 val_main_v108 val_main_cst_9 val_main_cst_10 val_main_cst_11 val_main_cst_12
  pointwise
  unfold rotBack
  by_cases h : j.val < 16
  · rw [dif_neg (by omega), dif_pos (by omega), dif_neg (by omega), dif_pos h, dif_pos h, zero_add, zero_add]
    refine (half_low x0 x2 R H ⟨j.val, h⟩).trans ((add_comm (_ : EReal) _).trans (congrArg₂ (fun a b : EReal => a + b) rfl ?_))
    exact congrArg (fun i => x2 (ix2 R i) * Ideal.sin (theta x0 R ⟨j.val, h⟩)) (Fin.ext (by
      show H.val * 128 + (16 + j.val) = H.val * 128 + (j.val + 16); omega))
  · rw [dif_neg h]
    by_cases h2 : j.val < 32
    · rw [dif_neg (by omega), dif_pos h2, dif_pos (by omega), dif_neg h, dif_pos h2, zero_add, add_zero]
      refine (half_high x0 x2 R H ⟨j.val - 16, by omega⟩).trans (congrArg₂ (fun a b : EReal => a + b) ?_ rfl)
      exact congrArg (fun i => x2 (ix2 R i) * Ideal.cos (theta x0 R ⟨j.val - 16, by omega⟩)) (Fin.ext (by
        show H.val * 128 + (16 + (j.val - 16)) = H.val * 128 + j.val; omega))
    · rw [dif_pos (by omega), dif_neg h2, dif_neg h2, add_zero]
      exact (lanes x2 R H _).trans (congrArg x2 (congrArg (ix2 R) (Fin.ext (by
        show H.val * 128 + (32 + (j.val - 32)) = H.val * 128 + j.val; omega))))

/-- The queries' heads are the keys' with the cotangent scaled. -/
theorem queries : val_main_v135 (F := Ideal) x0 x1 = val_main_v111 (F := Ideal) x0 (fun i => x1 i * scale) := by
  have e : val_main_v114 (F := Ideal) x1 = val_main_v90 (F := Ideal) (fun i => x1 i * scale) := rfl
  unfold val_main_v135 val_main_v134 val_main_v133 val_main_v132 val_main_v131 val_main_v130 val_main_v129 val_main_v127 val_main_v126 val_main_v124 val_main_v123
    val_main_v121 val_main_v119 val_main_v118 val_main_v117 val_main_v116 val_main_v115
  rw [e]
  rfl

/-- The heads as columns. -/
theorem cols_k (R : Fin 16384) (k : Fin 1536) : val_main_v140 (F := Ideal) x0 x2 (ix2 R k) = headT x0 x2 R k := by
  unfold val_main_v140
  refine (shapeCast_apply _ _ _ (ix3 R (⟨k.val / 128, by omega⟩ : Fin 12) (⟨k.val % 128, by omega⟩ : Fin 128)) ?_).trans (heads x0 x2 R _ _)
  rewrite [Shape.rowMajor_val_two, Shape.rowMajor_val_three]
  show (R.val * 12 + k.val / 128) * 128 + k.val % 128 = R.val * 1536 + k.val
  omega
theorem cols_q (R : Fin 16384) (k : Fin 1536) : val_main_v143 (F := Ideal) x0 x1 (ix2 R k) = headT x0 x1 R k * scale := by
  have e : val_main_v143 (F := Ideal) x0 x1 = val_main_v140 (F := Ideal) x0 (fun i => x1 i * scale) := by
    unfold val_main_v143 val_main_v140
    rw [queries]
  obtain ⟨s, hs, es⟩ := scale_real
  rw [e, cols_k, es]
  exact (rotBack_scale _ _ _ hs _).symm

/-- The result. -/
theorem result_ref (R : Fin 16384) (k : Fin 7168) : val_main_v146 (F := Ideal) x0 x1 x2 x3 x4 x5 x6 (ix2 R k) = outT x0 x1 x2 x3 x4 x5 x6 R k := by
  have hk := k.isLt
  unfold val_main_v146 val_main_v145 val_main_v142 val_main_v139 val_main_v137 val_main_v89 val_main_v144 val_main_v141 val_main_v138 val_main_v136 val_main_v88 val_main_v87
    val_main_v2 val_main_v3 val_main_v4 val_main_v5 val_main_cst_7 val_main_cst_8 val_main_cst_18 val_main_cst_19 val_main_cst_20 val_main_cst_21
  pointwise
  unfold outT
  by_cases h1 : k.val < 1536
  · rw [dif_neg (by omega), dif_neg (by omega), dif_neg (by omega), dif_neg (by omega), dif_neg (by omega), dif_pos h1, dif_pos h1]
    simp only [zero_add]
    exact cols_q x0 x1 R _
  by_cases h2 : k.val < 3072
  · rw [dif_neg (by omega), dif_neg (by omega), dif_neg (by omega), dif_neg (by omega), dif_pos (by omega), dif_neg h1, dif_neg h1, dif_pos h2]
    simp only [zero_add, add_zero]
    exact cols_k x0 x2 R _
  by_cases h3 : k.val < 4608
  · rw [dif_neg (by omega), dif_neg (by omega), dif_neg (by omega), dif_pos (by omega), dif_neg (by omega), dif_neg h1, dif_neg h1, dif_neg h2, dif_pos h3]
    simp only [zero_add, add_zero]
  by_cases h4 : k.val < 5120
  · rw [dif_neg (by omega), dif_neg (by omega), dif_pos (by omega), dif_neg (by omega), dif_neg (by omega), dif_neg h1, dif_neg h1, dif_neg h2, dif_neg h3, dif_pos h4]
    simp only [zero_add, add_zero]
  by_cases h5 : k.val < 6144
  · rw [dif_neg (by omega), dif_pos (by omega), dif_neg (by omega), dif_neg (by omega), dif_neg (by omega), dif_neg h1, dif_neg h1, dif_neg h2, dif_neg h3, dif_neg h4,
      dif_pos h5]
    simp only [zero_add, add_zero]
  · rw [dif_pos (by omega), dif_neg (by omega), dif_neg (by omega), dif_neg (by omega), dif_neg (by omega), dif_neg h1, dif_neg h1, dif_neg h2, dif_neg h3, dif_neg h4,
      dif_neg h5]
    simp only [add_zero]

end Cert.Proof.Dz

end
-- ==== Proof.DzClaims.lean ====
/-
  The claims about `dz_layout`: frames of the three programs, and that kernel and `jax.vjp` reference compute the same gradient.
-/
module

public import proofs.«01_k».proof.Proof.DzRun
public import proofs.«01_k».proof.Proof.DzBlock
public import proofs.«01_k».proof.Proof.DzKernel
public import proofs.«01_k».proof.Proof.DzRef
public import proofs.«01_k».proof.Proof.Gen.Dz.Frame
public import proofs.«01_k».proof.Defs

@[expose] public section

set_option maxRecDepth 16384

noncomputable section

namespace Cert.Proof.Dz

open Cert.DzIdeal Cert.DzIdeal.Gen Idealize.ShloMosaic TcCoe Idealize.SL.Sem
open Cert.DzRefIdeal.Read

/-- Kernel and reference compute the same function of any arguments over the extended reals. -/
theorem algebraic : Cert.algebraic_DzIdeal_DzRefIdeal := by
  intro m g m' g' hpre hargs
  refine ⟨fun c => resArr m c,
    (θ_run Cert.DzIdeal.defs _ _).mono (fun r h c => ⟨(h.1 c).1.trans (W4_result m g c fun t y => outs (V3 m g) c t y), (h.1 c).2⟩) (run m g),
    (θ_run Cert.DzRefIdeal.defs _ _).mono (fun r h c => ?_) (Cert.DzRefIdeal.Value.run m' g')⟩
  obtain ⟨h0, hr⟩ := h c
  obtain ⟨k0, k1, k2, k3, k4, k5, k6⟩ := hargs c
  refine ⟨h0.trans (funext fun i => ?_), hr⟩
  obtain ⟨R, k, rfl⟩ := Cert.Proof.RealValues.ex2 i
  refine (result_ref _ _ _ _ _ _ _ R k).trans ?_
  have e : ∀ {a a'} {b b'} {d d'} {p p'} {q q'} {s s'} {u u'}, a = a' → b = b' → d = d' → p = p' → q = q' → s = s' → u = u' →
      outT a b d p q s u R k = outT a' b' d' p' q' s' u' R k := by
    rintro _ _ _ _ _ _ _ _ _ _ _ _ _ _ rfl rfl rfl rfl rfl rfl rfl
    rfl
  exact e k0 k1 k2 k3 k4 k5 k6

/-- The programs terminate, leave their arguments and every counter at zero. -/
theorem frame_ref : Cert.quiescent_DzRefIdeal := fun m g _ =>
  (θ_run Cert.DzRefIdeal.defs _ _).mono (fun r h => ⟨fun c => (h c).2, Idealize.ShloMosaic.sem_eq_zero_of_no_sems (by decide) r.2⟩)
    (Cert.DzRefIdeal.Value.run m g)
theorem frame_kernel : Cert.quiescent_Dz := fun m g _ => Cert.Dz.Gen.frame m g
theorem frame_ideal : Cert.quiescent_DzIdeal := fun m g _ => (θ_run Cert.DzIdeal.defs _ _).mono (fun _ h => ⟨fun c => (h.1 c).2, h.2⟩) (run m g)

end Cert.Proof.Dz

end
-- ==== Proof.SpbStep.lean ====
/-
  The body of `ssm_param_bwd` operation by operation: each value it forms is the value that the reference's derivative forms, the two
  layouts of a group's parameters apart.
-/
module

public import proofs.«01_k».proof.Proof.Products
public import proofs.«01_k».proof.Proof.Gen.SpbIdeal.Frame
public import proofs.«01_k».proof.Proof.Gen.SpbRefIdeal.Read
public import Idealize.ShloMosaic.Lib.StableHlo.RunRead

@[expose] public section

set_option maxRecDepth 16384

noncomputable section

namespace Cert.Proof.Spb

open Cert.SpbIdeal Cert.SpbIdeal.Gen Idealize.ShloMosaic TcCoe Idealize.SL.Sem
open Cert.SpbRefIdeal.Read Cert.Proof.RealValues
open Cert.Proof.Products (hz hz3)

/-- A vector as a column, and an array with its last two axes exchanged: how the kernel is handed the step sizes, the input matrix and
    its cotangents. -/
def col (v : (⟨1, ![32]⟩ : Shape).Idx → EReal) : S32x1.Idx → EReal := fun i => v (ix1 (i 0))
def tr (v : (⟨3, ![32, 64, 16]⟩ : Shape).Idx → EReal) : S32x16x64.Idx → EReal := fun i => v (ix3 (i 0) (i 2) (i 1))

/-- Two arrays over groups and states are equal where their entries are. -/
theorem ext2 {f h : S32x64.Idx → EReal} (H : ∀ (g : Fin 32) (s : Fin 64), f (ix2 g s) = h (ix2 g s)) : f = h :=
  funext fun i => by rw [eq_ix2 i]; exact H _ _

variable (a b : S32x64.Idx → EReal) (l : (⟨1, ![32]⟩ : Shape).Idx → EReal) (p q : (⟨3, ![32, 64, 16]⟩ : Shape).Idx → EReal)
  (gr gi : S32x64.Idx → EReal) (gp gq : (⟨3, ![32, 64, 16]⟩ : Shape).Idx → EReal)

theorem dt_at (g : Fin 32) : k0_pay5 (F := Ideal) (col l) (ix2 g 0) = Ideal.exp (l (ix1 g)) := by
  unfold k0_pay5
  pointwise
  rfl

/-- Magnitude, angle, cosines and sines. -/
theorem mag : k0_pay6 (F := Ideal) a (col l) = val_main_v4 (F := Ideal) a l := ext2 fun g s => by
  unfold k0_pay6 val_main_v4 val_main_v3 val_main_v2 val_main_v1 val_main_v0
  pointwise
  rw [dt_at]
theorem ang : k0_pay7 (F := Ideal) b (col l) = val_main_v6 (F := Ideal) b l := ext2 fun g s => by
  unfold k0_pay7 val_main_v6 val_main_v5 val_main_v1 val_main_v0
  pointwise
  rw [dt_at]
theorem ang' : k0_pay10 (F := Ideal) b (col l) = val_main_v11 (F := Ideal) b l := ext2 fun g s => by
  unfold k0_pay10 val_main_v11 val_main_v10 val_main_v1 val_main_v0
  pointwise
  rw [dt_at]
theorem cosA : k0_pay8 (F := Ideal) b (col l) = val_main_v7 (F := Ideal) b l := by
  unfold k0_pay8; rw [ang]; rfl
theorem sinA : k0_pay9 (F := Ideal) b (col l) = val_main_v8 (F := Ideal) b l := by
  unfold k0_pay9; rw [ang]; rfl
theorem sinB : k0_pay11 (F := Ideal) b (col l) = val_main_v12 (F := Ideal) b l := by
  unfold k0_pay11; rw [ang']; rfl
theorem cosB : k0_pay12 (F := Ideal) b (col l) = val_main_v13 (F := Ideal) b l := by
  unfold k0_pay12; rw [ang']; rfl

/-- The discrete eigenvalue, the squared modulus, and the quotients `z`. -/
theorem barIm : k0_pay13 (F := Ideal) a b (col l) = val_main_v14 (F := Ideal) a b l := by
  unfold k0_pay13; rw [mag, sinB]; rfl
theorem barRe : k0_pay14 (F := Ideal) a b (col l) = val_main_v16 (F := Ideal) a b l := by
  unfold k0_pay14; rw [mag, cosA]; rfl
theorem den : k0_pay15 (F := Ideal) a b = val_main_v19 (F := Ideal) a b := rfl
theorem numRe : k0_pay16 (F := Ideal) a b (col l) = val_main_v22 (F := Ideal) a b l := by
  unfold k0_pay16; rw [barRe, barIm]; rfl
theorem zRe : k0_pay17 (F := Ideal) a b (col l) = val_main_v23 (F := Ideal) a b l := by
  unfold k0_pay17; rw [numRe, den]; rfl
theorem inv : k0_pay18 (F := Ideal) a b = val_main_v26 (F := Ideal) a b := by
  unfold k0_pay18; rw [den]; rfl
theorem numIm : k0_pay19 (F := Ideal) a b (col l) = val_main_v29 (F := Ideal) a b l := by
  unfold k0_pay19; rw [barRe, barIm]; rfl
theorem zIm : k0_pay20 (F := Ideal) a b (col l) = val_main_v30 (F := Ideal) a b l := by
  unfold k0_pay20; rw [numIm, den]; rfl
theorem inv' : k0_pay21 (F := Ideal) a b = val_main_v33 (F := Ideal) a b := by
  unfold k0_pay21; rw [den]; rfl

/-- A negation written as a difference from zero. -/
theorem zero_subf (f : S32x64.Idx → EReal) :
    subf (F := Ideal) (φ := .f32) (broadcast S32x64 (Scalar.ofBits .f32 0x00000000#32)) f = Host.negf (F := Ideal) (φ := .f32) f := ext2 fun g s => by
  pointwise
  exact zero_sub _

/-- The gradients of the two quotients, summed over a group's inputs. -/
theorem dzRe : k0_pay30 (F := Ideal) (k0_pay3 (tr p)) (k0_pay4 (tr q)) (tr gp) (tr gq) = val_main_v71 (F := Ideal) p q gp gq := ext2 fun g s => by
  unfold k0_pay30 k0_pay3 k0_pay4 k0_pay27 k0_pay28 k0_pay26
  unfold val_main_v71 val_main_v70 val_main_v69 val_main_v68 val_main_v67 val_main_v63 val_main_v55 val_main_v54 val_main_v53
    val_main_v52 val_main_v49 val_main_cst_2 val_main_cst_3 val_main_cst_6 val_main_cst_7
  pointwise
  simp only [zero_sub]
  rfl
theorem dzIm : k0_pay32 (F := Ideal) (k0_pay3 (tr p)) (k0_pay4 (tr q)) (tr gp) (tr gq) = val_main_v79 (F := Ideal) p q gp gq := ext2 fun g s => by
  unfold k0_pay32 k0_pay3 k0_pay4 k0_pay27 k0_pay26
  unfold val_main_v79 val_main_v78 val_main_v77 val_main_v76 val_main_v75 val_main_v62 val_main_v61 val_main_v60 val_main_v59
    val_main_v58 val_main_v48 val_main_cst_4 val_main_cst_5 val_main_cst_8 val_main_cst_9
  pointwise
  rfl

/-- The gradients of numerators and squared modulus. -/
theorem dden : k0_pay33 (F := Ideal) (k0_pay3 (tr p)) (k0_pay4 (tr q)) (k0_pay19 a b (col l)) (k0_pay21 a b) (tr gp) (tr gq)
    = val_main_v82 (F := Ideal) a b l p q gp gq := by
  unfold k0_pay33
  rw [dzRe, inv', numIm]
  exact zero_subf _
theorem dnIm : k0_pay34 (F := Ideal) (val_main_v19 (F := Ideal) a b) (val_main_v71 (F := Ideal) p q gp gq)
    = val_main_v83 (F := Ideal) a b p q gp gq := rfl
theorem dnIm' : k0_pay35 (F := Ideal) (val_main_v19 (F := Ideal) a b) (val_main_v71 (F := Ideal) p q gp gq)
    = val_main_v84 (F := Ideal) a b p q gp gq := by
  unfold k0_pay35
  rw [dnIm]
  exact zero_subf _
theorem dden2 : k0_pay36 (F := Ideal) (val_main_v22 (F := Ideal) a b l) (val_main_v26 (F := Ideal) a b)
      (val_main_v79 (F := Ideal) p q gp gq) (val_main_v82 (F := Ideal) a b l p q gp gq)
    = val_main_v94 (F := Ideal) a b l p q gp gq := by
  unfold k0_pay36
  exact congrArg (addf (F := Ideal) (φ := .f32) _) (zero_subf _)
theorem dnRe : k0_pay37 (F := Ideal) (val_main_v19 (F := Ideal) a b) (val_main_v79 (F := Ideal) p q gp gq)
    = val_main_v95 (F := Ideal) a b p q gp gq := rfl
theorem dbarIm : k0_pay38 (F := Ideal) a b (val_main_v19 (F := Ideal) a b) gi (val_main_v71 (F := Ideal) p q gp gq)
      (val_main_v79 (F := Ideal) p q gp gq) = val_main_v99 (F := Ideal) a b p q gi gp gq := by
  unfold k0_pay38; rw [dnIm, dnRe]; rfl
theorem dbarRe : k0_pay39 (F := Ideal) a b (val_main_v19 (F := Ideal) a b) gr (val_main_v71 (F := Ideal) p q gp gq)
      (val_main_v79 (F := Ideal) p q gp gq) = val_main_v103 (F := Ideal) a b p q gr gp gq := by
  unfold k0_pay39; rw [dnIm', dnRe]; rfl
theorem dsin : k0_pay41 (F := Ideal) a b (val_main_v4 (F := Ideal) a l) (val_main_v13 (F := Ideal) b l) (val_main_v19 (F := Ideal) a b) gi
      (val_main_v71 (F := Ideal) p q gp gq) (val_main_v79 (F := Ideal) p q gp gq) = val_main_v114 (F := Ideal) a b l p q gi gp gq := by
  unfold k0_pay41; rw [dbarIm]; rfl
theorem dcos : k0_pay42 (F := Ideal) a b (val_main_v4 (F := Ideal) a l) (val_main_v8 (F := Ideal) b l) (val_main_v19 (F := Ideal) a b) gr
      (val_main_v71 (F := Ideal) p q gp gq) (val_main_v79 (F := Ideal) p q gp gq) = val_main_v125 (F := Ideal) a b l p q gr gp gq := by
  unfold k0_pay42
  rw [dbarRe]
  exact congrArg (fun z => mulf (F := Ideal) (φ := .f32) z (val_main_v8 (F := Ideal) b l)) (zero_subf _)
theorem dexp : k0_pay45 (F := Ideal) a b (val_main_v4 (F := Ideal) a l) (val_main_v7 (F := Ideal) b l) (val_main_v12 (F := Ideal) b l)
      (val_main_v19 (F := Ideal) a b) gr gi (val_main_v71 (F := Ideal) p q gp gq) (val_main_v79 (F := Ideal) p q gp gq)
    = val_main_v133 (F := Ideal) a b l p q gr gi gp gq := by
  unfold k0_pay45; rw [dbarRe, dbarIm]; rfl

/-- The step sizes, spread over the states. -/
theorem dtRow : broadcastTo S32x64 (k0_pay5 (F := Ideal) (col l)) broadcasts_S32x1_S32x64 = val_main_v138 (F := Ideal) l := ext2 fun g s => by
  unfold val_main_v138 val_main_v1 val_main_v0
  pointwise
  exact dt_at l g

/-- The body's five results are the reference's: the gradients of the eigenvalues' real and imaginary parts, of the step sizes (as a
    column) and of the input matrix's two parts (their last two axes exchanged). -/
theorem out_re : out0_9 (F := Ideal) a b (col l) (tr p) (tr q) gr gi (tr gp) (tr gq) = val_main_v140 (F := Ideal) a b l p q gr gi gp gq := by
  unfold out0_9
  rw [View.canon_unit_zero hz]
  unfold k0_pay62 k0_pay61 k0_pay60 k0_pay59 k0_pay58 k0_pay57 k0_pay56 k0_pay55 k0_pay53 k0_pay51 k0_pay50 k0_pay49 k0_pay48 k0_pay47
  simp only [View.ld_unit_zero (S := S32x64) hz, View.ld_unit_zero (S := S32x1) hz, View.ld_unit_zero (S := S32x16x64) hz3]
  rw [dzRe, dzIm, dden, mag, cosA, sinB, den, inv, barIm, barRe, numRe, dexp]
  unfold k0_pay1 k0_pay40
  dsimp only
  rw [dtRow, dnIm, dnRe, dden2]
  rfl
theorem out_im : out0_10 (F := Ideal) a b (col l) (tr p) (tr q) gr gi (tr gp) (tr gq) = val_main_v132 (F := Ideal) a b l p q gr gi gp gq := by
  unfold out0_10
  rw [View.canon_unit_zero hz]
  unfold k0_pay62 k0_pay61 k0_pay60 k0_pay59 k0_pay58 k0_pay57 k0_pay56 k0_pay55 k0_pay54 k0_pay52 k0_pay50 k0_pay49 k0_pay48 k0_pay47
  simp only [View.ld_unit_zero (S := S32x64) hz, View.ld_unit_zero (S := S32x1) hz, View.ld_unit_zero (S := S32x16x64) hz3]
  rw [dzRe, dzIm, dden, mag, cosB, sinA, den, inv, barIm, barRe, numRe]
  unfold k0_pay44
  dsimp only
  rw [dtRow, dnIm', dnRe, dden2, dsin, dcos]
  rfl
theorem out_dt : out0_11 (F := Ideal) a b (col l) (tr p) (tr q) gr gi (tr gp) (tr gq) = val_main_v143 (F := Ideal) a b l p q gr gi gp gq := by
  unfold out0_11
  rw [View.canon_unit_zero hz]
  unfold k0_pay61 k0_pay60 k0_pay57 k0_pay54 k0_pay53 k0_pay52 k0_pay51 k0_pay50 k0_pay49 k0_pay48 k0_pay47
  simp only [View.ld_unit_zero (S := S32x64) hz, View.ld_unit_zero (S := S32x1) hz, View.ld_unit_zero (S := S32x16x64) hz3]
  rw [dzRe, dzIm, mag, cosA, cosB, sinA, sinB, den]
  unfold k0_pay2 k0_pay43 k0_pay46
  dsimp only
  rw [dexp, dsin, dcos]
  funext i
  obtain ⟨g, z, rfl⟩ := ex2 i
  obtain rfl : z = 0 := Subsingleton.elim _ _
  unfold val_main_v143 val_main_v142 val_main_v141 val_main_v137 val_main_v136 val_main_v135 val_main_v134 val_main_v129 val_main_v128
    val_main_v127 val_main_v126 val_main_v117 val_main_v116 val_main_v115 val_main_v0 val_main_cst_10 val_main_cst_11 val_main_cst_12
    val_main_cst_13
  pointwise
  rw [dt_at]
  simp only [Fin.sum_univ_one]
theorem out_bre : out0_12 (F := Ideal) a b (col l) (tr p) (tr q) gr gi (tr gp) (tr gq) = val_main_v144 (F := Ideal) a b l gp gq := by
  unfold out0_12
  rw [View.canon_unit_zero hz3]
  simp only [View.ld_unit_zero (S := S32x64) hz, View.ld_unit_zero (S := S32x1) hz, View.ld_unit_zero (S := S32x16x64) hz3]
  funext i
  obtain ⟨g, k, s, rfl⟩ := ex3 i
  unfold k0_pay31 k0_pay22 k0_pay25 k0_pay26 k0_pay27
  rw [zRe, zIm]
  unfold val_main_v144 val_main_v74 val_main_v73 val_main_v72 val_main_v34 val_main_v62 val_main_v51 val_main_v50 val_main_v49 val_main_v44
  pointwise
  rfl
theorem out_bim : out0_13 (F := Ideal) a b (col l) (tr p) (tr q) gr gi (tr gp) (tr gq) = val_main_v145 (F := Ideal) a b l gp gq := by
  unfold out0_13
  rw [View.canon_unit_zero hz3]
  simp only [View.ld_unit_zero (S := S32x64) hz, View.ld_unit_zero (S := S32x1) hz, View.ld_unit_zero (S := S32x16x64) hz3]
  funext i
  obtain ⟨g, k, s, rfl⟩ := ex3 i
  unfold k0_pay29 k0_pay23 k0_pay24 k0_pay28 k0_pay26 k0_pay27
  rw [zRe, zIm]
  unfold val_main_v145 val_main_v66 val_main_v65 val_main_v64 val_main_v63 val_main_v57 val_main_v56 val_main_v48 val_main_v41 val_main_v37
  pointwise
  simp only [zero_sub]
  rfl

end Cert.Proof.Spb
end
-- ==== Proof.SpbClaims.lean ====
/- What `ssm_param_bwd` leaves in its five result arrays, and the claims of the pair Spb. -/
module

public import proofs.«01_k».proof.Defs
public import proofs.«01_k».proof.Proof.SpbStep
public import proofs.«01_k».proof.Proof.Gen.Spb.Frame
public import Idealize.ShloMosaic.Lib.Pipeline.ValueKit.Geometry

@[expose] public section

set_option maxRecDepth 16384

noncomputable section

namespace Cert.Proof.Spb

open Cert.SpbIdeal Cert.SpbIdeal.Gen Idealize.ShloMosaic TcCoe Idealize.SL.Sem
open Cert.SpbRefIdeal.Read Cert.Proof.RealValues

variable (m : (ℓ : Loc nD τ sig) → Buf (Elt Ideal) ℓ) (c : Dev nD)

/-- The memory's argument arrays. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

/-- The host's layouts: the step sizes as a column, four arrays with their last two axes exchanged. -/
theorem V_col : V m c main_v2 = col (A2 m c) := by
  have : V m c main_v2 = shapeCast S32x1 (A2 m c) shapeCasts_S32_S32x1 := by
    unfold V hostOps0
    after_reads_simp
    rfl
  rw [this]
  funext i
  obtain ⟨g, z, rfl⟩ := ex2 i
  obtain rfl : z = 0 := Subsingleton.elim _ _
  pointwise
  rfl
theorem tr_eq (v : S32x64x16.Idx → EReal) : transpose S32x16x64 [0, 2, 1] v transposes_S32x64x16_S32x16x64_0_2_1 = tr v := by
  funext i
  obtain ⟨g, k, s, rfl⟩ := ex3 i
  pointwise
  rfl
theorem V_tr : V m c main_v0 = tr (A3 m c) ∧ V m c main_v1 = tr (A4 m c) ∧ V m c main_v3 = tr (A7 m c) ∧ V m c main_v4 = tr (A8 m c) := by
  unfold V hostOps0
  refine ⟨?_, ?_, ?_, ?_⟩ <;> after_reads_simp <;> exact tr_eq _

/-- A window over the whole of its array, at the one grid point. -/
theorem at0 (n y : ℕ) : 0 * n + 1 * y = y := by omega
theorem blocks (t : Fin cfg0.N) : iblk m c 0 t = A0 m c ∧ iblk m c 1 t = A1 m c ∧ iblk m c 2 t = col (A2 m c) ∧ iblk m c 3 t = tr (A3 m c)
    ∧ iblk m c 4 t = tr (A4 m c) ∧ iblk m c 5 t = A5 m c ∧ iblk m c 6 t = A6 m c ∧ iblk m c 7 t = tr (A7 m c) ∧ iblk m c 8 t = tr (A8 m c) :=
  ⟨funext fun y => (congrFun (V_main_arg0 m c) _).trans (congrArg _ (funext fun a => Fin.ext (at0 _ _))),
    funext fun y => (congrFun (V_main_arg1 m c) _).trans (congrArg _ (funext fun a => Fin.ext (at0 _ _))),
    funext fun y => (congrFun (V_col m c) _).trans (congrArg _ (funext fun a => Fin.ext (at0 _ _))),
    funext fun y => (congrFun ((V_tr m c).1) _).trans (congrArg _ (funext fun a => Fin.ext (at0 _ _))),
    funext fun y => (congrFun ((V_tr m c).2.1) _).trans (congrArg _ (funext fun a => Fin.ext (at0 _ _))),
    funext fun y => (congrFun (V_main_arg5 m c) _).trans (congrArg _ (funext fun a => Fin.ext (at0 _ _))),
    funext fun y => (congrFun (V_main_arg6 m c) _).trans (congrArg _ (funext fun a => Fin.ext (at0 _ _))),
    funext fun y => (congrFun ((V_tr m c).2.2.1) _).trans (congrArg _ (funext fun a => Fin.ext (at0 _ _))),
    funext fun y => (congrFun ((V_tr m c).2.2.2) _).trans (congrArg _ (funext fun a => Fin.ext (at0 _ _)))⟩

/-- The five result arrays after the run are the reference's values of the arguments. -/
theorem final_re : (dats m 0 c).arrAt 9 cfg0.N = val_main_v140 (A0 m c) (A1 m c) (A2 m c) (A3 m c) (A4 m c) (A5 m c) (A6 m c) (A7 m c) (A8 m c) := by
  refine (dats m 0 c).arrAt_eq_of_covers 9 _ (by decide +kernel) fun t hf y => ?_
  rw [after0_9, (blocks m c t).1, (blocks m c t).2.1, (blocks m c t).2.2.1, (blocks m c t).2.2.2.1, (blocks m c t).2.2.2.2.1,
    (blocks m c t).2.2.2.2.2.1, (blocks m c t).2.2.2.2.2.2.1, (blocks m c t).2.2.2.2.2.2.2.1, (blocks m c t).2.2.2.2.2.2.2.2, out_re]
  exact congrArg (val_main_v140 (A0 m c) (A1 m c) (A2 m c) (A3 m c) (A4 m c) (A5 m c) (A6 m c) (A7 m c) (A8 m c)) (funext fun a => Fin.ext (at0 _ _).symm)
theorem final_im : (dats m 0 c).arrAt 10 cfg0.N = val_main_v132 (A0 m c) (A1 m c) (A2 m c) (A3 m c) (A4 m c) (A5 m c) (A6 m c) (A7 m c) (A8 m c) := by
  refine (dats m 0 c).arrAt_eq_of_covers 10 _ (by decide +kernel) fun t hf y => ?_
  rw [after0_10, (blocks m c t).1, (blocks m c t).2.1, (blocks m c t).2.2.1, (blocks m c t).2.2.2.1, (blocks m c t).2.2.2.2.1,
    (blocks m c t).2.2.2.2.2.1, (blocks m c t).2.2.2.2.2.2.1, (blocks m c t).2.2.2.2.2.2.2.1, (blocks m c t).2.2.2.2.2.2.2.2, out_im]
  exact congrArg (val_main_v132 (A0 m c) (A1 m c) (A2 m c) (A3 m c) (A4 m c) (A5 m c) (A6 m c) (A7 m c) (A8 m c)) (funext fun a => Fin.ext (at0 _ _).symm)
theorem final_dt : (dats m 0 c).arrAt 11 cfg0.N = val_main_v143 (A0 m c) (A1 m c) (A2 m c) (A3 m c) (A4 m c) (A5 m c) (A6 m c) (A7 m c) (A8 m c) := by
  refine (dats m 0 c).arrAt_eq_of_covers 11 _ (by decide +kernel) fun t hf y => ?_
  rw [after0_11, (blocks m c t).1, (blocks m c t).2.1, (blocks m c t).2.2.1, (blocks m c t).2.2.2.1, (blocks m c t).2.2.2.2.1,
    (blocks m c t).2.2.2.2.2.1, (blocks m c t).2.2.2.2.2.2.1, (blocks m c t).2.2.2.2.2.2.2.1, (blocks m c t).2.2.2.2.2.2.2.2, out_dt]
  exact congrArg (val_main_v143 (A0 m c) (A1 m c) (A2 m c) (A3 m c) (A4 m c) (A5 m c) (A6 m c) (A7 m c) (A8 m c)) (funext fun a => Fin.ext (at0 _ _).symm)
theorem final_bre : (dats m 0 c).arrAt 12 cfg0.N = val_main_v144 (A0 m c) (A1 m c) (A2 m c) (A7 m c) (A8 m c) := by
  refine (dats m 0 c).arrAt_eq_of_covers 12 _ (by decide +kernel) fun t hf y => ?_
  rw [after0_12, (blocks m c t).1, (blocks m c t).2.1, (blocks m c t).2.2.1, (blocks m c t).2.2.2.1, (blocks m c t).2.2.2.2.1,
    (blocks m c t).2.2.2.2.2.1, (blocks m c t).2.2.2.2.2.2.1, (blocks m c t).2.2.2.2.2.2.2.1, (blocks m c t).2.2.2.2.2.2.2.2, out_bre]
  exact congrArg (val_main_v144 (A0 m c) (A1 m c) (A2 m c) (A7 m c) (A8 m c)) (funext fun a => Fin.ext (at0 _ _).symm)
theorem final_bim : (dats m 0 c).arrAt 13 cfg0.N = val_main_v145 (A0 m c) (A1 m c) (A2 m c) (A7 m c) (A8 m c) := by
  refine (dats m 0 c).arrAt_eq_of_covers 13 _ (by decide +kernel) fun t hf y => ?_
  rw [after0_13, (blocks m c t).1, (blocks m c t).2.1, (blocks m c t).2.2.1, (blocks m c t).2.2.2.1, (blocks m c t).2.2.2.2.1,
    (blocks m c t).2.2.2.2.2.1, (blocks m c t).2.2.2.2.2.2.1, (blocks m c t).2.2.2.2.2.2.2.1, (blocks m c t).2.2.2.2.2.2.2.2, out_bim]
  exact congrArg (val_main_v145 (A0 m c) (A1 m c) (A2 m c) (A7 m c) (A8 m c)) (funext fun a => Fin.ext (at0 _ _).symm)

/-- Kernel and reference compute the same five functions of any arguments over the extended reals. -/
theorem algebraic : Cert.algebraic_SpbIdeal_SpbRefIdeal := by
  intro m g m' g' hpre hargs
  refine ⟨fun c => _, fun c => _, fun c => _, fun c => _, fun c => _,
    (θ_run Cert.SpbIdeal.defs _ _).mono (fun r h c => ⟨((h c).1 9).trans (final_re m c), ((h c).1 10).trans (final_im m c),
      ((h c).1 11).trans (final_dt m c), ((h c).1 12).trans (final_bre m c), ((h c).1 13).trans (final_bim m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m g),
    (θ_run Cert.SpbRefIdeal.defs _ _).mono (fun r h c => ?_) (Cert.SpbRefIdeal.Value.run m' g')⟩
  obtain ⟨h0, h1, h2, h3, h4, hr⟩ := h c
  obtain ⟨k0, k1, k2, k3, k4, k5, k6, k7, k8⟩ := hargs c
  have e : ∀ {a a' : Buf (Elt Ideal) ((c : Thread nD τ).loc main_arg0)} {b b'} {l l'} {p p'} {q q'} {r r'} {s s'} {x x'} {y y'},
      a = a' → b = b' → l = l' → p = p' → q = q' → r = r' → s = s' → x = x' → y = y' →
      val_main_v140 a b l p q r s x y = val_main_v140 a' b' l' p' q' r' s' x' y'
      ∧ val_main_v132 a b l p q r s x y = val_main_v132 a' b' l' p' q' r' s' x' y'
      ∧ val_main_v143 a b l p q r s x y = val_main_v143 a' b' l' p' q' r' s' x' y'
      ∧ val_main_v144 a b l x y = val_main_v144 a' b' l' x' y'
      ∧ val_main_v145 a b l x y = val_main_v145 a' b' l' x' y' := by
    rintro _ _ _ _ _ _ _ _ _ _ _ _ _ _ _ _ _ _ rfl rfl rfl rfl rfl rfl rfl rfl rfl
    exact ⟨rfl, rfl, rfl, rfl, rfl⟩
  obtain ⟨e0, e1, e2, e3, e4⟩ := e k0 k1 k2 k3 k4 k5 k6 k7 k8
  exact ⟨h0.trans e0, h1.trans e1, h2.trans e2, h3.trans e3, h4.trans e4, hr⟩

/-- The reference terminates, leaves its arguments and every counter at zero. -/
theorem frame_ref : Cert.quiescent_SpbRefIdeal := fun m g _ =>
  (θ_run Cert.SpbRefIdeal.defs _ _).mono (fun r h => ⟨fun c => (h c).2.2.2.2.2, Idealize.ShloMosaic.sem_eq_zero_of_no_sems (by decide) r.2⟩)
    (Cert.SpbRefIdeal.Value.run m g)

theorem frame_kernel : Cert.quiescent_Spb := fun m g _ => Cert.Spb.Gen.frame m g
theorem frame_ideal : Cert.quiescent_SpbIdeal := fun m g _ => Cert.SpbIdeal.Gen.frame m g

end Cert.Proof.Spb
end
-- ==== Proof.AttFrames.lean ====
/- The frames of the three attentions' programs, and that their mask is what the float stands for. -/
module

public import proofs.«01_k».proof.Defs
public import proofs.«01_k».proof.Proof.Gen.Att1.Frame
public import proofs.«01_k».proof.Proof.Gen.Att1Ideal.Frame
public import proofs.«01_k».proof.Proof.Gen.Att4.Frame
public import proofs.«01_k».proof.Proof.Gen.Att4Ideal.Frame
public import proofs.«01_k».proof.Proof.Gen.Att16.Frame
public import proofs.«01_k».proof.Proof.Gen.Att16Ideal.Frame
public import proofs.«01_k».proof.Proof.Gen.Att16RefIdeal.Run

@[expose] public section

set_option maxRecDepth 16384

noncomputable section

open Idealize.ShloMosaic TcCoe Idealize.SL.Sem

namespace Cert.Proof.Att1

theorem frame_kernel : Cert.quiescent_Att1 := fun m g _ => Cert.Att1.Gen.frame m g
theorem frame_ideal : Cert.quiescent_Att1Ideal := fun m g _ => Cert.Att1Ideal.Gen.frame m g
theorem frame_ref : Cert.quiescent_Att1RefIdeal := fun m g _ =>
  (θ_run Cert.Att1RefIdeal.defs _ _).mono (fun r h => ⟨fun c => (h c).2.2.2.2.2, Idealize.ShloMosaic.sem_eq_zero_of_no_sems (by decide) r.2⟩)
    (Cert.Att1RefIdeal.Value.run m g)
theorem preserves : Cert.preserves_Att1_Att1Ideal :=
  IdealRules.named_const.statement Cert.Att1Ideal.κ "mask" .f32 0xF149F2CA#32 ⊥ rfl

end Cert.Proof.Att1

namespace Cert.Proof.Att4

theorem frame_kernel : Cert.quiescent_Att4 := fun m g _ => Cert.Att4.Gen.frame m g
theorem frame_ideal : Cert.quiescent_Att4Ideal := fun m g _ => Cert.Att4Ideal.Gen.frame m g
theorem frame_ref : Cert.quiescent_Att4RefIdeal := fun m g _ =>
  (θ_run Cert.Att4RefIdeal.defs _ _).mono (fun r h => ⟨fun c => (h c).2.2.2.2.2, Idealize.ShloMosaic.sem_eq_zero_of_no_sems (by decide) r.2⟩)
    (Cert.Att4RefIdeal.Value.run m g)
theorem preserves : Cert.preserves_Att4_Att4Ideal :=
  IdealRules.named_const.statement Cert.Att4Ideal.κ "mask" .f32 0xF149F2CA#32 ⊥ rfl

end Cert.Proof.Att4

namespace Cert.Proof.Att16

theorem frame_kernel : Cert.quiescent_Att16 := fun m g _ => Cert.Att16.Gen.frame m g
theorem frame_ideal : Cert.quiescent_Att16Ideal := fun m g _ => Cert.Att16Ideal.Gen.frame m g
theorem frame_ref : Cert.quiescent_Att16RefIdeal := fun m g _ =>
  (θ_run Cert.Att16RefIdeal.defs _ _).mono (fun r h => ⟨fun c => (h c).2.2.2.2.2, Idealize.ShloMosaic.sem_eq_zero_of_no_sems (by decide) r.2⟩)
    (Cert.Att16RefIdeal.Value.run m g)
theorem preserves : Cert.preserves_Att16_Att16Ideal :=
  IdealRules.named_const.statement Cert.Att16Ideal.κ "mask" .f32 0xF149F2CA#32 ⊥ rfl

end Cert.Proof.Att16

end
-- ==== Proof.AttOps.lean ====
/-
  One tile of the banded attention, as the calls' bodies compute it: 128 queries of one head against the 256 keys of the block
  before and the block itself.

  `attn_fwd` computes for each tile the row maxima, the exponentials, the output and the row's log-sum; `attn_bwd` computes from
  the row's log-sum the weights again, and the tile's share of the three gradients. The bodies do this for 8 tiles of each of
  4 heads; this module states the operations once, on the tile's operands.
-/
module

public import proofs.«01_k».proof.Proof.Gen.Att1Ideal.Skeleton
public import proofs.«01_k».proof.Proof.RealValues
public import Idealize.ShloMosaic.Lib.Pipeline.ValueKit.Tiles

@[expose] public section

set_option maxRecDepth 16384

noncomputable section

namespace Cert.Proof.Att

open Cert.Att1Ideal Cert.Att1Ideal.Gen Idealize.ShloMosaic TcCoe Idealize.SL.Sem
open Cert.Proof.RealValues

/-- 128 queries, or 128 rows of a cotangent; 256 keys or values; a tile's scores; a column of 128 rows. -/
abbrev Rows := FVec Ideal S128x128 .bf16
abbrev Keys := FVec Ideal S256x128 .bf16
abbrev Scores := FVec Ideal S128x256 .f32
abbrev Col := FVec Ideal S128x1 .f32

section forward
variable (ok : IVec S128x256 1) (q : Rows) (k v : Keys)

/-- The scores, `-∞` outside of the band. -/
def maskedScores : Scores :=
  select ok (matmul dot_S128x128_S256x128_S128x256_1_1_0_0_n_n none q k (constant S128x256 .f32 0x00000000#32))
    (broadcast S128x256 (Named.named κ "mask" 0xF149F2CA#32 : Ideal .f32))

/-- Each row's maximum. -/
def rowMax : Col :=
  shapeCast S128x1 (multiReduction .maximumf [1] S128 (maskedScores ok q k) 0xFF800000#32 reduces_S128x256_S128 (.inl rfl) rfl)
    shapeCasts_S128_S128x1

/-- The exponentials of the scores over the row's maximum. -/
def expScores : Scores :=
  exp (subf (maskedScores ok q k) (broadcastTo S128x256 (rowMax ok q k) broadcasts_S128x1_S128x256))

/-- Each row's sum of exponentials. -/
def rowSum : Col :=
  shapeCast S128x1 (multiReduction .add [1] S128 (expScores ok q k) 0x00000000#32 reduces_S128x256_S128 (.inl rfl) rfl)
    shapeCasts_S128_S128x1

/-- The tile's output. -/
def tileOut : Rows :=
  truncf .bf16 (mulf (matmul dot_S128x256_S256x128_S128x128_1_0_0_1_n_n none (truncf .bf16 (expScores ok q k) bitsLt_bf16_f32) v
      (constant S128x128 .f32 0x00000000#32))
    (broadcastTo S128x128 (divf (broadcast S128x1 (Scalar.ofBits .f32 0x3F800000#32)) (rowSum ok q k)) broadcasts_S128x1_S128x128))
    bitsLt_bf16_f32

/-- The rows' log-sums, in 32 equal lanes. -/
def tileLse : FVec Ideal S128x32 .f32 :=
  broadcastTo S128x32 (shapeCast S128x1 (addf (rowMax ok q k) (log (rowSum ok q k))) shapeCasts_S128x1_S128x1)
    broadcasts_S128x1_S128x32

end forward

section backward
variable (ok : IVec S128x256 1) (q : Rows) (k v : Keys) (g : Rows) (dl l : Col)

/-- The weights, from the rows' log-sums. -/
def weights : Scores :=
  select ok (exp (subf (matmul dot_S128x128_S256x128_S128x256_1_1_0_0_n_n none q k (constant S128x256 .f32 0x00000000#32))
    (broadcastTo S128x256 l broadcasts_S128x1_S128x256))) (broadcast S128x256 (Scalar.ofBits .f32 0x00000000#32))

/-- The gradient of the scores. -/
def dScores : Scores :=
  mulf (weights ok q k l)
    (subf (matmul dot_S128x128_S256x128_S128x256_1_1_0_0_n_n none g v (constant S128x256 .f32 0x00000000#32))
      (broadcastTo S128x256 dl broadcasts_S128x1_S128x256))

/-- The queries' gradient. -/
def tileDq : Rows :=
  truncf .bf16 (matmul dot_S128x256_S256x128_S128x128_1_0_0_1_n_n none (truncf .bf16 (dScores ok q k v g dl l) bitsLt_bf16_f32) k
    (constant S128x128 .f32 0x00000000#32)) bitsLt_bf16_f32

/-- The tile's share of its keys' gradients, and of its values'. -/
def tileDk : FVec Ideal S256x128 .f32 :=
  matmul dot_S128x256_S128x128_S256x128_0_0_1_1_n_n none (truncf .bf16 (dScores ok q k v g dl l) bitsLt_bf16_f32) q
    (constant S256x128 .f32 0x00000000#32)
def tileDv : FVec Ideal S256x128 .f32 :=
  matmul dot_S128x256_S128x128_S256x128_0_0_1_1_n_n none (truncf .bf16 (weights ok q k l) bitsLt_bf16_f32) g
    (constant S256x128 .f32 0x00000000#32)

end backward

section next
variable (ok : IVec S128x128 1) (q k v g : Rows) (dl l : Col)

/-- The same of the next block's queries against this block's keys alone. -/
def weightsN : FVec Ideal S128x128 .f32 :=
  select ok (exp (subf (matmul dot_S128x128_S128x128_S128x128_1_1_0_0_n_n none q k (constant S128x128 .f32 0x00000000#32))
    (broadcastTo S128x128 l broadcasts_S128x1_S128x128))) (broadcast S128x128 (Scalar.ofBits .f32 0x00000000#32))
def dScoresN : FVec Ideal S128x128 .f32 :=
  mulf (weightsN ok q k l)
    (subf (matmul dot_S128x128_S128x128_S128x128_1_1_0_0_n_n none g v (constant S128x128 .f32 0x00000000#32))
      (broadcastTo S128x128 dl broadcasts_S128x1_S128x128))
def nextDk : FVec Ideal S128x128 .f32 :=
  matmul dot_S128x128_S128x128_S128x128_0_0_1_1_n_n none (truncf .bf16 (dScoresN ok q k v g dl l) bitsLt_bf16_f32) q
    (constant S128x128 .f32 0x00000000#32)
def nextDv : FVec Ideal S128x128 .f32 :=
  matmul dot_S128x128_S128x128_S128x128_0_0_1_1_n_n none (truncf .bf16 (weightsN ok q k l) bitsLt_bf16_f32) g
    (constant S128x128 .f32 0x00000000#32)

end next

/-- The two shares of a block's keys: as a tile's own block, and as the block before the next tile. -/
def addTiles (a b : FVec Ideal S256x128 .f32) : Rows :=
  truncf .bf16 (addf (extractStridedSlice S128x128 ![128, 0] a slices_S256x128_o128_0_S128x128)
    (extractStridedSlice S128x128 ![0, 0] b slices_S256x128_o0_0_S128x128)) bitsLt_bf16_f32
def addNext (a : FVec Ideal S256x128 .f32) (b : FVec Ideal S128x128 .f32) : Rows :=
  truncf .bf16 (addf (extractStridedSlice S128x128 ![128, 0] a slices_S256x128_o128_0_S128x128) b) bitsLt_bf16_f32

/-! ## The operands, as the bodies cut them out of the windows -/

section cuts
variable (h : Fin 4) (j : Fin 8)

theorem inb_rows (h : Fin 4) : ∀ a, ![0, h.val * 128] a + S1024x128.size a ≤ S1024x512.size a := by revert h; decide
theorem inb_prev (h : Fin 4) : ∀ a, ![0, h.val * 128] a + S128x128.size a ≤ S128x512.size a := by revert h; decide
theorem inb_lse (h : Fin 4) : ∀ a, ![0, h.val * 32] a + S1024x1.size a ≤ S1024x128.size a := by revert h; decide
theorem inb_lseN (h : Fin 4) : ∀ a, ![0, h.val * 32] a + S128x1.size a ≤ S128x128.size a := by revert h; decide
theorem inb_tile (h : Fin 4) (j : Fin 8) : ∀ a, ![j.val * 128, h.val * 128] a + S128x128.size a ≤ S1024x512.size a := by
  revert h j; decide
theorem inb_lanes (h : Fin 4) (j : Fin 8) : ∀ a, ![j.val * 128, h.val * 32] a + S128x32.size a ≤ S1024x128.size a := by
  revert h j; decide
theorem sl_rows (j : Fin 8) : S1024x128.Slices ![j.val * 128, 0] S128x128 := by revert j; decide
theorem sl_keys (j : Fin 8) : S1152x128.Slices ![j.val * 128, 0] S256x128 := by revert j; decide
theorem sl_col (j : Fin 8) : S1024x1.Slices ![j.val * 128, 0] S128x1 := by revert j; decide

def headCut (x : Vec Ideal S1024x512 .bf16) : FVec Ideal S1024x128 .bf16 :=
  View.ld x (Rect.unit (s := S1024x512) ![0, h.val * 128] S1024x128.size (inb_rows h))
def rowsNCut (x : Vec Ideal S128x512 .bf16) : Rows :=
  View.ld x (Rect.unit (s := S128x512) ![0, h.val * 128] S128x128.size (inb_prev h))
def rowsCut (x : Vec Ideal S1024x512 .bf16) : Rows :=
  extractStridedSlice S128x128 ![j.val * 128, 0] (headCut h x) (sl_rows j)
def allCut (x : Vec Ideal S1024x512 .bf16) (xp : Vec Ideal S128x512 .bf16) : FVec Ideal S1152x128 .bf16 :=
  concatenate S1152x128 0 [⟨S128x128, rowsNCut h xp⟩, ⟨S1024x128, headCut h x⟩] concatenates_S128x128_S1024x128_S1152x128_d0
def keysCut (x : Vec Ideal S1024x512 .bf16) (xp : Vec Ideal S128x512 .bf16) : Keys :=
  extractStridedSlice S256x128 ![j.val * 128, 0] (allCut h x xp) (sl_keys j)
def lastCut (x : Vec Ideal S1024x512 .bf16) (xp : Vec Ideal S128x512 .bf16) : Rows :=
  extractStridedSlice S128x128 ![1024, 0] (allCut h x xp) slices_S1152x128_o1024_0_S128x128
def lseCut (x : Vec Ideal S1024x128 .f32) : Col :=
  extractStridedSlice S128x1 ![j.val * 128, 0] (shapeCast S1024x1 (View.ld x (Rect.unit (s := S1024x128) ![0, h.val * 32]
    S1024x1.size (inb_lse h)) : FVec Ideal S1024x1 .f32) shapeCasts_S1024x1_S1024x1) (sl_col j)
def lseNCut (x : Vec Ideal S128x128 .f32) : Col :=
  shapeCast S128x1 (View.ld x (Rect.unit (s := S128x128) ![0, h.val * 32] S128x1.size (inb_lseN h)) : FVec Ideal S128x1 .f32)
    shapeCasts_S128x1_S128x1
def deltaCut (x o : Vec Ideal S1024x512 .bf16) : Col :=
  extractStridedSlice S128x1 ![j.val * 128, 0] (shapeCast S1024x1 (multiReduction .add [1] S1024
    (mulf (extf .f32 (headCut h x) bitsLt_bf16_f32) (extf .f32 (shapeCast S1024x128 (headCut h o) shapeCasts_S1024x128_S1024x128) bitsLt_bf16_f32))
    0x00000000#32 reduces_S1024x128_S1024 (.inl rfl) rfl) shapeCasts_S1024_S1024x1) (sl_col j)
def deltaNCut (x o : Vec Ideal S128x512 .bf16) : Col :=
  shapeCast S128x1 (multiReduction .add [1] S128
    (mulf (extf .f32 (rowsNCut h x) bitsLt_bf16_f32) (extf .f32 (shapeCast S128x128 (rowsNCut h o) shapeCasts_S128x128_S128x128) bitsLt_bf16_f32))
    0x00000000#32 reduces_S128x128_S128 (.inl rfl) rfl) shapeCasts_S128_S128x1

end cuts

/-! ## The masks -/

/-- Key `b` of a tile is in query `a`'s band: `a ≤ b ≤ a + 128`. -/
def band : IVec S128x256 1 :=
  ori (andi (cmpi .sge (iota .tc S128x256 32 [1] iota_S128x256_d1_w32) (broadcast S128x256 128#32))
      (cmpi .sle (subi (iota .tc S128x256 32 [1] iota_S128x256_d1_w32) (broadcast S128x256 128#32)) (iota .tc S128x256 32 [0] iota_S128x256_d0_w32)))
    (andi (cmpi .slt (iota .tc S128x256 32 [1] iota_S128x256_d1_w32) (broadcast S128x256 128#32))
      (cmpi .sge (iota .tc S128x256 32 [1] iota_S128x256_d1_w32) (iota .tc S128x256 32 [0] iota_S128x256_d0_w32)))
/-- The mask of tile `j`: of the first tile the block before only where there is one. -/
def tileMask (b : BitVec 1) (j : Fin 8) : IVec S128x256 1 :=
  if j.val = 0 then andi band (ori (cmpi .sge (iota .tc S128x256 32 [1] iota_S128x256_d1_w32) (broadcast S128x256 128#32)) (broadcast S128x256 b))
  else band
/-- The mask of the next block's queries, where there is one. -/
def nextMask (b : BitVec 1) : IVec S128x128 1 :=
  andi (cmpi .sge (iota .tc S128x128 32 [1] iota_S128x128_d1_w32) (iota .tc S128x128 32 [0] iota_S128x128_d0_w32)) (broadcast S128x128 b)

/-- The tiles in the order of the stores, the last first. -/
def hd (n : Fin 32) : Fin 4 := ⟨(31 - n.val) / 8, by omega⟩
def tl (n : Fin 32) : Fin 8 := ⟨(31 - n.val) % 8, by omega⟩

/-- A block of outputs stored tile by tile, and one of log-sums. -/
def tilesOf (T : Fin 4 → Fin 8 → Rows) : List (View.Piece (Elt Ideal) S1024x512 .bf16) :=
  List.ofFn fun n : Fin 32 =>
    ⟨Rect.unit (s := S1024x512) ![(tl n).val * 128, (hd n).val * 128] S128x128.size (inb_tile (hd n) (tl n)), T (hd n) (tl n)⟩
def lanesOf (T : Fin 4 → Fin 8 → FVec Ideal S128x32 .f32) : List (View.Piece (Elt Ideal) S1024x128 .f32) :=
  List.ofFn fun n : Fin 32 =>
    ⟨Rect.unit (s := S1024x128) ![(tl n).val * 128, (hd n).val * 32] S128x32.size (inb_lanes (hd n) (tl n)), T (hd n) (tl n)⟩

/-- A block's gradient of keys or values: the share of its own tile, and that of the next. -/
def shared (T : Fin 4 → Fin 8 → FVec Ideal S256x128 .f32) (N : Fin 4 → FVec Ideal S128x128 .f32) (h : Fin 4) (j : Fin 8) : Rows :=
  if hj : j.val < 7 then addTiles (T h j) (T h ⟨j.val + 1, by omega⟩) else addNext (T h j) (N h)

/-- What the stores leave: the tile of the index's row and column. -/
theorem tilesOf_apply (T : Fin 4 → Fin 8 → Rows) (h : Fin 4) (j : Fin 8) (a c : Fin 128) :
    View.canon (tilesOf T) (ix2 ⟨j.val * 128 + a.val, by omega⟩ ⟨h.val * 128 + c.val, by omega⟩) = T h j (ix2 a c) := by
  refine View.canon_ofFn_unit_eq_of_forall _ _ _ _ _ _ ⟨⟨31 - (h.val * 8 + j.val), by omega⟩, ?_⟩ fun n x hx => ?_
  · have e1 : (31 - (31 - (h.val * 8 + j.val))) / 8 = h.val := by omega
    have e2 : (31 - (31 - (h.val * 8 + j.val))) % 8 = j.val := by omega
    intro b
    match b with
    | 0 => show (31 - (31 - (h.val * 8 + j.val))) % 8 * 128 ≤ j.val * 128 + a.val ∧ j.val * 128 + a.val < (31 - (31 - (h.val * 8 + j.val))) % 8 * 128 + 128
           omega
    | 1 => show (31 - (31 - (h.val * 8 + j.val))) / 8 * 128 ≤ h.val * 128 + c.val ∧ h.val * 128 + c.val < (31 - (31 - (h.val * 8 + j.val))) / 8 * 128 + 128
           omega
  · have h0 : j.val * 128 + a.val = (31 - n.val) % 8 * 128 + (x 0).val := hx 0
    have h1 : h.val * 128 + c.val = (31 - n.val) / 8 * 128 + (x 1).val := hx 1
    have l0 : (x 0).val < 128 := (x 0).isLt
    have l1 : (x 1).val < 128 := (x 1).isLt
    have eh : hd n = h := Fin.ext (by show (31 - n.val) / 8 = h.val; omega)
    have ej : tl n = j := Fin.ext (by show (31 - n.val) % 8 = j.val; omega)
    have ex : x = ix2 a c := funext fun b => match b with
      | 0 => Fin.ext (by show (x 0).val = a.val; omega)
      | 1 => Fin.ext (by show (x 1).val = c.val; omega)
    rw [eh, ej, ex]

theorem lanesOf_apply (T : Fin 4 → Fin 8 → FVec Ideal S128x32 .f32) (h : Fin 4) (j : Fin 8) (a : Fin 128) (c : Fin 32) :
    View.canon (lanesOf T) (ix2 ⟨j.val * 128 + a.val, by omega⟩ ⟨h.val * 32 + c.val, by omega⟩) = T h j (ix2 a c) := by
  refine View.canon_ofFn_unit_eq_of_forall _ _ _ _ _ _ ⟨⟨31 - (h.val * 8 + j.val), by omega⟩, ?_⟩ fun n x hx => ?_
  · have e1 : (31 - (31 - (h.val * 8 + j.val))) / 8 = h.val := by omega
    have e2 : (31 - (31 - (h.val * 8 + j.val))) % 8 = j.val := by omega
    intro b
    match b with
    | 0 => show (31 - (31 - (h.val * 8 + j.val))) % 8 * 128 ≤ j.val * 128 + a.val ∧ j.val * 128 + a.val < (31 - (31 - (h.val * 8 + j.val))) % 8 * 128 + 128
           omega
    | 1 => show (31 - (31 - (h.val * 8 + j.val))) / 8 * 32 ≤ h.val * 32 + c.val ∧ h.val * 32 + c.val < (31 - (31 - (h.val * 8 + j.val))) / 8 * 32 + 32
           omega
  · have h0 : j.val * 128 + a.val = (31 - n.val) % 8 * 128 + (x 0).val := hx 0
    have h1 : h.val * 32 + c.val = (31 - n.val) / 8 * 32 + (x 1).val := hx 1
    have l0 : (x 0).val < 128 := (x 0).isLt
    have l1 : (x 1).val < 32 := (x 1).isLt
    have eh : hd n = h := Fin.ext (by show (31 - n.val) / 8 = h.val; omega)
    have ej : tl n = j := Fin.ext (by show (31 - n.val) % 8 = j.val; omega)
    have ex : x = ix2 a c := funext fun b => match b with
      | 0 => Fin.ext (by show (x 0).val = a.val; omega)
      | 1 => Fin.ext (by show (x 1).val = c.val; omega)
    rw [eh, ej, ex]

end Cert.Proof.Att

end
-- ==== Proof.AttMath.lean ====
/-
  The banded attention of one head over real numbers, block by block: 128 queries against the 256 keys of the block before and
  the block itself, of which query `a` sees the keys `a … a + 128`, and the gradients of the three arguments.

  The arguments are functions of the row's number in its sequence. The masked values are written so that a key that is not seen
  does not matter. The second half reads the extended reals that both programs compute with back to these functions.
-/
module

public import proofs.«01_k».proof.Proof.RealValues

@[expose] public section

noncomputable section

namespace Cert.Proof.Att

open Idealize.ShloMosaic Cert.Proof.RealValues

/-- Query `a` of block `n` sees key `b` of the 256: in the band, and not before the sequence's begin. -/
def Sees (n : ℕ) (a : Fin 128) (b : Fin 256) : Prop := (a.val ≤ b.val ∧ b.val ≤ a.val + 128) ∧ (0 < n ∨ 128 ≤ b.val)

instance (n : ℕ) (a : Fin 128) (b : Fin 256) : Decidable (Sees n a b) := inferInstanceAs (Decidable (_ ∧ _))

/-- The row of a block's query, and of its key. -/
def qrow (n : ℕ) (a : Fin 128) : ℕ := n * 128 + a.val
def krow (n : ℕ) (b : Fin 256) : ℕ := n * 128 + b.val - 128

/-- The key at the query's own place. -/
def own (a : Fin 128) : Fin 256 := ⟨128 + a.val, by omega⟩
def before (a : Fin 128) : Fin 256 := ⟨a.val, by omega⟩

theorem sees_own (n : ℕ) (a : Fin 128) : Sees n a (own a) :=
  ⟨⟨by show a.val ≤ 128 + a.val; omega, by show 128 + a.val ≤ a.val + 128; omega⟩, Or.inr (by show 128 ≤ 128 + a.val; omega)⟩

theorem seen_nonempty (n : ℕ) (a : Fin 128) : (Finset.univ.filter fun b => Sees n a b).Nonempty :=
  ⟨own a, Finset.mem_filter.2 ⟨Finset.mem_univ _, sees_own n a⟩⟩

section real
variable (Q K V G : ℕ → Fin 128 → ℝ) (n : ℕ)

def score (a : Fin 128) (b : Fin 256) : ℝ := ∑ e, Q (qrow n a) e * K (krow n b) e
/-- The greatest score that query `a` sees. -/
def top (a : Fin 128) : ℝ := (Finset.univ.filter fun b => Sees n a b).sup' (seen_nonempty n a) (score Q K n a)
def expo (a : Fin 128) (b : Fin 256) : ℝ := if Sees n a b then Real.exp (score Q K n a b - top Q K n a) else 0
def den (a : Fin 128) : ℝ := ∑ b, expo Q K n a b
def unnorm (a e : Fin 128) : ℝ := ∑ b, expo Q K n a b * V (krow n b) e
def out (a e : Fin 128) : ℝ := unnorm Q K V n a e / den Q K n a
def lse (a : Fin 128) : ℝ := top Q K n a + Real.log (den Q K n a)
/-- The weights, `do · v`, and `do · o`. -/
def wt (a : Fin 128) (b : Fin 256) : ℝ := expo Q K n a b / den Q K n a
def gv (a : Fin 128) (b : Fin 256) : ℝ := ∑ e, G (qrow n a) e * V (krow n b) e
def go (a : Fin 128) : ℝ := ∑ e, G (qrow n a) e * out Q K V n a e
def ds (a : Fin 128) (b : Fin 256) : ℝ := wt Q K n a b * (gv V G n a b - go Q K V G n a)
def dq (a e : Fin 128) : ℝ := ∑ b, ds Q K V G n a b * K (krow n b) e
def dkPart (b : Fin 256) (e : Fin 128) : ℝ := ∑ a, ds Q K V G n a b * Q (qrow n a) e
def dvPart (b : Fin 256) (e : Fin 128) : ℝ := ∑ a, wt Q K n a b * G (qrow n a) e
/-- A block's keys take a share from their own block's queries, and from the next block's where there is one. -/
def dk (nb : ℕ) (a e : Fin 128) : ℝ :=
  dkPart Q K V G n (own a) e + if n + 1 < nb then dkPart Q K V G (n + 1) (before a) e else 0
def dv (nb : ℕ) (a e : Fin 128) : ℝ :=
  dvPart Q K G n (own a) e + if n + 1 < nb then dvPart Q K G (n + 1) (before a) e else 0

theorem expo_own (a : Fin 128) : 0 < expo Q K n a (own a) := by
  unfold expo; rw [if_pos (sees_own n a)]; exact Real.exp_pos _

theorem expo_nonneg (a : Fin 128) (b : Fin 256) : 0 ≤ expo Q K n a b := by
  unfold expo; split
  · exact (Real.exp_pos _).le
  · exact le_rfl

theorem den_pos (a : Fin 128) : 0 < den Q K n a :=
  Finset.sum_pos' (fun b _ => expo_nonneg Q K n a b) ⟨own a, Finset.mem_univ _, expo_own Q K n a⟩

theorem den_ne (a : Fin 128) : den Q K n a ≠ 0 := (den_pos Q K n a).ne'

theorem expo_not {a : Fin 128} {b : Fin 256} (h : ¬Sees n a b) : expo Q K n a b = 0 := if_neg h

/-- A weight from the row's log-sum. -/
theorem wt_lse {a : Fin 128} {b : Fin 256} (h : Sees n a b) : Real.exp (score Q K n a b - lse Q K n a) = wt Q K n a b := by
  unfold wt expo lse
  rw [if_pos h, ← sub_sub, Real.exp_sub _ (Real.log _), Real.exp_log (den_pos Q K n a)]

/-- The output is the weighted mean of the values, so the row's gradients of the scores sum to zero. -/
theorem sum_ds (a : Fin 128) : ∑ b, ds Q K V G n a b = 0 := by
  have e1 : ∑ b, wt Q K n a b = 1 := by
    unfold wt; rw [← Finset.sum_div]; exact div_self (den_ne Q K n a)
  have e2 : ∑ b, wt Q K n a b * gv V G n a b = go Q K V G n a := by
    unfold gv go out unnorm wt
    simp only [Finset.mul_sum, Finset.sum_div]
    rw [Finset.sum_comm]
    exact Finset.sum_congr rfl fun e _ => Finset.sum_congr rfl fun b _ => by ring
  unfold ds
  simp only [mul_sub, Finset.sum_sub_distrib]
  rw [e2, ← Finset.sum_mul, e1, one_mul, sub_self]

end real

/-! ## Bits and small words -/

/-- A bit that says whether. -/
def bit (p : Prop) [Decidable p] : BitVec 1 := if p then 1#1 else 0#1

theorem bit_iff {p : Prop} [Decidable p] : bit p = 1#1 ↔ p := by unfold bit; split <;> simp_all
theorem bit_congr {p q : Prop} [Decidable p] [Decidable q] (h : p ↔ q) : bit p = bit q := by unfold bit; simp only [h]
theorem bit_and (p q : Prop) [Decidable p] [Decidable q] : IntOp.andi (bit p) (bit q) = bit (p ∧ q) := by
  unfold bit; by_cases hp : p <;> by_cases hq : q <;> simp [hp, hq, IntOp.andi]
theorem bit_or (p q : Prop) [Decidable p] [Decidable q] : IntOp.ori (bit p) (bit q) = bit (p ∨ q) := by
  unfold bit; by_cases hp : p <;> by_cases hq : q <;> simp [hp, hq, IntOp.ori]
theorem ofBool_bit (p : Prop) [Decidable p] (b : Bool) (h : b = true ↔ p) : BitVec.ofBool b = bit p := by
  unfold bit; by_cases hp : p
  · rw [if_pos hp, h.2 hp]; rfl
  · rw [if_neg hp, Bool.eq_false_iff.2 fun e => hp (h.1 e)]; rfl

theorem toInt_small {x : ℕ} (h : x < 32768) : (BitVec.ofNat 32 x).toInt = x := by
  rw [BitVec.toInt_eq_toNat_cond, BitVec.toNat_ofNat]; split <;> omega
theorem toInt_sub_small {x y : ℕ} (h : x < 32768) (h' : y < 32768) :
    (IntOp.subi (BitVec.ofNat 32 x) (BitVec.ofNat 32 y)).toInt = (x : ℤ) - y := by
  show (BitVec.ofNat 32 x - BitVec.ofNat 32 y).toInt = _
  rw [BitVec.toInt_eq_toNat_cond, BitVec.toNat_sub, BitVec.toNat_ofNat, BitVec.toNat_ofNat]; split <;> omega

theorem cmp_sge (x y : BitVec 32) : IntOp.cmpi .sge x y = bit (y.toInt ≤ x.toInt) := ofBool_bit _ _ (by simp [BitVec.sle])
theorem cmp_sle (x y : BitVec 32) : IntOp.cmpi .sle x y = bit (x.toInt ≤ y.toInt) := ofBool_bit _ _ (by simp [BitVec.sle])
theorem cmp_slt (x y : BitVec 32) : IntOp.cmpi .slt x y = bit (x.toInt < y.toInt) := ofBool_bit _ _ (by simp [BitVec.slt])
theorem cmp_sgt (x y : BitVec 32) : IntOp.cmpi .sgt x y = bit (y.toInt < x.toInt) := ofBool_bit _ _ (by simp [BitVec.slt])

/-! ## The extended reals -/

section ereal
variable (Q K V G : ℕ → Fin 128 → ℝ) (n : ℕ)

/-- A row of scores, `-∞` where the key is not seen. -/
def masked (a : Fin 128) (b : Fin 256) : EReal := if Sees n a b then ((score Q K n a b : ℝ) : EReal) else ⊥

theorem fold_masked (a : Fin 128) (f : Fin 256 → EReal) (hf : ∀ b, f b = masked Q K n a b) :
    (Finset.univ : Finset (Fin 256)).fold max ⊥ f = (top Q K n a : ℝ) := by
  rw [show f = masked Q K n a from funext hf]
  refine le_antisymm ?_ ?_
  · rw [Finset.fold_max_le]
    refine ⟨bot_le, fun b _ => ?_⟩
    unfold masked
    split
    · next h => exact EReal.coe_le_coe_iff.2 (Finset.le_sup' (score Q K n a) (Finset.mem_filter.2 ⟨Finset.mem_univ _, h⟩))
    · exact bot_le
  · obtain ⟨b, hb, e⟩ := Finset.exists_mem_eq_sup' (seen_nonempty n a) (score Q K n a)
    rw [Finset.le_fold_max]
    refine Or.inr ⟨b, Finset.mem_univ _, ?_⟩
    unfold masked
    rw [if_pos (Finset.mem_filter.1 hb).2]
    exact EReal.coe_le_coe_iff.2 e.le

/-- The greatest score is one of the row's. -/
theorem exists_top (a : Fin 128) : ∃ b, masked Q K n a b = (top Q K n a : ℝ) := by
  obtain ⟨b, hb, e⟩ := Finset.exists_mem_eq_sup' (seen_nonempty n a) (score Q K n a)
  exact ⟨b, by unfold masked; rw [if_pos (Finset.mem_filter.1 hb).2]; exact congrArg _ e.symm⟩

theorem exp_masked (a : Fin 128) (b : Fin 256) :
    Ideal.exp (masked Q K n a b - ((top Q K n a : ℝ) : EReal)) = (expo Q K n a b : ℝ) := by
  unfold masked expo
  split
  · rw [← EReal.coe_sub, Ideal.exp_coe]
  · rw [EReal.bot_sub, Ideal.exp_bot, EReal.coe_zero]

theorem log_den (a : Fin 128) : Ideal.log ((den Q K n a : ℝ) : EReal) = (Real.log (den Q K n a) : ℝ) := by
  rw [Ideal.log_coe, if_neg (not_le.2 (den_pos Q K n a))]

/-- A product with a factor that is zero where the key is not seen reads the other factor only where it is. -/
theorem seen_mul {a : Fin 128} {b : Fin 256} {p v : EReal} {pr vr : ℝ} (hp : p = ((pr : ℝ) : EReal)) (h0 : ¬Sees n a b → pr = 0)
    (hv : Sees n a b → v = ((vr : ℝ) : EReal)) : p * v = ((pr * vr : ℝ) : EReal) := by
  by_cases h : Sees n a b
  · rw [hp, hv h, EReal.coe_mul]
  · rw [hp, h0 h, zero_mul, EReal.coe_zero, zero_mul]

/-- A sum of such products. -/
theorem sum_real {ι : Type} [Fintype ι] (f : ι → EReal) (r : ι → ℝ) (h : ∀ k, f k = ((r k : ℝ) : EReal)) :
    ∑ k, f k = (∑ k, r k : ℝ) := by
  rw [coe_sum]; exact Finset.sum_congr rfl fun k _ => h k

end ereal

end Cert.Proof.Att

end
-- ==== Proof.AttTile.lean ====
/-
  What the bodies' operations on one tile compute, read at the extended reals: the functions of AttMath at the tile's block.
-/
module

public import proofs.«01_k».proof.Proof.AttOps
public import proofs.«01_k».proof.Proof.AttMath

@[expose] public section

set_option maxRecDepth 16384

noncomputable section

namespace Cert.Proof.Att

open Cert.Att1Ideal Cert.Att1Ideal.Gen Idealize.ShloMosaic TcCoe Idealize.SL.Sem
open Cert.Proof.RealValues

/-- The mask's constant stands for `-∞`. -/
theorem mask_bot : (Named.named (F := Ideal) (φ := .f32) κ "mask" 0xF149F2CA#32 : EReal) = ⊥ :=
  IdealRules.named_const.ideal_named_scalar _ _ _ _ rfl

theorem word_bot : Ideal.ofBits .f32 0xFF800000#32 = ⊥ := by simp [Ideal.ofBits, Ideal.ieee]

/-! ## The operations at an index -/

section reads
variable (ok : IVec S128x256 1) (q : Rows) (k v : Keys) (g : Rows) (dl l : Col) (a : Fin 128) (b : Fin 256) (e : Fin 128)

theorem maskedScores_apply : (maskedScores ok q k (ix2 a b) : EReal)
    = if ok (ix2 a b) = 1#1 then ∑ e : Fin 128, (q (ix2 a e) : EReal) * k (ix2 b e) else ⊥ := by
  unfold maskedScores
  pointwise
  rw [mask_bot]
  rfl

theorem rowMax_apply : (rowMax ok q k (ix2 a 0) : EReal)
    = (Finset.univ : Finset (Fin 256)).fold max ⊥ fun b => (maskedScores ok q k (ix2 a b) : EReal) := by
  unfold rowMax
  pointwise
  rw [word_bot]

theorem expScores_apply : (expScores ok q k (ix2 a b) : EReal)
    = Ideal.exp (maskedScores ok q k (ix2 a b) - rowMax ok q k (ix2 a 0)) := by
  unfold expScores
  pointwise

theorem rowSum_apply : (rowSum ok q k (ix2 a 0) : EReal) = ∑ b : Fin 256, (expScores ok q k (ix2 a b) : EReal) := by
  unfold rowSum
  pointwise

theorem tileOut_apply : (tileOut ok q k v (ix2 a e) : EReal)
    = (∑ b : Fin 256, (expScores ok q k (ix2 a b) : EReal) * v (ix2 b e)) * Ideal.div (Ideal.ofBits .f32 0x3F800000#32) (rowSum ok q k (ix2 a 0)) := by
  unfold tileOut
  pointwise

theorem tileLse_apply (c : Fin 32) : (tileLse ok q k (ix2 a c) : EReal) = rowMax ok q k (ix2 a 0) + Ideal.log (rowSum ok q k (ix2 a 0)) := by
  unfold tileLse
  pointwise

theorem weights_apply : (weights ok q k l (ix2 a b) : EReal)
    = if ok (ix2 a b) = 1#1 then Ideal.exp ((∑ e : Fin 128, (q (ix2 a e) : EReal) * k (ix2 b e)) - l (ix2 a 0))
      else Ideal.ofBits .f32 0x00000000#32 := by
  unfold weights
  pointwise
  rfl

theorem dScores_apply : (dScores ok q k v g dl l (ix2 a b) : EReal)
    = weights ok q k l (ix2 a b) * ((∑ e : Fin 128, (g (ix2 a e) : EReal) * v (ix2 b e)) - dl (ix2 a 0)) := by
  unfold dScores
  pointwise

theorem tileDq_apply : (tileDq ok q k v g dl l (ix2 a e) : EReal)
    = ∑ b : Fin 256, (dScores ok q k v g dl l (ix2 a b) : EReal) * k (ix2 b e) := by
  unfold tileDq
  pointwise

theorem tileDk_apply : (tileDk ok q k v g dl l (ix2 b e) : EReal)
    = ∑ a : Fin 128, (dScores ok q k v g dl l (ix2 a b) : EReal) * q (ix2 a e) := by
  unfold tileDk
  pointwise

theorem tileDv_apply : (tileDv ok q k g l (ix2 b e) : EReal)
    = ∑ a : Fin 128, (weights ok q k l (ix2 a b) : EReal) * g (ix2 a e) := by
  unfold tileDv
  pointwise

end reads

section readsNext
variable (ok : IVec S128x128 1) (q k v g : Rows) (dl l : Col) (a b e : Fin 128)

theorem weightsN_apply : (weightsN ok q k l (ix2 a b) : EReal)
    = if ok (ix2 a b) = 1#1 then Ideal.exp ((∑ e : Fin 128, (q (ix2 a e) : EReal) * k (ix2 b e)) - l (ix2 a 0))
      else Ideal.ofBits .f32 0x00000000#32 := by
  unfold weightsN
  pointwise
  rfl

theorem dScoresN_apply : (dScoresN ok q k v g dl l (ix2 a b) : EReal)
    = weightsN ok q k l (ix2 a b) * ((∑ e : Fin 128, (g (ix2 a e) : EReal) * v (ix2 b e)) - dl (ix2 a 0)) := by
  unfold dScoresN
  pointwise

theorem nextDk_apply : (nextDk ok q k v g dl l (ix2 b e) : EReal)
    = ∑ a : Fin 128, (dScoresN ok q k v g dl l (ix2 a b) : EReal) * q (ix2 a e) := by
  unfold nextDk
  pointwise

theorem nextDv_apply : (nextDv ok q k g l (ix2 b e) : EReal)
    = ∑ a : Fin 128, (weightsN ok q k l (ix2 a b) : EReal) * g (ix2 a e) := by
  unfold nextDv
  pointwise

theorem addTiles_apply (x y : FVec Ideal S256x128 .f32) : (addTiles x y (ix2 a e) : EReal) = x (ix2 (own a) e) + y (ix2 (before a) e) := by
  unfold addTiles
  pointwise
  rfl

theorem addNext_apply (x : FVec Ideal S256x128 .f32) (y : FVec Ideal S128x128 .f32) :
    (addNext x y (ix2 a e) : EReal) = x (ix2 (own a) e) + y (ix2 a e) := by
  unfold addNext
  pointwise
  rfl

end readsNext

/-! ## The operands at an index -/

section cuts
variable (h : Fin 4) (j : Fin 8) (a e : Fin 128)

/-- The window's row and column of a tile's row, and of a head's feature. -/
def wrow (j : Fin 8) (a : Fin 128) : Fin 1024 := ⟨j.val * 128 + a.val, by omega⟩
def wcol (h : Fin 4) (e : Fin 128) : Fin 512 := ⟨h.val * 128 + e.val, by omega⟩
/-- A log-sum's first lane. -/
def lane (h : Fin 4) : Fin 128 := ⟨h.val * 32, by omega⟩

theorem headCut_apply (x : Vec Ideal S1024x512 .bf16) (r : Fin 1024) : headCut h x (ix2 r e) = x (ix2 r (wcol h e)) :=
  View.ld_unit_apply_of _ _ _ _ _ _ fun b => match b with
    | 0 => (Nat.zero_add _).symm
    | 1 => rfl

theorem rowsNCut_apply (x : Vec Ideal S128x512 .bf16) : rowsNCut h x (ix2 a e) = x (ix2 a (wcol h e)) :=
  View.ld_unit_apply_of _ _ _ _ _ _ fun b => match b with
    | 0 => (Nat.zero_add _).symm
    | 1 => rfl

theorem rowsCut_apply (x : Vec Ideal S1024x512 .bf16) : rowsCut h j x (ix2 a e) = x (ix2 (wrow j a) (wcol h e)) :=
  (extractStridedSlice_apply _ _ _ _ (ix2 (wrow j a) e) fun b => match b with
    | 0 => rfl
    | 1 => (Nat.zero_add _).symm).trans (headCut_apply h e x _)

theorem allCut_prev (x : Vec Ideal S1024x512 .bf16) (xp : Vec Ideal S128x512 .bf16) (r : Fin 1152) (hr : r.val = a.val) :
    allCut h x xp (ix2 r e) = xp (ix2 a (wcol h e)) :=
  (concatenate_apply_piece (t := S1152x128) 0 [⟨S128x128, rowsNCut h xp⟩, ⟨S1024x128, headCut h x⟩]
    concatenates_S128x128_S1024x128_S1152x128_d0 (ix2 r e) 0 Nat.two_pos S128x128 (rowsNCut h xp) rfl rfl 0 rfl (ix2 a e)
    (fun b hb => match b with
      | 0 => absurd rfl hb
      | 1 => rfl)
    ((Nat.zero_add _).trans hr.symm)).trans (rowsNCut_apply h a e xp)

theorem allCut_cur (x : Vec Ideal S1024x512 .bf16) (xp : Vec Ideal S128x512 .bf16) (r : Fin 1152) (s : Fin 1024) (hr : 128 + s.val = r.val) :
    allCut h x xp (ix2 r e) = x (ix2 s (wcol h e)) :=
  (concatenate_apply_piece (t := S1152x128) 0 [⟨S128x128, rowsNCut h xp⟩, ⟨S1024x128, headCut h x⟩]
    concatenates_S128x128_S1024x128_S1152x128_d0 (ix2 r e) 1 Nat.one_lt_two S1024x128 (headCut h x) rfl rfl 128 rfl (ix2 s e)
    (fun b hb => match b with
      | 0 => absurd rfl hb
      | 1 => rfl)
    hr).trans (headCut_apply h e x s)

theorem keysCut_all (x : Vec Ideal S1024x512 .bf16) (xp : Vec Ideal S128x512 .bf16) (b : Fin 256) :
    keysCut h j x xp (ix2 b e) = allCut h x xp (ix2 ⟨j.val * 128 + b.val, by omega⟩ e) :=
  extractStridedSlice_apply _ _ _ _ _ fun b => match b with
    | 0 => rfl
    | 1 => (Nat.zero_add _).symm

theorem lastCut_apply (x : Vec Ideal S1024x512 .bf16) (xp : Vec Ideal S128x512 .bf16) : lastCut h x xp (ix2 a e) = x (ix2 (wrow 7 a) (wcol h e)) :=
  (extractStridedSlice_apply _ _ _ _ (ix2 ⟨1024 + a.val, by omega⟩ e) fun b => match b with
    | 0 => rfl
    | 1 => (Nat.zero_add _).symm).trans (allCut_cur h e x xp _ _ (by show 128 + (7 * 128 + a.val) = 1024 + a.val; omega))

theorem lseCut_apply (x : Vec Ideal S1024x128 .f32) : lseCut h j x (ix2 a 0) = x (ix2 (wrow j a) (lane h)) := by
  refine (extractStridedSlice_apply _ _ _ _ (ix2 (wrow j a) 0) fun b => match b with
    | 0 => rfl
    | 1 => rfl).trans ?_
  refine (congrFun (shapeCast_self _ _) _).trans ?_
  exact View.ld_unit_apply_of _ _ _ _ _ _ fun b => match b with
    | 0 => (Nat.zero_add _).symm
    | 1 => rfl

theorem lseNCut_apply (x : Vec Ideal S128x128 .f32) : lseNCut h x (ix2 a 0) = x (ix2 a (lane h)) := by
  refine (congrFun (shapeCast_self _ _) _).trans ?_
  exact View.ld_unit_apply_of _ _ _ _ _ _ fun b => match b with
    | 0 => (Nat.zero_add _).symm
    | 1 => rfl

theorem deltaCut_apply (x o : Vec Ideal S1024x512 .bf16) :
    (deltaCut h j x o (ix2 a 0) : EReal) = ∑ e : Fin 128, (x (ix2 (wrow j a) (wcol h e)) : EReal) * o (ix2 (wrow j a) (wcol h e)) := by
  refine (extractStridedSlice_apply _ _ _ _ (ix2 (wrow j a) 0) fun b => match b with
    | 0 => rfl
    | 1 => rfl).trans ?_
  pointwise
  exact Finset.sum_congr rfl fun e _ => congrArg₂ (fun x y : EReal => x * y) (headCut_apply h e x _) (headCut_apply h e o _)

theorem deltaNCut_apply (x o : Vec Ideal S128x512 .bf16) :
    (deltaNCut h x o (ix2 a 0) : EReal) = ∑ e : Fin 128, (x (ix2 a (wcol h e)) : EReal) * o (ix2 a (wcol h e)) := by
  unfold deltaNCut
  pointwise
  exact Finset.sum_congr rfl fun e _ => congrArg₂ (fun x y : EReal => x * y) (rowsNCut_apply h a e x) (rowsNCut_apply h a e o)

end cuts

/-! ## The masks at an index -/

theorem band_apply (a : Fin 128) (b : Fin 256) : band (ix2 a b) = bit (a.val ≤ b.val ∧ b.val ≤ a.val + 128) := by
  unfold band
  pointwise
  rw [cmp_sge, cmp_sle, cmp_slt, cmp_sge, bit_and, bit_and, bit_or]
  refine bit_congr ?_
  rw [toInt_sub_small (by omega) (by omega), toInt_small (show b.val < 32768 by omega), toInt_small (show a.val < 32768 by omega),
    toInt_small (show 128 < 32768 by omega)]
  omega

/-- The word says whether the block has one before it. -/
theorem tileMask_apply (n : ℕ) (w : BitVec 1) (j : Fin 8) (hw : j.val = 0 → w = bit (0 < n)) (hj : j.val ≠ 0 → 0 < n)
    (a : Fin 128) (b : Fin 256) : tileMask w j (ix2 a b) = bit (Sees n a b) := by
  unfold tileMask
  split
  · next h =>
    pointwise
    rw [band_apply, cmp_sge, hw h, bit_or, bit_and]
    refine bit_congr ?_
    rw [toInt_small (show b.val < 32768 by omega), toInt_small (show 128 < 32768 by omega)]
    unfold Sees
    omega
  · next h =>
    rw [band_apply]
    refine bit_congr ?_
    have := hj h
    unfold Sees
    omega

/-- The word says whether there is a next block. -/
theorem nextMask_apply (w : BitVec 1) (p : Prop) [Decidable p] (hw : w = bit p) (n : ℕ) (a b : Fin 128) :
    nextMask w (ix2 a b) = bit (Sees (n + 1) a (before b) ∧ p) := by
  unfold nextMask
  pointwise
  rw [cmp_sge, hw, bit_and]
  refine bit_congr ?_
  rw [toInt_small (show b.val < 32768 by omega), toInt_small (show a.val < 32768 by omega)]
  unfold Sees before
  show _ ↔ ((a.val ≤ b.val ∧ b.val ≤ a.val + 128) ∧ _) ∧ p
  have := b.isLt
  constructor
  · rintro ⟨h, hp⟩; exact ⟨⟨⟨by omega, by omega⟩, Or.inl (by omega)⟩, hp⟩
  · rintro ⟨⟨⟨h, _⟩, _⟩, hp⟩; exact ⟨by omega, hp⟩

end Cert.Proof.Att
end
-- ==== Proof.AttTileValue.lean ====
/-
  A tile's results as real numbers: if the operands are real at the places that the tile's mask lets through, the operations of a
  tile give the casts of the functions of AttMath at the tile's block.
-/
module

public import proofs.«01_k».proof.Proof.AttTile

@[expose] public section

set_option maxRecDepth 16384

noncomputable section

namespace Cert.Proof.Att

open Cert.Att1Ideal Cert.Att1Ideal.Gen Idealize.ShloMosaic TcCoe Idealize.SL.Sem
open Cert.Proof.RealValues

/-- The operand holds rows of block `n` of a sequence; keys of the two blocks, where they are in the sequence. -/
def IsRows (x : Rows) (X : ℕ → Fin 128 → ℝ) (n : ℕ) : Prop := ∀ a e : Fin 128, (x (ix2 a e) : EReal) = ((X (qrow n a) e : ℝ) : EReal)
def IsKeys (x : Keys) (X : ℕ → Fin 128 → ℝ) (n : ℕ) : Prop :=
  ∀ (b : Fin 256) (e : Fin 128), (0 < n ∨ 128 ≤ b.val) → (x (ix2 b e) : EReal) = ((X (krow n b) e : ℝ) : EReal)
def IsCol (x : Col) (X : Fin 128 → ℝ) : Prop := ∀ a : Fin 128, (x (ix2 a 0) : EReal) = ((X a : ℝ) : EReal)
def IsMask (m : IVec S128x256 1) (n : ℕ) : Prop := ∀ (a : Fin 128) (b : Fin 256), m (ix2 a b) = bit (Sees n a b)

variable {Q K V G : ℕ → Fin 128 → ℝ} {n : ℕ} {ok : IVec S128x256 1} {q : Rows} {k v : Keys} {g : Rows} {dl l : Col}

theorem score_tile {x : Rows} {y : Keys} {X Y : ℕ → Fin 128 → ℝ} (hx : IsRows x X n) (hy : IsKeys y Y n) (a : Fin 128) (b : Fin 256)
    (h : Sees n a b) : ∑ e : Fin 128, (x (ix2 a e) : EReal) * y (ix2 b e) = ((∑ e, X (qrow n a) e * Y (krow n b) e : ℝ) : EReal) :=
  sum_real _ _ fun e => by rw [hx a e, hy b e h.2, EReal.coe_mul]

section forward
variable (hm : IsMask ok n) (hq : IsRows q Q n) (hk : IsKeys k K n)
include hm hq hk

theorem maskedScores_real (a : Fin 128) (b : Fin 256) : (maskedScores ok q k (ix2 a b) : EReal) = masked Q K n a b := by
  rw [maskedScores_apply, hm a b]
  unfold masked score
  by_cases h : Sees n a b
  · rw [if_pos (bit_iff.2 h), if_pos h, score_tile hq hk a b h]
  · rw [if_neg (mt bit_iff.1 h), if_neg h]

theorem rowMax_real (a : Fin 128) : (rowMax ok q k (ix2 a 0) : EReal) = ((top Q K n a : ℝ) : EReal) :=
  (rowMax_apply ok q k a).trans (fold_masked Q K n a _ fun b => maskedScores_real hm hq hk a b)

theorem expScores_real (a : Fin 128) (b : Fin 256) : (expScores ok q k (ix2 a b) : EReal) = (expo Q K n a b : ℝ) := by
  rw [expScores_apply, maskedScores_real hm hq hk, rowMax_real hm hq hk, exp_masked]

theorem rowSum_real (a : Fin 128) : (rowSum ok q k (ix2 a 0) : EReal) = ((den Q K n a : ℝ) : EReal) :=
  (rowSum_apply ok q k a).trans (sum_real _ _ fun b => expScores_real hm hq hk a b)

theorem tileLse_real (a : Fin 128) (c : Fin 32) : (tileLse ok q k (ix2 a c) : EReal) = (lse Q K n a : ℝ) := by
  rw [tileLse_apply, rowMax_real hm hq hk, rowSum_real hm hq hk, log_den, ← EReal.coe_add]
  rfl

theorem tileOut_real (hv : IsKeys v V n) (a e : Fin 128) : (tileOut ok q k v (ix2 a e) : EReal) = (out Q K V n a e : ℝ) := by
  have h : ∑ b : Fin 256, (expScores ok q k (ix2 a b) : EReal) * v (ix2 b e) = ((unnorm Q K V n a e : ℝ) : EReal) :=
    sum_real _ _ fun b => seen_mul (n := n) (a := a) (b := b) (expScores_real hm hq hk a b) (expo_not Q K n) fun h => hv b e h.2
  rw [tileOut_apply, h, rowSum_real hm hq hk, lit_one, div_real 1 (den_ne Q K n a), ← EReal.coe_mul, mul_one_div]
  rfl

end forward

section backward
variable (hm : IsMask ok n) (hq : IsRows q Q n) (hk : IsKeys k K n) (hl : IsCol l (lse Q K n))
include hm hq hk hl

theorem weights_real (a : Fin 128) (b : Fin 256) : (weights ok q k l (ix2 a b) : EReal) = (wt Q K n a b : ℝ) := by
  rw [weights_apply, hm a b]
  by_cases h : Sees n a b
  · rw [if_pos (bit_iff.2 h), score_tile hq hk a b h, hl a, ← EReal.coe_sub, Ideal.exp_coe, ← wt_lse Q K n h]
    rfl
  · rw [if_neg (mt bit_iff.1 h), lit_zero]
    unfold wt
    rw [expo_not Q K n h, zero_div]

theorem wt_not {a : Fin 128} {b : Fin 256} (h : ¬Sees n a b) : wt Q K n a b = 0 := by unfold wt; rw [expo_not Q K n h, zero_div]

variable (hv : IsKeys v V n) (hg : IsRows g G n) (hd : IsCol dl (go Q K V G n))
include hv hg hd

theorem dScores_real (a : Fin 128) (b : Fin 256) : (dScores ok q k v g dl l (ix2 a b) : EReal) = (ds Q K V G n a b : ℝ) := by
  rw [dScores_apply]
  refine seen_mul (n := n) (a := a) (b := b) (weights_real hm hq hk hl a b) (wt_not hm hq hk hl) fun h => ?_
  rw [score_tile hg hv a b h, hd a, ← EReal.coe_sub]
  rfl

theorem ds_not {a : Fin 128} {b : Fin 256} (h : ¬Sees n a b) : ds Q K V G n a b = 0 := by
  unfold ds; rw [wt_not hm hq hk hl h, zero_mul]

theorem tileDq_real (a e : Fin 128) : (tileDq ok q k v g dl l (ix2 a e) : EReal) = ((dq Q K V G n a e : ℝ) : EReal) :=
  (tileDq_apply ok q k v g dl l a e).trans (sum_real _ _ fun b => seen_mul (n := n) (a := a) (b := b)
    (dScores_real hm hq hk hl hv hg hd a b) (ds_not hm hq hk hl hv hg hd) fun h => hk b e h.2)

theorem tileDk_real (b : Fin 256) (e : Fin 128) : (tileDk ok q k v g dl l (ix2 b e) : EReal) = ((dkPart Q K V G n b e : ℝ) : EReal) :=
  (tileDk_apply ok q k v g dl l b e).trans (sum_real _ _ fun a => by
    rw [dScores_real hm hq hk hl hv hg hd, hq a e, EReal.coe_mul])

omit hv hd in
theorem tileDv_real (b : Fin 256) (e : Fin 128) : (tileDv ok q k g l (ix2 b e) : EReal) = ((dvPart Q K G n b e : ℝ) : EReal) :=
  (tileDv_apply ok q k g l b e).trans (sum_real _ _ fun a => by
    rw [weights_real hm hq hk hl, hg a e, EReal.coe_mul])

end backward

/-! ## The next block's queries against this block's keys -/

section next
variable {okN : IVec S128x128 1} {p : Prop} [Decidable p] {q k v g : Rows}
  (hm : ∀ a b : Fin 128, okN (ix2 a b) = bit (Sees (n + 1) a (before b) ∧ p))
  (hq : p → IsRows q Q (n + 1)) (hk : IsRows k K n) (hl : p → IsCol l (lse Q K (n + 1)))
include hm hq hk hl

omit hm hl in
theorem score_next {x y : Rows} {X Y : ℕ → Fin 128 → ℝ} (hx : p → IsRows x X (n + 1)) (hy : IsRows y Y n) (hp : p) (a b : Fin 128) :
    ∑ e : Fin 128, (x (ix2 a e) : EReal) * y (ix2 b e) = ((∑ e, X (qrow (n + 1) a) e * Y (krow (n + 1) (before b)) e : ℝ) : EReal) :=
  sum_real _ _ fun e => by
    rw [hx hp a e, hy b e, EReal.coe_mul]
    rw [show krow (n + 1) (before b) = qrow n b by unfold krow qrow before; show (n + 1) * 128 + b.val - 128 = _; omega]

theorem weightsN_real (a b : Fin 128) : (weightsN okN q k l (ix2 a b) : EReal) = (if p then wt Q K (n + 1) a (before b) else 0 : ℝ) := by
  rw [weightsN_apply, hm a b]
  by_cases hp : p
  · rw [if_pos hp]
    by_cases h : Sees (n + 1) a (before b)
    · rw [if_pos (bit_iff.2 ⟨h, hp⟩), score_next hq hk hq hk hp a b, hl hp a, ← EReal.coe_sub, Ideal.exp_coe, ← wt_lse Q K (n + 1) h]
      rfl
    · rw [if_neg (mt bit_iff.1 fun h' => h h'.1), lit_zero]
      unfold wt
      rw [expo_not Q K (n + 1) h, zero_div]
  · rw [if_neg hp, if_neg (mt bit_iff.1 fun h' => hp h'.2), lit_zero]

variable (hv : IsRows v V n) (hg : p → IsRows g G (n + 1)) (hd : p → IsCol dl (go Q K V G (n + 1)))
include hv hg hd

theorem dScoresN_real (a b : Fin 128) :
    (dScoresN okN q k v g dl l (ix2 a b) : EReal) = (if p then ds Q K V G (n + 1) a (before b) else 0 : ℝ) := by
  rw [dScoresN_apply, weightsN_real hm hq hk hl]
  by_cases hp : p
  · rw [if_pos hp, if_pos hp, score_next hq hk hg hv hp a b, hd hp a, ← EReal.coe_sub, ← EReal.coe_mul]
    rfl
  · rw [if_neg hp, if_neg hp, EReal.coe_zero, zero_mul]

/-- A real number that is zero unless `p`, times one that is known if `p`. -/
theorem if_mul {x : EReal} {r s : ℝ} (h : p → x = ((s : ℝ) : EReal)) :
    ((if p then r else 0 : ℝ) : EReal) * x = (if p then r * s else 0 : ℝ) := by
  by_cases hp : p
  · rw [if_pos hp, if_pos hp, h hp, EReal.coe_mul]
  · rw [if_neg hp, if_neg hp, EReal.coe_zero, zero_mul]

theorem nextDk_real (b e : Fin 128) :
    (nextDk okN q k v g dl l (ix2 b e) : EReal) = (if p then dkPart Q K V G (n + 1) (before b) e else 0 : ℝ) := by
  rw [nextDk_apply]
  refine (sum_real _ (fun a => if p then ds Q K V G (n + 1) a (before b) * Q (qrow (n + 1) a) e else 0) fun a => ?_).trans ?_
  · rw [dScoresN_real hm hq hk hl hv hg hd]
    exact if_mul hm hq hk hl hv hg hd fun hp => hq hp a e
  · by_cases hp : p
    · simp only [if_pos hp]; rfl
    · simp only [if_neg hp, Finset.sum_const_zero]

omit hv hd in
theorem nextDv_real (b e : Fin 128) :
    (nextDv okN q k g l (ix2 b e) : EReal) = (if p then dvPart Q K G (n + 1) (before b) e else 0 : ℝ) := by
  rw [nextDv_apply]
  refine (sum_real _ (fun a => if p then wt Q K (n + 1) a (before b) * G (qrow (n + 1) a) e else 0) fun a => ?_).trans ?_
  · rw [weightsN_real hm hq hk hl]
    by_cases hp : p
    · rw [if_pos hp, if_pos hp, hg hp a e, EReal.coe_mul]
    · rw [if_neg hp, if_neg hp, EReal.coe_zero, zero_mul]
  · by_cases hp : p
    · simp only [if_pos hp]; rfl
    · simp only [if_neg hp, Finset.sum_const_zero]

end next

end Cert.Proof.Att
end
-- ==== Proof.AttBlock.lean ====
/-
  One grid point of the two calls: 8 blocks of 128 rows of 4 heads. If the windows hold the rows of the heads' sequences (and of
  the backward call the forward call's outputs and log-sums), the stores leave the casts of AttMath's functions.
-/
module

public import proofs.«01_k».proof.Proof.AttTileValue

@[expose] public section

set_option maxRecDepth 16384

noncomputable section

namespace Cert.Proof.Att

open Cert.Att1Ideal Cert.Att1Ideal.Gen Idealize.ShloMosaic TcCoe Idealize.SL.Sem
open Cert.Proof.RealValues

/-- Four heads' sequences. -/
abbrev Seqs := Fin 4 → ℕ → Fin 128 → ℝ
/-- A value at each head, block, row of the block and feature. -/
abbrev Vals := Fin 4 → ℕ → Fin 128 → Fin 128 → ℝ

/-- The window at block row `i` holds a value for each of its 8 blocks; the blocks before and after it do. -/
def IsWin (x : Vec Ideal S1024x512 .bf16) (X : Vals) (i : ℕ) : Prop :=
  ∀ (j : Fin 8) (a : Fin 128) (h : Fin 4) (e : Fin 128), (x (ix2 (wrow j a) (wcol h e)) : EReal) = ((X h (8 * i + j.val) a e : ℝ) : EReal)
def IsBlk (x : Vec Ideal S128x512 .bf16) (X : Vals) (n : ℕ) : Prop :=
  ∀ (a : Fin 128) (h : Fin 4) (e : Fin 128), (x (ix2 a (wcol h e)) : EReal) = ((X h n a e : ℝ) : EReal)
def IsLse (x : Vec Ideal S1024x128 .f32) (L : Fin 4 → ℕ → Fin 128 → ℝ) (i : ℕ) : Prop :=
  ∀ (j : Fin 8) (a : Fin 128) (h : Fin 4), (x (ix2 (wrow j a) (lane h)) : EReal) = ((L h (8 * i + j.val) a : ℝ) : EReal)
def IsLseBlk (x : Vec Ideal S128x128 .f32) (L : Fin 4 → ℕ → Fin 128 → ℝ) (n : ℕ) : Prop :=
  ∀ (a : Fin 128) (h : Fin 4), (x (ix2 a (lane h)) : EReal) = ((L h n a : ℝ) : EReal)

/-- A sequence's rows, by block. -/
def rows (X : Seqs) : Vals := fun h n a e => X h (qrow n a) e
def outs (Q K V : Seqs) : Vals := fun h n a e => out (Q h) (K h) (V h) n a e
def lses (Q K : Seqs) : Fin 4 → ℕ → Fin 128 → ℝ := fun h n a => lse (Q h) (K h) n a

section operands
variable {i : ℕ} (h : Fin 4) (j : Fin 8)

theorem rows_win {x : Vec Ideal S1024x512 .bf16} {X : Seqs} (hx : IsWin x (rows X) i) : IsRows (rowsCut h j x) (X h) (8 * i + j.val) :=
  fun a e => by rw [rowsCut_apply]; exact hx j a h e

theorem keys_win {x : Vec Ideal S1024x512 .bf16} {xp : Vec Ideal S128x512 .bf16} {X : Seqs} (hx : IsWin x (rows X) i)
    (hp : 0 < i → IsBlk xp (rows X) (8 * i - 1)) : IsKeys (keysCut h j x xp) (X h) (8 * i + j.val) := fun b e hb => by
  rw [keysCut_all]
  have hb' := b.isLt
  have hj := j.isLt
  by_cases hr : j.val * 128 + b.val < 128
  · have hi : 0 < i := by omega
    rw [allCut_prev h ⟨j.val * 128 + b.val, hr⟩ e x xp _ rfl, hp hi _ h e]
    unfold rows
    rw [show qrow (8 * i - 1) ⟨j.val * 128 + b.val, hr⟩ = krow (8 * i + j.val) b from by
      unfold qrow krow; show (8 * i - 1) * 128 + (j.val * 128 + b.val) = (8 * i + j.val) * 128 + b.val - 128; omega]
  · have hw : 128 + (wrow ⟨(j.val * 128 + b.val - 128) / 128, by omega⟩ ⟨(j.val * 128 + b.val - 128) % 128, by omega⟩).val
        = j.val * 128 + b.val := by
      show 128 + ((j.val * 128 + b.val - 128) / 128 * 128 + (j.val * 128 + b.val - 128) % 128) = _; omega
    rw [allCut_cur h e x xp _ _ hw, hx]
    unfold rows
    rw [show qrow (8 * i + (⟨(j.val * 128 + b.val - 128) / 128, by omega⟩ : Fin 8).val) ⟨(j.val * 128 + b.val - 128) % 128, by omega⟩
        = krow (8 * i + j.val) b from by
      unfold qrow krow
      show (8 * i + (j.val * 128 + b.val - 128) / 128) * 128 + (j.val * 128 + b.val - 128) % 128 = (8 * i + j.val) * 128 + b.val - 128
      omega]

theorem last_win {x : Vec Ideal S1024x512 .bf16} {xp : Vec Ideal S128x512 .bf16} {X : Seqs} (hx : IsWin x (rows X) i) :
    IsRows (lastCut h x xp) (X h) (8 * i + 7) := fun a e => by rw [lastCut_apply]; exact hx 7 a h e

theorem lse_win {x : Vec Ideal S1024x128 .f32} {Q K : Seqs} (hx : IsLse x (lses Q K) i) :
    IsCol (lseCut h j x) (lse (Q h) (K h) (8 * i + j.val)) := fun a => by rw [lseCut_apply]; exact hx j a h

theorem lse_blk {x : Vec Ideal S128x128 .f32} {Q K : Seqs} {n : ℕ} (hx : IsLseBlk x (lses Q K) n) :
    IsCol (lseNCut h x) (lse (Q h) (K h) n) := fun a => by rw [lseNCut_apply]; exact hx a h

theorem delta_win {x o : Vec Ideal S1024x512 .bf16} {Q K V G : Seqs} (hx : IsWin x (rows G) i) (ho : IsWin o (outs Q K V) i) :
    IsCol (deltaCut h j x o) (go (Q h) (K h) (V h) (G h) (8 * i + j.val)) := fun a =>
  (deltaCut_apply h j a x o).trans (sum_real _ _ fun e => by rw [hx j a h e, ho j a h e, EReal.coe_mul]; rfl)

theorem delta_blk {x o : Vec Ideal S128x512 .bf16} {Q K V G : Seqs} {n : ℕ} (hx : IsBlk x (rows G) n) (ho : IsBlk o (outs Q K V) n) :
    IsCol (deltaNCut h x o) (go (Q h) (K h) (V h) (G h) n) := fun a =>
  (deltaNCut_apply h a x o).trans (sum_real _ _ fun e => by rw [hx a h e, ho a h e, EReal.coe_mul]; rfl)

theorem rows_blk {x : Vec Ideal S128x512 .bf16} {X : Seqs} {n : ℕ} (hx : IsBlk x (rows X) n) : IsRows (rowsNCut h x) (X h) n :=
  fun a e => by rw [rowsNCut_apply]; exact hx a h e

theorem mask_win {w : BitVec 1} (hw : w = bit (0 < i)) : IsMask (tileMask w j) (8 * i + j.val) := fun a b =>
  tileMask_apply _ w j (fun h0 => hw.trans (bit_congr (by omega))) (fun h0 => by omega) a b

end operands

/-- The windows of one grid point: the four arguments', with the block before of the keys and values. -/
structure Windows (Q K V : Seqs) (i : ℕ) (q k v : Vec Ideal S1024x512 .bf16) (kp vp : Vec Ideal S128x512 .bf16) : Prop where
  q : IsWin q (rows Q) i
  k : IsWin k (rows K) i
  v : IsWin v (rows V) i
  kp : 0 < i → IsBlk kp (rows K) (8 * i - 1)
  vp : 0 < i → IsBlk vp (rows V) (8 * i - 1)

/-- Those of the backward call: the cotangent, the outputs and log-sums; and the next block's of the queries, the cotangent, the
    outputs and log-sums, where there is one. -/
structure BackWindows (Q K V G : Seqs) (i ni : ℕ) (g o : Vec Ideal S1024x512 .bf16) (l : Vec Ideal S1024x128 .f32)
    (qn gn on : Vec Ideal S128x512 .bf16) (ln : Vec Ideal S128x128 .f32) : Prop where
  g : IsWin g (rows G) i
  o : IsWin o (outs Q K V) i
  l : IsLse l (lses Q K) i
  qn : i + 1 < ni → IsBlk qn (rows Q) (8 * i + 8)
  gn : i + 1 < ni → IsBlk gn (rows G) (8 * i + 8)
  on : i + 1 < ni → IsBlk on (outs Q K V) (8 * i + 8)
  ln : i + 1 < ni → IsLseBlk ln (lses Q K) (8 * i + 8)

section results
variable {Q K V G : Seqs} {i ni : ℕ} {q k v : Vec Ideal S1024x512 .bf16} {kp vp : Vec Ideal S128x512 .bf16} {w wn : BitVec 1}
  (W : Windows Q K V i q k v kp vp) (hw : w = bit (0 < i)) (j : Fin 8) (a : Fin 128) (h : Fin 4) (e : Fin 128)
include W hw

theorem out_block :
    (View.canon (tilesOf fun h j => tileOut (tileMask w j) (rowsCut h j q) (keysCut h j k kp) (keysCut h j v vp)) (ix2 (wrow j a) (wcol h e)) : EReal)
      = ((outs Q K V h (8 * i + j.val) a e : ℝ) : EReal) :=
  (tilesOf_apply _ h j a e).trans
    (tileOut_real (mask_win j hw) (rows_win h j W.q) (keys_win h j W.k W.kp) (keys_win h j W.v W.vp) a e)

theorem lse_block (c : Fin 32) :
    (View.canon (lanesOf fun h j => tileLse (tileMask w j) (rowsCut h j q) (keysCut h j k kp)) (ix2 (wrow j a) ⟨h.val * 32 + c.val, by omega⟩) : EReal)
      = ((lses Q K h (8 * i + j.val) a : ℝ) : EReal) :=
  (lanesOf_apply _ h j a c).trans (tileLse_real (mask_win j hw) (rows_win h j W.q) (keys_win h j W.k W.kp) a c)

variable {g o : Vec Ideal S1024x512 .bf16} {l : Vec Ideal S1024x128 .f32} {qn gn on : Vec Ideal S128x512 .bf16} {ln : Vec Ideal S128x128 .f32}
  (B : BackWindows Q K V G i ni g o l qn gn on ln)
include B

theorem dq_block :
    (View.canon (tilesOf fun h j => tileDq (tileMask w j) (rowsCut h j q) (keysCut h j k kp) (keysCut h j v vp) (rowsCut h j g)
        (deltaCut h j g o) (lseCut h j l)) (ix2 (wrow j a) (wcol h e)) : EReal)
      = ((dq (Q h) (K h) (V h) (G h) (8 * i + j.val) a e : ℝ) : EReal) :=
  (tilesOf_apply _ h j a e).trans
    (tileDq_real (mask_win j hw) (rows_win h j W.q) (keys_win h j W.k W.kp) (lse_win h j B.l) (keys_win h j W.v W.vp)
      (rows_win h j B.g) (delta_win h j B.g B.o) a e)

theorem dk_tile (b : Fin 256) : (tileDk (tileMask w j) (rowsCut h j q) (keysCut h j k kp) (keysCut h j v vp) (rowsCut h j g)
    (deltaCut h j g o) (lseCut h j l) (ix2 b e) : EReal) = ((dkPart (Q h) (K h) (V h) (G h) (8 * i + j.val) b e : ℝ) : EReal) :=
  tileDk_real (mask_win j hw) (rows_win h j W.q) (keys_win h j W.k W.kp) (lse_win h j B.l) (keys_win h j W.v W.vp)
    (rows_win h j B.g) (delta_win h j B.g B.o) b e

theorem dv_tile (b : Fin 256) : (tileDv (tileMask w j) (rowsCut h j q) (keysCut h j k kp) (rowsCut h j g) (lseCut h j l) (ix2 b e) : EReal)
      = ((dvPart (Q h) (K h) (G h) (8 * i + j.val) b e : ℝ) : EReal) :=
  tileDv_real (mask_win j hw) (rows_win h j W.q) (keys_win h j W.k W.kp) (lse_win h j B.l) (rows_win h j B.g) b e

variable (hn : wn = bit (i + 1 < ni)) (nb : ℕ) (hnb : nb = 8 * ni) (hi : i < ni)
include hn hnb hi

theorem dk_block :
    (View.canon (tilesOf (shared
      (fun h j => tileDk (tileMask w j) (rowsCut h j q) (keysCut h j k kp) (keysCut h j v vp) (rowsCut h j g) (deltaCut h j g o) (lseCut h j l))
      (fun h => nextDk (nextMask wn) (rowsNCut h qn) (lastCut h k kp) (lastCut h v vp) (rowsNCut h gn) (deltaNCut h gn on) (lseNCut h ln))))
      (ix2 (wrow j a) (wcol h e)) : EReal)
      = (dk (Q h) (K h) (V h) (G h) (8 * i + j.val) nb a e : ℝ) := by
  refine (tilesOf_apply _ h j a e).trans ?_
  unfold shared dk
  by_cases hj : j.val < 7
  · rw [dif_pos hj, addTiles_apply]
    beta_reduce
    rw [dk_tile W hw j h e B (own a), dk_tile W hw ⟨j.val + 1, by omega⟩ h e B (before a), ← EReal.coe_add,
      if_pos (by omega)]
    rfl
  · have e7 : j.val = 7 := by omega
    rw [dif_neg hj, addNext_apply]
    beta_reduce
    rw [dk_tile W hw j h e B (own a),
      nextDk_real (n := 8 * i + 7) (nextMask_apply wn _ hn _) (fun hp => rows_blk h (B.qn hp)) (last_win h W.k) (fun hp => lse_blk h (B.ln hp))
        (last_win h W.v) (fun hp => rows_blk h (B.gn hp)) (fun hp => delta_blk h (B.gn hp) (B.on hp)) a e, ← EReal.coe_add, e7]
    refine congrArg (fun x : ℝ => (x : EReal)) (congrArg (fun y : ℝ => dkPart (Q h) (K h) (V h) (G h) (8 * i + 7) (own a) e + y) ?_)
    by_cases hp : i + 1 < ni
    · rw [if_pos hp, if_pos (by omega)]
    · rw [if_neg hp, if_neg (by omega)]

theorem dv_block :
    (View.canon (tilesOf (shared
      (fun h j => tileDv (tileMask w j) (rowsCut h j q) (keysCut h j k kp) (rowsCut h j g) (lseCut h j l))
      (fun h => nextDv (nextMask wn) (rowsNCut h qn) (lastCut h k kp) (rowsNCut h gn) (lseNCut h ln))))
      (ix2 (wrow j a) (wcol h e)) : EReal)
      = (dv (Q h) (K h) (G h) (8 * i + j.val) nb a e : ℝ) := by
  refine (tilesOf_apply _ h j a e).trans ?_
  unfold shared dv
  by_cases hj : j.val < 7
  · rw [dif_pos hj, addTiles_apply]
    beta_reduce
    rw [dv_tile W hw j h e B (own a), dv_tile W hw ⟨j.val + 1, by omega⟩ h e B (before a), ← EReal.coe_add,
      if_pos (by omega)]
    rfl
  · have e7 : j.val = 7 := by omega
    rw [dif_neg hj, addNext_apply]
    beta_reduce
    rw [dv_tile W hw j h e B (own a),
      nextDv_real (n := 8 * i + 7) (nextMask_apply wn _ hn _) (fun hp => rows_blk h (B.qn hp)) (last_win h W.k) (fun hp => lse_blk h (B.ln hp))
        (fun hp => rows_blk h (B.gn hp)) a e, ← EReal.coe_add, e7]
    refine congrArg (fun x : ℝ => (x : EReal)) (congrArg (fun y : ℝ => dvPart (Q h) (K h) (G h) (8 * i + 7) (own a) e + y) ?_)
    by_cases hp : i + 1 < ni
    · rw [if_pos hp, if_pos (by omega)]
    · rw [if_neg hp, if_neg (by omega)]

end results

end Cert.Proof.Att
end
-- ==== Proof.AttArr.lean ====
/-
  The arrays of an attention over `D` interleaved sequences: array row `k`, column `r * 512 + h * 128 + e` is feature `e` of head
  `h` at row `k` of sequence `r`; of the log-sums, column `r * 128 + h * 32 + c` holds head `h`'s in each of its lanes `c`.
  A window's block of such an array, and an array from its blocks.
-/
module

public import proofs.«01_k».proof.Proof.AttBlock

@[expose] public section

set_option maxRecDepth 16384

noncomputable section

namespace Cert.Proof.Att

open Cert.Att1Ideal Idealize.ShloMosaic TcCoe
open Cert.Proof.RealValues

/-- A value at each sequence, head, block, row of the block and feature, as an array; and one without features. -/
def arrOf {L W : ℕ} (v : ℕ → Vals) : (⟨2, ![L, W]⟩ : Shape).Idx → EReal := fun I =>
  ((v ((I 1 : ℕ) / 512) ⟨(I 1 : ℕ) % 512 / 128, by omega⟩ ((I 0 : ℕ) / 128) ⟨(I 0 : ℕ) % 128, by omega⟩ ⟨(I 1 : ℕ) % 128, by omega⟩ : ℝ) : EReal)
def lanesArr {L W : ℕ} (l : ℕ → Fin 4 → ℕ → Fin 128 → ℝ) : (⟨2, ![L, W]⟩ : Shape).Idx → EReal := fun I =>
  ((l ((I 1 : ℕ) / 128) ⟨(I 1 : ℕ) % 128 / 32, by omega⟩ ((I 0 : ℕ) / 128) ⟨(I 0 : ℕ) % 128, by omega⟩ : ℝ) : EReal)

theorem arrOf_at {L W : ℕ} (v : ℕ → Vals) {I : (⟨2, ![L, W]⟩ : Shape).Idx} {r n : ℕ} {h : Fin 4} {a e : Fin 128}
    (e0 : (I 0 : ℕ) = n * 128 + a.val) (e1 : (I 1 : ℕ) = r * 512 + h.val * 128 + e.val) : arrOf v I = (v r h n a e : ℝ) := by
  have p1 : (I 1 : ℕ) / 512 = r := by omega
  have p2 : (⟨(I 1 : ℕ) % 512 / 128, by omega⟩ : Fin 4) = h := Fin.ext (by show (I 1 : ℕ) % 512 / 128 = h.val; omega)
  have p3 : (I 0 : ℕ) / 128 = n := by omega
  have p4 : (⟨(I 0 : ℕ) % 128, by omega⟩ : Fin 128) = a := Fin.ext (by show (I 0 : ℕ) % 128 = a.val; omega)
  have p5 : (⟨(I 1 : ℕ) % 128, by omega⟩ : Fin 128) = e := Fin.ext (by show (I 1 : ℕ) % 128 = e.val; omega)
  unfold arrOf
  rw [p1, p2, p3, p4, p5]

theorem lanesArr_at {L W : ℕ} (l : ℕ → Fin 4 → ℕ → Fin 128 → ℝ) {I : (⟨2, ![L, W]⟩ : Shape).Idx} {r n : ℕ} {h : Fin 4} {a : Fin 128}
    {c : ℕ} (hc : c < 32) (e0 : (I 0 : ℕ) = n * 128 + a.val) (e1 : (I 1 : ℕ) = r * 128 + h.val * 32 + c) :
    lanesArr l I = (l r h n a : ℝ) := by
  have p1 : (I 1 : ℕ) / 128 = r := by omega
  have p2 : (⟨(I 1 : ℕ) % 128 / 32, by omega⟩ : Fin 4) = h := Fin.ext (by show (I 1 : ℕ) % 128 / 32 = h.val; omega)
  have p3 : (I 0 : ℕ) / 128 = n := by omega
  have p4 : (⟨(I 0 : ℕ) % 128, by omega⟩ : Fin 128) = a := Fin.ext (by show (I 0 : ℕ) % 128 = a.val; omega)
  unfold lanesArr
  rw [p1, p2, p3, p4]

section windows
variable {L W : ℕ} {ix : Fin 2 → ℕ} {r : ℕ}

/-- The window at block row `i` of sequence `r`, of 1024 rows or of 128. -/
theorem isWin {v : ℕ → Vals} {i : ℕ} {X : (⟨2, ![L, W]⟩ : Shape).Idx → EReal} (hX : X = arrOf v) (hi : ix = ![i, r])
    {x : Vec Ideal S1024x512 .bf16} (hx : ∀ y : S1024x512.Idx, ∃ I : (⟨2, ![L, W]⟩ : Shape).Idx, (x y : EReal) = X I
      ∧ (I 0 : ℕ) = ix 0 * 1024 + 1 * (y 0 : ℕ) ∧ (I 1 : ℕ) = ix 1 * 512 + 1 * (y 1 : ℕ)) : IsWin x (v r) i := fun j a h e => by
  obtain ⟨I, e, e0, e1⟩ := hx (ix2 (wrow j a) (wcol h e))
  subst hi hX
  refine e.trans (arrOf_at v ?_ ?_)
  · rw [e0]; show i * 1024 + 1 * (j.val * 128 + a.val) = (8 * i + j.val) * 128 + a.val; ring
  · rw [e1]; show r * 512 + 1 * (h.val * 128 + _) = _; ring

theorem isBlk {v : ℕ → Vals} {n : ℕ} {X : (⟨2, ![L, W]⟩ : Shape).Idx → EReal} (hX : X = arrOf v) (hi : ix = ![n, r])
    {x : Vec Ideal S128x512 .bf16} (hx : ∀ y : S128x512.Idx, ∃ I : (⟨2, ![L, W]⟩ : Shape).Idx, (x y : EReal) = X I
      ∧ (I 0 : ℕ) = ix 0 * 128 + 1 * (y 0 : ℕ) ∧ (I 1 : ℕ) = ix 1 * 512 + 1 * (y 1 : ℕ)) : IsBlk x (v r) n := fun a h e => by
  obtain ⟨I, e, e0, e1⟩ := hx (ix2 a (wcol h e))
  subst hi hX
  refine e.trans (arrOf_at v ?_ ?_)
  · rw [e0]; show n * 128 + 1 * a.val = _; ring
  · rw [e1]; show r * 512 + 1 * (h.val * 128 + _) = _; ring

theorem isLse {l : ℕ → Fin 4 → ℕ → Fin 128 → ℝ} {i : ℕ} {X : (⟨2, ![L, W]⟩ : Shape).Idx → EReal} (hX : X = lanesArr l) (hi : ix = ![i, r])
    {x : Vec Ideal S1024x128 .f32} (hx : ∀ y : S1024x128.Idx, ∃ I : (⟨2, ![L, W]⟩ : Shape).Idx, (x y : EReal) = X I
      ∧ (I 0 : ℕ) = ix 0 * 1024 + 1 * (y 0 : ℕ) ∧ (I 1 : ℕ) = ix 1 * 128 + 1 * (y 1 : ℕ)) : IsLse x (l r) i := fun j a h => by
  obtain ⟨I, e, e0, e1⟩ := hx (ix2 (wrow j a) (lane h))
  subst hi hX
  refine e.trans (lanesArr_at (c := 0) l (by norm_num) ?_ ?_)
  · rw [e0]; show i * 1024 + 1 * (j.val * 128 + a.val) = (8 * i + j.val) * 128 + a.val; ring
  · rw [e1]; show r * 128 + 1 * (h.val * 32) = _; ring

theorem isLseBlk {l : ℕ → Fin 4 → ℕ → Fin 128 → ℝ} {n : ℕ} {X : (⟨2, ![L, W]⟩ : Shape).Idx → EReal} (hX : X = lanesArr l) (hi : ix = ![n, r])
    {x : Vec Ideal S128x128 .f32} (hx : ∀ y : S128x128.Idx, ∃ I : (⟨2, ![L, W]⟩ : Shape).Idx, (x y : EReal) = X I
      ∧ (I 0 : ℕ) = ix 0 * 128 + 1 * (y 0 : ℕ) ∧ (I 1 : ℕ) = ix 1 * 128 + 1 * (y 1 : ℕ)) : IsLseBlk x (l r) n := fun a h => by
  obtain ⟨I, e, e0, e1⟩ := hx (ix2 a (lane h))
  subst hi hX
  refine e.trans (lanesArr_at (c := 0) l (by norm_num) ?_ ?_)
  · rw [e0]; show n * 128 + 1 * a.val = _; ring
  · rw [e1]; show r * 128 + 1 * (h.val * 32) = _; ring

/-- A block that holds the values is the array's. -/
theorem block_eq {v : ℕ → Vals} {i : ℕ} {x : Vec Ideal S1024x512 .bf16} (hx : IsWin x (v r) i) (hi : ix = ![i, r]) (y : S1024x512.Idx)
    {I : (⟨2, ![L, W]⟩ : Shape).Idx} (e0 : (I 0 : ℕ) = ix 0 * 1024 + 1 * (y 0 : ℕ)) (e1 : (I 1 : ℕ) = ix 1 * 512 + 1 * (y 1 : ℕ)) :
    (x y : EReal) = arrOf v I := by
  have h0 : (y 0 : ℕ) < 1024 := (y 0).isLt
  have h1 : (y 1 : ℕ) < 512 := (y 1).isLt
  have ey : y = ix2 (wrow ⟨(y 0 : ℕ) / 128, by omega⟩ ⟨(y 0 : ℕ) % 128, by omega⟩) (wcol ⟨(y 1 : ℕ) / 128, by omega⟩ ⟨(y 1 : ℕ) % 128, by omega⟩) := by
    refine (eq_ix2 y).trans (congrArg₂ ix2 (Fin.ext ?_) (Fin.ext ?_))
    · show (y 0 : ℕ) = (y 0 : ℕ) / 128 * 128 + (y 0 : ℕ) % 128; omega
    · show (y 1 : ℕ) = (y 1 : ℕ) / 128 * 128 + (y 1 : ℕ) % 128; omega
  subst hi
  refine (congrArg x ey).trans ((hx _ _ _ _).trans (arrOf_at v ?_ ?_).symm)
  · rw [e0]; show i * 1024 + 1 * (y 0 : ℕ) = (8 * i + (y 0 : ℕ) / 128) * 128 + (y 0 : ℕ) % 128; omega
  · rw [e1]; show r * 512 + 1 * (y 1 : ℕ) = r * 512 + (y 1 : ℕ) / 128 * 128 + (y 1 : ℕ) % 128; omega

theorem lanes_eq {l : ℕ → Fin 4 → ℕ → Fin 128 → ℝ} {i : ℕ} {x : Vec Ideal S1024x128 .f32}
    (hx : ∀ (j : Fin 8) (a : Fin 128) (h : Fin 4) (c : Fin 32),
      (x (ix2 (wrow j a) ⟨h.val * 32 + c.val, by omega⟩) : EReal) = ((l r h (8 * i + j.val) a : ℝ) : EReal)) (hi : ix = ![i, r]) (y : S1024x128.Idx)
    {I : (⟨2, ![L, W]⟩ : Shape).Idx} (e0 : (I 0 : ℕ) = ix 0 * 1024 + 1 * (y 0 : ℕ)) (e1 : (I 1 : ℕ) = ix 1 * 128 + 1 * (y 1 : ℕ)) :
    (x y : EReal) = lanesArr l I := by
  have h0 : (y 0 : ℕ) < 1024 := (y 0).isLt
  have h1 : (y 1 : ℕ) < 128 := (y 1).isLt
  have ey : y = ix2 (wrow ⟨(y 0 : ℕ) / 128, by omega⟩ ⟨(y 0 : ℕ) % 128, by omega⟩)
      (⟨(⟨(y 1 : ℕ) / 32, by omega⟩ : Fin 4).val * 32 + (⟨(y 1 : ℕ) % 32, by omega⟩ : Fin 32).val, by show (y 1 : ℕ) / 32 * 32 + (y 1 : ℕ) % 32 < 128; omega⟩ : Fin 128) := by
    refine (eq_ix2 y).trans (congrArg₂ ix2 (Fin.ext ?_) (Fin.ext ?_))
    · show (y 0 : ℕ) = (y 0 : ℕ) / 128 * 128 + (y 0 : ℕ) % 128; omega
    · show (y 1 : ℕ) = (y 1 : ℕ) / 32 * 32 + (y 1 : ℕ) % 32; omega
  subst hi
  refine (congrArg x ey).trans ((hx _ _ ⟨(y 1 : ℕ) / 32, by omega⟩ ⟨(y 1 : ℕ) % 32, by omega⟩).trans
    (lanesArr_at (c := (y 1 : ℕ) % 32) l (by omega) ?_ ?_).symm)
  · rw [e0]; show i * 1024 + 1 * (y 0 : ℕ) = (8 * i + (y 0 : ℕ) / 128) * 128 + (y 0 : ℕ) % 128; omega
  · rw [e1]; show r * 128 + 1 * (y 1 : ℕ) = r * 128 + (y 1 : ℕ) / 32 * 32 + (y 1 : ℕ) % 32; omega

/-- The block at row `I 0 / tm`, column `I 1 / tw` holds the index `I`. -/
theorem blocks_cover (I : (⟨2, ![L, W]⟩ : Shape).Idx) {tm tw : ℕ} (hm : 0 < tm) (hw : 0 < tw) (e : ix = ![(I 0 : ℕ) / tm, (I 1 : ℕ) / tw]) :
    ∀ k : Fin 2, ix k * ![tm, tw] k ≤ (I k : ℕ) ∧ (I k : ℕ) < ix k * ![tm, tw] k + ![tm, tw] k := by
  subst e
  intro k
  match k with
  | ⟨0, _⟩ => exact ⟨Nat.div_mul_le_self _ _, by have := Nat.lt_div_mul_add (a := (I 0 : ℕ)) hm; exact this⟩
  | ⟨1, _⟩ => exact ⟨Nat.div_mul_le_self _ _, by have := Nat.lt_div_mul_add (a := (I 1 : ℕ)) hw; exact this⟩

end windows

/-- The two bits of a grid point: not the first block row, and not the last. -/
theorem bit_first {x : ℕ} (h : x < 32768) : Scalar.cmpi .sgt (BitVec.ofNat 32 x) 0#32 = bit (0 < x) :=
  (cmp_sgt _ _).trans (bit_congr (by rw [toInt_small h]; show (BitVec.ofNat 32 0).toInt < _ ↔ _; rw [toInt_small (by norm_num)]; omega))
theorem bit_last {x y : ℕ} (h : x < 32768) (hy : y < 32768) : Scalar.cmpi .slt (BitVec.ofNat 32 x) (BitVec.ofNat 32 y) = bit (x + 1 < y + 1) :=
  (cmp_slt _ _).trans (bit_congr (by rw [toInt_small h, toInt_small hy]; omega))

/-- The sequences of an argument of 16384 rows: row `k` of sequence `r` is row `k * D + r`. -/
def seqs (f : (⟨2, ![16384, 512]⟩ : Shape).Idx → ℝ) (D r : ℕ) : Seqs := fun h k e =>
  if hk : k * D + r < 16384 then f (ix2 ⟨k * D + r, hk⟩ (wcol h e)) else 0

/-- All sequences' rows, outputs, log-sums and gradients. -/
def allRows (X : ℕ → Seqs) : ℕ → Vals := fun r => rows (X r)
def allOuts (Q K V : ℕ → Seqs) : ℕ → Vals := fun r => outs (Q r) (K r) (V r)
def allLse (Q K : ℕ → Seqs) : ℕ → Fin 4 → ℕ → Fin 128 → ℝ := fun r => lses (Q r) (K r)
def allDq (Q K V G : ℕ → Seqs) : ℕ → Vals := fun r h n a e => dq (Q r h) (K r h) (V r h) (G r h) n a e
def allDk (nb : ℕ) (Q K V G : ℕ → Seqs) : ℕ → Vals := fun r h n a e => dk (Q r h) (K r h) (V r h) (G r h) n nb a e
def allDv (nb : ℕ) (Q K G : ℕ → Seqs) : ℕ → Vals := fun r h n a e => dv (Q r h) (K r h) (G r h) n nb a e

end Cert.Proof.Att
end
-- ==== Proof.AttRef.lean ====
/-
  What the three references of the attention share: how an argument's rows are read as sequences, the real identities between the
  derivative as it is traced and the functions of AttMath, and the operations at an index.
-/
module

public import proofs.«01_k».proof.Proof.AttArr
public import Idealize.ShloMosaic.Lib.KernelVsHost

@[expose] public section

set_option maxRecDepth 16384

noncomputable section

namespace Cert.Proof.Att

open Idealize.ShloMosaic Cert.Proof.RealValues

/-- The bounds of an index's coordinates, as numbers. -/
theorem lt2 {a b : ℕ} (i : (⟨2, ![a, b]⟩ : Shape).Idx) :
    (i 0).val < a ∧ (i 1).val < b :=
  ⟨(i 0).isLt, (i 1).isLt⟩
theorem lt3 {a b c : ℕ} (i : (⟨3, ![a, b, c]⟩ : Shape).Idx) :
    (i 0).val < a ∧ (i 1).val < b ∧ (i 2).val < c :=
  ⟨(i 0).isLt, (i 1).isLt, (i 2).isLt⟩
theorem lt4 {a b c d : ℕ} (i : (⟨4, ![a, b, c, d]⟩ : Shape).Idx) :
    (i 0).val < a ∧ (i 1).val < b ∧ (i 2).val < c ∧ (i 3).val < d :=
  ⟨(i 0).isLt, (i 1).isLt, (i 2).isLt, (i 3).isLt⟩
theorem lt5 {a b c d e : ℕ} (i : (⟨5, ![a, b, c, d, e]⟩ : Shape).Idx) :
    (i 0).val < a ∧ (i 1).val < b ∧ (i 2).val < c ∧ (i 3).val < d ∧ (i 4).val < e :=
  ⟨(i 0).isLt, (i 1).isLt, (i 2).isLt, (i 3).isLt, (i 4).isLt⟩

/-- An argument's value at row `k` of sequence `r`. -/
theorem seqs_at {x : (⟨2, ![16384, 512]⟩ : Shape).Idx → EReal} {f : (⟨2, ![16384, 512]⟩ : Shape).Idx → ℝ}
    (hx : x = fun i => ((f i : ℝ) : EReal)) {D r k : ℕ} {h : Fin 4} {e : Fin 128} {I : (⟨2, ![16384, 512]⟩ : Shape).Idx}
    (e0 : (I 0 : ℕ) = k * D + r) (e1 : (I 1 : ℕ) = h.val * 128 + e.val) : x I = (seqs f D r h k e : ℝ) := by
  have hk : k * D + r < 16384 := e0 ▸ (I 0).isLt
  subst hx
  unfold seqs
  rw [dif_pos hk]
  exact congrArg (fun J => ((f J : ℝ) : EReal)) (funext fun (k : Fin 2) => match k with | 0 => Fin.ext e0 | 1 => Fin.ext e1)

section real
variable (Q K V G : ℕ → Fin 128 → ℝ) (n : ℕ)

/-- Whether a score is the row's greatest, and how many are. -/
def isTop (a : Fin 128) (b : Fin 256) : ℝ := if masked Q K n a b = ((top Q K n a : ℝ) : EReal) then 1 else 0
def tops (a : Fin 128) : ℝ := ∑ b, isTop Q K n a b

theorem tops_ne (a : Fin 128) : tops Q K n a ≠ 0 := by
  obtain ⟨b, hb⟩ := exists_top Q K n a
  refine (Finset.sum_pos' (fun b _ => ?_) ⟨b, Finset.mem_univ _, ?_⟩).ne'
  · unfold isTop; split <;> norm_num
  · unfold isTop; rw [if_pos hb]; norm_num

/-- The share of a row's sum in the gradient of its exponentials. -/
def back (a : Fin 128) : ℝ := ∑ e, G (qrow n a) e * (1 / (den Q K n a * den Q K n a)) * unnorm Q K V n a e

theorem ds_back (a : Fin 128) (b : Fin 256) :
    (gv V G n a b / den Q K n a + -back Q K V G n a) * expo Q K n a b = ds Q K V G n a b := by
  have h := den_ne Q K n a
  have e : back Q K V G n a = go Q K V G n a / den Q K n a := by
    unfold back go out
    rw [Finset.sum_div]
    exact Finset.sum_congr rfl fun e _ => by field_simp
  rw [e]
  unfold ds wt
  field_simp
  ring

theorem gv_div (a : Fin 128) (b : Fin 256) : ∑ e, G (qrow n a) e / den Q K n a * V (krow n b) e = gv V G n a b / den Q K n a := by
  unfold gv
  rw [Finset.sum_div]
  exact Finset.sum_congr rfl fun e _ => by ring

theorem dvPart_div (b : Fin 256) (e : Fin 128) :
    ∑ a, G (qrow n a) e / den Q K n a * expo Q K n a b = dvPart Q K G n b e := by
  unfold dvPart wt
  exact Finset.sum_congr rfl fun a _ => by ring

theorem ds_unseen {a : Fin 128} {b : Fin 256} (h : ¬Sees n a b) : ds Q K V G n a b = 0 := by
  unfold ds wt; rw [expo_not Q K n h, zero_div, zero_mul]

end real

theorem mul_cast (a b : ℝ) : ((a : ℝ) : EReal) * ((b : ℝ) : EReal) = ((a * b : ℝ) : EReal) := (EReal.coe_mul a b).symm
theorem add_cast (a b : ℝ) : ((a : ℝ) : EReal) + ((b : ℝ) : EReal) = ((a + b : ℝ) : EReal) := (EReal.coe_add a b).symm

/-- The comparison with the greatest score, as a number. -/
theorem oeq_num (x y : EReal) : (((Ideal.cmp .oeq x y).toNat : ℝ) : EReal) = (if x = y then 1 else 0 : ℝ) := by
  have e : Ideal.cmp .oeq x y = bit (x = y) := ofBool_bit _ _ decide_eq_true_iff
  rw [e]
  unfold bit
  split <;> simp

/-- The bit of a key that is seen, and a choice by it. -/
def seesBit (n : ℕ) (a : Fin 128) (b : Fin 256) : BitVec 1 := bit (Sees n a b)

theorem select_masked {Q K : ℕ → Fin 128 → ℝ} {n : ℕ} {a : Fin 128} {b : Fin 256} {w : BitVec 1} {x y : EReal} (hw : w = seesBit n a b)
    (hx : Sees n a b → x = ((score Q K n a b : ℝ) : EReal)) (hy : y = ⊥) : Scalar.select w x y = masked Q K n a b := by
  unfold masked Scalar.select
  by_cases h : Sees n a b
  · rw [if_pos (show w = 1 from hw.trans (if_pos h)), if_pos h, hx h]
  · rw [if_neg (show ¬w = 1 from by rw [hw]; exact mt bit_iff.1 h), if_neg h, hy]

theorem select_seen {n : ℕ} {a : Fin 128} {b : Fin 256} {w : BitVec 1} {x y : EReal} {r : ℝ} (hw : w = seesBit n a b)
    (hx : x = ((r : ℝ) : EReal)) (h0 : ¬Sees n a b → r = 0) (hy : y = ((0 : ℝ) : EReal)) : Scalar.select w x y = ((r : ℝ) : EReal) := by
  unfold Scalar.select
  by_cases h : Sees n a b
  · rw [if_pos (show w = 1 from hw.trans (if_pos h)), hx]
  · rw [if_neg (show ¬w = 1 from by rw [hw]; exact mt bit_iff.1 h), hy, h0 h]

/-- The index of a block with a first and a last axis of size one. -/
def ends {a b c : ℕ} (j : (⟨3, ![a, b, c]⟩ : Shape).Idx) : (⟨5, ![1, a, b, c, 1]⟩ : Shape).Idx :=
  ix5 0 (j 0) (j 1) (j 2) 0

/-- A sum over a first and a last axis of size one. -/
theorem reduce_ends {a b c : ℕ} (h : (⟨5, ![1, a, b, c, 1]⟩ : Shape).ReducesTo [0, 4] ⟨3, ![a, b, c]⟩)
    (x : (⟨5, ![1, a, b, c, 1]⟩ : Shape).Idx → EReal) (z : EReal) (j : (⟨3, ![a, b, c]⟩ : Shape).Idx) :
    Ideal.hostReduceAdd h x z j = z + x (ends j) := by
  have e : (Finset.univ.filter fun i => h.drop i = j) = {ends j} := by
    refine Finset.ext fun i => ?_
    rw [Finset.mem_filter, Finset.mem_singleton]
    refine ⟨fun e => funext fun (k : Fin 5) => Fin.ext ?_, fun e => ⟨Finset.mem_univ _, funext fun (k : Fin 3) => Fin.ext ?_⟩⟩
    · have l0 : (i 0).val < 1 := (i 0).isLt
      have l4 : (i 4).val < 1 := (i 4).isLt
      match k with
      | 0 => show (i 0).val = 0; omega
      | 1 => exact congrArg Fin.val (congrFun e.2 0)
      | 2 => exact congrArg Fin.val (congrFun e.2 1)
      | 3 => exact congrArg Fin.val (congrFun e.2 2)
      | 4 => show (i 4).val = 0; omega
    · subst e
      match k with | 0 | 1 | 2 => rfl
  unfold Ideal.hostReduceAdd
  rw [e, Finset.sum_singleton]

/-- The words of the band. -/
theorem band_words (n a b : ℕ) (hn : n < 32768) (ha : a < 128) (hb : b < 256) (A : Fin 128) (B : Fin 256) (eA : A.val = a) (eB : B.val = b) :
    IntOp.andi (IntOp.andi (IntOp.cmpi .sge (IntOp.subi (IntOp.addi 128#32 (BitVec.ofNat 32 a)) (BitVec.ofNat 32 b)) 0#32)
      (IntOp.cmpi .sle (IntOp.subi (IntOp.addi 128#32 (BitVec.ofNat 32 a)) (BitVec.ofNat 32 b)) 128#32))
      (IntOp.ori (IntOp.cmpi .sgt (BitVec.ofNat 32 n) 0#32) (IntOp.cmpi .sge (BitVec.ofNat 32 b) 128#32)) = seesBit n A B := by
  have e : IntOp.addi 128#32 (BitVec.ofNat 32 a) = BitVec.ofNat 32 (128 + a) := by
    show BitVec.ofNat 32 128 + BitVec.ofNat 32 a = _; rw [← BitVec.ofNat_add]
  have z : (0#32).toInt = 0 := rfl
  have c : (128#32).toInt = 128 := rfl
  rw [e, cmp_sge, cmp_sle, cmp_sgt, cmp_sge, bit_and, bit_or, bit_and]
  unfold seesBit
  refine bit_congr ?_
  rw [toInt_sub_small (by omega) (by omega), toInt_small (x := n) hn, toInt_small (x := b) (by omega), z, c]
  unfold Sees
  omega

end Cert.Proof.Att
end
-- ==== Proof.AttPre.lean ====
/- The attentions' arguments: finite ones are casts of real arrays, and their rows grouped by sequence. -/
module

public import proofs.«01_k».proof.Proof.AttRef
public import proofs.«01_k».proof.Proof.Gen.Pre_att_pre

@[expose] public section

set_option maxRecDepth 16384

noncomputable section

namespace Cert.Proof.Att

open Cert.Att1Ideal (S16384x512)
open Idealize.ShloMosaic TcCoe Cert.Proof.RealValues

/-- Arguments that meet the precondition are casts of real arrays. -/
theorem reals_of_pre {x0 x1 x2 x3 : FVec Ideal S16384x512 .bf16} (h : Cert.Pre_att_pre.fn x0 x1 x2 x3 = fun _ => 1#1) :
    ∃ f0 f1 f2 f3 : S16384x512.Idx → ℝ, (x0 = fun i => ((f0 i : ℝ) : EReal)) ∧ (x1 = fun i => ((f1 i : ℝ) : EReal))
      ∧ (x2 = fun i => ((f2 i : ℝ) : EReal)) ∧ x3 = fun i => ((f3 i : ℝ) : EReal) := by
  have h3 := congrFun h (fun a => a.elim0)
  dsimp only [Cert.Pre_att_pre.fn, Cert.Pre_att_pre.fn_part1] at h3
  obtain ⟨h2, e3⟩ := IntOp.andi_eq_one.1 h3
  obtain ⟨h1, e2⟩ := IntOp.andi_eq_one.1 h2
  obtain ⟨e0, e1⟩ := IntOp.andi_eq_one.1 h1
  obtain ⟨f0, r0⟩ := real_of_all _ top_bf16 _ _ _ _ _ _ e0
  obtain ⟨f1, r1⟩ := real_of_all _ top_bf16 _ _ _ _ _ _ e1
  obtain ⟨f2, r2⟩ := real_of_all _ top_bf16 _ _ _ _ _ _ e2
  obtain ⟨f3, r3⟩ := real_of_all _ top_bf16 _ _ _ _ _ _ e3
  exact ⟨f0, f1, f2, f3, r0, r1, r2, r3⟩

section
variable {x : S16384x512.Idx → EReal} {f : S16384x512.Idx → ℝ} (hx : x = fun i => ((f i : ℝ) : EReal))
include hx

/-- The rows of `D` sequences side by side. -/
theorem grouped {L W D : ℕ} (hL : L * D = 16384) (hW : W = D * 512) (h : S16384x512.ShapeCasts ⟨2, ![L, W]⟩) :
    shapeCast ⟨2, ![L, W]⟩ x h = arrOf (allRows (seqs f D)) := by
  subst hW
  funext I
  have b0 : (I 0 : ℕ) < L := (I 0).isLt
  have b1 : (I 1 : ℕ) < D * 512 := (I 1).isLt
  have d1 : (I 1 : ℕ) / 512 < D := Nat.div_lt_of_lt_mul (by omega)
  have r0 : (I 0 : ℕ) * D + (I 1 : ℕ) / 512 < 16384 := by
    calc (I 0 : ℕ) * D + (I 1 : ℕ) / 512 < (I 0 : ℕ) * D + D := Nat.add_lt_add_left d1 _
      _ = ((I 0 : ℕ) + 1) * D := by ring
      _ ≤ L * D := Nat.mul_le_mul_right _ b0
      _ = 16384 := hL
  refine (shapeCast_apply x h I (ix2 (⟨(I 0 : ℕ) * D + (I 1 : ℕ) / 512, r0⟩ : Fin 16384) (⟨(I 1 : ℕ) % 512, Nat.mod_lt _ (by norm_num)⟩ : Fin 512)) ?_).trans
    (seqs_at hx ?_ ?_)
  · rw [Shape.rowMajor_val_two, Shape.rowMajor_val_two]
    show ((I 0 : ℕ) * D + (I 1 : ℕ) / 512) * 512 + (I 1 : ℕ) % 512 = (I 0 : ℕ) * (D * 512) + (I 1 : ℕ)
    have e := Nat.div_add_mod (I 1 : ℕ) 512
    calc ((I 0 : ℕ) * D + (I 1 : ℕ) / 512) * 512 + (I 1 : ℕ) % 512 = (I 0 : ℕ) * (D * 512) + (512 * ((I 1 : ℕ) / 512) + (I 1 : ℕ) % 512) := by ring
      _ = _ := by rw [e]
  · show (I 0 : ℕ) * D + (I 1 : ℕ) / 512 = ((I 0 : ℕ) / 128 * 128 + (I 0 : ℕ) % 128) * D + (I 1 : ℕ) / 512
    rw [Nat.div_add_mod']
  · show (I 1 : ℕ) % 512 = (I 1 : ℕ) % 512 / 128 * 128 + (I 1 : ℕ) % 128
    omega

/-- The rows of a single sequence. -/
theorem single : x = arrOf (allRows (seqs f 1)) := by
  funext I
  have b1 : (I 1 : ℕ) < 512 := (I 1).isLt
  refine seqs_at hx ?_ ?_
  · show (I 0 : ℕ) = ((I 0 : ℕ) / 128 * 128 + (I 0 : ℕ) % 128) * 1 + (I 1 : ℕ) / 512
    omega
  · show (I 1 : ℕ) = (I 1 : ℕ) % 512 / 128 * 128 + (I 1 : ℕ) % 128
    omega
end

end Cert.Proof.Att
end
-- ==== Proof.Att1Run.lean ====
/- The run of the two calls of the attention over 1 sequence, with what its five results end at. -/
module

public import proofs.«01_k».proof.Proof.Gen.Att1Ideal.Frame

@[expose] public section

set_option maxRecDepth 16384

noncomputable section

namespace Cert.Proof.Att1

open Cert.Att1Ideal Cert.Att1Ideal.Gen Idealize.ShloMosaic TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F] [Named F]

/-- The run's resources. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the contents of the five results. -/
theorem run : θ_run defs (onTc (τ := τ) (main (F := F))) ⟨m, fun _ => 0, ρ⟩ (fun r => (∀ c : Dev nD,
      r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_v1_2) = W2 m ρ c (Proc.devRef .tc main_v1_2)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨h c _ (mem_uc main_v0_0 (by decide)), h c _ (mem_uc main_v0_1 (by decide)), h c _ (mem_uc main_v1_0 (by decide)), h c _ (mem_uc main_v1_1 (by decide)), h c _ (mem_uc main_v1_2 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩), funext fun g => hz g (.inr (no_unscoped g.2))⟩)

end Cert.Proof.Att1

end
-- ==== Proof.Att1Stores.lean ====
/- What the two calls of the attention over 1 sequence store at a grid point, as the tile operations of AttOps. -/
module

public import proofs.«01_k».proof.Proof.AttOps
public import proofs.«01_k».proof.Proof.Gen.Att1Ideal.Frame.Region0
public import proofs.«01_k».proof.Proof.Gen.Att1Ideal.Frame.Region1

@[expose] public section

set_option maxRecDepth 16384

noncomputable section

namespace Cert.Proof.Att1

open Cert.Att1Ideal Cert.Att1Ideal.Gen Idealize.ShloMosaic TcCoe Idealize.SL.Sem
open Cert.Proof.Att Cert.Proof.RealValues

section fwd
variable (i : grid0.Coords) (x0 x1 : Vec Ideal S1024x512 .bf16) (x2 : Vec Ideal S128x512 .bf16) (x3 : Vec Ideal S1024x512 .bf16)
  (x4 : Vec Ideal S128x512 .bf16)

theorem out_stores :
    out0_5 i x0 x1 x2 x3 x4 = View.canon (tilesOf fun h j => tileOut (tileMask (Scalar.cmpi .sgt (BitVec.ofNat 32 (i 1).val) 0#32) j)
      (rowsCut h j x0) (keysCut h j x1 x2) (keysCut h j x3 x4)) := by
  sl_kernel_rfl

theorem lse_stores :
    out0_6 i x0 x1 x2 x3 x4 = View.canon (lanesOf fun h j => tileLse (tileMask (Scalar.cmpi .sgt (BitVec.ofNat 32 (i 1).val) 0#32) j)
      (rowsCut h j x0) (keysCut h j x1 x2)) := by
  sl_kernel_rfl

end fwd

section bwd
variable (i : grid1.Coords) (x0 : Vec Ideal S1024x512 .bf16) (x1 : Vec Ideal S128x512 .bf16) (x2 : Vec Ideal S1024x512 .bf16)
  (x3 : Vec Ideal S128x512 .bf16) (x4 : Vec Ideal S1024x512 .bf16) (x5 : Vec Ideal S128x512 .bf16) (x6 : Vec Ideal S1024x512 .bf16)
  (x7 : Vec Ideal S128x512 .bf16) (x8 : Vec Ideal S1024x512 .bf16) (x9 : Vec Ideal S128x512 .bf16) (x10 : Vec Ideal S1024x128 .f32)
  (x11 : Vec Ideal S128x128 .f32)

theorem dq_stores :
    out1_12 i x0 x1 x2 x3 x4 x5 x6 x7 x8 x9 x10 x11 = View.canon (tilesOf fun h j =>
      tileDq (tileMask (Scalar.cmpi .sgt (BitVec.ofNat 32 (i 1).val) 0#32) j) (rowsCut h j x0) (keysCut h j x2 x3) (keysCut h j x4 x5)
        (rowsCut h j x6) (deltaCut h j x6 x8) (lseCut h j x10)) := by
  sl_kernel_rfl

theorem dk_stores :
    out1_13 i x0 x1 x2 x3 x4 x5 x6 x7 x8 x9 x10 x11 = View.canon (tilesOf (shared
      (fun h j => tileDk (tileMask (Scalar.cmpi .sgt (BitVec.ofNat 32 (i 1).val) 0#32) j) (rowsCut h j x0) (keysCut h j x2 x3)
        (keysCut h j x4 x5) (rowsCut h j x6) (deltaCut h j x6 x8) (lseCut h j x10))
      (fun h => nextDk (nextMask (Scalar.cmpi .slt (BitVec.ofNat 32 (i 1).val) 15#32)) (rowsNCut h x1) (lastCut h x2 x3) (lastCut h x4 x5)
        (rowsNCut h x7) (deltaNCut h x7 x9) (lseNCut h x11)))) := by
  sl_kernel_rfl

theorem dv_stores :
    out1_14 i x0 x1 x2 x3 x4 x5 x6 x7 x8 x9 x10 x11 = View.canon (tilesOf (shared
      (fun h j => tileDv (tileMask (Scalar.cmpi .sgt (BitVec.ofNat 32 (i 1).val) 0#32) j) (rowsCut h j x0) (keysCut h j x2 x3)
        (rowsCut h j x6) (lseCut h j x10))
      (fun h => nextDv (nextMask (Scalar.cmpi .slt (BitVec.ofNat 32 (i 1).val) 15#32)) (rowsNCut h x1) (lastCut h x2 x3)
        (rowsNCut h x7) (lseNCut h x11)))) := by
  sl_kernel_rfl

end bwd

end Cert.Proof.Att1
end
-- ==== Proof.Att1Kernel.lean ====
/- The arrays that the two calls of the attention over 1 sequence leave. -/
module

public import proofs.«01_k».proof.Proof.AttArr
public import proofs.«01_k».proof.Proof.Att1Stores

@[expose] public section

set_option maxRecDepth 16384

noncomputable section

namespace Cert.Proof.Att1

open Cert.Att1Ideal Cert.Att1Ideal.Gen Idealize.ShloMosaic TcCoe Idealize.SL.Sem
open Cert.Proof.Att Cert.Proof.RealValues

/-- The block indices of the windows, and the second grid coordinate. -/
theorem idx0 : ∀ t : Fin cfg0.N, (grid0.coords t 1).val = t.val % 16 ∧ win0_0.index t = ![t.val % 16, t.val / 16] ∧ win0_1.index t = ![t.val % 16, t.val / 16]
    ∧ win0_3.index t = ![t.val % 16, t.val / 16] ∧ win0_5.index t = ![t.val % 16, t.val / 16] ∧ win0_6.index t = ![t.val % 16, t.val / 16]
    ∧ win0_2.index t = ![t.val % 16 * 8 - 1, t.val / 16] ∧ win0_4.index t = ![t.val % 16 * 8 - 1, t.val / 16] := by decide +kernel
theorem idx1 : ∀ t : Fin cfg1.N, (grid1.coords t 1).val = t.val % 16 ∧ win1_0.index t = ![t.val % 16, t.val / 16] ∧ win1_2.index t = ![t.val % 16, t.val / 16]
    ∧ win1_4.index t = ![t.val % 16, t.val / 16] ∧ win1_6.index t = ![t.val % 16, t.val / 16] ∧ win1_8.index t = ![t.val % 16, t.val / 16] ∧ win1_10.index t = ![t.val % 16, t.val / 16] := by decide +kernel
theorem idx1o : ∀ t : Fin cfg1.N, win1_12.index t = ![t.val % 16, t.val / 16] ∧ win1_13.index t = ![t.val % 16, t.val / 16] ∧ win1_14.index t = ![t.val % 16, t.val / 16]
    ∧ win1_3.index t = ![t.val % 16 * 8 - 1, t.val / 16] ∧ win1_5.index t = ![t.val % 16 * 8 - 1, t.val / 16] := by decide +kernel
theorem idx1n : ∀ t : Fin cfg1.N, win1_1.index t = ![min (t.val % 16 * 8 + 8) 127, t.val / 16] ∧ win1_7.index t = ![min (t.val % 16 * 8 + 8) 127, t.val / 16] ∧ win1_9.index t = ![min (t.val % 16 * 8 + 8) 127, t.val / 16] ∧ win1_11.index t = ![min (t.val % 16 * 8 + 8) 127, t.val / 16] := by
  decide +kernel

variable (V : (c : Dev nD) → (b : Ref sig .tc) → Buf (Elt Ideal) ((c : Thread nD τ).loc b)) (c : Dev nD) {Q K W G : ℕ → Seqs}

/-- The point whose block holds an index of a result. -/
def pt0 {w : ℕ} {tw : ℕ} (hw : w = 1 * tw) (I : (⟨2, ![16384, w]⟩ : Shape).Idx) : Fin cfg0.N :=
  ⟨(I 1 : ℕ) / tw * 16 + (I 0 : ℕ) / 1024, by
    have h0 : (I 0 : ℕ) < 16384 := (I 0).isLt
    have h1 : (I 1 : ℕ) < w := (I 1).isLt
    have h2 : (I 1 : ℕ) / tw < 1 := Nat.div_lt_of_lt_mul (by rw [Nat.mul_comm]; omega)
    rw [show cfg0.N = 16 from N_0]; omega⟩
def pt1 {w : ℕ} {tw : ℕ} (hw : w = 1 * tw) (I : (⟨2, ![16384, w]⟩ : Shape).Idx) : Fin cfg1.N := (pt0 hw I).cast (N_0.trans N_1.symm)

theorem pt_idx {w : ℕ} {tw : ℕ} (hw : w = 1 * tw) (I : (⟨2, ![16384, w]⟩ : Shape).Idx) :
    (![(pt0 hw I).val % 16, (pt0 hw I).val / 16] : Fin 2 → ℕ) = ![(I 0 : ℕ) / 1024, (I 1 : ℕ) / tw] := by
  have h0 : (I 0 : ℕ) < 16384 := (I 0).isLt
  have e1 : (pt0 hw I).val % 16 = (I 0 : ℕ) / 1024 := by show ((I 1 : ℕ) / tw * 16 + (I 0 : ℕ) / 1024) % 16 = _; omega
  have e2 : (pt0 hw I).val / 16 = (I 1 : ℕ) / tw := by show ((I 1 : ℕ) / tw * 16 + (I 0 : ℕ) / 1024) / 16 = _; omega
  rw [e1, e2]

theorem bit0 (t : Fin cfg0.N) : Scalar.cmpi .sgt (BitVec.ofNat 32 (grid0.coords t 1).val) 0#32 = bit (0 < t.val % 16) := by
  rw [(idx0 t).1]; exact bit_first (by omega)

section fwd
variable (hq : (V c main_arg0 : S16384x512.Idx → EReal) = arrOf (allRows Q)) (hk : (V c main_arg1 : S16384x512.Idx → EReal) = arrOf (allRows K))
  (hv : (V c main_arg2 : S16384x512.Idx → EReal) = arrOf (allRows W))
include hq hk hv
theorem windows0 (t : Fin cfg0.N) : Windows (Q (t.val / 16)) (K (t.val / 16)) (W (t.val / 16)) (t.val % 16) (iblk0 V c 0 t) (iblk0 V c 1 t) (iblk0 V c 3 t) (iblk0 V c 2 t) (iblk0 V c 4 t) where
  q := isWin hq (idx0 t).2.1 fun y => ⟨_, rfl, rfl, rfl⟩
  k := isWin hk (idx0 t).2.2.1 fun y => ⟨_, rfl, rfl, rfl⟩
  v := isWin hv (idx0 t).2.2.2.1 fun y => ⟨_, rfl, rfl, rfl⟩
  kp _ := isBlk hk ((idx0 t).2.2.2.2.2.2.1.trans (by rw [Nat.mul_comm])) fun y => ⟨_, rfl, rfl, rfl⟩
  vp _ := isBlk hv ((idx0 t).2.2.2.2.2.2.2.trans (by rw [Nat.mul_comm])) fun y => ⟨_, rfl, rfl, rfl⟩

theorem out_arr : (dat0 V c).arrAt 5 cfg0.N = (arrOf (allOuts Q K W) : S16384x512.Idx → EReal) := by
  refine (dat0 V c).arrAt_eq_of_cover 5 _ (fun t _ => ?_) (fun (I : S16384x512.Idx) => ⟨pt0 (tw := 512) rfl I, flush0_5 _, ?_⟩)
  · show (cfg0.win 5).cut (grid0.coords t) ((dat0 V c).after 5 t) = _
    rw [after0_5, out_stores]
    refine funext fun (y : S1024x512.Idx) => ?_
    exact block_eq (v := allOuts Q K W) (r := (t.val / 16)) (i := (t.val % 16))
      (fun j a h e => out_block (windows0 V c hq hk hv t) (bit0 t) j a h e) (idx0 t).2.2.2.2.1 y rfl rfl
  · refine in_block ?_
    exact blocks_cover I (by norm_num) (by norm_num) ((idx0 _).2.2.2.2.1.trans (pt_idx (tw := 512) rfl I))

theorem lse_arr : (dat0 V c).arrAt 6 cfg0.N = (lanesArr (allLse Q K) : S16384x128.Idx → EReal) := by
  refine (dat0 V c).arrAt_eq_of_cover 6 _ (fun t _ => ?_) (fun (I : S16384x128.Idx) => ⟨pt0 (tw := 128) rfl I, flush0_6 _, ?_⟩)
  · show (cfg0.win 6).cut (grid0.coords t) ((dat0 V c).after 6 t) = _
    rw [after0_6, lse_stores]
    refine funext fun (y : S1024x128.Idx) => ?_
    exact lanes_eq (l := allLse Q K) (r := (t.val / 16)) (i := (t.val % 16))
      (fun j a h k => lse_block (windows0 V c hq hk hv t) (bit0 t) j a h k) (idx0 t).2.2.2.2.2.1 y rfl rfl
  · refine in_block ?_
    exact blocks_cover I (by norm_num) (by norm_num) ((idx0 _).2.2.2.2.2.1.trans (pt_idx (tw := 128) rfl I))

end fwd

section bwd
variable (hq : (V c main_arg0 : S16384x512.Idx → EReal) = arrOf (allRows Q)) (hk : (V c main_arg1 : S16384x512.Idx → EReal) = arrOf (allRows K))
  (hv : (V c main_arg2 : S16384x512.Idx → EReal) = arrOf (allRows W)) (hg : (V c main_arg3 : S16384x512.Idx → EReal) = arrOf (allRows G))
  (ho : (V c main_v0_0 : S16384x512.Idx → EReal) = arrOf (allOuts Q K W)) (hl : (V c main_v0_1 : S16384x128.Idx → EReal) = lanesArr (allLse Q K))

theorem bit1 (t : Fin cfg1.N) : Scalar.cmpi .sgt (BitVec.ofNat 32 (grid1.coords t 1).val) 0#32 = bit (0 < t.val % 16) := by
  rw [(idx1 t).1]; exact bit_first (by omega)
theorem bit1n (t : Fin cfg1.N) : Scalar.cmpi .slt (BitVec.ofNat 32 (grid1.coords t 1).val) 15#32 = bit (t.val % 16 + 1 < 16) := by
  rw [(idx1 t).1]; exact bit_last (y := 15) (by omega) (by norm_num)

theorem nextIdx (t : Fin cfg1.N) (h : t.val % 16 + 1 < 16) : (![min (t.val % 16 * 8 + 8) 127, t.val / 16] : Fin 2 → ℕ) = ![8 * (t.val % 16) + 8, t.val / 16] := by
  rw [show min (t.val % 16 * 8 + 8) 127 = 8 * (t.val % 16) + 8 by omega]

include hq hk hv
theorem windows1 (t : Fin cfg1.N) : Windows (Q (t.val / 16)) (K (t.val / 16)) (W (t.val / 16)) (t.val % 16) (iblk1 V c 0 t) (iblk1 V c 2 t) (iblk1 V c 4 t) (iblk1 V c 3 t) (iblk1 V c 5 t) where
  q := isWin hq (idx1 t).2.1 fun y => ⟨_, rfl, rfl, rfl⟩
  k := isWin hk (idx1 t).2.2.1 fun y => ⟨_, rfl, rfl, rfl⟩
  v := isWin hv (idx1 t).2.2.2.1 fun y => ⟨_, rfl, rfl, rfl⟩
  kp _ := isBlk hk ((idx1o t).2.2.2.1.trans (by rw [Nat.mul_comm])) fun y => ⟨_, rfl, rfl, rfl⟩
  vp _ := isBlk hv ((idx1o t).2.2.2.2.trans (by rw [Nat.mul_comm])) fun y => ⟨_, rfl, rfl, rfl⟩

include hg ho hl
theorem backWindows (t : Fin cfg1.N) : BackWindows (Q (t.val / 16)) (K (t.val / 16)) (W (t.val / 16)) (G (t.val / 16)) (t.val % 16) 16 (iblk1 V c 6 t) (iblk1 V c 8 t) (iblk1 V c 10 t)
    (iblk1 V c 1 t) (iblk1 V c 7 t) (iblk1 V c 9 t) (iblk1 V c 11 t) where
  g := isWin hg (idx1 t).2.2.2.2.1 fun y => ⟨_, rfl, rfl, rfl⟩
  o := isWin ho (idx1 t).2.2.2.2.2.1 fun y => ⟨_, rfl, rfl, rfl⟩
  l := isLse hl (idx1 t).2.2.2.2.2.2 fun y => ⟨_, rfl, rfl, rfl⟩
  qn h := isBlk hq ((idx1n t).1.trans (nextIdx t h)) fun y => ⟨_, rfl, rfl, rfl⟩
  gn h := isBlk hg ((idx1n t).2.1.trans (nextIdx t h)) fun y => ⟨_, rfl, rfl, rfl⟩
  on h := isBlk ho ((idx1n t).2.2.1.trans (nextIdx t h)) fun y => ⟨_, rfl, rfl, rfl⟩
  ln h := isLseBlk hl ((idx1n t).2.2.2.trans (nextIdx t h)) fun y => ⟨_, rfl, rfl, rfl⟩

theorem dq_arr : (dat1 V c).arrAt 12 cfg1.N = (arrOf (allDq Q K W G) : S16384x512.Idx → EReal) := by
  refine (dat1 V c).arrAt_eq_of_cover 12 _ (fun t _ => ?_) (fun (I : S16384x512.Idx) => ⟨pt1 (tw := 512) rfl I, flush1_12 _, ?_⟩)
  · show (cfg1.win 12).cut (grid1.coords t) ((dat1 V c).after 12 t) = _
    rw [after1_12, dq_stores]
    refine funext fun (y : S1024x512.Idx) => ?_
    exact block_eq (v := allDq Q K W G) (r := (t.val / 16)) (i := (t.val % 16))
      (fun j a h e => dq_block (windows1 V c hq hk hv t) (bit1 t) j a h e (backWindows V c hq hk hv hg ho hl t)) (idx1o t).1 y rfl rfl
  · refine in_block ?_
    exact blocks_cover I (by norm_num) (by norm_num) ((idx1o _).1.trans (pt_idx (tw := 512) rfl I))

theorem dk_arr : (dat1 V c).arrAt 13 cfg1.N = (arrOf (allDk 128 Q K W G) : S16384x512.Idx → EReal) := by
  refine (dat1 V c).arrAt_eq_of_cover 13 _ (fun t _ => ?_) (fun (I : S16384x512.Idx) => ⟨pt1 (tw := 512) rfl I, flush1_13 _, ?_⟩)
  · show (cfg1.win 13).cut (grid1.coords t) ((dat1 V c).after 13 t) = _
    rw [after1_13, dk_stores]
    refine funext fun (y : S1024x512.Idx) => ?_
    exact block_eq (v := allDk 128 Q K W G) (r := (t.val / 16)) (i := (t.val % 16))
      (fun j a h e => dk_block (windows1 V c hq hk hv t) (bit1 t) j a h e (backWindows V c hq hk hv hg ho hl t) (bit1n t) 128 rfl (Nat.mod_lt _ (by norm_num))) (idx1o t).2.1 y rfl rfl
  · refine in_block ?_
    exact blocks_cover I (by norm_num) (by norm_num) ((idx1o _).2.1.trans (pt_idx (tw := 512) rfl I))

theorem dv_arr : (dat1 V c).arrAt 14 cfg1.N = (arrOf (allDv 128 Q K G) : S16384x512.Idx → EReal) := by
  refine (dat1 V c).arrAt_eq_of_cover 14 _ (fun t _ => ?_) (fun (I : S16384x512.Idx) => ⟨pt1 (tw := 512) rfl I, flush1_14 _, ?_⟩)
  · show (cfg1.win 14).cut (grid1.coords t) ((dat1 V c).after 14 t) = _
    rw [after1_14, dv_stores]
    refine funext fun (y : S1024x512.Idx) => ?_
    exact block_eq (v := allDv 128 Q K G) (r := (t.val / 16)) (i := (t.val % 16))
      (fun j a h e => dv_block (windows1 V c hq hk hv t) (bit1 t) j a h e (backWindows V c hq hk hv hg ho hl t) (bit1n t) 128 rfl (Nat.mod_lt _ (by norm_num))) (idx1o t).2.2.1 y rfl rfl
  · refine in_block ?_
    exact blocks_cover I (by norm_num) (by norm_num) ((idx1o _).2.2.1.trans (pt_idx (tw := 512) rfl I))

end bwd

end Cert.Proof.Att1
end
-- ==== Proof.Att1Ref.lean ====
/- The reference of the attention over 1 sequence, stage by stage, as the functions of AttMath. -/
module

public import proofs.«01_k».proof.Proof.AttRef
public import proofs.«01_k».proof.Proof.Gen.Att1RefIdeal.Read

@[expose] public section

set_option maxRecDepth 16384

noncomputable section

namespace Cert.Proof.Att1.Ref

open Cert.Att1RefIdeal Cert.Att1RefIdeal.Gen Cert.Att1RefIdeal.Read Idealize.ShloMosaic TcCoe Idealize.SL.Sem
open Cert.Proof.Att Cert.Proof.RealValues

variable {x0 x1 x2 x3 : (⟨S16384x512, .bf16⟩ : BufTy).Contents (Elt Ideal)} {f0 f1 f2 f3 : S16384x512.Idx → ℝ}
  (h0 : (x0 : S16384x512.Idx → EReal) = fun i => ((f0 i : ℝ) : EReal)) (h1 : (x1 : S16384x512.Idx → EReal) = fun i => ((f1 i : ℝ) : EReal))
  (h2 : (x2 : S16384x512.Idx → EReal) = fun i => ((f2 i : ℝ) : EReal)) (h3 : (x3 : S16384x512.Idx → EReal) = fun i => ((f3 i : ℝ) : EReal))

/-- A function of the sequences of the arguments, at sequence `r` and head `h`. -/
local notation:max "QK[" F ", " r ", " h "]" => F (seqs f0 1 r h) (seqs f1 1 r h)
local notation:max "QKV[" F ", " r ", " h "]" => F (seqs f0 1 r h) (seqs f1 1 r h) (seqs f2 1 r h)
local notation:max "QKG[" F ", " r ", " h "]" => F (seqs f0 1 r h) (seqs f1 1 r h) (seqs f3 1 r h)
local notation:max "QKVG[" F ", " r ", " h "]" => F (seqs f0 1 r h) (seqs f1 1 r h) (seqs f2 1 r h) (seqs f3 1 r h)

/-! ## The arguments as blocks of rows -/

include h0 in
theorem rows_at (i : S1x128x128x4x128.Idx) :
    (val_main_v8 (F := Ideal) x0 i : EReal) = (seqs f0 1 0 (i 3) (qrow (i 1).val (i 2)) (i 4) : ℝ) := by
  obtain ⟨b0, b1, b2, b3, b4⟩ := lt5 i
  rw [val_main_v8_apply, val_main_v7_apply, val_main_v6_apply, val_main_v1_apply, val_main_v0_apply]
  refine seqs_at h0 ?_ ?_
  · simp only [idx_main_v1, idx_main_v6, idx_main_v7, idx_main_v8, qrow]; omega
  · simp only [idx_main_v1, idx_main_v6, idx_main_v7, idx_main_v8, qrow]; omega

theorem rows_k : val_main_v11 (F := Ideal) x1 = val_main_v8 (F := Ideal) x1 := rfl
theorem rows_g : val_main_v104 (F := Ideal) x3 = val_main_v8 (F := Ideal) x3 := rfl
theorem keys_v : val_main_v26 (F := Ideal) x2 = val_main_v17 (F := Ideal) x2 := rfl

include h1 in
theorem keys_at (i : S1x128x256x4x128.Idx) (hs : 0 < (i 1).val ∨ 128 ≤ (i 2).val) :
    (val_main_v17 (F := Ideal) x1 i : EReal) = (seqs f1 1 0 (i 3) (krow (i 1).val (i 2)) (i 4) : ℝ) := by
  obtain ⟨b0, b1, b2, b3, b4⟩ := lt5 i
  unfold val_main_v17
  by_cases hb : (i 2).val < 128
  · have hn : 0 < (i 1).val := by omega
    rw [concatenate_apply_piece (t := S1x128x256x4x128) 2 [⟨S1x128x128x4x128, val_main_v15 (F := Ideal) x1⟩, ⟨S1x128x128x4x128, val_main_v11 (F := Ideal) x1⟩] _ i 0 Nat.two_pos S1x128x128x4x128 _ rfl rfl 0 rfl (ix5 (i 0) (i 1) ⟨(i 2).val, hb⟩ (i 3) (i 4))
      (fun k => match k with | 0 | 1 | 3 | 4 => fun _ => rfl | 2 => fun h => absurd rfl h) (Nat.zero_add _)]
    unfold val_main_v15
    rw [concatenate_apply_piece (t := S1x128x128x4x128) 1 [⟨S1x1x128x4x128, val_main_v13 (F := Ideal)⟩, ⟨S1x127x128x4x128, val_main_v14 (F := Ideal) x1⟩] _ (ix5 (i 0) (i 1) ⟨(i 2).val, hb⟩ (i 3) (i 4)) 1 Nat.one_lt_two S1x127x128x4x128 _ rfl rfl 1 rfl
      (ix5 (i 0) ⟨(i 1).val - 1, by omega⟩ ⟨(i 2).val, hb⟩ (i 3) (i 4))
      (fun k => match k with | 0 | 2 | 3 | 4 => fun _ => rfl | 1 => fun h => absurd rfl h) (by show 1 + ((i 1).val - 1) = (i 1).val; omega),
      val_main_v14_apply, rows_k, rows_at h1]
    refine congrArg (fun z => ((seqs f1 1 0 (i 3) z (i 4) : ℝ) : EReal)) ?_
    show ((i 1).val - 1) * 128 + (i 2).val = (i 1).val * 128 + (i 2).val - 128
    omega
  · rw [concatenate_apply_piece (t := S1x128x256x4x128) 2 [⟨S1x128x128x4x128, val_main_v15 (F := Ideal) x1⟩, ⟨S1x128x128x4x128, val_main_v11 (F := Ideal) x1⟩] _ i 1 Nat.one_lt_two S1x128x128x4x128 _ rfl rfl 128 rfl (ix5 (i 0) (i 1) ⟨(i 2).val - 128, by omega⟩ (i 3) (i 4))
      (fun k => match k with | 0 | 1 | 3 | 4 => fun _ => rfl | 2 => fun h => absurd rfl h) (by show 128 + ((i 2).val - 128) = (i 2).val; omega),
      rows_k, rows_at h1]
    refine congrArg (fun z => ((seqs f1 1 0 (i 3) z (i 4) : ℝ) : EReal)) ?_
    show (i 1).val * 128 + ((i 2).val - 128) = (i 1).val * 128 + (i 2).val - 128
    omega

/-! ## Indices, and one block down -/

theorem idx113 (i : S1x128x128x4x1.Idx) : idx_main_v113 i = ix4 (i 0) (i 1) (i 2) (i 3) := by
  obtain ⟨b0, b1, b2, b3, b4⟩ := lt5 i
  refine funext fun (k : Fin 4) => Fin.ext ?_
  fin_cases k <;> simp only [idx_main_v113] <;> (show _ = (i _).val) <;> omega

theorem zero105 (i : S1x128x4x128.Idx) : (val_main_v105 (F := Ideal) i : EReal) = (0 : ℝ) := by
  rw [val_main_v105_apply, val_main_v101_apply, val_main_v100_apply, val_main_v99_apply, val_main_v98_apply]; exact lit_zero

/-- The shares moved one block down, with nothing in the last block. -/
theorem next_at (s : S1x127x128x4x128.Idx → EReal) (p : ℕ → ℕ → Fin 4 → Fin 256 → Fin 128 → ℝ)
    (hs : ∀ i, s i = ((p (i 0).val (1 + (i 1).val) (i 3) (before (i 2)) (i 4) : ℝ) : EReal)) (i : S1x128x128x4x128.Idx) :
    pad S1x128x128x4x128 ![0, 0, 0, 0, 0] ![0, 1, 0, 0, 0] ![0, 0, 0, 0, 0] s (val_main_cst_18 (F := Ideal)) pads_S1x127x128x4x128_S1x128x128x4x128_000_010_000_000_000 h_S_ i
      = (if (i 1).val + 1 < 128 then p (i 0).val ((i 1).val + 1) (i 3) (before (i 2)) (i 4) else 0 : ℝ) := by
  by_cases hn : (i 1).val + 1 < 128
  · rw [if_pos hn, pad_apply_of_inside ![0, 0, 0, 0, 0] ![0, 1, 0, 0, 0] ![0, 0, 0, 0, 0] s (val_main_cst_18 (F := Ideal)) pads_S1x127x128x4x128_S1x128x128x4x128_000_010_000_000_000 h_S_ i
      (ix5 (i 0) ⟨(i 1).val, by omega⟩ (i 2) (i 3) (i 4)) (fun a => match a with | 0 | 1 | 2 | 3 | 4 => ((Nat.zero_add _).trans (Nat.mul_one _)).symm), hs]
    exact congrArg (fun z => ((p (i 0).val z (i 3) (before (i 2)) (i 4) : ℝ) : EReal)) (Nat.add_comm _ _)
  · rw [if_neg hn, pad_apply_of_not_inside ![0, 0, 0, 0, 0] ![0, 1, 0, 0, 0] ![0, 0, 0, 0, 0] s (val_main_cst_18 (F := Ideal)) pads_S1x127x128x4x128_S1x128x128x4x128_000_010_000_000_000 h_S_ i 1
      (fun h => hn (by
        have e : ((i 1).val - 0) / (0 + 1) < 127 := h.2.2
        omega))]
    exact lit_zero

theorem step85 (i : S1x16384x4x128.Idx) : (idx_main_v85 i 0).val = (i 0).val ∧ (idx_main_v85 i 1).val = (i 1).val / 128 ∧ (idx_main_v85 i 2).val = (i 1).val % 128
    ∧ (idx_main_v85 i 3).val = (i 2).val ∧ (idx_main_v85 i 4).val = (i 3).val := by
  obtain ⟨b0, b1, b2, b3⟩ := lt4 i
  refine ⟨?_, ?_, ?_, ?_, ?_⟩ <;> simp only [idx_main_v85] <;> omega

theorem step87 (i : S16384x4x128.Idx) : (idx_main_v87 i 0).val = (i 0).val / 1 ∧ (idx_main_v87 i 1).val = (i 0).val % 1
    ∧ (idx_main_v87 i 2).val = (i 1).val ∧ (idx_main_v87 i 3).val = (i 2).val := by
  obtain ⟨b0, b1, b2⟩ := lt3 i
  refine ⟨?_, ?_, ?_, ?_⟩ <;> simp only [idx_main_v87] <;> omega

theorem step94 (i : S16384x512.Idx) : (idx_main_v94 i 0).val = (i 0).val * 1 + (i 1).val / 512 ∧ (idx_main_v94 i 1).val = (i 1).val % 512 / 128
    ∧ (idx_main_v94 i 2).val = (i 1).val % 128 := by
  obtain ⟨b0, b1⟩ := lt2 i
  refine ⟨?_, ?_, ?_⟩ <;> simp only [idx_main_v94] <;> omega

theorem laid_at (v : ℕ → Vals) (I : S16384x512.Idx) (J : S1x128x128x4x128.Idx) (hJ : J = idx_main_v85 (idx_main_v86 (idx_main_v87 (idx_main_v94 I)))) :
    ((v 0 (J 3) (J 1).val (J 2) (J 4) : ℝ) : EReal) = arrOf v I := by
  obtain ⟨b0, b1⟩ := lt2 I
  obtain ⟨p0, p1, p2⟩ := step94 I
  obtain ⟨q0, q1, q2, q3⟩ := step87 (idx_main_v94 I)
  obtain ⟨r0, r1, r2, r3, r4⟩ := step85 (idx_main_v86 (idx_main_v87 (idx_main_v94 I)))
  rw [← hJ] at r0 r1 r2 r3 r4
  have s0 : (J 0).val = (idx_main_v87 (idx_main_v94 I) 1).val := r0
  have s1 : (J 1).val = (idx_main_v87 (idx_main_v94 I) 0).val / 128 := r1
  have s2 : (J 2).val = (idx_main_v87 (idx_main_v94 I) 0).val % 128 := r2
  have s3 : (J 3).val = (idx_main_v87 (idx_main_v94 I) 2).val := r3
  have s4 : (J 4).val = (idx_main_v87 (idx_main_v94 I) 3).val := r4
  refine (arrOf_at v ?_ ?_).symm
  · rw [s1, s2, q0, p0]; show (I 0).val = _; omega
  · rw [s3, s4, q2, q3, p1, p2]; show (I 1).val = _; omega

theorem step88 (i : S1x16384x4.Idx) : (idx_main_v88 i 0).val = (i 0).val ∧ (idx_main_v88 i 1).val = (i 1).val / 128 ∧ (idx_main_v88 i 2).val = (i 1).val % 128
    ∧ (idx_main_v88 i 3).val = (i 2).val := by
  obtain ⟨b0, b1, b2⟩ := lt3 i
  refine ⟨?_, ?_, ?_, ?_⟩ <;> simp only [idx_main_v88] <;> omega

theorem step90 (i : S16384x4.Idx) : (idx_main_v90 i 0).val = (i 0).val / 1 ∧ (idx_main_v90 i 1).val = (i 0).val % 1 ∧ (idx_main_v90 i 2).val = (i 1).val := by
  obtain ⟨b0, b1⟩ := lt2 i
  refine ⟨?_, ?_, ?_⟩ <;> simp only [idx_main_v90] <;> omega

theorem step93 (i : S16384x128.Idx) : (idx_main_v93 i 0).val = (i 0).val * 1 + (i 1).val / 128 ∧ (idx_main_v93 i 1).val = (i 1).val % 128 / 32 := by
  obtain ⟨b0, b1⟩ := lt2 i
  refine ⟨?_, ?_⟩ <;> simp only [idx_main_v93] <;> omega

/-! ## Forward -/

theorem mask_at (i : S1x128x4x128x256.Idx) : val_main_v57_1 (F := Ideal) i = seesBit (i 1).val (i 3) (i 4) := by
  obtain ⟨b0, b1, b2, b3, b4⟩ := lt5 i
  simp only [val_main_v57_1_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply]
  exact band_words (i 1).val (i 3).val (i 4).val (by omega) (i 3).isLt (i 4).isLt (i 3) (i 4) rfl rfl

include h0 h1

theorem masked_at (i : S1x128x4x128x256.Idx) :
    (val_main_v57_0 (F := Ideal) x0 x1 i : EReal) = QK[masked, 0, i 2] (i 1).val (i 3) (i 4) := by
  rw [val_main_v57_0_apply]
  refine select_masked (mask_at i) (fun h => ?_) word_bot
  rw [val_main_v27_apply]
  exact sum_real _ _ fun e => by rw [rows_at h0, keys_at h1 _ h.2, ← EReal.coe_mul]; rfl

theorem top_at (i : S1x128x4x128.Idx) :
    (val_main_v58 (F := Ideal) x0 x1 i : EReal) = (QK[top, 0, i 2] (i 1).val (i 3) : ℝ) := by
  refine Eq.trans ?_ (QK[fold_masked, 0, i 2] (i 1).val (i 3) (fun b => (val_main_v57_0 (F := Ideal) x0 x1 (ix5 (i 0) (i 1) (i 2) (i 3) b) : EReal))
    fun b => masked_at h0 h1 _)
  unfold val_main_v58
  generalize (val_main_v57_0 (F := Ideal) x0 x1 : S1x128x4x128x256.Idx → EReal) = y
  refine (Host.reduce_eq_fold (max : EReal → EReal → EReal) y (val_main_cst_8 (F := Ideal) : S_.Idx → EReal) reducesTo_S1x128x4x128x256_S1x128x4x128_d4 h_S_ i).trans ?_
  rw [Shape.ReducesTo.fold_fiber_r5_a4]
  exact congrArg (fun z => Finset.fold max z _ _) word_bot

omit h0 h1 in
theorem idx59 (i : S1x128x4x128x1.Idx) : idx_main_v59 i = ix4 (i 0) (i 1) (i 2) (i 3) := by
  obtain ⟨b0, b1, b2, b3, b4⟩ := lt5 i
  refine funext fun (k : Fin 4) => Fin.ext ?_
  fin_cases k <;> simp only [idx_main_v59] <;> (show _ = (i _).val) <;> omega

theorem isTop_at (i : S1x128x4x128x256.Idx) :
    (val_main_v62 (F := Ideal) x0 x1 i : EReal) = (QK[isTop, 0, i 2] (i 1).val (i 3) (i 4) : ℝ) := by
  rw [val_main_v62_apply, val_main_v61_apply, val_main_v60_apply, val_main_v59_apply, masked_at h0 h1, top_at h0 h1, idx59]
  exact oeq_num _ _

theorem tops_at (i : S1x128x4x128.Idx) :
    (val_main_v63 (F := Ideal) x0 x1 i : EReal) = (QK[tops, 0, i 2] (i 1).val (i 3) : ℝ) := by
  rw [val_main_v63_apply]
  refine (congrArg₂ (· + ·) lit_zero (sum_real _ _ fun k => isTop_at h0 h1 _)).trans ?_
  rw [EReal.coe_zero, zero_add]
  rfl

theorem top_one (i : S1x128x4x128x1.Idx) :
    (val_main_v64 (F := Ideal) x0 x1 i : EReal) = (QK[top, 0, i 2] (i 1).val (i 3) : ℝ) := by
  rw [val_main_v64_apply, top_at h0 h1]; rfl

theorem expo_at (i : S1x128x4x128x256.Idx) :
    (val_main_v67 (F := Ideal) x0 x1 i : EReal) = (QK[expo, 0, i 2] (i 1).val (i 3) (i 4) : ℝ) := by
  rw [val_main_v67_apply, val_main_v66_apply, val_main_v65_apply, val_main_v64_apply, masked_at h0 h1, top_at h0 h1]
  exact exp_masked _ _ _ _ _

theorem den_at (i : S1x128x4x128.Idx) :
    (val_main_v68 (F := Ideal) x0 x1 i : EReal) = (QK[den, 0, i 2] (i 1).val (i 3) : ℝ) := by
  rw [val_main_v68_apply]
  refine (congrArg₂ (· + ·) lit_zero (sum_real _ _ fun k => expo_at h0 h1 _)).trans ?_
  rw [EReal.coe_zero, zero_add]
  rfl

omit h0 h1 in
/-- Dropping the last axis, of size one. -/
theorem idx72 (i : S1x128x4x128.Idx) : idx_main_v72 i = ix5 (i 0) (i 1) (i 2) (i 3) 0 := by
  obtain ⟨b0, b1, b2, b3⟩ := lt4 i
  refine funext fun (k : Fin 5) => Fin.ext ?_
  fin_cases k <;> simp only [idx_main_v72] <;> first | rfl | ((show _ = (i _).val); omega)

theorem den_flat (i : S1x128x4x128.Idx) :
    (val_main_v72 (F := Ideal) x0 x1 i : EReal) = (QK[den, 0, i 2] (i 1).val (i 3) : ℝ) := by
  rw [val_main_v72_apply, val_main_v69_apply, idx72, den_at h0 h1]; rfl

theorem den_one (i : S1x128x128x4x1.Idx) :
    (val_main_v74 (F := Ideal) x0 x1 i : EReal) = (QK[den, 0, i 3] (i 1).val (i 2) : ℝ) := by
  rw [val_main_v74_apply, val_main_v73_apply, den_flat h0 h1]; rfl

theorem lse_at (i : S1x128x128x4.Idx) :
    (val_main_v84 (F := Ideal) x0 x1 i : EReal) = (QK[lse, 0, i 3] (i 1).val (i 2) : ℝ) := by
  rw [val_main_v84_apply, val_main_v83_apply, val_main_v82_apply, show val_main_v81 (F := Ideal) x0 x1 = val_main_v72 x0 x1 from rfl, den_flat h0 h1, val_main_v80_apply, show idx_main_v80 = idx_main_v72 from rfl, idx72]
  refine (congrArg₂ (· + ·) (top_one h0 h1 _) (log_den _ _ _ _)).trans ?_
  rw [← EReal.coe_add]; rfl

include h2

theorem unnorm_at (i : S1x128x128x4x128.Idx) :
    (val_main_v71 (F := Ideal) x0 x1 x2 i : EReal) = (QKV[unnorm, 0, i 3] (i 1).val (i 2) (i 4) : ℝ) := by
  rw [val_main_v71_apply, val_main_v70_apply]
  refine sum_real _ _ fun b => (mul_comm _ _).trans ?_
  refine seen_mul (n := (i 1).val) (a := (i 2 : Fin 128)) (b := b) (expo_at h0 h1 _) (expo_not _ _ _) fun h => ?_
  rw [keys_v, keys_at h2 _ h.2]; rfl

theorem out_at (i : S1x128x128x4x128.Idx) :
    (val_main_v76 (F := Ideal) x0 x1 x2 i : EReal) = (QKV[out, 0, i 3] (i 1).val (i 2) (i 4) : ℝ) := by
  rw [val_main_v76_apply, val_main_v75_apply, unnorm_at h0 h1 h2, den_one h0 h1]
  exact div_real _ (den_ne _ _ _ _)

/-! ## Backward -/

omit h2

theorem inv_at (i : S1x128x128x4x1.Idx) : (val_main_v79 (F := Ideal) x0 x1 i : EReal)
    = (1 / (QK[den, 0, i 3] (i 1).val (i 2) * QK[den, 0, i 3] (i 1).val (i 2)) : ℝ) := by
  rw [val_main_v79_apply, val_main_v78_apply, val_main_v77_apply, den_one h0 h1]
  exact (congrArg₂ Ideal.div lit_one (mul_cast _ _)).trans (div_real _ (mul_ne_zero (den_ne _ _ _ _) (den_ne _ _ _ _)))

include h3 in
theorem norm_at (i : S1x128x4x128x128.Idx) : (val_main_v122 (F := Ideal) x0 x1 x3 i : EReal)
    = (seqs f3 1 0 (i 2) (qrow (i 1).val (i 4)) (i 3) / QK[den, 0, i 2] (i 1).val (i 4) : ℝ) := by
  rw [val_main_v122_apply, val_main_v116_apply, val_main_v115_apply, rows_g, rows_at h3, den_one h0 h1]
  exact div_real _ (den_ne _ _ _ _)

include h3 in
theorem dvPart_at (i : S1x128x256x4x128.Idx) : (val_main_v125 (F := Ideal) x0 x1 x3 i : EReal)
    = (QKG[dvPart, 0, i 3] (i 1).val (i 2) (i 4) : ℝ) := by
  rw [val_main_v125_apply, val_main_v124_apply]
  refine (sum_real _ _ fun a => ?_).trans (congrArg _ (dvPart_div _ _ _ _ _ _))
  rw [norm_at h0 h1 h3, expo_at h0 h1]
  exact mul_cast _ _

include h2 h3

theorem back_at (i : S1x128x128x4.Idx) : (val_main_v112 (F := Ideal) x0 x1 x2 x3 i : EReal)
    = (QKVG[back, 0, i 3] (i 1).val (i 2) : ℝ) := by
  rw [val_main_v112_apply]
  refine (congrArg₂ (· + ·) lit_zero (sum_real _
    (fun e => seqs f3 1 0 (i 3) (qrow (i 1).val (i 2)) e * (1 / (QK[den, 0, i 3] (i 1).val (i 2) * QK[den, 0, i 3] (i 1).val (i 2))) * QKV[unnorm, 0, i 3] (i 1).val (i 2) e)
    fun e => ?_)).trans ?_
  · rw [val_main_v111_apply, val_main_v110_apply, val_main_v109_apply, rows_g, rows_at h3, inv_at h0 h1, unnorm_at h0 h1 h2]
    exact (congrArg (· * _) (mul_cast _ _)).trans (mul_cast _ _)
  · rw [EReal.coe_zero, zero_add]; rfl

theorem neg_one (i : S1x128x128x4x1.Idx) : (val_main_v114 (F := Ideal) x0 x1 x2 x3 i : EReal)
    = (-QKVG[back, 0, i 3] (i 1).val (i 2) : ℝ) := by
  rw [val_main_v114_apply, val_main_v113_apply, idx113]
  exact (congrArg (fun z : EReal => -z) (back_at h0 h1 h2 h3 _)).trans (EReal.coe_neg _).symm

theorem neg_sum (i : S1x128x128x4.Idx) : (val_main_v118 (F := Ideal) x0 x1 x2 x3 i : EReal)
    = (-QKVG[back, 0, i 3] (i 1).val (i 2) : ℝ) := by
  rw [val_main_v118_apply]
  show Ideal.hostReduceAdd reducesTo_S1x128x128x4x1_S128x128x4_d0_4 (val_main_v114 (F := Ideal) x0 x1 x2 x3) _ _ = _
  rw [reduce_ends]
  refine (congrArg₂ (· + ·) lit_zero (neg_one h0 h1 h2 h3 _)).trans ?_
  rw [add_cast, zero_add]; rfl

theorem neg_at (i : S1x128x4x128x1.Idx) : (val_main_v121 (F := Ideal) x0 x1 x2 x3 i : EReal)
    = (-QKVG[back, 0, i 2] (i 1).val (i 3) : ℝ) := by
  rw [val_main_v121_apply, val_main_v107_apply, val_main_v106_apply, zero105, show val_main_v81 (F := Ideal) x0 x1 = val_main_v72 x0 x1 from rfl, den_flat h0 h1, val_main_v120_apply, val_main_v119_apply]
  refine (congrArg₂ (· + ·) (div_real 0 (den_ne _ _ _ _)) (neg_sum h0 h1 h2 h3 _)).trans ?_
  rw [zero_div, add_cast, zero_add]; rfl

theorem neg_flat (i : S1x128x4x128.Idx) : (val_main_v127 (F := Ideal) x0 x1 x2 x3 i : EReal)
    = (-QKVG[back, 0, i 2] (i 1).val (i 3) : ℝ) := by
  rw [val_main_v127_apply]
  show Ideal.hostReduceAdd reducesTo_S1x128x4x128x1_S128x4x128_d0_4 (val_main_v121 (F := Ideal) x0 x1 x2 x3) _ _ = _
  rw [reduce_ends]
  refine (congrArg₂ (· + ·) lit_zero (neg_at h0 h1 h2 h3 _)).trans ?_
  rw [add_cast, zero_add]; rfl

theorem ds_at (i : S1x128x4x128x256.Idx) : (val_main_v130 (F := Ideal) x0 x1 x2 x3 i : EReal)
    = (QKVG[ds, 0, i 2] (i 1).val (i 3) (i 4) : ℝ) := by
  rw [val_main_v130_apply]
  refine (mul_comm _ _).trans ((seen_mul (n := (i 1).val) (a := (i 3 : Fin 128)) (b := (i 4 : Fin 256)) (expo_at h0 h1 _) (expo_not _ _ _)
    (vr := gv (seqs f2 1 0 (i 2)) (seqs f3 1 0 (i 2)) (i 1).val (i 3) (i 4) / QK[den, 0, i 2] (i 1).val (i 3) + -QKVG[back, 0, i 2] (i 1).val (i 3)) fun h => ?_).trans
    (congrArg _ ((mul_comm _ _).trans (ds_back _ _ _ _ _ _ _))))
  rw [val_main_v129_apply, val_main_v128_apply, val_main_v123_apply]
  refine (congrArg₂ (· + ·) ((sum_real _ _ fun e => ?_).trans (congrArg _ (gv_div _ _ _ _ _ _ _))) (neg_flat h0 h1 h2 h3 _)).trans (add_cast _ _)
  rw [norm_at h0 h1 h3, keys_v, keys_at h2 _ h.2]
  exact mul_cast _ _

theorem ds_sum (i : S1x128x4x128.Idx) : (val_main_v132 (F := Ideal) x0 x1 x2 x3 i : EReal) = (0 : ℝ) := by
  rw [val_main_v132_apply]
  refine (congrArg₂ (· + ·) lit_zero (sum_real _ (fun b => -QKVG[ds, 0, i 2] (i 1).val (i 3) b) fun b => ?_)).trans ?_
  · rw [val_main_v131_apply]
    exact (congrArg (fun z : EReal => -z) (ds_at h0 h1 h2 h3 _)).trans (EReal.coe_neg _).symm
  · rw [Finset.sum_neg_distrib]
    exact (congrArg (fun z : ℝ => ((0 : ℝ) : EReal) + ((-z : ℝ) : EReal)) (sum_ds _ _ _ _ _ _)).trans (by rw [neg_zero, add_cast, zero_add])

theorem none_one (i : S1x128x4x128x1.Idx) : (val_main_v134 (F := Ideal) x0 x1 x2 x3 i : EReal) = (0 : ℝ) := by
  rw [val_main_v134_apply, val_main_v133_apply, val_main_v108_apply]
  refine (congrArg₂ (· + ·) (zero105 _) (ds_sum h0 h1 h2 h3 _)).trans ?_
  rw [add_cast, zero_add]

theorem none_flat (i : S1x128x4x128.Idx) : (val_main_v136 (F := Ideal) x0 x1 x2 x3 i : EReal) = (0 : ℝ) := by
  rw [val_main_v136_apply]
  show Ideal.hostReduceAdd reducesTo_S1x128x4x128x1_S128x4x128_d0_4 (val_main_v134 (F := Ideal) x0 x1 x2 x3) _ _ = _
  rw [reduce_ends]
  refine (congrArg₂ (· + ·) lit_zero (none_one h0 h1 h2 h3 _)).trans ?_
  rw [add_cast, zero_add]

theorem none_at (i : S1x128x4x128.Idx) : (val_main_v137 (F := Ideal) x0 x1 x2 x3 i : EReal) = (0 : ℝ) := by
  rw [val_main_v137_apply]
  refine (congrArg₂ Ideal.div (none_flat h0 h1 h2 h3 _) (tops_at h0 h1 _)).trans ((div_real _ (tops_ne _ _ _ _)).trans ?_)
  rw [zero_div]

theorem masked_ds_at (i : S1x128x4x128x256.Idx) : (val_main_v141 (F := Ideal) x0 x1 x2 x3 i : EReal)
    = (QKVG[ds, 0, i 2] (i 1).val (i 3) (i 4) : ℝ) := by
  rw [val_main_v141_apply]
  refine select_seen (mask_at i) ?_ (ds_unseen _ _ _ _ _) lit_zero
  rw [val_main_v140_apply, val_main_v139_apply, val_main_v138_apply]
  refine (congrArg₂ (· + ·) (ds_at h0 h1 h2 h3 _) ((congrArg₂ (· * ·) (none_at h0 h1 h2 h3 _) (isTop_at h0 h1 _)).trans (mul_cast _ _))).trans ?_
  rw [add_cast, zero_mul, add_zero]

theorem dkPart_at (i : S1x128x256x4x128.Idx) : (val_main_v143 (F := Ideal) x0 x1 x2 x3 i : EReal)
    = (QKVG[dkPart, 0, i 3] (i 1).val (i 2) (i 4) : ℝ) := by
  rw [val_main_v143_apply, val_main_v142_apply]
  refine sum_real _ _ fun a => ?_
  rw [masked_ds_at h0 h1 h2 h3, rows_at h0]
  exact mul_cast _ _

theorem dq_at (i : S1x128x128x4x128.Idx) : (val_main_v145 (F := Ideal) x0 x1 x2 x3 i : EReal)
    = (QKVG[dq, 0, i 3] (i 1).val (i 2) (i 4) : ℝ) := by
  rw [val_main_v145_apply, val_main_v144_apply]
  refine sum_real _ _ fun b => ?_
  refine seen_mul (n := (i 1).val) (a := (i 2 : Fin 128)) (b := b) (masked_ds_at h0 h1 h2 h3 _) (ds_unseen _ _ _ _ _) fun h => ?_
  rw [keys_at h1 _ h.2]; rfl

/-! ## A block's keys: the share of its own block's queries, and of the next block's -/

omit h2 in
theorem dv_at (i : S1x128x128x4x128.Idx) : (val_main_v151 (F := Ideal) x0 x1 x3 i : EReal)
    = (QKG[dv, 0, i 3] (i 1).val 128 (i 2) (i 4) : ℝ) := by
  rw [val_main_v151_apply, val_main_v147_apply]
  refine (congrArg₂ (· + ·) (dvPart_at h0 h1 h3 _) (next_at _ (fun r n h b e => QKG[dvPart, 0, h] n b e) (fun j => ?_) i)).trans (add_cast _ _)
  rw [val_main_v149_apply, val_main_v146_apply]
  exact dvPart_at h0 h1 h3 _

theorem dk_at (i : S1x128x128x4x128.Idx) : (val_main_v160 (F := Ideal) x0 x1 x2 x3 i : EReal)
    = (QKVG[dk, 0, i 3] (i 1).val 128 (i 2) (i 4) : ℝ) := by
  rw [val_main_v160_apply, val_main_v156_apply]
  refine (congrArg₂ (· + ·) (dkPart_at h0 h1 h2 h3 _) (next_at _ (fun r n h b e => QKVG[dkPart, 0, h] n b e) (fun j => ?_) i)).trans (add_cast _ _)
  rw [val_main_v158_apply, val_main_v155_apply]
  exact dkPart_at h0 h1 h2 h3 _

/-! ## The results, laid out as the calls have them -/

omit h2 h3 in
theorem lse_arr : (val_main_v93 (F := Ideal) x0 x1 : S16384x128.Idx → EReal) = lanesArr (allLse (seqs f0 1) (seqs f1 1)) := by
  funext I
  obtain ⟨b0, b1⟩ := lt2 I
  obtain ⟨p0, p1⟩ := step93 I
  obtain ⟨q0, q1, q2⟩ := step90 (idx_main_v91 (idx_main_v92 (idx_main_v93 I)))
  obtain ⟨r0, r1, r2, r3⟩ := step88 (idx_main_v89 (idx_main_v90 (idx_main_v91 (idx_main_v92 (idx_main_v93 I)))))
  rw [val_main_v93_apply, val_main_v92_apply, val_main_v91_apply, val_main_v90_apply, val_main_v89_apply, val_main_v88_apply]
  generalize hJ : idx_main_v88 (idx_main_v89 (idx_main_v90 (idx_main_v91 (idx_main_v92 (idx_main_v93 I))))) = J at r0 r1 r2 r3 ⊢
  have s0 : (J 0).val = (idx_main_v93 I 0).val % 1 := r0.trans q1
  have s1 : (J 1).val = (idx_main_v93 I 0).val / 1 / 128 := r1.trans (congrArg (· / 128) q0)
  have s2 : (J 2).val = (idx_main_v93 I 0).val / 1 % 128 := r2.trans (congrArg (· % 128) q0)
  have s3 : (J 3).val = (idx_main_v93 I 1).val := r3.trans q2
  refine (lse_at h0 h1 _).trans (lanesArr_at (allLse (seqs f0 1) (seqs f1 1)) (c := (I 1).val % 32) (Nat.mod_lt _ (by decide)) ?_ ?_).symm
  · rw [s1, s2, p0]; show (I 0).val = _; omega
  · rw [s3, p1]; show (I 1).val = _; omega

omit h3 in
theorem out_arr : (val_main_v95 (F := Ideal) x0 x1 x2 : S16384x512.Idx → EReal) = arrOf (allOuts (seqs f0 1) (seqs f1 1) (seqs f2 1)) := by
  funext I
  rw [val_main_v95_apply, val_main_v94_apply, val_main_v87_apply, val_main_v86_apply, val_main_v85_apply]
  exact (out_at h0 h1 h2 _).trans (laid_at (allOuts (seqs f0 1) (seqs f1 1) (seqs f2 1)) I _ rfl)

theorem dq_arr : (val_main_v168 (F := Ideal) x0 x1 x2 x3 : S16384x512.Idx → EReal) = arrOf (allDq (seqs f0 1) (seqs f1 1) (seqs f2 1) (seqs f3 1)) := by
  funext I
  rw [val_main_v168_apply, val_main_v167_apply, val_main_v166_apply, val_main_v165_apply, val_main_v164_apply]
  exact (dq_at h0 h1 h2 h3 _).trans (laid_at (allDq (seqs f0 1) (seqs f1 1) (seqs f2 1) (seqs f3 1)) I _ rfl)

theorem dk_arr : (val_main_v170 (F := Ideal) x0 x1 x2 x3 : S16384x512.Idx → EReal) = arrOf (allDk 128 (seqs f0 1) (seqs f1 1) (seqs f2 1) (seqs f3 1)) := by
  funext I
  rw [val_main_v170_apply, val_main_v169_apply, val_main_v163_apply, val_main_v162_apply, val_main_v161_apply]
  exact (dk_at h0 h1 h2 h3 _).trans (laid_at (allDk 128 (seqs f0 1) (seqs f1 1) (seqs f2 1) (seqs f3 1)) I _ rfl)

omit h2 in
theorem dv_arr : (val_main_v172 (F := Ideal) x0 x1 x3 : S16384x512.Idx → EReal) = arrOf (allDv 128 (seqs f0 1) (seqs f1 1) (seqs f3 1)) := by
  funext I
  rw [val_main_v172_apply, val_main_v171_apply, val_main_v154_apply, val_main_v153_apply, val_main_v152_apply]
  exact (dv_at h0 h1 h3 _).trans (laid_at (allDv 128 (seqs f0 1) (seqs f1 1) (seqs f3 1)) I _ rfl)

end Cert.Proof.Att1.Ref
end
-- ==== Proof.Att1Claims.lean ====
/- The value claim of the attention over 1 sequence: both programs leave the same casts of real functions. -/
module

public import proofs.«01_k».proof.Defs
public import proofs.«01_k».proof.Proof.AttPre
public import proofs.«01_k».proof.Proof.Att1Run
public import proofs.«01_k».proof.Proof.Att1Kernel
public import proofs.«01_k».proof.Proof.Att1Ref

@[expose] public section

set_option maxRecDepth 16384

noncomputable section

namespace Cert.Proof.Att1

open Cert.Att1Ideal Cert.Att1Ideal.Gen Idealize.ShloMosaic TcCoe Idealize.SL.Sem
open Cert.Proof.Att Cert.Proof.RealValues

/-- The five results, from real arguments. -/
def outA (f0 f1 f2 : S16384x512.Idx → ℝ) : S16384x512.Idx → EReal := arrOf (allOuts (seqs f0 1) (seqs f1 1) (seqs f2 1))
def lseA (f0 f1 : S16384x512.Idx → ℝ) : S16384x128.Idx → EReal := lanesArr (allLse (seqs f0 1) (seqs f1 1))
def dqA (f0 f1 f2 f3 : S16384x512.Idx → ℝ) : S16384x512.Idx → EReal := arrOf (allDq (seqs f0 1) (seqs f1 1) (seqs f2 1) (seqs f3 1))
def dkA (f0 f1 f2 f3 : S16384x512.Idx → ℝ) : S16384x512.Idx → EReal := arrOf (allDk 128 (seqs f0 1) (seqs f1 1) (seqs f2 1) (seqs f3 1))
def dvA (f0 f1 f3 : S16384x512.Idx → ℝ) : S16384x512.Idx → EReal := arrOf (allDv 128 (seqs f0 1) (seqs f1 1) (seqs f3 1))

section
variable {m : (ℓ : Loc nD τ sig) → Buf (Elt Ideal) ℓ} (ρ : Dev nD → PrngReg) {c : Dev nD} {f0 f1 f2 f3 : S16384x512.Idx → ℝ}
  (h0 : (m ((c : Thread nD τ).loc main_arg0) : S16384x512.Idx → EReal) = fun i => ((f0 i : ℝ) : EReal))
  (h1 : (m ((c : Thread nD τ).loc main_arg1) : S16384x512.Idx → EReal) = fun i => ((f1 i : ℝ) : EReal))
  (h2 : (m ((c : Thread nD τ).loc main_arg2) : S16384x512.Idx → EReal) = fun i => ((f2 i : ℝ) : EReal))
  (h3 : (m ((c : Thread nD τ).loc main_arg3) : S16384x512.Idx → EReal) = fun i => ((f3 i : ℝ) : EReal))

include h0 h1 h2
theorem out_mid : (V1 m ρ c main_v0_0 : S16384x512.Idx → EReal) = outA f0 f1 f2 := (W1_arr m ρ c 5).trans (out_arr (V0 m ρ) c (single h0) (single h1) (single h2))
theorem lse_mid : (V1 m ρ c main_v0_1 : S16384x128.Idx → EReal) = lseA f0 f1 := (W1_arr m ρ c 6).trans (Att1.lse_arr (V0 m ρ) c (single h0) (single h1) (single h2))
theorem out_end : (W2 m ρ c (Proc.devRef .tc main_v0_0) : S16384x512.Idx → EReal) = outA f0 f1 f2 :=
  (W2_of m ρ c main_v0_0 (by decide +kernel)).trans (out_mid ρ h0 h1 h2)
theorem lse_end : (W2 m ρ c (Proc.devRef .tc main_v0_1) : S16384x128.Idx → EReal) = lseA f0 f1 :=
  (W2_of m ρ c main_v0_1 (by decide +kernel)).trans (lse_mid ρ h0 h1 h2)
include h3
theorem dq_end : (W2 m ρ c (Proc.devRef .tc main_v1_0) : S16384x512.Idx → EReal) = dqA f0 f1 f2 f3 :=
  (W2_arr m ρ c 12).trans (dq_arr (V1 m ρ) c ((W1_args m ρ c main_arg0 (by decide)).trans (single h0)) ((W1_args m ρ c main_arg1 (by decide)).trans (single h1)) ((W1_args m ρ c main_arg2 (by decide)).trans (single h2)) ((W1_args m ρ c main_arg3 (by decide)).trans (single h3)) (out_mid ρ h0 h1 h2) (lse_mid ρ h0 h1 h2))
theorem dk_end : (W2 m ρ c (Proc.devRef .tc main_v1_1) : S16384x512.Idx → EReal) = dkA f0 f1 f2 f3 :=
  (W2_arr m ρ c 13).trans (dk_arr (V1 m ρ) c ((W1_args m ρ c main_arg0 (by decide)).trans (single h0)) ((W1_args m ρ c main_arg1 (by decide)).trans (single h1)) ((W1_args m ρ c main_arg2 (by decide)).trans (single h2)) ((W1_args m ρ c main_arg3 (by decide)).trans (single h3)) (out_mid ρ h0 h1 h2) (lse_mid ρ h0 h1 h2))
theorem dv_end : (W2 m ρ c (Proc.devRef .tc main_v1_2) : S16384x512.Idx → EReal) = dvA f0 f1 f3 :=
  (W2_arr m ρ c 14).trans (dv_arr (V1 m ρ) c ((W1_args m ρ c main_arg0 (by decide)).trans (single h0)) ((W1_args m ρ c main_arg1 (by decide)).trans (single h1)) ((W1_args m ρ c main_arg2 (by decide)).trans (single h2)) ((W1_args m ρ c main_arg3 (by decide)).trans (single h3)) (out_mid ρ h0 h1 h2) (lse_mid ρ h0 h1 h2))
end

open Cert.Att1RefIdeal.Read in
/-- Kernel and reference compute the same functions of finite arguments over the extended reals. -/
theorem algebraic : Cert.algebraic_Att1Ideal_Att1RefIdeal_pre_att_pre := by
  intro m g m' g' hpre hargs
  choose f0 f1 f2 f3 h0 h1 h2 h3 using fun c => reals_of_pre (hpre c)
  refine ⟨fun c => outA (f0 c) (f1 c) (f2 c), fun c => lseA (f0 c) (f1 c), fun c => dqA (f0 c) (f1 c) (f2 c) (f3 c),
    fun c => dkA (f0 c) (f1 c) (f2 c) (f3 c), fun c => dvA (f0 c) (f1 c) (f3 c),
    (θ_run Cert.Att1Ideal.defs _ _).mono (fun r h c => ?_) (run m g),
    (θ_run Cert.Att1RefIdeal.defs _ _).mono (fun r h c => ?_) (Cert.Att1RefIdeal.Value.run m' g')⟩
  · obtain ⟨e0, e1, e2, e3, e4, hr⟩ := h.1 c
    exact ⟨e0.trans (out_end g (h0 c) (h1 c) (h2 c)), e1.trans (lse_end g (h0 c) (h1 c) (h2 c)), e2.trans (dq_end g (h0 c) (h1 c) (h2 c) (h3 c)),
      e3.trans (dk_end g (h0 c) (h1 c) (h2 c) (h3 c)), e4.trans (dv_end g (h0 c) (h1 c) (h2 c) (h3 c)), hr⟩
  · obtain ⟨e0, e1, e2, e3, e4, hr⟩ := h c
    obtain ⟨k0, k1, k2, k3⟩ := hargs c
    have a0 := k0.trans (h0 c)
    have a1 := k1.trans (h1 c)
    have a2 := k2.trans (h2 c)
    have a3 := k3.trans (h3 c)
    exact ⟨e0.trans ((val_main_v95_eq _).trans (Ref.out_arr a0 a1 a2)), e1.trans ((val_main_v93_eq _).trans (Ref.lse_arr a0 a1)),
      e2.trans ((val_main_v168_eq _).trans (Ref.dq_arr a0 a1 a2 a3)), e3.trans ((val_main_v170_eq _).trans (Ref.dk_arr a0 a1 a2 a3)),
      e4.trans ((val_main_v172_eq _).trans (Ref.dv_arr a0 a1 a3)), hr⟩

end Cert.Proof.Att1
end
-- ==== Proof.Att4Run.lean ====
/- The run of the two calls of the attention over 4 sequences, with what its five results end at. -/
module

public import proofs.«01_k».proof.Proof.Gen.Att4Ideal.Frame

@[expose] public section

set_option maxRecDepth 16384

noncomputable section

namespace Cert.Proof.Att4

open Cert.Att4Ideal Cert.Att4Ideal.Gen Idealize.ShloMosaic TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F] [Named F]

/-- The run's resources. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the contents of the five results. -/
theorem run : θ_run defs (onTc (τ := τ) (main (F := F))) ⟨m, fun _ => 0, ρ⟩ (fun r => (∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_v8_2) = W4 m ρ c (Proc.devRef .tc main_v8_2)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3_0 (by decide)), h c _ (mem_uc main_v3_1 (by decide)), h c _ (mem_uc main_v8_0 (by decide)), h c _ (mem_uc main_v8_1 (by decide)), h c _ (mem_uc main_v8_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.Proof.Att4

end
-- ==== Proof.AttCast.lean ====
/-
  The operands of a tile where each block is cut to one head through a reshape to the shape it has already: the same operands.
-/
module

public import proofs.«01_k».proof.Proof.AttOps

@[expose] public section

set_option maxRecDepth 16384

noncomputable section

namespace Cert.Proof.Att

open Cert.Att1Ideal Cert.Att1Ideal.Gen Idealize.ShloMosaic TcCoe

section cuts
variable (h : Fin 4) (j : Fin 8)

def headCast (x : Vec Ideal S1024x512 .bf16) : FVec Ideal S1024x128 .bf16 :=
  shapeCast S1024x128 (headCut h x) shapeCasts_S1024x128_S1024x128
def rowsNCast (x : Vec Ideal S128x512 .bf16) : Rows := shapeCast S128x128 (rowsNCut h x) shapeCasts_S128x128_S128x128
def rowsCast (x : Vec Ideal S1024x512 .bf16) : Rows :=
  extractStridedSlice S128x128 ![j.val * 128, 0] (headCast h x) (sl_rows j)
def allCast (x : Vec Ideal S1024x512 .bf16) (xp : Vec Ideal S128x512 .bf16) : FVec Ideal S1152x128 .bf16 :=
  concatenate S1152x128 0 [⟨S128x128, rowsNCast h xp⟩, ⟨S1024x128, headCast h x⟩] concatenates_S128x128_S1024x128_S1152x128_d0
def keysCast (x : Vec Ideal S1024x512 .bf16) (xp : Vec Ideal S128x512 .bf16) : Keys :=
  extractStridedSlice S256x128 ![j.val * 128, 0] (allCast h x xp) (sl_keys j)
def lastCast (x : Vec Ideal S1024x512 .bf16) (xp : Vec Ideal S128x512 .bf16) : Rows :=
  extractStridedSlice S128x128 ![1024, 0] (allCast h x xp) slices_S1152x128_o1024_0_S128x128
def deltaCast (x o : Vec Ideal S1024x512 .bf16) : Col :=
  extractStridedSlice S128x1 ![j.val * 128, 0] (shapeCast S1024x1 (multiReduction .add [1] S1024
    (mulf (extf .f32 (headCast h x) bitsLt_bf16_f32) (extf .f32 (headCast h o) bitsLt_bf16_f32))
    0x00000000#32 reduces_S1024x128_S1024 (.inl rfl) rfl) shapeCasts_S1024_S1024x1) (sl_col j)
def deltaNCast (x o : Vec Ideal S128x512 .bf16) : Col :=
  shapeCast S128x1 (multiReduction .add [1] S128
    (mulf (extf .f32 (rowsNCast h x) bitsLt_bf16_f32) (extf .f32 (rowsNCast h o) bitsLt_bf16_f32))
    0x00000000#32 reduces_S128x128_S128 (.inl rfl) rfl) shapeCasts_S128_S128x1

end cuts

theorem head_cast : headCast = headCut := by funext h x; exact shapeCast_self _ _
theorem rowsN_cast : rowsNCast = rowsNCut := by funext h x; exact shapeCast_self _ _
theorem rows_cast : rowsCast = rowsCut := by unfold rowsCast; rw [head_cast]; rfl
theorem all_cast : allCast = allCut := by unfold allCast; rw [head_cast, rowsN_cast]; rfl
theorem keys_cast : keysCast = keysCut := by unfold keysCast; rw [all_cast]; rfl
theorem last_cast : lastCast = lastCut := by unfold lastCast; rw [all_cast]; rfl
theorem delta_cast : deltaCast = deltaCut := by unfold deltaCast deltaCut; rw [← head_cast]; unfold headCast; simp only [shapeCast_self]
theorem deltaN_cast : deltaNCast = deltaNCut := by unfold deltaNCast deltaNCut; rw [← rowsN_cast]; unfold rowsNCast; simp only [shapeCast_self]

end Cert.Proof.Att
end
-- ==== Proof.Att4Stores.lean ====
/- What the two calls of the attention over 4 sequences store at a grid point, as the tile operations of AttOps. -/
module

public import proofs.«01_k».proof.Proof.AttCast
public import proofs.«01_k».proof.Proof.Gen.Att4Ideal.Frame.Region0
public import proofs.«01_k».proof.Proof.Gen.Att4Ideal.Frame.Region1

@[expose] public section

set_option maxRecDepth 16384

noncomputable section

namespace Cert.Proof.Att4

open Cert.Att4Ideal Cert.Att4Ideal.Gen Idealize.ShloMosaic TcCoe Idealize.SL.Sem
open Cert.Proof.Att Cert.Proof.RealValues

section fwd
variable (i : grid0.Coords) (x0 x1 : Vec Ideal S1024x512 .bf16) (x2 : Vec Ideal S128x512 .bf16) (x3 : Vec Ideal S1024x512 .bf16)
  (x4 : Vec Ideal S128x512 .bf16)

theorem out_stores :
    out0_5 i x0 x1 x2 x3 x4 = View.canon (tilesOf fun h j => tileOut (tileMask (Scalar.cmpi .sgt (BitVec.ofNat 32 (i 1).val) 0#32) j)
      (rowsCut h j x0) (keysCut h j x1 x2) (keysCut h j x3 x4)) := by
  rw [← rows_cast, ← keys_cast]
  sl_kernel_rfl

theorem lse_stores :
    out0_6 i x0 x1 x2 x3 x4 = View.canon (lanesOf fun h j => tileLse (tileMask (Scalar.cmpi .sgt (BitVec.ofNat 32 (i 1).val) 0#32) j)
      (rowsCut h j x0) (keysCut h j x1 x2)) := by
  rw [← rows_cast, ← keys_cast]
  sl_kernel_rfl

end fwd

section bwd
variable (i : grid1.Coords) (x0 : Vec Ideal S1024x512 .bf16) (x1 : Vec Ideal S128x512 .bf16) (x2 : Vec Ideal S1024x512 .bf16)
  (x3 : Vec Ideal S128x512 .bf16) (x4 : Vec Ideal S1024x512 .bf16) (x5 : Vec Ideal S128x512 .bf16) (x6 : Vec Ideal S1024x512 .bf16)
  (x7 : Vec Ideal S128x512 .bf16) (x8 : Vec Ideal S1024x512 .bf16) (x9 : Vec Ideal S128x512 .bf16) (x10 : Vec Ideal S1024x128 .f32)
  (x11 : Vec Ideal S128x128 .f32)

theorem dq_stores :
    out1_12 i x0 x1 x2 x3 x4 x5 x6 x7 x8 x9 x10 x11 = View.canon (tilesOf fun h j =>
      tileDq (tileMask (Scalar.cmpi .sgt (BitVec.ofNat 32 (i 1).val) 0#32) j) (rowsCut h j x0) (keysCut h j x2 x3) (keysCut h j x4 x5)
        (rowsCut h j x6) (deltaCut h j x6 x8) (lseCut h j x10)) := by
  rw [← rows_cast, ← keys_cast, ← delta_cast]
  sl_kernel_rfl

theorem dk_stores :
    out1_13 i x0 x1 x2 x3 x4 x5 x6 x7 x8 x9 x10 x11 = View.canon (tilesOf (shared
      (fun h j => tileDk (tileMask (Scalar.cmpi .sgt (BitVec.ofNat 32 (i 1).val) 0#32) j) (rowsCut h j x0) (keysCut h j x2 x3)
        (keysCut h j x4 x5) (rowsCut h j x6) (deltaCut h j x6 x8) (lseCut h j x10))
      (fun h => nextDk (nextMask (Scalar.cmpi .slt (BitVec.ofNat 32 (i 1).val) 3#32)) (rowsNCut h x1) (lastCut h x2 x3) (lastCut h x4 x5)
        (rowsNCut h x7) (deltaNCut h x7 x9) (lseNCut h x11)))) := by
  rw [← rowsN_cast, ← rows_cast, ← keys_cast, ← last_cast, ← delta_cast, ← deltaN_cast]
  sl_kernel_rfl

theorem dv_stores :
    out1_14 i x0 x1 x2 x3 x4 x5 x6 x7 x8 x9 x10 x11 = View.canon (tilesOf (shared
      (fun h j => tileDv (tileMask (Scalar.cmpi .sgt (BitVec.ofNat 32 (i 1).val) 0#32) j) (rowsCut h j x0) (keysCut h j x2 x3)
        (rowsCut h j x6) (lseCut h j x10))
      (fun h => nextDv (nextMask (Scalar.cmpi .slt (BitVec.ofNat 32 (i 1).val) 3#32)) (rowsNCut h x1) (lastCut h x2 x3)
        (rowsNCut h x7) (lseNCut h x11)))) := by
  rw [← rowsN_cast, ← rows_cast, ← keys_cast, ← last_cast]
  sl_kernel_rfl

end bwd

end Cert.Proof.Att4
end
-- ==== Proof.Att4Kernel.lean ====
/- The arrays that the two calls of the attention over 4 sequences leave. -/
module

public import proofs.«01_k».proof.Proof.AttArr
public import proofs.«01_k».proof.Proof.Att4Stores

@[expose] public section

set_option maxRecDepth 16384

noncomputable section

namespace Cert.Proof.Att4

open Cert.Att4Ideal Cert.Att4Ideal.Gen Idealize.ShloMosaic TcCoe Idealize.SL.Sem
open Cert.Proof.Att Cert.Proof.RealValues

/-- The block indices of the windows, and the second grid coordinate. -/
theorem idx0 : ∀ t : Fin cfg0.N, (grid0.coords t 1).val = t.val % 4 ∧ win0_0.index t = ![t.val % 4, t.val / 4] ∧ win0_1.index t = ![t.val % 4, t.val / 4]
    ∧ win0_3.index t = ![t.val % 4, t.val / 4] ∧ win0_5.index t = ![t.val % 4, t.val / 4] ∧ win0_6.index t = ![t.val % 4, t.val / 4]
    ∧ win0_2.index t = ![t.val % 4 * 8 - 1, t.val / 4] ∧ win0_4.index t = ![t.val % 4 * 8 - 1, t.val / 4] := by decide +kernel
theorem idx1 : ∀ t : Fin cfg1.N, (grid1.coords t 1).val = t.val % 4 ∧ win1_0.index t = ![t.val % 4, t.val / 4] ∧ win1_2.index t = ![t.val % 4, t.val / 4]
    ∧ win1_4.index t = ![t.val % 4, t.val / 4] ∧ win1_6.index t = ![t.val % 4, t.val / 4] ∧ win1_8.index t = ![t.val % 4, t.val / 4] ∧ win1_10.index t = ![t.val % 4, t.val / 4] := by decide +kernel
theorem idx1o : ∀ t : Fin cfg1.N, win1_12.index t = ![t.val % 4, t.val / 4] ∧ win1_13.index t = ![t.val % 4, t.val / 4] ∧ win1_14.index t = ![t.val % 4, t.val / 4]
    ∧ win1_3.index t = ![t.val % 4 * 8 - 1, t.val / 4] ∧ win1_5.index t = ![t.val % 4 * 8 - 1, t.val / 4] := by decide +kernel
theorem idx1n : ∀ t : Fin cfg1.N, win1_1.index t = ![min (t.val % 4 * 8 + 8) 31, t.val / 4] ∧ win1_7.index t = ![min (t.val % 4 * 8 + 8) 31, t.val / 4] ∧ win1_9.index t = ![min (t.val % 4 * 8 + 8) 31, t.val / 4] ∧ win1_11.index t = ![min (t.val % 4 * 8 + 8) 31, t.val / 4] := by
  decide +kernel

variable (V : (c : Dev nD) → (b : Ref sig .tc) → Buf (Elt Ideal) ((c : Thread nD τ).loc b)) (c : Dev nD) {Q K W G : ℕ → Seqs}

/-- The point whose block holds an index of a result. -/
def pt0 {w : ℕ} {tw : ℕ} (hw : w = 4 * tw) (I : (⟨2, ![4096, w]⟩ : Shape).Idx) : Fin cfg0.N :=
  ⟨(I 1 : ℕ) / tw * 4 + (I 0 : ℕ) / 1024, by
    have h0 : (I 0 : ℕ) < 4096 := (I 0).isLt
    have h1 : (I 1 : ℕ) < w := (I 1).isLt
    have h2 : (I 1 : ℕ) / tw < 4 := Nat.div_lt_of_lt_mul (by rw [Nat.mul_comm]; omega)
    rw [show cfg0.N = 16 from N_0]; omega⟩
def pt1 {w : ℕ} {tw : ℕ} (hw : w = 4 * tw) (I : (⟨2, ![4096, w]⟩ : Shape).Idx) : Fin cfg1.N := (pt0 hw I).cast (N_0.trans N_1.symm)

theorem pt_idx {w : ℕ} {tw : ℕ} (hw : w = 4 * tw) (I : (⟨2, ![4096, w]⟩ : Shape).Idx) :
    (![(pt0 hw I).val % 4, (pt0 hw I).val / 4] : Fin 2 → ℕ) = ![(I 0 : ℕ) / 1024, (I 1 : ℕ) / tw] := by
  have h0 : (I 0 : ℕ) < 4096 := (I 0).isLt
  have e1 : (pt0 hw I).val % 4 = (I 0 : ℕ) / 1024 := by show ((I 1 : ℕ) / tw * 4 + (I 0 : ℕ) / 1024) % 4 = _; omega
  have e2 : (pt0 hw I).val / 4 = (I 1 : ℕ) / tw := by show ((I 1 : ℕ) / tw * 4 + (I 0 : ℕ) / 1024) / 4 = _; omega
  rw [e1, e2]

theorem bit0 (t : Fin cfg0.N) : Scalar.cmpi .sgt (BitVec.ofNat 32 (grid0.coords t 1).val) 0#32 = bit (0 < t.val % 4) := by
  rw [(idx0 t).1]; exact bit_first (by omega)

section fwd
variable (hq : (V c main_v0 : S4096x2048.Idx → EReal) = arrOf (allRows Q)) (hk : (V c main_v1 : S4096x2048.Idx → EReal) = arrOf (allRows K))
  (hv : (V c main_v2 : S4096x2048.Idx → EReal) = arrOf (allRows W))
include hq hk hv
theorem windows0 (t : Fin cfg0.N) : Windows (Q (t.val / 4)) (K (t.val / 4)) (W (t.val / 4)) (t.val % 4) (iblk0 V c 0 t) (iblk0 V c 1 t) (iblk0 V c 3 t) (iblk0 V c 2 t) (iblk0 V c 4 t) where
  q := isWin hq (idx0 t).2.1 fun y => ⟨_, rfl, rfl, rfl⟩
  k := isWin hk (idx0 t).2.2.1 fun y => ⟨_, rfl, rfl, rfl⟩
  v := isWin hv (idx0 t).2.2.2.1 fun y => ⟨_, rfl, rfl, rfl⟩
  kp _ := isBlk hk ((idx0 t).2.2.2.2.2.2.1.trans (by rw [Nat.mul_comm])) fun y => ⟨_, rfl, rfl, rfl⟩
  vp _ := isBlk hv ((idx0 t).2.2.2.2.2.2.2.trans (by rw [Nat.mul_comm])) fun y => ⟨_, rfl, rfl, rfl⟩

theorem out_arr : (dat0 V c).arrAt 5 cfg0.N = (arrOf (allOuts Q K W) : S4096x2048.Idx → EReal) := by
  refine (dat0 V c).arrAt_eq_of_cover 5 _ (fun t _ => ?_) (fun (I : S4096x2048.Idx) => ⟨pt0 (tw := 512) rfl I, flush0_5 _, ?_⟩)
  · show (cfg0.win 5).cut (grid0.coords t) ((dat0 V c).after 5 t) = _
    rw [after0_5, out_stores]
    refine funext fun (y : S1024x512.Idx) => ?_
    exact block_eq (v := allOuts Q K W) (r := (t.val / 4)) (i := (t.val % 4))
      (fun j a h e => out_block (windows0 V c hq hk hv t) (bit0 t) j a h e) (idx0 t).2.2.2.2.1 y rfl rfl
  · refine in_block ?_
    exact blocks_cover I (by norm_num) (by norm_num) ((idx0 _).2.2.2.2.1.trans (pt_idx (tw := 512) rfl I))

theorem lse_arr : (dat0 V c).arrAt 6 cfg0.N = (lanesArr (allLse Q K) : S4096x512.Idx → EReal) := by
  refine (dat0 V c).arrAt_eq_of_cover 6 _ (fun t _ => ?_) (fun (I : S4096x512.Idx) => ⟨pt0 (tw := 128) rfl I, flush0_6 _, ?_⟩)
  · show (cfg0.win 6).cut (grid0.coords t) ((dat0 V c).after 6 t) = _
    rw [after0_6, lse_stores]
    refine funext fun (y : S1024x128.Idx) => ?_
    exact lanes_eq (l := allLse Q K) (r := (t.val / 4)) (i := (t.val % 4))
      (fun j a h k => lse_block (windows0 V c hq hk hv t) (bit0 t) j a h k) (idx0 t).2.2.2.2.2.1 y rfl rfl
  · refine in_block ?_
    exact blocks_cover I (by norm_num) (by norm_num) ((idx0 _).2.2.2.2.2.1.trans (pt_idx (tw := 128) rfl I))

end fwd

section bwd
variable (hq : (V c main_v4 : S4096x2048.Idx → EReal) = arrOf (allRows Q)) (hk : (V c main_v5 : S4096x2048.Idx → EReal) = arrOf (allRows K))
  (hv : (V c main_v6 : S4096x2048.Idx → EReal) = arrOf (allRows W)) (hg : (V c main_v7 : S4096x2048.Idx → EReal) = arrOf (allRows G))
  (ho : (V c main_v3_0 : S4096x2048.Idx → EReal) = arrOf (allOuts Q K W)) (hl : (V c main_v3_1 : S4096x512.Idx → EReal) = lanesArr (allLse Q K))

theorem bit1 (t : Fin cfg1.N) : Scalar.cmpi .sgt (BitVec.ofNat 32 (grid1.coords t 1).val) 0#32 = bit (0 < t.val % 4) := by
  rw [(idx1 t).1]; exact bit_first (by omega)
theorem bit1n (t : Fin cfg1.N) : Scalar.cmpi .slt (BitVec.ofNat 32 (grid1.coords t 1).val) 3#32 = bit (t.val % 4 + 1 < 4) := by
  rw [(idx1 t).1]; exact bit_last (y := 3) (by omega) (by norm_num)

theorem nextIdx (t : Fin cfg1.N) (h : t.val % 4 + 1 < 4) : (![min (t.val % 4 * 8 + 8) 31, t.val / 4] : Fin 2 → ℕ) = ![8 * (t.val % 4) + 8, t.val / 4] := by
  rw [show min (t.val % 4 * 8 + 8) 31 = 8 * (t.val % 4) + 8 by omega]

include hq hk hv
theorem windows1 (t : Fin cfg1.N) : Windows (Q (t.val / 4)) (K (t.val / 4)) (W (t.val / 4)) (t.val % 4) (iblk1 V c 0 t) (iblk1 V c 2 t) (iblk1 V c 4 t) (iblk1 V c 3 t) (iblk1 V c 5 t) where
  q := isWin hq (idx1 t).2.1 fun y => ⟨_, rfl, rfl, rfl⟩
  k := isWin hk (idx1 t).2.2.1 fun y => ⟨_, rfl, rfl, rfl⟩
  v := isWin hv (idx1 t).2.2.2.1 fun y => ⟨_, rfl, rfl, rfl⟩
  kp _ := isBlk hk ((idx1o t).2.2.2.1.trans (by rw [Nat.mul_comm])) fun y => ⟨_, rfl, rfl, rfl⟩
  vp _ := isBlk hv ((idx1o t).2.2.2.2.trans (by rw [Nat.mul_comm])) fun y => ⟨_, rfl, rfl, rfl⟩

include hg ho hl
theorem backWindows (t : Fin cfg1.N) : BackWindows (Q (t.val / 4)) (K (t.val / 4)) (W (t.val / 4)) (G (t.val / 4)) (t.val % 4) 4 (iblk1 V c 6 t) (iblk1 V c 8 t) (iblk1 V c 10 t)
    (iblk1 V c 1 t) (iblk1 V c 7 t) (iblk1 V c 9 t) (iblk1 V c 11 t) where
  g := isWin hg (idx1 t).2.2.2.2.1 fun y => ⟨_, rfl, rfl, rfl⟩
  o := isWin ho (idx1 t).2.2.2.2.2.1 fun y => ⟨_, rfl, rfl, rfl⟩
  l := isLse hl (idx1 t).2.2.2.2.2.2 fun y => ⟨_, rfl, rfl, rfl⟩
  qn h := isBlk hq ((idx1n t).1.trans (nextIdx t h)) fun y => ⟨_, rfl, rfl, rfl⟩
  gn h := isBlk hg ((idx1n t).2.1.trans (nextIdx t h)) fun y => ⟨_, rfl, rfl, rfl⟩
  on h := isBlk ho ((idx1n t).2.2.1.trans (nextIdx t h)) fun y => ⟨_, rfl, rfl, rfl⟩
  ln h := isLseBlk hl ((idx1n t).2.2.2.trans (nextIdx t h)) fun y => ⟨_, rfl, rfl, rfl⟩

theorem dq_arr : (dat1 V c).arrAt 12 cfg1.N = (arrOf (allDq Q K W G) : S4096x2048.Idx → EReal) := by
  refine (dat1 V c).arrAt_eq_of_cover 12 _ (fun t _ => ?_) (fun (I : S4096x2048.Idx) => ⟨pt1 (tw := 512) rfl I, flush1_12 _, ?_⟩)
  · show (cfg1.win 12).cut (grid1.coords t) ((dat1 V c).after 12 t) = _
    rw [after1_12, dq_stores]
    refine funext fun (y : S1024x512.Idx) => ?_
    exact block_eq (v := allDq Q K W G) (r := (t.val / 4)) (i := (t.val % 4))
      (fun j a h e => dq_block (windows1 V c hq hk hv t) (bit1 t) j a h e (backWindows V c hq hk hv hg ho hl t)) (idx1o t).1 y rfl rfl
  · refine in_block ?_
    exact blocks_cover I (by norm_num) (by norm_num) ((idx1o _).1.trans (pt_idx (tw := 512) rfl I))

theorem dk_arr : (dat1 V c).arrAt 13 cfg1.N = (arrOf (allDk 32 Q K W G) : S4096x2048.Idx → EReal) := by
  refine (dat1 V c).arrAt_eq_of_cover 13 _ (fun t _ => ?_) (fun (I : S4096x2048.Idx) => ⟨pt1 (tw := 512) rfl I, flush1_13 _, ?_⟩)
  · show (cfg1.win 13).cut (grid1.coords t) ((dat1 V c).after 13 t) = _
    rw [after1_13, dk_stores]
    refine funext fun (y : S1024x512.Idx) => ?_
    exact block_eq (v := allDk 32 Q K W G) (r := (t.val / 4)) (i := (t.val % 4))
      (fun j a h e => dk_block (windows1 V c hq hk hv t) (bit1 t) j a h e (backWindows V c hq hk hv hg ho hl t) (bit1n t) 32 rfl (Nat.mod_lt _ (by norm_num))) (idx1o t).2.1 y rfl rfl
  · refine in_block ?_
    exact blocks_cover I (by norm_num) (by norm_num) ((idx1o _).2.1.trans (pt_idx (tw := 512) rfl I))

theorem dv_arr : (dat1 V c).arrAt 14 cfg1.N = (arrOf (allDv 32 Q K G) : S4096x2048.Idx → EReal) := by
  refine (dat1 V c).arrAt_eq_of_cover 14 _ (fun t _ => ?_) (fun (I : S4096x2048.Idx) => ⟨pt1 (tw := 512) rfl I, flush1_14 _, ?_⟩)
  · show (cfg1.win 14).cut (grid1.coords t) ((dat1 V c).after 14 t) = _
    rw [after1_14, dv_stores]
    refine funext fun (y : S1024x512.Idx) => ?_
    exact block_eq (v := allDv 32 Q K G) (r := (t.val / 4)) (i := (t.val % 4))
      (fun j a h e => dv_block (windows1 V c hq hk hv t) (bit1 t) j a h e (backWindows V c hq hk hv hg ho hl t) (bit1n t) 32 rfl (Nat.mod_lt _ (by norm_num))) (idx1o t).2.2.1 y rfl rfl
  · refine in_block ?_
    exact blocks_cover I (by norm_num) (by norm_num) ((idx1o _).2.2.1.trans (pt_idx (tw := 512) rfl I))

end bwd

end Cert.Proof.Att4
end
-- ==== Proof.Att4Ref.lean ====
/- The reference of the attention over 4 sequences, stage by stage, as the functions of AttMath. -/
module

public import proofs.«01_k».proof.Proof.AttRef
public import proofs.«01_k».proof.Proof.Gen.Att4RefIdeal.Read

@[expose] public section

set_option maxRecDepth 16384

noncomputable section

namespace Cert.Proof.Att4.Ref

open Cert.Att4RefIdeal Cert.Att4RefIdeal.Gen Cert.Att4RefIdeal.Read Idealize.ShloMosaic TcCoe Idealize.SL.Sem
open Cert.Proof.Att Cert.Proof.RealValues

variable {x0 x1 x2 x3 : (⟨S16384x512, .bf16⟩ : BufTy).Contents (Elt Ideal)} {f0 f1 f2 f3 : S16384x512.Idx → ℝ}
  (h0 : (x0 : S16384x512.Idx → EReal) = fun i => ((f0 i : ℝ) : EReal)) (h1 : (x1 : S16384x512.Idx → EReal) = fun i => ((f1 i : ℝ) : EReal))
  (h2 : (x2 : S16384x512.Idx → EReal) = fun i => ((f2 i : ℝ) : EReal)) (h3 : (x3 : S16384x512.Idx → EReal) = fun i => ((f3 i : ℝ) : EReal))

/-- A function of the sequences of the arguments, at sequence `r` and head `h`. -/
local notation:max "QK[" F ", " r ", " h "]" => F (seqs f0 4 r h) (seqs f1 4 r h)
local notation:max "QKV[" F ", " r ", " h "]" => F (seqs f0 4 r h) (seqs f1 4 r h) (seqs f2 4 r h)
local notation:max "QKG[" F ", " r ", " h "]" => F (seqs f0 4 r h) (seqs f1 4 r h) (seqs f3 4 r h)
local notation:max "QKVG[" F ", " r ", " h "]" => F (seqs f0 4 r h) (seqs f1 4 r h) (seqs f2 4 r h) (seqs f3 4 r h)

/-! ## The arguments as blocks of rows -/

include h0 in
theorem rows_at (i : S4x32x128x4x128.Idx) :
    (val_main_v8 (F := Ideal) x0 i : EReal) = (seqs f0 4 (i 0).val (i 3) (qrow (i 1).val (i 2)) (i 4) : ℝ) := by
  obtain ⟨b0, b1, b2, b3, b4⟩ := lt5 i
  rw [val_main_v8_apply, val_main_v7_apply, val_main_v6_apply, val_main_v1_apply, val_main_v0_apply]
  refine seqs_at h0 ?_ ?_
  · simp only [idx_main_v1, idx_main_v6, idx_main_v7, idx_main_v8, qrow]; omega
  · simp only [idx_main_v1, idx_main_v6, idx_main_v7, idx_main_v8, qrow]; omega

theorem rows_k : val_main_v11 (F := Ideal) x1 = val_main_v8 (F := Ideal) x1 := rfl
theorem rows_g : val_main_v104 (F := Ideal) x3 = val_main_v8 (F := Ideal) x3 := rfl
theorem keys_v : val_main_v26 (F := Ideal) x2 = val_main_v17 (F := Ideal) x2 := rfl

include h1 in
theorem keys_at (i : S4x32x256x4x128.Idx) (hs : 0 < (i 1).val ∨ 128 ≤ (i 2).val) :
    (val_main_v17 (F := Ideal) x1 i : EReal) = (seqs f1 4 (i 0).val (i 3) (krow (i 1).val (i 2)) (i 4) : ℝ) := by
  obtain ⟨b0, b1, b2, b3, b4⟩ := lt5 i
  unfold val_main_v17
  by_cases hb : (i 2).val < 128
  · have hn : 0 < (i 1).val := by omega
    rw [concatenate_apply_piece (t := S4x32x256x4x128) 2 [⟨S4x32x128x4x128, val_main_v15 (F := Ideal) x1⟩, ⟨S4x32x128x4x128, val_main_v11 (F := Ideal) x1⟩] _ i 0 Nat.two_pos S4x32x128x4x128 _ rfl rfl 0 rfl (ix5 (i 0) (i 1) ⟨(i 2).val, hb⟩ (i 3) (i 4))
      (fun k => match k with | 0 | 1 | 3 | 4 => fun _ => rfl | 2 => fun h => absurd rfl h) (Nat.zero_add _)]
    unfold val_main_v15
    rw [concatenate_apply_piece (t := S4x32x128x4x128) 1 [⟨S4x1x128x4x128, val_main_v13 (F := Ideal)⟩, ⟨S4x31x128x4x128, val_main_v14 (F := Ideal) x1⟩] _ (ix5 (i 0) (i 1) ⟨(i 2).val, hb⟩ (i 3) (i 4)) 1 Nat.one_lt_two S4x31x128x4x128 _ rfl rfl 1 rfl
      (ix5 (i 0) ⟨(i 1).val - 1, by omega⟩ ⟨(i 2).val, hb⟩ (i 3) (i 4))
      (fun k => match k with | 0 | 2 | 3 | 4 => fun _ => rfl | 1 => fun h => absurd rfl h) (by show 1 + ((i 1).val - 1) = (i 1).val; omega),
      val_main_v14_apply, rows_k, rows_at h1]
    refine congrArg (fun z => ((seqs f1 4 (i 0).val (i 3) z (i 4) : ℝ) : EReal)) ?_
    show ((i 1).val - 1) * 128 + (i 2).val = (i 1).val * 128 + (i 2).val - 128
    omega
  · rw [concatenate_apply_piece (t := S4x32x256x4x128) 2 [⟨S4x32x128x4x128, val_main_v15 (F := Ideal) x1⟩, ⟨S4x32x128x4x128, val_main_v11 (F := Ideal) x1⟩] _ i 1 Nat.one_lt_two S4x32x128x4x128 _ rfl rfl 128 rfl (ix5 (i 0) (i 1) ⟨(i 2).val - 128, by omega⟩ (i 3) (i 4))
      (fun k => match k with | 0 | 1 | 3 | 4 => fun _ => rfl | 2 => fun h => absurd rfl h) (by show 128 + ((i 2).val - 128) = (i 2).val; omega),
      rows_k, rows_at h1]
    refine congrArg (fun z => ((seqs f1 4 (i 0).val (i 3) z (i 4) : ℝ) : EReal)) ?_
    show (i 1).val * 128 + ((i 2).val - 128) = (i 1).val * 128 + (i 2).val - 128
    omega

/-! ## Indices, and one block down -/

theorem idx113 (i : S4x32x128x4x1.Idx) : idx_main_v113 i = ix4 (i 0) (i 1) (i 2) (i 3) := by
  obtain ⟨b0, b1, b2, b3, b4⟩ := lt5 i
  refine funext fun (k : Fin 4) => Fin.ext ?_
  fin_cases k <;> simp only [idx_main_v113] <;> (show _ = (i _).val) <;> omega

theorem zero105 (i : S4x32x4x128.Idx) : (val_main_v105 (F := Ideal) i : EReal) = (0 : ℝ) := by
  rw [val_main_v105_apply, val_main_v101_apply, val_main_v100_apply, val_main_v99_apply, val_main_v98_apply]; exact lit_zero

/-- The shares moved one block down, with nothing in the last block. -/
theorem next_at (s : S4x31x128x4x128.Idx → EReal) (p : ℕ → ℕ → Fin 4 → Fin 256 → Fin 128 → ℝ)
    (hs : ∀ i, s i = ((p (i 0).val (1 + (i 1).val) (i 3) (before (i 2)) (i 4) : ℝ) : EReal)) (i : S4x32x128x4x128.Idx) :
    pad S4x32x128x4x128 ![0, 0, 0, 0, 0] ![0, 1, 0, 0, 0] ![0, 0, 0, 0, 0] s (val_main_cst_18 (F := Ideal)) pads_S4x31x128x4x128_S4x32x128x4x128_000_010_000_000_000 h_S_ i
      = (if (i 1).val + 1 < 32 then p (i 0).val ((i 1).val + 1) (i 3) (before (i 2)) (i 4) else 0 : ℝ) := by
  by_cases hn : (i 1).val + 1 < 32
  · rw [if_pos hn, pad_apply_of_inside ![0, 0, 0, 0, 0] ![0, 1, 0, 0, 0] ![0, 0, 0, 0, 0] s (val_main_cst_18 (F := Ideal)) pads_S4x31x128x4x128_S4x32x128x4x128_000_010_000_000_000 h_S_ i
      (ix5 (i 0) ⟨(i 1).val, by omega⟩ (i 2) (i 3) (i 4)) (fun a => match a with | 0 | 1 | 2 | 3 | 4 => ((Nat.zero_add _).trans (Nat.mul_one _)).symm), hs]
    exact congrArg (fun z => ((p (i 0).val z (i 3) (before (i 2)) (i 4) : ℝ) : EReal)) (Nat.add_comm _ _)
  · rw [if_neg hn, pad_apply_of_not_inside ![0, 0, 0, 0, 0] ![0, 1, 0, 0, 0] ![0, 0, 0, 0, 0] s (val_main_cst_18 (F := Ideal)) pads_S4x31x128x4x128_S4x32x128x4x128_000_010_000_000_000 h_S_ i 1
      (fun h => hn (by
        have e : ((i 1).val - 0) / (0 + 1) < 31 := h.2.2
        omega))]
    exact lit_zero

theorem step85 (i : S4x4096x4x128.Idx) : (idx_main_v85 i 0).val = (i 0).val ∧ (idx_main_v85 i 1).val = (i 1).val / 128 ∧ (idx_main_v85 i 2).val = (i 1).val % 128
    ∧ (idx_main_v85 i 3).val = (i 2).val ∧ (idx_main_v85 i 4).val = (i 3).val := by
  obtain ⟨b0, b1, b2, b3⟩ := lt4 i
  refine ⟨?_, ?_, ?_, ?_, ?_⟩ <;> simp only [idx_main_v85] <;> omega

theorem step87 (i : S16384x4x128.Idx) : (idx_main_v87 i 0).val = (i 0).val / 4 ∧ (idx_main_v87 i 1).val = (i 0).val % 4
    ∧ (idx_main_v87 i 2).val = (i 1).val ∧ (idx_main_v87 i 3).val = (i 2).val := by
  obtain ⟨b0, b1, b2⟩ := lt3 i
  refine ⟨?_, ?_, ?_, ?_⟩ <;> simp only [idx_main_v87] <;> omega

theorem step94 (i : S4096x2048.Idx) : (idx_main_v94 i 0).val = (i 0).val * 4 + (i 1).val / 512 ∧ (idx_main_v94 i 1).val = (i 1).val % 512 / 128
    ∧ (idx_main_v94 i 2).val = (i 1).val % 128 := by
  obtain ⟨b0, b1⟩ := lt2 i
  refine ⟨?_, ?_, ?_⟩ <;> simp only [idx_main_v94] <;> omega

theorem laid_at (v : ℕ → Vals) (I : S4096x2048.Idx) (J : S4x32x128x4x128.Idx) (hJ : J = idx_main_v85 (idx_main_v86 (idx_main_v87 (idx_main_v94 I)))) :
    ((v (J 0).val (J 3) (J 1).val (J 2) (J 4) : ℝ) : EReal) = arrOf v I := by
  obtain ⟨b0, b1⟩ := lt2 I
  obtain ⟨p0, p1, p2⟩ := step94 I
  obtain ⟨q0, q1, q2, q3⟩ := step87 (idx_main_v94 I)
  obtain ⟨r0, r1, r2, r3, r4⟩ := step85 (idx_main_v86 (idx_main_v87 (idx_main_v94 I)))
  rw [← hJ] at r0 r1 r2 r3 r4
  have s0 : (J 0).val = (idx_main_v87 (idx_main_v94 I) 1).val := r0
  have s1 : (J 1).val = (idx_main_v87 (idx_main_v94 I) 0).val / 128 := r1
  have s2 : (J 2).val = (idx_main_v87 (idx_main_v94 I) 0).val % 128 := r2
  have s3 : (J 3).val = (idx_main_v87 (idx_main_v94 I) 2).val := r3
  have s4 : (J 4).val = (idx_main_v87 (idx_main_v94 I) 3).val := r4
  refine (arrOf_at v ?_ ?_).symm
  · rw [s1, s2, q0, p0]; show (I 0).val = _; omega
  · rw [s0, s3, s4, q1, q2, q3, p0, p1, p2]; show (I 1).val = _; omega

theorem step88 (i : S4x4096x4.Idx) : (idx_main_v88 i 0).val = (i 0).val ∧ (idx_main_v88 i 1).val = (i 1).val / 128 ∧ (idx_main_v88 i 2).val = (i 1).val % 128
    ∧ (idx_main_v88 i 3).val = (i 2).val := by
  obtain ⟨b0, b1, b2⟩ := lt3 i
  refine ⟨?_, ?_, ?_, ?_⟩ <;> simp only [idx_main_v88] <;> omega

theorem step90 (i : S16384x4.Idx) : (idx_main_v90 i 0).val = (i 0).val / 4 ∧ (idx_main_v90 i 1).val = (i 0).val % 4 ∧ (idx_main_v90 i 2).val = (i 1).val := by
  obtain ⟨b0, b1⟩ := lt2 i
  refine ⟨?_, ?_, ?_⟩ <;> simp only [idx_main_v90] <;> omega

theorem step93 (i : S4096x512.Idx) : (idx_main_v93 i 0).val = (i 0).val * 4 + (i 1).val / 128 ∧ (idx_main_v93 i 1).val = (i 1).val % 128 / 32 := by
  obtain ⟨b0, b1⟩ := lt2 i
  refine ⟨?_, ?_⟩ <;> simp only [idx_main_v93] <;> omega

/-! ## Forward -/

theorem mask_at (i : S4x32x4x128x256.Idx) : val_main_v57_1 (F := Ideal) i = seesBit (i 1).val (i 3) (i 4) := by
  obtain ⟨b0, b1, b2, b3, b4⟩ := lt5 i
  simp only [val_main_v57_1_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply]
  exact band_words (i 1).val (i 3).val (i 4).val (by omega) (i 3).isLt (i 4).isLt (i 3) (i 4) rfl rfl

include h0 h1

theorem masked_at (i : S4x32x4x128x256.Idx) :
    (val_main_v57_0 (F := Ideal) x0 x1 i : EReal) = QK[masked, (i 0).val, i 2] (i 1).val (i 3) (i 4) := by
  rw [val_main_v57_0_apply]
  refine select_masked (mask_at i) (fun h => ?_) word_bot
  rw [val_main_v27_apply]
  exact sum_real _ _ fun e => by rw [rows_at h0, keys_at h1 _ h.2, ← EReal.coe_mul]; rfl

theorem top_at (i : S4x32x4x128.Idx) :
    (val_main_v58 (F := Ideal) x0 x1 i : EReal) = (QK[top, (i 0).val, i 2] (i 1).val (i 3) : ℝ) := by
  refine Eq.trans ?_ (QK[fold_masked, (i 0).val, i 2] (i 1).val (i 3) (fun b => (val_main_v57_0 (F := Ideal) x0 x1 (ix5 (i 0) (i 1) (i 2) (i 3) b) : EReal))
    fun b => masked_at h0 h1 _)
  unfold val_main_v58
  generalize (val_main_v57_0 (F := Ideal) x0 x1 : S4x32x4x128x256.Idx → EReal) = y
  refine (Host.reduce_eq_fold (max : EReal → EReal → EReal) y (val_main_cst_8 (F := Ideal) : S_.Idx → EReal) reducesTo_S4x32x4x128x256_S4x32x4x128_d4 h_S_ i).trans ?_
  rw [Shape.ReducesTo.fold_fiber_r5_a4]
  exact congrArg (fun z => Finset.fold max z _ _) word_bot

omit h0 h1 in
theorem idx59 (i : S4x32x4x128x1.Idx) : idx_main_v59 i = ix4 (i 0) (i 1) (i 2) (i 3) := by
  obtain ⟨b0, b1, b2, b3, b4⟩ := lt5 i
  refine funext fun (k : Fin 4) => Fin.ext ?_
  fin_cases k <;> simp only [idx_main_v59] <;> (show _ = (i _).val) <;> omega

theorem isTop_at (i : S4x32x4x128x256.Idx) :
    (val_main_v62 (F := Ideal) x0 x1 i : EReal) = (QK[isTop, (i 0).val, i 2] (i 1).val (i 3) (i 4) : ℝ) := by
  rw [val_main_v62_apply, val_main_v61_apply, val_main_v60_apply, val_main_v59_apply, masked_at h0 h1, top_at h0 h1, idx59]
  exact oeq_num _ _

theorem tops_at (i : S4x32x4x128.Idx) :
    (val_main_v63 (F := Ideal) x0 x1 i : EReal) = (QK[tops, (i 0).val, i 2] (i 1).val (i 3) : ℝ) := by
  rw [val_main_v63_apply]
  refine (congrArg₂ (· + ·) lit_zero (sum_real _ _ fun k => isTop_at h0 h1 _)).trans ?_
  rw [EReal.coe_zero, zero_add]
  rfl

theorem top_one (i : S4x32x4x128x1.Idx) :
    (val_main_v64 (F := Ideal) x0 x1 i : EReal) = (QK[top, (i 0).val, i 2] (i 1).val (i 3) : ℝ) := by
  rw [val_main_v64_apply, top_at h0 h1]; rfl

theorem expo_at (i : S4x32x4x128x256.Idx) :
    (val_main_v67 (F := Ideal) x0 x1 i : EReal) = (QK[expo, (i 0).val, i 2] (i 1).val (i 3) (i 4) : ℝ) := by
  rw [val_main_v67_apply, val_main_v66_apply, val_main_v65_apply, val_main_v64_apply, masked_at h0 h1, top_at h0 h1]
  exact exp_masked _ _ _ _ _

theorem den_at (i : S4x32x4x128.Idx) :
    (val_main_v68 (F := Ideal) x0 x1 i : EReal) = (QK[den, (i 0).val, i 2] (i 1).val (i 3) : ℝ) := by
  rw [val_main_v68_apply]
  refine (congrArg₂ (· + ·) lit_zero (sum_real _ _ fun k => expo_at h0 h1 _)).trans ?_
  rw [EReal.coe_zero, zero_add]
  rfl

omit h0 h1 in
/-- Dropping the last axis, of size one. -/
theorem idx72 (i : S4x32x4x128.Idx) : idx_main_v72 i = ix5 (i 0) (i 1) (i 2) (i 3) 0 := by
  obtain ⟨b0, b1, b2, b3⟩ := lt4 i
  refine funext fun (k : Fin 5) => Fin.ext ?_
  fin_cases k <;> simp only [idx_main_v72] <;> first | rfl | ((show _ = (i _).val); omega)

theorem den_flat (i : S4x32x4x128.Idx) :
    (val_main_v72 (F := Ideal) x0 x1 i : EReal) = (QK[den, (i 0).val, i 2] (i 1).val (i 3) : ℝ) := by
  rw [val_main_v72_apply, val_main_v69_apply, idx72, den_at h0 h1]; rfl

theorem den_one (i : S4x32x128x4x1.Idx) :
    (val_main_v74 (F := Ideal) x0 x1 i : EReal) = (QK[den, (i 0).val, i 3] (i 1).val (i 2) : ℝ) := by
  rw [val_main_v74_apply, val_main_v73_apply, den_flat h0 h1]; rfl

theorem lse_at (i : S4x32x128x4.Idx) :
    (val_main_v84 (F := Ideal) x0 x1 i : EReal) = (QK[lse, (i 0).val, i 3] (i 1).val (i 2) : ℝ) := by
  rw [val_main_v84_apply, val_main_v83_apply, val_main_v82_apply, show val_main_v81 (F := Ideal) x0 x1 = val_main_v72 x0 x1 from rfl, den_flat h0 h1, val_main_v80_apply, show idx_main_v80 = idx_main_v72 from rfl, idx72]
  refine (congrArg₂ (· + ·) (top_one h0 h1 _) (log_den _ _ _ _)).trans ?_
  rw [← EReal.coe_add]; rfl

include h2

theorem unnorm_at (i : S4x32x128x4x128.Idx) :
    (val_main_v71 (F := Ideal) x0 x1 x2 i : EReal) = (QKV[unnorm, (i 0).val, i 3] (i 1).val (i 2) (i 4) : ℝ) := by
  rw [val_main_v71_apply, val_main_v70_apply]
  refine sum_real _ _ fun b => (mul_comm _ _).trans ?_
  refine seen_mul (n := (i 1).val) (a := (i 2 : Fin 128)) (b := b) (expo_at h0 h1 _) (expo_not _ _ _) fun h => ?_
  rw [keys_v, keys_at h2 _ h.2]; rfl

theorem out_at (i : S4x32x128x4x128.Idx) :
    (val_main_v76 (F := Ideal) x0 x1 x2 i : EReal) = (QKV[out, (i 0).val, i 3] (i 1).val (i 2) (i 4) : ℝ) := by
  rw [val_main_v76_apply, val_main_v75_apply, unnorm_at h0 h1 h2, den_one h0 h1]
  exact div_real _ (den_ne _ _ _ _)

/-! ## Backward -/

omit h2

theorem inv_at (i : S4x32x128x4x1.Idx) : (val_main_v79 (F := Ideal) x0 x1 i : EReal)
    = (1 / (QK[den, (i 0).val, i 3] (i 1).val (i 2) * QK[den, (i 0).val, i 3] (i 1).val (i 2)) : ℝ) := by
  rw [val_main_v79_apply, val_main_v78_apply, val_main_v77_apply, den_one h0 h1]
  exact (congrArg₂ Ideal.div lit_one (mul_cast _ _)).trans (div_real _ (mul_ne_zero (den_ne _ _ _ _) (den_ne _ _ _ _)))

include h3 in
theorem norm_at (i : S4x32x4x128x128.Idx) : (val_main_v121 (F := Ideal) x0 x1 x3 i : EReal)
    = (seqs f3 4 (i 0).val (i 2) (qrow (i 1).val (i 4)) (i 3) / QK[den, (i 0).val, i 2] (i 1).val (i 4) : ℝ) := by
  rw [val_main_v121_apply, val_main_v116_apply, val_main_v115_apply, rows_g, rows_at h3, den_one h0 h1]
  exact div_real _ (den_ne _ _ _ _)

include h3 in
theorem dvPart_at (i : S4x32x256x4x128.Idx) : (val_main_v124 (F := Ideal) x0 x1 x3 i : EReal)
    = (QKG[dvPart, (i 0).val, i 3] (i 1).val (i 2) (i 4) : ℝ) := by
  rw [val_main_v124_apply, val_main_v123_apply]
  refine (sum_real _ _ fun a => ?_).trans (congrArg _ (dvPart_div _ _ _ _ _ _))
  rw [norm_at h0 h1 h3, expo_at h0 h1]
  exact mul_cast _ _

include h2 h3

theorem back_at (i : S4x32x128x4.Idx) : (val_main_v112 (F := Ideal) x0 x1 x2 x3 i : EReal)
    = (QKVG[back, (i 0).val, i 3] (i 1).val (i 2) : ℝ) := by
  rw [val_main_v112_apply]
  refine (congrArg₂ (· + ·) lit_zero (sum_real _
    (fun e => seqs f3 4 (i 0).val (i 3) (qrow (i 1).val (i 2)) e * (1 / (QK[den, (i 0).val, i 3] (i 1).val (i 2) * QK[den, (i 0).val, i 3] (i 1).val (i 2))) * QKV[unnorm, (i 0).val, i 3] (i 1).val (i 2) e)
    fun e => ?_)).trans ?_
  · rw [val_main_v111_apply, val_main_v110_apply, val_main_v109_apply, rows_g, rows_at h3, inv_at h0 h1, unnorm_at h0 h1 h2]
    exact (congrArg (· * _) (mul_cast _ _)).trans (mul_cast _ _)
  · rw [EReal.coe_zero, zero_add]; rfl

theorem neg_one (i : S4x32x128x4x1.Idx) : (val_main_v114 (F := Ideal) x0 x1 x2 x3 i : EReal)
    = (-QKVG[back, (i 0).val, i 3] (i 1).val (i 2) : ℝ) := by
  rw [val_main_v114_apply, val_main_v113_apply, idx113]
  exact (congrArg (fun z : EReal => -z) (back_at h0 h1 h2 h3 _)).trans (EReal.coe_neg _).symm

theorem neg_sum (i : S4x32x128x4.Idx) : (val_main_v117 (F := Ideal) x0 x1 x2 x3 i : EReal)
    = (-QKVG[back, (i 0).val, i 3] (i 1).val (i 2) : ℝ) := by
  rw [val_main_v117_apply]
  refine (congrArg₂ (· + ·) lit_zero (Fin.sum_univ_one _)).trans ?_
  rw [EReal.coe_zero, zero_add]
  exact neg_one h0 h1 h2 h3 _

theorem neg_at (i : S4x32x4x128x1.Idx) : (val_main_v120 (F := Ideal) x0 x1 x2 x3 i : EReal)
    = (-QKVG[back, (i 0).val, i 2] (i 1).val (i 3) : ℝ) := by
  rw [val_main_v120_apply, val_main_v107_apply, val_main_v106_apply, zero105, show val_main_v81 (F := Ideal) x0 x1 = val_main_v72 x0 x1 from rfl, den_flat h0 h1, val_main_v119_apply, val_main_v118_apply]
  refine (congrArg₂ (· + ·) (div_real 0 (den_ne _ _ _ _)) (neg_sum h0 h1 h2 h3 _)).trans ?_
  rw [zero_div, add_cast, zero_add]; rfl

theorem neg_flat (i : S4x32x4x128.Idx) : (val_main_v125 (F := Ideal) x0 x1 x2 x3 i : EReal)
    = (-QKVG[back, (i 0).val, i 2] (i 1).val (i 3) : ℝ) := by
  rw [val_main_v125_apply]
  refine (congrArg₂ (· + ·) lit_zero (Fin.sum_univ_one _)).trans ?_
  rw [EReal.coe_zero, zero_add]
  exact neg_at h0 h1 h2 h3 _

theorem ds_at (i : S4x32x4x128x256.Idx) : (val_main_v128 (F := Ideal) x0 x1 x2 x3 i : EReal)
    = (QKVG[ds, (i 0).val, i 2] (i 1).val (i 3) (i 4) : ℝ) := by
  rw [val_main_v128_apply]
  refine (mul_comm _ _).trans ((seen_mul (n := (i 1).val) (a := (i 3 : Fin 128)) (b := (i 4 : Fin 256)) (expo_at h0 h1 _) (expo_not _ _ _)
    (vr := gv (seqs f2 4 (i 0).val (i 2)) (seqs f3 4 (i 0).val (i 2)) (i 1).val (i 3) (i 4) / QK[den, (i 0).val, i 2] (i 1).val (i 3) + -QKVG[back, (i 0).val, i 2] (i 1).val (i 3)) fun h => ?_).trans
    (congrArg _ ((mul_comm _ _).trans (ds_back _ _ _ _ _ _ _))))
  rw [val_main_v127_apply, val_main_v126_apply, val_main_v122_apply]
  refine (congrArg₂ (· + ·) ((sum_real _ _ fun e => ?_).trans (congrArg _ (gv_div _ _ _ _ _ _ _))) (neg_flat h0 h1 h2 h3 _)).trans (add_cast _ _)
  rw [norm_at h0 h1 h3, keys_v, keys_at h2 _ h.2]
  exact mul_cast _ _

theorem ds_sum (i : S4x32x4x128.Idx) : (val_main_v130 (F := Ideal) x0 x1 x2 x3 i : EReal) = (0 : ℝ) := by
  rw [val_main_v130_apply]
  refine (congrArg₂ (· + ·) lit_zero (sum_real _ (fun b => -QKVG[ds, (i 0).val, i 2] (i 1).val (i 3) b) fun b => ?_)).trans ?_
  · rw [val_main_v129_apply]
    exact (congrArg (fun z : EReal => -z) (ds_at h0 h1 h2 h3 _)).trans (EReal.coe_neg _).symm
  · rw [Finset.sum_neg_distrib]
    exact (congrArg (fun z : ℝ => ((0 : ℝ) : EReal) + ((-z : ℝ) : EReal)) (sum_ds _ _ _ _ _ _)).trans (by rw [neg_zero, add_cast, zero_add])

theorem none_one (i : S4x32x4x128x1.Idx) : (val_main_v132 (F := Ideal) x0 x1 x2 x3 i : EReal) = (0 : ℝ) := by
  rw [val_main_v132_apply, val_main_v131_apply, val_main_v108_apply]
  refine (congrArg₂ (· + ·) (zero105 _) (ds_sum h0 h1 h2 h3 _)).trans ?_
  rw [add_cast, zero_add]

theorem none_at (i : S4x32x4x128.Idx) : (val_main_v134 (F := Ideal) x0 x1 x2 x3 i : EReal) = (0 : ℝ) := by
  rw [val_main_v134_apply, val_main_v133_apply]
  refine (congrArg₂ Ideal.div ((congrArg₂ (· + ·) lit_zero (Fin.sum_univ_one _)).trans ((congrArg (_ + ·) (none_one h0 h1 h2 h3 _)).trans (add_cast _ _))) (tops_at h0 h1 _)).trans
    ((div_real _ (tops_ne _ _ _ _)).trans ?_)
  rw [zero_add, zero_div]

theorem masked_ds_at (i : S4x32x4x128x256.Idx) : (val_main_v138 (F := Ideal) x0 x1 x2 x3 i : EReal)
    = (QKVG[ds, (i 0).val, i 2] (i 1).val (i 3) (i 4) : ℝ) := by
  rw [val_main_v138_apply]
  refine select_seen (mask_at i) ?_ (ds_unseen _ _ _ _ _) lit_zero
  rw [val_main_v137_apply, val_main_v136_apply, val_main_v135_apply]
  refine (congrArg₂ (· + ·) (ds_at h0 h1 h2 h3 _) ((congrArg₂ (· * ·) (none_at h0 h1 h2 h3 _) (isTop_at h0 h1 _)).trans (mul_cast _ _))).trans ?_
  rw [add_cast, zero_mul, add_zero]

theorem dkPart_at (i : S4x32x256x4x128.Idx) : (val_main_v140 (F := Ideal) x0 x1 x2 x3 i : EReal)
    = (QKVG[dkPart, (i 0).val, i 3] (i 1).val (i 2) (i 4) : ℝ) := by
  rw [val_main_v140_apply, val_main_v139_apply]
  refine sum_real _ _ fun a => ?_
  rw [masked_ds_at h0 h1 h2 h3, rows_at h0]
  exact mul_cast _ _

theorem dq_at (i : S4x32x128x4x128.Idx) : (val_main_v142 (F := Ideal) x0 x1 x2 x3 i : EReal)
    = (QKVG[dq, (i 0).val, i 3] (i 1).val (i 2) (i 4) : ℝ) := by
  rw [val_main_v142_apply, val_main_v141_apply]
  refine sum_real _ _ fun b => ?_
  refine seen_mul (n := (i 1).val) (a := (i 2 : Fin 128)) (b := b) (masked_ds_at h0 h1 h2 h3 _) (ds_unseen _ _ _ _ _) fun h => ?_
  rw [keys_at h1 _ h.2]; rfl

/-! ## A block's keys: the share of its own block's queries, and of the next block's -/

omit h2 in
theorem dv_at (i : S4x32x128x4x128.Idx) : (val_main_v148 (F := Ideal) x0 x1 x3 i : EReal)
    = (QKG[dv, (i 0).val, i 3] (i 1).val 32 (i 2) (i 4) : ℝ) := by
  rw [val_main_v148_apply, val_main_v144_apply]
  refine (congrArg₂ (· + ·) (dvPart_at h0 h1 h3 _) (next_at _ (fun r n h b e => QKG[dvPart, r, h] n b e) (fun j => ?_) i)).trans (add_cast _ _)
  rw [val_main_v146_apply, val_main_v143_apply]
  exact dvPart_at h0 h1 h3 _

theorem dk_at (i : S4x32x128x4x128.Idx) : (val_main_v157 (F := Ideal) x0 x1 x2 x3 i : EReal)
    = (QKVG[dk, (i 0).val, i 3] (i 1).val 32 (i 2) (i 4) : ℝ) := by
  rw [val_main_v157_apply, val_main_v153_apply]
  refine (congrArg₂ (· + ·) (dkPart_at h0 h1 h2 h3 _) (next_at _ (fun r n h b e => QKVG[dkPart, r, h] n b e) (fun j => ?_) i)).trans (add_cast _ _)
  rw [val_main_v155_apply, val_main_v152_apply]
  exact dkPart_at h0 h1 h2 h3 _

/-! ## The results, laid out as the calls have them -/

omit h2 h3 in
theorem lse_arr : (val_main_v93 (F := Ideal) x0 x1 : S4096x512.Idx → EReal) = lanesArr (allLse (seqs f0 4) (seqs f1 4)) := by
  funext I
  obtain ⟨b0, b1⟩ := lt2 I
  obtain ⟨p0, p1⟩ := step93 I
  obtain ⟨q0, q1, q2⟩ := step90 (idx_main_v91 (idx_main_v92 (idx_main_v93 I)))
  obtain ⟨r0, r1, r2, r3⟩ := step88 (idx_main_v89 (idx_main_v90 (idx_main_v91 (idx_main_v92 (idx_main_v93 I)))))
  rw [val_main_v93_apply, val_main_v92_apply, val_main_v91_apply, val_main_v90_apply, val_main_v89_apply, val_main_v88_apply]
  generalize hJ : idx_main_v88 (idx_main_v89 (idx_main_v90 (idx_main_v91 (idx_main_v92 (idx_main_v93 I))))) = J at r0 r1 r2 r3 ⊢
  have s0 : (J 0).val = (idx_main_v93 I 0).val % 4 := r0.trans q1
  have s1 : (J 1).val = (idx_main_v93 I 0).val / 4 / 128 := r1.trans (congrArg (· / 128) q0)
  have s2 : (J 2).val = (idx_main_v93 I 0).val / 4 % 128 := r2.trans (congrArg (· % 128) q0)
  have s3 : (J 3).val = (idx_main_v93 I 1).val := r3.trans q2
  refine (lse_at h0 h1 _).trans (lanesArr_at (allLse (seqs f0 4) (seqs f1 4)) (c := (I 1).val % 32) (Nat.mod_lt _ (by decide)) ?_ ?_).symm
  · rw [s1, s2, p0]; show (I 0).val = _; omega
  · rw [s0, s3, p0, p1]; show (I 1).val = _; omega

omit h3 in
theorem out_arr : (val_main_v95 (F := Ideal) x0 x1 x2 : S4096x2048.Idx → EReal) = arrOf (allOuts (seqs f0 4) (seqs f1 4) (seqs f2 4)) := by
  funext I
  rw [val_main_v95_apply, val_main_v94_apply, val_main_v87_apply, val_main_v86_apply, val_main_v85_apply]
  exact (out_at h0 h1 h2 _).trans (laid_at (allOuts (seqs f0 4) (seqs f1 4) (seqs f2 4)) I _ rfl)

theorem dq_arr : (val_main_v165 (F := Ideal) x0 x1 x2 x3 : S4096x2048.Idx → EReal) = arrOf (allDq (seqs f0 4) (seqs f1 4) (seqs f2 4) (seqs f3 4)) := by
  funext I
  rw [val_main_v165_apply, val_main_v164_apply, val_main_v163_apply, val_main_v162_apply, val_main_v161_apply]
  exact (dq_at h0 h1 h2 h3 _).trans (laid_at (allDq (seqs f0 4) (seqs f1 4) (seqs f2 4) (seqs f3 4)) I _ rfl)

theorem dk_arr : (val_main_v167 (F := Ideal) x0 x1 x2 x3 : S4096x2048.Idx → EReal) = arrOf (allDk 32 (seqs f0 4) (seqs f1 4) (seqs f2 4) (seqs f3 4)) := by
  funext I
  rw [val_main_v167_apply, val_main_v166_apply, val_main_v160_apply, val_main_v159_apply, val_main_v158_apply]
  exact (dk_at h0 h1 h2 h3 _).trans (laid_at (allDk 32 (seqs f0 4) (seqs f1 4) (seqs f2 4) (seqs f3 4)) I _ rfl)

omit h2 in
theorem dv_arr : (val_main_v169 (F := Ideal) x0 x1 x3 : S4096x2048.Idx → EReal) = arrOf (allDv 32 (seqs f0 4) (seqs f1 4) (seqs f3 4)) := by
  funext I
  rw [val_main_v169_apply, val_main_v168_apply, val_main_v151_apply, val_main_v150_apply, val_main_v149_apply]
  exact (dv_at h0 h1 h3 _).trans (laid_at (allDv 32 (seqs f0 4) (seqs f1 4) (seqs f3 4)) I _ rfl)

end Cert.Proof.Att4.Ref
end
-- ==== Proof.Att4Claims.lean ====
/- The value claim of the attention over 4 sequences: both programs leave the same casts of real functions. -/
module

public import proofs.«01_k».proof.Defs
public import proofs.«01_k».proof.Proof.AttPre
public import proofs.«01_k».proof.Proof.Att4Run
public import proofs.«01_k».proof.Proof.Att4Kernel
public import proofs.«01_k».proof.Proof.Att4Ref
public import Idealize.ShloMosaic.Lib.StableHlo.RunRead

@[expose] public section

set_option maxRecDepth 16384

noncomputable section

namespace Cert.Proof.Att4

open Cert.Att4Ideal Cert.Att4Ideal.Gen Idealize.ShloMosaic TcCoe Idealize.SL.Sem
open Cert.Proof.Att Cert.Proof.RealValues

/-- The five results, from real arguments. -/
def outA (f0 f1 f2 : S16384x512.Idx → ℝ) : S4096x2048.Idx → EReal := arrOf (allOuts (seqs f0 4) (seqs f1 4) (seqs f2 4))
def lseA (f0 f1 : S16384x512.Idx → ℝ) : S4096x512.Idx → EReal := lanesArr (allLse (seqs f0 4) (seqs f1 4))
def dqA (f0 f1 f2 f3 : S16384x512.Idx → ℝ) : S4096x2048.Idx → EReal := arrOf (allDq (seqs f0 4) (seqs f1 4) (seqs f2 4) (seqs f3 4))
def dkA (f0 f1 f2 f3 : S16384x512.Idx → ℝ) : S4096x2048.Idx → EReal := arrOf (allDk 32 (seqs f0 4) (seqs f1 4) (seqs f2 4) (seqs f3 4))
def dvA (f0 f1 f3 : S16384x512.Idx → ℝ) : S4096x2048.Idx → EReal := arrOf (allDv 32 (seqs f0 4) (seqs f1 4) (seqs f3 4))
/-- An argument as the call takes it, its rows dealt out to the sequences. -/
def rowsA (f : S16384x512.Idx → ℝ) : S4096x2048.Idx → EReal := arrOf (allRows (seqs f 4))

theorem rowsA_of {x : S16384x512.Idx → EReal} {f : S16384x512.Idx → ℝ} (h : x = fun i => ((f i : ℝ) : EReal)) :
    shapeCast S4096x2048 x shapeCasts_S16384x512_S4096x2048 = rowsA f :=
  grouped (L := 4096) (W := 2048) (D := 4) h rfl rfl shapeCasts_S16384x512_S4096x2048

section
variable {m : (ℓ : Loc nD τ sig) → Buf (Elt Ideal) ℓ} (ρ : Dev nD → PrngReg) {c : Dev nD} {f0 f1 f2 f3 : S16384x512.Idx → ℝ}
  (h0 : (m ((c : Thread nD τ).loc main_arg0) : S16384x512.Idx → EReal) = fun i => ((f0 i : ℝ) : EReal))
  (h1 : (m ((c : Thread nD τ).loc main_arg1) : S16384x512.Idx → EReal) = fun i => ((f1 i : ℝ) : EReal))
  (h2 : (m ((c : Thread nD τ).loc main_arg2) : S16384x512.Idx → EReal) = fun i => ((f2 i : ℝ) : EReal))
  (h3 : (m ((c : Thread nD τ).loc main_arg3) : S16384x512.Idx → EReal) = fun i => ((f3 i : ℝ) : EReal))

include h0 in
theorem fwd_0 : (V1 m ρ c main_v0 : S4096x2048.Idx → EReal) = rowsA f0 := by
  show StableHlo.after hostOps0 (W0 m ρ c) main_v0 = _
  after_reads_simp
  exact rowsA_of h0
include h1 in
theorem fwd_1 : (V1 m ρ c main_v1 : S4096x2048.Idx → EReal) = rowsA f1 := by
  show StableHlo.after hostOps0 (W0 m ρ c) main_v1 = _
  after_reads_simp
  exact rowsA_of h1
include h2 in
theorem fwd_2 : (V1 m ρ c main_v2 : S4096x2048.Idx → EReal) = rowsA f2 := by
  show StableHlo.after hostOps0 (W0 m ρ c) main_v2 = _
  after_reads_simp
  exact rowsA_of h2
include h0 in
theorem bwd_0 : (V3 m ρ c main_v4 : S4096x2048.Idx → EReal) = rowsA f0 := by
  show StableHlo.after hostOps1 (W2 m ρ c) main_v4 = _
  after_reads_simp
  rw [W2_args m ρ c main_arg0 (by decide)]
  exact rowsA_of h0
include h1 in
theorem bwd_1 : (V3 m ρ c main_v5 : S4096x2048.Idx → EReal) = rowsA f1 := by
  show StableHlo.after hostOps1 (W2 m ρ c) main_v5 = _
  after_reads_simp
  rw [W2_args m ρ c main_arg1 (by decide)]
  exact rowsA_of h1
include h2 in
theorem bwd_2 : (V3 m ρ c main_v6 : S4096x2048.Idx → EReal) = rowsA f2 := by
  show StableHlo.after hostOps1 (W2 m ρ c) main_v6 = _
  after_reads_simp
  rw [W2_args m ρ c main_arg2 (by decide)]
  exact rowsA_of h2
include h3 in
theorem bwd_3 : (V3 m ρ c main_v7 : S4096x2048.Idx → EReal) = rowsA f3 := by
  show StableHlo.after hostOps1 (W2 m ρ c) main_v7 = _
  after_reads_simp
  rw [W2_args m ρ c main_arg3 (by decide)]
  exact rowsA_of h3

include h0 h1 h2
theorem out_mid : (V3 m ρ c main_v3_0 : S4096x2048.Idx → EReal) = outA f0 f1 f2 := (W3_of m ρ c main_v3_0 (by decide)).trans <| (W2_arr m ρ c 5).trans (out_arr (V1 m ρ) c (fwd_0 ρ h0) (fwd_1 ρ h1) (fwd_2 ρ h2))
theorem lse_mid : (V3 m ρ c main_v3_1 : S4096x512.Idx → EReal) = lseA f0 f1 := (W3_of m ρ c main_v3_1 (by decide)).trans <| (W2_arr m ρ c 6).trans (Att4.lse_arr (V1 m ρ) c (fwd_0 ρ h0) (fwd_1 ρ h1) (fwd_2 ρ h2))
theorem out_end : (W4 m ρ c (Proc.devRef .tc main_v3_0) : S4096x2048.Idx → EReal) = outA f0 f1 f2 :=
  (W4_of m ρ c main_v3_0 (by decide +kernel)).trans (out_mid ρ h0 h1 h2)
theorem lse_end : (W4 m ρ c (Proc.devRef .tc main_v3_1) : S4096x512.Idx → EReal) = lseA f0 f1 :=
  (W4_of m ρ c main_v3_1 (by decide +kernel)).trans (lse_mid ρ h0 h1 h2)
include h3
theorem dq_end : (W4 m ρ c (Proc.devRef .tc main_v8_0) : S4096x2048.Idx → EReal) = dqA f0 f1 f2 f3 :=
  (W4_arr m ρ c 12).trans (dq_arr (V3 m ρ) c (bwd_0 ρ h0) (bwd_1 ρ h1) (bwd_2 ρ h2) (bwd_3 ρ h3) (out_mid ρ h0 h1 h2) (lse_mid ρ h0 h1 h2))
theorem dk_end : (W4 m ρ c (Proc.devRef .tc main_v8_1) : S4096x2048.Idx → EReal) = dkA f0 f1 f2 f3 :=
  (W4_arr m ρ c 13).trans (dk_arr (V3 m ρ) c (bwd_0 ρ h0) (bwd_1 ρ h1) (bwd_2 ρ h2) (bwd_3 ρ h3) (out_mid ρ h0 h1 h2) (lse_mid ρ h0 h1 h2))
theorem dv_end : (W4 m ρ c (Proc.devRef .tc main_v8_2) : S4096x2048.Idx → EReal) = dvA f0 f1 f3 :=
  (W4_arr m ρ c 14).trans (dv_arr (V3 m ρ) c (bwd_0 ρ h0) (bwd_1 ρ h1) (bwd_2 ρ h2) (bwd_3 ρ h3) (out_mid ρ h0 h1 h2) (lse_mid ρ h0 h1 h2))
end

open Cert.Att4RefIdeal.Read in
/-- Kernel and reference compute the same functions of finite arguments over the extended reals. -/
theorem algebraic : Cert.algebraic_Att4Ideal_Att4RefIdeal_pre_att_pre := by
  intro m g m' g' hpre hargs
  choose f0 f1 f2 f3 h0 h1 h2 h3 using fun c => reals_of_pre (hpre c)
  refine ⟨fun c => outA (f0 c) (f1 c) (f2 c), fun c => lseA (f0 c) (f1 c), fun c => dqA (f0 c) (f1 c) (f2 c) (f3 c),
    fun c => dkA (f0 c) (f1 c) (f2 c) (f3 c), fun c => dvA (f0 c) (f1 c) (f3 c),
    (θ_run Cert.Att4Ideal.defs _ _).mono (fun r h c => ?_) (run m g),
    (θ_run Cert.Att4RefIdeal.defs _ _).mono (fun r h c => ?_) (Cert.Att4RefIdeal.Value.run m' g')⟩
  · obtain ⟨e0, e1, e2, e3, e4, hr⟩ := h.1 c
    exact ⟨e0.trans (out_end g (h0 c) (h1 c) (h2 c)), e1.trans (lse_end g (h0 c) (h1 c) (h2 c)), e2.trans (dq_end g (h0 c) (h1 c) (h2 c) (h3 c)),
      e3.trans (dk_end g (h0 c) (h1 c) (h2 c) (h3 c)), e4.trans (dv_end g (h0 c) (h1 c) (h2 c) (h3 c)), hr⟩
  · obtain ⟨e0, e1, e2, e3, e4, hr⟩ := h c
    obtain ⟨k0, k1, k2, k3⟩ := hargs c
    have a0 := k0.trans (h0 c)
    have a1 := k1.trans (h1 c)
    have a2 := k2.trans (h2 c)
    have a3 := k3.trans (h3 c)
    exact ⟨e0.trans ((val_main_v95_eq _).trans (Ref.out_arr a0 a1 a2)), e1.trans ((val_main_v93_eq _).trans (Ref.lse_arr a0 a1)),
      e2.trans ((val_main_v165_eq _).trans (Ref.dq_arr a0 a1 a2 a3)), e3.trans ((val_main_v167_eq _).trans (Ref.dk_arr a0 a1 a2 a3)),
      e4.trans ((val_main_v169_eq _).trans (Ref.dv_arr a0 a1 a3)), hr⟩

end Cert.Proof.Att4
end
-- ==== Proof.Att16Run.lean ====
/- The run of the two calls of the attention over 16 sequences, with what its five results end at. -/
module

public import proofs.«01_k».proof.Proof.Gen.Att16Ideal.Frame

@[expose] public section

set_option maxRecDepth 16384

noncomputable section

namespace Cert.Proof.Att16

open Cert.Att16Ideal Cert.Att16Ideal.Gen Idealize.ShloMosaic TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F] [Named F]

/-- The run's resources. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the contents of the five results. -/
theorem run : θ_run defs (onTc (τ := τ) (main (F := F))) ⟨m, fun _ => 0, ρ⟩ (fun r => (∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_v8_2) = W4 m ρ c (Proc.devRef .tc main_v8_2)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3_0 (by decide)), h c _ (mem_uc main_v3_1 (by decide)), h c _ (mem_uc main_v8_0 (by decide)), h c _ (mem_uc main_v8_1 (by decide)), h c _ (mem_uc main_v8_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.Proof.Att16

end
-- ==== Proof.Att16Stores.lean ====
/- What the two calls of the attention over 16 sequences store at a grid point, as the tile operations of AttOps. -/
module

public import proofs.«01_k».proof.Proof.AttCast
public import proofs.«01_k».proof.Proof.Gen.Att16Ideal.Frame.Region0
public import proofs.«01_k».proof.Proof.Gen.Att16Ideal.Frame.Region1

@[expose] public section

set_option maxRecDepth 16384

noncomputable section

namespace Cert.Proof.Att16

open Cert.Att16Ideal Cert.Att16Ideal.Gen Idealize.ShloMosaic TcCoe Idealize.SL.Sem
open Cert.Proof.Att Cert.Proof.RealValues

section fwd
variable (i : grid0.Coords) (x0 x1 : Vec Ideal S1024x512 .bf16) (x2 : Vec Ideal S128x512 .bf16) (x3 : Vec Ideal S1024x512 .bf16)
  (x4 : Vec Ideal S128x512 .bf16)

theorem out_stores :
    out0_5 i x0 x1 x2 x3 x4 = View.canon (tilesOf fun h j => tileOut (tileMask (Scalar.cmpi .sgt (BitVec.ofNat 32 (i 1).val) 0#32) j)
      (rowsCut h j x0) (keysCut h j x1 x2) (keysCut h j x3 x4)) := by
  rw [← rows_cast, ← keys_cast]
  sl_kernel_rfl

theorem lse_stores :
    out0_6 i x0 x1 x2 x3 x4 = View.canon (lanesOf fun h j => tileLse (tileMask (Scalar.cmpi .sgt (BitVec.ofNat 32 (i 1).val) 0#32) j)
      (rowsCut h j x0) (keysCut h j x1 x2)) := by
  rw [← rows_cast, ← keys_cast]
  sl_kernel_rfl

end fwd

section bwd
variable (i : grid1.Coords) (x0 : Vec Ideal S1024x512 .bf16) (x1 : Vec Ideal S128x512 .bf16) (x2 : Vec Ideal S1024x512 .bf16)
  (x3 : Vec Ideal S128x512 .bf16) (x4 : Vec Ideal S1024x512 .bf16) (x5 : Vec Ideal S128x512 .bf16) (x6 : Vec Ideal S1024x512 .bf16)
  (x7 : Vec Ideal S128x512 .bf16) (x8 : Vec Ideal S1024x512 .bf16) (x9 : Vec Ideal S128x512 .bf16) (x10 : Vec Ideal S1024x128 .f32)
  (x11 : Vec Ideal S128x128 .f32)

theorem dq_stores :
    out1_12 i x0 x1 x2 x3 x4 x5 x6 x7 x8 x9 x10 x11 = View.canon (tilesOf fun h j =>
      tileDq (tileMask (Scalar.cmpi .sgt (BitVec.ofNat 32 (i 1).val) 0#32) j) (rowsCut h j x0) (keysCut h j x2 x3) (keysCut h j x4 x5)
        (rowsCut h j x6) (deltaCut h j x6 x8) (lseCut h j x10)) := by
  rw [← rows_cast, ← keys_cast, ← delta_cast]
  sl_kernel_rfl

theorem dk_stores :
    out1_13 i x0 x1 x2 x3 x4 x5 x6 x7 x8 x9 x10 x11 = View.canon (tilesOf (shared
      (fun h j => tileDk (tileMask (Scalar.cmpi .sgt (BitVec.ofNat 32 (i 1).val) 0#32) j) (rowsCut h j x0) (keysCut h j x2 x3)
        (keysCut h j x4 x5) (rowsCut h j x6) (deltaCut h j x6 x8) (lseCut h j x10))
      (fun h => nextDk (nextMask (Scalar.cmpi .slt (BitVec.ofNat 32 (i 1).val) 0#32)) (rowsNCut h x1) (lastCut h x2 x3) (lastCut h x4 x5)
        (rowsNCut h x7) (deltaNCut h x7 x9) (lseNCut h x11)))) := by
  rw [← rowsN_cast, ← rows_cast, ← keys_cast, ← last_cast, ← delta_cast, ← deltaN_cast]
  sl_kernel_rfl

theorem dv_stores :
    out1_14 i x0 x1 x2 x3 x4 x5 x6 x7 x8 x9 x10 x11 = View.canon (tilesOf (shared
      (fun h j => tileDv (tileMask (Scalar.cmpi .sgt (BitVec.ofNat 32 (i 1).val) 0#32) j) (rowsCut h j x0) (keysCut h j x2 x3)
        (rowsCut h j x6) (lseCut h j x10))
      (fun h => nextDv (nextMask (Scalar.cmpi .slt (BitVec.ofNat 32 (i 1).val) 0#32)) (rowsNCut h x1) (lastCut h x2 x3)
        (rowsNCut h x7) (lseNCut h x11)))) := by
  rw [← rowsN_cast, ← rows_cast, ← keys_cast, ← last_cast]
  sl_kernel_rfl

end bwd

end Cert.Proof.Att16
end
-- ==== Proof.Att16Kernel.lean ====
/- The arrays that the two calls of the attention over 16 sequences leave. -/
module

public import proofs.«01_k».proof.Proof.AttArr
public import proofs.«01_k».proof.Proof.Att16Stores

@[expose] public section

set_option maxRecDepth 16384

noncomputable section

namespace Cert.Proof.Att16

open Cert.Att16Ideal Cert.Att16Ideal.Gen Idealize.ShloMosaic TcCoe Idealize.SL.Sem
open Cert.Proof.Att Cert.Proof.RealValues

/-- The block indices of the windows, and the second grid coordinate. -/
theorem idx0 : ∀ t : Fin cfg0.N, (grid0.coords t 1).val = t.val % 1 ∧ win0_0.index t = ![t.val % 1, t.val / 1] ∧ win0_1.index t = ![t.val % 1, t.val / 1]
    ∧ win0_3.index t = ![t.val % 1, t.val / 1] ∧ win0_5.index t = ![t.val % 1, t.val / 1] ∧ win0_6.index t = ![t.val % 1, t.val / 1]
    ∧ win0_2.index t = ![t.val % 1 * 8 - 1, t.val / 1] ∧ win0_4.index t = ![t.val % 1 * 8 - 1, t.val / 1] := by decide +kernel
theorem idx1 : ∀ t : Fin cfg1.N, (grid1.coords t 1).val = t.val % 1 ∧ win1_0.index t = ![t.val % 1, t.val / 1] ∧ win1_2.index t = ![t.val % 1, t.val / 1]
    ∧ win1_4.index t = ![t.val % 1, t.val / 1] ∧ win1_6.index t = ![t.val % 1, t.val / 1] ∧ win1_8.index t = ![t.val % 1, t.val / 1] ∧ win1_10.index t = ![t.val % 1, t.val / 1] := by decide +kernel
theorem idx1o : ∀ t : Fin cfg1.N, win1_12.index t = ![t.val % 1, t.val / 1] ∧ win1_13.index t = ![t.val % 1, t.val / 1] ∧ win1_14.index t = ![t.val % 1, t.val / 1]
    ∧ win1_3.index t = ![t.val % 1 * 8 - 1, t.val / 1] ∧ win1_5.index t = ![t.val % 1 * 8 - 1, t.val / 1] := by decide +kernel
theorem idx1n : ∀ t : Fin cfg1.N, win1_1.index t = ![min (t.val % 1 * 8 + 8) 7, t.val / 1] ∧ win1_7.index t = ![min (t.val % 1 * 8 + 8) 7, t.val / 1] ∧ win1_9.index t = ![min (t.val % 1 * 8 + 8) 7, t.val / 1] ∧ win1_11.index t = ![min (t.val % 1 * 8 + 8) 7, t.val / 1] := by
  decide +kernel

variable (V : (c : Dev nD) → (b : Ref sig .tc) → Buf (Elt Ideal) ((c : Thread nD τ).loc b)) (c : Dev nD) {Q K W G : ℕ → Seqs}

/-- The point whose block holds an index of a result. -/
def pt0 {w : ℕ} {tw : ℕ} (hw : w = 16 * tw) (I : (⟨2, ![1024, w]⟩ : Shape).Idx) : Fin cfg0.N :=
  ⟨(I 1 : ℕ) / tw * 1 + (I 0 : ℕ) / 1024, by
    have h0 : (I 0 : ℕ) < 1024 := (I 0).isLt
    have h1 : (I 1 : ℕ) < w := (I 1).isLt
    have h2 : (I 1 : ℕ) / tw < 16 := Nat.div_lt_of_lt_mul (by rw [Nat.mul_comm]; omega)
    rw [show cfg0.N = 16 from N_0]; omega⟩
def pt1 {w : ℕ} {tw : ℕ} (hw : w = 16 * tw) (I : (⟨2, ![1024, w]⟩ : Shape).Idx) : Fin cfg1.N := (pt0 hw I).cast (N_0.trans N_1.symm)

theorem pt_idx {w : ℕ} {tw : ℕ} (hw : w = 16 * tw) (I : (⟨2, ![1024, w]⟩ : Shape).Idx) :
    (![(pt0 hw I).val % 1, (pt0 hw I).val / 1] : Fin 2 → ℕ) = ![(I 0 : ℕ) / 1024, (I 1 : ℕ) / tw] := by
  have h0 : (I 0 : ℕ) < 1024 := (I 0).isLt
  have e1 : (pt0 hw I).val % 1 = (I 0 : ℕ) / 1024 := by show ((I 1 : ℕ) / tw * 1 + (I 0 : ℕ) / 1024) % 1 = _; omega
  have e2 : (pt0 hw I).val / 1 = (I 1 : ℕ) / tw := by show ((I 1 : ℕ) / tw * 1 + (I 0 : ℕ) / 1024) / 1 = _; omega
  rw [e1, e2]

theorem bit0 (t : Fin cfg0.N) : Scalar.cmpi .sgt (BitVec.ofNat 32 (grid0.coords t 1).val) 0#32 = bit (0 < t.val % 1) := by
  rw [(idx0 t).1]; exact bit_first (by omega)

section fwd
variable (hq : (V c main_v0 : S1024x8192.Idx → EReal) = arrOf (allRows Q)) (hk : (V c main_v1 : S1024x8192.Idx → EReal) = arrOf (allRows K))
  (hv : (V c main_v2 : S1024x8192.Idx → EReal) = arrOf (allRows W))
include hq hk hv
theorem windows0 (t : Fin cfg0.N) : Windows (Q (t.val / 1)) (K (t.val / 1)) (W (t.val / 1)) (t.val % 1) (iblk0 V c 0 t) (iblk0 V c 1 t) (iblk0 V c 3 t) (iblk0 V c 2 t) (iblk0 V c 4 t) where
  q := isWin hq (idx0 t).2.1 fun y => ⟨_, rfl, rfl, rfl⟩
  k := isWin hk (idx0 t).2.2.1 fun y => ⟨_, rfl, rfl, rfl⟩
  v := isWin hv (idx0 t).2.2.2.1 fun y => ⟨_, rfl, rfl, rfl⟩
  kp _ := isBlk hk ((idx0 t).2.2.2.2.2.2.1.trans (by rw [Nat.mul_comm])) fun y => ⟨_, rfl, rfl, rfl⟩
  vp _ := isBlk hv ((idx0 t).2.2.2.2.2.2.2.trans (by rw [Nat.mul_comm])) fun y => ⟨_, rfl, rfl, rfl⟩

theorem out_arr : (dat0 V c).arrAt 5 cfg0.N = (arrOf (allOuts Q K W) : S1024x8192.Idx → EReal) := by
  refine (dat0 V c).arrAt_eq_of_cover 5 _ (fun t _ => ?_) (fun (I : S1024x8192.Idx) => ⟨pt0 (tw := 512) rfl I, flush0_5 _, ?_⟩)
  · show (cfg0.win 5).cut (grid0.coords t) ((dat0 V c).after 5 t) = _
    rw [after0_5, out_stores]
    refine funext fun (y : S1024x512.Idx) => ?_
    exact block_eq (v := allOuts Q K W) (r := (t.val / 1)) (i := (t.val % 1))
      (fun j a h e => out_block (windows0 V c hq hk hv t) (bit0 t) j a h e) (idx0 t).2.2.2.2.1 y rfl rfl
  · refine in_block ?_
    exact blocks_cover I (by norm_num) (by norm_num) ((idx0 _).2.2.2.2.1.trans (pt_idx (tw := 512) rfl I))

theorem lse_arr : (dat0 V c).arrAt 6 cfg0.N = (lanesArr (allLse Q K) : S1024x2048.Idx → EReal) := by
  refine (dat0 V c).arrAt_eq_of_cover 6 _ (fun t _ => ?_) (fun (I : S1024x2048.Idx) => ⟨pt0 (tw := 128) rfl I, flush0_6 _, ?_⟩)
  · show (cfg0.win 6).cut (grid0.coords t) ((dat0 V c).after 6 t) = _
    rw [after0_6, lse_stores]
    refine funext fun (y : S1024x128.Idx) => ?_
    exact lanes_eq (l := allLse Q K) (r := (t.val / 1)) (i := (t.val % 1))
      (fun j a h k => lse_block (windows0 V c hq hk hv t) (bit0 t) j a h k) (idx0 t).2.2.2.2.2.1 y rfl rfl
  · refine in_block ?_
    exact blocks_cover I (by norm_num) (by norm_num) ((idx0 _).2.2.2.2.2.1.trans (pt_idx (tw := 128) rfl I))

end fwd

section bwd
variable (hq : (V c main_v4 : S1024x8192.Idx → EReal) = arrOf (allRows Q)) (hk : (V c main_v5 : S1024x8192.Idx → EReal) = arrOf (allRows K))
  (hv : (V c main_v6 : S1024x8192.Idx → EReal) = arrOf (allRows W)) (hg : (V c main_v7 : S1024x8192.Idx → EReal) = arrOf (allRows G))
  (ho : (V c main_v3_0 : S1024x8192.Idx → EReal) = arrOf (allOuts Q K W)) (hl : (V c main_v3_1 : S1024x2048.Idx → EReal) = lanesArr (allLse Q K))

theorem bit1 (t : Fin cfg1.N) : Scalar.cmpi .sgt (BitVec.ofNat 32 (grid1.coords t 1).val) 0#32 = bit (0 < t.val % 1) := by
  rw [(idx1 t).1]; exact bit_first (by omega)
theorem bit1n (t : Fin cfg1.N) : Scalar.cmpi .slt (BitVec.ofNat 32 (grid1.coords t 1).val) 0#32 = bit (t.val % 1 + 1 < 1) := by
  rw [(idx1 t).1]; exact bit_last (y := 0) (by omega) (by norm_num)

theorem nextIdx (t : Fin cfg1.N) (h : t.val % 1 + 1 < 1) : (![min (t.val % 1 * 8 + 8) 7, t.val / 1] : Fin 2 → ℕ) = ![8 * (t.val % 1) + 8, t.val / 1] := by
  rw [show min (t.val % 1 * 8 + 8) 7 = 8 * (t.val % 1) + 8 by omega]

include hq hk hv
theorem windows1 (t : Fin cfg1.N) : Windows (Q (t.val / 1)) (K (t.val / 1)) (W (t.val / 1)) (t.val % 1) (iblk1 V c 0 t) (iblk1 V c 2 t) (iblk1 V c 4 t) (iblk1 V c 3 t) (iblk1 V c 5 t) where
  q := isWin hq (idx1 t).2.1 fun y => ⟨_, rfl, rfl, rfl⟩
  k := isWin hk (idx1 t).2.2.1 fun y => ⟨_, rfl, rfl, rfl⟩
  v := isWin hv (idx1 t).2.2.2.1 fun y => ⟨_, rfl, rfl, rfl⟩
  kp _ := isBlk hk ((idx1o t).2.2.2.1.trans (by rw [Nat.mul_comm])) fun y => ⟨_, rfl, rfl, rfl⟩
  vp _ := isBlk hv ((idx1o t).2.2.2.2.trans (by rw [Nat.mul_comm])) fun y => ⟨_, rfl, rfl, rfl⟩

include hg ho hl
theorem backWindows (t : Fin cfg1.N) : BackWindows (Q (t.val / 1)) (K (t.val / 1)) (W (t.val / 1)) (G (t.val / 1)) (t.val % 1) 1 (iblk1 V c 6 t) (iblk1 V c 8 t) (iblk1 V c 10 t)
    (iblk1 V c 1 t) (iblk1 V c 7 t) (iblk1 V c 9 t) (iblk1 V c 11 t) where
  g := isWin hg (idx1 t).2.2.2.2.1 fun y => ⟨_, rfl, rfl, rfl⟩
  o := isWin ho (idx1 t).2.2.2.2.2.1 fun y => ⟨_, rfl, rfl, rfl⟩
  l := isLse hl (idx1 t).2.2.2.2.2.2 fun y => ⟨_, rfl, rfl, rfl⟩
  qn h := isBlk hq ((idx1n t).1.trans (nextIdx t h)) fun y => ⟨_, rfl, rfl, rfl⟩
  gn h := isBlk hg ((idx1n t).2.1.trans (nextIdx t h)) fun y => ⟨_, rfl, rfl, rfl⟩
  on h := isBlk ho ((idx1n t).2.2.1.trans (nextIdx t h)) fun y => ⟨_, rfl, rfl, rfl⟩
  ln h := isLseBlk hl ((idx1n t).2.2.2.trans (nextIdx t h)) fun y => ⟨_, rfl, rfl, rfl⟩

theorem dq_arr : (dat1 V c).arrAt 12 cfg1.N = (arrOf (allDq Q K W G) : S1024x8192.Idx → EReal) := by
  refine (dat1 V c).arrAt_eq_of_cover 12 _ (fun t _ => ?_) (fun (I : S1024x8192.Idx) => ⟨pt1 (tw := 512) rfl I, flush1_12 _, ?_⟩)
  · show (cfg1.win 12).cut (grid1.coords t) ((dat1 V c).after 12 t) = _
    rw [after1_12, dq_stores]
    refine funext fun (y : S1024x512.Idx) => ?_
    exact block_eq (v := allDq Q K W G) (r := (t.val / 1)) (i := (t.val % 1))
      (fun j a h e => dq_block (windows1 V c hq hk hv t) (bit1 t) j a h e (backWindows V c hq hk hv hg ho hl t)) (idx1o t).1 y rfl rfl
  · refine in_block ?_
    exact blocks_cover I (by norm_num) (by norm_num) ((idx1o _).1.trans (pt_idx (tw := 512) rfl I))

theorem dk_arr : (dat1 V c).arrAt 13 cfg1.N = (arrOf (allDk 8 Q K W G) : S1024x8192.Idx → EReal) := by
  refine (dat1 V c).arrAt_eq_of_cover 13 _ (fun t _ => ?_) (fun (I : S1024x8192.Idx) => ⟨pt1 (tw := 512) rfl I, flush1_13 _, ?_⟩)
  · show (cfg1.win 13).cut (grid1.coords t) ((dat1 V c).after 13 t) = _
    rw [after1_13, dk_stores]
    refine funext fun (y : S1024x512.Idx) => ?_
    exact block_eq (v := allDk 8 Q K W G) (r := (t.val / 1)) (i := (t.val % 1))
      (fun j a h e => dk_block (windows1 V c hq hk hv t) (bit1 t) j a h e (backWindows V c hq hk hv hg ho hl t) (bit1n t) 8 rfl (Nat.mod_lt _ (by norm_num))) (idx1o t).2.1 y rfl rfl
  · refine in_block ?_
    exact blocks_cover I (by norm_num) (by norm_num) ((idx1o _).2.1.trans (pt_idx (tw := 512) rfl I))

theorem dv_arr : (dat1 V c).arrAt 14 cfg1.N = (arrOf (allDv 8 Q K G) : S1024x8192.Idx → EReal) := by
  refine (dat1 V c).arrAt_eq_of_cover 14 _ (fun t _ => ?_) (fun (I : S1024x8192.Idx) => ⟨pt1 (tw := 512) rfl I, flush1_14 _, ?_⟩)
  · show (cfg1.win 14).cut (grid1.coords t) ((dat1 V c).after 14 t) = _
    rw [after1_14, dv_stores]
    refine funext fun (y : S1024x512.Idx) => ?_
    exact block_eq (v := allDv 8 Q K G) (r := (t.val / 1)) (i := (t.val % 1))
      (fun j a h e => dv_block (windows1 V c hq hk hv t) (bit1 t) j a h e (backWindows V c hq hk hv hg ho hl t) (bit1n t) 8 rfl (Nat.mod_lt _ (by norm_num))) (idx1o t).2.2.1 y rfl rfl
  · refine in_block ?_
    exact blocks_cover I (by norm_num) (by norm_num) ((idx1o _).2.2.1.trans (pt_idx (tw := 512) rfl I))

end bwd

end Cert.Proof.Att16
end
-- ==== Proof.Att16Ref.lean ====
/- The reference of the attention over 16 sequences, stage by stage, as the functions of AttMath. -/
module

public import proofs.«01_k».proof.Proof.AttRef
public import proofs.«01_k».proof.Proof.Gen.Att16RefIdeal.Read

@[expose] public section

set_option maxRecDepth 16384

noncomputable section

namespace Cert.Proof.Att16.Ref

open Cert.Att16RefIdeal Cert.Att16RefIdeal.Gen Cert.Att16RefIdeal.Read Idealize.ShloMosaic TcCoe Idealize.SL.Sem
open Cert.Proof.Att Cert.Proof.RealValues

variable {x0 x1 x2 x3 : (⟨S16384x512, .bf16⟩ : BufTy).Contents (Elt Ideal)} {f0 f1 f2 f3 : S16384x512.Idx → ℝ}
  (h0 : (x0 : S16384x512.Idx → EReal) = fun i => ((f0 i : ℝ) : EReal)) (h1 : (x1 : S16384x512.Idx → EReal) = fun i => ((f1 i : ℝ) : EReal))
  (h2 : (x2 : S16384x512.Idx → EReal) = fun i => ((f2 i : ℝ) : EReal)) (h3 : (x3 : S16384x512.Idx → EReal) = fun i => ((f3 i : ℝ) : EReal))

/-- A function of the sequences of the arguments, at sequence `r` and head `h`. -/
local notation:max "QK[" F ", " r ", " h "]" => F (seqs f0 16 r h) (seqs f1 16 r h)
local notation:max "QKV[" F ", " r ", " h "]" => F (seqs f0 16 r h) (seqs f1 16 r h) (seqs f2 16 r h)
local notation:max "QKG[" F ", " r ", " h "]" => F (seqs f0 16 r h) (seqs f1 16 r h) (seqs f3 16 r h)
local notation:max "QKVG[" F ", " r ", " h "]" => F (seqs f0 16 r h) (seqs f1 16 r h) (seqs f2 16 r h) (seqs f3 16 r h)

/-! ## The arguments as blocks of rows -/

include h0 in
theorem rows_at (i : S16x8x128x4x128.Idx) :
    (val_main_v8 (F := Ideal) x0 i : EReal) = (seqs f0 16 (i 0).val (i 3) (qrow (i 1).val (i 2)) (i 4) : ℝ) := by
  obtain ⟨b0, b1, b2, b3, b4⟩ := lt5 i
  rw [val_main_v8_apply, val_main_v7_apply, val_main_v6_apply, val_main_v1_apply, val_main_v0_apply]
  refine seqs_at h0 ?_ ?_
  · simp only [idx_main_v1, idx_main_v6, idx_main_v7, idx_main_v8, qrow]; omega
  · simp only [idx_main_v1, idx_main_v6, idx_main_v7, idx_main_v8, qrow]; omega

theorem rows_k : val_main_v11 (F := Ideal) x1 = val_main_v8 (F := Ideal) x1 := rfl
theorem rows_g : val_main_v104 (F := Ideal) x3 = val_main_v8 (F := Ideal) x3 := rfl
theorem keys_v : val_main_v26 (F := Ideal) x2 = val_main_v17 (F := Ideal) x2 := rfl

include h1 in
theorem keys_at (i : S16x8x256x4x128.Idx) (hs : 0 < (i 1).val ∨ 128 ≤ (i 2).val) :
    (val_main_v17 (F := Ideal) x1 i : EReal) = (seqs f1 16 (i 0).val (i 3) (krow (i 1).val (i 2)) (i 4) : ℝ) := by
  obtain ⟨b0, b1, b2, b3, b4⟩ := lt5 i
  unfold val_main_v17
  by_cases hb : (i 2).val < 128
  · have hn : 0 < (i 1).val := by omega
    rw [concatenate_apply_piece (t := S16x8x256x4x128) 2 [⟨S16x8x128x4x128, val_main_v15 (F := Ideal) x1⟩, ⟨S16x8x128x4x128, val_main_v11 (F := Ideal) x1⟩] _ i 0 Nat.two_pos S16x8x128x4x128 _ rfl rfl 0 rfl (ix5 (i 0) (i 1) ⟨(i 2).val, hb⟩ (i 3) (i 4))
      (fun k => match k with | 0 | 1 | 3 | 4 => fun _ => rfl | 2 => fun h => absurd rfl h) (Nat.zero_add _)]
    unfold val_main_v15
    rw [concatenate_apply_piece (t := S16x8x128x4x128) 1 [⟨S16x1x128x4x128, val_main_v13 (F := Ideal)⟩, ⟨S16x7x128x4x128, val_main_v14 (F := Ideal) x1⟩] _ (ix5 (i 0) (i 1) ⟨(i 2).val, hb⟩ (i 3) (i 4)) 1 Nat.one_lt_two S16x7x128x4x128 _ rfl rfl 1 rfl
      (ix5 (i 0) ⟨(i 1).val - 1, by omega⟩ ⟨(i 2).val, hb⟩ (i 3) (i 4))
      (fun k => match k with | 0 | 2 | 3 | 4 => fun _ => rfl | 1 => fun h => absurd rfl h) (by show 1 + ((i 1).val - 1) = (i 1).val; omega),
      val_main_v14_apply, rows_k, rows_at h1]
    refine congrArg (fun z => ((seqs f1 16 (i 0).val (i 3) z (i 4) : ℝ) : EReal)) ?_
    show ((i 1).val - 1) * 128 + (i 2).val = (i 1).val * 128 + (i 2).val - 128
    omega
  · rw [concatenate_apply_piece (t := S16x8x256x4x128) 2 [⟨S16x8x128x4x128, val_main_v15 (F := Ideal) x1⟩, ⟨S16x8x128x4x128, val_main_v11 (F := Ideal) x1⟩] _ i 1 Nat.one_lt_two S16x8x128x4x128 _ rfl rfl 128 rfl (ix5 (i 0) (i 1) ⟨(i 2).val - 128, by omega⟩ (i 3) (i 4))
      (fun k => match k with | 0 | 1 | 3 | 4 => fun _ => rfl | 2 => fun h => absurd rfl h) (by show 128 + ((i 2).val - 128) = (i 2).val; omega),
      rows_k, rows_at h1]
    refine congrArg (fun z => ((seqs f1 16 (i 0).val (i 3) z (i 4) : ℝ) : EReal)) ?_
    show (i 1).val * 128 + ((i 2).val - 128) = (i 1).val * 128 + (i 2).val - 128
    omega

/-! ## Indices, and one block down -/

theorem idx113 (i : S16x8x128x4x1.Idx) : idx_main_v113 i = ix4 (i 0) (i 1) (i 2) (i 3) := by
  obtain ⟨b0, b1, b2, b3, b4⟩ := lt5 i
  refine funext fun (k : Fin 4) => Fin.ext ?_
  fin_cases k <;> simp only [idx_main_v113] <;> (show _ = (i _).val) <;> omega

theorem zero105 (i : S16x8x4x128.Idx) : (val_main_v105 (F := Ideal) i : EReal) = (0 : ℝ) := by
  rw [val_main_v105_apply, val_main_v101_apply, val_main_v100_apply, val_main_v99_apply, val_main_v98_apply]; exact lit_zero

/-- The shares moved one block down, with nothing in the last block. -/
theorem next_at (s : S16x7x128x4x128.Idx → EReal) (p : ℕ → ℕ → Fin 4 → Fin 256 → Fin 128 → ℝ)
    (hs : ∀ i, s i = ((p (i 0).val (1 + (i 1).val) (i 3) (before (i 2)) (i 4) : ℝ) : EReal)) (i : S16x8x128x4x128.Idx) :
    pad S16x8x128x4x128 ![0, 0, 0, 0, 0] ![0, 1, 0, 0, 0] ![0, 0, 0, 0, 0] s (val_main_cst_18 (F := Ideal)) pads_S16x7x128x4x128_S16x8x128x4x128_000_010_000_000_000 h_S_ i
      = (if (i 1).val + 1 < 8 then p (i 0).val ((i 1).val + 1) (i 3) (before (i 2)) (i 4) else 0 : ℝ) := by
  by_cases hn : (i 1).val + 1 < 8
  · rw [if_pos hn, pad_apply_of_inside ![0, 0, 0, 0, 0] ![0, 1, 0, 0, 0] ![0, 0, 0, 0, 0] s (val_main_cst_18 (F := Ideal)) pads_S16x7x128x4x128_S16x8x128x4x128_000_010_000_000_000 h_S_ i
      (ix5 (i 0) ⟨(i 1).val, by omega⟩ (i 2) (i 3) (i 4)) (fun a => match a with | 0 | 1 | 2 | 3 | 4 => ((Nat.zero_add _).trans (Nat.mul_one _)).symm), hs]
    exact congrArg (fun z => ((p (i 0).val z (i 3) (before (i 2)) (i 4) : ℝ) : EReal)) (Nat.add_comm _ _)
  · rw [if_neg hn, pad_apply_of_not_inside ![0, 0, 0, 0, 0] ![0, 1, 0, 0, 0] ![0, 0, 0, 0, 0] s (val_main_cst_18 (F := Ideal)) pads_S16x7x128x4x128_S16x8x128x4x128_000_010_000_000_000 h_S_ i 1
      (fun h => hn (by
        have e : ((i 1).val - 0) / (0 + 1) < 7 := h.2.2
        omega))]
    exact lit_zero

theorem step85 (i : S16x1024x4x128.Idx) : (idx_main_v85 i 0).val = (i 0).val ∧ (idx_main_v85 i 1).val = (i 1).val / 128 ∧ (idx_main_v85 i 2).val = (i 1).val % 128
    ∧ (idx_main_v85 i 3).val = (i 2).val ∧ (idx_main_v85 i 4).val = (i 3).val := by
  obtain ⟨b0, b1, b2, b3⟩ := lt4 i
  refine ⟨?_, ?_, ?_, ?_, ?_⟩ <;> simp only [idx_main_v85] <;> omega

theorem step87 (i : S16384x4x128.Idx) : (idx_main_v87 i 0).val = (i 0).val / 16 ∧ (idx_main_v87 i 1).val = (i 0).val % 16
    ∧ (idx_main_v87 i 2).val = (i 1).val ∧ (idx_main_v87 i 3).val = (i 2).val := by
  obtain ⟨b0, b1, b2⟩ := lt3 i
  refine ⟨?_, ?_, ?_, ?_⟩ <;> simp only [idx_main_v87] <;> omega

theorem step94 (i : S1024x8192.Idx) : (idx_main_v94 i 0).val = (i 0).val * 16 + (i 1).val / 512 ∧ (idx_main_v94 i 1).val = (i 1).val % 512 / 128
    ∧ (idx_main_v94 i 2).val = (i 1).val % 128 := by
  obtain ⟨b0, b1⟩ := lt2 i
  refine ⟨?_, ?_, ?_⟩ <;> simp only [idx_main_v94] <;> omega

theorem laid_at (v : ℕ → Vals) (I : S1024x8192.Idx) (J : S16x8x128x4x128.Idx) (hJ : J = idx_main_v85 (idx_main_v86 (idx_main_v87 (idx_main_v94 I)))) :
    ((v (J 0).val (J 3) (J 1).val (J 2) (J 4) : ℝ) : EReal) = arrOf v I := by
  obtain ⟨b0, b1⟩ := lt2 I
  obtain ⟨p0, p1, p2⟩ := step94 I
  obtain ⟨q0, q1, q2, q3⟩ := step87 (idx_main_v94 I)
  obtain ⟨r0, r1, r2, r3, r4⟩ := step85 (idx_main_v86 (idx_main_v87 (idx_main_v94 I)))
  rw [← hJ] at r0 r1 r2 r3 r4
  have s0 : (J 0).val = (idx_main_v87 (idx_main_v94 I) 1).val := r0
  have s1 : (J 1).val = (idx_main_v87 (idx_main_v94 I) 0).val / 128 := r1
  have s2 : (J 2).val = (idx_main_v87 (idx_main_v94 I) 0).val % 128 := r2
  have s3 : (J 3).val = (idx_main_v87 (idx_main_v94 I) 2).val := r3
  have s4 : (J 4).val = (idx_main_v87 (idx_main_v94 I) 3).val := r4
  refine (arrOf_at v ?_ ?_).symm
  · rw [s1, s2, q0, p0]; show (I 0).val = _; omega
  · rw [s0, s3, s4, q1, q2, q3, p0, p1, p2]; show (I 1).val = _; omega

theorem step88 (i : S16x1024x4.Idx) : (idx_main_v88 i 0).val = (i 0).val ∧ (idx_main_v88 i 1).val = (i 1).val / 128 ∧ (idx_main_v88 i 2).val = (i 1).val % 128
    ∧ (idx_main_v88 i 3).val = (i 2).val := by
  obtain ⟨b0, b1, b2⟩ := lt3 i
  refine ⟨?_, ?_, ?_, ?_⟩ <;> simp only [idx_main_v88] <;> omega

theorem step90 (i : S16384x4.Idx) : (idx_main_v90 i 0).val = (i 0).val / 16 ∧ (idx_main_v90 i 1).val = (i 0).val % 16 ∧ (idx_main_v90 i 2).val = (i 1).val := by
  obtain ⟨b0, b1⟩ := lt2 i
  refine ⟨?_, ?_, ?_⟩ <;> simp only [idx_main_v90] <;> omega

theorem step93 (i : S1024x2048.Idx) : (idx_main_v93 i 0).val = (i 0).val * 16 + (i 1).val / 128 ∧ (idx_main_v93 i 1).val = (i 1).val % 128 / 32 := by
  obtain ⟨b0, b1⟩ := lt2 i
  refine ⟨?_, ?_⟩ <;> simp only [idx_main_v93] <;> omega

/-! ## Forward -/

theorem mask_at (i : S16x8x4x128x256.Idx) : val_main_v57_1 (F := Ideal) i = seesBit (i 1).val (i 3) (i 4) := by
  obtain ⟨b0, b1, b2, b3, b4⟩ := lt5 i
  simp only [val_main_v57_1_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply]
  exact band_words (i 1).val (i 3).val (i 4).val (by omega) (i 3).isLt (i 4).isLt (i 3) (i 4) rfl rfl

include h0 h1

theorem masked_at (i : S16x8x4x128x256.Idx) :
    (val_main_v57_0 (F := Ideal) x0 x1 i : EReal) = QK[masked, (i 0).val, i 2] (i 1).val (i 3) (i 4) := by
  rw [val_main_v57_0_apply]
  refine select_masked (mask_at i) (fun h => ?_) word_bot
  rw [val_main_v27_apply]
  exact sum_real _ _ fun e => by rw [rows_at h0, keys_at h1 _ h.2, ← EReal.coe_mul]; rfl

theorem top_at (i : S16x8x4x128.Idx) :
    (val_main_v58 (F := Ideal) x0 x1 i : EReal) = (QK[top, (i 0).val, i 2] (i 1).val (i 3) : ℝ) := by
  refine Eq.trans ?_ (QK[fold_masked, (i 0).val, i 2] (i 1).val (i 3) (fun b => (val_main_v57_0 (F := Ideal) x0 x1 (ix5 (i 0) (i 1) (i 2) (i 3) b) : EReal))
    fun b => masked_at h0 h1 _)
  unfold val_main_v58
  generalize (val_main_v57_0 (F := Ideal) x0 x1 : S16x8x4x128x256.Idx → EReal) = y
  refine (Host.reduce_eq_fold (max : EReal → EReal → EReal) y (val_main_cst_8 (F := Ideal) : S_.Idx → EReal) reducesTo_S16x8x4x128x256_S16x8x4x128_d4 h_S_ i).trans ?_
  rw [Shape.ReducesTo.fold_fiber_r5_a4]
  exact congrArg (fun z => Finset.fold max z _ _) word_bot

omit h0 h1 in
theorem idx59 (i : S16x8x4x128x1.Idx) : idx_main_v59 i = ix4 (i 0) (i 1) (i 2) (i 3) := by
  obtain ⟨b0, b1, b2, b3, b4⟩ := lt5 i
  refine funext fun (k : Fin 4) => Fin.ext ?_
  fin_cases k <;> simp only [idx_main_v59] <;> (show _ = (i _).val) <;> omega

theorem isTop_at (i : S16x8x4x128x256.Idx) :
    (val_main_v62 (F := Ideal) x0 x1 i : EReal) = (QK[isTop, (i 0).val, i 2] (i 1).val (i 3) (i 4) : ℝ) := by
  rw [val_main_v62_apply, val_main_v61_apply, val_main_v60_apply, val_main_v59_apply, masked_at h0 h1, top_at h0 h1, idx59]
  exact oeq_num _ _

theorem tops_at (i : S16x8x4x128.Idx) :
    (val_main_v63 (F := Ideal) x0 x1 i : EReal) = (QK[tops, (i 0).val, i 2] (i 1).val (i 3) : ℝ) := by
  rw [val_main_v63_apply]
  refine (congrArg₂ (· + ·) lit_zero (sum_real _ _ fun k => isTop_at h0 h1 _)).trans ?_
  rw [EReal.coe_zero, zero_add]
  rfl

theorem top_one (i : S16x8x4x128x1.Idx) :
    (val_main_v64 (F := Ideal) x0 x1 i : EReal) = (QK[top, (i 0).val, i 2] (i 1).val (i 3) : ℝ) := by
  rw [val_main_v64_apply, top_at h0 h1]; rfl

theorem expo_at (i : S16x8x4x128x256.Idx) :
    (val_main_v67 (F := Ideal) x0 x1 i : EReal) = (QK[expo, (i 0).val, i 2] (i 1).val (i 3) (i 4) : ℝ) := by
  rw [val_main_v67_apply, val_main_v66_apply, val_main_v65_apply, val_main_v64_apply, masked_at h0 h1, top_at h0 h1]
  exact exp_masked _ _ _ _ _

theorem den_at (i : S16x8x4x128.Idx) :
    (val_main_v68 (F := Ideal) x0 x1 i : EReal) = (QK[den, (i 0).val, i 2] (i 1).val (i 3) : ℝ) := by
  rw [val_main_v68_apply]
  refine (congrArg₂ (· + ·) lit_zero (sum_real _ _ fun k => expo_at h0 h1 _)).trans ?_
  rw [EReal.coe_zero, zero_add]
  rfl

omit h0 h1 in
/-- Dropping the last axis, of size one. -/
theorem idx72 (i : S16x8x4x128.Idx) : idx_main_v72 i = ix5 (i 0) (i 1) (i 2) (i 3) 0 := by
  obtain ⟨b0, b1, b2, b3⟩ := lt4 i
  refine funext fun (k : Fin 5) => Fin.ext ?_
  fin_cases k <;> simp only [idx_main_v72] <;> first | rfl | ((show _ = (i _).val); omega)

theorem den_flat (i : S16x8x4x128.Idx) :
    (val_main_v72 (F := Ideal) x0 x1 i : EReal) = (QK[den, (i 0).val, i 2] (i 1).val (i 3) : ℝ) := by
  rw [val_main_v72_apply, val_main_v69_apply, idx72, den_at h0 h1]; rfl

theorem den_one (i : S16x8x128x4x1.Idx) :
    (val_main_v74 (F := Ideal) x0 x1 i : EReal) = (QK[den, (i 0).val, i 3] (i 1).val (i 2) : ℝ) := by
  rw [val_main_v74_apply, val_main_v73_apply, den_flat h0 h1]; rfl

theorem lse_at (i : S16x8x128x4.Idx) :
    (val_main_v84 (F := Ideal) x0 x1 i : EReal) = (QK[lse, (i 0).val, i 3] (i 1).val (i 2) : ℝ) := by
  rw [val_main_v84_apply, val_main_v83_apply, val_main_v82_apply, show val_main_v81 (F := Ideal) x0 x1 = val_main_v72 x0 x1 from rfl, den_flat h0 h1, val_main_v80_apply, show idx_main_v80 = idx_main_v72 from rfl, idx72]
  refine (congrArg₂ (· + ·) (top_one h0 h1 _) (log_den _ _ _ _)).trans ?_
  rw [← EReal.coe_add]; rfl

include h2

theorem unnorm_at (i : S16x8x128x4x128.Idx) :
    (val_main_v71 (F := Ideal) x0 x1 x2 i : EReal) = (QKV[unnorm, (i 0).val, i 3] (i 1).val (i 2) (i 4) : ℝ) := by
  rw [val_main_v71_apply, val_main_v70_apply]
  refine sum_real _ _ fun b => (mul_comm _ _).trans ?_
  refine seen_mul (n := (i 1).val) (a := (i 2 : Fin 128)) (b := b) (expo_at h0 h1 _) (expo_not _ _ _) fun h => ?_
  rw [keys_v, keys_at h2 _ h.2]; rfl

theorem out_at (i : S16x8x128x4x128.Idx) :
    (val_main_v76 (F := Ideal) x0 x1 x2 i : EReal) = (QKV[out, (i 0).val, i 3] (i 1).val (i 2) (i 4) : ℝ) := by
  rw [val_main_v76_apply, val_main_v75_apply, unnorm_at h0 h1 h2, den_one h0 h1]
  exact div_real _ (den_ne _ _ _ _)

/-! ## Backward -/

omit h2

theorem inv_at (i : S16x8x128x4x1.Idx) : (val_main_v79 (F := Ideal) x0 x1 i : EReal)
    = (1 / (QK[den, (i 0).val, i 3] (i 1).val (i 2) * QK[den, (i 0).val, i 3] (i 1).val (i 2)) : ℝ) := by
  rw [val_main_v79_apply, val_main_v78_apply, val_main_v77_apply, den_one h0 h1]
  exact (congrArg₂ Ideal.div lit_one (mul_cast _ _)).trans (div_real _ (mul_ne_zero (den_ne _ _ _ _) (den_ne _ _ _ _)))

include h3 in
theorem norm_at (i : S16x8x4x128x128.Idx) : (val_main_v121 (F := Ideal) x0 x1 x3 i : EReal)
    = (seqs f3 16 (i 0).val (i 2) (qrow (i 1).val (i 4)) (i 3) / QK[den, (i 0).val, i 2] (i 1).val (i 4) : ℝ) := by
  rw [val_main_v121_apply, val_main_v116_apply, val_main_v115_apply, rows_g, rows_at h3, den_one h0 h1]
  exact div_real _ (den_ne _ _ _ _)

include h3 in
theorem dvPart_at (i : S16x8x256x4x128.Idx) : (val_main_v124 (F := Ideal) x0 x1 x3 i : EReal)
    = (QKG[dvPart, (i 0).val, i 3] (i 1).val (i 2) (i 4) : ℝ) := by
  rw [val_main_v124_apply, val_main_v123_apply]
  refine (sum_real _ _ fun a => ?_).trans (congrArg _ (dvPart_div _ _ _ _ _ _))
  rw [norm_at h0 h1 h3, expo_at h0 h1]
  exact mul_cast _ _

include h2 h3

theorem back_at (i : S16x8x128x4.Idx) : (val_main_v112 (F := Ideal) x0 x1 x2 x3 i : EReal)
    = (QKVG[back, (i 0).val, i 3] (i 1).val (i 2) : ℝ) := by
  rw [val_main_v112_apply]
  refine (congrArg₂ (· + ·) lit_zero (sum_real _
    (fun e => seqs f3 16 (i 0).val (i 3) (qrow (i 1).val (i 2)) e * (1 / (QK[den, (i 0).val, i 3] (i 1).val (i 2) * QK[den, (i 0).val, i 3] (i 1).val (i 2))) * QKV[unnorm, (i 0).val, i 3] (i 1).val (i 2) e)
    fun e => ?_)).trans ?_
  · rw [val_main_v111_apply, val_main_v110_apply, val_main_v109_apply, rows_g, rows_at h3, inv_at h0 h1, unnorm_at h0 h1 h2]
    exact (congrArg (· * _) (mul_cast _ _)).trans (mul_cast _ _)
  · rw [EReal.coe_zero, zero_add]; rfl

theorem neg_one (i : S16x8x128x4x1.Idx) : (val_main_v114 (F := Ideal) x0 x1 x2 x3 i : EReal)
    = (-QKVG[back, (i 0).val, i 3] (i 1).val (i 2) : ℝ) := by
  rw [val_main_v114_apply, val_main_v113_apply, idx113]
  exact (congrArg (fun z : EReal => -z) (back_at h0 h1 h2 h3 _)).trans (EReal.coe_neg _).symm

theorem neg_sum (i : S16x8x128x4.Idx) : (val_main_v117 (F := Ideal) x0 x1 x2 x3 i : EReal)
    = (-QKVG[back, (i 0).val, i 3] (i 1).val (i 2) : ℝ) := by
  rw [val_main_v117_apply]
  refine (congrArg₂ (· + ·) lit_zero (Fin.sum_univ_one _)).trans ?_
  rw [EReal.coe_zero, zero_add]
  exact neg_one h0 h1 h2 h3 _

theorem neg_at (i : S16x8x4x128x1.Idx) : (val_main_v120 (F := Ideal) x0 x1 x2 x3 i : EReal)
    = (-QKVG[back, (i 0).val, i 2] (i 1).val (i 3) : ℝ) := by
  rw [val_main_v120_apply, val_main_v107_apply, val_main_v106_apply, zero105, show val_main_v81 (F := Ideal) x0 x1 = val_main_v72 x0 x1 from rfl, den_flat h0 h1, val_main_v119_apply, val_main_v118_apply]
  refine (congrArg₂ (· + ·) (div_real 0 (den_ne _ _ _ _)) (neg_sum h0 h1 h2 h3 _)).trans ?_
  rw [zero_div, add_cast, zero_add]; rfl

theorem neg_flat (i : S16x8x4x128.Idx) : (val_main_v125 (F := Ideal) x0 x1 x2 x3 i : EReal)
    = (-QKVG[back, (i 0).val, i 2] (i 1).val (i 3) : ℝ) := by
  rw [val_main_v125_apply]
  refine (congrArg₂ (· + ·) lit_zero (Fin.sum_univ_one _)).trans ?_
  rw [EReal.coe_zero, zero_add]
  exact neg_at h0 h1 h2 h3 _

theorem ds_at (i : S16x8x4x128x256.Idx) : (val_main_v128 (F := Ideal) x0 x1 x2 x3 i : EReal)
    = (QKVG[ds, (i 0).val, i 2] (i 1).val (i 3) (i 4) : ℝ) := by
  rw [val_main_v128_apply]
  refine (mul_comm _ _).trans ((seen_mul (n := (i 1).val) (a := (i 3 : Fin 128)) (b := (i 4 : Fin 256)) (expo_at h0 h1 _) (expo_not _ _ _)
    (vr := gv (seqs f2 16 (i 0).val (i 2)) (seqs f3 16 (i 0).val (i 2)) (i 1).val (i 3) (i 4) / QK[den, (i 0).val, i 2] (i 1).val (i 3) + -QKVG[back, (i 0).val, i 2] (i 1).val (i 3)) fun h => ?_).trans
    (congrArg _ ((mul_comm _ _).trans (ds_back _ _ _ _ _ _ _))))
  rw [val_main_v127_apply, val_main_v126_apply, val_main_v122_apply]
  refine (congrArg₂ (· + ·) ((sum_real _ _ fun e => ?_).trans (congrArg _ (gv_div _ _ _ _ _ _ _))) (neg_flat h0 h1 h2 h3 _)).trans (add_cast _ _)
  rw [norm_at h0 h1 h3, keys_v, keys_at h2 _ h.2]
  exact mul_cast _ _

theorem ds_sum (i : S16x8x4x128.Idx) : (val_main_v130 (F := Ideal) x0 x1 x2 x3 i : EReal) = (0 : ℝ) := by
  rw [val_main_v130_apply]
  refine (congrArg₂ (· + ·) lit_zero (sum_real _ (fun b => -QKVG[ds, (i 0).val, i 2] (i 1).val (i 3) b) fun b => ?_)).trans ?_
  · rw [val_main_v129_apply]
    exact (congrArg (fun z : EReal => -z) (ds_at h0 h1 h2 h3 _)).trans (EReal.coe_neg _).symm
  · rw [Finset.sum_neg_distrib]
    exact (congrArg (fun z : ℝ => ((0 : ℝ) : EReal) + ((-z : ℝ) : EReal)) (sum_ds _ _ _ _ _ _)).trans (by rw [neg_zero, add_cast, zero_add])

theorem none_one (i : S16x8x4x128x1.Idx) : (val_main_v132 (F := Ideal) x0 x1 x2 x3 i : EReal) = (0 : ℝ) := by
  rw [val_main_v132_apply, val_main_v131_apply, val_main_v108_apply]
  refine (congrArg₂ (· + ·) (zero105 _) (ds_sum h0 h1 h2 h3 _)).trans ?_
  rw [add_cast, zero_add]

theorem none_at (i : S16x8x4x128.Idx) : (val_main_v134 (F := Ideal) x0 x1 x2 x3 i : EReal) = (0 : ℝ) := by
  rw [val_main_v134_apply, val_main_v133_apply]
  refine (congrArg₂ Ideal.div ((congrArg₂ (· + ·) lit_zero (Fin.sum_univ_one _)).trans ((congrArg (_ + ·) (none_one h0 h1 h2 h3 _)).trans (add_cast _ _))) (tops_at h0 h1 _)).trans
    ((div_real _ (tops_ne _ _ _ _)).trans ?_)
  rw [zero_add, zero_div]

theorem masked_ds_at (i : S16x8x4x128x256.Idx) : (val_main_v138 (F := Ideal) x0 x1 x2 x3 i : EReal)
    = (QKVG[ds, (i 0).val, i 2] (i 1).val (i 3) (i 4) : ℝ) := by
  rw [val_main_v138_apply]
  refine select_seen (mask_at i) ?_ (ds_unseen _ _ _ _ _) lit_zero
  rw [val_main_v137_apply, val_main_v136_apply, val_main_v135_apply]
  refine (congrArg₂ (· + ·) (ds_at h0 h1 h2 h3 _) ((congrArg₂ (· * ·) (none_at h0 h1 h2 h3 _) (isTop_at h0 h1 _)).trans (mul_cast _ _))).trans ?_
  rw [add_cast, zero_mul, add_zero]

theorem dkPart_at (i : S16x8x256x4x128.Idx) : (val_main_v140 (F := Ideal) x0 x1 x2 x3 i : EReal)
    = (QKVG[dkPart, (i 0).val, i 3] (i 1).val (i 2) (i 4) : ℝ) := by
  rw [val_main_v140_apply, val_main_v139_apply]
  refine sum_real _ _ fun a => ?_
  rw [masked_ds_at h0 h1 h2 h3, rows_at h0]
  exact mul_cast _ _

theorem dq_at (i : S16x8x128x4x128.Idx) : (val_main_v142 (F := Ideal) x0 x1 x2 x3 i : EReal)
    = (QKVG[dq, (i 0).val, i 3] (i 1).val (i 2) (i 4) : ℝ) := by
  rw [val_main_v142_apply, val_main_v141_apply]
  refine sum_real _ _ fun b => ?_
  refine seen_mul (n := (i 1).val) (a := (i 2 : Fin 128)) (b := b) (masked_ds_at h0 h1 h2 h3 _) (ds_unseen _ _ _ _ _) fun h => ?_
  rw [keys_at h1 _ h.2]; rfl

/-! ## A block's keys: the share of its own block's queries, and of the next block's -/

omit h2 in
theorem dv_at (i : S16x8x128x4x128.Idx) : (val_main_v148 (F := Ideal) x0 x1 x3 i : EReal)
    = (QKG[dv, (i 0).val, i 3] (i 1).val 8 (i 2) (i 4) : ℝ) := by
  rw [val_main_v148_apply, val_main_v144_apply]
  refine (congrArg₂ (· + ·) (dvPart_at h0 h1 h3 _) (next_at _ (fun r n h b e => QKG[dvPart, r, h] n b e) (fun j => ?_) i)).trans (add_cast _ _)
  rw [val_main_v146_apply, val_main_v143_apply]
  exact dvPart_at h0 h1 h3 _

theorem dk_at (i : S16x8x128x4x128.Idx) : (val_main_v157 (F := Ideal) x0 x1 x2 x3 i : EReal)
    = (QKVG[dk, (i 0).val, i 3] (i 1).val 8 (i 2) (i 4) : ℝ) := by
  rw [val_main_v157_apply, val_main_v153_apply]
  refine (congrArg₂ (· + ·) (dkPart_at h0 h1 h2 h3 _) (next_at _ (fun r n h b e => QKVG[dkPart, r, h] n b e) (fun j => ?_) i)).trans (add_cast _ _)
  rw [val_main_v155_apply, val_main_v152_apply]
  exact dkPart_at h0 h1 h2 h3 _

/-! ## The results, laid out as the calls have them -/

omit h2 h3 in
theorem lse_arr : (val_main_v93 (F := Ideal) x0 x1 : S1024x2048.Idx → EReal) = lanesArr (allLse (seqs f0 16) (seqs f1 16)) := by
  funext I
  obtain ⟨b0, b1⟩ := lt2 I
  obtain ⟨p0, p1⟩ := step93 I
  obtain ⟨q0, q1, q2⟩ := step90 (idx_main_v91 (idx_main_v92 (idx_main_v93 I)))
  obtain ⟨r0, r1, r2, r3⟩ := step88 (idx_main_v89 (idx_main_v90 (idx_main_v91 (idx_main_v92 (idx_main_v93 I)))))
  rw [val_main_v93_apply, val_main_v92_apply, val_main_v91_apply, val_main_v90_apply, val_main_v89_apply, val_main_v88_apply]
  generalize hJ : idx_main_v88 (idx_main_v89 (idx_main_v90 (idx_main_v91 (idx_main_v92 (idx_main_v93 I))))) = J at r0 r1 r2 r3 ⊢
  have s0 : (J 0).val = (idx_main_v93 I 0).val % 16 := r0.trans q1
  have s1 : (J 1).val = (idx_main_v93 I 0).val / 16 / 128 := r1.trans (congrArg (· / 128) q0)
  have s2 : (J 2).val = (idx_main_v93 I 0).val / 16 % 128 := r2.trans (congrArg (· % 128) q0)
  have s3 : (J 3).val = (idx_main_v93 I 1).val := r3.trans q2
  refine (lse_at h0 h1 _).trans (lanesArr_at (allLse (seqs f0 16) (seqs f1 16)) (c := (I 1).val % 32) (Nat.mod_lt _ (by decide)) ?_ ?_).symm
  · rw [s1, s2, p0]; show (I 0).val = _; omega
  · rw [s0, s3, p0, p1]; show (I 1).val = _; omega

omit h3 in
theorem out_arr : (val_main_v95 (F := Ideal) x0 x1 x2 : S1024x8192.Idx → EReal) = arrOf (allOuts (seqs f0 16) (seqs f1 16) (seqs f2 16)) := by
  funext I
  rw [val_main_v95_apply, val_main_v94_apply, val_main_v87_apply, val_main_v86_apply, val_main_v85_apply]
  exact (out_at h0 h1 h2 _).trans (laid_at (allOuts (seqs f0 16) (seqs f1 16) (seqs f2 16)) I _ rfl)

theorem dq_arr : (val_main_v165 (F := Ideal) x0 x1 x2 x3 : S1024x8192.Idx → EReal) = arrOf (allDq (seqs f0 16) (seqs f1 16) (seqs f2 16) (seqs f3 16)) := by
  funext I
  rw [val_main_v165_apply, val_main_v164_apply, val_main_v163_apply, val_main_v162_apply, val_main_v161_apply]
  exact (dq_at h0 h1 h2 h3 _).trans (laid_at (allDq (seqs f0 16) (seqs f1 16) (seqs f2 16) (seqs f3 16)) I _ rfl)

theorem dk_arr : (val_main_v167 (F := Ideal) x0 x1 x2 x3 : S1024x8192.Idx → EReal) = arrOf (allDk 8 (seqs f0 16) (seqs f1 16) (seqs f2 16) (seqs f3 16)) := by
  funext I
  rw [val_main_v167_apply, val_main_v166_apply, val_main_v160_apply, val_main_v159_apply, val_main_v158_apply]
  exact (dk_at h0 h1 h2 h3 _).trans (laid_at (allDk 8 (seqs f0 16) (seqs f1 16) (seqs f2 16) (seqs f3 16)) I _ rfl)

omit h2 in
theorem dv_arr : (val_main_v169 (F := Ideal) x0 x1 x3 : S1024x8192.Idx → EReal) = arrOf (allDv 8 (seqs f0 16) (seqs f1 16) (seqs f3 16)) := by
  funext I
  rw [val_main_v169_apply, val_main_v168_apply, val_main_v151_apply, val_main_v150_apply, val_main_v149_apply]
  exact (dv_at h0 h1 h3 _).trans (laid_at (allDv 8 (seqs f0 16) (seqs f1 16) (seqs f3 16)) I _ rfl)

end Cert.Proof.Att16.Ref
end
-- ==== Proof.Att16Claims.lean ====
/- The value claim of the attention over 16 sequences: both programs leave the same casts of real functions. -/
module

public import proofs.«01_k».proof.Defs
public import proofs.«01_k».proof.Proof.AttPre
public import proofs.«01_k».proof.Proof.Att16Run
public import proofs.«01_k».proof.Proof.Att16Kernel
public import proofs.«01_k».proof.Proof.Att16Ref
public import Idealize.ShloMosaic.Lib.StableHlo.RunRead

@[expose] public section

set_option maxRecDepth 16384

noncomputable section

namespace Cert.Proof.Att16

open Cert.Att16Ideal Cert.Att16Ideal.Gen Idealize.ShloMosaic TcCoe Idealize.SL.Sem
open Cert.Proof.Att Cert.Proof.RealValues

/-- The five results, from real arguments. -/
def outA (f0 f1 f2 : S16384x512.Idx → ℝ) : S1024x8192.Idx → EReal := arrOf (allOuts (seqs f0 16) (seqs f1 16) (seqs f2 16))
def lseA (f0 f1 : S16384x512.Idx → ℝ) : S1024x2048.Idx → EReal := lanesArr (allLse (seqs f0 16) (seqs f1 16))
def dqA (f0 f1 f2 f3 : S16384x512.Idx → ℝ) : S1024x8192.Idx → EReal := arrOf (allDq (seqs f0 16) (seqs f1 16) (seqs f2 16) (seqs f3 16))
def dkA (f0 f1 f2 f3 : S16384x512.Idx → ℝ) : S1024x8192.Idx → EReal := arrOf (allDk 8 (seqs f0 16) (seqs f1 16) (seqs f2 16) (seqs f3 16))
def dvA (f0 f1 f3 : S16384x512.Idx → ℝ) : S1024x8192.Idx → EReal := arrOf (allDv 8 (seqs f0 16) (seqs f1 16) (seqs f3 16))
/-- An argument as the call takes it, its rows dealt out to the sequences. -/
def rowsA (f : S16384x512.Idx → ℝ) : S1024x8192.Idx → EReal := arrOf (allRows (seqs f 16))

theorem rowsA_of {x : S16384x512.Idx → EReal} {f : S16384x512.Idx → ℝ} (h : x = fun i => ((f i : ℝ) : EReal)) :
    shapeCast S1024x8192 x shapeCasts_S16384x512_S1024x8192 = rowsA f :=
  grouped (L := 1024) (W := 8192) (D := 16) h rfl rfl shapeCasts_S16384x512_S1024x8192

section
variable {m : (ℓ : Loc nD τ sig) → Buf (Elt Ideal) ℓ} (ρ : Dev nD → PrngReg) {c : Dev nD} {f0 f1 f2 f3 : S16384x512.Idx → ℝ}
  (h0 : (m ((c : Thread nD τ).loc main_arg0) : S16384x512.Idx → EReal) = fun i => ((f0 i : ℝ) : EReal))
  (h1 : (m ((c : Thread nD τ).loc main_arg1) : S16384x512.Idx → EReal) = fun i => ((f1 i : ℝ) : EReal))
  (h2 : (m ((c : Thread nD τ).loc main_arg2) : S16384x512.Idx → EReal) = fun i => ((f2 i : ℝ) : EReal))
  (h3 : (m ((c : Thread nD τ).loc main_arg3) : S16384x512.Idx → EReal) = fun i => ((f3 i : ℝ) : EReal))

include h0 in
theorem fwd_0 : (V1 m ρ c main_v0 : S1024x8192.Idx → EReal) = rowsA f0 := by
  show StableHlo.after hostOps0 (W0 m ρ c) main_v0 = _
  after_reads_simp
  exact rowsA_of h0
include h1 in
theorem fwd_1 : (V1 m ρ c main_v1 : S1024x8192.Idx → EReal) = rowsA f1 := by
  show StableHlo.after hostOps0 (W0 m ρ c) main_v1 = _
  after_reads_simp
  exact rowsA_of h1
include h2 in
theorem fwd_2 : (V1 m ρ c main_v2 : S1024x8192.Idx → EReal) = rowsA f2 := by
  show StableHlo.after hostOps0 (W0 m ρ c) main_v2 = _
  after_reads_simp
  exact rowsA_of h2
include h0 in
theorem bwd_0 : (V3 m ρ c main_v4 : S1024x8192.Idx → EReal) = rowsA f0 := by
  show StableHlo.after hostOps1 (W2 m ρ c) main_v4 = _
  after_reads_simp
  rw [W2_args m ρ c main_arg0 (by decide)]
  exact rowsA_of h0
include h1 in
theorem bwd_1 : (V3 m ρ c main_v5 : S1024x8192.Idx → EReal) = rowsA f1 := by
  show StableHlo.after hostOps1 (W2 m ρ c) main_v5 = _
  after_reads_simp
  rw [W2_args m ρ c main_arg1 (by decide)]
  exact rowsA_of h1
include h2 in
theorem bwd_2 : (V3 m ρ c main_v6 : S1024x8192.Idx → EReal) = rowsA f2 := by
  show StableHlo.after hostOps1 (W2 m ρ c) main_v6 = _
  after_reads_simp
  rw [W2_args m ρ c main_arg2 (by decide)]
  exact rowsA_of h2
include h3 in
theorem bwd_3 : (V3 m ρ c main_v7 : S1024x8192.Idx → EReal) = rowsA f3 := by
  show StableHlo.after hostOps1 (W2 m ρ c) main_v7 = _
  after_reads_simp
  rw [W2_args m ρ c main_arg3 (by decide)]
  exact rowsA_of h3

include h0 h1 h2
theorem out_mid : (V3 m ρ c main_v3_0 : S1024x8192.Idx → EReal) = outA f0 f1 f2 := (W3_of m ρ c main_v3_0 (by decide)).trans <| (W2_arr m ρ c 5).trans (out_arr (V1 m ρ) c (fwd_0 ρ h0) (fwd_1 ρ h1) (fwd_2 ρ h2))
theorem lse_mid : (V3 m ρ c main_v3_1 : S1024x2048.Idx → EReal) = lseA f0 f1 := (W3_of m ρ c main_v3_1 (by decide)).trans <| (W2_arr m ρ c 6).trans (Att16.lse_arr (V1 m ρ) c (fwd_0 ρ h0) (fwd_1 ρ h1) (fwd_2 ρ h2))
theorem out_end : (W4 m ρ c (Proc.devRef .tc main_v3_0) : S1024x8192.Idx → EReal) = outA f0 f1 f2 :=
  (W4_of m ρ c main_v3_0 (by decide +kernel)).trans (out_mid ρ h0 h1 h2)
theorem lse_end : (W4 m ρ c (Proc.devRef .tc main_v3_1) : S1024x2048.Idx → EReal) = lseA f0 f1 :=
  (W4_of m ρ c main_v3_1 (by decide +kernel)).trans (lse_mid ρ h0 h1 h2)
include h3
theorem dq_end : (W4 m ρ c (Proc.devRef .tc main_v8_0) : S1024x8192.Idx → EReal) = dqA f0 f1 f2 f3 :=
  (W4_arr m ρ c 12).trans (dq_arr (V3 m ρ) c (bwd_0 ρ h0) (bwd_1 ρ h1) (bwd_2 ρ h2) (bwd_3 ρ h3) (out_mid ρ h0 h1 h2) (lse_mid ρ h0 h1 h2))
theorem dk_end : (W4 m ρ c (Proc.devRef .tc main_v8_1) : S1024x8192.Idx → EReal) = dkA f0 f1 f2 f3 :=
  (W4_arr m ρ c 13).trans (dk_arr (V3 m ρ) c (bwd_0 ρ h0) (bwd_1 ρ h1) (bwd_2 ρ h2) (bwd_3 ρ h3) (out_mid ρ h0 h1 h2) (lse_mid ρ h0 h1 h2))
theorem dv_end : (W4 m ρ c (Proc.devRef .tc main_v8_2) : S1024x8192.Idx → EReal) = dvA f0 f1 f3 :=
  (W4_arr m ρ c 14).trans (dv_arr (V3 m ρ) c (bwd_0 ρ h0) (bwd_1 ρ h1) (bwd_2 ρ h2) (bwd_3 ρ h3) (out_mid ρ h0 h1 h2) (lse_mid ρ h0 h1 h2))
end

open Cert.Att16RefIdeal.Read in
/-- Kernel and reference compute the same functions of finite arguments over the extended reals. -/
theorem algebraic : Cert.algebraic_Att16Ideal_Att16RefIdeal_pre_att_pre := by
  intro m g m' g' hpre hargs
  choose f0 f1 f2 f3 h0 h1 h2 h3 using fun c => reals_of_pre (hpre c)
  refine ⟨fun c => outA (f0 c) (f1 c) (f2 c), fun c => lseA (f0 c) (f1 c), fun c => dqA (f0 c) (f1 c) (f2 c) (f3 c),
    fun c => dkA (f0 c) (f1 c) (f2 c) (f3 c), fun c => dvA (f0 c) (f1 c) (f3 c),
    (θ_run Cert.Att16Ideal.defs _ _).mono (fun r h c => ?_) (run m g),
    (θ_run Cert.Att16RefIdeal.defs _ _).mono (fun r h c => ?_) (Cert.Att16RefIdeal.Value.run m' g')⟩
  · obtain ⟨e0, e1, e2, e3, e4, hr⟩ := h.1 c
    exact ⟨e0.trans (out_end g (h0 c) (h1 c) (h2 c)), e1.trans (lse_end g (h0 c) (h1 c) (h2 c)), e2.trans (dq_end g (h0 c) (h1 c) (h2 c) (h3 c)),
      e3.trans (dk_end g (h0 c) (h1 c) (h2 c) (h3 c)), e4.trans (dv_end g (h0 c) (h1 c) (h2 c) (h3 c)), hr⟩
  · obtain ⟨e0, e1, e2, e3, e4, hr⟩ := h c
    obtain ⟨k0, k1, k2, k3⟩ := hargs c
    have a0 := k0.trans (h0 c)
    have a1 := k1.trans (h1 c)
    have a2 := k2.trans (h2 c)
    have a3 := k3.trans (h3 c)
    exact ⟨e0.trans ((val_main_v95_eq _).trans (Ref.out_arr a0 a1 a2)), e1.trans ((val_main_v93_eq _).trans (Ref.lse_arr a0 a1)),
      e2.trans ((val_main_v165_eq _).trans (Ref.dq_arr a0 a1 a2 a3)), e3.trans ((val_main_v167_eq _).trans (Ref.dk_arr a0 a1 a2 a3)),
      e4.trans ((val_main_v169_eq _).trans (Ref.dv_arr a0 a1 a3)), hr⟩

end Cert.Proof.Att16
end
-- ==== Proof.PrjClaims.lean ====
/- `attn_proj`: a product with a weight that lies in four blocks of columns, and the claims of the pair Prj. -/
module

public import proofs.«01_k».proof.Defs
public import proofs.«01_k».proof.Proof.Products
public import proofs.«01_k».proof.Proof.Gen.Prj.Frame
public import proofs.«01_k».proof.Proof.Gen.PrjIdeal.Value
public import proofs.«01_k».proof.Proof.Gen.PrjRefIdeal.Read
public import Idealize.ShloMosaic.Lib.StableHlo.RunRead

@[expose] public section

set_option maxRecDepth 16384

noncomputable section

namespace Cert.Proof.Prj

open Cert.PrjIdeal Cert.PrjIdeal.Gen Idealize.ShloMosaic TcCoe Idealize.SL.Sem
open Cert.Proof.RealValues Cert.Proof.Products

/-- The body's result at an index: block `q` of the weight gives block `q` of the columns. -/
theorem out_at (x : Vec Ideal S1024x512 .bf16) (w : Fin 4 → Vec Ideal S1x512x256 .bf16) (q : Fin 4) (r : Fin 1024) (k : Fin 256) :
    out0_5 x (w 0) (w 1) (w 2) (w 3) (ix2 r (chipOf 256 rfl q k)) = ∑ a, x (ix2 r a) * w q (ix3 0 a k) := by
  unfold out0_5
  rw [View.canon_unit_zero hz]
  unfold_payloads
  pointwise
  exact pick4 256 rfl (fun q k => ∑ a, x (ix2 r a) * w q (ix3 0 a k)) q k (fun _ _ _ => by
    have := (chipOf 256 (W := 1024) rfl q k).isLt; omega)

variable (m : (ℓ : Loc nD τ sig) → Buf (Elt Ideal) ℓ) (c : Dev nD)

theorem lt_pt (t : Fin cfg0.N) : t.val < 16 := lt_of_lt_of_eq t.isLt N_0

theorem idx : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] := by decide +kernel

/-- The weight as the windows find it: four blocks of columns. -/
theorem V_w (q : Fin 4) (a : Fin 512) (k : Fin 256) :
    V m c main_v2 (ix3 q a k) = m ((c : Thread nD τ).loc main_arg1) (ix2 a (chipOf 256 rfl q k)) := by
  have : V m c main_v2 = (truncf (F := Ideal) .bf16 (transpose S4x512x256 [1, 0, 2]
      (shapeCast S512x4x256 (m ((c : Thread nD τ).loc main_arg1) : FVec Ideal S512x1024 .f32) shapeCasts_S512x1024_S512x4x256)
      transposes_S512x4x256_S4x512x256_1_0_2) bitsLt_bf16_f32 : FVec Ideal S4x512x256 .bf16) := by
    unfold V hostOps0
    after_reads_simp
    rfl
  rw [this]
  exact cols_split rfl _ _ _ q a k

/-- The result: the product. -/
def tot (x0 : S16384x512.Idx → EReal) (x1 : S512x1024.Idx → EReal) (R : Fin 16384) (j : Fin 1024) : EReal := nn x0 x1 R j

/-- The result of the buffers read. -/
def res : Fin 16384 → Fin 1024 → EReal :=
  tot (m ((c : Thread nD τ).loc main_arg0)) (m ((c : Thread nD τ).loc main_arg1))

/-- The weight's four windows. -/
def wblk (t : Fin cfg0.N) : Fin 4 → Vec Ideal S1x512x256 .bf16 := fun q => match q with
  | 0 => iblk m c 1 t | 1 => iblk m c 2 t | 2 => iblk m c 3 t | 3 => iblk m c 4 t

/-- The windows' blocks at an index. -/
theorem blk_x (t : Fin cfg0.N) (r : Fin 1024) (a : Fin 512) :
    iblk m c 0 t (ix2 r a) = m ((c : Thread nD τ).loc main_arg0) (ix2 (rowOf 1024 16 rfl t.val (lt_pt t) r) a) :=
  (congrFun (V_main_arg0 m c) _).trans (congrArg _ (at_rows (S := 16384) (N := 512) (b := 1024) (n := 16) (r := r) (j := a) rfl (lt_pt t) (idx t).1 rfl rfl))
theorem blk_w (t : Fin cfg0.N) (q : Fin 4) (a : Fin 512) (k : Fin 256) :
    wblk m c t q (ix3 0 a k) = m ((c : Thread nD τ).loc main_arg1) (ix2 a (chipOf 256 rfl q k)) := by
  obtain ⟨-, a0, a1, a2, a3, -⟩ := idx t
  match q with
  | 0 => exact (congrArg (V m c main_v2) (at_chip 0 a0 rfl rfl rfl)).trans (V_w m c 0 a k)
  | 1 => exact (congrArg (V m c main_v2) (at_chip 1 a1 rfl rfl rfl)).trans (V_w m c 1 a k)
  | 2 => exact (congrArg (V m c main_v2) (at_chip 2 a2 rfl rfl rfl)).trans (V_w m c 2 a k)
  | 3 => exact (congrArg (V m c main_v2) (at_chip 3 a3 rfl rfl rfl)).trans (V_w m c 3 a k)

/-- The point whose block holds row `i 0`. -/
def pt (i : S16384x1024.Idx) : Fin cfg0.N :=
  ⟨(i 0 : Nat) / 1024, by have h0 : (i 0 : Nat) < 16384 := (i 0).isLt; rw [show cfg0.N = 16 from N_0]; omega⟩

theorem final : (dats m 0 c).arrAt 5 cfg0.N = arr (res m c) := by
  refine (dats m 0 c).arrAt_eq_of_cover 5 _ (fun t _ => ?_) (fun i => ⟨pt i, flush0_5 _, ?_⟩)
  · rw [Cert.PrjIdeal.Value.flushed5]
    refine funext fun (jj : S1024x1024.Idx) => ?_
    obtain ⟨r, j, rfl⟩ := ex2 jj
    refine Eq.trans ?_ (arr_at (res m c) (at_rows (S := 16384) (N := 1024) (b := 1024) (n := 16) (r := r) (j := j) rfl (lt_pt t) (idx t).2.2.2.2.2 rfl rfl))
    obtain ⟨q, k, rfl⟩ := chip_of 256 rfl j
    exact (out_at (iblk m c 0 t) (wblk m c t) q r k).trans (Finset.sum_congr rfl fun a _ =>
      congrArg₂ (fun a b : EReal => a * b) (blk_x m c t r a) (blk_w m c t q a k))
  · refine in_block ?_
    exact rows_cover i (by norm_num) (idx (pt i)).2.2.2.2.2

open Cert.PrjRefIdeal.Read in
/-- The reference's result. -/
theorem ref_at (x0 : S16384x512.Idx → EReal) (x1 : S512x1024.Idx → EReal) (R : Fin 16384) (j : Fin 1024) :
    val_main_v2 (F := Ideal) x0 x1 (ix2 R j) = tot x0 x1 R j := by
  unfold val_main_v2 val_main_v1 val_main_v0
  pointwise
  rfl

/-- Kernel and reference compute the same function of any arguments over the extended reals. -/
theorem algebraic : Cert.algebraic_PrjIdeal_PrjRefIdeal := by
  intro m g m' g' hpre hargs
  refine ⟨fun c => arr (res m c),
    (θ_run Cert.PrjIdeal.defs _ _).mono (fun r h c => ⟨(h c).1.trans (final m c), (h c).2⟩) (Cert.PrjIdeal.Value.run_blocks m g),
    (θ_run Cert.PrjRefIdeal.defs _ _).mono (fun r h c => ?_) (Cert.PrjRefIdeal.Value.run m' g')⟩
  obtain ⟨h0, hr⟩ := h c
  obtain ⟨k0, k1⟩ := hargs c
  rw [k0, k1] at h0
  exact ⟨h0.trans (eq_arr (ref_at _ _)), hr⟩

theorem frame_ref : Cert.quiescent_PrjRefIdeal := fun m g _ =>
  (θ_run Cert.PrjRefIdeal.defs _ _).mono (fun r h => ⟨fun c => (h c).2, Idealize.ShloMosaic.sem_eq_zero_of_no_sems (by decide) r.2⟩)
    (Cert.PrjRefIdeal.Value.run m g)
theorem frame_kernel : Cert.quiescent_Prj := fun m g _ => Cert.Prj.Gen.frame m g
theorem frame_ideal : Cert.quiescent_PrjIdeal := fun m g _ => Cert.PrjIdeal.Gen.frame m g

end Cert.Proof.Prj
end
-- ==== Proof.PlpClaims.lean ====
/- `ple_proj`: a product with a weight that lies in four blocks of columns, and the claims of the pair Plp. -/
module

public import proofs.«01_k».proof.Defs
public import proofs.«01_k».proof.Proof.Products
public import proofs.«01_k».proof.Proof.Gen.Plp.Frame
public import proofs.«01_k».proof.Proof.Gen.PlpIdeal.Value
public import proofs.«01_k».proof.Proof.Gen.PlpRefIdeal.Read
public import Idealize.ShloMosaic.Lib.StableHlo.RunRead

@[expose] public section

set_option maxRecDepth 16384

noncomputable section

namespace Cert.Proof.Plp

open Cert.PlpIdeal Cert.PlpIdeal.Gen Idealize.ShloMosaic TcCoe Idealize.SL.Sem
open Cert.Proof.RealValues Cert.Proof.Products

/-- The body's result at an index: block `q` of the weight gives block `q` of the columns. -/
theorem out_at (x : Vec Ideal S1024x256 .f32) (w : Fin 4 → Vec Ideal S1x256x256 .bf16) (q : Fin 4) (r : Fin 1024) (k : Fin 256) :
    out0_5 x (w 0) (w 1) (w 2) (w 3) (ix2 r (chipOf 256 rfl q k)) = ∑ a, x (ix2 r a) * w q (ix3 0 a k) := by
  unfold out0_5
  rw [View.canon_unit_zero hz]
  unfold_payloads
  pointwise
  exact pick4 256 rfl (fun q k => ∑ a, x (ix2 r a) * w q (ix3 0 a k)) q k (fun _ _ _ => by
    have := (chipOf 256 (W := 1024) rfl q k).isLt; omega)

variable (m : (ℓ : Loc nD τ sig) → Buf (Elt Ideal) ℓ) (c : Dev nD)

theorem lt_pt (t : Fin cfg0.N) : t.val < 16 := lt_of_lt_of_eq t.isLt N_0

theorem idx : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] := by decide +kernel

/-- The weight as the windows find it: four blocks of columns. -/
theorem V_w (q : Fin 4) (a : Fin 256) (k : Fin 256) :
    V m c main_v2 (ix3 q a k) = m ((c : Thread nD τ).loc main_arg1) (ix2 a (chipOf 256 rfl q k)) := by
  have : V m c main_v2 = (truncf (F := Ideal) .bf16 (transpose S4x256x256 [1, 0, 2]
      (shapeCast S256x4x256 (m ((c : Thread nD τ).loc main_arg1) : FVec Ideal S256x1024 .f32) shapeCasts_S256x1024_S256x4x256)
      transposes_S256x4x256_S4x256x256_1_0_2) bitsLt_bf16_f32 : FVec Ideal S4x256x256 .bf16) := by
    unfold V hostOps0
    after_reads_simp
    rfl
  rw [this]
  exact cols_split rfl _ _ _ q a k

/-- The result: the product. -/
def tot (x0 : S16384x256.Idx → EReal) (x1 : S256x1024.Idx → EReal) (R : Fin 16384) (j : Fin 1024) : EReal := nn x0 x1 R j

/-- The result of the buffers read. -/
def res : Fin 16384 → Fin 1024 → EReal :=
  tot (m ((c : Thread nD τ).loc main_arg0)) (m ((c : Thread nD τ).loc main_arg1))

/-- The weight's four windows. -/
def wblk (t : Fin cfg0.N) : Fin 4 → Vec Ideal S1x256x256 .bf16 := fun q => match q with
  | 0 => iblk m c 1 t | 1 => iblk m c 2 t | 2 => iblk m c 3 t | 3 => iblk m c 4 t

/-- The windows' blocks at an index. -/
theorem blk_x (t : Fin cfg0.N) (r : Fin 1024) (a : Fin 256) :
    iblk m c 0 t (ix2 r a) = m ((c : Thread nD τ).loc main_arg0) (ix2 (rowOf 1024 16 rfl t.val (lt_pt t) r) a) :=
  (congrFun (V_main_arg0 m c) _).trans (congrArg _ (at_rows (S := 16384) (N := 256) (b := 1024) (n := 16) (r := r) (j := a) rfl (lt_pt t) (idx t).1 rfl rfl))
theorem blk_w (t : Fin cfg0.N) (q : Fin 4) (a : Fin 256) (k : Fin 256) :
    wblk m c t q (ix3 0 a k) = m ((c : Thread nD τ).loc main_arg1) (ix2 a (chipOf 256 rfl q k)) := by
  obtain ⟨-, a0, a1, a2, a3, -⟩ := idx t
  match q with
  | 0 => exact (congrArg (V m c main_v2) (at_chip 0 a0 rfl rfl rfl)).trans (V_w m c 0 a k)
  | 1 => exact (congrArg (V m c main_v2) (at_chip 1 a1 rfl rfl rfl)).trans (V_w m c 1 a k)
  | 2 => exact (congrArg (V m c main_v2) (at_chip 2 a2 rfl rfl rfl)).trans (V_w m c 2 a k)
  | 3 => exact (congrArg (V m c main_v2) (at_chip 3 a3 rfl rfl rfl)).trans (V_w m c 3 a k)

/-- The point whose block holds row `i 0`. -/
def pt (i : S16384x1024.Idx) : Fin cfg0.N :=
  ⟨(i 0 : Nat) / 1024, by have h0 : (i 0 : Nat) < 16384 := (i 0).isLt; rw [show cfg0.N = 16 from N_0]; omega⟩

theorem final : (dats m 0 c).arrAt 5 cfg0.N = arr (res m c) := by
  refine (dats m 0 c).arrAt_eq_of_cover 5 _ (fun t _ => ?_) (fun i => ⟨pt i, flush0_5 _, ?_⟩)
  · rw [Cert.PlpIdeal.Value.flushed5]
    refine funext fun (jj : S1024x1024.Idx) => ?_
    obtain ⟨r, j, rfl⟩ := ex2 jj
    refine Eq.trans ?_ (arr_at (res m c) (at_rows (S := 16384) (N := 1024) (b := 1024) (n := 16) (r := r) (j := j) rfl (lt_pt t) (idx t).2.2.2.2.2 rfl rfl))
    obtain ⟨q, k, rfl⟩ := chip_of 256 rfl j
    exact (out_at (iblk m c 0 t) (wblk m c t) q r k).trans (Finset.sum_congr rfl fun a _ =>
      congrArg₂ (fun a b : EReal => a * b) (blk_x m c t r a) (blk_w m c t q a k))
  · refine in_block ?_
    exact rows_cover i (by norm_num) (idx (pt i)).2.2.2.2.2

open Cert.PlpRefIdeal.Read in
/-- The reference's result. -/
theorem ref_at (x0 : S16384x256.Idx → EReal) (x1 : S256x1024.Idx → EReal) (R : Fin 16384) (j : Fin 1024) :
    val_main_v1 (F := Ideal) x0 x1 (ix2 R j) = tot x0 x1 R j := by
  unfold val_main_v1 val_main_v0
  pointwise
  rfl

/-- Kernel and reference compute the same function of any arguments over the extended reals. -/
theorem algebraic : Cert.algebraic_PlpIdeal_PlpRefIdeal := by
  intro m g m' g' hpre hargs
  refine ⟨fun c => arr (res m c),
    (θ_run Cert.PlpIdeal.defs _ _).mono (fun r h c => ⟨(h c).1.trans (final m c), (h c).2⟩) (Cert.PlpIdeal.Value.run_blocks m g),
    (θ_run Cert.PlpRefIdeal.defs _ _).mono (fun r h c => ?_) (Cert.PlpRefIdeal.Value.run m' g')⟩
  obtain ⟨h0, hr⟩ := h c
  obtain ⟨k0, k1⟩ := hargs c
  rw [k0, k1] at h0
  exact ⟨h0.trans (eq_arr (ref_at _ _)), hr⟩

theorem frame_ref : Cert.quiescent_PlpRefIdeal := fun m g _ =>
  (θ_run Cert.PlpRefIdeal.defs _ _).mono (fun r h => ⟨fun c => (h c).2, Idealize.ShloMosaic.sem_eq_zero_of_no_sems (by decide) r.2⟩)
    (Cert.PlpRefIdeal.Value.run m g)
theorem frame_kernel : Cert.quiescent_Plp := fun m g _ => Cert.Plp.Gen.frame m g
theorem frame_ideal : Cert.quiescent_PlpIdeal := fun m g _ => Cert.PlpIdeal.Gen.frame m g

end Cert.Proof.Plp
end
-- ==== Proof.SspClaims.lean ====
/- `ssm_prep`: the discretisation of a group of states, and the claims of the pair Ssp. -/
module

public import proofs.«01_k».proof.Proof.Products
public import proofs.«01_k».proof.Proof.SpbClaims
public import proofs.«01_k».proof.Proof.Gen.Ssp.Frame
public import proofs.«01_k».proof.Proof.Gen.SspIdeal.Value
public import proofs.«01_k».proof.Proof.Gen.SspRefIdeal.Read

@[expose] public section

set_option maxRecDepth 16384

noncomputable section

namespace Cert.Proof.Ssp

open Cert.SspIdeal Cert.SspIdeal.Gen Idealize.ShloMosaic TcCoe Idealize.SL.Sem
open Cert.SspRefIdeal.Read Cert.Proof.RealValues Cert.Proof.Products
open Cert.Proof.Spb (col tr ext2 at0 tr_eq)

variable (a b : S32x64.Idx → EReal) (l : (⟨1, ![32]⟩ : Shape).Idx → EReal) (p q : (⟨3, ![32, 64, 16]⟩ : Shape).Idx → EReal)

/-- The step size, the magnitude, and the discrete eigenvalue's two parts. -/
theorem dt_at (g : Fin 32) : k0_pay3 (F := Ideal) (col l) (ix2 g 0) = Ideal.exp (l (ix1 g)) := by
  unfold k0_pay3
  pointwise
  rfl
theorem mag : k0_pay4 (F := Ideal) a (col l) = val_main_v4 (F := Ideal) a l := ext2 fun g s => by
  unfold k0_pay4 val_main_v4 val_main_v3 val_main_v2 val_main_v1 val_main_v0
  pointwise
  rw [dt_at]
theorem barRe : k0_pay5 (F := Ideal) a b (col l) = val_main_v8 (F := Ideal) a b l := ext2 fun g s => by
  unfold k0_pay5 val_main_v8 val_main_v7 val_main_v6 val_main_v5 val_main_v1 val_main_v0
  rw [mag]
  pointwise
  rw [dt_at]
theorem barIm : k0_pay6 (F := Ideal) a b (col l) = val_main_v12 (F := Ideal) a b l := ext2 fun g s => by
  unfold k0_pay6 val_main_v12 val_main_v11 val_main_v10 val_main_v9 val_main_v1 val_main_v0
  rw [mag]
  pointwise
  rw [dt_at]

/-- The two parts of the factor that the input matrix is multiplied with. -/
theorem zRe : k0_pay9 (F := Ideal) a b (col l) = val_main_v21 (F := Ideal) a b l := by
  unfold k0_pay9 k0_pay7 k0_pay8; rw [barRe, barIm]; rfl
theorem zIm : k0_pay10 (F := Ideal) a b (col l) = val_main_v25 (F := Ideal) a b l := by
  unfold k0_pay10 k0_pay7 k0_pay8; rw [barRe, barIm]; rfl

/-- The body's four results are the reference's. -/
theorem out_re : out0_5 (F := Ideal) a b (col l) (tr p) (tr q) = val_main_v8 (F := Ideal) a b l := by
  unfold out0_5
  rw [View.canon_unit_zero hz]
  simp only [View.ld_unit_zero (S := S32x64) hz, View.ld_unit_zero (S := S32x1) hz]
  exact barRe a b l
theorem out_im : out0_6 (F := Ideal) a b (col l) (tr p) (tr q) = val_main_v12 (F := Ideal) a b l := by
  unfold out0_6
  rw [View.canon_unit_zero hz]
  simp only [View.ld_unit_zero (S := S32x64) hz, View.ld_unit_zero (S := S32x1) hz]
  exact barIm a b l
theorem out_bre : out0_7 (F := Ideal) a b (col l) (tr p) (tr q) = val_main_v40 (F := Ideal) a b l p q := by
  unfold out0_7
  rw [View.canon_unit_zero hz3]
  simp only [View.ld_unit_zero (S := S32x64) hz, View.ld_unit_zero (S := S32x1) hz, View.ld_unit_zero (S := S32x16x64) hz3]
  funext i
  obtain ⟨g, k, s, rfl⟩ := ex3 i
  unfold k0_pay11 k0_pay1 k0_pay2
  rw [zRe, zIm]
  unfold val_main_v40 val_main_v32 val_main_v31 val_main_v30 val_main_v29 val_main_v28 val_main_v27 val_main_v26
  pointwise
  rfl
theorem out_bim : out0_8 (F := Ideal) a b (col l) (tr p) (tr q) = val_main_v41 (F := Ideal) a b l p q := by
  unfold out0_8
  rw [View.canon_unit_zero hz3]
  simp only [View.ld_unit_zero (S := S32x64) hz, View.ld_unit_zero (S := S32x1) hz, View.ld_unit_zero (S := S32x16x64) hz3]
  funext i
  obtain ⟨g, k, s, rfl⟩ := ex3 i
  unfold k0_pay12 k0_pay1 k0_pay2
  rw [zRe, zIm]
  unfold val_main_v41 val_main_v39 val_main_v38 val_main_v37 val_main_v36 val_main_v35 val_main_v34 val_main_v33
  pointwise
  rfl

variable (m : (ℓ : Loc nD τ sig) → Buf (Elt Ideal) ℓ) (c : Dev nD)

/-- The memory's argument arrays. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)

/-- The host's layouts. -/
theorem V_lay : V m c main_v0 = col (A2 m c) ∧ V m c main_v1 = tr (A3 m c) ∧ V m c main_v2 = tr (A4 m c) := by
  have h : V m c main_v0 = shapeCast S32x1 (A2 m c) shapeCasts_S32_S32x1 := by
    unfold V hostOps0
    after_reads_simp
    rfl
  refine ⟨?_, ?_, ?_⟩
  · rw [h]
    funext i
    obtain ⟨g, z, rfl⟩ := ex2 i
    obtain rfl : z = 0 := Subsingleton.elim _ _
    pointwise
    rfl
  · unfold V hostOps0
    after_reads_simp
    exact tr_eq _
  · unfold V hostOps0
    after_reads_simp
    exact tr_eq _

theorem blocks (t : Fin cfg0.N) : iblk m c 0 t = A0 m c ∧ iblk m c 1 t = A1 m c ∧ iblk m c 2 t = col (A2 m c) ∧ iblk m c 3 t = tr (A3 m c)
    ∧ iblk m c 4 t = tr (A4 m c) :=
  ⟨funext fun y => (congrFun (V_main_arg0 m c) _).trans (congrArg _ (funext fun a => Fin.ext (at0 _ _))),
    funext fun y => (congrFun (V_main_arg1 m c) _).trans (congrArg _ (funext fun a => Fin.ext (at0 _ _))),
    funext fun y => (congrFun (V_lay m c).1 _).trans (congrArg _ (funext fun a => Fin.ext (at0 _ _))),
    funext fun y => (congrFun (V_lay m c).2.1 _).trans (congrArg _ (funext fun a => Fin.ext (at0 _ _))),
    funext fun y => (congrFun (V_lay m c).2.2 _).trans (congrArg _ (funext fun a => Fin.ext (at0 _ _)))⟩

/-- The four result arrays after the run are the reference's values of the arguments. -/
theorem final_re : (dats m 0 c).arrAt 5 cfg0.N = val_main_v8 (F := Ideal) (A0 m c) (A1 m c) (A2 m c) := by
  refine (dats m 0 c).arrAt_eq_of_covers 5 _ (by decide +kernel) fun t hf y => ?_
  obtain ⟨e0, e1, e2, e3, e4⟩ := blocks m c t
  rw [after0_5, e0, e1, e2, e3, e4, out_re]
  exact congrArg (val_main_v8 (F := Ideal) (A0 m c) (A1 m c) (A2 m c)) (funext fun a => Fin.ext (at0 _ _).symm)
theorem final_im : (dats m 0 c).arrAt 6 cfg0.N = val_main_v12 (F := Ideal) (A0 m c) (A1 m c) (A2 m c) := by
  refine (dats m 0 c).arrAt_eq_of_covers 6 _ (by decide +kernel) fun t hf y => ?_
  obtain ⟨e0, e1, e2, e3, e4⟩ := blocks m c t
  rw [after0_6, e0, e1, e2, e3, e4, out_im]
  exact congrArg (val_main_v12 (F := Ideal) (A0 m c) (A1 m c) (A2 m c)) (funext fun a => Fin.ext (at0 _ _).symm)
theorem final_bre : (dats m 0 c).arrAt 7 cfg0.N = val_main_v40 (F := Ideal) (A0 m c) (A1 m c) (A2 m c) (A3 m c) (A4 m c) := by
  refine (dats m 0 c).arrAt_eq_of_covers 7 _ (by decide +kernel) fun t hf y => ?_
  obtain ⟨e0, e1, e2, e3, e4⟩ := blocks m c t
  rw [after0_7, e0, e1, e2, e3, e4, out_bre]
  exact congrArg (val_main_v40 (F := Ideal) (A0 m c) (A1 m c) (A2 m c) (A3 m c) (A4 m c)) (funext fun a => Fin.ext (at0 _ _).symm)
theorem final_bim : (dats m 0 c).arrAt 8 cfg0.N = val_main_v41 (F := Ideal) (A0 m c) (A1 m c) (A2 m c) (A3 m c) (A4 m c) := by
  refine (dats m 0 c).arrAt_eq_of_covers 8 _ (by decide +kernel) fun t hf y => ?_
  obtain ⟨e0, e1, e2, e3, e4⟩ := blocks m c t
  rw [after0_8, e0, e1, e2, e3, e4, out_bim]
  exact congrArg (val_main_v41 (F := Ideal) (A0 m c) (A1 m c) (A2 m c) (A3 m c) (A4 m c)) (funext fun a => Fin.ext (at0 _ _).symm)

/-- Kernel and reference compute the same four functions of any arguments over the extended reals. -/
theorem algebraic : Cert.algebraic_SspIdeal_SspRefIdeal := by
  intro m g m' g' hpre hargs
  refine ⟨fun c => _, fun c => _, fun c => _, fun c => _,
    (θ_run Cert.SspIdeal.defs _ _).mono (fun r h c => ⟨(h c).1.trans (final_re m c), (h c).2.1.trans (final_im m c),
      (h c).2.2.1.trans (final_bre m c), (h c).2.2.2.1.trans (final_bim m c), (h c).2.2.2.2⟩) (Cert.SspIdeal.Value.run_blocks m g),
    (θ_run Cert.SspRefIdeal.defs _ _).mono (fun r h c => ?_) (Cert.SspRefIdeal.Value.run m' g')⟩
  obtain ⟨h0, h1, h2, h3, hr⟩ := h c
  obtain ⟨k0, k1, k2, k3, k4⟩ := hargs c
  rw [k0, k1, k2] at h0 h1
  rw [k0, k1, k2, k3, k4] at h2 h3
  exact ⟨h0, h1, h2, h3, hr⟩

theorem frame_ref : Cert.quiescent_SspRefIdeal := fun m g _ =>
  (θ_run Cert.SspRefIdeal.defs _ _).mono (fun r h => ⟨fun c => (h c).2.2.2.2, Idealize.ShloMosaic.sem_eq_zero_of_no_sems (by decide) r.2⟩)
    (Cert.SspRefIdeal.Value.run m g)
theorem frame_kernel : Cert.quiescent_Ssp := fun m g _ => Cert.Ssp.Gen.frame m g
theorem frame_ideal : Cert.quiescent_SspIdeal := fun m g _ => Cert.SspIdeal.Gen.frame m g

end Cert.Proof.Ssp
end
-- ==== Proof.OfwClaims.lean ====
/- `out_proj`: the gated merge, its product with a weight, the residual and the normalisation of the sum, and the claims of the pair Ofw. -/
module

public import proofs.«01_k».proof.Defs
public import proofs.«01_k».proof.Proof.Products
public import proofs.«01_k».proof.Proof.Gen.Ofw.Frame
public import proofs.«01_k».proof.Proof.Gen.OfwIdeal.Value
public import proofs.«01_k».proof.Proof.Gen.OfwRefIdeal.Read
public import Idealize.ShloMosaic.Lib.StableHlo.RunRead

@[expose] public section

set_option maxRecDepth 16384

noncomputable section

namespace Cert.Proof.Ofw

open Cert.OfwIdeal Cert.OfwIdeal.Gen Idealize.ShloMosaic TcCoe Idealize.SL.Sem
open Cert.Proof.RealValues Cert.Proof.Products

/-- The gated merge of one entry, and a row divided by its root mean square and multiplied with a gain. -/
def merge (a ga gs pa pb : EReal) : EReal := Ideal.logistic ga * a + Ideal.logistic gs * (pa * Ideal.logistic pb)
def rms (h : Fin 1024 → EReal) (g : EReal) (j : Fin 1024) : EReal :=
  h j * Ideal.rsqrt (Ideal.div (∑ k, h k * h k) (Ideal.ofBits .f32 0x44800000#32) + Ideal.ofBits .f32 0x358637BD#32) * g

/-- The body's values at an index. -/
theorem merge_at (a ga gs pa pb : Vec Ideal S512x1024 .bf16) (r : Fin 512) (j : Fin 1024) :
    k0_pay3 a ga gs pa pb (ix2 r j) = merge (a (ix2 r j)) (ga (ix2 r j)) (gs (ix2 r j)) (pa (ix2 r j)) (pb (ix2 r j)) := by
  unfold k0_pay3 merge
  pointwise
  simp only [sig_eq]
theorem h_at (p : FVec Ideal S512x1024 .bf16) (w : Vec Ideal S1024x1024 .bf16) (x : Vec Ideal S512x1024 .f32) (r : Fin 512) (j : Fin 1024) :
    k0_pay1 p w x (ix2 r j) = x (ix2 r j) + nn p w r j := by
  unfold k0_pay1
  pointwise
  exact add_comm _ _
theorem rms_at (p : FVec Ideal S512x1024 .bf16) (w : Vec Ideal S1024x1024 .bf16) (x : Vec Ideal S512x1024 .f32) (g : Vec Ideal S1x1024 .f32)
    (r : Fin 512) (j : Fin 1024) :
    k0_pay2 p w x g (ix2 r j) = rms (fun k => x (ix2 r k) + nn p w r k) (g (ix2 0 j)) j := by
  have e : k0_pay1 p w x = arr fun r k => x (ix2 r k) + nn p w r k := eq_arr (h_at p w x)
  unfold k0_pay2 rms
  rw [e]
  pointwise
  rfl

section reference
open Cert.OfwRefIdeal.Read
variable (x0 : (⟨2, ![16384, 1024]⟩ : Shape).Idx → EReal) (x1 : (⟨2, ![16384, 7168]⟩ : Shape).Idx → EReal)
  (x2 x3 x4 : (⟨2, ![16384, 1024]⟩ : Shape).Idx → EReal) (x5 : (⟨2, ![1024, 1024]⟩ : Shape).Idx → EReal) (x6 : (⟨1, ![1024]⟩ : Shape).Idx → EReal)
  (R : Fin 16384) (j : Fin 1024)

/-- The three results at a token and a column: the merge, the residual stream, and its normalisation. -/
def colOf (b : Fin 7) (j : Fin 1024) : Fin 7168 := ⟨b.val * 1024 + j.val, by omega⟩
def mix : EReal := merge (x2 (ix2 R j)) (x1 (ix2 R (colOf 5 j))) (x1 (ix2 R (colOf 6 j))) (x3 (ix2 R j)) (x4 (ix2 R j))
def hid : EReal := x0 (ix2 R j) + nn (arr (mix x1 x2 x3 x4)) x5 R j
def nrm : EReal := rms (hid x0 x1 x2 x3 x4 x5 R) (x6 (ix1 j)) j

theorem ref_mix : val_main_v27 (F := Ideal) x1 x2 x3 x4 (ix2 R j) = mix x1 x2 x3 x4 R j := by
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst val_main_cst_0
    val_main_cst_1 val_main_cst_2 val_main_cst_3 val_main_cst_4
  pointwise
  rfl
theorem ref_hid : val_main_v29 (F := Ideal) x0 x1 x2 x3 x4 x5 (ix2 R j) = hid x0 x1 x2 x3 x4 x5 R j := by
  unfold val_main_v29 val_main_v28 hid
  rw [show val_main_v27 (F := Ideal) x1 x2 x3 x4 = arr (mix x1 x2 x3 x4) from eq_arr (ref_mix x1 x2 x3 x4)]
  pointwise
  rfl
theorem ref_nrm : val_main_v43 (F := Ideal) x0 x1 x2 x3 x4 x5 x6 (ix2 R j) = nrm x0 x1 x2 x3 x4 x5 x6 R j := by
  unfold val_main_v43 val_main_v42 val_main_v41 val_main_v40 val_main_v39 val_main_v38 val_main_v37 val_main_v36 val_main_v35 val_main_v34
    val_main_v33 val_main_v32 val_main_v31 val_main_v30 val_main_cst_5 val_main_cst_6 val_main_cst_7
  rw [show val_main_v29 (F := Ideal) x0 x1 x2 x3 x4 x5 = arr (hid x0 x1 x2 x3 x4 x5) from eq_arr (ref_hid x0 x1 x2 x3 x4 x5)]
  pointwise
  rfl
end reference

/-- The merge of the blocks read. -/
def mixb (x0 x4 x5 x6 x7 : Vec Ideal S512x1024 .bf16) (r : Fin 512) (j : Fin 1024) : EReal :=
  merge (x0 (ix2 r j)) (x4 (ix2 r j)) (x5 (ix2 r j)) (x6 (ix2 r j)) (x7 (ix2 r j))
section body
variable (x0 : Vec Ideal S512x1024 .bf16) (x1 : Vec Ideal S1024x1024 .bf16) (x2 : Vec Ideal S512x1024 .f32) (x3 : Vec Ideal S1x1024 .f32)
    (x4 x5 x6 x7 : Vec Ideal S512x1024 .bf16)
theorem pay_mix :
    k0_pay4 x0 x1 x2 x3 x4 x5 x6 x7 = arr (mixb x0 x4 x5 x6 x7) := by
  unfold k0_pay4
  simp only [View.ld_unit_zero (S := S512x1024) hz, ]
  exact eq_arr (merge_at x0 x4 x5 x6 x7)
theorem out_mix (r : Fin 512) (j : Fin 1024) : out0_10 x0 x1 x2 x3 x4 x5 x6 x7 (ix2 r j) = mixb x0 x4 x5 x6 x7 r j := by
  unfold out0_10
  rw [View.canon_unit_zero hz, pay_mix]
  rfl
theorem out_hid (r : Fin 512) (j : Fin 1024) : out0_8 x0 x1 x2 x3 x4 x5 x6 x7 (ix2 r j) = x2 (ix2 r j) + nn (arr (mixb x0 x4 x5 x6 x7)) x1 r j := by
  unfold out0_8
  rw [View.canon_unit_zero hz, pay_mix]
  simp only [View.ld_unit_zero (S := S512x1024) hz, View.ld_unit_zero (S := S1024x1024) hz, View.ld_unit_zero (S := S1x1024) hz]
  exact h_at _ _ _ r j
theorem out_nrm (r : Fin 512) (j : Fin 1024) :
    out0_9 x0 x1 x2 x3 x4 x5 x6 x7 (ix2 r j) = rms (fun k => x2 (ix2 r k) + nn (arr (mixb x0 x4 x5 x6 x7)) x1 r k) (x3 (ix2 0 j)) j := by
  unfold out0_9
  rw [View.canon_unit_zero hz, pay_mix]
  simp only [View.ld_unit_zero (S := S512x1024) hz, View.ld_unit_zero (S := S1024x1024) hz, View.ld_unit_zero (S := S1x1024) hz]
  exact rms_at _ _ _ _ r j
end body

variable (m : (ℓ : Loc nD τ sig) → Buf (Elt Ideal) ℓ) (c : Dev nD)

theorem lt_pt (t : Fin cfg0.N) : t.val < 32 := lt_of_lt_of_eq t.isLt N_0

theorem idx : ∀ t : Fin cfg0.N, win0_0.index t = ![t.val, 0] ∧ win0_1.index t = ![0, 0] ∧ win0_2.index t = ![t.val, 0]
    ∧ win0_3.index t = ![0, 0] ∧ win0_4.index t = ![t.val, 5] ∧ win0_5.index t = ![t.val, 6] ∧ win0_6.index t = ![t.val, 0]
    ∧ win0_7.index t = ![t.val, 0] ∧ win0_8.index t = ![t.val, 0] ∧ win0_9.index t = ![t.val, 0] ∧ win0_10.index t = ![t.val, 0] := by
  decide +kernel

/-- The weight and the gain as the windows find them. -/
theorem V_w : V m c main_v0 = (m ((c : Thread nD τ).loc main_arg5) : S1024x1024.Idx → EReal) := by
  unfold V hostOps0
  after_reads_simp
  rfl
theorem V_gain (j : Fin 1024) : V m c main_v1 (ix2 0 j) = m ((c : Thread nD τ).loc main_arg6) (ix1 j) := by
  have : V m c main_v1 = (shapeCast S1x1024 (m ((c : Thread nD τ).loc main_arg6) : FVec Ideal S1024 .f32) shapeCasts_S1024_S1x1024
      : FVec Ideal S1x1024 .f32) := by
    unfold V hostOps0
    after_reads_simp
    rfl
  rw [this]
  pointwise

/-- The array row of a point's row. -/
abbrev row (t : Fin cfg0.N) (r : Fin 512) : Fin 16384 := rowOf 512 32 rfl t.val (lt_pt t) r
theorem at_pt (t : Fin cfg0.N) (r : Fin 512) (j : Fin 1024) {ix : Fin 2 → ℕ} (hx : ix = ![t.val, 0]) {I : S16384x1024.Idx}
    (e0 : (I 0).val = ix 0 * 512 + 1 * r.val) (e1 : (I 1).val = ix 1 * 1024 + 1 * j.val) : I = ix2 (row t r) j :=
  at_rows (S := 16384) (N := 1024) (b := 512) (n := 32) (r := r) (j := j) rfl (lt_pt t) hx e0 e1
/-- The array index of one of seven blocks of columns. -/
theorem at_col (b : Fin 7) {t : Fin cfg0.N} {r : Fin 512} {j : Fin 1024} {ix : Fin 2 → ℕ} (hx : ix = ![t.val, b.val])
    {I : S16384x7168.Idx} (e0 : (I 0).val = ix 0 * 512 + 1 * r.val) (e1 : (I 1).val = ix 1 * 1024 + 1 * j.val) :
    I = ix2 (row t r) (colOf b j) := blk2 ix 512 1024 r.val j.val e0 e1 (by subst hx; rfl) (by subst hx; rfl)

/-- The windows' blocks at an index. -/
theorem blk_a (t : Fin cfg0.N) (r : Fin 512) (j : Fin 1024) :
    iblk m c 0 t (ix2 r j) = m ((c : Thread nD τ).loc main_arg2) (ix2 (row t r) j) :=
  (congrFun (V_main_arg2 m c) _).trans (congrArg _ (at_pt t r j (idx t).1 rfl rfl))
theorem blk_x (t : Fin cfg0.N) (r : Fin 512) (j : Fin 1024) :
    iblk m c 2 t (ix2 r j) = m ((c : Thread nD τ).loc main_arg0) (ix2 (row t r) j) :=
  (congrFun (V_main_arg0 m c) _).trans (congrArg _ (at_pt t r j (idx t).2.2.1 rfl rfl))
theorem blk_pa (t : Fin cfg0.N) (r : Fin 512) (j : Fin 1024) :
    iblk m c 6 t (ix2 r j) = m ((c : Thread nD τ).loc main_arg3) (ix2 (row t r) j) :=
  (congrFun (V_main_arg3 m c) _).trans (congrArg _ (at_pt t r j (idx t).2.2.2.2.2.2.1 rfl rfl))
theorem blk_pb (t : Fin cfg0.N) (r : Fin 512) (j : Fin 1024) :
    iblk m c 7 t (ix2 r j) = m ((c : Thread nD τ).loc main_arg4) (ix2 (row t r) j) :=
  (congrFun (V_main_arg4 m c) _).trans (congrArg _ (at_pt t r j (idx t).2.2.2.2.2.2.2.1 rfl rfl))
theorem blk_ga (t : Fin cfg0.N) (r : Fin 512) (j : Fin 1024) :
    iblk m c 4 t (ix2 r j) = m ((c : Thread nD τ).loc main_arg1) (ix2 (row t r) (colOf 5 j)) :=
  (congrFun (V_main_arg1 m c) _).trans (congrArg _ (at_col 5 (r := r) (j := j) (idx t).2.2.2.2.1 rfl rfl))
theorem blk_gs (t : Fin cfg0.N) (r : Fin 512) (j : Fin 1024) :
    iblk m c 5 t (ix2 r j) = m ((c : Thread nD τ).loc main_arg1) (ix2 (row t r) (colOf 6 j)) :=
  (congrFun (V_main_arg1 m c) _).trans (congrArg _ (at_col 6 (r := r) (j := j) (idx t).2.2.2.2.2.1 rfl rfl))
theorem blk_w (t : Fin cfg0.N) : iblk m c 1 t = (m ((c : Thread nD τ).loc main_arg5) : S1024x1024.Idx → EReal) := by
  refine funext fun (i : S1024x1024.Idx) => ?_
  obtain ⟨k, j, rfl⟩ : ∃ (k j : Fin 1024), i = ix2 k j := ⟨i 0, i 1, eq_ix2 i⟩
  exact (congrFun (V_w m c) _).trans (congrArg _ (at_whole (S := 1024) (N := 1024) (r := k) (j := j) (idx t).2.1 rfl rfl))
theorem blk_gain (t : Fin cfg0.N) (j : Fin 1024) : iblk m c 3 t (ix2 0 j) = m ((c : Thread nD τ).loc main_arg6) (ix1 j) :=
  (congrArg (V m c main_v1) (at_whole (S := 1) (N := 1024) (r := 0) (j := j) (idx t).2.2.2.1 rfl rfl)).trans (V_gain m c j)

/-- The three results of the buffers read. -/
def mixR : Fin 16384 → Fin 1024 → EReal := mix (m ((c : Thread nD τ).loc main_arg1)) (m ((c : Thread nD τ).loc main_arg2)) (m ((c : Thread nD τ).loc main_arg3)) (m ((c : Thread nD τ).loc main_arg4))
def hidR : Fin 16384 → Fin 1024 → EReal :=
  hid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def nrmR : Fin 16384 → Fin 1024 → EReal :=
  nrm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- A merge, a residual stream and a normalisation of equal parts are equal. -/
theorem merge_congr {a a' ga ga' gs gs' pa pa' pb pb' : EReal} (h0 : a = a') (h1 : ga = ga') (h2 : gs = gs') (h3 : pa = pa') (h4 : pb = pb') :
    merge a ga gs pa pb = merge a' ga' gs' pa' pb' := by rw [h0, h1, h2, h3, h4]
theorem mix_eq (t : Fin cfg0.N) (r : Fin 512) (j : Fin 1024) :
    mixb (iblk m c 0 t) (iblk m c 4 t) (iblk m c 5 t) (iblk m c 6 t) (iblk m c 7 t) r j = mixR m c (row t r) j :=
  merge_congr (blk_a m c t r j) (blk_ga m c t r j) (blk_gs m c t r j) (blk_pa m c t r j) (blk_pb m c t r j)
theorem hid_congr {x x' : EReal} {p : Fin 512 → Fin 1024 → EReal} {p' : Fin 16384 → Fin 1024 → EReal} {w w' : S1024x1024.Idx → EReal}
    {r : Fin 512} {R : Fin 16384} {j : Fin 1024} (hx : x = x') (hp : ∀ k, p r k = p' R k) (hw : w = w') :
    x + nn (arr p) w r j = x' + nn (arr p') w' R j := by
  subst hx hw
  exact congrArg (fun s : EReal => x + s) (Finset.sum_congr rfl fun k _ => congrArg (fun s : EReal => s * _) (hp k))
theorem hid_eq (t : Fin cfg0.N) (r : Fin 512) (j : Fin 1024) (x : Vec Ideal S512x1024 .f32) (hx : x = iblk m c 2 t)
    (w : Vec Ideal S1024x1024 .bf16) (hw : w = iblk m c 1 t) :
    (x (ix2 r j) + nn (arr (mixb (iblk m c 0 t) (iblk m c 4 t) (iblk m c 5 t) (iblk m c 6 t) (iblk m c 7 t))) w r j : EReal)
      = hidR m c (row t r) j := by
  subst hx
  exact hid_congr (blk_x m c t r j) (mix_eq m c t r) (hw.trans (blk_w m c t))
theorem rms_congr {h h' : Fin 1024 → EReal} {g g' : EReal} (j : Fin 1024) (hh : h = h') (hg : g = g') : rms h g j = rms h' g' j := by
  rw [hh, hg]

/-- The point whose block holds row `i 0`. -/
def pt (i : S16384x1024.Idx) : Fin cfg0.N :=
  ⟨(i 0 : Nat) / 512, by have h0 : (i 0 : Nat) < 16384 := (i 0).isLt; rw [show cfg0.N = 32 from N_0]; omega⟩

/-- The three result arrays after the run. -/
theorem final_hid : (dats m 0 c).arrAt 8 cfg0.N = arr (hidR m c) := by
  refine (dats m 0 c).arrAt_eq_of_cover 8 _ (fun t _ => ?_) (fun i => ⟨pt i, flush0_8 _, ?_⟩)
  · rw [Cert.OfwIdeal.Value.flushed8]
    refine funext fun (jj : S512x1024.Idx) => ?_
    obtain ⟨r, j, rfl⟩ := ex2 jj
    refine Eq.trans ?_ (arr_at (hidR m c) (at_pt t r j (idx t).2.2.2.2.2.2.2.2.1 rfl rfl))
    exact (out_hid (iblk m c 0 t) (iblk m c 1 t) (iblk m c 2 t) (iblk m c 3 t) (iblk m c 4 t) (iblk m c 5 t) (iblk m c 6 t) (iblk m c 7 t) r j).trans
      (hid_eq m c t r j _ rfl _ rfl)
  · refine in_block ?_
    exact rows_cover i (by norm_num) (idx (pt i)).2.2.2.2.2.2.2.2.1
theorem final_nrm : (dats m 0 c).arrAt 9 cfg0.N = arr (nrmR m c) := by
  refine (dats m 0 c).arrAt_eq_of_cover 9 _ (fun t _ => ?_) (fun i => ⟨pt i, flush0_9 _, ?_⟩)
  · rw [Cert.OfwIdeal.Value.flushed9]
    refine funext fun (jj : S512x1024.Idx) => ?_
    obtain ⟨r, j, rfl⟩ := ex2 jj
    refine Eq.trans ?_ (arr_at (nrmR m c) (at_pt t r j (idx t).2.2.2.2.2.2.2.2.2.1 rfl rfl))
    exact (out_nrm (iblk m c 0 t) (iblk m c 1 t) (iblk m c 2 t) (iblk m c 3 t) (iblk m c 4 t) (iblk m c 5 t) (iblk m c 6 t) (iblk m c 7 t) r j).trans
      (rms_congr j (funext fun k => hid_eq m c t r k _ rfl _ rfl) (blk_gain m c t j))
  · refine in_block ?_
    exact rows_cover i (by norm_num) (idx (pt i)).2.2.2.2.2.2.2.2.2.1
theorem final_mix : (dats m 0 c).arrAt 10 cfg0.N = arr (mixR m c) := by
  refine (dats m 0 c).arrAt_eq_of_cover 10 _ (fun t _ => ?_) (fun i => ⟨pt i, flush0_10 _, ?_⟩)
  · rw [Cert.OfwIdeal.Value.flushed10]
    refine funext fun (jj : S512x1024.Idx) => ?_
    obtain ⟨r, j, rfl⟩ := ex2 jj
    refine Eq.trans ?_ (arr_at (mixR m c) (at_pt t r j (idx t).2.2.2.2.2.2.2.2.2.2 rfl rfl))
    exact (out_mix (iblk m c 0 t) (iblk m c 1 t) (iblk m c 2 t) (iblk m c 3 t) (iblk m c 4 t) (iblk m c 5 t) (iblk m c 6 t) (iblk m c 7 t) r j).trans
      (mix_eq m c t r j)
  · refine in_block ?_
    exact rows_cover i (by norm_num) (idx (pt i)).2.2.2.2.2.2.2.2.2.2

/-- Kernel and reference compute the same three functions of any arguments over the extended reals. -/
theorem algebraic : Cert.algebraic_OfwIdeal_OfwRefIdeal := by
  intro m g m' g' hpre hargs
  refine ⟨fun c => arr (hidR m c), fun c => arr (nrmR m c), fun c => arr (mixR m c),
    (θ_run Cert.OfwIdeal.defs _ _).mono (fun r h c => ⟨(h c).1.trans (final_hid m c), (h c).2.1.trans (final_nrm m c),
      (h c).2.2.1.trans (final_mix m c), (h c).2.2.2⟩) (Cert.OfwIdeal.Value.run_blocks m g),
    (θ_run Cert.OfwRefIdeal.defs _ _).mono (fun r h c => ?_) (Cert.OfwRefIdeal.Value.run m' g')⟩
  obtain ⟨h0, h1, h2, hr⟩ := h c
  obtain ⟨k0, k1, k2, k3, k4, k5, k6⟩ := hargs c
  rw [Cert.OfwRefIdeal.Read.val_main_v43_eq, k0, k1, k2, k3, k4, k5, k6] at h1
  rw [k0, k1, k2, k3, k4, k5] at h0
  rw [k1, k2, k3, k4] at h2
  exact ⟨h0.trans (eq_arr (ref_hid _ _ _ _ _ _)), h1.trans (eq_arr (ref_nrm _ _ _ _ _ _ _)), h2.trans (eq_arr (ref_mix _ _ _ _)), hr⟩

theorem frame_ref : Cert.quiescent_OfwRefIdeal := fun m g _ =>
  (θ_run Cert.OfwRefIdeal.defs _ _).mono (fun r h => ⟨fun c => (h c).2.2.2, Idealize.ShloMosaic.sem_eq_zero_of_no_sems (by decide) r.2⟩)
    (Cert.OfwRefIdeal.Value.run m g)
theorem frame_kernel : Cert.quiescent_Ofw := fun m g _ => Cert.Ofw.Gen.frame m g
theorem frame_ideal : Cert.quiescent_OfwIdeal := fun m g _ => Cert.OfwIdeal.Gen.frame m g

end Cert.Proof.Ofw
end
-- ==== Proof.TokenSums.lean ====
/- Products that sum over the tokens, block of tokens by block, over the extended reals. -/
module

public import proofs.«01_k».proof.Proof.Products

@[expose] public section

noncomputable section

namespace Cert.Proof.Products

open Idealize.ShloMosaic
open Cert.Proof.RealValues

/-- A column of one array times a column of another. -/
def tn {S K N : ℕ} (x : (⟨2, ![S, K]⟩ : Shape).Idx → EReal) (y : (⟨2, ![S, N]⟩ : Shape).Idx → EReal) (a : Fin K) (j : Fin N) : EReal :=
  ∑ R : Fin S, x (ix2 R a) * y (ix2 R j)

/-- A sum over all rows, block by block. -/
theorem sum_rows {S b n : ℕ} (h : S = n * b) (f : Fin S → EReal) : ∑ R, f R = ∑ t : Fin n, ∑ r, f (rowOf b n h t.val t.isLt r) := by
  subst h
  rw [← Fintype.sum_prod_type']
  refine (Fintype.sum_equiv (finProdFinEquiv (m := n) (n := b)) (fun p => f (rowOf b n rfl p.1.val p.1.isLt p.2)) f
    fun p => congrArg f (Fin.ext ?_)).symm
  show p.1.val * b + p.2.val = p.2.val + b * p.1.val
  ring

/-- What starts with the first block's sum and takes up one block's sum at each step ends as the sum over all rows. -/
theorem acc_rows {S b n : ℕ} (h : S = (n + 1) * b) (f : Fin S → EReal) (s : (t : ℕ) → t < n + 1 → EReal)
    (first : s 0 (Nat.succ_pos n) = ∑ r, f (rowOf b (n + 1) h 0 (Nat.succ_pos n) r))
    (next : ∀ t ht, s (t + 1) ht = s t (Nat.lt_of_succ_lt ht) + ∑ r, f (rowOf b (n + 1) h (t + 1) ht r)) :
    s n (Nat.lt_succ_self n) = ∑ R, f R := by
  have all : ∀ t (ht : t < n + 1), s t ht
      = ∑ u : Fin (t + 1), ∑ r, f (rowOf b (n + 1) h u.val (lt_of_lt_of_le u.isLt ht) r) := by
    intro t
    induction t with
    | zero => intro _; rw [first, Fin.sum_univ_one]; rfl
    | succ t ih => intro ht; rw [next, ih, Fin.sum_univ_castSucc (n := t + 1)]; rfl
  rw [all, sum_rows h]

/-- Block by block, the product that sums over the tokens. -/
theorem acc_tn {S K N b n : ℕ} (h : S = (n + 1) * b) (x : (⟨2, ![S, K]⟩ : Shape).Idx → EReal) (y : (⟨2, ![S, N]⟩ : Shape).Idx → EReal)
    (a : Fin K) (j : Fin N) (s : (t : ℕ) → t < n + 1 → EReal)
    (p : (t : ℕ) → t < n + 1 → EReal) (hp : ∀ t ht, p t ht = ∑ r, x (ix2 (rowOf b (n + 1) h t ht r) a) * y (ix2 (rowOf b (n + 1) h t ht r) j))
    (first : s 0 (Nat.succ_pos n) = p 0 (Nat.succ_pos n))
    (next : ∀ t ht, s (t + 1) ht = s t (Nat.lt_of_succ_lt ht) + p (t + 1) ht) : s n (Nat.lt_succ_self n) = tn x y a j :=
  acc_rows h (fun R => x (ix2 R a) * y (ix2 R j)) s (first.trans (hp _ _)) fun t ht => (next t ht).trans (congrArg _ (hp _ _))

/-- An array of four blocks of columns, the block in front. -/
def arr4 {K w : ℕ} (f : Fin 4 → Fin K → Fin w → EReal) : (⟨3, ![4, K, w]⟩ : Shape).Idx → EReal := fun i => f (i 0) (i 1) (i 2)
theorem eq_arr4 {K w : ℕ} {v : (⟨3, ![4, K, w]⟩ : Shape).Idx → EReal} {f : Fin 4 → Fin K → Fin w → EReal}
    (h : ∀ q a k, v (ix3 q a k) = f q a k) : v = arr4 f := funext fun i => by rw [eq_ix3 i]; exact h _ _ _
theorem arr4_at {K w : ℕ} (f : Fin 4 → Fin K → Fin w → EReal) {q : Fin 4} {a : Fin K} {k : Fin w} {I : (⟨3, ![4, K, w]⟩ : Shape).Idx}
    (e : I = ix3 q a k) : f q a k = arr4 f I := by subst e; rfl

/-- The array index of a block that is the whole array, and the block holds every index. -/
theorem at_whole3 {K w : ℕ} {q : Fin 4} {a : Fin K} {k : Fin w} {ix : Fin 3 → ℕ} (hx : ix = ![0, 0, 0])
    {I : (⟨3, ![4, K, w]⟩ : Shape).Idx} (e0 : (I 0).val = ix 0 * 4 + 1 * q.val) (e1 : (I 1).val = ix 1 * K + 1 * a.val)
    (e2 : (I 2).val = ix 2 * w + 1 * k.val) : I = ix3 q a k :=
  blk3 ix 4 K w q.val a.val k.val e0 e1 e2 (by subst hx; simp) (by subst hx; simp) (by subst hx; simp)
theorem whole_cover3 {A K w : ℕ} (i : (⟨3, ![A, K, w]⟩ : Shape).Idx) {ix : Fin 3 → ℕ} (e : ix = ![0, 0, 0]) :
    ∀ d : Fin 3, ix d * ![A, K, w] d ≤ (i d : ℕ) ∧ (i d : ℕ) < ix d * ![A, K, w] d + ![A, K, w] d := by
  have h0 : (i 0 : ℕ) < A := (i 0).isLt
  have h1 : (i 1 : ℕ) < K := (i 1).isLt
  have h2 : (i 2 : ℕ) < w := (i 2).isLt
  subst e
  intro d
  match d with
  | ⟨0, _⟩ => show 0 * A ≤ (i 0 : ℕ) ∧ (i 0 : ℕ) < 0 * A + A; omega
  | ⟨1, _⟩ => show 0 * K ≤ (i 1 : ℕ) ∧ (i 1 : ℕ) < 0 * K + K; omega
  | ⟨2, _⟩ => show 0 * w ≤ (i 2 : ℕ) ∧ (i 2 : ℕ) < 0 * w + w; omega

/-- The blocks in front hold every index. -/
theorem front_cover {A K w : ℕ} (i : (⟨3, ![A, K, w]⟩ : Shape).Idx) {ix : Fin 3 → ℕ} (e : ix = ![(i 0 : ℕ), 0, 0]) :
    ∀ d : Fin 3, ix d * ![1, K, w] d ≤ (i d : ℕ) ∧ (i d : ℕ) < ix d * ![1, K, w] d + ![1, K, w] d := by
  have h1 : (i 1 : ℕ) < K := (i 1).isLt
  have h2 : (i 2 : ℕ) < w := (i 2).isLt
  subst e
  intro d
  match d with
  | ⟨0, _⟩ => show (i 0 : ℕ) * 1 ≤ (i 0 : ℕ) ∧ (i 0 : ℕ) < (i 0 : ℕ) * 1 + 1; omega
  | ⟨1, _⟩ => show 0 * K ≤ (i 1 : ℕ) ∧ (i 1 : ℕ) < 0 * K + K; omega
  | ⟨2, _⟩ => show 0 * w ≤ (i 2 : ℕ) ∧ (i 2 : ℕ) < 0 * w + w; omega

/-- The product's columns in four blocks. -/
def tn4 {S K W : ℕ} (w : ℕ) (hW : W = 4 * w) (x : (⟨2, ![S, K]⟩ : Shape).Idx → EReal) (y : (⟨2, ![S, W]⟩ : Shape).Idx → EReal)
    (q : Fin 4) (a : Fin K) (k : Fin w) : EReal := tn x y a (chipOf w hW q k)

/-- The factors' order does not matter. -/
theorem tn_comm {S K N : ℕ} (x : (⟨2, ![S, K]⟩ : Shape).Idx → EReal) (y : (⟨2, ![S, N]⟩ : Shape).Idx → EReal) (a : Fin K) (j : Fin N) :
    tn x y a j = tn y x j a := Finset.sum_congr rfl fun _ _ => mul_comm _ _

end Cert.Proof.Products
end
-- ==== Proof.FguClaims.lean ====
/- `ffn_gate_up`: two products with weights that lie in four blocks of columns, SwiGLU of them, and the claims of the pair Fgu. -/
module

public import proofs.«01_k».proof.Defs
public import proofs.«01_k».proof.Proof.Products
public import proofs.«01_k».proof.Proof.FfdKernel
public import proofs.«01_k».proof.Proof.TokenSums
public import proofs.«01_k».proof.Proof.Gen.Fgu.Frame
public import proofs.«01_k».proof.Proof.Gen.FguIdeal.Value
public import proofs.«01_k».proof.Proof.Gen.FguRefIdeal.Read

@[expose] public section

set_option maxRecDepth 16384

noncomputable section

namespace Cert.Proof.Fgu

open Cert.FguIdeal Cert.FguIdeal.Gen Idealize.ShloMosaic TcCoe Idealize.SL.Sem
open Cert.Proof.RealValues Cert.Proof.Products

/-- The body's results at an index: the two products and SwiGLU of them. -/
theorem out_gate (x : Vec Ideal S512x1024 .bf16) (g u : Fin 4 → Vec Ideal S1x1024x704 .bf16) (q : Fin 4) (r : Fin 512) (k : Fin 704) :
    out0_9 x (g 0) (u 0) (g 1) (u 1) (g 2) (u 2) (g 3) (u 3) (ix3 q r k) = ∑ a, x (ix2 r a) * g q (ix3 0 a k) := by
  unfold out0_9
  rw [View.canon_unit_zero hz3]
  unfold k0_pay19 k0_pay21 k0_pay23 k0_pay25
  unfold_payloads
  simp only [View.ld_unit_zero (S := S512x1024) hz, View.ld_unit_zero (S := S1x1024x704) hz3]
  match q with
  | 0 | 1 | 2 | 3 => pointwise; try rfl
theorem out_up (x : Vec Ideal S512x1024 .bf16) (g u : Fin 4 → Vec Ideal S1x1024x704 .bf16) (q : Fin 4) (r : Fin 512) (k : Fin 704) :
    out0_10 x (g 0) (u 0) (g 1) (u 1) (g 2) (u 2) (g 3) (u 3) (ix3 q r k) = ∑ a, x (ix2 r a) * u q (ix3 0 a k) := by
  unfold out0_10
  rw [View.canon_unit_zero hz3]
  unfold k0_pay20 k0_pay22 k0_pay24 k0_pay26
  unfold_payloads
  simp only [View.ld_unit_zero (S := S512x1024) hz, View.ld_unit_zero (S := S1x1024x704) hz3]
  match q with
  | 0 | 1 | 2 | 3 => pointwise; try rfl
theorem out_act (x : Vec Ideal S512x1024 .bf16) (g u : Fin 4 → Vec Ideal S1x1024x704 .bf16) (q : Fin 4) (r : Fin 512) (k : Fin 704) :
    out0_11 x (g 0) (u 0) (g 1) (u 1) (g 2) (u 2) (g 3) (u 3) (ix3 q r k) = (∑ a, x (ix2 r a) * g q (ix3 0 a k)) * Ideal.logistic (∑ a, x (ix2 r a) * g q (ix3 0 a k)) * (∑ a, x (ix2 r a) * u q (ix3 0 a k)) := by
  unfold out0_11
  rw [View.canon_unit_zero hz3]
  unfold k0_pay19 k0_pay20 k0_pay21 k0_pay22 k0_pay23 k0_pay24 k0_pay25 k0_pay26
  unfold_payloads
  simp only [View.ld_unit_zero (S := S512x1024) hz, View.ld_unit_zero (S := S1x1024x704) hz3]
  match q with
  | 0 | 1 | 2 | 3 => pointwise; simp only [sig_eq]; try rfl

variable (m : (ℓ : Loc nD τ sig) → Buf (Elt Ideal) ℓ) (c : Dev nD)

theorem lt_pt (t : Fin cfg0.N) : t.val < 32 := lt_of_lt_of_eq t.isLt N_0

theorem idx : ∀ t : Fin cfg0.N, win0_0.index t = ![t.val, 0]
    ∧ win0_1.index t = ![0, 0, 0] ∧ win0_2.index t = ![0, 0, 0]
    ∧ win0_3.index t = ![1, 0, 0] ∧ win0_4.index t = ![1, 0, 0]
    ∧ win0_5.index t = ![2, 0, 0] ∧ win0_6.index t = ![2, 0, 0]
    ∧ win0_7.index t = ![3, 0, 0] ∧ win0_8.index t = ![3, 0, 0]
    ∧ win0_9.index t = ![0, t.val, 0] ∧ win0_10.index t = ![0, t.val, 0] ∧ win0_11.index t = ![0, t.val, 0] := by decide +kernel

/-- A weight cut in four blocks of columns. -/
theorem cut (w : FVec Ideal S1024x2816 .f32) (q : Fin 4) (a : Fin 1024) (k : Fin 704) :
    (truncf (F := Ideal) .bf16 (transpose S4x1024x704 [1, 0, 2] (shapeCast S1024x4x704 w shapeCasts_S1024x2816_S1024x4x704)
      transposes_S1024x4x704_S4x1024x704_1_0_2) bitsLt_bf16_f32 : FVec Ideal S4x1024x704 .bf16) (ix3 q a k) = w (ix2 a (chipOf 704 rfl q k)) :=
  cols_split rfl _ _ _ q a k

/-- The weights as the windows find them. -/
theorem V_g (q : Fin 4) (a : Fin 1024) (k : Fin 704) :
    V m c main_v2 (ix3 q a k) = m ((c : Thread nD τ).loc main_arg1) (ix2 a (chipOf 704 rfl q k)) := by
  refine Eq.trans ?_ (cut _ q a k)
  unfold V hostOps0
  after_reads_simp
  rfl
theorem V_u (q : Fin 4) (a : Fin 1024) (k : Fin 704) :
    V m c main_v5 (ix3 q a k) = m ((c : Thread nD τ).loc main_arg2) (ix2 a (chipOf 704 rfl q k)) := by
  refine Eq.trans ?_ (cut _ q a k)
  unfold V hostOps0
  after_reads_simp
  rfl

/-- The product's and SwiGLU's value at a block, a token and a column. -/
def prod (x : S16384x1024.Idx → EReal) (w : S1024x2816.Idx → EReal) (q : Fin 4) (R : Fin 16384) (k : Fin 704) : EReal :=
  nn x w R (chipOf 704 rfl q k)
def act (x0 : S16384x1024.Idx → EReal) (x1 x2 : S1024x2816.Idx → EReal) (q : Fin 4) (R : Fin 16384) (k : Fin 704) : EReal :=
  prod x0 x1 q R k * Ideal.logistic (prod x0 x1 q R k) * prod x0 x2 q R k

/-- The results of the buffers read. -/
def gateR : Fin 4 → Fin 16384 → Fin 704 → EReal := prod (m ((c : Thread nD τ).loc main_arg0)) (m ((c : Thread nD τ).loc main_arg1))
def upR : Fin 4 → Fin 16384 → Fin 704 → EReal := prod (m ((c : Thread nD τ).loc main_arg0)) (m ((c : Thread nD τ).loc main_arg2))
def actR : Fin 4 → Fin 16384 → Fin 704 → EReal :=
  act (m ((c : Thread nD τ).loc main_arg0)) (m ((c : Thread nD τ).loc main_arg1)) (m ((c : Thread nD τ).loc main_arg2))

/-- The two weights' four windows. -/
def gblk (t : Fin cfg0.N) : Fin 4 → Vec Ideal S1x1024x704 .bf16 := fun q => match q with
  | 0 => iblk m c 1 t | 1 => iblk m c 3 t | 2 => iblk m c 5 t | 3 => iblk m c 7 t
def ublk (t : Fin cfg0.N) : Fin 4 → Vec Ideal S1x1024x704 .bf16 := fun q => match q with
  | 0 => iblk m c 2 t | 1 => iblk m c 4 t | 2 => iblk m c 6 t | 3 => iblk m c 8 t

/-- The windows' blocks at an index. -/
theorem blk_x (t : Fin cfg0.N) (r : Fin 512) (a : Fin 1024) :
    iblk m c 0 t (ix2 r a) = m ((c : Thread nD τ).loc main_arg0) (ix2 (rowOf 512 32 rfl t.val (lt_pt t) r) a) :=
  (congrFun (V_main_arg0 m c) _).trans (congrArg _ (at_rows (S := 16384) (N := 1024) (b := 512) (n := 32) (r := r) (j := a) rfl (lt_pt t) (idx t).1 rfl rfl))
theorem blk_g (t : Fin cfg0.N) (q : Fin 4) (a : Fin 1024) (k : Fin 704) :
    gblk m c t q (ix3 0 a k) = m ((c : Thread nD τ).loc main_arg1) (ix2 a (chipOf 704 rfl q k)) := by
  obtain ⟨-, a0, b0, a1, b1, a2, b2, a3, b3, -⟩ := idx t
  match q with
  | 0 => exact (congrArg (V m c main_v2) (at_chip 0 a0 rfl rfl rfl)).trans (V_g m c 0 a k)
  | 1 => exact (congrArg (V m c main_v2) (at_chip 1 a1 rfl rfl rfl)).trans (V_g m c 1 a k)
  | 2 => exact (congrArg (V m c main_v2) (at_chip 2 a2 rfl rfl rfl)).trans (V_g m c 2 a k)
  | 3 => exact (congrArg (V m c main_v2) (at_chip 3 a3 rfl rfl rfl)).trans (V_g m c 3 a k)
theorem blk_u (t : Fin cfg0.N) (q : Fin 4) (a : Fin 1024) (k : Fin 704) :
    ublk m c t q (ix3 0 a k) = m ((c : Thread nD τ).loc main_arg2) (ix2 a (chipOf 704 rfl q k)) := by
  obtain ⟨-, a0, b0, a1, b1, a2, b2, a3, b3, -⟩ := idx t
  match q with
  | 0 => exact (congrArg (V m c main_v5) (at_chip 0 b0 rfl rfl rfl)).trans (V_u m c 0 a k)
  | 1 => exact (congrArg (V m c main_v5) (at_chip 1 b1 rfl rfl rfl)).trans (V_u m c 1 a k)
  | 2 => exact (congrArg (V m c main_v5) (at_chip 2 b2 rfl rfl rfl)).trans (V_u m c 2 a k)
  | 3 => exact (congrArg (V m c main_v5) (at_chip 3 b3 rfl rfl rfl)).trans (V_u m c 3 a k)

/-- The two products of a block. -/
theorem dot_g (t : Fin cfg0.N) (q : Fin 4) (r : Fin 512) (k : Fin 704) (x : Vec Ideal S512x1024 .bf16) (hx : x = iblk m c 0 t) :
    (∑ a, x (ix2 r a) * gblk m c t q (ix3 0 a k) : EReal) = gateR m c q (rowOf 512 32 rfl t.val (lt_pt t) r) k := by
  subst hx
  exact Finset.sum_congr rfl fun a _ => congrArg₂ (fun a b : EReal => a * b) (blk_x m c t r a) (blk_g m c t q a k)
theorem dot_u (t : Fin cfg0.N) (q : Fin 4) (r : Fin 512) (k : Fin 704) (x : Vec Ideal S512x1024 .bf16) (hx : x = iblk m c 0 t) :
    (∑ a, x (ix2 r a) * ublk m c t q (ix3 0 a k) : EReal) = upR m c q (rowOf 512 32 rfl t.val (lt_pt t) r) k := by
  subst hx
  exact Finset.sum_congr rfl fun a _ => congrArg₂ (fun a b : EReal => a * b) (blk_x m c t r a) (blk_u m c t q a k)

/-- The array index of a block of 512 tokens, all four blocks of columns. -/
theorem at_tok {t : Fin cfg0.N} {q : Fin 4} {r : Fin 512} {k : Fin 704} {ix : Fin 3 → ℕ} (h : ix = ![0, t.val, 0])
    {I : S4x16384x704.Idx} (e0 : (I 0).val = ix 0 * 4 + 1 * q.val) (e1 : (I 1).val = ix 1 * 512 + 1 * r.val)
    (e2 : (I 2).val = ix 2 * 704 + 1 * k.val) : I = ix3 q (rowOf 512 32 rfl t.val (lt_pt t) r) k :=
  blk3 ix 4 512 704 q.val r.val k.val e0 e1 e2 (by subst h; simp) (by subst h; rfl) (by subst h; simp)

/-- The point whose blocks hold row `i 1`. -/
def pt (i : S4x16384x704.Idx) : Fin cfg0.N :=
  ⟨(i 1 : Nat) / 512, by have h0 : (i 1 : Nat) < 16384 := (i 1).isLt; rw [show cfg0.N = 32 from N_0]; omega⟩

/-- The three result arrays after the run. -/
theorem final_gate : (dats m 0 c).arrAt 9 cfg0.N = arr4 (gateR m c) := by
  refine (dats m 0 c).arrAt_eq_of_cover 9 _ (fun t _ => ?_) (fun i => ⟨pt i, flush0_9 _, ?_⟩)
  · rw [Cert.FguIdeal.Value.flushed9]
    refine funext fun (jj : S4x512x704.Idx) => ?_
    obtain ⟨q, r, k, rfl⟩ := ex3 jj
    refine Eq.trans ?_ (arr4_at (gateR m c) (at_tok (q := q) (r := r) (k := k) (idx t).2.2.2.2.2.2.2.2.2.1 rfl rfl rfl))
    exact (out_gate (iblk m c 0 t) (gblk m c t) (ublk m c t) q r k).trans (dot_g m c t q r k _ rfl)
  · refine in_block ?_
    exact Cert.Proof.Ffd.covers i (idx (pt i)).2.2.2.2.2.2.2.2.2.1
theorem final_up : (dats m 0 c).arrAt 10 cfg0.N = arr4 (upR m c) := by
  refine (dats m 0 c).arrAt_eq_of_cover 10 _ (fun t _ => ?_) (fun i => ⟨pt i, flush0_10 _, ?_⟩)
  · rw [Cert.FguIdeal.Value.flushed10]
    refine funext fun (jj : S4x512x704.Idx) => ?_
    obtain ⟨q, r, k, rfl⟩ := ex3 jj
    refine Eq.trans ?_ (arr4_at (upR m c) (at_tok (q := q) (r := r) (k := k) (idx t).2.2.2.2.2.2.2.2.2.2.1 rfl rfl rfl))
    exact (out_up (iblk m c 0 t) (gblk m c t) (ublk m c t) q r k).trans (dot_u m c t q r k _ rfl)
  · refine in_block ?_
    exact Cert.Proof.Ffd.covers i (idx (pt i)).2.2.2.2.2.2.2.2.2.2.1
theorem final_act : (dats m 0 c).arrAt 11 cfg0.N = arr4 (actR m c) := by
  refine (dats m 0 c).arrAt_eq_of_cover 11 _ (fun t _ => ?_) (fun i => ⟨pt i, flush0_11 _, ?_⟩)
  · rw [Cert.FguIdeal.Value.flushed11]
    refine funext fun (jj : S4x512x704.Idx) => ?_
    obtain ⟨q, r, k, rfl⟩ := ex3 jj
    refine Eq.trans ?_ (arr4_at (actR m c) (at_tok (q := q) (r := r) (k := k) (idx t).2.2.2.2.2.2.2.2.2.2.2 rfl rfl rfl))
    exact (out_act (iblk m c 0 t) (gblk m c t) (ublk m c t) q r k).trans (congrArg₂ (fun a b : EReal => a * Ideal.logistic a * b) (dot_g m c t q r k _ rfl) (dot_u m c t q r k _ rfl))
  · refine in_block ?_
    exact Cert.Proof.Ffd.covers i (idx (pt i)).2.2.2.2.2.2.2.2.2.2.2

section reference
open Cert.FguRefIdeal.Read
variable (x0 : (⟨2, ![16384, 1024]⟩ : Shape).Idx → EReal) (x1 x2 : (⟨2, ![1024, 2816]⟩ : Shape).Idx → EReal) (q : Fin 4) (R : Fin 16384) (k : Fin 704)

/-- The reference's products and SwiGLU at a token and a column of the whole width. -/
theorem ref_dot (w : (⟨2, ![1024, 2816]⟩ : Shape).Idx → EReal) (K : Fin 2816) : val_main_v1 (F := Ideal) x0 w (ix2 R K) = nn x0 w R K := by
  unfold val_main_v1 val_main_v0
  pointwise
  rfl
theorem ref_act (K : Fin 2816) : val_main_v10 (F := Ideal) x0 x1 x2 (ix2 R K)
    = nn x0 x1 R K * Ideal.logistic (nn x0 x1 R K) * nn x0 x2 R K := by
  rw [← ref_dot x0 R x1, ← ref_dot x0 R x2]
  unfold val_main_v10 val_main_v9 val_main_call0_v5 val_main_call0_v4 val_main_call0_v3 val_main_call0_v2 val_main_call0_v1
    val_main_call0_v0 val_main_call0_cst val_main_call0_cst_0
  generalize val_main_v1 (F := Ideal) x0 x1 = y
  pointwise
  rfl

/-- The reference's three results. -/
theorem ref_gate : val_main_v5 (F := Ideal) x0 x1 = arr4 (prod x0 x1) :=
  eq_arr4 fun q R k => (cols_split rfl _ _ _ q R k).trans (ref_dot x0 R x1 _)
theorem ref_up : val_main_v8 (F := Ideal) x0 x2 = arr4 (prod x0 x2) :=
  eq_arr4 fun q R k => (cols_split rfl _ _ _ q R k).trans (ref_dot x0 R x2 _)
theorem ref_swiglu : val_main_v13 (F := Ideal) x0 x1 x2 = arr4 (act x0 x1 x2) :=
  eq_arr4 fun q R k => (cols_split rfl _ _ _ q R k).trans (ref_act x0 x1 x2 R _)
end reference

/-- Kernel and reference compute the same three functions of any arguments over the extended reals. -/
theorem algebraic : Cert.algebraic_FguIdeal_FguRefIdeal := by
  intro m g m' g' hpre hargs
  refine ⟨fun c => arr4 (gateR m c), fun c => arr4 (upR m c), fun c => arr4 (actR m c),
    (θ_run Cert.FguIdeal.defs _ _).mono (fun r h c => ⟨(h c).1.trans (final_gate m c), (h c).2.1.trans (final_up m c),
      (h c).2.2.1.trans (final_act m c), (h c).2.2.2⟩) (Cert.FguIdeal.Value.run_blocks m g),
    (θ_run Cert.FguRefIdeal.defs _ _).mono (fun r h c => ?_) (Cert.FguRefIdeal.Value.run m' g')⟩
  obtain ⟨h0, h1, h2, hr⟩ := h c
  obtain ⟨k0, k1, k2⟩ := hargs c
  rw [k0, k1] at h0
  rw [k0, k2] at h1
  rw [k0, k1, k2] at h2
  exact ⟨h0.trans (ref_gate _ _), h1.trans (ref_up _ _), h2.trans (ref_swiglu _ _ _), hr⟩

theorem frame_ref : Cert.quiescent_FguRefIdeal := fun m g _ =>
  (θ_run Cert.FguRefIdeal.defs _ _).mono (fun r h => ⟨fun c => (h c).2.2.2, Idealize.ShloMosaic.sem_eq_zero_of_no_sems (by decide) r.2⟩)
    (Cert.FguRefIdeal.Value.run m g)
theorem frame_kernel : Cert.quiescent_Fgu := fun m g _ => Cert.Fgu.Gen.frame m g
theorem frame_ideal : Cert.quiescent_FguIdeal := fun m g _ => Cert.FguIdeal.Gen.frame m g

end Cert.Proof.Fgu
end
-- ==== Proof.FdnClaims.lean ====
/- `ffn_down`: a residual and a product whose summed index is cut in four blocks, and the claims of the pair Fdn. -/
module

public import proofs.«01_k».proof.Defs
public import proofs.«01_k».proof.Proof.Products
public import proofs.«01_k».proof.Proof.Gen.Fdn.Frame
public import proofs.«01_k».proof.Proof.Gen.FdnIdeal.Value
public import proofs.«01_k».proof.Proof.Gen.FdnRefIdeal.Read
public import Idealize.ShloMosaic.Lib.StableHlo.RunRead

@[expose] public section

set_option maxRecDepth 16384

noncomputable section

namespace Cert.Proof.Fdn

open Cert.FdnIdeal Cert.FdnIdeal.Gen Idealize.ShloMosaic TcCoe Idealize.SL.Sem
open Cert.Proof.RealValues Cert.Proof.Products

/-- The body's result at an index: the residual and a product per block. -/
theorem out_at (x : Fin 4 → Vec Ideal S1x1024x704 .bf16) (w : Fin 4 → Vec Ideal S1x704x1024 .bf16) (d : Vec Ideal S1024x1024 .f32) (r j : Fin 1024) :
    out0_9 (x 0) (w 0) (x 1) (w 1) (x 2) (w 2) (x 3) (w 3) d (ix2 r j)
      = d (ix2 r j) + ∑ q, ∑ k, x q (ix3 0 r k) * w q (ix3 0 k j) := by
  unfold out0_9
  rw [View.canon_unit_zero hz]
  unfold_payloads
  simp only [View.ld_unit_zero (S := S1x1024x704) hz3, View.ld_unit_zero (S := S1x704x1024) hz3, View.ld_unit_zero (S := S1024x1024) hz]
  rw [Fin.sum_univ_four]
  pointwise
  exact add_comm _ _

variable (m : (ℓ : Loc nD τ sig) → Buf (Elt Ideal) ℓ) (c : Dev nD)

theorem lt_pt (t : Fin cfg0.N) : t.val < 16 := lt_of_lt_of_eq t.isLt N_0

theorem idx : ∀ t : Fin cfg0.N, win0_0.index t = ![0, t.val, 0] ∧ win0_1.index t = ![0, 0, 0]
    ∧ win0_2.index t = ![1, t.val, 0] ∧ win0_3.index t = ![1, 0, 0]
    ∧ win0_4.index t = ![2, t.val, 0] ∧ win0_5.index t = ![2, 0, 0]
    ∧ win0_6.index t = ![3, t.val, 0] ∧ win0_7.index t = ![3, 0, 0]
    ∧ win0_8.index t = ![t.val, 0] ∧ win0_9.index t = ![t.val, 0] := by decide +kernel

/-- The weight as the windows find it: four blocks of rows. -/
theorem V_w (q : Fin 4) (k : Fin 704) (j : Fin 1024) :
    V m c main_v4 (ix3 q k j) = m ((c : Thread nD τ).loc main_arg1) (ix2 (chipOf 704 rfl q k) j) := by
  have : V m c main_v4 = (truncf (F := Ideal) .bf16
      (shapeCast S4x704x1024 (m ((c : Thread nD τ).loc main_arg1) : FVec Ideal S2816x1024 .f32) shapeCasts_S2816x1024_S4x704x1024)
      bitsLt_bf16_f32 : FVec Ideal S4x704x1024 .bf16) := by
    unfold V hostOps0
    after_reads_simp
    rfl
  rw [this]
  exact rows_blocks rfl _ _ q k j

/-- The activations as the windows find it: four blocks of columns. -/
theorem V_x (q : Fin 4) (a : Fin 16384) (k : Fin 704) :
    V m c main_v2 (ix3 q a k) = m ((c : Thread nD τ).loc main_arg0) (ix2 a (chipOf 704 rfl q k)) := by
  have : V m c main_v2 = (truncf (F := Ideal) .bf16 (transpose S4x16384x704 [1, 0, 2]
      (shapeCast S16384x4x704 (m ((c : Thread nD τ).loc main_arg0) : FVec Ideal S16384x2816 .f32) shapeCasts_S16384x2816_S16384x4x704)
      transposes_S16384x4x704_S4x16384x704_1_0_2) bitsLt_bf16_f32 : FVec Ideal S4x16384x704 .bf16) := by
    unfold V hostOps0
    after_reads_simp
    rfl
  rw [this]
  exact cols_split rfl _ _ _ q a k

/-- The result: the residual and the product. -/
def tot (x0 : S16384x2816.Idx → EReal) (x1 : S2816x1024.Idx → EReal) (x2 : S16384x1024.Idx → EReal) (R : Fin 16384) (j : Fin 1024) : EReal :=
  x2 (ix2 R j) + nn x0 x1 R j

/-- The result of the buffers read. -/
def res : Fin 16384 → Fin 1024 → EReal :=
  tot (m ((c : Thread nD τ).loc main_arg0)) (m ((c : Thread nD τ).loc main_arg1)) (m ((c : Thread nD τ).loc main_arg2))

/-- The activations' four windows. -/
def xblk (t : Fin cfg0.N) : Fin 4 → Vec Ideal S1x1024x704 .bf16 := fun q => match q with
  | 0 => iblk m c 0 t | 1 => iblk m c 2 t | 2 => iblk m c 4 t | 3 => iblk m c 6 t

/-- The weight's four windows. -/
def wblk (t : Fin cfg0.N) : Fin 4 → Vec Ideal S1x704x1024 .bf16 := fun q => match q with
  | 0 => iblk m c 1 t | 1 => iblk m c 3 t | 2 => iblk m c 5 t | 3 => iblk m c 7 t

/-- The windows' blocks at an index. -/
theorem blk_x (t : Fin cfg0.N) (q : Fin 4) (r : Fin 1024) (k : Fin 704) :
    xblk m c t q (ix3 0 r k) = m ((c : Thread nD τ).loc main_arg0) (ix2 (rowOf 1024 16 rfl t.val (lt_pt t) r) (chipOf 704 rfl q k)) := by
  obtain ⟨a0, -, a1, -, a2, -, a3, -⟩ := idx t
  match q with
  | 0 => exact (congrArg (V m c main_v2) (at_chip_rows (S := 16384) (N := 704) (b := 1024) (n := 16) (r := r) (j := k) rfl (lt_pt t) 0 a0 rfl rfl rfl)).trans (V_x m c 0 _ k)
  | 1 => exact (congrArg (V m c main_v2) (at_chip_rows (S := 16384) (N := 704) (b := 1024) (n := 16) (r := r) (j := k) rfl (lt_pt t) 1 a1 rfl rfl rfl)).trans (V_x m c 1 _ k)
  | 2 => exact (congrArg (V m c main_v2) (at_chip_rows (S := 16384) (N := 704) (b := 1024) (n := 16) (r := r) (j := k) rfl (lt_pt t) 2 a2 rfl rfl rfl)).trans (V_x m c 2 _ k)
  | 3 => exact (congrArg (V m c main_v2) (at_chip_rows (S := 16384) (N := 704) (b := 1024) (n := 16) (r := r) (j := k) rfl (lt_pt t) 3 a3 rfl rfl rfl)).trans (V_x m c 3 _ k)
theorem blk_w (t : Fin cfg0.N) (q : Fin 4) (k : Fin 704) (j : Fin 1024) :
    wblk m c t q (ix3 0 k j) = m ((c : Thread nD τ).loc main_arg1) (ix2 (chipOf 704 rfl q k) j) := by
  obtain ⟨-, a0, -, a1, -, a2, -, a3, -⟩ := idx t
  match q with
  | 0 => exact (congrArg (V m c main_v4) (at_chip 0 a0 rfl rfl rfl)).trans (V_w m c 0 k j)
  | 1 => exact (congrArg (V m c main_v4) (at_chip 1 a1 rfl rfl rfl)).trans (V_w m c 1 k j)
  | 2 => exact (congrArg (V m c main_v4) (at_chip 2 a2 rfl rfl rfl)).trans (V_w m c 2 k j)
  | 3 => exact (congrArg (V m c main_v4) (at_chip 3 a3 rfl rfl rfl)).trans (V_w m c 3 k j)
theorem blk_d (t : Fin cfg0.N) (r j : Fin 1024) :
    iblk m c 8 t (ix2 r j) = m ((c : Thread nD τ).loc main_arg2) (ix2 (rowOf 1024 16 rfl t.val (lt_pt t) r) j) :=
  (congrFun (V_main_arg2 m c) _).trans (congrArg _ (at_rows (S := 16384) (N := 1024) (b := 1024) (n := 16) (r := r) (j := j) rfl (lt_pt t) (idx t).2.2.2.2.2.2.2.2.1 rfl rfl))

/-- The point whose block holds row `i 0`. -/
def pt (i : S16384x1024.Idx) : Fin cfg0.N :=
  ⟨(i 0 : Nat) / 1024, by have h0 : (i 0 : Nat) < 16384 := (i 0).isLt; rw [show cfg0.N = 16 from N_0]; omega⟩

theorem final : (dats m 0 c).arrAt 9 cfg0.N = arr (res m c) := by
  refine (dats m 0 c).arrAt_eq_of_cover 9 _ (fun t _ => ?_) (fun i => ⟨pt i, flush0_9 _, ?_⟩)
  · rw [Cert.FdnIdeal.Value.flushed9]
    refine funext fun (jj : S1024x1024.Idx) => ?_
    obtain ⟨r, j, rfl⟩ := ex2 jj
    refine Eq.trans ?_ (arr_at (res m c) (at_rows (S := 16384) (N := 1024) (b := 1024) (n := 16) (r := r) (j := j) rfl (lt_pt t) (idx t).2.2.2.2.2.2.2.2.2 rfl rfl))
    exact (out_at (xblk m c t) (wblk m c t) (iblk m c 8 t) r j).trans (congrArg₂ (fun a b : EReal => a + b) (blk_d m c t r j)
      (nn_blocks (k := 704) rfl (fun q k => blk_x m c t q r k) (fun q k => blk_w m c t q k j)))
  · refine in_block ?_
    exact rows_cover i (by norm_num) (idx (pt i)).2.2.2.2.2.2.2.2.2

open Cert.FdnRefIdeal.Read in
/-- The reference's result. -/
theorem ref_at (x0 : S16384x2816.Idx → EReal) (x1 : S2816x1024.Idx → EReal) (x2 : S16384x1024.Idx → EReal) (R : Fin 16384) (j : Fin 1024) :
    val_main_v1 (F := Ideal) x0 x1 x2 (ix2 R j) = tot x0 x1 x2 R j := by
  unfold val_main_v1 val_main_v0
  pointwise
  rfl

/-- Kernel and reference compute the same function of any arguments over the extended reals. -/
theorem algebraic : Cert.algebraic_FdnIdeal_FdnRefIdeal := by
  intro m g m' g' hpre hargs
  refine ⟨fun c => arr (res m c),
    (θ_run Cert.FdnIdeal.defs _ _).mono (fun r h c => ⟨(h c).1.trans (final m c), (h c).2⟩) (Cert.FdnIdeal.Value.run_blocks m g),
    (θ_run Cert.FdnRefIdeal.defs _ _).mono (fun r h c => ?_) (Cert.FdnRefIdeal.Value.run m' g')⟩
  obtain ⟨h0, hr⟩ := h c
  obtain ⟨k0, k1, k2⟩ := hargs c
  rw [k0, k1, k2] at h0
  exact ⟨h0.trans (eq_arr (ref_at _ _ _)), hr⟩

theorem frame_ref : Cert.quiescent_FdnRefIdeal := fun m g _ =>
  (θ_run Cert.FdnRefIdeal.defs _ _).mono (fun r h => ⟨fun c => (h c).2, Idealize.ShloMosaic.sem_eq_zero_of_no_sems (by decide) r.2⟩)
    (Cert.FdnRefIdeal.Value.run m g)
theorem frame_kernel : Cert.quiescent_Fdn := fun m g _ => Cert.Fdn.Gen.frame m g
theorem frame_ideal : Cert.quiescent_FdnIdeal := fun m g _ => Cert.FdnIdeal.Gen.frame m g

end Cert.Proof.Fdn
end
-- ==== Proof.PgbClaims.lean ====
/- `ple_gate_bwd`: a product with the transposed weight and a residual, and the claims of the pair Pgb. -/
module

public import proofs.«01_k».proof.Defs
public import proofs.«01_k».proof.Proof.Products
public import proofs.«01_k».proof.Proof.Gen.Pgb.Frame
public import proofs.«01_k».proof.Proof.Gen.PgbIdeal.Value
public import proofs.«01_k».proof.Proof.Gen.PgbRefIdeal.Read
public import Idealize.ShloMosaic.Lib.StableHlo.RunRead

@[expose] public section

set_option maxRecDepth 16384

noncomputable section

namespace Cert.Proof.Pgb

open Cert.PgbIdeal Cert.PgbIdeal.Gen Idealize.ShloMosaic TcCoe Idealize.SL.Sem
open Cert.Proof.RealValues Cert.Proof.Products

/-- The body's result at an index. -/
theorem out_at (g : Vec Ideal S1024x1024 .bf16) (w : Vec Ideal S1024x1024 .bf16) (d : Vec Ideal S1024x1024 .f32) (r j : Fin 1024) :
    out0_3 g w d (ix2 r j) = d (ix2 r j) + nt g w r j := by
  unfold out0_3
  rw [View.canon_unit_zero hz]
  unfold_payloads
  simp only [View.ld_unit_zero (S := S1024x1024) hz]
  pointwise
  exact add_comm _ _

variable (m : (ℓ : Loc nD τ sig) → Buf (Elt Ideal) ℓ) (c : Dev nD)

theorem lt_pt (t : Fin cfg0.N) : t.val < 16 := lt_of_lt_of_eq t.isLt N_0

theorem idx : ∀ t : Fin cfg0.N, win0_0.index t = ![t.val, 0] ∧ win0_1.index t = ![0, 0] ∧ win0_2.index t = ![t.val, 0]
    ∧ win0_3.index t = ![t.val, 0] := by decide +kernel

theorem V_w : V m c main_v0 = m ((c : Thread nD τ).loc main_arg1) := by
  unfold V hostOps0
  after_reads_simp
  rfl

/-- The result: the residual and the product. -/
def tot (x0 : S16384x1024.Idx → EReal) (x1 : S1024x1024.Idx → EReal) (x2 : S16384x1024.Idx → EReal) (R : Fin 16384) (j : Fin 1024) : EReal :=
  x2 (ix2 R j) + nt x0 x1 R j

/-- The result of the buffers read. -/
def res : Fin 16384 → Fin 1024 → EReal :=
  tot (m ((c : Thread nD τ).loc main_arg0)) (m ((c : Thread nD τ).loc main_arg1)) (m ((c : Thread nD τ).loc main_arg2))

theorem blocks (t : Fin cfg0.N) (r j : Fin 1024) :
    iblk m c 0 t (ix2 r j) = m ((c : Thread nD τ).loc main_arg0) (ix2 (rowOf 1024 16 rfl t.val (lt_pt t) r) j)
    ∧ iblk m c 1 t (ix2 r j) = m ((c : Thread nD τ).loc main_arg1) (ix2 r j)
    ∧ iblk m c 2 t (ix2 r j) = m ((c : Thread nD τ).loc main_arg2) (ix2 (rowOf 1024 16 rfl t.val (lt_pt t) r) j) :=
  ⟨(congrFun (V_main_arg0 m c) _).trans (congrArg _ (at_rows (S := 16384) (N := 1024) (b := 1024) (n := 16) (r := r) (j := j) rfl (lt_pt t) (idx t).1 rfl rfl)),
    (congrFun (V_w m c) _).trans (congrArg _ (at_whole (idx t).2.1 rfl rfl)),
    (congrFun (V_main_arg2 m c) _).trans (congrArg _ (at_rows (S := 16384) (N := 1024) (b := 1024) (n := 16) (r := r) (j := j) rfl (lt_pt t) (idx t).2.2.1 rfl rfl))⟩

/-- The point whose block holds row `i 0`. -/
def pt (i : S16384x1024.Idx) : Fin cfg0.N :=
  ⟨(i 0 : Nat) / 1024, by have h0 : (i 0 : Nat) < 16384 := (i 0).isLt; rw [show cfg0.N = 16 from N_0]; omega⟩

theorem final : (dats m 0 c).arrAt 3 cfg0.N = arr (res m c) := by
  refine (dats m 0 c).arrAt_eq_of_cover 3 _ (fun t _ => ?_) (fun i => ⟨pt i, flush0_3 _, ?_⟩)
  · rw [Cert.PgbIdeal.Value.flushed3]
    refine funext fun (jj : S1024x1024.Idx) => ?_
    obtain ⟨r, j, rfl⟩ : ∃ (r j : Fin 1024), jj = ix2 r j := ⟨jj 0, jj 1, eq_ix2 jj⟩
    refine ((out_at _ _ _ r j).trans ?_).trans (arr_at (res m c) (at_rows (S := 16384) (N := 1024) (b := 1024) (n := 16) (r := r) (j := j) rfl (lt_pt t) (idx t).2.2.2 rfl rfl))
    exact congrArg₂ (fun a b : EReal => a + b) (blocks m c t r j).2.2 (Finset.sum_congr rfl fun k _ =>
      congrArg₂ (fun a b : EReal => a * b) (blocks m c t r k).1 (blocks m c t j k).2.1)
  · refine in_block ?_
    exact rows_cover i (by norm_num) (idx (pt i)).2.2.2

open Cert.PgbRefIdeal.Read in
/-- The reference's result. -/
theorem ref_at (x0 : S16384x1024.Idx → EReal) (x1 : S1024x1024.Idx → EReal) (x2 : S16384x1024.Idx → EReal) (R : Fin 16384) (j : Fin 1024) :
    val_main_v4 (F := Ideal) x0 x1 x2 (ix2 R j) = tot x0 x1 x2 R j := by
  unfold val_main_v4 val_main_v3 val_main_v2
  pointwise
  rfl

/-- Kernel and reference compute the same function of any arguments over the extended reals. -/
theorem algebraic : Cert.algebraic_PgbIdeal_PgbRefIdeal := by
  intro m g m' g' hpre hargs
  refine ⟨fun c => arr (res m c),
    (θ_run Cert.PgbIdeal.defs _ _).mono (fun r h c => ⟨(h c).1.trans (final m c), (h c).2⟩) (Cert.PgbIdeal.Value.run_blocks m g),
    (θ_run Cert.PgbRefIdeal.defs _ _).mono (fun r h c => ?_) (Cert.PgbRefIdeal.Value.run m' g')⟩
  obtain ⟨h0, hr⟩ := h c
  obtain ⟨k0, k1, k2⟩ := hargs c
  rw [k0, k1, k2] at h0
  exact ⟨h0.trans (eq_arr (ref_at _ _ _)), hr⟩

theorem frame_ref : Cert.quiescent_PgbRefIdeal := fun m g _ =>
  (θ_run Cert.PgbRefIdeal.defs _ _).mono (fun r h => ⟨fun c => (h c).2, Idealize.ShloMosaic.sem_eq_zero_of_no_sems (by decide) r.2⟩)
    (Cert.PgbRefIdeal.Value.run m g)
theorem frame_kernel : Cert.quiescent_Pgb := fun m g _ => Cert.Pgb.Gen.frame m g
theorem frame_ideal : Cert.quiescent_PgbIdeal := fun m g _ => Cert.PgbIdeal.Gen.frame m g

end Cert.Proof.Pgb
end
-- ==== Proof.ApbClaims.lean ====
/- `attn_proj_bwd`: a product with the transposed weight, its summed index cut in four blocks, and the claims of the pair Apb. -/
module

public import proofs.«01_k».proof.Defs
public import proofs.«01_k».proof.Proof.Products
public import proofs.«01_k».proof.Proof.Gen.Apb.Frame
public import proofs.«01_k».proof.Proof.Gen.ApbIdeal.Value
public import proofs.«01_k».proof.Proof.Gen.ApbRefIdeal.Read
public import Idealize.ShloMosaic.Lib.StableHlo.RunRead

@[expose] public section

set_option maxRecDepth 16384

noncomputable section

namespace Cert.Proof.Apb

open Cert.ApbIdeal Cert.ApbIdeal.Gen Idealize.ShloMosaic TcCoe Idealize.SL.Sem
open Cert.Proof.RealValues Cert.Proof.Products

/-- The body's result at an index: a product per block of columns. -/
theorem out_at (x : Fin 4 → Vec Ideal S1024x256 .bf16) (w : Fin 4 → Vec Ideal S1x512x256 .bf16) (r : Fin 1024) (j : Fin 512) :
    out0_8 (x 0) (w 0) (x 1) (w 1) (x 2) (w 2) (x 3) (w 3) (ix2 r j)
      = ∑ q, ∑ k, x q (ix2 r k) * w q (ix3 0 j k) := by
  unfold out0_8
  rw [View.canon_unit_zero hz]
  unfold_payloads
  simp only [View.ld_unit_zero (S := S1024x256) hz, View.ld_unit_zero (S := S1x512x256) hz3]
  rw [Fin.sum_univ_four]
  pointwise

variable (m : (ℓ : Loc nD τ sig) → Buf (Elt Ideal) ℓ) (c : Dev nD)

theorem lt_pt (t : Fin cfg0.N) : t.val < 16 := lt_of_lt_of_eq t.isLt N_0

theorem idx : ∀ t : Fin cfg0.N, win0_0.index t = ![t.val, 0] ∧ win0_1.index t = ![0, 0, 0]
    ∧ win0_2.index t = ![t.val, 1] ∧ win0_3.index t = ![1, 0, 0]
    ∧ win0_4.index t = ![t.val, 2] ∧ win0_5.index t = ![2, 0, 0]
    ∧ win0_6.index t = ![t.val, 3] ∧ win0_7.index t = ![3, 0, 0]
    ∧ win0_8.index t = ![t.val, 0] := by decide +kernel

/-- The weight as the windows find it: four blocks of columns. -/
theorem V_w (q : Fin 4) (a : Fin 512) (k : Fin 256) :
    V m c main_v2 (ix3 q a k) = m ((c : Thread nD τ).loc main_arg1) (ix2 a (chipOf 256 rfl q k)) := by
  have : V m c main_v2 = (truncf (F := Ideal) .bf16 (transpose S4x512x256 [1, 0, 2]
      (shapeCast S512x4x256 (m ((c : Thread nD τ).loc main_arg1) : FVec Ideal S512x1024 .f32) shapeCasts_S512x1024_S512x4x256)
      transposes_S512x4x256_S4x512x256_1_0_2) bitsLt_bf16_f32 : FVec Ideal S4x512x256 .bf16) := by
    unfold V hostOps0
    after_reads_simp
    rfl
  rw [this]
  exact cols_split rfl _ _ _ q a k

/-- The result: the product with the transposed weight. -/
def tot (x0 : S16384x1024.Idx → EReal) (x1 : S512x1024.Idx → EReal) (R : Fin 16384) (j : Fin 512) : EReal := nt x0 x1 R j

/-- The result of the buffers read. -/
def res : Fin 16384 → Fin 512 → EReal :=
  tot (m ((c : Thread nD τ).loc main_arg0)) (m ((c : Thread nD τ).loc main_arg1))

/-- The gradient's four windows. -/
def xblk (t : Fin cfg0.N) : Fin 4 → Vec Ideal S1024x256 .bf16 := fun q => match q with
  | 0 => iblk m c 0 t | 1 => iblk m c 2 t | 2 => iblk m c 4 t | 3 => iblk m c 6 t

/-- The weight's four windows. -/
def wblk (t : Fin cfg0.N) : Fin 4 → Vec Ideal S1x512x256 .bf16 := fun q => match q with
  | 0 => iblk m c 1 t | 1 => iblk m c 3 t | 2 => iblk m c 5 t | 3 => iblk m c 7 t

/-- The windows' blocks at an index. -/
theorem blk_x (t : Fin cfg0.N) (q : Fin 4) (r : Fin 1024) (k : Fin 256) :
    xblk m c t q (ix2 r k) = m ((c : Thread nD τ).loc main_arg0) (ix2 (rowOf 1024 16 rfl t.val (lt_pt t) r) (chipOf 256 rfl q k)) := by
  obtain ⟨a0, -, a1, -, a2, -, a3, -⟩ := idx t
  match q with
  | 0 => exact (congrFun (V_main_arg0 m c) _).trans (congrArg _ (at_rows_cols (S := 16384) (N := 1024) (w := 256) (b := 1024) (n := 16) (r := r) (k := k) rfl rfl (lt_pt t) 0 a0 rfl rfl))
  | 1 => exact (congrFun (V_main_arg0 m c) _).trans (congrArg _ (at_rows_cols (S := 16384) (N := 1024) (w := 256) (b := 1024) (n := 16) (r := r) (k := k) rfl rfl (lt_pt t) 1 a1 rfl rfl))
  | 2 => exact (congrFun (V_main_arg0 m c) _).trans (congrArg _ (at_rows_cols (S := 16384) (N := 1024) (w := 256) (b := 1024) (n := 16) (r := r) (k := k) rfl rfl (lt_pt t) 2 a2 rfl rfl))
  | 3 => exact (congrFun (V_main_arg0 m c) _).trans (congrArg _ (at_rows_cols (S := 16384) (N := 1024) (w := 256) (b := 1024) (n := 16) (r := r) (k := k) rfl rfl (lt_pt t) 3 a3 rfl rfl))
theorem blk_w (t : Fin cfg0.N) (q : Fin 4) (j : Fin 512) (k : Fin 256) :
    wblk m c t q (ix3 0 j k) = m ((c : Thread nD τ).loc main_arg1) (ix2 j (chipOf 256 rfl q k)) := by
  obtain ⟨-, a0, -, a1, -, a2, -, a3, -⟩ := idx t
  match q with
  | 0 => exact (congrArg (V m c main_v2) (at_chip 0 a0 rfl rfl rfl)).trans (V_w m c 0 j k)
  | 1 => exact (congrArg (V m c main_v2) (at_chip 1 a1 rfl rfl rfl)).trans (V_w m c 1 j k)
  | 2 => exact (congrArg (V m c main_v2) (at_chip 2 a2 rfl rfl rfl)).trans (V_w m c 2 j k)
  | 3 => exact (congrArg (V m c main_v2) (at_chip 3 a3 rfl rfl rfl)).trans (V_w m c 3 j k)

/-- The point whose block holds row `i 0`. -/
def pt (i : S16384x512.Idx) : Fin cfg0.N :=
  ⟨(i 0 : Nat) / 1024, by have h0 : (i 0 : Nat) < 16384 := (i 0).isLt; rw [show cfg0.N = 16 from N_0]; omega⟩

theorem final : (dats m 0 c).arrAt 8 cfg0.N = arr (res m c) := by
  refine (dats m 0 c).arrAt_eq_of_cover 8 _ (fun t _ => ?_) (fun i => ⟨pt i, flush0_8 _, ?_⟩)
  · rw [Cert.ApbIdeal.Value.flushed8]
    refine funext fun (jj : S1024x512.Idx) => ?_
    obtain ⟨r, j, rfl⟩ := ex2 jj
    refine Eq.trans ?_ (arr_at (res m c) (at_rows (S := 16384) (N := 512) (b := 1024) (n := 16) (r := r) (j := j) rfl (lt_pt t) (idx t).2.2.2.2.2.2.2.2 rfl rfl))
    exact (out_at (xblk m c t) (wblk m c t) r j).trans
      (nt_blocks (k := 256) rfl (fun q k => blk_x m c t q r k) (fun q k => blk_w m c t q j k))
  · refine in_block ?_
    exact rows_cover i (by norm_num) (idx (pt i)).2.2.2.2.2.2.2.2

open Cert.ApbRefIdeal.Read in
/-- The reference's result. -/
theorem ref_at (x0 : S16384x1024.Idx → EReal) (x1 : S512x1024.Idx → EReal) (R : Fin 16384) (j : Fin 512) :
    val_main_v4 (F := Ideal) x0 x1 (ix2 R j) = tot x0 x1 R j := by
  unfold val_main_v4 val_main_v3 val_main_v2
  pointwise
  rfl

/-- Kernel and reference compute the same function of any arguments over the extended reals. -/
theorem algebraic : Cert.algebraic_ApbIdeal_ApbRefIdeal := by
  intro m g m' g' hpre hargs
  refine ⟨fun c => arr (res m c),
    (θ_run Cert.ApbIdeal.defs _ _).mono (fun r h c => ⟨(h c).1.trans (final m c), (h c).2⟩) (Cert.ApbIdeal.Value.run_blocks m g),
    (θ_run Cert.ApbRefIdeal.defs _ _).mono (fun r h c => ?_) (Cert.ApbRefIdeal.Value.run m' g')⟩
  obtain ⟨h0, hr⟩ := h c
  obtain ⟨k0, k1⟩ := hargs c
  rw [k0, k1] at h0
  exact ⟨h0.trans (eq_arr (ref_at _ _)), hr⟩

theorem frame_ref : Cert.quiescent_ApbRefIdeal := fun m g _ =>
  (θ_run Cert.ApbRefIdeal.defs _ _).mono (fun r h => ⟨fun c => (h c).2, Idealize.ShloMosaic.sem_eq_zero_of_no_sems (by decide) r.2⟩)
    (Cert.ApbRefIdeal.Value.run m g)
theorem frame_kernel : Cert.quiescent_Apb := fun m g _ => Cert.Apb.Gen.frame m g
theorem frame_ideal : Cert.quiescent_ApbIdeal := fun m g _ => Cert.ApbIdeal.Gen.frame m g

end Cert.Proof.Apb
end
-- ==== Proof.WpgClaims.lean ====
/- `d_ple_gate`: a weight gradient, summed over the tokens block by block, and the claims of the pair Wpg. -/
module

public import proofs.«01_k».proof.Defs
public import proofs.«01_k».proof.Proof.TokenSums
public import proofs.«01_k».proof.Proof.Gen.Wpg.Frame
public import proofs.«01_k».proof.Proof.Gen.WpgIdeal.Value
public import proofs.«01_k».proof.Proof.Gen.WpgRefIdeal.Read
public import Idealize.ShloMosaic.Lib.StableHlo.RunRead
public import Idealize.ShloMosaic.Lib.Pipeline.ValueKit.Acc
public import Idealize.ShloMosaic.Lib.Pipeline.ReadBack

@[expose] public section

set_option maxRecDepth 16384

noncomputable section

namespace Cert.Proof.Wpg

open Cert.WpgIdeal Cert.WpgIdeal.Gen Idealize.ShloMosaic TcCoe Idealize.SL.Sem
open Cert.Proof.RealValues Cert.Proof.Products

variable (m : (ℓ : Loc nD τ sig) → Buf (Elt Ideal) ℓ) (c : Dev nD)

/-- What the points leave in the scratch: the first block's product, then one block's product more at each point. -/
theorem scratch_first (t : Fin cfg0.N) (h : t.val % 8 = 0) (h1 : ¬1 ≤ t.val) (a : Fin 1024) (j : Fin 1024) :
    (outsAt0 m c t.val t.isLt).2 (ix2 a j) = tn (iblk m c 0 t) (iblk m c 1 t) a j := by
  rw [outsAt0_A m c t h (by omega) (by omega)]
  dsimp only
  frame_out
  unfold_payloads
  pointwise
  rfl
theorem scratch_next (t : Fin cfg0.N) (h0 : ¬t.val % 8 = 0) (a : Fin 1024) (j : Fin 1024) :
    (outsAt0 m c t.val t.isLt).2 (ix2 a j) = (outsAt0 m c (t.val - 1) (by have := t.isLt; omega)).2 (ix2 a j)
      + tn (iblk m c 0 t) (iblk m c 1 t) a j := by
  by_cases h2 : t.val % 8 = 7
  · rw [outsAt0_C m c t h0 (by omega) h2]
    dsimp only
    frame_out
    rw [read_unread_whole]
    unfold_payloads
    pointwise
    rfl
  · rw [outsAt0_B m c t h0 (by omega) h2]
    dsimp only
    frame_out
    rw [read_unread_whole]
    unfold_payloads
    pointwise
    rfl
theorem result_last (t : Fin cfg0.N) (h2 : t.val % 8 = 7) (a j : Fin 1024) :
    (outsAt0 m c t.val t.isLt).1 (ix2 a j) = (outsAt0 m c t.val t.isLt).2 (ix2 a j) := by
  rw [scratch_next m c t (by omega), outsAt0_C m c t (by omega) (by omega) h2]
  dsimp only
  frame_out
  rw [read_unread_whole]
  unfold_payloads
  pointwise
  rfl

theorem idx : ∀ t : Fin cfg0.N, win0_0.index t = ![t.val, 0] ∧ win0_1.index t = ![t.val, 0] ∧ win0_2.index t = ![0, 0] := by decide +kernel

theorem lt_pt (t : Fin cfg0.N) : t.val < 8 := lt_of_lt_of_eq t.isLt N_0

/-- The windows' blocks at an index. -/
theorem blk_0 (t : Fin cfg0.N) (r : Fin 2048) (j : Fin 1024) :
    iblk m c 0 t (ix2 r j) = m ((c : Thread nD τ).loc main_arg0) (ix2 (rowOf 2048 8 rfl t.val (lt_pt t) r) j) :=
  (congrFun (V_main_arg0 m c) _).trans (congrArg _ (at_rows (S := 16384) (N := 1024) (b := 2048) (n := 8) (r := r) (j := j) rfl (lt_pt t) (idx t).1 rfl rfl))
theorem blk_1 (t : Fin cfg0.N) (r : Fin 2048) (j : Fin 1024) :
    iblk m c 1 t (ix2 r j) = m ((c : Thread nD τ).loc main_arg1) (ix2 (rowOf 2048 8 rfl t.val (lt_pt t) r) j) :=
  (congrFun (V_main_arg1 m c) _).trans (congrArg _ (at_rows (S := 16384) (N := 1024) (b := 2048) (n := 8) (r := r) (j := j) rfl (lt_pt t) (idx t).2.1 rfl rfl))

/-- The result of the buffers read: the product that sums over the tokens. -/
def res : Fin 1024 → Fin 1024 → EReal := tn (m ((c : Thread nD τ).loc main_arg0)) (m ((c : Thread nD τ).loc main_arg1))

/-- An entry of the scratch after a point, and a point's part of it. -/
def sc (a j : Fin 1024) (t : ℕ) (ht : t < 7 + 1) : EReal := (outsAt0 m c t (lt_of_lt_of_eq ht N_0.symm)).2 (ix2 a j)
def bp (a j : Fin 1024) (t : ℕ) (ht : t < 7 + 1) : EReal :=
  tn (iblk m c 0 ⟨t, lt_of_lt_of_eq ht N_0.symm⟩) (iblk m c 1 ⟨t, lt_of_lt_of_eq ht N_0.symm⟩) a j
/-- The scratch after the last point. -/
theorem scratch_all (a j : Fin 1024) (t : ℕ) (ht : t < 7 + 1) (h : t = 7) : sc m c a j t ht = res m c a j := by
  subst h
  refine acc_tn (S := 16384) (b := 2048) (n := 7) rfl _ _ a j (sc m c a j) (bp m c a j) (fun t ht => ?_) ?_ (fun t ht => ?_)
  · unfold bp tn
    refine Finset.sum_congr rfl fun r _ => ?_
    exact congrArg₂ (fun u v : EReal => u * v) (blk_0 m c ⟨t, lt_of_lt_of_eq ht N_0.symm⟩ r a) (blk_1 m c ⟨t, lt_of_lt_of_eq ht N_0.symm⟩ r j)
  · exact scratch_first m c ⟨0, _⟩ rfl (by decide) a j
  · exact scratch_next m c ⟨t + 1, lt_of_lt_of_eq ht N_0.symm⟩ (by show ¬(t + 1) % 8 = 0; omega) a j

/-- The point that writes the result, and the result after the run. -/
def last : Fin cfg0.N := ⟨7, lt_of_lt_of_eq (by norm_num) N_0.symm⟩
theorem final : (dats m 0 c).arrAt 2 cfg0.N = arr (res m c) := by
  generalize hf : res m c = f
  refine (dats m 0 c).arrAt_eq_of_cover 2 _ (fun t ht => ?_) (fun i => ⟨last, (flush0_2 _).mpr rfl, ?_⟩)
  · rw [Cert.WpgIdeal.Value.flushed2]
    have h7 := (flush0_2 t).mp ht
    have h8 := lt_pt t
    refine funext fun (jj : S1024x1024.Idx) => ?_
    obtain ⟨a, j, rfl⟩ : ∃ (a j : Fin 1024), jj = ix2 a j := ⟨jj 0, jj 1, eq_ix2 jj⟩
    refine ((result_last m c t h7 a j).trans ((scratch_all m c a j t.val h8 (by omega)).trans (congrFun (congrFun hf a) j))).trans ?_
    exact (congrArg (arr f) (at_whole (S := 1024) (N := 1024) (r := a) (j := j) (idx t).2.2 rfl rfl)).symm
  · refine in_block ?_
    exact one_cover i (idx last).2.2

open Cert.WpgRefIdeal.Read in
/-- The reference's result. -/
theorem ref_at (x0 x1 : S16384x1024.Idx → EReal) (a j : Fin 1024) : val_main_v4 (F := Ideal) x0 x1 (ix2 a j) = tn x0 x1 a j := by
  rw [tn_comm]
  unfold val_main_v4 val_main_v3 val_main_v2
  pointwise
  rfl

/-- Kernel and reference compute the same function of any arguments over the extended reals. -/
theorem algebraic : Cert.algebraic_WpgIdeal_WpgRefIdeal := by
  intro m g m' g' hpre hargs
  refine ⟨fun c => arr (res m c),
    (θ_run Cert.WpgIdeal.defs _ _).mono (fun r h c => ⟨(h c).1.trans (final m c), (h c).2⟩) (Cert.WpgIdeal.Value.run_blocks m g),
    (θ_run Cert.WpgRefIdeal.defs _ _).mono (fun r h c => ?_) (Cert.WpgRefIdeal.Value.run m' g')⟩
  obtain ⟨h0, hr⟩ := h c
  obtain ⟨k0, k1⟩ := hargs c
  rw [k0, k1] at h0
  exact ⟨h0.trans (eq_arr (ref_at _ _)), hr⟩

theorem frame_ref : Cert.quiescent_WpgRefIdeal := fun m g _ =>
  (θ_run Cert.WpgRefIdeal.defs _ _).mono (fun r h => ⟨fun c => (h c).2, Idealize.ShloMosaic.sem_eq_zero_of_no_sems (by decide) r.2⟩)
    (Cert.WpgRefIdeal.Value.run m g)
theorem frame_kernel : Cert.quiescent_Wpg := fun m g _ => Cert.Wpg.Gen.frame m g
theorem frame_ideal : Cert.quiescent_WpgIdeal := fun m g _ => Cert.WpgIdeal.Gen.frame m g

end Cert.Proof.Wpg
end
-- ==== Proof.WapClaims.lean ====
/- `d_attn_proj`: a weight gradient with its columns in four blocks, summed over the tokens block by block, and the claims of the pair Wap. -/
module

public import proofs.«01_k».proof.Defs
public import proofs.«01_k».proof.Proof.TokenSums
public import proofs.«01_k».proof.Proof.Gen.Wap.Frame
public import proofs.«01_k».proof.Proof.Gen.WapIdeal.Value
public import proofs.«01_k».proof.Proof.Gen.WapRefIdeal.Read
public import Idealize.ShloMosaic.Lib.StableHlo.RunRead
public import Idealize.ShloMosaic.Lib.Pipeline.ValueKit.Acc
public import Idealize.ShloMosaic.Lib.Pipeline.ReadBack

@[expose] public section

set_option maxRecDepth 16384

noncomputable section

namespace Cert.Proof.Wap

open Cert.WapIdeal Cert.WapIdeal.Gen Idealize.ShloMosaic TcCoe Idealize.SL.Sem
open Cert.Proof.RealValues Cert.Proof.Products

variable (m : (ℓ : Loc nD τ sig) → Buf (Elt Ideal) ℓ) (c : Dev nD)

/-- What the points leave in the scratch: the first block's product, then one block's product more at each point. -/
theorem scratch_first (t : Fin cfg0.N) (h : t.val % 8 = 0) (h1 : ¬1 ≤ t.val) (a : Fin 512) (j : Fin 1024) :
    (outsAt0 m c t.val t.isLt).2 (ix2 a j) = tn (iblk m c 0 t) (iblk m c 1 t) a j := by
  rw [outsAt0_A m c t h (by omega) (by omega)]
  dsimp only
  frame_out
  unfold_payloads
  pointwise
  rfl
theorem scratch_next (t : Fin cfg0.N) (h0 : ¬t.val % 8 = 0) (a : Fin 512) (j : Fin 1024) :
    (outsAt0 m c t.val t.isLt).2 (ix2 a j) = (outsAt0 m c (t.val - 1) (by have := t.isLt; omega)).2 (ix2 a j)
      + tn (iblk m c 0 t) (iblk m c 1 t) a j := by
  by_cases h2 : t.val % 8 = 7
  · rw [outsAt0_C m c t h0 (by omega) h2]
    dsimp only
    frame_out
    rw [read_unread_whole]
    unfold_payloads
    pointwise
    rfl
  · rw [outsAt0_B m c t h0 (by omega) h2]
    dsimp only
    frame_out
    rw [read_unread_whole]
    unfold_payloads
    pointwise
    rfl
theorem cut_at (s : S512x1024.Idx → EReal) (q : Fin 4) (a : Fin 512) (k : Fin 256) : k0_pay4 (F := Ideal) s (ix3 q a k) = s (ix2 a (chipOf 256 rfl q k)) := by
  unfold k0_pay4
  match q with
  | 0 => pointwise; exact congrArg s (congrArg (ix2 a) (Fin.ext (by show k.val = 0 * 256 + k.val; omega)))
  | 1 | 2 | 3 => pointwise; rfl
theorem result_last (t : Fin cfg0.N) (h2 : t.val % 8 = 7) (q : Fin 4) (a : Fin 512) (k : Fin 256) :
    (outsAt0 m c t.val t.isLt).1 (ix3 q a k) = (outsAt0 m c t.val t.isLt).2 (ix2 a (chipOf 256 rfl q k)) := by
  rw [scratch_next m c t (by omega), outsAt0_C m c t (by omega) (by omega) h2]
  dsimp only
  frame_out
  rw [read_unread_whole]
  refine (cut_at _ q a k).trans ?_
  unfold k0_pay3 k0_pay1
  pointwise
  rfl

theorem idx : ∀ t : Fin cfg0.N, win0_0.index t = ![t.val, 0] ∧ win0_1.index t = ![t.val, 0] ∧ win0_2.index t = ![0, 0, 0] := by decide +kernel

theorem lt_pt (t : Fin cfg0.N) : t.val < 8 := lt_of_lt_of_eq t.isLt N_0

/-- The windows' blocks at an index. -/
theorem blk_0 (t : Fin cfg0.N) (r : Fin 2048) (j : Fin 512) :
    iblk m c 0 t (ix2 r j) = m ((c : Thread nD τ).loc main_arg0) (ix2 (rowOf 2048 8 rfl t.val (lt_pt t) r) j) :=
  (congrFun (V_main_arg0 m c) _).trans (congrArg _ (at_rows (S := 16384) (N := 512) (b := 2048) (n := 8) (r := r) (j := j) rfl (lt_pt t) (idx t).1 rfl rfl))
theorem blk_1 (t : Fin cfg0.N) (r : Fin 2048) (j : Fin 1024) :
    iblk m c 1 t (ix2 r j) = m ((c : Thread nD τ).loc main_arg1) (ix2 (rowOf 2048 8 rfl t.val (lt_pt t) r) j) :=
  (congrFun (V_main_arg1 m c) _).trans (congrArg _ (at_rows (S := 16384) (N := 1024) (b := 2048) (n := 8) (r := r) (j := j) rfl (lt_pt t) (idx t).2.1 rfl rfl))

/-- The product that sums over the tokens, and the result: its columns in four blocks. -/
def prd : Fin 512 → Fin 1024 → EReal := tn (m ((c : Thread nD τ).loc main_arg0)) (m ((c : Thread nD τ).loc main_arg1))
def res : Fin 4 → Fin 512 → Fin 256 → EReal := tn4 256 rfl (m ((c : Thread nD τ).loc main_arg0)) (m ((c : Thread nD τ).loc main_arg1))

/-- An entry of the scratch after a point, and a point's part of it. -/
def sc (a : Fin 512) (j : Fin 1024) (t : ℕ) (ht : t < 7 + 1) : EReal := (outsAt0 m c t (lt_of_lt_of_eq ht N_0.symm)).2 (ix2 a j)
def bp (a : Fin 512) (j : Fin 1024) (t : ℕ) (ht : t < 7 + 1) : EReal :=
  tn (iblk m c 0 ⟨t, lt_of_lt_of_eq ht N_0.symm⟩) (iblk m c 1 ⟨t, lt_of_lt_of_eq ht N_0.symm⟩) a j
/-- The scratch after the last point. -/
theorem scratch_all (a : Fin 512) (j : Fin 1024) (t : ℕ) (ht : t < 7 + 1) (h : t = 7) : sc m c a j t ht = prd m c a j := by
  subst h
  refine acc_tn (S := 16384) (b := 2048) (n := 7) rfl _ _ a j (sc m c a j) (bp m c a j) (fun t ht => ?_) ?_ (fun t ht => ?_)
  · unfold bp tn
    refine Finset.sum_congr rfl fun r _ => ?_
    exact congrArg₂ (fun u v : EReal => u * v) (blk_0 m c ⟨t, lt_of_lt_of_eq ht N_0.symm⟩ r a) (blk_1 m c ⟨t, lt_of_lt_of_eq ht N_0.symm⟩ r j)
  · exact scratch_first m c ⟨0, _⟩ rfl (by decide) a j
  · exact scratch_next m c ⟨t + 1, lt_of_lt_of_eq ht N_0.symm⟩ (by show ¬(t + 1) % 8 = 0; omega) a j

/-- The point that writes the result, and the result after the run. -/
def last : Fin cfg0.N := ⟨7, lt_of_lt_of_eq (by norm_num) N_0.symm⟩
theorem res_at (t : Fin cfg0.N) (h7 : t.val % 8 = 7) (q : Fin 4) (a : Fin 512) (k : Fin 256) :
    (outsAt0 m c t.val t.isLt).1 (ix3 q a k) = res m c q a k := by
  have h8 := lt_pt t
  exact (result_last m c t h7 q a k).trans (scratch_all m c a _ t.val h8 (by omega))
theorem final : (dats m 0 c).arrAt 2 cfg0.N = arr4 (res m c) := by
  generalize hf : res m c = f
  refine (dats m 0 c).arrAt_eq_of_cover 2 _ (fun t ht => ?_) (fun i => ⟨last, (flush0_2 _).mpr rfl, ?_⟩)
  · rw [Cert.WapIdeal.Value.flushed2]
    refine funext fun (jj : S4x512x256.Idx) => ?_
    obtain ⟨q, a, k, rfl⟩ := ex3 jj
    refine (res_at m c t ((flush0_2 t).mp ht) q a k).trans ((congrFun (congrFun (congrFun hf q) a) k).trans ?_)
    exact (congrArg (arr4 f) (at_whole3 (q := q) (a := a) (k := k) (idx t).2.2 rfl rfl rfl)).symm
  · refine in_block ?_
    exact whole_cover3 i (idx last).2.2

open Cert.WapRefIdeal.Read in
/-- The reference's result. -/
theorem ref_prd (x0 : S16384x512.Idx → EReal) (x1 : S16384x1024.Idx → EReal) (a : Fin 512) (j : Fin 1024) :
    val_main_v5 (F := Ideal) x0 x1 (ix2 a j) = tn x0 x1 a j := by
  rw [tn_comm]
  unfold val_main_v5 val_main_v4 val_main_v3 val_main_v1
  pointwise
  rfl
open Cert.WapRefIdeal.Read in
theorem ref_at (x0 : S16384x512.Idx → EReal) (x1 : S16384x1024.Idx → EReal) : val_main_v7 (F := Ideal) x0 x1 = arr4 (tn4 256 rfl x0 x1) :=
  eq_arr4 fun q a k => (cols_split rfl _ _ _ q a k).trans (ref_prd x0 x1 a _)

/-- Kernel and reference compute the same function of any arguments over the extended reals. -/
theorem algebraic : Cert.algebraic_WapIdeal_WapRefIdeal := by
  intro m g m' g' hpre hargs
  refine ⟨fun c => arr4 (res m c),
    (θ_run Cert.WapIdeal.defs _ _).mono (fun r h c => ⟨(h c).1.trans (final m c), (h c).2⟩) (Cert.WapIdeal.Value.run_blocks m g),
    (θ_run Cert.WapRefIdeal.defs _ _).mono (fun r h c => ?_) (Cert.WapRefIdeal.Value.run m' g')⟩
  obtain ⟨h0, hr⟩ := h c
  obtain ⟨k0, k1⟩ := hargs c
  rw [k0, k1] at h0
  exact ⟨h0.trans (ref_at _ _), hr⟩

theorem frame_ref : Cert.quiescent_WapRefIdeal := fun m g _ =>
  (θ_run Cert.WapRefIdeal.defs _ _).mono (fun r h => ⟨fun c => (h c).2, Idealize.ShloMosaic.sem_eq_zero_of_no_sems (by decide) r.2⟩)
    (Cert.WapRefIdeal.Value.run m g)
theorem frame_kernel : Cert.quiescent_Wap := fun m g _ => Cert.Wap.Gen.frame m g
theorem frame_ideal : Cert.quiescent_WapIdeal := fun m g _ => Cert.WapIdeal.Gen.frame m g

end Cert.Proof.Wap
end
-- ==== Proof.WfgClaims.lean ====
/- `d_ffn_gate`: a weight gradient for the four blocks of columns one after the other, each summed over the tokens, and the claims of the pair Wfg. -/
module

public import proofs.«01_k».proof.Defs
public import proofs.«01_k».proof.Proof.TokenSums
public import proofs.«01_k».proof.Proof.Gen.Wfg.Frame
public import proofs.«01_k».proof.Proof.Gen.WfgIdeal.Value
public import proofs.«01_k».proof.Proof.Gen.WfgRefIdeal.Read
public import Idealize.ShloMosaic.Lib.StableHlo.RunRead
public import Idealize.ShloMosaic.Lib.Pipeline.ValueKit.Acc
public import Idealize.ShloMosaic.Lib.Pipeline.ReadBack

@[expose] public section

set_option maxRecDepth 16384

noncomputable section

namespace Cert.Proof.Wfg

open Cert.WfgIdeal Cert.WfgIdeal.Gen Idealize.ShloMosaic TcCoe Idealize.SL.Sem
open Cert.Proof.RealValues Cert.Proof.Products

variable (m : (ℓ : Loc nD τ sig) → Buf (Elt Ideal) ℓ) (c : Dev nD)

/-- The second window's block as an array of rows. -/
def ycut (t : Fin cfg0.N) : (⟨2, ![2048, 704]⟩ : Shape).Idx → EReal := arr fun r k => iblk m c 1 t (ix3 0 r k)
/-- What the points leave in the scratch: a first block's product, then one block's product more at each point. -/
theorem scratch_first (t : Fin cfg0.N) (h : t.val % 8 = 0) (a : Fin 1024) (j : Fin 704) :
    (outsAt0 m c t.val t.isLt).2 (ix2 a j) = tn (iblk m c 0 t) (ycut m c t) a j := by
  rw [outsAt0_A m c t h (by omega) (by omega)]
  dsimp only
  frame_out
  unfold_payloads
  pointwise
  rfl
theorem scratch_next (t : Fin cfg0.N) (h0 : ¬t.val % 8 = 0) (a : Fin 1024) (j : Fin 704) :
    (outsAt0 m c t.val t.isLt).2 (ix2 a j) = (outsAt0 m c (t.val - 1) (by have := t.isLt; omega)).2 (ix2 a j)
      + tn (iblk m c 0 t) (ycut m c t) a j := by
  by_cases h2 : t.val % 8 = 7
  · rw [outsAt0_C m c t h0 (by omega) h2]
    dsimp only
    frame_out
    rw [read_unread_whole]
    unfold_payloads
    pointwise
    rfl
  · rw [outsAt0_B m c t h0 (by omega) h2]
    dsimp only
    frame_out
    rw [read_unread_whole]
    unfold_payloads
    pointwise
    rfl
theorem result_last (t : Fin cfg0.N) (h2 : t.val % 8 = 7) (a : Fin 1024) (k : Fin 704) :
    (outsAt0 m c t.val t.isLt).1 (ix3 0 a k) = (outsAt0 m c t.val t.isLt).2 (ix2 a k) := by
  rw [scratch_next m c t (by omega), outsAt0_C m c t (by omega) (by omega) h2]
  dsimp only
  frame_out
  rw [read_unread_whole]
  unfold_payloads
  pointwise
  rfl

theorem lt_pt (t : Fin cfg0.N) : t.val < 32 := lt_of_lt_of_eq t.isLt N_0
theorem idx : ∀ t : Fin cfg0.N, win0_0.index t = ![t.val % 8, 0] ∧ win0_1.index t = ![t.val / 8, t.val % 8, 0]
    ∧ win0_2.index t = ![t.val / 8, 0, 0] := by decide +kernel

/-- The second factor as the window finds it: four blocks of columns. -/
theorem V_y (q : Fin 4) (R : Fin 16384) (k : Fin 704) :
    V m c main_v1 (ix3 q R k) = m ((c : Thread nD τ).loc main_arg1) (ix2 R (chipOf 704 rfl q k)) := by
  have : V m c main_v1 = (transpose S4x16384x704 [1, 0, 2]
      (shapeCast S16384x4x704 (m ((c : Thread nD τ).loc main_arg1) : FVec Ideal S16384x2816 .bf16) shapeCasts_S16384x2816_S16384x4x704)
      transposes_S16384x4x704_S4x16384x704_1_0_2 : FVec Ideal S4x16384x704 .bf16) := by
    unfold V hostOps0
    after_reads_simp
    rfl
  rw [this]
  exact cols_split rfl _ _ _ q R k

/-- A point's block of columns and block of rows. -/
def pt (q : Fin 4) (s : ℕ) (hs : s < 7 + 1) : Fin cfg0.N := ⟨q.val * 8 + s, lt_of_lt_of_eq (by omega) N_0.symm⟩
abbrev row (s : ℕ) (hs : s < 7 + 1) (r : Fin 2048) : Fin 16384 := rowOf 2048 (7 + 1) rfl s hs r
theorem idx_pt (q : Fin 4) (s : ℕ) (hs : s < 7 + 1) : win0_0.index (pt q s hs) = ![s, 0] ∧ win0_1.index (pt q s hs) = ![q.val, s, 0]
    ∧ win0_2.index (pt q s hs) = ![q.val, 0, 0] := by
  have h := idx (pt q s hs)
  rw [show (pt q s hs).val % 8 = s by show (q.val * 8 + s) % 8 = s; omega,
    show (pt q s hs).val / 8 = q.val by show (q.val * 8 + s) / 8 = q.val; omega] at h
  exact h

/-- The windows' blocks at an index. -/
theorem blk_0 (q : Fin 4) (s : ℕ) (hs : s < 7 + 1) (r : Fin 2048) (a : Fin 1024) :
    iblk m c 0 (pt q s hs) (ix2 r a) = m ((c : Thread nD τ).loc main_arg0) (ix2 (row s hs r) a) :=
  (congrFun (V_main_arg0 m c) _).trans (congrArg _ (at_rows (S := 16384) (N := 1024) (b := 2048) (n := 7 + 1) (r := r) (j := a) rfl hs (idx_pt q s hs).1 rfl rfl))
theorem blk_1 (q : Fin 4) (s : ℕ) (hs : s < 7 + 1) (r : Fin 2048) (k : Fin 704) :
    ycut m c (pt q s hs) (ix2 r k) = m ((c : Thread nD τ).loc main_arg1) (ix2 (row s hs r) (chipOf 704 rfl q k)) :=
  (congrArg (V m c main_v1) (at_chip_rows (S := 16384) (N := 704) (b := 2048) (n := 7 + 1) (r := r) (j := k) rfl hs q (idx_pt q s hs).2.1 rfl rfl rfl)).trans
    (V_y m c q _ k)

/-- The result of the buffers read: the product that sums over the tokens, its columns in four blocks. -/
def res : Fin 4 → Fin 1024 → Fin 704 → EReal := tn4 704 rfl (m ((c : Thread nD τ).loc main_arg0)) (m ((c : Thread nD τ).loc main_arg1))

/-- An entry of the scratch after a point, and a point's part of it. -/
def sc (q : Fin 4) (a : Fin 1024) (k : Fin 704) (s : ℕ) (hs : s < 7 + 1) : EReal := (outsAt0 m c (pt q s hs).val (pt q s hs).isLt).2 (ix2 a k)
def bp (q : Fin 4) (a : Fin 1024) (k : Fin 704) (s : ℕ) (hs : s < 7 + 1) : EReal := tn (iblk m c 0 (pt q s hs)) (ycut m c (pt q s hs)) a k
theorem scratch_eq {n n' : ℕ} (e : n = n') (h : n < cfg0.N) (h' : n' < cfg0.N) (a : Fin 1024) (k : Fin 704) :
    (outsAt0 m c n h).2 (ix2 a k) = (outsAt0 m c n' h').2 (ix2 a k) := by subst e; rfl
/-- The scratch after the last point of a block of columns. -/
theorem scratch_all (q : Fin 4) (a : Fin 1024) (k : Fin 704) : sc m c q a k 7 (by decide) = res m c q a k := by
  show sc m c q a k 7 (by decide) = tn (m ((c : Thread nD τ).loc main_arg0)) (m ((c : Thread nD τ).loc main_arg1)) a (chipOf 704 rfl q k)
  refine acc_tn (S := 16384) (b := 2048) (n := 7) rfl _ _ a (chipOf 704 rfl q k) (sc m c q a k) (bp m c q a k) (fun s hs => ?_) ?_ (fun s hs => ?_)
  · unfold bp tn
    refine Finset.sum_congr rfl fun r _ => ?_
    exact congrArg₂ (fun u v : EReal => u * v) (blk_0 m c q s hs r a) (blk_1 m c q s hs r k)
  · exact scratch_first m c (pt q 0 _) (by show (q.val * 8 + 0) % 8 = 0; omega) a k
  · exact (scratch_next m c (pt q (s + 1) hs) (by show ¬(q.val * 8 + (s + 1)) % 8 = 0; omega) a k).trans
      (congrArg (fun v : EReal => v + bp m c q a k (s + 1) hs) (scratch_eq m c rfl _ (pt q s (Nat.lt_of_succ_lt hs)).isLt a k))

/-- The last point of a block of columns, and the result after the run. -/
def last (q : Fin 4) : Fin cfg0.N := pt q 7 (by decide)
theorem res_at (q : Fin 4) (t : Fin cfg0.N) (ht : t = last q) (a : Fin 1024) (k : Fin 704) :
    (outsAt0 m c t.val t.isLt).1 (ix3 0 a k) = res m c q a k := by
  subst ht
  exact (result_last m c _ (by show (q.val * 8 + 7) % 8 = 7; omega) a k).trans (scratch_all m c q a k)
theorem final : (dats m 0 c).arrAt 2 cfg0.N = arr4 (res m c) := by
  generalize hf : res m c = f
  refine (dats m 0 c).arrAt_eq_of_cover 2 _ (fun t ht => ?_)
    (fun i => ⟨last (i 0), (flush0_2 _).mpr (by show ((i 0 : Fin 4).val * 8 + 7) % 8 = 7; omega), ?_⟩)
  · rw [Cert.WfgIdeal.Value.flushed2]
    obtain ⟨q, rfl⟩ : ∃ q : Fin 4, t = last q := by
      have h7 := (flush0_2 t).mp ht
      have h8 := lt_pt t
      exact ⟨⟨t.val / 8, by omega⟩, Fin.ext (by show t.val = t.val / 8 * 8 + 7; omega)⟩
    refine funext fun (jj : S1x1024x704.Idx) => ?_
    obtain ⟨z, a, k, rfl⟩ := ex3 jj
    obtain rfl : z = 0 := Subsingleton.elim _ _
    refine (res_at m c q _ rfl a k).trans ((congrFun (congrFun (congrFun hf q) a) k).trans ?_)
    exact (congrArg (arr4 f) (at_chip (r := a) (j := k) q (idx_pt q 7 (by decide)).2.2 rfl rfl rfl)).symm
  · refine in_block ?_
    exact front_cover i (idx_pt (i 0) 7 (by decide)).2.2

open Cert.WfgRefIdeal.Read in
/-- The reference's result. -/
theorem ref_prd (x0 : S16384x1024.Idx → EReal) (x1 : S16384x2816.Idx → EReal) (a : Fin 1024) (j : Fin 2816) :
    val_main_v5 (F := Ideal) x0 x1 (ix2 a j) = tn x0 x1 a j := by
  rw [tn_comm]
  unfold val_main_v5 val_main_v4 val_main_v3 val_main_v1
  pointwise
  rfl
open Cert.WfgRefIdeal.Read in
theorem ref_at (x0 : S16384x1024.Idx → EReal) (x1 : S16384x2816.Idx → EReal) : val_main_v7 (F := Ideal) x0 x1 = arr4 (tn4 704 rfl x0 x1) :=
  eq_arr4 fun q a k => (cols_split rfl _ _ _ q a k).trans (ref_prd x0 x1 a _)

/-- Kernel and reference compute the same function of any arguments over the extended reals. -/
theorem algebraic : Cert.algebraic_WfgIdeal_WfgRefIdeal := by
  intro m g m' g' hpre hargs
  refine ⟨fun c => arr4 (res m c),
    (θ_run Cert.WfgIdeal.defs _ _).mono (fun r h c => ⟨(h c).1.trans (final m c), (h c).2⟩) (Cert.WfgIdeal.Value.run_blocks m g),
    (θ_run Cert.WfgRefIdeal.defs _ _).mono (fun r h c => ?_) (Cert.WfgRefIdeal.Value.run m' g')⟩
  obtain ⟨h0, hr⟩ := h c
  obtain ⟨k0, k1⟩ := hargs c
  rw [k0, k1] at h0
  exact ⟨h0.trans (ref_at _ _), hr⟩

theorem frame_ref : Cert.quiescent_WfgRefIdeal := fun m g _ =>
  (θ_run Cert.WfgRefIdeal.defs _ _).mono (fun r h => ⟨fun c => (h c).2, Idealize.ShloMosaic.sem_eq_zero_of_no_sems (by decide) r.2⟩)
    (Cert.WfgRefIdeal.Value.run m g)
theorem frame_kernel : Cert.quiescent_Wfg := fun m g _ => Cert.Wfg.Gen.frame m g
theorem frame_ideal : Cert.quiescent_WfgIdeal := fun m g _ => Cert.WfgIdeal.Gen.frame m g

end Cert.Proof.Wfg
end
-- ==== Proof.AdwClaims.lean ====
/- `adamw_small`: the optimiser's step on the packed small parameters, and the claims of the pair Adw. -/
module

public import proofs.«01_k».proof.Defs
public import proofs.«01_k».proof.Proof.Products
public import proofs.«01_k».proof.Proof.Gen.Adw.Frame
public import proofs.«01_k».proof.Proof.Gen.AdwIdeal.Value
public import proofs.«01_k».proof.Proof.Gen.AdwRefIdeal.Read
public import Idealize.ShloMosaic.Lib.StableHlo.RunRead

@[expose] public section

set_option maxRecDepth 16384

noncomputable section

namespace Cert.Proof.Adw

open Cert.AdwIdeal Cert.AdwIdeal.Gen Idealize.ShloMosaic TcCoe Idealize.SL.Sem
open Cert.Proof.RealValues Cert.Proof.Products

/-- The optimiser's step on one entry: both moments and the change of the weight. -/
def mom (g u : EReal) : EReal := Ideal.ofBits .f32 0x3F666666#32 * u + Ideal.ofBits .f32 0x3DCCCCCD#32 * g
def var (g u : EReal) : EReal := Ideal.ofBits .f32 0x3F7FBE77#32 * u + Ideal.ofBits .f32 0x3A83126F#32 * (g * g)
def delta (g w u v : EReal) : EReal :=
  Ideal.ofBits .f32 0xBA83126F#32 * (Ideal.div (Ideal.div (mom g u) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

/-- The body's values at an index. -/
theorem mom_at (g u : Vec Ideal S64x128 .f32) (r : Fin 64) (j : Fin 128) : k0_pay1 g u (ix2 r j) = mom (g (ix2 r j)) (u (ix2 r j)) := by
  unfold k0_pay1
  pointwise
  rfl
theorem var_at (g v : Vec Ideal S64x128 .f32) (r : Fin 64) (j : Fin 128) : k0_pay2 g v (ix2 r j) = var (g (ix2 r j)) (v (ix2 r j)) := by
  unfold k0_pay2
  pointwise
  rfl
theorem delta_at (g w u v : Vec Ideal S64x128 .f32) (r : Fin 64) (j : Fin 128) :
    k0_pay3 g w u v (ix2 r j) = delta (g (ix2 r j)) (w (ix2 r j)) (u (ix2 r j)) (v (ix2 r j)) := by
  unfold k0_pay3 k0_pay1 k0_pay2
  pointwise
  rfl

/-- What the body leaves in its four result windows. -/
theorem out_g (g w u v : Vec Ideal S64x128 .f32) (r : Fin 64) (j : Fin 128) : out0_4 g w u v (ix2 r j) = g (ix2 r j) := by
  unfold out0_4
  rw [View.canon_unit_zero hz, View.ld_unit_zero (S := S64x128) hz]
theorem out_d (g w u v : Vec Ideal S64x128 .f32) (r : Fin 64) (j : Fin 128) :
    out0_5 g w u v (ix2 r j) = delta (g (ix2 r j)) (w (ix2 r j)) (u (ix2 r j)) (v (ix2 r j)) := by
  unfold out0_5
  rw [View.canon_unit_zero hz]
  simp only [View.ld_unit_zero (S := S64x128) hz]
  exact delta_at g w u v r j
theorem out_u (g w u v : Vec Ideal S64x128 .f32) (r : Fin 64) (j : Fin 128) : out0_6 g w u v (ix2 r j) = mom (g (ix2 r j)) (u (ix2 r j)) := by
  unfold out0_6
  rw [View.canon_unit_zero hz]
  simp only [View.ld_unit_zero (S := S64x128) hz]
  exact mom_at g u r j
theorem out_v (g w u v : Vec Ideal S64x128 .f32) (r : Fin 64) (j : Fin 128) : out0_7 g w u v (ix2 r j) = var (g (ix2 r j)) (v (ix2 r j)) := by
  unfold out0_7
  rw [View.canon_unit_zero hz]
  simp only [View.ld_unit_zero (S := S64x128) hz]
  exact var_at g v r j

section reference
open Cert.AdwRefIdeal.Read
variable (x0 x1 x2 x3 : (⟨2, ![1088, 128]⟩ : Shape).Idx → EReal) (R : Fin 1088) (j : Fin 128)

/-- The results at a row and a column, and the reference's. -/
def gR : EReal := x0 (ix2 R j)
def dR : EReal := delta (x0 (ix2 R j)) (x1 (ix2 R j)) (x2 (ix2 R j)) (x3 (ix2 R j))
def uR : EReal := mom (x0 (ix2 R j)) (x2 (ix2 R j))
def vR : EReal := var (x0 (ix2 R j)) (x3 (ix2 R j))
theorem ref_u : val_main_v4 (F := Ideal) x0 x2 (ix2 R j) = uR x0 x2 R j := by
  unfold val_main_v4 val_main_v3 val_main_v2 val_main_v1 val_main_v0 val_main_cst val_main_cst_0
  pointwise
  rfl
theorem ref_v : val_main_v10 (F := Ideal) x0 x3 (ix2 R j) = vR x0 x3 R j := by
  unfold val_main_v10 val_main_v9 val_main_v8 val_main_v7 val_main_v6 val_main_v5 val_main_cst_1 val_main_cst_2
  pointwise
  rfl
theorem ref_d : val_main_v23 (F := Ideal) x0 x1 x2 x3 (ix2 R j) = dR x0 x1 x2 x3 R j := by
  unfold val_main_v23 val_main_v22 val_main_v21 val_main_v20 val_main_v19 val_main_v18 val_main_v17 val_main_v16 val_main_v15 val_main_v14
    val_main_v13 val_main_v12 val_main_v11 val_main_cst_3 val_main_cst_4 val_main_cst_5 val_main_cst_6 val_main_cst_7
  rw [show val_main_v4 (F := Ideal) x0 x2 = arr (uR x0 x2) from eq_arr (ref_u x0 x2),
    show val_main_v10 (F := Ideal) x0 x3 = arr (vR x0 x3) from eq_arr (ref_v x0 x3)]
  pointwise
  rfl
end reference

variable (m : (ℓ : Loc nD τ sig) → Buf (Elt Ideal) ℓ) (c : Dev nD)

theorem lt_pt (t : Fin cfg0.N) : t.val < 17 := lt_of_lt_of_eq t.isLt N_0

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- The array row of a point's row. -/
abbrev row (t : Fin cfg0.N) (r : Fin 64) : Fin 1088 := rowOf 64 17 rfl t.val (lt_pt t) r
/-- The array index of an entry of a point's block. -/
theorem at_pt (t : Fin cfg0.N) (r : Fin 64) (j : Fin 128) {ix : Fin 2 → ℕ} (hx : ix = ![t.val, 0]) {I : S1088x128.Idx}
    (e0 : (I 0).val = ix 0 * 64 + 1 * r.val) (e1 : (I 1).val = ix 1 * 128 + 1 * j.val) : I = ix2 (row t r) j :=
  at_rows (S := 1088) (N := 128) (b := 64) (n := 17) (r := r) (j := j) rfl (lt_pt t) hx e0 e1

/-- The windows' blocks at an index. -/
theorem blk_0 (t : Fin cfg0.N) (r : Fin 64) (j : Fin 128) :
    iblk m c 0 t (ix2 r j) = m ((c : Thread nD τ).loc main_arg0) (ix2 (row t r) j) :=
  (congrFun (V_main_arg0 m c) _).trans (congrArg _ (at_pt t r j (idx t).1 rfl rfl))
theorem blk_1 (t : Fin cfg0.N) (r : Fin 64) (j : Fin 128) :
    iblk m c 1 t (ix2 r j) = m ((c : Thread nD τ).loc main_arg1) (ix2 (row t r) j) :=
  (congrFun (V_main_arg1 m c) _).trans (congrArg _ (at_pt t r j (idx t).2.1 rfl rfl))
theorem blk_2 (t : Fin cfg0.N) (r : Fin 64) (j : Fin 128) :
    iblk m c 2 t (ix2 r j) = m ((c : Thread nD τ).loc main_arg2) (ix2 (row t r) j) :=
  (congrFun (V_main_arg2 m c) _).trans (congrArg _ (at_pt t r j (idx t).2.2.1 rfl rfl))
theorem blk_3 (t : Fin cfg0.N) (r : Fin 64) (j : Fin 128) :
    iblk m c 3 t (ix2 r j) = m ((c : Thread nD τ).loc main_arg3) (ix2 (row t r) j) :=
  (congrFun (V_main_arg3 m c) _).trans (congrArg _ (at_pt t r j (idx t).2.2.2.1 rfl rfl))

/-- The four results of the buffers read. -/
def gA : Fin 1088 → Fin 128 → EReal := gR (m ((c : Thread nD τ).loc main_arg0))
def dA : Fin 1088 → Fin 128 → EReal :=
  dR (m ((c : Thread nD τ).loc main_arg0)) (m ((c : Thread nD τ).loc main_arg1)) (m ((c : Thread nD τ).loc main_arg2)) (m ((c : Thread nD τ).loc main_arg3))
def uA : Fin 1088 → Fin 128 → EReal := uR (m ((c : Thread nD τ).loc main_arg0)) (m ((c : Thread nD τ).loc main_arg2))
def vA : Fin 1088 → Fin 128 → EReal := vR (m ((c : Thread nD τ).loc main_arg0)) (m ((c : Thread nD τ).loc main_arg3))

/-- Steps on equal entries are equal. -/
theorem delta_congr {g g' w w' u u' v v' : EReal} (h0 : g = g') (h1 : w = w') (h2 : u = u') (h3 : v = v') : delta g w u v = delta g' w' u' v' := by
  rw [h0, h1, h2, h3]

/-- The point whose block holds row `i 0`. -/
def pt (i : S1088x128.Idx) : Fin cfg0.N :=
  ⟨(i 0 : Nat) / 64, by have h0 : (i 0 : Nat) < 1088 := (i 0).isLt; rw [show cfg0.N = 17 from N_0]; omega⟩
/-- The four result arrays after the run. -/
theorem final_g : (dats m 0 c).arrAt 4 cfg0.N = arr (gA m c) := by
  refine (dats m 0 c).arrAt_eq_of_cover 4 _ (fun t _ => ?_) (fun i => ⟨pt i, flush0_4 _, ?_⟩)
  · rw [Cert.AdwIdeal.Value.flushed4]
    refine funext fun (jj : S64x128.Idx) => ?_
    obtain ⟨r, j, rfl⟩ := ex2 jj
    refine Eq.trans ?_ (arr_at (gA m c) (at_pt t r j (idx t).2.2.2.2.1 rfl rfl))
    exact (out_g (iblk m c 0 t) (iblk m c 1 t) (iblk m c 2 t) (iblk m c 3 t) r j).trans
      (blk_0 m c t r j)
  · refine in_block ?_
    exact rows_cover i (by norm_num) (idx (pt i)).2.2.2.2.1
theorem final_d : (dats m 0 c).arrAt 5 cfg0.N = arr (dA m c) := by
  refine (dats m 0 c).arrAt_eq_of_cover 5 _ (fun t _ => ?_) (fun i => ⟨pt i, flush0_5 _, ?_⟩)
  · rw [Cert.AdwIdeal.Value.flushed5]
    refine funext fun (jj : S64x128.Idx) => ?_
    obtain ⟨r, j, rfl⟩ := ex2 jj
    refine Eq.trans ?_ (arr_at (dA m c) (at_pt t r j (idx t).2.2.2.2.2.1 rfl rfl))
    exact (out_d (iblk m c 0 t) (iblk m c 1 t) (iblk m c 2 t) (iblk m c 3 t) r j).trans
      (delta_congr (blk_0 m c t r j) (blk_1 m c t r j) (blk_2 m c t r j) (blk_3 m c t r j))
  · refine in_block ?_
    exact rows_cover i (by norm_num) (idx (pt i)).2.2.2.2.2.1
theorem final_u : (dats m 0 c).arrAt 6 cfg0.N = arr (uA m c) := by
  refine (dats m 0 c).arrAt_eq_of_cover 6 _ (fun t _ => ?_) (fun i => ⟨pt i, flush0_6 _, ?_⟩)
  · rw [Cert.AdwIdeal.Value.flushed6]
    refine funext fun (jj : S64x128.Idx) => ?_
    obtain ⟨r, j, rfl⟩ := ex2 jj
    refine Eq.trans ?_ (arr_at (uA m c) (at_pt t r j (idx t).2.2.2.2.2.2.1 rfl rfl))
    exact (out_u (iblk m c 0 t) (iblk m c 1 t) (iblk m c 2 t) (iblk m c 3 t) r j).trans
      (congrArg₂ mom (blk_0 m c t r j) (blk_2 m c t r j))
  · refine in_block ?_
    exact rows_cover i (by norm_num) (idx (pt i)).2.2.2.2.2.2.1
theorem final_v : (dats m 0 c).arrAt 7 cfg0.N = arr (vA m c) := by
  refine (dats m 0 c).arrAt_eq_of_cover 7 _ (fun t _ => ?_) (fun i => ⟨pt i, flush0_7 _, ?_⟩)
  · rw [Cert.AdwIdeal.Value.flushed7]
    refine funext fun (jj : S64x128.Idx) => ?_
    obtain ⟨r, j, rfl⟩ := ex2 jj
    refine Eq.trans ?_ (arr_at (vA m c) (at_pt t r j (idx t).2.2.2.2.2.2.2 rfl rfl))
    exact (out_v (iblk m c 0 t) (iblk m c 1 t) (iblk m c 2 t) (iblk m c 3 t) r j).trans
      (congrArg₂ var (blk_0 m c t r j) (blk_3 m c t r j))
  · refine in_block ?_
    exact rows_cover i (by norm_num) (idx (pt i)).2.2.2.2.2.2.2

/-- Kernel and reference compute the same four functions of any arguments over the extended reals. -/
theorem algebraic : Cert.algebraic_AdwIdeal_AdwRefIdeal := by
  intro m g m' g' hpre hargs
  refine ⟨fun c => arr (gA m c), fun c => arr (dA m c), fun c => arr (uA m c), fun c => arr (vA m c),
    (θ_run Cert.AdwIdeal.defs _ _).mono (fun r h c => ⟨(h c).1.trans (final_g m c), (h c).2.1.trans (final_d m c),
      (h c).2.2.1.trans (final_u m c), (h c).2.2.2.1.trans (final_v m c), (h c).2.2.2.2⟩) (Cert.AdwIdeal.Value.run_blocks m g),
    (θ_run Cert.AdwRefIdeal.defs _ _).mono (fun r h c => ?_) (Cert.AdwRefIdeal.Value.run m' g')⟩
  obtain ⟨h0, h1, h2, h3, hr⟩ := h c
  obtain ⟨k0, k1, k2, k3⟩ := hargs c
  rw [k0] at h0
  rw [Cert.AdwRefIdeal.Read.val_main_v23_eq, k0, k1, k2, k3] at h1
  rw [k0, k2] at h2
  rw [k0, k3] at h3
  exact ⟨h0.trans (eq_arr fun _ _ => rfl), h1.trans (eq_arr (ref_d _ _ _ _)), h2.trans (eq_arr (ref_u _ _)), h3.trans (eq_arr (ref_v _ _)), hr⟩

theorem frame_ref : Cert.quiescent_AdwRefIdeal := fun m g _ =>
  (θ_run Cert.AdwRefIdeal.defs _ _).mono (fun r h => ⟨fun c => (h c).2.2.2.2, Idealize.ShloMosaic.sem_eq_zero_of_no_sems (by decide) r.2⟩)
    (Cert.AdwRefIdeal.Value.run m g)
theorem frame_kernel : Cert.quiescent_Adw := fun m g _ => Cert.Adw.Gen.frame m g
theorem frame_ideal : Cert.quiescent_AdwIdeal := fun m g _ => Cert.AdwIdeal.Gen.frame m g

end Cert.Proof.Adw
end
-- ==== Proof.lean ====
/- The claims of the certificate, put together from one module for each pair of programs. -/
module

public import proofs.«01_k».proof.Defs
public import proofs.«01_k».proof.Proof.GluClaims
public import proofs.«01_k».proof.Proof.FfdClaims
public import proofs.«01_k».proof.Proof.OpbClaims
public import proofs.«01_k».proof.Proof.FfiClaims
public import proofs.«01_k».proof.Proof.IpbClaims
public import proofs.«01_k».proof.Proof.PleClaims
public import proofs.«01_k».proof.Proof.DzClaims
public import proofs.«01_k».proof.Proof.SpbClaims
public import proofs.«01_k».proof.Proof.AttFrames
public import proofs.«01_k».proof.Proof.Att1Claims
public import proofs.«01_k».proof.Proof.Att4Claims
public import proofs.«01_k».proof.Proof.Att16Claims
public import proofs.«01_k».proof.Proof.Gen.Att1RefIdeal.Read
public import proofs.«01_k».proof.Proof.Gen.Att4RefIdeal.Read
public import proofs.«01_k».proof.Proof.Gen.Att16RefIdeal.Read
public import proofs.«01_k».proof.Proof.Gen.GluIdeal.Value
public import proofs.«01_k».proof.Proof.Gen.GluRefIdeal.Run
public import proofs.«01_k».proof.Proof.Gen.GluRefIdeal.Read
public import proofs.«01_k».proof.Proof.Gen.FfdIdeal.Value
public import proofs.«01_k».proof.Proof.Gen.FfdRefIdeal.Run
public import proofs.«01_k».proof.Proof.Gen.FfdRefIdeal.Read
public import proofs.«01_k».proof.Proof.Gen.OpbIdeal.Value
public import proofs.«01_k».proof.Proof.Gen.OpbRefIdeal.Run
public import proofs.«01_k».proof.Proof.Gen.OpbRefIdeal.Read
public import proofs.«01_k».proof.Proof.Gen.FfiIdeal.Value
public import proofs.«01_k».proof.Proof.Gen.FfiRefIdeal.Run
public import proofs.«01_k».proof.Proof.Gen.FfiRefIdeal.Read
public import proofs.«01_k».proof.Proof.Gen.IpbIdeal.Value
public import proofs.«01_k».proof.Proof.Gen.IpbRefIdeal.Run
public import proofs.«01_k».proof.Proof.Gen.IpbRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.Gen.DzRefIdeal.Run
public import proofs.«01_k».proof.Proof.Gen.DzRefIdeal.Read
public import proofs.«01_k».proof.Proof.Gen.SpbRefIdeal.Run
public import proofs.«01_k».proof.Proof.Gen.SpbRefIdeal.Read
public import proofs.«01_k».proof.Proof.Gen.Prj.Frame
public import proofs.«01_k».proof.Proof.Gen.PrjIdeal.Value
public import proofs.«01_k».proof.Proof.Gen.PrjRefIdeal.Run
public import proofs.«01_k».proof.Proof.Gen.PrjRefIdeal.Read
public import proofs.«01_k».proof.Proof.Gen.Plp.Frame
public import proofs.«01_k».proof.Proof.Gen.PlpIdeal.Value
public import proofs.«01_k».proof.Proof.Gen.PlpRefIdeal.Run
public import proofs.«01_k».proof.Proof.Gen.PlpRefIdeal.Read
public import proofs.«01_k».proof.Proof.Gen.Ssp.Frame
public import proofs.«01_k».proof.Proof.Gen.SspIdeal.Value
public import proofs.«01_k».proof.Proof.Gen.SspRefIdeal.Run
public import proofs.«01_k».proof.Proof.Gen.SspRefIdeal.Read
public import proofs.«01_k».proof.Proof.Gen.Ofw.Frame
public import proofs.«01_k».proof.Proof.Gen.OfwIdeal.Value
public import proofs.«01_k».proof.Proof.Gen.OfwRefIdeal.Run
public import proofs.«01_k».proof.Proof.Gen.OfwRefIdeal.Read
public import proofs.«01_k».proof.Proof.Gen.Fgu.Frame
public import proofs.«01_k».proof.Proof.Gen.FguIdeal.Value
public import proofs.«01_k».proof.Proof.Gen.FguRefIdeal.Run
public import proofs.«01_k».proof.Proof.Gen.FguRefIdeal.Read
public import proofs.«01_k».proof.Proof.Gen.Fdn.Frame
public import proofs.«01_k».proof.Proof.Gen.FdnIdeal.Value
public import proofs.«01_k».proof.Proof.Gen.FdnRefIdeal.Run
public import proofs.«01_k».proof.Proof.Gen.FdnRefIdeal.Read
public import proofs.«01_k».proof.Proof.Gen.Pgb.Frame
public import proofs.«01_k».proof.Proof.Gen.PgbIdeal.Value
public import proofs.«01_k».proof.Proof.Gen.PgbRefIdeal.Run
public import proofs.«01_k».proof.Proof.Gen.PgbRefIdeal.Read
public import proofs.«01_k».proof.Proof.Gen.Apb.Frame
public import proofs.«01_k».proof.Proof.Gen.ApbIdeal.Value
public import proofs.«01_k».proof.Proof.Gen.ApbRefIdeal.Run
public import proofs.«01_k».proof.Proof.Gen.ApbRefIdeal.Read
public import proofs.«01_k».proof.Proof.Gen.Wpg.Frame
public import proofs.«01_k».proof.Proof.Gen.WpgIdeal.Value
public import proofs.«01_k».proof.Proof.Gen.WpgRefIdeal.Run
public import proofs.«01_k».proof.Proof.Gen.WpgRefIdeal.Read
public import proofs.«01_k».proof.Proof.Gen.Wap.Frame
public import proofs.«01_k».proof.Proof.Gen.WapIdeal.Value
public import proofs.«01_k».proof.Proof.Gen.WapRefIdeal.Run
public import proofs.«01_k».proof.Proof.Gen.WapRefIdeal.Read
public import proofs.«01_k».proof.Proof.Gen.Wfg.Frame
public import proofs.«01_k».proof.Proof.Gen.WfgIdeal.Value
public import proofs.«01_k».proof.Proof.Gen.WfgRefIdeal.Run
public import proofs.«01_k».proof.Proof.Gen.WfgRefIdeal.Read
public import proofs.«01_k».proof.Proof.Gen.Adw.Frame
public import proofs.«01_k».proof.Proof.Gen.AdwIdeal.Value
public import proofs.«01_k».proof.Proof.Gen.AdwRefIdeal.Run
public import proofs.«01_k».proof.Proof.Gen.AdwRefIdeal.Read
public import proofs.«01_k».proof.Proof.PrjClaims
public import proofs.«01_k».proof.Proof.PlpClaims
public import proofs.«01_k».proof.Proof.SspClaims
public import proofs.«01_k».proof.Proof.OfwClaims
public import proofs.«01_k».proof.Proof.FguClaims
public import proofs.«01_k».proof.Proof.FdnClaims
public import proofs.«01_k».proof.Proof.PgbClaims
public import proofs.«01_k».proof.Proof.ApbClaims
public import proofs.«01_k».proof.Proof.WpgClaims
public import proofs.«01_k».proof.Proof.WapClaims
public import proofs.«01_k».proof.Proof.WfgClaims
public import proofs.«01_k».proof.Proof.AdwClaims

@[expose] public section

noncomputable section

namespace Cert.Proof

/-- Everything that is claimed. -/
theorem claim : Cert.Claim :=
  ⟨Cert.Glu.Gen.facts, Cert.GluIdeal.Gen.facts, Cert.GluRefIdeal.Gen.facts, Cert.Ffd.Gen.facts, Cert.FfdIdeal.Gen.facts,
    Cert.FfdRefIdeal.Gen.facts, Cert.Opb.Gen.facts, Cert.OpbIdeal.Gen.facts, Cert.OpbRefIdeal.Gen.facts, Cert.Ffi.Gen.facts,
    Cert.FfiIdeal.Gen.facts, Cert.FfiRefIdeal.Gen.facts, Cert.Ipb.Gen.facts, Cert.IpbIdeal.Gen.facts, Cert.IpbRefIdeal.Gen.facts,
    Cert.Ple.Gen.facts, Cert.PleIdeal.Gen.facts, Cert.PleRefIdeal.Gen.facts, Cert.Dz.Gen.facts, Cert.DzIdeal.Gen.facts,
    Cert.DzRefIdeal.Gen.facts, Cert.Spb.Gen.facts, Cert.SpbIdeal.Gen.facts, Cert.SpbRefIdeal.Gen.facts,
    Cert.Att1.Gen.facts, Cert.Att1Ideal.Gen.facts, Cert.Att1RefIdeal.Gen.facts,
    Cert.Att4.Gen.facts, Cert.Att4Ideal.Gen.facts, Cert.Att4RefIdeal.Gen.facts,
    Cert.Att16.Gen.facts, Cert.Att16Ideal.Gen.facts, Cert.Att16RefIdeal.Gen.facts,
    Cert.Prj.Gen.facts, Cert.PrjIdeal.Gen.facts, Cert.PrjRefIdeal.Gen.facts, Cert.Plp.Gen.facts, Cert.PlpIdeal.Gen.facts, Cert.PlpRefIdeal.Gen.facts,
    Cert.Ssp.Gen.facts, Cert.SspIdeal.Gen.facts, Cert.SspRefIdeal.Gen.facts, Cert.Ofw.Gen.facts, Cert.OfwIdeal.Gen.facts, Cert.OfwRefIdeal.Gen.facts,
    Cert.Fgu.Gen.facts, Cert.FguIdeal.Gen.facts, Cert.FguRefIdeal.Gen.facts, Cert.Fdn.Gen.facts, Cert.FdnIdeal.Gen.facts, Cert.FdnRefIdeal.Gen.facts,
    Cert.Pgb.Gen.facts, Cert.PgbIdeal.Gen.facts, Cert.PgbRefIdeal.Gen.facts, Cert.Apb.Gen.facts, Cert.ApbIdeal.Gen.facts, Cert.ApbRefIdeal.Gen.facts,
    Cert.Wpg.Gen.facts, Cert.WpgIdeal.Gen.facts, Cert.WpgRefIdeal.Gen.facts,
    Cert.Wap.Gen.facts, Cert.WapIdeal.Gen.facts, Cert.WapRefIdeal.Gen.facts,
    Cert.Wfg.Gen.facts, Cert.WfgIdeal.Gen.facts, Cert.WfgRefIdeal.Gen.facts,
    Cert.Adw.Gen.facts, Cert.AdwIdeal.Gen.facts, Cert.AdwRefIdeal.Gen.facts,
    Cert.Pre_glu_pre.Gen.facts,
    Cert.Pre_ffd_pre.Gen.facts, Cert.Pre_ffi_pre.Gen.facts, Cert.Pre_ipb_pre.Gen.facts, Cert.Pre_ple_pre.Gen.facts, Cert.Pre_att_pre.Gen.facts,
    Glu.frame_kernel, Glu.frame_ideal, fun m g _ => Glu.frame_ideal m g trivial, Glu.frame_ref, fun m g _ => Glu.frame_ref m g trivial,
    Ffd.frame_kernel, Ffd.frame_ideal, fun m g _ => Ffd.frame_ideal m g trivial, Ffd.frame_ref, fun m g _ => Ffd.frame_ref m g trivial,
    Opb.frame_kernel, Opb.frame_ideal, Opb.frame_ref,
    Ffi.frame_kernel, Ffi.frame_ideal, fun m g _ => Ffi.frame_ideal m g trivial, Ffi.frame_ref, fun m g _ => Ffi.frame_ref m g trivial,
    Ipb.frame_kernel, Ipb.frame_ideal, fun m g _ => Ipb.frame_ideal m g trivial, Ipb.frame_ref, fun m g _ => Ipb.frame_ref m g trivial,
    Ple.frame_kernel, Ple.frame_ideal, fun m g _ => Ple.frame_ideal m g trivial, Ple.frame_ref, fun m g _ => Ple.frame_ref m g trivial,
    Dz.frame_kernel, Dz.frame_ideal, Dz.frame_ref,
    Spb.frame_kernel, Spb.frame_ideal, Spb.frame_ref,
    Att1.frame_kernel, Att1.frame_ideal, fun m g _ => Att1.frame_ideal m g trivial, Att1.frame_ref, fun m g _ => Att1.frame_ref m g trivial,
    Att4.frame_kernel, Att4.frame_ideal, fun m g _ => Att4.frame_ideal m g trivial, Att4.frame_ref, fun m g _ => Att4.frame_ref m g trivial,
    Att16.frame_kernel, Att16.frame_ideal, fun m g _ => Att16.frame_ideal m g trivial, Att16.frame_ref, fun m g _ => Att16.frame_ref m g trivial,
    Prj.frame_kernel, Prj.frame_ideal, Prj.frame_ref,
    Plp.frame_kernel, Plp.frame_ideal, Plp.frame_ref,
    Ssp.frame_kernel, Ssp.frame_ideal, Ssp.frame_ref,
    Ofw.frame_kernel, Ofw.frame_ideal, Ofw.frame_ref,
    Fgu.frame_kernel, Fgu.frame_ideal, Fgu.frame_ref,
    Fdn.frame_kernel, Fdn.frame_ideal, Fdn.frame_ref,
    Pgb.frame_kernel, Pgb.frame_ideal, Pgb.frame_ref,
    Apb.frame_kernel, Apb.frame_ideal, Apb.frame_ref,
    Wpg.frame_kernel, Wpg.frame_ideal, Wpg.frame_ref,
    Wap.frame_kernel, Wap.frame_ideal, Wap.frame_ref,
    Wfg.frame_kernel, Wfg.frame_ideal, Wfg.frame_ref,
    Adw.frame_kernel, Adw.frame_ideal, Adw.frame_ref,
    Glu.preserves, Glu.algebraic,
    trivial, Ffd.algebraic,
    trivial, Opb.algebraic,
    trivial, Ffi.algebraic,
    trivial, Ipb.algebraic,
    trivial, Ple.algebraic,
    trivial, Dz.algebraic,
    trivial, Spb.algebraic,
    Att1.preserves, Att1.algebraic,
    Att4.preserves, Att4.algebraic,
    Att16.preserves, Att16.algebraic,
    trivial, Prj.algebraic,
    trivial, Plp.algebraic,
    trivial, Ssp.algebraic,
    trivial, Ofw.algebraic,
    trivial, Fgu.algebraic,
    trivial, Fdn.algebraic,
    trivial, Pgb.algebraic,
    trivial, Apb.algebraic,
    trivial, Wpg.algebraic,
    trivial, Wap.algebraic,
    trivial, Wfg.algebraic,
    trivial, Adw.algebraic⟩

end Cert.Proof

end
